-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11)
      ∧ r.2.mem ((c.tc : Thread Cert.Kernel10.nD Cert.Kernel10.τ).loc Cert.Kernel10.main_arg12) = m ((c.tc : Thread Cert.Kernel10.nD Cert.Kernel10.τ).loc Cert.Kernel10.main_arg12)
      ∧ r.2.mem ((c.tc : Thread Cert.Kernel10.nD Cert.Kernel10.τ).loc Cert.Kernel10.main_arg13) = m ((c.tc : Thread Cert.Kernel10.nD Cert.Kernel10.τ).loc Cert.Kernel10.main_arg13)
      ∧ r.2.mem ((c.tc : Thread Cert.Kernel10.nD Cert.Kernel10.τ).loc Cert.Kernel10.main_arg14) = m ((c.tc : Thread Cert.Kernel10.nD Cert.Kernel10.τ).loc Cert.Kernel10.main_arg14)
      ∧ r.2.mem ((c.tc : Thread Cert.Kernel10.nD Cert.Kernel10.τ).loc Cert.Kernel10.main_arg15) = m ((c.tc : Thread Cert.Kernel10.nD Cert.Kernel10.τ).loc Cert.Kernel10.main_arg15)
      ∧ r.2.mem ((c.tc : Thread Cert.Kernel10.nD Cert.Kernel10.τ).loc Cert.Kernel10.main_arg16) = m ((c.tc : Thread Cert.Kernel10.nD Cert.Kernel10.τ).loc Cert.Kernel10.main_arg16)
      ∧ r.2.mem ((c.tc : Thread Cert.Kernel10.nD Cert.Kernel10.τ).loc Cert.Kernel10.main_arg17) = m ((c.tc : Thread Cert.Kernel10.nD Cert.Kernel10.τ).loc Cert.Kernel10.main_arg17)
      ∧ r.2.mem ((c.tc : Thread Cert.Kernel10.nD Cert.Kernel10.τ).loc Cert.Kernel10.main_arg18) = m ((c.tc : Thread Cert.Kernel10.nD Cert.Kernel10.τ).loc Cert.Kernel10.main_arg18)
      ∧ r.2.mem ((c.tc : Thread Cert.Kernel10.nD Cert.Kernel10.τ).loc Cert.Kernel10.main_arg19) = m ((c.tc : Thread Cert.Kernel10.nD Cert.Kernel10.τ).loc Cert.Kernel10.main_arg19)
      ∧ r.2.mem ((c.tc : Thread Cert.Kernel10.nD Cert.Kernel10.τ).loc Cert.Kernel10.main_arg20) = m ((c.tc : Thread Cert.Kernel10.nD Cert.Kernel10.τ).loc Cert.Kernel10.main_arg20)
      ∧ r.2.mem ((c.tc : Thread Cert.Kernel10.nD Cert.Kernel10.τ).loc Cert.Kernel10.main_arg21) = m ((c.tc : Thread Cert.Kernel10.nD Cert.Kernel10.τ).loc Cert.Kernel10.main_arg21)
      ∧ r.2.mem ((c.tc : Thread Cert.Kernel10.nD Cert.Kernel10.τ).loc Cert.Kernel10.main_arg22) = m ((c.tc : Thread Cert.Kernel10.nD Cert.Kernel10.τ).loc Cert.Kernel10.main_arg22)
      ∧ r.2.mem ((c.tc : Thread Cert.Kernel10.nD Cert.Kernel10.τ).loc Cert.Kernel10.main_arg23) = m ((c.tc : Thread Cert.Kernel10.nD Cert.Kernel10.τ).loc Cert.Kernel10.main_arg23)
      ∧ r.2.mem ((c.tc : Thread Cert.Kernel10.nD Cert.Kernel10.τ).loc Cert.Kernel10.main_arg24) = m ((c.tc : Thread Cert.Kernel10.nD Cert.Kernel10.τ).loc Cert.Kernel10.main_arg24)
      ∧ r.2.mem ((c.tc : Thread Cert.Kernel10.nD Cert.Kernel10.τ).loc Cert.Kernel10.main_arg25) = m ((c.tc : Thread Cert.Kernel10.nD Cert.Kernel10.τ).loc Cert.Kernel10.main_arg25)
      ∧ r.2.mem ((c.tc : Thread Cert.Kernel10.nD Cert.Kernel10.τ).loc Cert.Kernel10.main_arg26) = m ((c.tc : Thread Cert.Kernel10.nD Cert.Kernel10.τ).loc Cert.Kernel10.main_arg26)
      ∧ r.2.mem ((c.tc : Thread Cert.Kernel10.nD Cert.Kernel10.τ).loc Cert.Kernel10.main_arg27) = m ((c.tc : Thread Cert.Kernel10.nD Cert.Kernel10.τ).loc Cert.Kernel10.main_arg27)
      ∧ r.2.mem ((c.tc : Thread Cert.Kernel10.nD Cert.Kernel10.τ).loc Cert.Kernel10.main_arg28) = m ((c.tc : Thread Cert.Kernel10.nD Cert.Kernel10.τ).loc Cert.Kernel10.main_arg28)
      ∧ r.2.mem ((c.tc : Thread Cert.Kernel10.nD Cert.Kernel10.τ).loc Cert.Kernel10.main_arg29) = m ((c.tc : Thread Cert.Kernel10.nD Cert.Kernel10.τ).loc Cert.Kernel10.main_arg29)
      ∧ r.2.mem ((c.tc : Thread Cert.Kernel10.nD Cert.Kernel10.τ).loc Cert.Kernel10.main_arg30) = m ((c.tc : Thread Cert.Kernel10.nD Cert.Kernel10.τ).loc Cert.Kernel10.main_arg30)
      ∧ r.2.mem ((c.tc : Thread Cert.Kernel10.nD Cert.Kernel10.τ).loc Cert.Kernel10.main_arg31) = m ((c.tc : Thread Cert.Kernel10.nD Cert.Kernel10.τ).loc Cert.Kernel10.main_arg31))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
      ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
      ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
      ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
      ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15)
      ∧ r.2.mem ((c.tc : Thread Cert.Kernel10Ideal.nD Cert.Kernel10Ideal.τ).loc Cert.Kernel10Ideal.main_arg16) = m ((c.tc : Thread Cert.Kernel10Ideal.nD Cert.Kernel10Ideal.τ).loc Cert.Kernel10Ideal.main_arg16)
      ∧ r.2.mem ((c.tc : Thread Cert.Kernel10Ideal.nD Cert.Kernel10Ideal.τ).loc Cert.Kernel10Ideal.main_arg17) = m ((c.tc : Thread Cert.Kernel10Ideal.nD Cert.Kernel10Ideal.τ).loc Cert.Kernel10Ideal.main_arg17)
      ∧ r.2.mem ((c.tc : Thread Cert.Kernel10Ideal.nD Cert.Kernel10Ideal.τ).loc Cert.Kernel10Ideal.main_arg18) = m ((c.tc : Thread Cert.Kernel10Ideal.nD Cert.Kernel10Ideal.τ).loc Cert.Kernel10Ideal.main_arg18)
      ∧ r.2.mem ((c.tc : Thread Cert.Kernel10Ideal.nD Cert.Kernel10Ideal.τ).loc Cert.Kernel10Ideal.main_arg19) = m ((c.tc : Thread Cert.Kernel10Ideal.nD Cert.Kernel10Ideal.τ).loc Cert.Kernel10Ideal.main_arg19)
      ∧ r.2.mem ((c.tc : Thread Cert.Kernel10Ideal.nD Cert.Kernel10Ideal.τ).loc Cert.Kernel10Ideal.main_arg20) = m ((c.tc : Thread Cert.Kernel10Ideal.nD Cert.Kernel10Ideal.τ).loc Cert.Kernel10Ideal.main_arg20)
      ∧ r.2.mem ((c.tc : Thread Cert.Kernel10Ideal.nD Cert.Kernel10Ideal.τ).loc Cert.Kernel10Ideal.main_arg21) = m ((c.tc : Thread Cert.Kernel10Ideal.nD Cert.Kernel10Ideal.τ).loc Cert.Kernel10Ideal.main_arg21)
      ∧ r.2.mem ((c.tc : Thread Cert.Kernel10Ideal.nD Cert.Kernel10Ideal.τ).loc Cert.Kernel10Ideal.main_arg22) = m ((c.tc : Thread Cert.Kernel10Ideal.nD Cert.Kernel10Ideal.τ).loc Cert.Kernel10Ideal.main_arg22)
      ∧ r.2.mem ((c.tc : Thread Cert.Kernel10Ideal.nD Cert.Kernel10Ideal.τ).loc Cert.Kernel10Ideal.main_arg23) = m ((c.tc : Thread Cert.Kernel10Ideal.nD Cert.Kernel10Ideal.τ).loc Cert.Kernel10Ideal.main_arg23)
      ∧ r.2.mem ((c.tc : Thread Cert.Kernel10Ideal.nD Cert.Kernel10Ideal.τ).loc Cert.Kernel10Ideal.main_arg24) = m ((c.tc : Thread Cert.Kernel10Ideal.nD Cert.Kernel10Ideal.τ).loc Cert.Kernel10Ideal.main_arg24)
      ∧ r.2.mem ((c.tc : Thread Cert.Kernel10Ideal.nD Cert.Kernel10Ideal.τ).loc Cert.Kernel10Ideal.main_arg25) = m ((c.tc : Thread Cert.Kernel10Ideal.nD Cert.Kernel10Ideal.τ).loc Cert.Kernel10Ideal.main_arg25)
      ∧ r.2.mem ((c.tc : Thread Cert.Kernel10Ideal.nD Cert.Kernel10Ideal.τ).loc Cert.Kernel10Ideal.main_arg26) = m ((c.tc : Thread Cert.Kernel10Ideal.nD Cert.Kernel10Ideal.τ).loc Cert.Kernel10Ideal.main_arg26)
      ∧ r.2.mem ((c.tc : Thread Cert.Kernel10Ideal.nD Cert.Kernel10Ideal.τ).loc Cert.Kernel10Ideal.main_arg27) = m ((c.tc : Thread Cert.Kernel10Ideal.nD Cert.Kernel10Ideal.τ).loc Cert.Kernel10Ideal.main_arg27)
      ∧ r.2.mem ((c.tc : Thread Cert.Kernel10Ideal.nD Cert.Kernel10Ideal.τ).loc Cert.Kernel10Ideal.main_arg28) = m ((c.tc : Thread Cert.Kernel10Ideal.nD Cert.Kernel10Ideal.τ).loc Cert.Kernel10Ideal.main_arg28)
      ∧ r.2.mem ((c.tc : Thread Cert.Kernel10Ideal.nD Cert.Kernel10Ideal.τ).loc Cert.Kernel10Ideal.main_arg29) = m ((c.tc : Thread Cert.Kernel10Ideal.nD Cert.Kernel10Ideal.τ).loc Cert.Kernel10Ideal.main_arg29)
      ∧ r.2.mem ((c.tc : Thread Cert.Kernel10Ideal.nD Cert.Kernel10Ideal.τ).loc Cert.Kernel10Ideal.main_arg30) = m ((c.tc : Thread Cert.Kernel10Ideal.nD Cert.Kernel10Ideal.τ).loc Cert.Kernel10Ideal.main_arg30)
      ∧ r.2.mem ((c.tc : Thread Cert.Kernel10Ideal.nD Cert.Kernel10Ideal.τ).loc Cert.Kernel10Ideal.main_arg31) = m ((c.tc : Thread Cert.Kernel10Ideal.nD Cert.Kernel10Ideal.τ).loc Cert.Kernel10Ideal.main_arg31))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11)
      ∧ r.2.mem ((c.tc : Thread Cert.Reference10Ideal.nD Cert.Reference10Ideal.τ).loc Cert.Reference10Ideal.main_arg12) = m ((c.tc : Thread Cert.Reference10Ideal.nD Cert.Reference10Ideal.τ).loc Cert.Reference10Ideal.main_arg12)
      ∧ r.2.mem ((c.tc : Thread Cert.Reference10Ideal.nD Cert.Reference10Ideal.τ).loc Cert.Reference10Ideal.main_arg13) = m ((c.tc : Thread Cert.Reference10Ideal.nD Cert.Reference10Ideal.τ).loc Cert.Reference10Ideal.main_arg13)
      ∧ r.2.mem ((c.tc : Thread Cert.Reference10Ideal.nD Cert.Reference10Ideal.τ).loc Cert.Reference10Ideal.main_arg14) = m ((c.tc : Thread Cert.Reference10Ideal.nD Cert.Reference10Ideal.τ).loc Cert.Reference10Ideal.main_arg14)
      ∧ r.2.mem ((c.tc : Thread Cert.Reference10Ideal.nD Cert.Reference10Ideal.τ).loc Cert.Reference10Ideal.main_arg15) = m ((c.tc : Thread Cert.Reference10Ideal.nD Cert.Reference10Ideal.τ).loc Cert.Reference10Ideal.main_arg15)
      ∧ r.2.mem ((c.tc : Thread Cert.Reference10Ideal.nD Cert.Reference10Ideal.τ).loc Cert.Reference10Ideal.main_arg16) = m ((c.tc : Thread Cert.Reference10Ideal.nD Cert.Reference10Ideal.τ).loc Cert.Reference10Ideal.main_arg16)
      ∧ r.2.mem ((c.tc : Thread Cert.Reference10Ideal.nD Cert.Reference10Ideal.τ).loc Cert.Reference10Ideal.main_arg17) = m ((c.tc : Thread Cert.Reference10Ideal.nD Cert.Reference10Ideal.τ).loc Cert.Reference10Ideal.main_arg17)
      ∧ r.2.mem ((c.tc : Thread Cert.Reference10Ideal.nD Cert.Reference10Ideal.τ).loc Cert.Reference10Ideal.main_arg18) = m ((c.tc : Thread Cert.Reference10Ideal.nD Cert.Reference10Ideal.τ).loc Cert.Reference10Ideal.main_arg18)
      ∧ r.2.mem ((c.tc : Thread Cert.Reference10Ideal.nD Cert.Reference10Ideal.τ).loc Cert.Reference10Ideal.main_arg19) = m ((c.tc : Thread Cert.Reference10Ideal.nD Cert.Reference10Ideal.τ).loc Cert.Reference10Ideal.main_arg19)
      ∧ r.2.mem ((c.tc : Thread Cert.Reference10Ideal.nD Cert.Reference10Ideal.τ).loc Cert.Reference10Ideal.main_arg20) = m ((c.tc : Thread Cert.Reference10Ideal.nD Cert.Reference10Ideal.τ).loc Cert.Reference10Ideal.main_arg20)
      ∧ r.2.mem ((c.tc : Thread Cert.Reference10Ideal.nD Cert.Reference10Ideal.τ).loc Cert.Reference10Ideal.main_arg21) = m ((c.tc : Thread Cert.Reference10Ideal.nD Cert.Reference10Ideal.τ).loc Cert.Reference10Ideal.main_arg21)
      ∧ r.2.mem ((c.tc : Thread Cert.Reference10Ideal.nD Cert.Reference10Ideal.τ).loc Cert.Reference10Ideal.main_arg22) = m ((c.tc : Thread Cert.Reference10Ideal.nD Cert.Reference10Ideal.τ).loc Cert.Reference10Ideal.main_arg22)
      ∧ r.2.mem ((c.tc : Thread Cert.Reference10Ideal.nD Cert.Reference10Ideal.τ).loc Cert.Reference10Ideal.main_arg23) = m ((c.tc : Thread Cert.Reference10Ideal.nD Cert.Reference10Ideal.τ).loc Cert.Reference10Ideal.main_arg23)
      ∧ r.2.mem ((c.tc : Thread Cert.Reference10Ideal.nD Cert.Reference10Ideal.τ).loc Cert.Reference10Ideal.main_arg24) = m ((c.tc : Thread Cert.Reference10Ideal.nD Cert.Reference10Ideal.τ).loc Cert.Reference10Ideal.main_arg24)
      ∧ r.2.mem ((c.tc : Thread Cert.Reference10Ideal.nD Cert.Reference10Ideal.τ).loc Cert.Reference10Ideal.main_arg25) = m ((c.tc : Thread Cert.Reference10Ideal.nD Cert.Reference10Ideal.τ).loc Cert.Reference10Ideal.main_arg25)
      ∧ r.2.mem ((c.tc : Thread Cert.Reference10Ideal.nD Cert.Reference10Ideal.τ).loc Cert.Reference10Ideal.main_arg26) = m ((c.tc : Thread Cert.Reference10Ideal.nD Cert.Reference10Ideal.τ).loc Cert.Reference10Ideal.main_arg26)
      ∧ r.2.mem ((c.tc : Thread Cert.Reference10Ideal.nD Cert.Reference10Ideal.τ).loc Cert.Reference10Ideal.main_arg27) = m ((c.tc : Thread Cert.Reference10Ideal.nD Cert.Reference10Ideal.τ).loc Cert.Reference10Ideal.main_arg27)
      ∧ r.2.mem ((c.tc : Thread Cert.Reference10Ideal.nD Cert.Reference10Ideal.τ).loc Cert.Reference10Ideal.main_arg28) = m ((c.tc : Thread Cert.Reference10Ideal.nD Cert.Reference10Ideal.τ).loc Cert.Reference10Ideal.main_arg28)
      ∧ r.2.mem ((c.tc : Thread Cert.Reference10Ideal.nD Cert.Reference10Ideal.τ).loc Cert.Reference10Ideal.main_arg29) = m ((c.tc : Thread Cert.Reference10Ideal.nD Cert.Reference10Ideal.τ).loc Cert.Reference10Ideal.main_arg29)
      ∧ r.2.mem ((c.tc : Thread Cert.Reference10Ideal.nD Cert.Reference10Ideal.τ).loc Cert.Reference10Ideal.main_arg30) = m ((c.tc : Thread Cert.Reference10Ideal.nD Cert.Reference10Ideal.τ).loc Cert.Reference10Ideal.main_arg30)
      ∧ r.2.mem ((c.tc : Thread Cert.Reference10Ideal.nD Cert.Reference10Ideal.τ).loc Cert.Reference10Ideal.main_arg31) = m ((c.tc : Thread Cert.Reference10Ideal.nD Cert.Reference10Ideal.τ).loc Cert.Reference10Ideal.main_arg31))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v29_0)) (v1 : (c : Dev Cert.Kernel2Ideal.nD) → Buf (Elt Ideal) ((c.tc : Thread Cert.Kernel2Ideal.nD Cert.Kernel2Ideal.τ).loc Cert.Kernel2Ideal.main_v29_1)) (v2 : (c : Dev Cert.Kernel2Ideal.nD) → Buf (Elt Ideal) ((c.tc : Thread Cert.Kernel2Ideal.nD Cert.Kernel2Ideal.τ).loc Cert.Kernel2Ideal.main_v29_2)) (v3 : (c : Dev Cert.Kernel2Ideal.nD) → Buf (Elt Ideal) ((c.tc : Thread Cert.Kernel2Ideal.nD Cert.Kernel2Ideal.τ).loc Cert.Kernel2Ideal.main_v29_3)) (v4 : (c : Dev Cert.Kernel2Ideal.nD) → Buf (Elt Ideal) ((c.tc : Thread Cert.Kernel2Ideal.nD Cert.Kernel2Ideal.τ).loc Cert.Kernel2Ideal.main_v29_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29_0) = v0 c
          ∧ r.2.mem ((c.tc : Thread Cert.Kernel2Ideal.nD Cert.Kernel2Ideal.τ).loc Cert.Kernel2Ideal.main_v29_1) = v1 c
          ∧ r.2.mem ((c.tc : Thread Cert.Kernel2Ideal.nD Cert.Kernel2Ideal.τ).loc Cert.Kernel2Ideal.main_v29_2) = v2 c
          ∧ r.2.mem ((c.tc : Thread Cert.Kernel2Ideal.nD Cert.Kernel2Ideal.τ).loc Cert.Kernel2Ideal.main_v29_3) = v3 c
          ∧ r.2.mem ((c.tc : Thread Cert.Kernel2Ideal.nD Cert.Kernel2Ideal.τ).loc Cert.Kernel2Ideal.main_v29_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_v81) = v1 c
          ∧ r.2.mem ((c.tc : Thread Cert.Reference2Ideal.nD Cert.Reference2Ideal.τ).loc Cert.Reference2Ideal.main_v84) = v2 c
          ∧ r.2.mem ((c.tc : Thread Cert.Reference2Ideal.nD Cert.Reference2Ideal.τ).loc Cert.Reference2Ideal.main_v87) = v3 c
          ∧ r.2.mem ((c.tc : Thread Cert.Reference2Ideal.nD Cert.Reference2Ideal.τ).loc Cert.Reference2Ideal.main_v88) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)) (v3 : (c : Dev Cert.Kernel5Ideal.nD) → Buf (Elt Ideal) ((c.tc : Thread Cert.Kernel5Ideal.nD Cert.Kernel5Ideal.τ).loc Cert.Kernel5Ideal.main_v8_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_v8_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_v39) = v2 c
          ∧ r.2.mem ((c.tc : Thread Cert.Reference5Ideal.nD Cert.Reference5Ideal.τ).loc Cert.Reference5Ideal.main_v40) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)) (v2 : (c : Dev Cert.Kernel6Ideal.nD) → Buf (Elt Ideal) ((c.tc : Thread Cert.Kernel6Ideal.nD Cert.Kernel6Ideal.τ).loc Cert.Kernel6Ideal.main_v8_2)) (v3 : (c : Dev Cert.Kernel6Ideal.nD) → Buf (Elt Ideal) ((c.tc : Thread Cert.Kernel6Ideal.nD Cert.Kernel6Ideal.τ).loc Cert.Kernel6Ideal.main_v8_3)) (v4 : (c : Dev Cert.Kernel6Ideal.nD) → Buf (Elt Ideal) ((c.tc : Thread Cert.Kernel6Ideal.nD Cert.Kernel6Ideal.τ).loc Cert.Kernel6Ideal.main_v8_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_v8_2) = v2 c
          ∧ r.2.mem ((c.tc : Thread Cert.Kernel6Ideal.nD Cert.Kernel6Ideal.τ).loc Cert.Kernel6Ideal.main_v8_3) = v3 c
          ∧ r.2.mem ((c.tc : Thread Cert.Kernel6Ideal.nD Cert.Kernel6Ideal.τ).loc Cert.Kernel6Ideal.main_v8_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v47) = v0 c
          ∧ r.2.mem ((c.tc : Thread Cert.Reference6Ideal.nD Cert.Reference6Ideal.τ).loc Cert.Reference6Ideal.main_v46) = v1 c
          ∧ r.2.mem ((c.tc : Thread Cert.Reference6Ideal.nD Cert.Reference6Ideal.τ).loc Cert.Reference6Ideal.main_v51) = v2 c
          ∧ r.2.mem ((c.tc : Thread Cert.Reference6Ideal.nD Cert.Reference6Ideal.τ).loc Cert.Reference6Ideal.main_v55) = v3 c
          ∧ r.2.mem ((c.tc : Thread Cert.Reference6Ideal.nD Cert.Reference6Ideal.τ).loc Cert.Reference6Ideal.main_v56) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v23_0)) (v1 : (c : Dev Cert.Kernel7Ideal.nD) → Buf (Elt Ideal) ((c.tc : Thread Cert.Kernel7Ideal.nD Cert.Kernel7Ideal.τ).loc Cert.Kernel7Ideal.main_v23_1)) (v2 : (c : Dev Cert.Kernel7Ideal.nD) → Buf (Elt Ideal) ((c.tc : Thread Cert.Kernel7Ideal.nD Cert.Kernel7Ideal.τ).loc Cert.Kernel7Ideal.main_v23_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v23_0) = v0 c
          ∧ r.2.mem ((c.tc : Thread Cert.Kernel7Ideal.nD Cert.Kernel7Ideal.τ).loc Cert.Kernel7Ideal.main_v23_1) = v1 c
          ∧ r.2.mem ((c.tc : Thread Cert.Kernel7Ideal.nD Cert.Kernel7Ideal.τ).loc Cert.Kernel7Ideal.main_v23_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v48) = v0 c
          ∧ r.2.mem ((c.tc : Thread Cert.Reference7Ideal.nD Cert.Reference7Ideal.τ).loc Cert.Reference7Ideal.main_v49) = v1 c
          ∧ r.2.mem ((c.tc : Thread Cert.Reference7Ideal.nD Cert.Reference7Ideal.τ).loc Cert.Reference7Ideal.main_v51) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v14)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)
      ∧ m' ((c.tc : Thread Cert.Reference10Ideal.nD Cert.Reference10Ideal.τ).loc Cert.Reference10Ideal.main_arg12) = m ((c.tc : Thread Cert.Kernel10Ideal.nD Cert.Kernel10Ideal.τ).loc Cert.Kernel10Ideal.main_arg12)
      ∧ m' ((c.tc : Thread Cert.Reference10Ideal.nD Cert.Reference10Ideal.τ).loc Cert.Reference10Ideal.main_arg13) = m ((c.tc : Thread Cert.Kernel10Ideal.nD Cert.Kernel10Ideal.τ).loc Cert.Kernel10Ideal.main_arg13)
      ∧ m' ((c.tc : Thread Cert.Reference10Ideal.nD Cert.Reference10Ideal.τ).loc Cert.Reference10Ideal.main_arg14) = m ((c.tc : Thread Cert.Kernel10Ideal.nD Cert.Kernel10Ideal.τ).loc Cert.Kernel10Ideal.main_arg14)
      ∧ m' ((c.tc : Thread Cert.Reference10Ideal.nD Cert.Reference10Ideal.τ).loc Cert.Reference10Ideal.main_arg15) = m ((c.tc : Thread Cert.Kernel10Ideal.nD Cert.Kernel10Ideal.τ).loc Cert.Kernel10Ideal.main_arg15)
      ∧ m' ((c.tc : Thread Cert.Reference10Ideal.nD Cert.Reference10Ideal.τ).loc Cert.Reference10Ideal.main_arg16) = m ((c.tc : Thread Cert.Kernel10Ideal.nD Cert.Kernel10Ideal.τ).loc Cert.Kernel10Ideal.main_arg16)
      ∧ m' ((c.tc : Thread Cert.Reference10Ideal.nD Cert.Reference10Ideal.τ).loc Cert.Reference10Ideal.main_arg17) = m ((c.tc : Thread Cert.Kernel10Ideal.nD Cert.Kernel10Ideal.τ).loc Cert.Kernel10Ideal.main_arg17)
      ∧ m' ((c.tc : Thread Cert.Reference10Ideal.nD Cert.Reference10Ideal.τ).loc Cert.Reference10Ideal.main_arg18) = m ((c.tc : Thread Cert.Kernel10Ideal.nD Cert.Kernel10Ideal.τ).loc Cert.Kernel10Ideal.main_arg18)
      ∧ m' ((c.tc : Thread Cert.Reference10Ideal.nD Cert.Reference10Ideal.τ).loc Cert.Reference10Ideal.main_arg19) = m ((c.tc : Thread Cert.Kernel10Ideal.nD Cert.Kernel10Ideal.τ).loc Cert.Kernel10Ideal.main_arg19)
      ∧ m' ((c.tc : Thread Cert.Reference10Ideal.nD Cert.Reference10Ideal.τ).loc Cert.Reference10Ideal.main_arg20) = m ((c.tc : Thread Cert.Kernel10Ideal.nD Cert.Kernel10Ideal.τ).loc Cert.Kernel10Ideal.main_arg20)
      ∧ m' ((c.tc : Thread Cert.Reference10Ideal.nD Cert.Reference10Ideal.τ).loc Cert.Reference10Ideal.main_arg21) = m ((c.tc : Thread Cert.Kernel10Ideal.nD Cert.Kernel10Ideal.τ).loc Cert.Kernel10Ideal.main_arg21)
      ∧ m' ((c.tc : Thread Cert.Reference10Ideal.nD Cert.Reference10Ideal.τ).loc Cert.Reference10Ideal.main_arg22) = m ((c.tc : Thread Cert.Kernel10Ideal.nD Cert.Kernel10Ideal.τ).loc Cert.Kernel10Ideal.main_arg22)
      ∧ m' ((c.tc : Thread Cert.Reference10Ideal.nD Cert.Reference10Ideal.τ).loc Cert.Reference10Ideal.main_arg23) = m ((c.tc : Thread Cert.Kernel10Ideal.nD Cert.Kernel10Ideal.τ).loc Cert.Kernel10Ideal.main_arg23)
      ∧ m' ((c.tc : Thread Cert.Reference10Ideal.nD Cert.Reference10Ideal.τ).loc Cert.Reference10Ideal.main_arg24) = m ((c.tc : Thread Cert.Kernel10Ideal.nD Cert.Kernel10Ideal.τ).loc Cert.Kernel10Ideal.main_arg24)
      ∧ m' ((c.tc : Thread Cert.Reference10Ideal.nD Cert.Reference10Ideal.τ).loc Cert.Reference10Ideal.main_arg25) = m ((c.tc : Thread Cert.Kernel10Ideal.nD Cert.Kernel10Ideal.τ).loc Cert.Kernel10Ideal.main_arg25)
      ∧ m' ((c.tc : Thread Cert.Reference10Ideal.nD Cert.Reference10Ideal.τ).loc Cert.Reference10Ideal.main_arg26) = m ((c.tc : Thread Cert.Kernel10Ideal.nD Cert.Kernel10Ideal.τ).loc Cert.Kernel10Ideal.main_arg26)
      ∧ m' ((c.tc : Thread Cert.Reference10Ideal.nD Cert.Reference10Ideal.τ).loc Cert.Reference10Ideal.main_arg27) = m ((c.tc : Thread Cert.Kernel10Ideal.nD Cert.Kernel10Ideal.τ).loc Cert.Kernel10Ideal.main_arg27)
      ∧ m' ((c.tc : Thread Cert.Reference10Ideal.nD Cert.Reference10Ideal.τ).loc Cert.Reference10Ideal.main_arg28) = m ((c.tc : Thread Cert.Kernel10Ideal.nD Cert.Kernel10Ideal.τ).loc Cert.Kernel10Ideal.main_arg28)
      ∧ m' ((c.tc : Thread Cert.Reference10Ideal.nD Cert.Reference10Ideal.τ).loc Cert.Reference10Ideal.main_arg29) = m ((c.tc : Thread Cert.Kernel10Ideal.nD Cert.Kernel10Ideal.τ).loc Cert.Kernel10Ideal.main_arg29)
      ∧ m' ((c.tc : Thread Cert.Reference10Ideal.nD Cert.Reference10Ideal.τ).loc Cert.Reference10Ideal.main_arg30) = m ((c.tc : Thread Cert.Kernel10Ideal.nD Cert.Kernel10Ideal.τ).loc Cert.Kernel10Ideal.main_arg30)
      ∧ m' ((c.tc : Thread Cert.Reference10Ideal.nD Cert.Reference10Ideal.τ).loc Cert.Reference10Ideal.main_arg31) = m ((c.tc : Thread Cert.Kernel10Ideal.nD Cert.Kernel10Ideal.τ).loc Cert.Kernel10Ideal.main_arg31)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)) (v5 : (c : Dev Cert.Kernel10Ideal.nD) → Buf (Elt Ideal) ((c.tc : Thread Cert.Kernel10Ideal.nD Cert.Kernel10Ideal.τ).loc Cert.Kernel10Ideal.main_v0_5)) (v6 : (c : Dev Cert.Kernel10Ideal.nD) → Buf (Elt Ideal) ((c.tc : Thread Cert.Kernel10Ideal.nD Cert.Kernel10Ideal.τ).loc Cert.Kernel10Ideal.main_v0_6)) (v7 : (c : Dev Cert.Kernel10Ideal.nD) → Buf (Elt Ideal) ((c.tc : Thread Cert.Kernel10Ideal.nD Cert.Kernel10Ideal.τ).loc Cert.Kernel10Ideal.main_v0_7)) (v8 : (c : Dev Cert.Kernel10Ideal.nD) → Buf (Elt Ideal) ((c.tc : Thread Cert.Kernel10Ideal.nD Cert.Kernel10Ideal.τ).loc Cert.Kernel10Ideal.main_v0_8)) (v9 : (c : Dev Cert.Kernel10Ideal.nD) → Buf (Elt Ideal) ((c.tc : Thread Cert.Kernel10Ideal.nD Cert.Kernel10Ideal.τ).loc Cert.Kernel10Ideal.main_v0_9)) (v10 : (c : Dev Cert.Kernel10Ideal.nD) → Buf (Elt Ideal) ((c.tc : Thread Cert.Kernel10Ideal.nD Cert.Kernel10Ideal.τ).loc Cert.Kernel10Ideal.main_v0_10)) (v11 : (c : Dev Cert.Kernel10Ideal.nD) → Buf (Elt Ideal) ((c.tc : Thread Cert.Kernel10Ideal.nD Cert.Kernel10Ideal.τ).loc Cert.Kernel10Ideal.main_v0_11)) (v12 : (c : Dev Cert.Kernel10Ideal.nD) → Buf (Elt Ideal) ((c.tc : Thread Cert.Kernel10Ideal.nD Cert.Kernel10Ideal.τ).loc Cert.Kernel10Ideal.main_v0_12)) (v13 : (c : Dev Cert.Kernel10Ideal.nD) → Buf (Elt Ideal) ((c.tc : Thread Cert.Kernel10Ideal.nD Cert.Kernel10Ideal.τ).loc Cert.Kernel10Ideal.main_v0_13)) (v14 : (c : Dev Cert.Kernel10Ideal.nD) → Buf (Elt Ideal) ((c.tc : Thread Cert.Kernel10Ideal.nD Cert.Kernel10Ideal.τ).loc Cert.Kernel10Ideal.main_v0_14)) (v15 : (c : Dev Cert.Kernel10Ideal.nD) → Buf (Elt Ideal) ((c.tc : Thread Cert.Kernel10Ideal.nD Cert.Kernel10Ideal.τ).loc Cert.Kernel10Ideal.main_v0_15)) (v16 : (c : Dev Cert.Kernel10Ideal.nD) → Buf (Elt Ideal) ((c.tc : Thread Cert.Kernel10Ideal.nD Cert.Kernel10Ideal.τ).loc Cert.Kernel10Ideal.main_v0_16)) (v17 : (c : Dev Cert.Kernel10Ideal.nD) → Buf (Elt Ideal) ((c.tc : Thread Cert.Kernel10Ideal.nD Cert.Kernel10Ideal.τ).loc Cert.Kernel10Ideal.main_v0_17)) (v18 : (c : Dev Cert.Kernel10Ideal.nD) → Buf (Elt Ideal) ((c.tc : Thread Cert.Kernel10Ideal.nD Cert.Kernel10Ideal.τ).loc Cert.Kernel10Ideal.main_v0_18)) (v19 : (c : Dev Cert.Kernel10Ideal.nD) → Buf (Elt Ideal) ((c.tc : Thread Cert.Kernel10Ideal.nD Cert.Kernel10Ideal.τ).loc Cert.Kernel10Ideal.main_v0_19)) (v20 : (c : Dev Cert.Kernel10Ideal.nD) → Buf (Elt Ideal) ((c.tc : Thread Cert.Kernel10Ideal.nD Cert.Kernel10Ideal.τ).loc Cert.Kernel10Ideal.main_v0_20)) (v21 : (c : Dev Cert.Kernel10Ideal.nD) → Buf (Elt Ideal) ((c.tc : Thread Cert.Kernel10Ideal.nD Cert.Kernel10Ideal.τ).loc Cert.Kernel10Ideal.main_v0_21)) (v22 : (c : Dev Cert.Kernel10Ideal.nD) → Buf (Elt Ideal) ((c.tc : Thread Cert.Kernel10Ideal.nD Cert.Kernel10Ideal.τ).loc Cert.Kernel10Ideal.main_v0_22)) (v23 : (c : Dev Cert.Kernel10Ideal.nD) → Buf (Elt Ideal) ((c.tc : Thread Cert.Kernel10Ideal.nD Cert.Kernel10Ideal.τ).loc Cert.Kernel10Ideal.main_v0_23)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_v0_5) = v5 c
          ∧ r.2.mem ((c.tc : Thread Cert.Kernel10Ideal.nD Cert.Kernel10Ideal.τ).loc Cert.Kernel10Ideal.main_v0_6) = v6 c
          ∧ r.2.mem ((c.tc : Thread Cert.Kernel10Ideal.nD Cert.Kernel10Ideal.τ).loc Cert.Kernel10Ideal.main_v0_7) = v7 c
          ∧ r.2.mem ((c.tc : Thread Cert.Kernel10Ideal.nD Cert.Kernel10Ideal.τ).loc Cert.Kernel10Ideal.main_v0_8) = v8 c
          ∧ r.2.mem ((c.tc : Thread Cert.Kernel10Ideal.nD Cert.Kernel10Ideal.τ).loc Cert.Kernel10Ideal.main_v0_9) = v9 c
          ∧ r.2.mem ((c.tc : Thread Cert.Kernel10Ideal.nD Cert.Kernel10Ideal.τ).loc Cert.Kernel10Ideal.main_v0_10) = v10 c
          ∧ r.2.mem ((c.tc : Thread Cert.Kernel10Ideal.nD Cert.Kernel10Ideal.τ).loc Cert.Kernel10Ideal.main_v0_11) = v11 c
          ∧ r.2.mem ((c.tc : Thread Cert.Kernel10Ideal.nD Cert.Kernel10Ideal.τ).loc Cert.Kernel10Ideal.main_v0_12) = v12 c
          ∧ r.2.mem ((c.tc : Thread Cert.Kernel10Ideal.nD Cert.Kernel10Ideal.τ).loc Cert.Kernel10Ideal.main_v0_13) = v13 c
          ∧ r.2.mem ((c.tc : Thread Cert.Kernel10Ideal.nD Cert.Kernel10Ideal.τ).loc Cert.Kernel10Ideal.main_v0_14) = v14 c
          ∧ r.2.mem ((c.tc : Thread Cert.Kernel10Ideal.nD Cert.Kernel10Ideal.τ).loc Cert.Kernel10Ideal.main_v0_15) = v15 c
          ∧ r.2.mem ((c.tc : Thread Cert.Kernel10Ideal.nD Cert.Kernel10Ideal.τ).loc Cert.Kernel10Ideal.main_v0_16) = v16 c
          ∧ r.2.mem ((c.tc : Thread Cert.Kernel10Ideal.nD Cert.Kernel10Ideal.τ).loc Cert.Kernel10Ideal.main_v0_17) = v17 c
          ∧ r.2.mem ((c.tc : Thread Cert.Kernel10Ideal.nD Cert.Kernel10Ideal.τ).loc Cert.Kernel10Ideal.main_v0_18) = v18 c
          ∧ r.2.mem ((c.tc : Thread Cert.Kernel10Ideal.nD Cert.Kernel10Ideal.τ).loc Cert.Kernel10Ideal.main_v0_19) = v19 c
          ∧ r.2.mem ((c.tc : Thread Cert.Kernel10Ideal.nD Cert.Kernel10Ideal.τ).loc Cert.Kernel10Ideal.main_v0_20) = v20 c
          ∧ r.2.mem ((c.tc : Thread Cert.Kernel10Ideal.nD Cert.Kernel10Ideal.τ).loc Cert.Kernel10Ideal.main_v0_21) = v21 c
          ∧ r.2.mem ((c.tc : Thread Cert.Kernel10Ideal.nD Cert.Kernel10Ideal.τ).loc Cert.Kernel10Ideal.main_v0_22) = v22 c
          ∧ r.2.mem ((c.tc : Thread Cert.Kernel10Ideal.nD Cert.Kernel10Ideal.τ).loc Cert.Kernel10Ideal.main_v0_23) = v23 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
          ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
          ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
          ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
          ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15)
          ∧ r.2.mem ((c.tc : Thread Cert.Kernel10Ideal.nD Cert.Kernel10Ideal.τ).loc Cert.Kernel10Ideal.main_arg16) = m ((c.tc : Thread Cert.Kernel10Ideal.nD Cert.Kernel10Ideal.τ).loc Cert.Kernel10Ideal.main_arg16)
          ∧ r.2.mem ((c.tc : Thread Cert.Kernel10Ideal.nD Cert.Kernel10Ideal.τ).loc Cert.Kernel10Ideal.main_arg17) = m ((c.tc : Thread Cert.Kernel10Ideal.nD Cert.Kernel10Ideal.τ).loc Cert.Kernel10Ideal.main_arg17)
          ∧ r.2.mem ((c.tc : Thread Cert.Kernel10Ideal.nD Cert.Kernel10Ideal.τ).loc Cert.Kernel10Ideal.main_arg18) = m ((c.tc : Thread Cert.Kernel10Ideal.nD Cert.Kernel10Ideal.τ).loc Cert.Kernel10Ideal.main_arg18)
          ∧ r.2.mem ((c.tc : Thread Cert.Kernel10Ideal.nD Cert.Kernel10Ideal.τ).loc Cert.Kernel10Ideal.main_arg19) = m ((c.tc : Thread Cert.Kernel10Ideal.nD Cert.Kernel10Ideal.τ).loc Cert.Kernel10Ideal.main_arg19)
          ∧ r.2.mem ((c.tc : Thread Cert.Kernel10Ideal.nD Cert.Kernel10Ideal.τ).loc Cert.Kernel10Ideal.main_arg20) = m ((c.tc : Thread Cert.Kernel10Ideal.nD Cert.Kernel10Ideal.τ).loc Cert.Kernel10Ideal.main_arg20)
          ∧ r.2.mem ((c.tc : Thread Cert.Kernel10Ideal.nD Cert.Kernel10Ideal.τ).loc Cert.Kernel10Ideal.main_arg21) = m ((c.tc : Thread Cert.Kernel10Ideal.nD Cert.Kernel10Ideal.τ).loc Cert.Kernel10Ideal.main_arg21)
          ∧ r.2.mem ((c.tc : Thread Cert.Kernel10Ideal.nD Cert.Kernel10Ideal.τ).loc Cert.Kernel10Ideal.main_arg22) = m ((c.tc : Thread Cert.Kernel10Ideal.nD Cert.Kernel10Ideal.τ).loc Cert.Kernel10Ideal.main_arg22)
          ∧ r.2.mem ((c.tc : Thread Cert.Kernel10Ideal.nD Cert.Kernel10Ideal.τ).loc Cert.Kernel10Ideal.main_arg23) = m ((c.tc : Thread Cert.Kernel10Ideal.nD Cert.Kernel10Ideal.τ).loc Cert.Kernel10Ideal.main_arg23)
          ∧ r.2.mem ((c.tc : Thread Cert.Kernel10Ideal.nD Cert.Kernel10Ideal.τ).loc Cert.Kernel10Ideal.main_arg24) = m ((c.tc : Thread Cert.Kernel10Ideal.nD Cert.Kernel10Ideal.τ).loc Cert.Kernel10Ideal.main_arg24)
          ∧ r.2.mem ((c.tc : Thread Cert.Kernel10Ideal.nD Cert.Kernel10Ideal.τ).loc Cert.Kernel10Ideal.main_arg25) = m ((c.tc : Thread Cert.Kernel10Ideal.nD Cert.Kernel10Ideal.τ).loc Cert.Kernel10Ideal.main_arg25)
          ∧ r.2.mem ((c.tc : Thread Cert.Kernel10Ideal.nD Cert.Kernel10Ideal.τ).loc Cert.Kernel10Ideal.main_arg26) = m ((c.tc : Thread Cert.Kernel10Ideal.nD Cert.Kernel10Ideal.τ).loc Cert.Kernel10Ideal.main_arg26)
          ∧ r.2.mem ((c.tc : Thread Cert.Kernel10Ideal.nD Cert.Kernel10Ideal.τ).loc Cert.Kernel10Ideal.main_arg27) = m ((c.tc : Thread Cert.Kernel10Ideal.nD Cert.Kernel10Ideal.τ).loc Cert.Kernel10Ideal.main_arg27)
          ∧ r.2.mem ((c.tc : Thread Cert.Kernel10Ideal.nD Cert.Kernel10Ideal.τ).loc Cert.Kernel10Ideal.main_arg28) = m ((c.tc : Thread Cert.Kernel10Ideal.nD Cert.Kernel10Ideal.τ).loc Cert.Kernel10Ideal.main_arg28)
          ∧ r.2.mem ((c.tc : Thread Cert.Kernel10Ideal.nD Cert.Kernel10Ideal.τ).loc Cert.Kernel10Ideal.main_arg29) = m ((c.tc : Thread Cert.Kernel10Ideal.nD Cert.Kernel10Ideal.τ).loc Cert.Kernel10Ideal.main_arg29)
          ∧ r.2.mem ((c.tc : Thread Cert.Kernel10Ideal.nD Cert.Kernel10Ideal.τ).loc Cert.Kernel10Ideal.main_arg30) = m ((c.tc : Thread Cert.Kernel10Ideal.nD Cert.Kernel10Ideal.τ).loc Cert.Kernel10Ideal.main_arg30)
          ∧ r.2.mem ((c.tc : Thread Cert.Kernel10Ideal.nD Cert.Kernel10Ideal.τ).loc Cert.Kernel10Ideal.main_arg31) = m ((c.tc : Thread Cert.Kernel10Ideal.nD Cert.Kernel10Ideal.τ).loc Cert.Kernel10Ideal.main_arg31))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v47) = v1 c
          ∧ r.2.mem ((c.tc : Thread Cert.Reference10Ideal.nD Cert.Reference10Ideal.τ).loc Cert.Reference10Ideal.main_v71) = v2 c
          ∧ r.2.mem ((c.tc : Thread Cert.Reference10Ideal.nD Cert.Reference10Ideal.τ).loc Cert.Reference10Ideal.main_v95) = v3 c
          ∧ r.2.mem ((c.tc : Thread Cert.Reference10Ideal.nD Cert.Reference10Ideal.τ).loc Cert.Reference10Ideal.main_v119) = v4 c
          ∧ r.2.mem ((c.tc : Thread Cert.Reference10Ideal.nD Cert.Reference10Ideal.τ).loc Cert.Reference10Ideal.main_v143) = v5 c
          ∧ r.2.mem ((c.tc : Thread Cert.Reference10Ideal.nD Cert.Reference10Ideal.τ).loc Cert.Reference10Ideal.main_v167) = v6 c
          ∧ r.2.mem ((c.tc : Thread Cert.Reference10Ideal.nD Cert.Reference10Ideal.τ).loc Cert.Reference10Ideal.main_v191) = v7 c
          ∧ r.2.mem ((c.tc : Thread Cert.Reference10Ideal.nD Cert.Reference10Ideal.τ).loc Cert.Reference10Ideal.main_v4) = v8 c
          ∧ r.2.mem ((c.tc : Thread Cert.Reference10Ideal.nD Cert.Reference10Ideal.τ).loc Cert.Reference10Ideal.main_v28) = v9 c
          ∧ r.2.mem ((c.tc : Thread Cert.Reference10Ideal.nD Cert.Reference10Ideal.τ).loc Cert.Reference10Ideal.main_v52) = v10 c
          ∧ r.2.mem ((c.tc : Thread Cert.Reference10Ideal.nD Cert.Reference10Ideal.τ).loc Cert.Reference10Ideal.main_v76) = v11 c
          ∧ r.2.mem ((c.tc : Thread Cert.Reference10Ideal.nD Cert.Reference10Ideal.τ).loc Cert.Reference10Ideal.main_v100) = v12 c
          ∧ r.2.mem ((c.tc : Thread Cert.Reference10Ideal.nD Cert.Reference10Ideal.τ).loc Cert.Reference10Ideal.main_v124) = v13 c
          ∧ r.2.mem ((c.tc : Thread Cert.Reference10Ideal.nD Cert.Reference10Ideal.τ).loc Cert.Reference10Ideal.main_v148) = v14 c
          ∧ r.2.mem ((c.tc : Thread Cert.Reference10Ideal.nD Cert.Reference10Ideal.τ).loc Cert.Reference10Ideal.main_v172) = v15 c
          ∧ r.2.mem ((c.tc : Thread Cert.Reference10Ideal.nD Cert.Reference10Ideal.τ).loc Cert.Reference10Ideal.main_v10) = v16 c
          ∧ r.2.mem ((c.tc : Thread Cert.Reference10Ideal.nD Cert.Reference10Ideal.τ).loc Cert.Reference10Ideal.main_v34) = v17 c
          ∧ r.2.mem ((c.tc : Thread Cert.Reference10Ideal.nD Cert.Reference10Ideal.τ).loc Cert.Reference10Ideal.main_v58) = v18 c
          ∧ r.2.mem ((c.tc : Thread Cert.Reference10Ideal.nD Cert.Reference10Ideal.τ).loc Cert.Reference10Ideal.main_v82) = v19 c
          ∧ r.2.mem ((c.tc : Thread Cert.Reference10Ideal.nD Cert.Reference10Ideal.τ).loc Cert.Reference10Ideal.main_v106) = v20 c
          ∧ r.2.mem ((c.tc : Thread Cert.Reference10Ideal.nD Cert.Reference10Ideal.τ).loc Cert.Reference10Ideal.main_v130) = v21 c
          ∧ r.2.mem ((c.tc : Thread Cert.Reference10Ideal.nD Cert.Reference10Ideal.τ).loc Cert.Reference10Ideal.main_v154) = v22 c
          ∧ r.2.mem ((c.tc : Thread Cert.Reference10Ideal.nD Cert.Reference10Ideal.τ).loc Cert.Reference10Ideal.main_v178) = v23 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11)
          ∧ r.2.mem ((c.tc : Thread Cert.Reference10Ideal.nD Cert.Reference10Ideal.τ).loc Cert.Reference10Ideal.main_arg12) = m' ((c.tc : Thread Cert.Reference10Ideal.nD Cert.Reference10Ideal.τ).loc Cert.Reference10Ideal.main_arg12)
          ∧ r.2.mem ((c.tc : Thread Cert.Reference10Ideal.nD Cert.Reference10Ideal.τ).loc Cert.Reference10Ideal.main_arg13) = m' ((c.tc : Thread Cert.Reference10Ideal.nD Cert.Reference10Ideal.τ).loc Cert.Reference10Ideal.main_arg13)
          ∧ r.2.mem ((c.tc : Thread Cert.Reference10Ideal.nD Cert.Reference10Ideal.τ).loc Cert.Reference10Ideal.main_arg14) = m' ((c.tc : Thread Cert.Reference10Ideal.nD Cert.Reference10Ideal.τ).loc Cert.Reference10Ideal.main_arg14)
          ∧ r.2.mem ((c.tc : Thread Cert.Reference10Ideal.nD Cert.Reference10Ideal.τ).loc Cert.Reference10Ideal.main_arg15) = m' ((c.tc : Thread Cert.Reference10Ideal.nD Cert.Reference10Ideal.τ).loc Cert.Reference10Ideal.main_arg15)
          ∧ r.2.mem ((c.tc : Thread Cert.Reference10Ideal.nD Cert.Reference10Ideal.τ).loc Cert.Reference10Ideal.main_arg16) = m' ((c.tc : Thread Cert.Reference10Ideal.nD Cert.Reference10Ideal.τ).loc Cert.Reference10Ideal.main_arg16)
          ∧ r.2.mem ((c.tc : Thread Cert.Reference10Ideal.nD Cert.Reference10Ideal.τ).loc Cert.Reference10Ideal.main_arg17) = m' ((c.tc : Thread Cert.Reference10Ideal.nD Cert.Reference10Ideal.τ).loc Cert.Reference10Ideal.main_arg17)
          ∧ r.2.mem ((c.tc : Thread Cert.Reference10Ideal.nD Cert.Reference10Ideal.τ).loc Cert.Reference10Ideal.main_arg18) = m' ((c.tc : Thread Cert.Reference10Ideal.nD Cert.Reference10Ideal.τ).loc Cert.Reference10Ideal.main_arg18)
          ∧ r.2.mem ((c.tc : Thread Cert.Reference10Ideal.nD Cert.Reference10Ideal.τ).loc Cert.Reference10Ideal.main_arg19) = m' ((c.tc : Thread Cert.Reference10Ideal.nD Cert.Reference10Ideal.τ).loc Cert.Reference10Ideal.main_arg19)
          ∧ r.2.mem ((c.tc : Thread Cert.Reference10Ideal.nD Cert.Reference10Ideal.τ).loc Cert.Reference10Ideal.main_arg20) = m' ((c.tc : Thread Cert.Reference10Ideal.nD Cert.Reference10Ideal.τ).loc Cert.Reference10Ideal.main_arg20)
          ∧ r.2.mem ((c.tc : Thread Cert.Reference10Ideal.nD Cert.Reference10Ideal.τ).loc Cert.Reference10Ideal.main_arg21) = m' ((c.tc : Thread Cert.Reference10Ideal.nD Cert.Reference10Ideal.τ).loc Cert.Reference10Ideal.main_arg21)
          ∧ r.2.mem ((c.tc : Thread Cert.Reference10Ideal.nD Cert.Reference10Ideal.τ).loc Cert.Reference10Ideal.main_arg22) = m' ((c.tc : Thread Cert.Reference10Ideal.nD Cert.Reference10Ideal.τ).loc Cert.Reference10Ideal.main_arg22)
          ∧ r.2.mem ((c.tc : Thread Cert.Reference10Ideal.nD Cert.Reference10Ideal.τ).loc Cert.Reference10Ideal.main_arg23) = m' ((c.tc : Thread Cert.Reference10Ideal.nD Cert.Reference10Ideal.τ).loc Cert.Reference10Ideal.main_arg23)
          ∧ r.2.mem ((c.tc : Thread Cert.Reference10Ideal.nD Cert.Reference10Ideal.τ).loc Cert.Reference10Ideal.main_arg24) = m' ((c.tc : Thread Cert.Reference10Ideal.nD Cert.Reference10Ideal.τ).loc Cert.Reference10Ideal.main_arg24)
          ∧ r.2.mem ((c.tc : Thread Cert.Reference10Ideal.nD Cert.Reference10Ideal.τ).loc Cert.Reference10Ideal.main_arg25) = m' ((c.tc : Thread Cert.Reference10Ideal.nD Cert.Reference10Ideal.τ).loc Cert.Reference10Ideal.main_arg25)
          ∧ r.2.mem ((c.tc : Thread Cert.Reference10Ideal.nD Cert.Reference10Ideal.τ).loc Cert.Reference10Ideal.main_arg26) = m' ((c.tc : Thread Cert.Reference10Ideal.nD Cert.Reference10Ideal.τ).loc Cert.Reference10Ideal.main_arg26)
          ∧ r.2.mem ((c.tc : Thread Cert.Reference10Ideal.nD Cert.Reference10Ideal.τ).loc Cert.Reference10Ideal.main_arg27) = m' ((c.tc : Thread Cert.Reference10Ideal.nD Cert.Reference10Ideal.τ).loc Cert.Reference10Ideal.main_arg27)
          ∧ r.2.mem ((c.tc : Thread Cert.Reference10Ideal.nD Cert.Reference10Ideal.τ).loc Cert.Reference10Ideal.main_arg28) = m' ((c.tc : Thread Cert.Reference10Ideal.nD Cert.Reference10Ideal.τ).loc Cert.Reference10Ideal.main_arg28)
          ∧ r.2.mem ((c.tc : Thread Cert.Reference10Ideal.nD Cert.Reference10Ideal.τ).loc Cert.Reference10Ideal.main_arg29) = m' ((c.tc : Thread Cert.Reference10Ideal.nD Cert.Reference10Ideal.τ).loc Cert.Reference10Ideal.main_arg29)
          ∧ r.2.mem ((c.tc : Thread Cert.Reference10Ideal.nD Cert.Reference10Ideal.τ).loc Cert.Reference10Ideal.main_arg30) = m' ((c.tc : Thread Cert.Reference10Ideal.nD Cert.Reference10Ideal.τ).loc Cert.Reference10Ideal.main_arg30)
          ∧ r.2.mem ((c.tc : Thread Cert.Reference10Ideal.nD Cert.Reference10Ideal.τ).loc Cert.Reference10Ideal.main_arg31) = m' ((c.tc : Thread Cert.Reference10Ideal.nD Cert.Reference10Ideal.τ).loc Cert.Reference10Ideal.main_arg31))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v11)) (v1 : (c : Dev Cert.Kernel11Ideal.nD) → Buf (Elt Ideal) ((c.tc : Thread Cert.Kernel11Ideal.nD Cert.Kernel11Ideal.τ).loc Cert.Kernel11Ideal.main_v12)) (v2 : (c : Dev Cert.Kernel11Ideal.nD) → Buf (Elt Ideal) ((c.tc : Thread Cert.Kernel11Ideal.nD Cert.Kernel11Ideal.τ).loc Cert.Kernel11Ideal.main_v13)) (v3 : (c : Dev Cert.Kernel11Ideal.nD) → Buf (Elt Ideal) ((c.tc : Thread Cert.Kernel11Ideal.nD Cert.Kernel11Ideal.τ).loc Cert.Kernel11Ideal.main_v14)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v11) = v0 c
          ∧ r.2.mem ((c.tc : Thread Cert.Kernel11Ideal.nD Cert.Kernel11Ideal.τ).loc Cert.Kernel11Ideal.main_v12) = v1 c
          ∧ r.2.mem ((c.tc : Thread Cert.Kernel11Ideal.nD Cert.Kernel11Ideal.τ).loc Cert.Kernel11Ideal.main_v13) = v2 c
          ∧ r.2.mem ((c.tc : Thread Cert.Kernel11Ideal.nD Cert.Kernel11Ideal.τ).loc Cert.Kernel11Ideal.main_v14) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v17) = v0 c
          ∧ r.2.mem ((c.tc : Thread Cert.Reference11Ideal.nD Cert.Reference11Ideal.τ).loc Cert.Reference11Ideal.main_v41) = v1 c
          ∧ r.2.mem ((c.tc : Thread Cert.Reference11Ideal.nD Cert.Reference11Ideal.τ).loc Cert.Reference11Ideal.main_v22) = v2 c
          ∧ r.2.mem ((c.tc : Thread Cert.Reference11Ideal.nD Cert.Reference11Ideal.τ).loc Cert.Reference11Ideal.main_v28) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v4)) (v1 : (c : Dev Cert.Kernel12Ideal.nD) → Buf (Elt Ideal) ((c.tc : Thread Cert.Kernel12Ideal.nD Cert.Kernel12Ideal.τ).loc Cert.Kernel12Ideal.main_v5)) (v2 : (c : Dev Cert.Kernel12Ideal.nD) → Buf (Elt Ideal) ((c.tc : Thread Cert.Kernel12Ideal.nD Cert.Kernel12Ideal.τ).loc Cert.Kernel12Ideal.main_v6)) (v3 : (c : Dev Cert.Kernel12Ideal.nD) → Buf (Elt Ideal) ((c.tc : Thread Cert.Kernel12Ideal.nD Cert.Kernel12Ideal.τ).loc Cert.Kernel12Ideal.main_v7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_v5) = v1 c
          ∧ r.2.mem ((c.tc : Thread Cert.Kernel12Ideal.nD Cert.Kernel12Ideal.τ).loc Cert.Kernel12Ideal.main_v6) = v2 c
          ∧ r.2.mem ((c.tc : Thread Cert.Kernel12Ideal.nD Cert.Kernel12Ideal.τ).loc Cert.Kernel12Ideal.main_v7) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v16) = v0 c
          ∧ r.2.mem ((c.tc : Thread Cert.Reference12Ideal.nD Cert.Reference12Ideal.τ).loc Cert.Reference12Ideal.main_v40) = v1 c
          ∧ r.2.mem ((c.tc : Thread Cert.Reference12Ideal.nD Cert.Reference12Ideal.τ).loc Cert.Reference12Ideal.main_v21) = v2 c
          ∧ r.2.mem ((c.tc : Thread Cert.Reference12Ideal.nD Cert.Reference12Ideal.τ).loc Cert.Reference12Ideal.main_v27) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)) →
    ∃ (v0 : (c : Dev Cert.Kernel13Ideal.nD) → Buf (Elt Ideal) ((c.tc : Thread Cert.Kernel13Ideal.nD Cert.Kernel13Ideal.τ).loc Cert.Kernel13Ideal.main_v11)) (v1 : (c : Dev Cert.Kernel13Ideal.nD) → Buf (Elt Ideal) ((c.tc : Thread Cert.Kernel13Ideal.nD Cert.Kernel13Ideal.τ).loc Cert.Kernel13Ideal.main_v12)) (v2 : (c : Dev Cert.Kernel13Ideal.nD) → Buf (Elt Ideal) ((c.tc : Thread Cert.Kernel13Ideal.nD Cert.Kernel13Ideal.τ).loc Cert.Kernel13Ideal.main_v13)) (v3 : (c : Dev Cert.Kernel13Ideal.nD) → Buf (Elt Ideal) ((c.tc : Thread Cert.Kernel13Ideal.nD Cert.Kernel13Ideal.τ).loc Cert.Kernel13Ideal.main_v14)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v11) = v0 c
          ∧ r.2.mem ((c.tc : Thread Cert.Kernel13Ideal.nD Cert.Kernel13Ideal.τ).loc Cert.Kernel13Ideal.main_v12) = v1 c
          ∧ r.2.mem ((c.tc : Thread Cert.Kernel13Ideal.nD Cert.Kernel13Ideal.τ).loc Cert.Kernel13Ideal.main_v13) = v2 c
          ∧ r.2.mem ((c.tc : Thread Cert.Kernel13Ideal.nD Cert.Kernel13Ideal.τ).loc Cert.Kernel13Ideal.main_v14) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v17) = v0 c
          ∧ r.2.mem ((c.tc : Thread Cert.Reference13Ideal.nD Cert.Reference13Ideal.τ).loc Cert.Reference13Ideal.main_v41) = v1 c
          ∧ r.2.mem ((c.tc : Thread Cert.Reference13Ideal.nD Cert.Reference13Ideal.τ).loc Cert.Reference13Ideal.main_v22) = v2 c
          ∧ r.2.mem ((c.tc : Thread Cert.Reference13Ideal.nD Cert.Reference13Ideal.τ).loc Cert.Reference13Ideal.main_v28) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v4)) (v1 : (c : Dev Cert.Kernel14Ideal.nD) → Buf (Elt Ideal) ((c.tc : Thread Cert.Kernel14Ideal.nD Cert.Kernel14Ideal.τ).loc Cert.Kernel14Ideal.main_v5)) (v2 : (c : Dev Cert.Kernel14Ideal.nD) → Buf (Elt Ideal) ((c.tc : Thread Cert.Kernel14Ideal.nD Cert.Kernel14Ideal.τ).loc Cert.Kernel14Ideal.main_v6)) (v3 : (c : Dev Cert.Kernel14Ideal.nD) → Buf (Elt Ideal) ((c.tc : Thread Cert.Kernel14Ideal.nD Cert.Kernel14Ideal.τ).loc Cert.Kernel14Ideal.main_v7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_v5) = v1 c
          ∧ r.2.mem ((c.tc : Thread Cert.Kernel14Ideal.nD Cert.Kernel14Ideal.τ).loc Cert.Kernel14Ideal.main_v6) = v2 c
          ∧ r.2.mem ((c.tc : Thread Cert.Kernel14Ideal.nD Cert.Kernel14Ideal.τ).loc Cert.Kernel14Ideal.main_v7) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v16) = v0 c
          ∧ r.2.mem ((c.tc : Thread Cert.Reference14Ideal.nD Cert.Reference14Ideal.τ).loc Cert.Reference14Ideal.main_v40) = v1 c
          ∧ r.2.mem ((c.tc : Thread Cert.Reference14Ideal.nD Cert.Reference14Ideal.τ).loc Cert.Reference14Ideal.main_v21) = v2 c
          ∧ r.2.mem ((c.tc : Thread Cert.Reference14Ideal.nD Cert.Reference14Ideal.τ).loc Cert.Reference14Ideal.main_v27) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_v10) = v1 c
          ∧ r.2.mem ((c.tc : Thread Cert.Reference15Ideal.nD Cert.Reference15Ideal.τ).loc Cert.Reference15Ideal.main_v13) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_v10) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts),
    quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg5 : FVec F S2816x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg5
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S1024 .f32) (main_arg3 : FVec F S1024x2816 .f32) (main_arg4 : FVec F S1024x2816 .f32) (main_arg5 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2816 .f32 := Host.absf main_arg4
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg5 main_v13 main_v16
-- ==== Kernel2.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S4x704x1024 : Shape := ⟨3, ![4, 704, 1024]⟩
abbrev S4x2112x1024 : Shape := ⟨3, ![4, 2112, 1024]⟩
abbrev S256x1024 : Shape := ⟨2, ![256, 1024]⟩
abbrev S4x256x704 : Shape := ⟨3, ![4, 256, 704]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S256 : Shape := ⟨1, ![256]⟩
abbrev S256x1 : Shape := ⟨2, ![256, 1]⟩

abbrev nBuf : Space → Nat
  | .hbm => 43
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x4x704, .f32⟩
  | .hbm, ⟨24, _⟩ => ⟨S4x8192x704, .f32⟩
  | .hbm, ⟨25, _⟩ => ⟨S4x8192x704, .bf16⟩
  | .hbm, ⟨26, _⟩ => ⟨S8192x2816, .f32⟩
  | .hbm, ⟨27, _⟩ => ⟨S8192x4x704, .f32⟩
  | .hbm, ⟨28, _⟩ => ⟨S4x8192x704, .f32⟩
  | .hbm, ⟨29, _⟩ => ⟨S4x8192x704, .bf16⟩
  | .hbm, ⟨30, _⟩ => ⟨S1x1024, .f32⟩
  | .hbm, ⟨31, _⟩ => ⟨S2816x1024, .f32⟩
  | .hbm, ⟨32, _⟩ => ⟨S4x704x1024, .f32⟩
  | .hbm, ⟨33, _⟩ => ⟨S2816x1024, .f32⟩
  | .hbm, ⟨34, _⟩ => ⟨S4x704x1024, .f32⟩
  | .hbm, ⟨35, _⟩ => ⟨S4x704x1024, .f32⟩
  | .hbm, ⟨36, _⟩ => ⟨S4x2112x1024, .f32⟩
  | .hbm, ⟨37, _⟩ => ⟨S4x2112x1024, .bf16⟩
  | .hbm, ⟨38, _⟩ => ⟨S8192x1024, .f32⟩
  | .hbm, ⟨39, _⟩ => ⟨S4x8192x704, .bf16⟩
  | .hbm, ⟨40, _⟩ => ⟨S4x8192x704, .bf16⟩
  | .hbm, ⟨41, _⟩ => ⟨S4x8192x704, .bf16⟩
  | .hbm, ⟨42, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S4x256x704, .bf16⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x704x1024, .bf16⟩
  | .local _ .vmem, ⟨10, _⟩ => ⟨S4x704x1024, .bf16⟩
  | .local _ .vmem, ⟨11, _⟩ => ⟨S4x704x1024, .bf16⟩
  | .local _ .vmem, ⟨12, _⟩ => ⟨S256x1024, .f32⟩
  | .local _ .vmem, ⟨13, _⟩ => ⟨S256x1024, .f32⟩
  | .local _ .vmem, ⟨14, _⟩ => ⟨S4x256x704, .bf16⟩
  | .local _ .vmem, ⟨15, _⟩ => ⟨S4x256x704, .bf16⟩
  | .local _ .vmem, ⟨16, _⟩ => ⟨S4x256x704, .bf16⟩
  | .local _ .vmem, ⟨17, _⟩ => ⟨S4x256x704, .bf16⟩
  | .local _ .vmem, ⟨18, _⟩ => ⟨S4x256x704, .bf16⟩
  | .local _ .vmem, ⟨19, _⟩ => ⟨S4x256x704, .bf16⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29_0 : Ref sig .tc := ⟨.hbm, 38, rfl⟩
abbrev main_v29_1 : Ref sig .tc := ⟨.hbm, 39, rfl⟩
abbrev main_v29_2 : Ref sig .tc := ⟨.hbm, 40, rfl⟩
abbrev main_v29_3 : Ref sig .tc := ⟨.hbm, 41, rfl⟩
abbrev main_v29_4 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_7 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 137
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024x2816, .f32⟩
  | 4 => ⟨S1024x2816, .f32⟩
  | 5 => ⟨S2816x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1024, .f32⟩
  | 18 => ⟨S8192x1024, .f32⟩
  | 19 => ⟨S1x1024, .f32⟩
  | 20 => ⟨S8192x1024, .f32⟩
  | 21 => ⟨S8192x1024, .f32⟩
  | 22 => ⟨S8192x2816, .f32⟩
  | 23 => ⟨S8192x2816, .f32⟩
  | 24 => ⟨S8192x2816, .f32⟩
  | 25 => ⟨S8192x2816, .f32⟩
  | 26 => ⟨S_, .f32⟩
  | 27 => ⟨S8192x2816, .f32⟩
  | 28 => ⟨S8192x2816, .f32⟩
  | 29 => ⟨S_, .f32⟩
  | 30 => ⟨S8192x2816, .f32⟩
  | 31 => ⟨S8192x2816, .f32⟩
  | 32 => ⟨S_, .f32⟩
  | 33 => ⟨S8192x2816, .f32⟩
  | 34 => ⟨S8192x2816, .f32⟩
  | 35 => ⟨S8192x2816, .f32⟩
  | 36 => ⟨S8192x2816, .f32⟩
  | 37 => ⟨S8192x2816, .f32⟩
  | 38 => ⟨S8192x1024, .f32⟩
  | 39 => ⟨S8192x2816, .f32⟩
  | 40 => ⟨S8192x2816, .f32⟩
  | 41 => ⟨S8192x2816, .f32⟩
  | 42 => ⟨S8192x2816, .f32⟩
  | 43 => ⟨S8192x2816, .f32⟩
  | 44 => ⟨S8192x2816, .f32⟩
  | 45 => ⟨S8192x2816, .f32⟩
  | 46 => ⟨S8192x1024, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S_, .f32⟩
  | 54 => ⟨S8192x1, .f32⟩
  | 55 => ⟨S8192x1, .f32⟩
  | 56 => ⟨S8192x1, .f32⟩
  | 57 => ⟨S8192x1, .f32⟩
  | 58 => ⟨S_, .f32⟩
  | 59 => ⟨S8192x1, .f32⟩
  | 60 => ⟨S8192x1, .f32⟩
  | 61 => ⟨S8192x1024, .f32⟩
  | 62 => ⟨S8192x1024, .f32⟩
  | 63 => ⟨S1x1024, .f32⟩
  | 64 => ⟨S8192x1024, .f32⟩
  | 65 => ⟨S8192x1024, .f32⟩
  | 66 => ⟨S8192x2816, .f32⟩
  | 67 => ⟨S8192x2816, .f32⟩
  | 68 => ⟨S8192x2816, .f32⟩
  | 69 => ⟨S_, .f32⟩
  | 70 => ⟨S8192x2816, .f32⟩
  | 71 => ⟨S8192x2816, .f32⟩
  | 72 => ⟨S_, .f32⟩
  | 73 => ⟨S8192x2816, .f32⟩
  | 74 => ⟨S8192x2816, .f32⟩
  | 75 => ⟨S_, .f32⟩
  | 76 => ⟨S8192x2816, .f32⟩
  | 77 => ⟨S8192x2816, .f32⟩
  | 78 => ⟨S8192x2816, .f32⟩
  | 79 => ⟨S8192x2816, .f32⟩
  | 80 => ⟨S8192x2816, .f32⟩
  | 81 => ⟨S8192x2816, .f32⟩
  | 82 => ⟨S8192x1024, .f32⟩
  | 83 => ⟨S8192x1024, .f32⟩
  | 84 => ⟨S8192x1024, .f32⟩
  | 85 => ⟨S1024x2816, .f32⟩
  | 86 => ⟨S2816x1024, .f32⟩
  | 87 => ⟨S8192x2816, .f32⟩
  | 88 => ⟨S8192x2816, .f32⟩
  | 89 => ⟨S8192x2816, .f32⟩
  | 90 => ⟨S2816x1024, .f32⟩
  | 91 => ⟨S1024x2816, .f32⟩
  | 92 => ⟨S8192x1024, .f32⟩
  | 93 => ⟨S8192x2816, .f32⟩
  | 94 => ⟨S8192x2816, .f32⟩
  | 95 => ⟨S8192x2816, .f32⟩
  | 96 => ⟨S8192x2816, .f32⟩
  | 97 => ⟨S2816x1024, .f32⟩
  | 98 => ⟨S1024x2816, .f32⟩
  | 99 => ⟨S8192x1024, .f32⟩
  | 100 => ⟨S8192x1024, .f32⟩
  | 101 => ⟨S8192x1024, .f32⟩
  | 102 => ⟨S_, .f32⟩
  | 103 => ⟨S1024, .f32⟩
  | 104 => ⟨S1x1024, .f32⟩
  | 105 => ⟨S8192x1024, .f32⟩
  | 106 => ⟨S8192x1024, .f32⟩
  | 107 => ⟨S_, .f32⟩
  | 108 => ⟨S1024, .f32⟩
  | 109 => ⟨S8192x1024, .f32⟩
  | 110 => ⟨S_, .f32⟩
  | 111 => ⟨S8192, .f32⟩
  | 112 => ⟨S8192x1, .f32⟩
  | 113 => ⟨S8192x1024, .f32⟩
  | 114 => ⟨S8192x1024, .f32⟩
  | 115 => ⟨S8192x1024, .f32⟩
  | 116 => ⟨S8192x1, .f32⟩
  | 117 => ⟨S_, .f32⟩
  | 118 => ⟨S8192x1, .f32⟩
  | 119 => ⟨S8192x1, .f32⟩
  | 120 => ⟨S_, .f32⟩
  | 121 => ⟨S8192, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S8192x4x704, .f32⟩
  | _ => ⟨S8192x1024, .f32⟩

abbrev hbmTy0_1 (i : Nat) : BufTy := match i % 128 with
  | 0 => ⟨S4x8192x704, .f32⟩
  | 1 => ⟨S4x8192x704, .bf16⟩
  | 2 => ⟨S8192x4x704, .f32⟩
  | 3 => ⟨S4x8192x704, .f32⟩
  | 4 => ⟨S4x8192x704, .bf16⟩
  | 5 => ⟨S8192x4x704, .f32⟩
  | 6 => ⟨S4x8192x704, .f32⟩
  | 7 => ⟨S4x8192x704, .bf16⟩
  | 8 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v21 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_v24 : Ref sig .tc := ⟨.hbm, 49, rfl⟩
abbrev main_cst_3 : Ref sig .tc := ⟨.hbm, 50, rfl⟩
abbrev main_v25 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call2_v0 : Ref sig .tc := ⟨.hbm, 67, rfl⟩
abbrev main_call2_v1 : Ref sig .tc := ⟨.hbm, 68, rfl⟩
abbrev main_call2_cst : Ref sig .tc := ⟨.hbm, 69, rfl⟩
abbrev main_call2_v2 : Ref sig .tc := ⟨.hbm, 70, rfl⟩
abbrev main_call2_v3 : Ref sig .tc := ⟨.hbm, 71, rfl⟩
abbrev main_call2_cst_0 : Ref sig .tc := ⟨.hbm, 72, rfl⟩
abbrev main_call2_v4 : Ref sig .tc := ⟨.hbm, 73, rfl⟩
abbrev main_v39_2 : Ref sig .tc := ⟨.hbm, 74, rfl⟩
abbrev main_call2_cst_1 : Ref sig .tc := ⟨.hbm, 75, rfl⟩
abbrev main_call2_v6 : Ref sig .tc := ⟨.hbm, 76, rfl⟩
abbrev main_call2_v7 : Ref sig .tc := ⟨.hbm, 77, rfl⟩
abbrev main_v39_1 : Ref sig .tc := ⟨.hbm, 78, rfl⟩
abbrev main_v39_0 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_6 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_7 : Ref sig .tc := ⟨.hbm, 107, rfl⟩
abbrev main_v63 : Ref sig .tc := ⟨.hbm, 108, rfl⟩
abbrev main_v64 : Ref sig .tc := ⟨.hbm, 109, rfl⟩
abbrev main_cst_8 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_9 : Ref sig .tc := ⟨.hbm, 117, rfl⟩
abbrev main_v71 : Ref sig .tc := ⟨.hbm, 118, rfl⟩
abbrev main_v72 : Ref sig .tc := ⟨.hbm, 119, rfl⟩
abbrev main_cst_10 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S4x1024x704 : Shape := ⟨3, ![4, 1024, 704]⟩
abbrev S1024x1024 : Shape := ⟨2, ![1024, 1024]⟩
abbrev S1x704x1024 : Shape := ⟨3, ![1, 704, 1024]⟩
abbrev S704x1024 : Shape := ⟨2, ![704, 1024]⟩
abbrev S1x1024x704 : Shape := ⟨3, ![1, 1024, 704]⟩
abbrev S1024x704 : Shape := ⟨2, ![1024, 704]⟩

abbrev nBuf : Space → Nat
  | .hbm => 7
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x4x704, .f32⟩
  | .hbm, ⟨3, _⟩ => ⟨S4x8192x704, .f32⟩
  | .hbm, ⟨4, _⟩ => ⟨S4x8192x704, .bf16⟩
  | .hbm, ⟨5, _⟩ => ⟨S8192x1024, .bf16⟩
  | .hbm, ⟨6, _⟩ => ⟨S4x704x1024, .bf16⟩
  | .local _ .vmem, ⟨0, _⟩ => ⟨S4x1024x704, .bf16⟩
  | .local _ .vmem, ⟨1, _⟩ => ⟨S4x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S4x704x1024, .bf16⟩
  | .local _ .vmem, ⟨5, _⟩ => ⟨S4x704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v41 : BitVec 1 := Scalar.cmpi .eq arg0 c7_i32
  let v42 : BitVec 32 := Scalar.extui v41
  let c0_i32_38 : BitVec 32 := 0#32
  let v43 : BitVec 1 := Scalar.cmpi .ne v42 c0_i32_38
  v43

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference3Ideal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S4x704x1024, .f32⟩
  | .hbm, ⟨9, _⟩ => ⟨S4x704x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S4x1024x704 : Shape := ⟨3, ![4, 1024, 704]⟩
abbrev S1024x1024 : Shape := ⟨2, ![1024, 1024]⟩
abbrev S1x704x1024 : Shape := ⟨3, ![1, 704, 1024]⟩
abbrev S704x1024 : Shape := ⟨2, ![704, 1024]⟩
abbrev S1x1024x704 : Shape := ⟨3, ![1, 1024, 704]⟩
abbrev S1024x704 : Shape := ⟨2, ![1024, 704]⟩

abbrev nBuf : Space → Nat
  | .hbm => 6
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x4x704, .f32⟩
  | .hbm, ⟨3, _⟩ => ⟨S4x8192x704, .f32⟩
  | .hbm, ⟨4, _⟩ => ⟨S4x8192x704, .bf16⟩
  | .hbm, ⟨5, _⟩ => ⟨S4x704x1024, .bf16⟩
  | .local _ .vmem, ⟨0, _⟩ => ⟨S4x1024x704, .bf16⟩
  | .local _ .vmem, ⟨1, _⟩ => ⟨S4x1024x704, .bf16⟩
  | .local _ .vmem, ⟨2, _⟩ => ⟨S1024x1024, .f32⟩
  | .local _ .vmem, ⟨3, _⟩ => ⟨S1024x1024, .f32⟩
  | .local _ .vmem, ⟨4, _⟩ => ⟨S4x704x1024, .bf16⟩
  | .local _ .vmem, ⟨5, _⟩ => ⟨S4x704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v41 : BitVec 1 := Scalar.cmpi .eq arg0 c7_i32
  let v42 : BitVec 32 := Scalar.extui v41
  let c0_i32_38 : BitVec 32 := 0#32
  let v43 : BitVec 1 := Scalar.cmpi .ne v42 c0_i32_38
  v43

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | .hbm, ⟨8, _⟩ => ⟨S4x704x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4x704x1024 : Shape := ⟨3, ![4, 704, 1024]⟩
abbrev S4x2112x1024 : Shape := ⟨3, ![4, 2112, 1024]⟩
abbrev S4x8192x704 : Shape := ⟨3, ![4, 8192, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 17
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S4x704x1024, .f32⟩
  | .hbm, ⟨8, _⟩ => ⟨S2816x1024, .f32⟩
  | .hbm, ⟨9, _⟩ => ⟨S4x704x1024, .f32⟩
  | .hbm, ⟨10, _⟩ => ⟨S4x704x1024, .f32⟩
  | .hbm, ⟨11, _⟩ => ⟨S4x2112x1024, .f32⟩
  | .hbm, ⟨12, _⟩ => ⟨S4x2112x1024, .bf16⟩
  | .hbm, ⟨13, _⟩ => ⟨S8192x1024, .f32⟩
  | .hbm, ⟨14, _⟩ => ⟨S4x8192x704, .bf16⟩
  | .hbm, ⟨15, _⟩ => ⟨S4x8192x704, .bf16⟩
  | .hbm, ⟨16, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S512x1024, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x1024, .f32⟩
  | .hbm, ⟨50, _⟩ => ⟨S8192x1024, .f32⟩
  | .hbm, ⟨51, _⟩ => ⟨S8192x2816, .f32⟩
  | .hbm, ⟨52, _⟩ => ⟨S8192x4x704, .f32⟩
  | .hbm, ⟨53, _⟩ => ⟨S4x8192x704, .f32⟩
  | .hbm, ⟨54, _⟩ => ⟨S4x8192x704, .bf16⟩
  | .hbm, ⟨55, _⟩ => ⟨S8192x2816, .f32⟩
  | .hbm, ⟨56, _⟩ => ⟨S8192x4x704, .f32⟩
  | .hbm, ⟨57, _⟩ => ⟨S4x8192x704, .f32⟩
  | .hbm, ⟨58, _⟩ => ⟨S4x8192x704, .bf16⟩
  | .hbm, ⟨59, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4x704x1024 : Shape := ⟨3, ![4, 704, 1024]⟩
abbrev S4x2112x1024 : Shape := ⟨3, ![4, 2112, 1024]⟩
abbrev S8x128 : Shape := ⟨2, ![8, 128]⟩
abbrev S4x8192x704 : Shape := ⟨3, ![4, 8192, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩
abbrev S1 : Shape := ⟨1, ![1]⟩
abbrev S1x1 : Shape := ⟨2, ![1, 1]⟩

abbrev nBuf : Space → Nat
  | .hbm => 19
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1x1024, .f32⟩
  | .hbm, ⟨7, _⟩ => ⟨S2816x1024, .f32⟩
  | .hbm, ⟨8, _⟩ => ⟨S4x704x1024, .f32⟩
  | .hbm, ⟨9, _⟩ => ⟨S2816x1024, .f32⟩
  | .hbm, ⟨10, _⟩ => ⟨S4x704x1024, .f32⟩
  | .hbm, ⟨11, _⟩ => ⟨S4x704x1024, .f32⟩
  | .hbm, ⟨12, _⟩ => ⟨S4x2112x1024, .f32⟩
  | .hbm, ⟨13, _⟩ => ⟨S4x2112x1024, .bf16⟩
  | .hbm, ⟨14, _⟩ => ⟨S8x128, .f32⟩
  | .hbm, ⟨15, _⟩ => ⟨S8192x1024, .f32⟩
  | .hbm, ⟨16, _⟩ => ⟨S4x8192x704, .bf16⟩
  | .hbm, ⟨17, _⟩ => ⟨S4x8192x704, .bf16⟩
  | .hbm, ⟨18, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S8x128, .f32⟩
  | .local _ .vmem, ⟨9, _⟩ => ⟨S512x1024, .f32⟩
  | .local _ .vmem, ⟨10, _⟩ => ⟨S512x1024, .f32⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | .local _ .vmem, ⟨14, _⟩ => ⟨S4x512x704, .bf16⟩
  | .local _ .vmem, ⟨15, _⟩ => ⟨S512x1024, .bf16⟩
  | .local _ .vmem, ⟨16, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x128 : Shape := ⟨2, ![8, 128]⟩
abbrev S8192x4x704 : Shape := ⟨3, ![8192, 4, 704]⟩
abbrev S4x8192x704 : Shape := ⟨3, ![4, 8192, 704]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8x128, .f32⟩
  | .hbm, ⟨76, _⟩ => ⟨S8192x2816, .f32⟩
  | .hbm, ⟨77, _⟩ => ⟨S8192x4x704, .f32⟩
  | .hbm, ⟨78, _⟩ => ⟨S4x8192x704, .f32⟩
  | .hbm, ⟨79, _⟩ => ⟨S4x8192x704, .bf16⟩
  | .hbm, ⟨80, _⟩ => ⟨S8192x2816, .f32⟩
  | .hbm, ⟨81, _⟩ => ⟨S8192x4x704, .f32⟩
  | .hbm, ⟨82, _⟩ => ⟨S4x8192x704, .f32⟩
  | .hbm, ⟨83, _⟩ => ⟨S4x8192x704, .bf16⟩
  | .hbm, ⟨84, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_cst_10 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_cst_12 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩

abbrev nD : Nat := 1
abbrev τ : Topo := Topo.v7x

variable {F : FTy → Type} [FloatOps F]
-- ==== Kernel7.lean ====
abbrev S8192x2048 : Shape := ⟨2, ![8192, 2048]⟩
abbrev S8192x256 : Shape := ⟨2, ![8192, 256]⟩
abbrev S2048x256 : Shape := ⟨2, ![2048, 256]⟩
abbrev S1024x2304 : Shape := ⟨2, ![1024, 2304]⟩
abbrev S8192x1024 : Shape := ⟨2, ![8192, 1024]⟩
abbrev S1024 : Shape := ⟨1, ![1024]⟩
abbrev S8192x1536 : Shape := ⟨2, ![8192, 1536]⟩
abbrev S8192x512 : Shape := ⟨2, ![8192, 512]⟩
abbrev S8192x8x64 : Shape := ⟨3, ![8192, 8, 64]⟩
abbrev S_ : Shape := ⟨0, ![]⟩
abbrev S8192x8x128 : Shape := ⟨3, ![8192, 8, 128]⟩
abbrev S8192x2560 : Shape := ⟨2, ![8192, 2560]⟩
abbrev S2048x4x64 : Shape := ⟨3, ![2048, 4, 64]⟩
abbrev S2048x4x128 : Shape := ⟨3, ![2048, 4, 128]⟩
abbrev S2048x512 : Shape := ⟨2, ![2048, 512]⟩
abbrev S8192x4x64 : Shape := ⟨3, ![8192, 4, 64]⟩
abbrev S8192x4x128 : Shape := ⟨3, ![8192, 4, 128]⟩
abbrev S2304x1024 : Shape := ⟨2, ![2304, 1024]⟩
abbrev S768x1024 : Shape := ⟨2, ![768, 1024]⟩
abbrev S12x64x1024 : Shape := ⟨3, ![12, 64, 1024]⟩
abbrev S1536x1024 : Shape := ⟨2, ![1536, 1024]⟩
abbrev S12x128x1024 : Shape := ⟨3, ![12, 128, 1024]⟩
abbrev S3072x1024 : Shape := ⟨2, ![3072, 1024]⟩
abbrev S1x1024 : Shape := ⟨2, ![1, 1024]⟩
abbrev S512x2560 : Shape := ⟨2, ![512, 2560]⟩
abbrev S512x512 : Shape := ⟨2, ![512, 512]⟩
abbrev S128x512 : Shape := ⟨2, ![128, 512]⟩
abbrev S512x1024 : Shape := ⟨2, ![512, 1024]⟩
abbrev S384x512 : Shape := ⟨2, ![384, 512]⟩
abbrev S2560x1024 : Shape := ⟨2, ![2560, 1024]⟩
abbrev S512 : Shape := ⟨1, ![512]⟩
abbrev S512x1 : Shape := ⟨2, ![512, 1]⟩

abbrev nBuf : Space → Nat
  | .hbm => 41
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S2048x256, .f32⟩
  | .hbm, ⟨3, _⟩ => ⟨S1024x2304, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S8192x1536, .f32⟩
  | .hbm, ⟨8, _⟩ => ⟨S8192x512, .f32⟩
  | .hbm, ⟨9, _⟩ => ⟨S8192x8x64, .f32⟩
  | .hbm, ⟨10, _⟩ => ⟨S_, .i32⟩
  | .hbm, ⟨11, _⟩ => ⟨S_, .f32⟩
  | .hbm, ⟨12, _⟩ => ⟨S8192x8x128, .f32⟩
  | .hbm, ⟨13, _⟩ => ⟨S8192x1024, .f32⟩
  | .hbm, ⟨14, _⟩ => ⟨S8192x2560, .f32⟩
  | .hbm, ⟨15, _⟩ => ⟨S8192x2560, .bf16⟩
  | .hbm, ⟨16, _⟩ => ⟨S2048x4x64, .f32⟩
  | .hbm, ⟨17, _⟩ => ⟨S_, .i32⟩
  | .hbm, ⟨18, _⟩ => ⟨S_, .f32⟩
  | .hbm, ⟨19, _⟩ => ⟨S2048x4x128, .f32⟩
  | .hbm, ⟨20, _⟩ => ⟨S2048x512, .f32⟩
  | .hbm, ⟨21, _⟩ => ⟨S8192x4x64, .f32⟩
  | .hbm, ⟨22, _⟩ => ⟨S_, .i32⟩
  | .hbm, ⟨23, _⟩ => ⟨S_, .f32⟩
  | .hbm, ⟨24, _⟩ => ⟨S8192x4x128, .f32⟩
  | .hbm, ⟨25, _⟩ => ⟨S8192x512, .f32⟩
  | .hbm, ⟨26, _⟩ => ⟨S2304x1024, .f32⟩
  | .hbm, ⟨27, _⟩ => ⟨S768x1024, .f32⟩
  | .hbm, ⟨28, _⟩ => ⟨S12x64x1024, .f32⟩
  | .hbm, ⟨29, _⟩ => ⟨S2304x1024, .f32⟩
  | .hbm, ⟨30, _⟩ => ⟨S1536x1024, .f32⟩
  | .hbm, ⟨31, _⟩ => ⟨S_, .i32⟩
  | .hbm, ⟨32, _⟩ => ⟨S_, .f32⟩
  | .hbm, ⟨33, _⟩ => ⟨S12x128x1024, .f32⟩
  | .hbm, ⟨34, _⟩ => ⟨S1536x1024, .f32⟩
  | .hbm, ⟨35, _⟩ => ⟨S3072x1024, .f32⟩
  | .hbm, ⟨36, _⟩ => ⟨S3072x1024, .bf16⟩
  | .hbm, ⟨37, _⟩ => ⟨S1x1024, .f32⟩
  | .hbm, ⟨38, _⟩ => ⟨S8192x1024, .f32⟩
  | .hbm, ⟨39, _⟩ => ⟨S1x1024, .f32⟩
  | .hbm, ⟨40, _⟩ => ⟨S8192x512, .bf16⟩
  | .local _ .vmem, ⟨0, _⟩ => ⟨S512x2560, .bf16⟩
  | .local _ .vmem, ⟨1, _⟩ => ⟨S512x2560, .bf16⟩
  | .local _ .vmem, ⟨2, _⟩ => ⟨S512x512, .f32⟩
  | .local _ .vmem, ⟨3, _⟩ => ⟨S512x512, .f32⟩
  | .local _ .vmem, ⟨4, _⟩ => ⟨S128x512, .f32⟩
  | .local _ .vmem, ⟨5, _⟩ => ⟨S128x512, .f32⟩
  | .local _ .vmem, ⟨6, _⟩ => ⟨S3072x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x512, .bf16⟩
  | .local _ .vmem, ⟨16, _⟩ => ⟨S512x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_call2_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_call3_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S8192x2048 : Shape := ⟨2, ![8192, 2048]⟩
abbrev S8192x256 : Shape := ⟨2, ![8192, 256]⟩
abbrev S2048x256 : Shape := ⟨2, ![2048, 256]⟩
abbrev S1024x2304 : Shape := ⟨2, ![1024, 2304]⟩
abbrev S8192x1024 : Shape := ⟨2, ![8192, 1024]⟩
abbrev S1024 : Shape := ⟨1, ![1024]⟩
abbrev S16x128x256 : Shape := ⟨3, ![16, 128, 256]⟩
abbrev S15x128x256 : Shape := ⟨3, ![15, 128, 256]⟩
abbrev S_ : Shape := ⟨0, ![]⟩
abbrev S16x512x256 : Shape := ⟨3, ![16, 512, 256]⟩
abbrev S8192 : Shape := ⟨1, ![8192]⟩
abbrev S8192x1 : Shape := ⟨2, ![8192, 1]⟩
abbrev S1x1024 : Shape := ⟨2, ![1, 1024]⟩
abbrev S8192x2304 : Shape := ⟨2, ![8192, 2304]⟩
abbrev S2304x1024 : Shape := ⟨2, ![2304, 1024]⟩
abbrev S8192x4x64 : Shape := ⟨3, ![8192, 4, 64]⟩
abbrev S8192x4x128 : Shape := ⟨3, ![8192, 4, 128]⟩
abbrev S8192x512 : Shape := ⟨2, ![8192, 512]⟩

abbrev nBuf : Space → Nat
  | .hbm => 72
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S2048x256, .f32⟩
  | .hbm, ⟨3, _⟩ => ⟨S1024x2304, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S16x128x256, .f32⟩
  | .hbm, ⟨8, _⟩ => ⟨S15x128x256, .f32⟩
  | .hbm, ⟨9, _⟩ => ⟨S_, .i32⟩
  | .hbm, ⟨10, _⟩ => ⟨S_, .f32⟩
  | .hbm, ⟨11, _⟩ => ⟨S16x512x256, .f32⟩
  | .hbm, ⟨12, _⟩ => ⟨S8192x256, .f32⟩
  | .hbm, ⟨13, _⟩ => ⟨S8192x256, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x2304, .f32⟩
  | .hbm, ⟨35, _⟩ => ⟨S8192x2304, .f32⟩
  | .hbm, ⟨36, _⟩ => ⟨S2304x1024, .f32⟩
  | .hbm, ⟨37, _⟩ => ⟨S1024x2304, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x4x64, .f32⟩
  | .hbm, ⟨65, _⟩ => ⟨S_, .i32⟩
  | .hbm, ⟨66, _⟩ => ⟨S_, .f32⟩
  | .hbm, ⟨67, _⟩ => ⟨S8192x4x128, .f32⟩
  | .hbm, ⟨68, _⟩ => ⟨S8192x1024, .f32⟩
  | .hbm, ⟨69, _⟩ => ⟨S1x1024, .f32⟩
  | .hbm, ⟨70, _⟩ => ⟨S8192x512, .f32⟩
  | .hbm, ⟨71, _⟩ => ⟨S8192x512, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_call1_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Kernel8.lean ====
abbrev S8192x2304 : Shape := ⟨2, ![8192, 2304]⟩
abbrev S8192x1024 : Shape := ⟨2, ![8192, 1024]⟩
abbrev S8192x2048 : Shape := ⟨2, ![8192, 2048]⟩
abbrev S8192x1536 : Shape := ⟨2, ![8192, 1536]⟩
abbrev S8192x512 : Shape := ⟨2, ![8192, 512]⟩
abbrev S8192x8x64 : Shape := ⟨3, ![8192, 8, 64]⟩
abbrev S_ : Shape := ⟨0, ![]⟩
abbrev S8192x8x128 : Shape := ⟨3, ![8192, 8, 128]⟩
abbrev S8192x2560 : Shape := ⟨2, ![8192, 2560]⟩
abbrev S8192x256 : Shape := ⟨2, ![8192, 256]⟩
abbrev S8192x4x64 : Shape := ⟨3, ![8192, 4, 64]⟩
abbrev S8192x4x128 : Shape := ⟨3, ![8192, 4, 128]⟩
abbrev S2304x1024 : Shape := ⟨2, ![2304, 1024]⟩
abbrev S1024x2560 : Shape := ⟨2, ![1024, 2560]⟩
abbrev S1024x512 : Shape := ⟨2, ![1024, 512]⟩
abbrev S1024x1024 : Shape := ⟨2, ![1024, 1024]⟩
abbrev S3072x1024 : Shape := ⟨2, ![3072, 1024]⟩
abbrev S2560x1024 : Shape := ⟨2, ![2560, 1024]⟩
abbrev S512x1024 : Shape := ⟨2, ![512, 1024]⟩
abbrev S1536x1024 : Shape := ⟨2, ![1536, 1024]⟩
abbrev S64x1024 : Shape := ⟨2, ![64, 1024]⟩

abbrev nBuf : Space → Nat
  | .hbm => 21
  | .vmem => 8
  | .smem => 0
  | _ => 0

abbrev bufTy : (tb : Table) → Fin (tcTables nBuf tb) → BufTy
  | .hbm, ⟨0, _⟩ => ⟨S8192x2304, .f32⟩
  | .hbm, ⟨1, _⟩ => ⟨S8192x1024, .f32⟩
  | .hbm, ⟨2, _⟩ => ⟨S8192x2048, .f32⟩
  | .hbm, ⟨3, _⟩ => ⟨S8192x1536, .f32⟩
  | .hbm, ⟨4, _⟩ => ⟨S8192x512, .f32⟩
  | .hbm, ⟨5, _⟩ => ⟨S8192x8x64, .f32⟩
  | .hbm, ⟨6, _⟩ => ⟨S_, .i32⟩
  | .hbm, ⟨7, _⟩ => ⟨S_, .f32⟩
  | .hbm, ⟨8, _⟩ => ⟨S8192x8x128, .f32⟩
  | .hbm, ⟨9, _⟩ => ⟨S8192x1024, .f32⟩
  | .hbm, ⟨10, _⟩ => ⟨S8192x2560, .f32⟩
  | .hbm, ⟨11, _⟩ => ⟨S8192x2560, .bf16⟩
  | .hbm, ⟨12, _⟩ => ⟨S8192x256, .f32⟩
  | .hbm, ⟨13, _⟩ => ⟨S8192x4x64, .f32⟩
  | .hbm, ⟨14, _⟩ => ⟨S_, .i32⟩
  | .hbm, ⟨15, _⟩ => ⟨S_, .f32⟩
  | .hbm, ⟨16, _⟩ => ⟨S8192x4x128, .f32⟩
  | .hbm, ⟨17, _⟩ => ⟨S8192x512, .f32⟩
  | .hbm, ⟨18, _⟩ => ⟨S8192x512, .bf16⟩
  | .hbm, ⟨19, _⟩ => ⟨S8192x1024, .bf16⟩
  | .hbm, ⟨20, _⟩ => ⟨S2304x1024, .bf16⟩
  | .local _ .vmem, ⟨0, _⟩ => ⟨S1024x2560, .bf16⟩
  | .local _ .vmem, ⟨1, _⟩ => ⟨S1024x2560, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S2304x1024, .bf16⟩
  | .local _ .vmem, ⟨7, _⟩ => ⟨S3072x1024, .f32⟩
  | _, _ => ⟨S8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v21 : BitVec 1 := Scalar.cmpi .eq arg0 c7_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2304x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference8Ideal.lean ====
abbrev S8192x2304 : Shape := ⟨2, ![8192, 2304]⟩
abbrev S8192x1024 : Shape := ⟨2, ![8192, 1024]⟩
abbrev S_ : Shape := ⟨0, ![]⟩
abbrev S1024x2304 : Shape := ⟨2, ![1024, 2304]⟩
abbrev S2304x1024 : Shape := ⟨2, ![2304, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2304, .f32⟩
  | .hbm, ⟨1, _⟩ => ⟨S8192x1024, .f32⟩
  | .hbm, ⟨2, _⟩ => ⟨S_, .f32⟩
  | .hbm, ⟨3, _⟩ => ⟨S1024x2304, .f32⟩
  | .hbm, ⟨4, _⟩ => ⟨S8192x2304, .f32⟩
  | .hbm, ⟨5, _⟩ => ⟨S2304x1024, .f32⟩
  | .hbm, ⟨6, _⟩ => ⟨S1024x2304, .f32⟩
  | .hbm, ⟨7, _⟩ => ⟨S2304x1024, .f32⟩
  | .hbm, ⟨8, _⟩ => ⟨S2304x1024, .bf16⟩
  | _, _ => ⟨S8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S2x1024 : Shape := ⟨2, ![2, 1024]⟩
abbrev S2x3x128 : Shape := ⟨3, ![2, 3, 128]⟩
abbrev S2x64 : Shape := ⟨2, ![2, 64]⟩
abbrev S2x8 : Shape := ⟨2, ![2, 8]⟩
abbrev S2x512 : Shape := ⟨2, ![2, 512]⟩

abbrev nBuf : Space → Nat
  | .hbm => 56
  | .vmem => 56
  | .smem => 0
  | _ => 0

abbrev bufTy : (tb : Table) → Fin (tcTables nBuf tb) → BufTy
  | .hbm, ⟨0, _⟩ => ⟨S2x1024, .f32⟩
  | .hbm, ⟨1, _⟩ => ⟨S2x3x128, .f32⟩
  | .hbm, ⟨2, _⟩ => ⟨S2x64, .f32⟩
  | .hbm, ⟨3, _⟩ => ⟨S2x64, .f32⟩
  | .hbm, ⟨4, _⟩ => ⟨S2x8, .f32⟩
  | .hbm, ⟨5, _⟩ => ⟨S2x512, .f32⟩
  | .hbm, ⟨6, _⟩ => ⟨S2x512, .f32⟩
  | .hbm, ⟨7, _⟩ => ⟨S2x1024, .f32⟩
  | .hbm, ⟨8, _⟩ => ⟨S2x1024, .f32⟩
  | .hbm, ⟨9, _⟩ => ⟨S2x3x128, .f32⟩
  | .hbm, ⟨10, _⟩ => ⟨S2x64, .f32⟩
  | .hbm, ⟨11, _⟩ => ⟨S2x64, .f32⟩
  | .hbm, ⟨12, _⟩ => ⟨S2x8, .f32⟩
  | .hbm, ⟨13, _⟩ => ⟨S2x512, .f32⟩
  | .hbm, ⟨14, _⟩ => ⟨S2x512, .f32⟩
  | .hbm, ⟨15, _⟩ => ⟨S2x1024, .f32⟩
  | .hbm, ⟨16, _⟩ => ⟨S2x1024, .f32⟩
  | .hbm, ⟨17, _⟩ => ⟨S2x3x128, .f32⟩
  | .hbm, ⟨18, _⟩ => ⟨S2x64, .f32⟩
  | .hbm, ⟨19, _⟩ => ⟨S2x64, .f32⟩
  | .hbm, ⟨20, _⟩ => ⟨S2x8, .f32⟩
  | .hbm, ⟨21, _⟩ => ⟨S2x512, .f32⟩
  | .hbm, ⟨22, _⟩ => ⟨S2x512, .f32⟩
  | .hbm, ⟨23, _⟩ => ⟨S2x1024, .f32⟩
  | .hbm, ⟨24, _⟩ => ⟨S2x1024, .f32⟩
  | .hbm, ⟨25, _⟩ => ⟨S2x3x128, .f32⟩
  | .hbm, ⟨26, _⟩ => ⟨S2x64, .f32⟩
  | .hbm, ⟨27, _⟩ => ⟨S2x64, .f32⟩
  | .hbm, ⟨28, _⟩ => ⟨S2x8, .f32⟩
  | .hbm, ⟨29, _⟩ => ⟨S2x512, .f32⟩
  | .hbm, ⟨30, _⟩ => ⟨S2x512, .f32⟩
  | .hbm, ⟨31, _⟩ => ⟨S2x1024, .f32⟩
  | .hbm, ⟨32, _⟩ => ⟨S2x1024, .f32⟩
  | .hbm, ⟨33, _⟩ => ⟨S2x3x128, .f32⟩
  | .hbm, ⟨34, _⟩ => ⟨S2x64, .f32⟩
  | .hbm, ⟨35, _⟩ => ⟨S2x64, .f32⟩
  | .hbm, ⟨36, _⟩ => ⟨S2x8, .f32⟩
  | .hbm, ⟨37, _⟩ => ⟨S2x512, .f32⟩
  | .hbm, ⟨38, _⟩ => ⟨S2x512, .f32⟩
  | .hbm, ⟨39, _⟩ => ⟨S2x1024, .f32⟩
  | .hbm, ⟨40, _⟩ => ⟨S2x1024, .f32⟩
  | .hbm, ⟨41, _⟩ => ⟨S2x3x128, .f32⟩
  | .hbm, ⟨42, _⟩ => ⟨S2x64, .f32⟩
  | .hbm, ⟨43, _⟩ => ⟨S2x64, .f32⟩
  | .hbm, ⟨44, _⟩ => ⟨S2x8, .f32⟩
  | .hbm, ⟨45, _⟩ => ⟨S2x512, .f32⟩
  | .hbm, ⟨46, _⟩ => ⟨S2x512, .f32⟩
  | .hbm, ⟨47, _⟩ => ⟨S2x1024, .f32⟩
  | .hbm, ⟨48, _⟩ => ⟨S2x1024, .f32⟩
  | .hbm, ⟨49, _⟩ => ⟨S2x3x128, .f32⟩
  | .hbm, ⟨50, _⟩ => ⟨S2x64, .f32⟩
  | .hbm, ⟨51, _⟩ => ⟨S2x64, .f32⟩
  | .hbm, ⟨52, _⟩ => ⟨S2x8, .f32⟩
  | .hbm, ⟨53, _⟩ => ⟨S2x512, .f32⟩
  | .hbm, ⟨54, _⟩ => ⟨S2x512, .f32⟩
  | .hbm, ⟨55, _⟩ => ⟨S2x1024, .f32⟩
  | .local _ .vmem, ⟨0, _⟩ => ⟨S2x1024, .f32⟩
  | .local _ .vmem, ⟨1, _⟩ => ⟨S2x3x128, .f32⟩
  | .local _ .vmem, ⟨2, _⟩ => ⟨S2x64, .f32⟩
  | .local _ .vmem, ⟨3, _⟩ => ⟨S2x64, .f32⟩
  | .local _ .vmem, ⟨4, _⟩ => ⟨S2x8, .f32⟩
  | .local _ .vmem, ⟨5, _⟩ => ⟨S2x512, .f32⟩
  | .local _ .vmem, ⟨6, _⟩ => ⟨S2x512, .f32⟩
  | .local _ .vmem, ⟨7, _⟩ => ⟨S2x1024, .f32⟩
  | .local _ .vmem, ⟨8, _⟩ => ⟨S2x1024, .f32⟩
  | .local _ .vmem, ⟨9, _⟩ => ⟨S2x3x128, .f32⟩
  | .local _ .vmem, ⟨10, _⟩ => ⟨S2x64, .f32⟩
  | .local _ .vmem, ⟨11, _⟩ => ⟨S2x64, .f32⟩
  | .local _ .vmem, ⟨12, _⟩ => ⟨S2x8, .f32⟩
  | .local _ .vmem, ⟨13, _⟩ => ⟨S2x512, .f32⟩
  | .local _ .vmem, ⟨14, _⟩ => ⟨S2x512, .f32⟩
  | .local _ .vmem, ⟨15, _⟩ => ⟨S2x1024, .f32⟩
  | .local _ .vmem, ⟨16, _⟩ => ⟨S2x1024, .f32⟩
  | .local _ .vmem, ⟨17, _⟩ => ⟨S2x3x128, .f32⟩
  | .local _ .vmem, ⟨18, _⟩ => ⟨S2x64, .f32⟩
  | .local _ .vmem, ⟨19, _⟩ => ⟨S2x64, .f32⟩
  | .local _ .vmem, ⟨20, _⟩ => ⟨S2x8, .f32⟩
  | .local _ .vmem, ⟨21, _⟩ => ⟨S2x512, .f32⟩
  | .local _ .vmem, ⟨22, _⟩ => ⟨S2x512, .f32⟩
  | .local _ .vmem, ⟨23, _⟩ => ⟨S2x1024, .f32⟩
  | .local _ .vmem, ⟨24, _⟩ => ⟨S2x1024, .f32⟩
  | .local _ .vmem, ⟨25, _⟩ => ⟨S2x3x128, .f32⟩
  | .local _ .vmem, ⟨26, _⟩ => ⟨S2x64, .f32⟩
  | .local _ .vmem, ⟨27, _⟩ => ⟨S2x64, .f32⟩
  | .local _ .vmem, ⟨28, _⟩ => ⟨S2x8, .f32⟩
  | .local _ .vmem, ⟨29, _⟩ => ⟨S2x512, .f32⟩
  | .local _ .vmem, ⟨30, _⟩ => ⟨S2x512, .f32⟩
  | .local _ .vmem, ⟨31, _⟩ => ⟨S2x1024, .f32⟩
  | .local _ .vmem, ⟨32, _⟩ => ⟨S2x1024, .f32⟩
  | .local _ .vmem, ⟨33, _⟩ => ⟨S2x3x128, .f32⟩
  | .local _ .vmem, ⟨34, _⟩ => ⟨S2x64, .f32⟩
  | .local _ .vmem, ⟨35, _⟩ => ⟨S2x64, .f32⟩
  | .local _ .vmem, ⟨36, _⟩ => ⟨S2x8, .f32⟩
  | .local _ .vmem, ⟨37, _⟩ => ⟨S2x512, .f32⟩
  | .local _ .vmem, ⟨38, _⟩ => ⟨S2x512, .f32⟩
  | .local _ .vmem, ⟨39, _⟩ => ⟨S2x1024, .f32⟩
  | .local _ .vmem, ⟨40, _⟩ => ⟨S2x1024, .f32⟩
  | .local _ .vmem, ⟨41, _⟩ => ⟨S2x3x128, .f32⟩
  | .local _ .vmem, ⟨42, _⟩ => ⟨S2x64, .f32⟩
  | .local _ .vmem, ⟨43, _⟩ => ⟨S2x64, .f32⟩
  | .local _ .vmem, ⟨44, _⟩ => ⟨S2x8, .f32⟩
  | .local _ .vmem, ⟨45, _⟩ => ⟨S2x512, .f32⟩
  | .local _ .vmem, ⟨46, _⟩ => ⟨S2x512, .f32⟩
  | .local _ .vmem, ⟨47, _⟩ => ⟨S2x1024, .f32⟩
  | .local _ .vmem, ⟨48, _⟩ => ⟨S2x1024, .f32⟩
  | .local _ .vmem, ⟨49, _⟩ => ⟨S2x3x128, .f32⟩
  | .local _ .vmem, ⟨50, _⟩ => ⟨S2x64, .f32⟩
  | .local _ .vmem, ⟨51, _⟩ => ⟨S2x64, .f32⟩
  | .local _ .vmem, ⟨52, _⟩ => ⟨S2x8, .f32⟩
  | .local _ .vmem, ⟨53, _⟩ => ⟨S2x512, .f32⟩
  | .local _ .vmem, ⟨54, _⟩ => ⟨S2x512, .f32⟩
  | .local _ .vmem, ⟨55, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0_0 : Ref sig .tc := ⟨.hbm, 32, rfl⟩
abbrev main_v0_1 : Ref sig .tc := ⟨.hbm, 33, rfl⟩
abbrev main_v0_2 : Ref sig .tc := ⟨.hbm, 34, rfl⟩
abbrev main_v0_3 : Ref sig .tc := ⟨.hbm, 35, rfl⟩
abbrev main_v0_4 : Ref sig .tc := ⟨.hbm, 36, rfl⟩
abbrev main_v0_5 : Ref sig .tc := ⟨.hbm, 37, rfl⟩
abbrev main_v0_6 : Ref sig .tc := ⟨.hbm, 38, rfl⟩
abbrev main_v0_7 : Ref sig .tc := ⟨.hbm, 39, rfl⟩
abbrev main_v0_8 : Ref sig .tc := ⟨.hbm, 40, rfl⟩
abbrev main_v0_9 : Ref sig .tc := ⟨.hbm, 41, rfl⟩
abbrev main_v0_10 : Ref sig .tc := ⟨.hbm, 42, rfl⟩
abbrev main_v0_11 : Ref sig .tc := ⟨.hbm, 43, rfl⟩
abbrev main_v0_12 : Ref sig .tc := ⟨.hbm, 44, rfl⟩
abbrev main_v0_13 : Ref sig .tc := ⟨.hbm, 45, rfl⟩
abbrev main_v0_14 : Ref sig .tc := ⟨.hbm, 46, rfl⟩
abbrev main_v0_15 : Ref sig .tc := ⟨.hbm, 47, rfl⟩
abbrev main_v0_16 : Ref sig .tc := ⟨.hbm, 48, rfl⟩
abbrev main_v0_17 : Ref sig .tc := ⟨.hbm, 49, rfl⟩
abbrev main_v0_18 : Ref sig .tc := ⟨.hbm, 50, rfl⟩
abbrev main_v0_19 : Ref sig .tc := ⟨.hbm, 51, rfl⟩
abbrev main_v0_20 : Ref sig .tc := ⟨.hbm, 52, rfl⟩
abbrev main_v0_21 : Ref sig .tc := ⟨.hbm, 53, rfl⟩
abbrev main_v0_22 : Ref sig .tc := ⟨.hbm, 54, rfl⟩
abbrev main_v0_23 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x3x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x3x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x3x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S2x8 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S2x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S2x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S2x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S2x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S2x3x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S2x64 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S2x64 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S2x8 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S2x512 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S2x512 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S2x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S2x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S2x3x128 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S2x64 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S2x64 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S2x8 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S2x512 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S2x512 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S2x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S2x1024 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S2x3x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S2x64 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S2x64 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S2x8 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S2x512 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S2x512 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S2x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))
-- ==== Reference10Ideal.lean ====
abbrev S2x1024 : Shape := ⟨2, ![2, 1024]⟩
abbrev S2x3x128 : Shape := ⟨3, ![2, 3, 128]⟩
abbrev S2x64 : Shape := ⟨2, ![2, 64]⟩
abbrev S2x8 : Shape := ⟨2, ![2, 8]⟩
abbrev S2x512 : Shape := ⟨2, ![2, 512]⟩
abbrev S_ : Shape := ⟨0, ![]⟩

abbrev nBuf : Space → Nat
  | .hbm => 296
  | .vmem => 0
  | .smem => 0
  | _ => 0

abbrev hbmTy0_0 (i : Nat) : BufTy := match i % 128 with
  | 0 => ⟨S2x1024, .f32⟩
  | 1 => ⟨S2x3x128, .f32⟩
  | 2 => ⟨S2x64, .f32⟩
  | 3 => ⟨S2x64, .f32⟩
  | 4 => ⟨S2x8, .f32⟩
  | 5 => ⟨S2x512, .f32⟩
  | 6 => ⟨S2x512, .f32⟩
  | 7 => ⟨S2x1024, .f32⟩
  | 8 => ⟨S2x1024, .f32⟩
  | 9 => ⟨S2x3x128, .f32⟩
  | 10 => ⟨S2x64, .f32⟩
  | 11 => ⟨S2x64, .f32⟩
  | 12 => ⟨S2x8, .f32⟩
  | 13 => ⟨S2x512, .f32⟩
  | 14 => ⟨S2x512, .f32⟩
  | 15 => ⟨S2x1024, .f32⟩
  | 16 => ⟨S2x1024, .f32⟩
  | 17 => ⟨S2x3x128, .f32⟩
  | 18 => ⟨S2x64, .f32⟩
  | 19 => ⟨S2x64, .f32⟩
  | 20 => ⟨S2x8, .f32⟩
  | 21 => ⟨S2x512, .f32⟩
  | 22 => ⟨S2x512, .f32⟩
  | 23 => ⟨S2x1024, .f32⟩
  | 24 => ⟨S2x1024, .f32⟩
  | 25 => ⟨S2x3x128, .f32⟩
  | 26 => ⟨S2x64, .f32⟩
  | 27 => ⟨S2x64, .f32⟩
  | 28 => ⟨S2x8, .f32⟩
  | 29 => ⟨S2x512, .f32⟩
  | 30 => ⟨S2x512, .f32⟩
  | 31 => ⟨S2x1024, .f32⟩
  | 32 => ⟨S_, .f32⟩
  | 33 => ⟨S2x1024, .f32⟩
  | 34 => ⟨S2x1024, .f32⟩
  | 35 => ⟨S_, .f32⟩
  | 36 => ⟨S2x1024, .f32⟩
  | 37 => ⟨S2x1024, .f32⟩
  | 38 => ⟨S2x1024, .f32⟩
  | 39 => ⟨S_, .f32⟩
  | 40 => ⟨S2x1024, .f32⟩
  | 41 => ⟨S2x1024, .f32⟩
  | 42 => ⟨S2x1024, .f32⟩
  | 43 => ⟨S_, .f32⟩
  | 44 => ⟨S2x1024, .f32⟩
  | 45 => ⟨S2x1024, .f32⟩
  | 46 => ⟨S2x1024, .f32⟩
  | 47 => ⟨S_, .f32⟩
  | 48 => ⟨S2x1024, .f32⟩
  | 49 => ⟨S2x1024, .f32⟩
  | 50 => ⟨S_, .f32⟩
  | 51 => ⟨S2x1024, .f32⟩
  | 52 => ⟨S2x1024, .f32⟩
  | 53 => ⟨S2x1024, .f32⟩
  | 54 => ⟨S_, .f32⟩
  | 55 => ⟨S2x1024, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S2x1024, .f32⟩
  | 62 => ⟨S_, .f32⟩
  | 63 => ⟨S2x1024, .f32⟩
  | 64 => ⟨S2x1024, .f32⟩
  | 65 => ⟨S_, .f32⟩
  | 66 => ⟨S2x3x128, .f32⟩
  | 67 => ⟨S2x3x128, .f32⟩
  | 68 => ⟨S_, .f32⟩
  | 69 => ⟨S2x3x128, .f32⟩
  | 70 => ⟨S2x3x128, .f32⟩
  | 71 => ⟨S2x3x128, .f32⟩
  | 72 => ⟨S_, .f32⟩
  | 73 => ⟨S2x3x128, .f32⟩
  | 74 => ⟨S2x3x128, .f32⟩
  | 75 => ⟨S2x3x128, .f32⟩
  | 76 => ⟨S_, .f32⟩
  | 77 => ⟨S2x3x128, .f32⟩
  | 78 => ⟨S2x3x128, .f32⟩
  | 79 => ⟨S2x3x128, .f32⟩
  | 80 => ⟨S_, .f32⟩
  | 81 => ⟨S2x3x128, .f32⟩
  | 82 => ⟨S2x3x128, .f32⟩
  | 83 => ⟨S_, .f32⟩
  | 84 => ⟨S2x3x128, .f32⟩
  | 85 => ⟨S2x3x128, .f32⟩
  | 86 => ⟨S2x3x128, .f32⟩
  | 87 => ⟨S_, .f32⟩
  | 88 => ⟨S2x3x128, .f32⟩
  | 89 => ⟨S2x3x128, .f32⟩
  | 90 => ⟨S2x3x128, .f32⟩
  | 91 => ⟨S_, .f32⟩
  | 92 => ⟨S2x3x128, .f32⟩
  | 93 => ⟨S2x3x128, .f32⟩
  | 94 => ⟨S2x3x128, .f32⟩
  | 95 => ⟨S_, .f32⟩
  | 96 => ⟨S2x3x128, .f32⟩
  | 97 => ⟨S2x3x128, .f32⟩
  | 98 => ⟨S_, .f32⟩
  | 99 => ⟨S2x64, .f32⟩
  | 100 => ⟨S2x64, .f32⟩
  | 101 => ⟨S_, .f32⟩
  | 102 => ⟨S2x64, .f32⟩
  | 103 => ⟨S2x64, .f32⟩
  | 104 => ⟨S2x64, .f32⟩
  | 105 => ⟨S_, .f32⟩
  | 106 => ⟨S2x64, .f32⟩
  | 107 => ⟨S2x64, .f32⟩
  | 108 => ⟨S2x64, .f32⟩
  | 109 => ⟨S_, .f32⟩
  | 110 => ⟨S2x64, .f32⟩
  | 111 => ⟨S2x64, .f32⟩
  | 112 => ⟨S2x64, .f32⟩
  | 113 => ⟨S_, .f32⟩
  | 114 => ⟨S2x64, .f32⟩
  | 115 => ⟨S2x64, .f32⟩
  | 116 => ⟨S_, .f32⟩
  | 117 => ⟨S2x64, .f32⟩
  | 118 => ⟨S2x64, .f32⟩
  | 119 => ⟨S2x64, .f32⟩
  | 120 => ⟨S_, .f32⟩
  | 121 => ⟨S2x64, .f32⟩
  | 122 => ⟨S2x64, .f32⟩
  | 123 => ⟨S2x64, .f32⟩
  | 124 => ⟨S_, .f32⟩
  | 125 => ⟨S2x64, .f32⟩
  | 126 => ⟨S2x64, .f32⟩
  | 127 => ⟨S2x64, .f32⟩
  | _ => ⟨S2x1024, .f32⟩

abbrev hbmTy0_1 (i : Nat) : BufTy := match i % 128 with
  | 0 => ⟨S_, .f32⟩
  | 1 => ⟨S2x64, .f32⟩
  | 2 => ⟨S2x64, .f32⟩
  | 3 => ⟨S_, .f32⟩
  | 4 => ⟨S2x64, .f32⟩
  | 5 => ⟨S2x64, .f32⟩
  | 6 => ⟨S_, .f32⟩
  | 7 => ⟨S2x64, .f32⟩
  | 8 => ⟨S2x64, .f32⟩
  | 9 => ⟨S2x64, .f32⟩
  | 10 => ⟨S_, .f32⟩
  | 11 => ⟨S2x64, .f32⟩
  | 12 => ⟨S2x64, .f32⟩
  | 13 => ⟨S2x64, .f32⟩
  | 14 => ⟨S_, .f32⟩
  | 15 => ⟨S2x64, .f32⟩
  | 16 => ⟨S2x64, .f32⟩
  | 17 => ⟨S2x64, .f32⟩
  | 18 => ⟨S_, .f32⟩
  | 19 => ⟨S2x64, .f32⟩
  | 20 => ⟨S2x64, .f32⟩
  | 21 => ⟨S_, .f32⟩
  | 22 => ⟨S2x64, .f32⟩
  | 23 => ⟨S2x64, .f32⟩
  | 24 => ⟨S2x64, .f32⟩
  | 25 => ⟨S_, .f32⟩
  | 26 => ⟨S2x64, .f32⟩
  | 27 => ⟨S2x64, .f32⟩
  | 28 => ⟨S2x64, .f32⟩
  | 29 => ⟨S_, .f32⟩
  | 30 => ⟨S2x64, .f32⟩
  | 31 => ⟨S2x64, .f32⟩
  | 32 => ⟨S2x64, .f32⟩
  | 33 => ⟨S_, .f32⟩
  | 34 => ⟨S2x64, .f32⟩
  | 35 => ⟨S2x64, .f32⟩
  | 36 => ⟨S_, .f32⟩
  | 37 => ⟨S2x8, .f32⟩
  | 38 => ⟨S2x8, .f32⟩
  | 39 => ⟨S_, .f32⟩
  | 40 => ⟨S2x8, .f32⟩
  | 41 => ⟨S2x8, .f32⟩
  | 42 => ⟨S2x8, .f32⟩
  | 43 => ⟨S_, .f32⟩
  | 44 => ⟨S2x8, .f32⟩
  | 45 => ⟨S2x8, .f32⟩
  | 46 => ⟨S2x8, .f32⟩
  | 47 => ⟨S_, .f32⟩
  | 48 => ⟨S2x8, .f32⟩
  | 49 => ⟨S2x8, .f32⟩
  | 50 => ⟨S2x8, .f32⟩
  | 51 => ⟨S_, .f32⟩
  | 52 => ⟨S2x8, .f32⟩
  | 53 => ⟨S2x8, .f32⟩
  | 54 => ⟨S_, .f32⟩
  | 55 => ⟨S2x8, .f32⟩
  | 56 => ⟨S2x8, .f32⟩
  | 57 => ⟨S2x8, .f32⟩
  | 58 => ⟨S_, .f32⟩
  | 59 => ⟨S2x8, .f32⟩
  | 60 => ⟨S2x8, .f32⟩
  | 61 => ⟨S2x8, .f32⟩
  | 62 => ⟨S_, .f32⟩
  | 63 => ⟨S2x8, .f32⟩
  | 64 => ⟨S2x8, .f32⟩
  | 65 => ⟨S2x8, .f32⟩
  | 66 => ⟨S_, .f32⟩
  | 67 => ⟨S2x8, .f32⟩
  | 68 => ⟨S2x8, .f32⟩
  | 69 => ⟨S_, .f32⟩
  | 70 => ⟨S2x512, .f32⟩
  | 71 => ⟨S2x512, .f32⟩
  | 72 => ⟨S_, .f32⟩
  | 73 => ⟨S2x512, .f32⟩
  | 74 => ⟨S2x512, .f32⟩
  | 75 => ⟨S2x512, .f32⟩
  | 76 => ⟨S_, .f32⟩
  | 77 => ⟨S2x512, .f32⟩
  | 78 => ⟨S2x512, .f32⟩
  | 79 => ⟨S2x512, .f32⟩
  | 80 => ⟨S_, .f32⟩
  | 81 => ⟨S2x512, .f32⟩
  | 82 => ⟨S2x512, .f32⟩
  | 83 => ⟨S2x512, .f32⟩
  | 84 => ⟨S_, .f32⟩
  | 85 => ⟨S2x512, .f32⟩
  | 86 => ⟨S2x512, .f32⟩
  | 87 => ⟨S_, .f32⟩
  | 88 => ⟨S2x512, .f32⟩
  | 89 => ⟨S2x512, .f32⟩
  | 90 => ⟨S2x512, .f32⟩
  | 91 => ⟨S_, .f32⟩
  | 92 => ⟨S2x512, .f32⟩
  | 93 => ⟨S2x512, .f32⟩
  | 94 => ⟨S2x512, .f32⟩
  | 95 => ⟨S_, .f32⟩
  | 96 => ⟨S2x512, .f32⟩
  | 97 => ⟨S2x512, .f32⟩
  | 98 => ⟨S2x512, .f32⟩
  | 99 => ⟨S_, .f32⟩
  | 100 => ⟨S2x512, .f32⟩
  | 101 => ⟨S2x512, .f32⟩
  | 102 => ⟨S_, .f32⟩
  | 103 => ⟨S2x512, .f32⟩
  | 104 => ⟨S2x512, .f32⟩
  | 105 => ⟨S_, .f32⟩
  | 106 => ⟨S2x512, .f32⟩
  | 107 => ⟨S2x512, .f32⟩
  | 108 => ⟨S2x512, .f32⟩
  | 109 => ⟨S_, .f32⟩
  | 110 => ⟨S2x512, .f32⟩
  | 111 => ⟨S2x512, .f32⟩
  | 112 => ⟨S2x512, .f32⟩
  | 113 => ⟨S_, .f32⟩
  | 114 => ⟨S2x512, .f32⟩
  | 115 => ⟨S2x512, .f32⟩
  | 116 => ⟨S2x512, .f32⟩
  | 117 => ⟨S_, .f32⟩
  | 118 => ⟨S2x512, .f32⟩
  | 119 => ⟨S2x512, .f32⟩
  | 120 => ⟨S_, .f32⟩
  | 121 => ⟨S2x512, .f32⟩
  | 122 => ⟨S2x512, .f32⟩
  | 123 => ⟨S2x512, .f32⟩
  | 124 => ⟨S_, .f32⟩
  | 125 => ⟨S2x512, .f32⟩
  | 126 => ⟨S2x512, .f32⟩
  | 127 => ⟨S2x512, .f32⟩
  | _ => ⟨S2x1024, .f32⟩

abbrev hbmTy0_2 (i : Nat) : BufTy := match i % 128 with
  | 0 => ⟨S_, .f32⟩
  | 1 => ⟨S2x512, .f32⟩
  | 2 => ⟨S2x512, .f32⟩
  | 3 => ⟨S2x512, .f32⟩
  | 4 => ⟨S_, .f32⟩
  | 5 => ⟨S2x512, .f32⟩
  | 6 => ⟨S2x512, .f32⟩
  | 7 => ⟨S_, .f32⟩
  | 8 => ⟨S2x1024, .f32⟩
  | 9 => ⟨S2x1024, .f32⟩
  | 10 => ⟨S_, .f32⟩
  | 11 => ⟨S2x1024, .f32⟩
  | 12 => ⟨S2x1024, .f32⟩
  | 13 => ⟨S2x1024, .f32⟩
  | 14 => ⟨S_, .f32⟩
  | 15 => ⟨S2x1024, .f32⟩
  | 16 => ⟨S2x1024, .f32⟩
  | 17 => ⟨S2x1024, .f32⟩
  | 18 => ⟨S_, .f32⟩
  | 19 => ⟨S2x1024, .f32⟩
  | 20 => ⟨S2x1024, .f32⟩
  | 21 => ⟨S2x1024, .f32⟩
  | 22 => ⟨S_, .f32⟩
  | 23 => ⟨S2x1024, .f32⟩
  | 24 => ⟨S2x1024, .f32⟩
  | 25 => ⟨S_, .f32⟩
  | 26 => ⟨S2x1024, .f32⟩
  | 27 => ⟨S2x1024, .f32⟩
  | 28 => ⟨S2x1024, .f32⟩
  | 29 => ⟨S_, .f32⟩
  | 30 => ⟨S2x1024, .f32⟩
  | 31 => ⟨S2x1024, .f32⟩
  | 32 => ⟨S2x1024, .f32⟩
  | 33 => ⟨S_, .f32⟩
  | 34 => ⟨S2x1024, .f32⟩
  | 35 => ⟨S2x1024, .f32⟩
  | 36 => ⟨S2x1024, .f32⟩
  | 37 => ⟨S_, .f32⟩
  | 38 => ⟨S2x1024, .f32⟩
  | 39 => ⟨S2x1024, .f32⟩
  | _ => ⟨S2x1024, .f32⟩

abbrev hbmTy (i : Nat) : BufTy := match i / 128 with
  | 0 => hbmTy0_0 i
  | 1 => hbmTy0_1 i
  | 2 => hbmTy0_2 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩

abbrev nD : Nat := 1
abbrev τ : Topo := Topo.v7x

variable {F : FTy → Type} [FloatOps F]
-- ==== Kernel11.lean ====
abbrev S2x1024x704 : Shape := ⟨3, ![2, 1024, 704]⟩
abbrev S352x1024 : Shape := ⟨2, ![352, 1024]⟩
abbrev S1 : Shape := ⟨1, ![1]⟩
abbrev S2x704x1024 : Shape := ⟨3, ![2, 704, 1024]⟩
abbrev S1408x1024 : Shape := ⟨2, ![1408, 1024]⟩

abbrev nBuf : Space → Nat
  | .hbm => 25
  | .vmem => 18
  | .smem => 1
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S2x704x1024, .f32⟩
  | .hbm, ⟨8, _⟩ => ⟨S1408x1024, .f32⟩
  | .hbm, ⟨9, _⟩ => ⟨S2x704x1024, .f32⟩
  | .hbm, ⟨10, _⟩ => ⟨S1408x1024, .f32⟩
  | .hbm, ⟨11, _⟩ => ⟨S2x704x1024, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S1408x1024, .f32⟩
  | .hbm, ⟨16, _⟩ => ⟨S1408x1024, .f32⟩
  | .hbm, ⟨17, _⟩ => ⟨S2x704x1024, .f32⟩
  | .hbm, ⟨18, _⟩ => ⟨S2x704x1024, .f32⟩
  | .hbm, ⟨19, _⟩ => ⟨S2x704x1024, .f32⟩
  | .hbm, ⟨20, _⟩ => ⟨S2x704x1024, .f32⟩
  | .hbm, ⟨21, _⟩ => ⟨S2x1024x704, .f32⟩
  | .hbm, ⟨22, _⟩ => ⟨S2x1024x704, .f32⟩
  | .hbm, ⟨23, _⟩ => ⟨S2x1024x704, .f32⟩
  | .hbm, ⟨24, _⟩ => ⟨S2x1024x704, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | .local _ .smem, ⟨0, _⟩ => ⟨S1, .i32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_arg7 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S352x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel11Ideal.lean ====
abbrev S2x1024x704 : Shape := ⟨3, ![2, 1024, 704]⟩
abbrev S352x1024 : Shape := ⟨2, ![352, 1024]⟩
abbrev S1 : Shape := ⟨1, ![1]⟩
abbrev S2x704x1024 : Shape := ⟨3, ![2, 704, 1024]⟩
abbrev S1408x1024 : Shape := ⟨2, ![1408, 1024]⟩

abbrev nBuf : Space → Nat
  | .hbm => 25
  | .vmem => 18
  | .smem => 1
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S2x704x1024, .f32⟩
  | .hbm, ⟨8, _⟩ => ⟨S1408x1024, .f32⟩
  | .hbm, ⟨9, _⟩ => ⟨S2x704x1024, .f32⟩
  | .hbm, ⟨10, _⟩ => ⟨S1408x1024, .f32⟩
  | .hbm, ⟨11, _⟩ => ⟨S2x704x1024, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S1408x1024, .f32⟩
  | .hbm, ⟨16, _⟩ => ⟨S1408x1024, .f32⟩
  | .hbm, ⟨17, _⟩ => ⟨S2x704x1024, .f32⟩
  | .hbm, ⟨18, _⟩ => ⟨S2x704x1024, .f32⟩
  | .hbm, ⟨19, _⟩ => ⟨S2x704x1024, .f32⟩
  | .hbm, ⟨20, _⟩ => ⟨S2x704x1024, .f32⟩
  | .hbm, ⟨21, _⟩ => ⟨S2x1024x704, .f32⟩
  | .hbm, ⟨22, _⟩ => ⟨S2x1024x704, .f32⟩
  | .hbm, ⟨23, _⟩ => ⟨S2x1024x704, .f32⟩
  | .hbm, ⟨24, _⟩ => ⟨S2x1024x704, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | .local _ .smem, ⟨0, _⟩ => ⟨S1, .i32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_arg7 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S352x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference11Ideal.lean ====
abbrev S2x1024x704 : Shape := ⟨3, ![2, 1024, 704]⟩
abbrev S352x1024 : Shape := ⟨2, ![352, 1024]⟩
abbrev S1 : Shape := ⟨1, ![1]⟩
abbrev S_ : Shape := ⟨0, ![]⟩
abbrev S704x1024 : Shape := ⟨2, ![704, 1024]⟩
abbrev S1x704x1024 : Shape := ⟨3, ![1, 704, 1024]⟩
abbrev S2x704x1024 : Shape := ⟨3, ![2, 704, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S352x1024, .f32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S352x1024, .f32⟩
  | .hbm, ⟨16, _⟩ => ⟨S704x1024, .f32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S352x1024, .f32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S352x1024, .f32⟩
  | .hbm, ⟨25, _⟩ => ⟨S704x1024, .f32⟩
  | .hbm, ⟨26, _⟩ => ⟨S1x704x1024, .f32⟩
  | .hbm, ⟨27, _⟩ => ⟨S1x704x1024, .f32⟩
  | .hbm, ⟨28, _⟩ => ⟨S2x704x1024, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S_, .f32⟩
  | .hbm, ⟨34, _⟩ => ⟨S2x1024x704, .f32⟩
  | .hbm, ⟨35, _⟩ => ⟨S2x1024x704, .f32⟩
  | .hbm, ⟨36, _⟩ => ⟨S2x1024x704, .f32⟩
  | .hbm, ⟨37, _⟩ => ⟨S_, .f32⟩
  | .hbm, ⟨38, _⟩ => ⟨S2x1024x704, .f32⟩
  | .hbm, ⟨39, _⟩ => ⟨S2x1024x704, .f32⟩
  | .hbm, ⟨40, _⟩ => ⟨S2x1024x704, .f32⟩
  | .hbm, ⟨41, _⟩ => ⟨S_, .f32⟩
  | .hbm, ⟨42, _⟩ => ⟨S2x1024x704, .f32⟩
  | .hbm, ⟨43, _⟩ => ⟨S2x1024x704, .f32⟩
  | .hbm, ⟨44, _⟩ => ⟨S2x1024x704, .f32⟩
  | .hbm, ⟨45, _⟩ => ⟨S_, .f32⟩
  | .hbm, ⟨46, _⟩ => ⟨S2x1024x704, .f32⟩
  | .hbm, ⟨47, _⟩ => ⟨S2x1024x704, .f32⟩
  | .hbm, ⟨48, _⟩ => ⟨S_, .f32⟩
  | .hbm, ⟨49, _⟩ => ⟨S2x1024x704, .f32⟩
  | .hbm, ⟨50, _⟩ => ⟨S2x1024x704, .f32⟩
  | .hbm, ⟨51, _⟩ => ⟨S2x1024x704, .f32⟩
  | .hbm, ⟨52, _⟩ => ⟨S_, .f32⟩
  | .hbm, ⟨53, _⟩ => ⟨S2x1024x704, .f32⟩
  | .hbm, ⟨54, _⟩ => ⟨S2x1024x704, .f32⟩
  | .hbm, ⟨55, _⟩ => ⟨S2x1024x704, .f32⟩
  | .hbm, ⟨56, _⟩ => ⟨S_, .f32⟩
  | .hbm, ⟨57, _⟩ => ⟨S2x1024x704, .f32⟩
  | .hbm, ⟨58, _⟩ => ⟨S2x1024x704, .f32⟩
  | .hbm, ⟨59, _⟩ => ⟨S2x1024x704, .f32⟩
  | .hbm, ⟨60, _⟩ => ⟨S_, .f32⟩
  | .hbm, ⟨61, _⟩ => ⟨S2x1024x704, .f32⟩
  | .hbm, ⟨62, _⟩ => ⟨S2x1024x704, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Kernel12.lean ====
abbrev S2x704x1024 : Shape := ⟨3, ![2, 704, 1024]⟩
abbrev S352x1024 : Shape := ⟨2, ![352, 1024]⟩
abbrev S1 : Shape := ⟨1, ![1]⟩
abbrev S1408x1024 : Shape := ⟨2, ![1408, 1024]⟩

abbrev nBuf : Space → Nat
  | .hbm => 18
  | .vmem => 18
  | .smem => 1
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S1408x1024, .f32⟩
  | .hbm, ⟨14, _⟩ => ⟨S2x704x1024, .f32⟩
  | .hbm, ⟨15, _⟩ => ⟨S2x704x1024, .f32⟩
  | .hbm, ⟨16, _⟩ => ⟨S2x704x1024, .f32⟩
  | .hbm, ⟨17, _⟩ => ⟨S2x704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | .local _ .smem, ⟨0, _⟩ => ⟨S1, .i32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_arg7 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S352x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel12Ideal.lean ====
abbrev S2x704x1024 : Shape := ⟨3, ![2, 704, 1024]⟩
abbrev S352x1024 : Shape := ⟨2, ![352, 1024]⟩
abbrev S1 : Shape := ⟨1, ![1]⟩
abbrev S1408x1024 : Shape := ⟨2, ![1408, 1024]⟩

abbrev nBuf : Space → Nat
  | .hbm => 18
  | .vmem => 18
  | .smem => 1
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S1408x1024, .f32⟩
  | .hbm, ⟨14, _⟩ => ⟨S2x704x1024, .f32⟩
  | .hbm, ⟨15, _⟩ => ⟨S2x704x1024, .f32⟩
  | .hbm, ⟨16, _⟩ => ⟨S2x704x1024, .f32⟩
  | .hbm, ⟨17, _⟩ => ⟨S2x704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | .local _ .smem, ⟨0, _⟩ => ⟨S1, .i32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_arg7 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S352x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference12Ideal.lean ====
abbrev S2x704x1024 : Shape := ⟨3, ![2, 704, 1024]⟩
abbrev S352x1024 : Shape := ⟨2, ![352, 1024]⟩
abbrev S1 : Shape := ⟨1, ![1]⟩
abbrev S_ : Shape := ⟨0, ![]⟩
abbrev S704x1024 : Shape := ⟨2, ![704, 1024]⟩
abbrev S1x704x1024 : Shape := ⟨3, ![1, 704, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S352x1024, .f32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S352x1024, .f32⟩
  | .hbm, ⟨16, _⟩ => ⟨S704x1024, .f32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S352x1024, .f32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S352x1024, .f32⟩
  | .hbm, ⟨25, _⟩ => ⟨S704x1024, .f32⟩
  | .hbm, ⟨26, _⟩ => ⟨S1x704x1024, .f32⟩
  | .hbm, ⟨27, _⟩ => ⟨S1x704x1024, .f32⟩
  | .hbm, ⟨28, _⟩ => ⟨S2x704x1024, .f32⟩
  | .hbm, ⟨29, _⟩ => ⟨S_, .f32⟩
  | .hbm, ⟨30, _⟩ => ⟨S2x704x1024, .f32⟩
  | .hbm, ⟨31, _⟩ => ⟨S2x704x1024, .f32⟩
  | .hbm, ⟨32, _⟩ => ⟨S_, .f32⟩
  | .hbm, ⟨33, _⟩ => ⟨S2x704x1024, .f32⟩
  | .hbm, ⟨34, _⟩ => ⟨S2x704x1024, .f32⟩
  | .hbm, ⟨35, _⟩ => ⟨S2x704x1024, .f32⟩
  | .hbm, ⟨36, _⟩ => ⟨S_, .f32⟩
  | .hbm, ⟨37, _⟩ => ⟨S2x704x1024, .f32⟩
  | .hbm, ⟨38, _⟩ => ⟨S2x704x1024, .f32⟩
  | .hbm, ⟨39, _⟩ => ⟨S2x704x1024, .f32⟩
  | .hbm, ⟨40, _⟩ => ⟨S_, .f32⟩
  | .hbm, ⟨41, _⟩ => ⟨S2x704x1024, .f32⟩
  | .hbm, ⟨42, _⟩ => ⟨S2x704x1024, .f32⟩
  | .hbm, ⟨43, _⟩ => ⟨S2x704x1024, .f32⟩
  | .hbm, ⟨44, _⟩ => ⟨S_, .f32⟩
  | .hbm, ⟨45, _⟩ => ⟨S2x704x1024, .f32⟩
  | .hbm, ⟨46, _⟩ => ⟨S2x704x1024, .f32⟩
  | .hbm, ⟨47, _⟩ => ⟨S_, .f32⟩
  | .hbm, ⟨48, _⟩ => ⟨S2x704x1024, .f32⟩
  | .hbm, ⟨49, _⟩ => ⟨S2x704x1024, .f32⟩
  | .hbm, ⟨50, _⟩ => ⟨S2x704x1024, .f32⟩
  | .hbm, ⟨51, _⟩ => ⟨S_, .f32⟩
  | .hbm, ⟨52, _⟩ => ⟨S2x704x1024, .f32⟩
  | .hbm, ⟨53, _⟩ => ⟨S2x704x1024, .f32⟩
  | .hbm, ⟨54, _⟩ => ⟨S2x704x1024, .f32⟩
  | .hbm, ⟨55, _⟩ => ⟨S_, .f32⟩
  | .hbm, ⟨56, _⟩ => ⟨S2x704x1024, .f32⟩
  | .hbm, ⟨57, _⟩ => ⟨S2x704x1024, .f32⟩
  | .hbm, ⟨58, _⟩ => ⟨S2x704x1024, .f32⟩
  | .hbm, ⟨59, _⟩ => ⟨S_, .f32⟩
  | .hbm, ⟨60, _⟩ => ⟨S2x704x1024, .f32⟩
  | .hbm, ⟨61, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Kernel13.lean ====
abbrev S2x1024x576 : Shape := ⟨3, ![2, 1024, 576]⟩
abbrev S288x1024 : Shape := ⟨2, ![288, 1024]⟩
abbrev S1 : Shape := ⟨1, ![1]⟩
abbrev S2x576x1024 : Shape := ⟨3, ![2, 576, 1024]⟩
abbrev S1152x1024 : Shape := ⟨2, ![1152, 1024]⟩

abbrev nBuf : Space → Nat
  | .hbm => 25
  | .vmem => 18
  | .smem => 1
  | _ => 0

abbrev bufTy : (tb : Table) → Fin (tcTables nBuf tb) → BufTy
  | .hbm, ⟨0, _⟩ => ⟨S2x1024x576, .f32⟩
  | .hbm, ⟨1, _⟩ => ⟨S2x1024x576, .f32⟩
  | .hbm, ⟨2, _⟩ => ⟨S2x1024x576, .f32⟩
  | .hbm, ⟨3, _⟩ => ⟨S288x1024, .f32⟩
  | .hbm, ⟨4, _⟩ => ⟨S288x1024, .f32⟩
  | .hbm, ⟨5, _⟩ => ⟨S288x1024, .f32⟩
  | .hbm, ⟨6, _⟩ => ⟨S288x1024, .f32⟩
  | .hbm, ⟨7, _⟩ => ⟨S2x576x1024, .f32⟩
  | .hbm, ⟨8, _⟩ => ⟨S1152x1024, .f32⟩
  | .hbm, ⟨9, _⟩ => ⟨S2x576x1024, .f32⟩
  | .hbm, ⟨10, _⟩ => ⟨S1152x1024, .f32⟩
  | .hbm, ⟨11, _⟩ => ⟨S2x576x1024, .f32⟩
  | .hbm, ⟨12, _⟩ => ⟨S1152x1024, .f32⟩
  | .hbm, ⟨13, _⟩ => ⟨S1152x1024, .f32⟩
  | .hbm, ⟨14, _⟩ => ⟨S1152x1024, .f32⟩
  | .hbm, ⟨15, _⟩ => ⟨S1152x1024, .f32⟩
  | .hbm, ⟨16, _⟩ => ⟨S1152x1024, .f32⟩
  | .hbm, ⟨17, _⟩ => ⟨S2x576x1024, .f32⟩
  | .hbm, ⟨18, _⟩ => ⟨S2x576x1024, .f32⟩
  | .hbm, ⟨19, _⟩ => ⟨S2x576x1024, .f32⟩
  | .hbm, ⟨20, _⟩ => ⟨S2x576x1024, .f32⟩
  | .hbm, ⟨21, _⟩ => ⟨S2x1024x576, .f32⟩
  | .hbm, ⟨22, _⟩ => ⟨S2x1024x576, .f32⟩
  | .hbm, ⟨23, _⟩ => ⟨S2x1024x576, .f32⟩
  | .hbm, ⟨24, _⟩ => ⟨S2x1024x576, .f32⟩
  | .local _ .vmem, ⟨0, _⟩ => ⟨S288x1024, .f32⟩
  | .local _ .vmem, ⟨1, _⟩ => ⟨S288x1024, .f32⟩
  | .local _ .vmem, ⟨2, _⟩ => ⟨S288x1024, .f32⟩
  | .local _ .vmem, ⟨3, _⟩ => ⟨S288x1024, .f32⟩
  | .local _ .vmem, ⟨4, _⟩ => ⟨S288x1024, .f32⟩
  | .local _ .vmem, ⟨5, _⟩ => ⟨S288x1024, .f32⟩
  | .local _ .vmem, ⟨6, _⟩ => ⟨S288x1024, .f32⟩
  | .local _ .vmem, ⟨7, _⟩ => ⟨S288x1024, .f32⟩
  | .local _ .vmem, ⟨8, _⟩ => ⟨S288x1024, .f32⟩
  | .local _ .vmem, ⟨9, _⟩ => ⟨S288x1024, .f32⟩
  | .local _ .vmem, ⟨10, _⟩ => ⟨S288x1024, .f32⟩
  | .local _ .vmem, ⟨11, _⟩ => ⟨S288x1024, .f32⟩
  | .local _ .vmem, ⟨12, _⟩ => ⟨S288x1024, .f32⟩
  | .local _ .vmem, ⟨13, _⟩ => ⟨S288x1024, .f32⟩
  | .local _ .vmem, ⟨14, _⟩ => ⟨S288x1024, .f32⟩
  | .local _ .vmem, ⟨15, _⟩ => ⟨S288x1024, .f32⟩
  | .local _ .vmem, ⟨16, _⟩ => ⟨S288x1024, .f32⟩
  | .local _ .vmem, ⟨17, _⟩ => ⟨S288x1024, .f32⟩
  | .local _ .smem, ⟨0, _⟩ => ⟨S1, .i32⟩
  | _, _ => ⟨S2x1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_arg7 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S288x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S288x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S288x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S288x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S288x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S288x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S288x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S288x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S288x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S288x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S288x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel13Ideal.lean ====
abbrev S2x1024x576 : Shape := ⟨3, ![2, 1024, 576]⟩
abbrev S288x1024 : Shape := ⟨2, ![288, 1024]⟩
abbrev S1 : Shape := ⟨1, ![1]⟩
abbrev S2x576x1024 : Shape := ⟨3, ![2, 576, 1024]⟩
abbrev S1152x1024 : Shape := ⟨2, ![1152, 1024]⟩

abbrev nBuf : Space → Nat
  | .hbm => 25
  | .vmem => 18
  | .smem => 1
  | _ => 0

abbrev bufTy : (tb : Table) → Fin (tcTables nBuf tb) → BufTy
  | .hbm, ⟨0, _⟩ => ⟨S2x1024x576, .f32⟩
  | .hbm, ⟨1, _⟩ => ⟨S2x1024x576, .f32⟩
  | .hbm, ⟨2, _⟩ => ⟨S2x1024x576, .f32⟩
  | .hbm, ⟨3, _⟩ => ⟨S288x1024, .f32⟩
  | .hbm, ⟨4, _⟩ => ⟨S288x1024, .f32⟩
  | .hbm, ⟨5, _⟩ => ⟨S288x1024, .f32⟩
  | .hbm, ⟨6, _⟩ => ⟨S288x1024, .f32⟩
  | .hbm, ⟨7, _⟩ => ⟨S2x576x1024, .f32⟩
  | .hbm, ⟨8, _⟩ => ⟨S1152x1024, .f32⟩
  | .hbm, ⟨9, _⟩ => ⟨S2x576x1024, .f32⟩
  | .hbm, ⟨10, _⟩ => ⟨S1152x1024, .f32⟩
  | .hbm, ⟨11, _⟩ => ⟨S2x576x1024, .f32⟩
  | .hbm, ⟨12, _⟩ => ⟨S1152x1024, .f32⟩
  | .hbm, ⟨13, _⟩ => ⟨S1152x1024, .f32⟩
  | .hbm, ⟨14, _⟩ => ⟨S1152x1024, .f32⟩
  | .hbm, ⟨15, _⟩ => ⟨S1152x1024, .f32⟩
  | .hbm, ⟨16, _⟩ => ⟨S1152x1024, .f32⟩
  | .hbm, ⟨17, _⟩ => ⟨S2x576x1024, .f32⟩
  | .hbm, ⟨18, _⟩ => ⟨S2x576x1024, .f32⟩
  | .hbm, ⟨19, _⟩ => ⟨S2x576x1024, .f32⟩
  | .hbm, ⟨20, _⟩ => ⟨S2x576x1024, .f32⟩
  | .hbm, ⟨21, _⟩ => ⟨S2x1024x576, .f32⟩
  | .hbm, ⟨22, _⟩ => ⟨S2x1024x576, .f32⟩
  | .hbm, ⟨23, _⟩ => ⟨S2x1024x576, .f32⟩
  | .hbm, ⟨24, _⟩ => ⟨S2x1024x576, .f32⟩
  | .local _ .vmem, ⟨0, _⟩ => ⟨S288x1024, .f32⟩
  | .local _ .vmem, ⟨1, _⟩ => ⟨S288x1024, .f32⟩
  | .local _ .vmem, ⟨2, _⟩ => ⟨S288x1024, .f32⟩
  | .local _ .vmem, ⟨3, _⟩ => ⟨S288x1024, .f32⟩
  | .local _ .vmem, ⟨4, _⟩ => ⟨S288x1024, .f32⟩
  | .local _ .vmem, ⟨5, _⟩ => ⟨S288x1024, .f32⟩
  | .local _ .vmem, ⟨6, _⟩ => ⟨S288x1024, .f32⟩
  | .local _ .vmem, ⟨7, _⟩ => ⟨S288x1024, .f32⟩
  | .local _ .vmem, ⟨8, _⟩ => ⟨S288x1024, .f32⟩
  | .local _ .vmem, ⟨9, _⟩ => ⟨S288x1024, .f32⟩
  | .local _ .vmem, ⟨10, _⟩ => ⟨S288x1024, .f32⟩
  | .local _ .vmem, ⟨11, _⟩ => ⟨S288x1024, .f32⟩
  | .local _ .vmem, ⟨12, _⟩ => ⟨S288x1024, .f32⟩
  | .local _ .vmem, ⟨13, _⟩ => ⟨S288x1024, .f32⟩
  | .local _ .vmem, ⟨14, _⟩ => ⟨S288x1024, .f32⟩
  | .local _ .vmem, ⟨15, _⟩ => ⟨S288x1024, .f32⟩
  | .local _ .vmem, ⟨16, _⟩ => ⟨S288x1024, .f32⟩
  | .local _ .vmem, ⟨17, _⟩ => ⟨S288x1024, .f32⟩
  | .local _ .smem, ⟨0, _⟩ => ⟨S1, .i32⟩
  | _, _ => ⟨S2x1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_arg7 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S288x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S288x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S288x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S288x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S288x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S288x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S288x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S288x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S288x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S288x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S288x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference13Ideal.lean ====
abbrev S2x1024x576 : Shape := ⟨3, ![2, 1024, 576]⟩
abbrev S288x1024 : Shape := ⟨2, ![288, 1024]⟩
abbrev S1 : Shape := ⟨1, ![1]⟩
abbrev S_ : Shape := ⟨0, ![]⟩
abbrev S576x1024 : Shape := ⟨2, ![576, 1024]⟩
abbrev S1x576x1024 : Shape := ⟨3, ![1, 576, 1024]⟩
abbrev S2x576x1024 : Shape := ⟨3, ![2, 576, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2x1024x576, .f32⟩
  | .hbm, ⟨1, _⟩ => ⟨S2x1024x576, .f32⟩
  | .hbm, ⟨2, _⟩ => ⟨S2x1024x576, .f32⟩
  | .hbm, ⟨3, _⟩ => ⟨S288x1024, .f32⟩
  | .hbm, ⟨4, _⟩ => ⟨S288x1024, .f32⟩
  | .hbm, ⟨5, _⟩ => ⟨S288x1024, .f32⟩
  | .hbm, ⟨6, _⟩ => ⟨S288x1024, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S288x1024, .f32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S288x1024, .f32⟩
  | .hbm, ⟨16, _⟩ => ⟨S576x1024, .f32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S288x1024, .f32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S288x1024, .f32⟩
  | .hbm, ⟨25, _⟩ => ⟨S576x1024, .f32⟩
  | .hbm, ⟨26, _⟩ => ⟨S1x576x1024, .f32⟩
  | .hbm, ⟨27, _⟩ => ⟨S1x576x1024, .f32⟩
  | .hbm, ⟨28, _⟩ => ⟨S2x576x1024, .f32⟩
  | .hbm, ⟨29, _⟩ => ⟨S2x1024x576, .f32⟩
  | .hbm, ⟨30, _⟩ => ⟨S_, .f32⟩
  | .hbm, ⟨31, _⟩ => ⟨S2x1024x576, .f32⟩
  | .hbm, ⟨32, _⟩ => ⟨S2x1024x576, .f32⟩
  | .hbm, ⟨33, _⟩ => ⟨S_, .f32⟩
  | .hbm, ⟨34, _⟩ => ⟨S2x1024x576, .f32⟩
  | .hbm, ⟨35, _⟩ => ⟨S2x1024x576, .f32⟩
  | .hbm, ⟨36, _⟩ => ⟨S2x1024x576, .f32⟩
  | .hbm, ⟨37, _⟩ => ⟨S_, .f32⟩
  | .hbm, ⟨38, _⟩ => ⟨S2x1024x576, .f32⟩
  | .hbm, ⟨39, _⟩ => ⟨S2x1024x576, .f32⟩
  | .hbm, ⟨40, _⟩ => ⟨S2x1024x576, .f32⟩
  | .hbm, ⟨41, _⟩ => ⟨S_, .f32⟩
  | .hbm, ⟨42, _⟩ => ⟨S2x1024x576, .f32⟩
  | .hbm, ⟨43, _⟩ => ⟨S2x1024x576, .f32⟩
  | .hbm, ⟨44, _⟩ => ⟨S2x1024x576, .f32⟩
  | .hbm, ⟨45, _⟩ => ⟨S_, .f32⟩
  | .hbm, ⟨46, _⟩ => ⟨S2x1024x576, .f32⟩
  | .hbm, ⟨47, _⟩ => ⟨S2x1024x576, .f32⟩
  | .hbm, ⟨48, _⟩ => ⟨S_, .f32⟩
  | .hbm, ⟨49, _⟩ => ⟨S2x1024x576, .f32⟩
  | .hbm, ⟨50, _⟩ => ⟨S2x1024x576, .f32⟩
  | .hbm, ⟨51, _⟩ => ⟨S2x1024x576, .f32⟩
  | .hbm, ⟨52, _⟩ => ⟨S_, .f32⟩
  | .hbm, ⟨53, _⟩ => ⟨S2x1024x576, .f32⟩
  | .hbm, ⟨54, _⟩ => ⟨S2x1024x576, .f32⟩
  | .hbm, ⟨55, _⟩ => ⟨S2x1024x576, .f32⟩
  | .hbm, ⟨56, _⟩ => ⟨S_, .f32⟩
  | .hbm, ⟨57, _⟩ => ⟨S2x1024x576, .f32⟩
  | .hbm, ⟨58, _⟩ => ⟨S2x1024x576, .f32⟩
  | .hbm, ⟨59, _⟩ => ⟨S2x1024x576, .f32⟩
  | .hbm, ⟨60, _⟩ => ⟨S_, .f32⟩
  | .hbm, ⟨61, _⟩ => ⟨S2x1024x576, .f32⟩
  | .hbm, ⟨62, _⟩ => ⟨S2x1024x576, .f32⟩
  | _, _ => ⟨S2x1024x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Kernel14.lean ====
abbrev S2x256x1024 : Shape := ⟨3, ![2, 256, 1024]⟩
abbrev S128x1024 : Shape := ⟨2, ![128, 1024]⟩
abbrev S1 : Shape := ⟨1, ![1]⟩
abbrev S512x1024 : Shape := ⟨2, ![512, 1024]⟩

abbrev nBuf : Space → Nat
  | .hbm => 18
  | .vmem => 18
  | .smem => 1
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S2x256x1024, .f32⟩
  | .hbm, ⟨15, _⟩ => ⟨S2x256x1024, .f32⟩
  | .hbm, ⟨16, _⟩ => ⟨S2x256x1024, .f32⟩
  | .hbm, ⟨17, _⟩ => ⟨S2x256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .smem, ⟨0, _⟩ => ⟨S1, .i32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_arg7 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel14Ideal.lean ====
abbrev S2x256x1024 : Shape := ⟨3, ![2, 256, 1024]⟩
abbrev S128x1024 : Shape := ⟨2, ![128, 1024]⟩
abbrev S1 : Shape := ⟨1, ![1]⟩
abbrev S512x1024 : Shape := ⟨2, ![512, 1024]⟩

abbrev nBuf : Space → Nat
  | .hbm => 18
  | .vmem => 18
  | .smem => 1
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S2x256x1024, .f32⟩
  | .hbm, ⟨15, _⟩ => ⟨S2x256x1024, .f32⟩
  | .hbm, ⟨16, _⟩ => ⟨S2x256x1024, .f32⟩
  | .hbm, ⟨17, _⟩ => ⟨S2x256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .smem, ⟨0, _⟩ => ⟨S1, .i32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_arg7 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference14Ideal.lean ====
abbrev S2x256x1024 : Shape := ⟨3, ![2, 256, 1024]⟩
abbrev S128x1024 : Shape := ⟨2, ![128, 1024]⟩
abbrev S1 : Shape := ⟨1, ![1]⟩
abbrev S_ : Shape := ⟨0, ![]⟩
abbrev S256x1024 : Shape := ⟨2, ![256, 1024]⟩
abbrev S1x256x1024 : Shape := ⟨3, ![1, 256, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S128x1024, .f32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S128x1024, .f32⟩
  | .hbm, ⟨16, _⟩ => ⟨S256x1024, .f32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S128x1024, .f32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S128x1024, .f32⟩
  | .hbm, ⟨25, _⟩ => ⟨S256x1024, .f32⟩
  | .hbm, ⟨26, _⟩ => ⟨S1x256x1024, .f32⟩
  | .hbm, ⟨27, _⟩ => ⟨S1x256x1024, .f32⟩
  | .hbm, ⟨28, _⟩ => ⟨S2x256x1024, .f32⟩
  | .hbm, ⟨29, _⟩ => ⟨S_, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | .hbm, ⟨39, _⟩ => ⟨S2x256x1024, .f32⟩
  | .hbm, ⟨40, _⟩ => ⟨S_, .f32⟩
  | .hbm, ⟨41, _⟩ => ⟨S2x256x1024, .f32⟩
  | .hbm, ⟨42, _⟩ => ⟨S2x256x1024, .f32⟩
  | .hbm, ⟨43, _⟩ => ⟨S2x256x1024, .f32⟩
  | .hbm, ⟨44, _⟩ => ⟨S_, .f32⟩
  | .hbm, ⟨45, _⟩ => ⟨S2x256x1024, .f32⟩
  | .hbm, ⟨46, _⟩ => ⟨S2x256x1024, .f32⟩
  | .hbm, ⟨47, _⟩ => ⟨S_, .f32⟩
  | .hbm, ⟨48, _⟩ => ⟨S2x256x1024, .f32⟩
  | .hbm, ⟨49, _⟩ => ⟨S2x256x1024, .f32⟩
  | .hbm, ⟨50, _⟩ => ⟨S2x256x1024, .f32⟩
  | .hbm, ⟨51, _⟩ => ⟨S_, .f32⟩
  | .hbm, ⟨52, _⟩ => ⟨S2x256x1024, .f32⟩
  | .hbm, ⟨53, _⟩ => ⟨S2x256x1024, .f32⟩
  | .hbm, ⟨54, _⟩ => ⟨S2x256x1024, .f32⟩
  | .hbm, ⟨55, _⟩ => ⟨S_, .f32⟩
  | .hbm, ⟨56, _⟩ => ⟨S2x256x1024, .f32⟩
  | .hbm, ⟨57, _⟩ => ⟨S2x256x1024, .f32⟩
  | .hbm, ⟨58, _⟩ => ⟨S2x256x1024, .f32⟩
  | .hbm, ⟨59, _⟩ => ⟨S_, .f32⟩
  | .hbm, ⟨60, _⟩ => ⟨S2x256x1024, .f32⟩
  | .hbm, ⟨61, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Kernel15.lean ====
abbrev S4x352x1024 : Shape := ⟨3, ![4, 352, 1024]⟩
abbrev S352x1024 : Shape := ⟨2, ![352, 1024]⟩
abbrev S1 : Shape := ⟨1, ![1]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 9
  | .vmem => 18
  | .smem => 1
  | _ => 0

abbrev bufTy : (tb : Table) → Fin (tcTables nBuf tb) → BufTy
  | .hbm, ⟨0, _⟩ => ⟨S4x352x1024, .bf16⟩
  | .hbm, ⟨1, _⟩ => ⟨S4x352x1024, .bf16⟩
  | .hbm, ⟨2, _⟩ => ⟨S4x352x1024, .bf16⟩
  | .hbm, ⟨3, _⟩ => ⟨S352x1024, .bf16⟩
  | .hbm, ⟨4, _⟩ => ⟨S352x1024, .bf16⟩
  | .hbm, ⟨5, _⟩ => ⟨S352x1024, .bf16⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S4x176x1024, .bf16⟩
  | .local _ .vmem, ⟨3, _⟩ => ⟨S4x176x1024, .bf16⟩
  | .local _ .vmem, ⟨4, _⟩ => ⟨S4x176x1024, .bf16⟩
  | .local _ .vmem, ⟨5, _⟩ => ⟨S4x176x1024, .bf16⟩
  | .local _ .vmem, ⟨6, _⟩ => ⟨S176x1024, .bf16⟩
  | .local _ .vmem, ⟨7, _⟩ => ⟨S176x1024, .bf16⟩
  | .local _ .vmem, ⟨8, _⟩ => ⟨S176x1024, .bf16⟩
  | .local _ .vmem, ⟨9, _⟩ => ⟨S176x1024, .bf16⟩
  | .local _ .vmem, ⟨10, _⟩ => ⟨S176x1024, .bf16⟩
  | .local _ .vmem, ⟨11, _⟩ => ⟨S176x1024, .bf16⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S1, .i32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel15Ideal.lean ====
abbrev S4x352x1024 : Shape := ⟨3, ![4, 352, 1024]⟩
abbrev S352x1024 : Shape := ⟨2, ![352, 1024]⟩
abbrev S1 : Shape := ⟨1, ![1]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 9
  | .vmem => 18
  | .smem => 1
  | _ => 0

abbrev bufTy : (tb : Table) → Fin (tcTables nBuf tb) → BufTy
  | .hbm, ⟨0, _⟩ => ⟨S4x352x1024, .bf16⟩
  | .hbm, ⟨1, _⟩ => ⟨S4x352x1024, .bf16⟩
  | .hbm, ⟨2, _⟩ => ⟨S4x352x1024, .bf16⟩
  | .hbm, ⟨3, _⟩ => ⟨S352x1024, .bf16⟩
  | .hbm, ⟨4, _⟩ => ⟨S352x1024, .bf16⟩
  | .hbm, ⟨5, _⟩ => ⟨S352x1024, .bf16⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S4x176x1024, .bf16⟩
  | .local _ .vmem, ⟨3, _⟩ => ⟨S4x176x1024, .bf16⟩
  | .local _ .vmem, ⟨4, _⟩ => ⟨S4x176x1024, .bf16⟩
  | .local _ .vmem, ⟨5, _⟩ => ⟨S4x176x1024, .bf16⟩
  | .local _ .vmem, ⟨6, _⟩ => ⟨S176x1024, .bf16⟩
  | .local _ .vmem, ⟨7, _⟩ => ⟨S176x1024, .bf16⟩
  | .local _ .vmem, ⟨8, _⟩ => ⟨S176x1024, .bf16⟩
  | .local _ .vmem, ⟨9, _⟩ => ⟨S176x1024, .bf16⟩
  | .local _ .vmem, ⟨10, _⟩ => ⟨S176x1024, .bf16⟩
  | .local _ .vmem, ⟨11, _⟩ => ⟨S176x1024, .bf16⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S1, .i32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S4x352x1024 : Shape := ⟨3, ![4, 352, 1024]⟩
abbrev S352x1024 : Shape := ⟨2, ![352, 1024]⟩
abbrev S1 : Shape := ⟨1, ![1]⟩
abbrev S_ : Shape := ⟨0, ![]⟩
abbrev S4 : Shape := ⟨1, ![4]⟩
abbrev S4x1x1 : Shape := ⟨3, ![4, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S4x352x1024, .bf16⟩
  | .hbm, ⟨2, _⟩ => ⟨S4x352x1024, .bf16⟩
  | .hbm, ⟨3, _⟩ => ⟨S352x1024, .bf16⟩
  | .hbm, ⟨4, _⟩ => ⟨S352x1024, .bf16⟩
  | .hbm, ⟨5, _⟩ => ⟨S352x1024, .bf16⟩
  | .hbm, ⟨6, _⟩ => ⟨S1, .i32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S4, .i1⟩
  | .hbm, ⟨11, _⟩ => ⟨S4x1x1, .i1⟩
  | .hbm, ⟨12, _⟩ => ⟨S4x352x1024, .i1⟩
  | .hbm, ⟨13, _⟩ => ⟨S4x352x1024, .bf16⟩
  | .hbm, ⟨14, _⟩ => ⟨S4x352x1024, .bf16⟩
  | .hbm, ⟨15, _⟩ => ⟨S4x352x1024, .f32⟩
  | .hbm, ⟨16, _⟩ => ⟨S_, .f32⟩
  | .hbm, ⟨17, _⟩ => ⟨S352x1024, .f32⟩
  | .hbm, ⟨18, _⟩ => ⟨S4x352x1024, .i1⟩
  | .hbm, ⟨19, _⟩ => ⟨S4x352x1024, .bf16⟩
  | .hbm, ⟨20, _⟩ => ⟨S4x352x1024, .bf16⟩
  | .hbm, ⟨21, _⟩ => ⟨S4x352x1024, .f32⟩
  | .hbm, ⟨22, _⟩ => ⟨S_, .f32⟩
  | .hbm, ⟨23, _⟩ => ⟨S352x1024, .f32⟩
  | .hbm, ⟨24, _⟩ => ⟨S4x352x1024, .i1⟩
  | .hbm, ⟨25, _⟩ => ⟨S4x352x1024, .bf16⟩
  | .hbm, ⟨26, _⟩ => ⟨S4x352x1024, .bf16⟩
  | .hbm, ⟨27, _⟩ => ⟨S4x352x1024, .f32⟩
  | .hbm, ⟨28, _⟩ => ⟨S_, .f32⟩
  | .hbm, ⟨29, _⟩ => ⟨S352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_call1_v0 : Ref sig .tc := ⟨.hbm, 18, rfl⟩
abbrev main_call1_v1 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_call2_v0 : Ref sig .tc := ⟨.hbm, 24, rfl⟩
abbrev main_call2_v1 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩

abbrev nD : Nat := 1
abbrev τ : Topo := Topo.v7x

variable {F : FTy → Type} [FloatOps F]
-- ==== Kernel16.lean ====
abbrev S4x288x1024 : Shape := ⟨3, ![4, 288, 1024]⟩
abbrev S4x128x1024 : Shape := ⟨3, ![4, 128, 1024]⟩
abbrev S288x1024 : Shape := ⟨2, ![288, 1024]⟩
abbrev S128x1024 : Shape := ⟨2, ![128, 1024]⟩
abbrev S1 : Shape := ⟨1, ![1]⟩
abbrev S4x144x1024 : Shape := ⟨3, ![4, 144, 1024]⟩
abbrev S4x64x1024 : Shape := ⟨3, ![4, 64, 1024]⟩
abbrev S144x1024 : Shape := ⟨2, ![144, 1024]⟩
abbrev S64x1024 : Shape := ⟨2, ![64, 1024]⟩
abbrev S1x144x1024 : Shape := ⟨3, ![1, 144, 1024]⟩
abbrev S1x64x1024 : Shape := ⟨3, ![1, 64, 1024]⟩

abbrev nBuf : Space → Nat
  | .hbm => 6
  | .vmem => 12
  | .smem => 1
  | _ => 0

abbrev bufTy : (tb : Table) → Fin (tcTables nBuf tb) → BufTy
  | .hbm, ⟨0, _⟩ => ⟨S4x288x1024, .bf16⟩
  | .hbm, ⟨1, _⟩ => ⟨S4x128x1024, .bf16⟩
  | .hbm, ⟨2, _⟩ => ⟨S288x1024, .bf16⟩
  | .hbm, ⟨3, _⟩ => ⟨S128x1024, .bf16⟩
  | .hbm, ⟨4, _⟩ => ⟨S288x1024, .f32⟩
  | .hbm, ⟨5, _⟩ => ⟨S128x1024, .f32⟩
  | .local _ .vmem, ⟨0, _⟩ => ⟨S4x144x1024, .bf16⟩
  | .local _ .vmem, ⟨1, _⟩ => ⟨S4x144x1024, .bf16⟩
  | .local _ .vmem, ⟨2, _⟩ => ⟨S4x64x1024, .bf16⟩
  | .local _ .vmem, ⟨3, _⟩ => ⟨S4x64x1024, .bf16⟩
  | .local _ .vmem, ⟨4, _⟩ => ⟨S144x1024, .bf16⟩
  | .local _ .vmem, ⟨5, _⟩ => ⟨S144x1024, .bf16⟩
  | .local _ .vmem, ⟨6, _⟩ => ⟨S64x1024, .bf16⟩
  | .local _ .vmem, ⟨7, _⟩ => ⟨S64x1024, .bf16⟩
  | .local _ .vmem, ⟨8, _⟩ => ⟨S144x1024, .f32⟩
  | .local _ .vmem, ⟨9, _⟩ => ⟨S144x1024, .f32⟩
  | .local _ .vmem, ⟨10, _⟩ => ⟨S64x1024, .f32⟩
  | .local _ .vmem, ⟨11, _⟩ => ⟨S64x1024, .f32⟩
  | .local _ .smem, ⟨0, _⟩ => ⟨S1, .i32⟩
  | _, _ => ⟨S4x288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x144x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S144x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S144x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference16Ideal.lean ====
abbrev S4x288x1024 : Shape := ⟨3, ![4, 288, 1024]⟩
abbrev S4x128x1024 : Shape := ⟨3, ![4, 128, 1024]⟩
abbrev S288x1024 : Shape := ⟨2, ![288, 1024]⟩
abbrev S128x1024 : Shape := ⟨2, ![128, 1024]⟩
abbrev S1 : Shape := ⟨1, ![1]⟩
abbrev S_ : Shape := ⟨0, ![]⟩
abbrev S4 : Shape := ⟨1, ![4]⟩
abbrev S4x1x1 : Shape := ⟨3, ![4, 1, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x288x1024, .bf16⟩
  | .hbm, ⟨1, _⟩ => ⟨S4x128x1024, .bf16⟩
  | .hbm, ⟨2, _⟩ => ⟨S288x1024, .bf16⟩
  | .hbm, ⟨3, _⟩ => ⟨S128x1024, .bf16⟩
  | .hbm, ⟨4, _⟩ => ⟨S1, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S4, .i1⟩
  | .hbm, ⟨9, _⟩ => ⟨S4x1x1, .i1⟩
  | .hbm, ⟨10, _⟩ => ⟨S4x288x1024, .i1⟩
  | .hbm, ⟨11, _⟩ => ⟨S4x288x1024, .bf16⟩
  | .hbm, ⟨12, _⟩ => ⟨S4x288x1024, .bf16⟩
  | .hbm, ⟨13, _⟩ => ⟨S4x288x1024, .f32⟩
  | .hbm, ⟨14, _⟩ => ⟨S_, .f32⟩
  | .hbm, ⟨15, _⟩ => ⟨S288x1024, .f32⟩
  | .hbm, ⟨16, _⟩ => ⟨S4x128x1024, .i1⟩
  | .hbm, ⟨17, _⟩ => ⟨S4x128x1024, .bf16⟩
  | .hbm, ⟨18, _⟩ => ⟨S4x128x1024, .bf16⟩
  | .hbm, ⟨19, _⟩ => ⟨S4x128x1024, .f32⟩
  | .hbm, ⟨20, _⟩ => ⟨S_, .f32⟩
  | .hbm, ⟨21, _⟩ => ⟨S128x1024, .f32⟩
  | _, _ => ⟨S4x288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_call1_v0 : Ref sig .tc := ⟨.hbm, 16, rfl⟩
abbrev main_call1_v1 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Proof.Slabs.lean ====
module

public import Idealize.ShloMosaic.Lib.Pointwise
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.StableHlo.ReadAt

@[expose] public section

namespace Cert.Slabs

open Idealize.ShloMosaic

variable {Val : EltTy → Type} {e : EltTy} [∀ e, Nonempty (Val e)]

/-- A store of one slab (first coordinate `q`) of a rank-3 buffer, read at an index: the stored slab where the first
    coordinate is `q`, the earlier stores elsewhere. -/
theorem canon_slab {A B C : ℕ} (q : ℕ) (inb : ∀ a, (![q, 0, 0] : Fin 3 → ℕ) a + (![1, B, C] : Fin 3 → ℕ) a ≤ (⟨3, ![A, B, C]⟩ : Shape).size a)
    (w : (Rect.unit (s := ⟨3, ![A, B, C]⟩) ![q, 0, 0] ![1, B, C] inb).shape.Idx → Val e)
    (L : List (View.Piece Val ⟨3, ![A, B, C]⟩ e)) (s : Fin A) (j : Fin B) (k : Fin C) :
    View.canon ((⟨Rect.unit (s := ⟨3, ![A, B, C]⟩) ![q, 0, 0] ![1, B, C] inb, w⟩ : View.Piece Val ⟨3, ![A, B, C]⟩ e) :: L) (ix3 s j k)
      = if s.val = q then w (ix3 (0 : Fin 1) j k) else View.canon L (ix3 s j k) := by
  split
  · rename_i h
    have e1 : (ix3 s j k : (⟨3, ![A, B, C]⟩ : Shape).Idx)
        = (Rect.unit (s := ⟨3, ![A, B, C]⟩) ![q, 0, 0] ![1, B, C] inb).emb (ix3 (0 : Fin 1) j k) := by
      funext a
      apply Fin.ext
      match a with
      | ⟨0, _⟩ => show s.val = q + 1 * 0; omega
      | ⟨1, _⟩ => show j.val = 0 + 1 * j.val; omega
      | ⟨2, _⟩ => show k.val = 0 + 1 * k.val; omega
    rw [e1, View.canon_cons_emb]
  · rename_i h
    apply View.canon_cons_of_not_mem
    intro hm
    rw [Rect.mem_set_unit] at hm
    have := hm 0
    have h1 : q ≤ s.val := this.1
    have h2 : s.val < q + 1 := this.2
    omega

/-- Where a slab's own index lies in the buffer. -/
theorem slab_idx {A B C : ℕ} (q : ℕ) (inb : ∀ a, (![q, 0, 0] : Fin 3 → ℕ) a + (![1, B, C] : Fin 3 → ℕ) a ≤ (⟨3, ![A, B, C]⟩ : Shape).size a)
    (j : Fin B) (k : Fin C) (s : Fin A) (hs : s.val = q) :
    (Rect.unit (s := ⟨3, ![A, B, C]⟩) ![q, 0, 0] ![1, B, C] inb).idx (ix3 (0 : Fin 1) j k) = ix3 s j k := by
  funext a
  apply Fin.ext
  match a with
  | ⟨0, _⟩ => show q + 1 * 0 = s.val; omega
  | ⟨1, _⟩ => show 0 + 1 * j.val = j.val; omega
  | ⟨2, _⟩ => show 0 + 1 * k.val = k.val; omega

/-- A load of one slab, read at an index. -/
theorem ld_slab {A B C : ℕ} (q : ℕ) (inb : ∀ a, (![q, 0, 0] : Fin 3 → ℕ) a + (![1, B, C] : Fin 3 → ℕ) a ≤ (⟨3, ![A, B, C]⟩ : Shape).size a)
    (X : (⟨3, ![A, B, C]⟩ : Shape).Idx → Val e) (j : Fin B) (k : Fin C) (s : Fin A) (hs : s.val = q) :
    View.ld X (Rect.unit (s := ⟨3, ![A, B, C]⟩) ![q, 0, 0] ![1, B, C] inb) (ix3 (0 : Fin 1) j k) = X (ix3 s j k) := by
  show X _ = _
  exact congrArg X (slab_idx q inb j k s hs)

end Cert.Slabs
-- ==== Proof.Ffn.lean ====
module

public import Idealize.ShloMosaic.Lib.Pointwise

@[expose] public section

noncomputable section

namespace Cert.Ffn

open Idealize.ShloMosaic

/-- The reciprocal root of a row's mean square. -/
def rstd (f : Fin 1024 → EReal) : EReal :=
  Ideal.rsqrt ((∑ l, f l * f l) * Ideal.ofBits FTy.f32 981467136#32 + Ideal.ofBits FTy.f32 897988541#32)

/-- A normalized row with its gains. -/
def nrm (f g : Fin 1024 → EReal) (l : Fin 1024) : EReal := f l * rstd f * g l

/-- One entry of a row's product with a weight. -/
def dotp (h : Fin 1024 → EReal) (w : Fin 1024 → Fin 2816 → EReal) (q : Fin 2816) : EReal := ∑ l, h l * w l q

/-- One hidden unit from its two pre-activations. -/
def unit (a b : EReal) : EReal := a * Ideal.logistic a * b

/-- One entry of the layer's output row. -/
def layer (f g : Fin 1024 → EReal) (wg wu : Fin 1024 → Fin 2816 → EReal) (wd : Fin 2816 → Fin 1024 → EReal) (j : Fin 1024) : EReal :=
  f j + ∑ q, unit (dotp (nrm f g) wg q) (dotp (nrm f g) wu q) * wd q j

/-- The index a hidden unit of cut `s` has in the whole hidden vector. -/
def at4 (s : Fin 4) (r : Fin 704) : Fin 2816 := ⟨s.val * 704 + r.val, by omega⟩

theorem one_f32 : Ideal.ofBits FTy.f32 1065353216#32 = 1 := Ideal.ofBits_one_f32

/-- 1024 and its reciprocal, as the two programs write them. -/
theorem bits_1024 : Ideal.ofBits FTy.f32 1149239296#32 = ((1024 : ℝ) : EReal) := by
  simp [Ideal.ofBits, Ideal.ieee, -EReal.coe_mul]; norm_num
theorem bits_inv1024 : Ideal.ofBits FTy.f32 981467136#32 = ((1 / 1024 : ℝ) : EReal) := by
  simp [Ideal.ofBits, Ideal.ieee, -EReal.coe_mul]; norm_num

/-- Dividing by 1024 is multiplying by its reciprocal. -/
theorem div_1024 (x : EReal) : Ideal.div x (Ideal.ofBits FTy.f32 1149239296#32) = x * Ideal.ofBits FTy.f32 981467136#32 := by
  rw [bits_1024, bits_inv1024]
  unfold Ideal.div
  rw [if_neg (by norm_num)]
  congr 1
  rw [← EReal.coe_inv]
  norm_num

/-- A sum over the whole hidden vector is the four cuts' sums, in order. -/
theorem sum_cuts (F : Fin 2816 → EReal) :
    ∑ q, F q = (((∑ r, F (at4 0 r)) + ∑ r, F (at4 1 r)) + ∑ r, F (at4 2 r)) + ∑ r, F (at4 3 r) := by
  have h : ∑ q : Fin 2816, F q = ∑ p : Fin 4 × Fin 704, F (at4 p.1 p.2) := by
    refine (Fintype.sum_equiv (finProdFinEquiv (m := 4) (n := 704)) _ _ fun p => ?_).symm
    congr 1
    apply Fin.ext
    show p.1.val * 704 + p.2.val = p.2.val + 704 * p.1.val
    omega
  rw [h, Fintype.sum_prod_type, Fin.sum_univ_four]

theorem add_cuts (x : EReal) (F : Fin 2816 → EReal) :
    (((x + ∑ r, F (at4 0 r)) + ∑ r, F (at4 1 r)) + ∑ r, F (at4 2 r)) + ∑ r, F (at4 3 r) = x + ∑ q, F q := by
  rw [sum_cuts]
  simp only [add_assoc]

theorem mul_self_nonneg (x : EReal) : 0 ≤ x * x := by
  rcases le_total 0 x with h | h
  · exact mul_nonneg h h
  · have h' : 0 ≤ -x := EReal.neg_nonneg.mpr h
    simpa [neg_mul, mul_neg] using mul_nonneg h' h'

/-- A factor leaves a sum of nonnegative terms. -/
theorem sum_mul_nonneg {n : ℕ} (f : Fin n → EReal) (hf : ∀ i, 0 ≤ f i) (c : EReal) : (∑ i, f i) * c = ∑ i, f i * c := by
  have h : ∀ s : Finset (Fin n), (∑ i ∈ s, f i) * c = ∑ i ∈ s, f i * c := fun s => by
    induction s using Finset.induction_on with
    | empty => simp
    | insert a s ha ih =>
      rw [Finset.sum_insert ha, Finset.sum_insert ha, EReal.right_distrib_of_nonneg (hf a) (Finset.sum_nonneg fun i _ => hf i), ih]
  exact h _

theorem bits_inv2048 : Ideal.ofBits FTy.f32 973078528#32 = ((1 / 2048 : ℝ) : EReal) := by
  simp [Ideal.ofBits, Ideal.ieee, -EReal.coe_mul]; norm_num
theorem bits_half : Ideal.ofBits FTy.f32 1056964608#32 = ((1 / 2 : ℝ) : EReal) := by
  simp [Ideal.ofBits, Ideal.ieee, -EReal.coe_mul]; norm_num
theorem bits_two : Ideal.ofBits FTy.f32 1073741824#32 = ((2 : ℝ) : EReal) := by
  simp [Ideal.ofBits, Ideal.ieee, -EReal.coe_mul]; norm_num

/-- The factor the loss puts on the difference. -/
theorem dy_scale (x : EReal) :
    Ideal.div (Ideal.ofBits FTy.f32 1056964608#32) (Ideal.ofBits FTy.f32 1149239296#32)
      * (Ideal.ofBits FTy.f32 1073741824#32 * x) = x * Ideal.ofBits FTy.f32 981467136#32 := by
  rw [div_1024, bits_half, bits_two, bits_inv1024, ← mul_assoc, ← EReal.coe_mul, ← EReal.coe_mul, mul_comm x]
  congr 2
  norm_num

/-- Half of a sum of scaled nonnegative terms. -/
theorem half_mean {n : ℕ} (f : Fin n → EReal) (hf : ∀ i, 0 ≤ f i) :
    Ideal.ofBits FTy.f32 1056964608#32 * ∑ i, f i * Ideal.ofBits FTy.f32 981467136#32 = (∑ i, f i) * Ideal.ofBits FTy.f32 973078528#32 := by
  rw [← sum_mul_nonneg f hf, bits_half, bits_inv1024, bits_inv2048, mul_comm, mul_assoc, ← EReal.coe_mul]
  congr 2
  norm_num

end Cert.Ffn
-- ==== Proof.RmsBwd.lean ====
module

public import Idealize.ShloMosaic.Lib.Pointwise
public import proofs.«01_k».proof.Proof.Ffn

@[expose] public section

noncomputable section

namespace Cert.Ffn

open Idealize.ShloMosaic

/-- A value that is a real number. -/
def IsReal (x : EReal) : Prop := ∃ r : ℝ, x = r

theorem real_of_abs {x : EReal} (h : max x (-x) < ⊤) : IsReal x := by
  induction x with
  | bot => simp at h
  | coe r => exact ⟨r, rfl⟩
  | top => simp at h
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {n : ℕ} (f : Fin n → EReal) (h : ∀ i, IsReal (f i)) : IsReal (∑ i, f i) := by
  choose g hg using h
  refine ⟨∑ i, g i, ?_⟩
  rw [Finset.sum_congr rfl fun i _ => hg i]
  exact (map_sum (⟨⟨Real.toEReal, rfl⟩, EReal.coe_add⟩ : ℝ →+ EReal) g Finset.univ).symm

/-- The small constant under the root. -/
theorem eps_pos : ∃ e : ℝ, 0 < e ∧ Ideal.ofBits FTy.f32 897988541#32 = (e : EReal) := by
  refine ⟨_, ?_, by simp [Ideal.ofBits, Ideal.ieee, -EReal.coe_mul]; rfl⟩
  norm_num
theorem bits_neg_half : Ideal.ofBits FTy.f32 3204448256#32 = ((-(1 / 2) : ℝ) : EReal) := by
  simp [Ideal.ofBits, Ideal.ieee, -EReal.coe_mul]; norm_num

/-- A row's reciprocal root is a nonnegative real, and divided by what is under the root it is its own cube. -/
theorem rstd_real (f : Fin 1024 → EReal) : ∃ r : ℝ, 0 ≤ r ∧ rstd f = r
    ∧ Ideal.div (rstd f) ((∑ l, f l * f l) * Ideal.ofBits FTy.f32 981467136#32 + Ideal.ofBits FTy.f32 897988541#32) = ((r * r * r : ℝ) : EReal) := by
  unfold rstd
  obtain ⟨e, he, hb⟩ := eps_pos
  have hs : 0 ≤ ∑ l, f l * f l := Finset.sum_nonneg fun l _ => mul_self_nonneg _
  rw [hb, bits_inv1024]
  generalize (∑ l, f l * f l) = s at hs
  induction s with
  | bot => simp at hs
  | top =>
    have : (⊤ : EReal) * ((1 / 1024 : ℝ) : EReal) + (e : EReal) = ⊤ := by
      rw [EReal.top_mul_coe_of_pos (by norm_num), EReal.top_add_coe]
    rw [this]
    exact ⟨0, le_rfl, rfl, by simp [Ideal.div, Ideal.rsqrt]⟩
  | coe s =>
    have hs' : 0 ≤ s := EReal.coe_nonneg.mp hs
    have hv : 0 < s * (1 / 1024) + e := by positivity
    rw [← EReal.coe_mul, ← EReal.coe_add]
    generalize s * (1 / 1024) + e = v at hv
    have hr : Ideal.rsqrt ((v : ℝ) : EReal) = (((Real.sqrt v)⁻¹ : ℝ) : EReal) := by
      show (if v < 0 then (⊥ : EReal) else if v = 0 then ⊤ else (((Real.sqrt v)⁻¹ : ℝ) : EReal)) = _
      rw [if_neg (not_lt.mpr hv.le), if_neg hv.ne']
    refine ⟨(Real.sqrt v)⁻¹, by positivity, hr, ?_⟩
    rw [hr]
    unfold Ideal.div
    rw [if_neg (by exact_mod_cast hv.ne'), ← EReal.coe_inv, ← EReal.coe_mul]
    congr 1
    have h1 : v⁻¹ = (Real.sqrt v)⁻¹ * (Real.sqrt v)⁻¹ := by
      rw [← mul_inv, Real.mul_self_sqrt hv.le]
    rw [h1]
    ring

/-- A finite nonnegative factor leaves any sum. -/
theorem sum_mul_real {n : ℕ} (f : Fin n → EReal) {c : EReal} (h0 : 0 ≤ c) (ht : c ≠ ⊤) : (∑ i, f i) * c = ∑ i, f i * c := by
  have h : ∀ s : Finset (Fin n), (∑ i ∈ s, f i) * c = ∑ i ∈ s, f i * c := fun s => by
    induction s using Finset.induction_on with
    | empty => simp
    | insert a s ha ih =>
      rw [Finset.sum_insert ha, Finset.sum_insert ha, EReal.right_distrib_of_nonneg_of_ne_top h0 ht, ih]
  exact h _

/-- The gradient of a row's normalization, as the two programs write it. -/
theorem rms_bwd (x d : Fin 1024 → EReal) (y : EReal) (j : Fin 1024) :
    y + rstd x * (d j - x j * rstd x * ((∑ k, d k * (x k * rstd x)) * Ideal.ofBits FTy.f32 981467136#32))
      = y + d j * rstd x
          + x j * (((∑ k, x k * d k) * (Ideal.ofBits FTy.f32 3204448256#32
              * Ideal.div (rstd x) ((∑ l, x l * x l) * Ideal.ofBits FTy.f32 981467136#32 + Ideal.ofBits FTy.f32 897988541#32)))
              * Ideal.ofBits FTy.f32 981467136#32)
          + (((∑ k, x k * d k) * (Ideal.ofBits FTy.f32 3204448256#32
              * Ideal.div (rstd x) ((∑ l, x l * x l) * Ideal.ofBits FTy.f32 981467136#32 + Ideal.ofBits FTy.f32 897988541#32)))
              * Ideal.ofBits FTy.f32 981467136#32) * x j := by
  obtain ⟨r, hr0, hr, hd⟩ := rstd_real x
  rw [hd, hr, bits_inv1024, bits_neg_half]
  have h0 : (0 : EReal) ≤ (r : EReal) := EReal.coe_nonneg.mpr hr0
  have hsum : (∑ k, d k * (x k * (r : EReal))) = (∑ k, x k * d k) * (r : EReal) := by
    rw [sum_mul_real _ h0 (EReal.coe_ne_top r)]
    refine Finset.sum_congr rfl fun k _ => ?_
    rw [← mul_assoc, mul_comm (d k)]
  rw [hsum]
  generalize (∑ k, x k * d k) = S
  have hq : (0 : ℝ) ≤ 1 / 2 * (r * r * r) * (1 / 1024) := by positivity
  have e1 : (r : EReal) * (x j * r * (S * r * ((1 / 1024 : ℝ) : EReal))) = x j * S * ((1 / 2 * (r * r * r) * (1 / 1024) + 1 / 2 * (r * r * r) * (1 / 1024) : ℝ) : EReal) := by
    have : (1 / 2 * (r * r * r) * (1 / 1024) + 1 / 2 * (r * r * r) * (1 / 1024) : ℝ) = r * (r * (r * (1 / 1024))) := by ring
    rw [this, EReal.coe_mul, EReal.coe_mul, EReal.coe_mul]
    ac_rfl
  have e2 : S * (((-(1 / 2) : ℝ) : EReal) * ((r * r * r : ℝ) : EReal)) * ((1 / 1024 : ℝ) : EReal) * x j
      = -(x j * S) * ((1 / 2 * (r * r * r) * (1 / 1024) : ℝ) : EReal) := by
    have : (((-(1 / 2) : ℝ) : EReal) * ((r * r * r : ℝ) : EReal)) * ((1 / 1024 : ℝ) : EReal) = -((1 / 2 * (r * r * r) * (1 / 1024) : ℝ) : EReal) := by
      rw [← EReal.coe_mul, ← EReal.coe_mul, ← EReal.coe_neg]
      congr 1
      ring
    rw [mul_assoc S, this, neg_mul, mul_neg, neg_mul]
    congr 1
    ac_rfl
  rw [sub_eq_add_neg, EReal.left_distrib_of_nonneg_of_ne_top h0 (EReal.coe_ne_top r), mul_neg, e1, mul_comm (x j) (_ * ((1 / 1024 : ℝ) : EReal)), e2,
    ← neg_mul, EReal.coe_add, EReal.left_distrib_of_nonneg (EReal.coe_nonneg.mpr hq) (EReal.coe_nonneg.mpr hq), mul_comm (r : EReal) (d j)]
  simp only [add_assoc]

/-- The derivative of the gate, as the two programs write it. -/
theorem gate_bwd (a u : EReal) (hu : IsReal u) :
    u * (Ideal.logistic a * (1 + a * (1 - Ideal.logistic a)))
      = u * Ideal.logistic a + a * u * (Ideal.logistic a * (1 - Ideal.logistic a)) := by
  obtain ⟨u, rfl⟩ := hu
  induction a with
  | bot =>
    have h : Ideal.logistic ⊥ = 0 := by
      show Ideal.div 1 (1 + Ideal.exp (-⊥)) = 0
      rw [EReal.neg_bot, show Ideal.exp ⊤ = ⊤ from rfl, show (1 : EReal) + ⊤ = ⊤ from rfl]
      simp [Ideal.div]
    rw [h]; simp
  | top =>
    have h : Ideal.logistic ⊤ = 1 := by
      show Ideal.div 1 (1 + Ideal.exp (-⊤)) = 1
      rw [EReal.neg_top, show Ideal.exp ⊥ = 0 from rfl, add_zero]
      simp [Ideal.div]
    have h1 : (1 : EReal) - 1 = 0 := by
      rw [show (1 : EReal) = ((1 : ℝ) : EReal) from rfl, ← EReal.coe_sub, sub_self, EReal.coe_zero]
    rw [h, h1]; simp
  | coe a =>
    have h : ∃ s : ℝ, Ideal.logistic (a : EReal) = s := by
      refine ⟨(1 + Real.exp (-a))⁻¹, ?_⟩
      have hp : (0 : ℝ) < 1 + Real.exp (-a) := by positivity
      unfold Ideal.logistic Ideal.div
      rw [← EReal.coe_neg]
      show (if (1 : EReal) + ((Real.exp (-a) : ℝ) : EReal) = 0 then _ else (1 : EReal) * ((1 : EReal) + ((Real.exp (-a) : ℝ) : EReal))⁻¹) = _
      rw [show (1 : EReal) = ((1 : ℝ) : EReal) from rfl, ← EReal.coe_add, if_neg (by exact_mod_cast hp.ne'), ← EReal.coe_inv, ← EReal.coe_mul, one_mul]
    obtain ⟨s, hs⟩ := h
    rw [hs, show (1 : EReal) = ((1 : ℝ) : EReal) from rfl]
    simp only [← EReal.coe_sub, ← EReal.coe_mul, ← EReal.coe_add]
    congr 1
    ring

end Cert.Ffn

end

end
-- ==== Proof.FfnBwdBody.lean ====
module

public import proofs.«01_k».proof.Defs
public import proofs.«01_k».proof.Proof.Gen.Kernel2
public import proofs.«01_k».proof.Proof.Gen.Pre_finite
public import proofs.«01_k».proof.Proof.Gen.Kernel2Ideal.Value
public import proofs.«01_k».proof.Proof.Gen.Reference2Ideal.Run
public import proofs.«01_k».proof.Proof.Gen.Reference2Ideal.Read
public import Idealize.ShloMosaic.Lib.Quiescent
public import Idealize.ShloMosaic.Lib.Pipeline.ValueKit.Point
public import proofs.«01_k».proof.Proof.Slabs
public import proofs.«01_k».proof.Proof.Ffn
public import proofs.«01_k».proof.Proof.RmsBwd

@[expose] public section

set_option maxRecDepth 16384

noncomputable section

namespace Cert.Kernel2Ideal.Layer

open Idealize.ShloMosaic Idealize.ShloMosaic.TcCoe Idealize.SL.Sem
open Cert.Kernel2Ideal Cert.Kernel2Ideal.Gen

/-- One entry of a row's product with one cut of a weight, over the model's axis. -/
def dw (h : Fin 1024 → EReal) (w : Vec Ideal S1x704x1024 .bf16) (q : Fin 704) : EReal := ∑ l : Fin 1024, h l * w (ix3 0 q l)

/-- One entry of a hidden cut's product with its cut of a weight. -/
def dn (u : Fin 704 → EReal) (w : Vec Ideal S1x704x1024 .bf16) (j : Fin 1024) : EReal := ∑ q : Fin 704, u q * w (ix3 0 q j)

/-- The gradients of the two pre-activations, from the hidden unit's. -/
def gda (d a b : EReal) : EReal := d * b * (Ideal.logistic a * (1 + a * (1 - Ideal.logistic a)))
def gdb (d a : EReal) : EReal := d * (a * Ideal.logistic a)

/-! The payloads at an index -/

theorem pay1_apply (i : S1x1024.Idx) : (k0_pay1 : FVec Ideal S1x1024 .f32) i = 0 := by
  pointwise! [k0_pay1]
theorem pay3_apply (i : S256x1024.Idx) : (k0_pay3 : FVec Ideal S256x1024 .f32) i = 0 := by
  pointwise! [k0_pay3]
theorem pay2_apply (y : Vec Ideal S256x1024 .f32) (i : Fin 256) (j : Fin 1024) :
    k0_pay2 y (ix2 i j) = y (ix2 i j) := by
  pointwise! [k0_pay2]
theorem pay4_apply (y : Vec Ideal S256x1024 .f32) (w : Vec Ideal S1x704x1024 .bf16) (i : Fin 256) (q : Fin 704) :
    k0_pay4 y w (ix2 i q) = dw (fun l => y (ix2 i l)) w q := by
  unfold dw
  pointwise! [k0_pay4]
theorem pay15_apply (y : FVec Ideal S256x1024 .bf16) (w : Vec Ideal S1x704x1024 .bf16) (i : Fin 256) (q : Fin 704) :
    k0_pay15 y w (ix2 i q) = dw (fun l => y (ix2 i l)) w q := by
  unfold dw
  pointwise! [k0_pay15]
theorem pay28_apply (y : FVec Ideal S256x1024 .bf16) (w : Vec Ideal S1x704x1024 .bf16) (i : Fin 256) (q : Fin 704) :
    k0_pay28 y w (ix2 i q) = dw (fun l => y (ix2 i l)) w q := by
  unfold dw
  pointwise! [k0_pay28]
theorem pay39_apply (y : FVec Ideal S256x1024 .bf16) (w : Vec Ideal S1x704x1024 .bf16) (i : Fin 256) (q : Fin 704) :
    k0_pay39 y w (ix2 i q) = dw (fun l => y (ix2 i l)) w q := by
  unfold dw
  pointwise! [k0_pay39]
theorem pay5_apply (a : Vec Ideal S1x256x704 .bf16) (i : Fin 256) (q : Fin 704) :
    k0_pay5 a (ix2 i q) = a (ix3 0 i q) := by
  pointwise! [k0_pay5]
theorem pay6_apply (a : Vec Ideal S1x256x704 .bf16) (i : Fin 256) (q : Fin 704) :
    k0_pay6 a (ix2 i q) = a (ix3 0 i q) := by
  pointwise! [k0_pay6]
theorem pay16_apply (a : Vec Ideal S1x256x704 .bf16) (i : Fin 256) (q : Fin 704) :
    k0_pay16 a (ix2 i q) = a (ix3 0 i q) := by
  pointwise! [k0_pay16]
theorem pay17_apply (a : Vec Ideal S1x256x704 .bf16) (i : Fin 256) (q : Fin 704) :
    k0_pay17 a (ix2 i q) = a (ix3 0 i q) := by
  pointwise! [k0_pay17]
theorem pay29_apply (a : Vec Ideal S1x256x704 .bf16) (i : Fin 256) (q : Fin 704) :
    k0_pay29 a (ix2 i q) = a (ix3 0 i q) := by
  pointwise! [k0_pay29]
theorem pay30_apply (a : Vec Ideal S1x256x704 .bf16) (i : Fin 256) (q : Fin 704) :
    k0_pay30 a (ix2 i q) = a (ix3 0 i q) := by
  pointwise! [k0_pay30]
theorem pay40_apply (a : Vec Ideal S1x256x704 .bf16) (i : Fin 256) (q : Fin 704) :
    k0_pay40 a (ix2 i q) = a (ix3 0 i q) := by
  pointwise! [k0_pay40]
theorem pay41_apply (a : Vec Ideal S1x256x704 .bf16) (i : Fin 256) (q : Fin 704) :
    k0_pay41 a (ix2 i q) = a (ix3 0 i q) := by
  pointwise! [k0_pay41]
theorem pay7_apply (a : Vec Ideal S1x256x704 .bf16) (i : Fin 256) (q : Fin 704) :
    k0_pay7 a (ix2 i q) = Ideal.logistic (a (ix3 0 i q)) := by
  pointwise [k0_pay7]
  simp only [pay5_apply]
theorem pay18_apply (a : Vec Ideal S1x256x704 .bf16) (i : Fin 256) (q : Fin 704) :
    k0_pay18 a (ix2 i q) = Ideal.logistic (a (ix3 0 i q)) := by
  pointwise [k0_pay18]
  simp only [pay16_apply]
theorem pay31_apply (a : Vec Ideal S1x256x704 .bf16) (i : Fin 256) (q : Fin 704) :
    k0_pay31 a (ix2 i q) = Ideal.logistic (a (ix3 0 i q)) := by
  pointwise [k0_pay31]
  simp only [pay29_apply]
theorem pay42_apply (a : Vec Ideal S1x256x704 .bf16) (i : Fin 256) (q : Fin 704) :
    k0_pay42 a (ix2 i q) = Ideal.logistic (a (ix3 0 i q)) := by
  pointwise [k0_pay42]
  simp only [pay40_apply]
theorem pay8_apply (a : Vec Ideal S1x256x704 .bf16) (i : Fin 256) (q : Fin 704) :
    k0_pay8 a (ix2 i q) = a (ix3 0 i q) * Ideal.logistic (a (ix3 0 i q)) := by
  pointwise [k0_pay8]
  simp only [pay5_apply, pay7_apply]
theorem pay19_apply (a : Vec Ideal S1x256x704 .bf16) (i : Fin 256) (q : Fin 704) :
    k0_pay19 a (ix2 i q) = a (ix3 0 i q) * Ideal.logistic (a (ix3 0 i q)) := by
  pointwise [k0_pay19]
  simp only [pay16_apply, pay18_apply]
theorem pay32_apply (a : Vec Ideal S1x256x704 .bf16) (i : Fin 256) (q : Fin 704) :
    k0_pay32 a (ix2 i q) = a (ix3 0 i q) * Ideal.logistic (a (ix3 0 i q)) := by
  pointwise [k0_pay32]
  simp only [pay29_apply, pay31_apply]
theorem pay43_apply (a : Vec Ideal S1x256x704 .bf16) (i : Fin 256) (q : Fin 704) :
    k0_pay43 a (ix2 i q) = a (ix3 0 i q) * Ideal.logistic (a (ix3 0 i q)) := by
  pointwise [k0_pay43]
  simp only [pay40_apply, pay42_apply]
theorem pay9_apply (a : Vec Ideal S1x256x704 .bf16) (b : Vec Ideal S1x256x704 .bf16) (i : Fin 256) (q : Fin 704) :
    k0_pay9 a b (ix3 0 i q) = Ffn.unit (a (ix3 0 i q)) (b (ix3 0 i q)) := by
  pointwise [k0_pay9]
  simp only [Ffn.unit, pay8_apply, pay6_apply]
theorem pay20_apply (a : Vec Ideal S1x256x704 .bf16) (b : Vec Ideal S1x256x704 .bf16) (i : Fin 256) (q : Fin 704) :
    k0_pay20 a b (ix3 0 i q) = Ffn.unit (a (ix3 0 i q)) (b (ix3 0 i q)) := by
  pointwise [k0_pay20]
  simp only [Ffn.unit, pay19_apply, pay17_apply]
theorem pay44_apply (a : Vec Ideal S1x256x704 .bf16) (b : Vec Ideal S1x256x704 .bf16) (i : Fin 256) (q : Fin 704) :
    k0_pay44 a b (ix3 0 i q) = Ffn.unit (a (ix3 0 i q)) (b (ix3 0 i q)) := by
  pointwise [k0_pay44]
  simp only [Ffn.unit, pay43_apply, pay41_apply]
theorem pay33_apply (v96 : FVec Ideal S256x704 .f32) (v98 : FVec Ideal S256x704 .f32) (i : Fin 256) (q : Fin 704) :
    k0_pay33 v96 v98 (ix3 0 i q) = v98 (ix2 i q) * v96 (ix2 i q) := by
  pointwise! [k0_pay33]
theorem pay10_apply (y : Vec Ideal S256x1024 .f32) (w : Vec Ideal S1x704x1024 .bf16) (a : Vec Ideal S1x256x704 .bf16) (b : Vec Ideal S1x256x704 .bf16) (i : Fin 256) (q : Fin 704) :
    k0_pay10 y w a b (ix2 i q) = gda (dw (fun l => y (ix2 i l)) w q) (a (ix3 0 i q)) (b (ix3 0 i q)) := by
  pointwise [k0_pay10]
  simp only [gda, pay4_apply, pay5_apply, pay6_apply, pay7_apply, Ffn.one_f32]
theorem pay11_apply (y : Vec Ideal S256x1024 .f32) (w : Vec Ideal S1x704x1024 .bf16) (a : Vec Ideal S1x256x704 .bf16) (i : Fin 256) (q : Fin 704) :
    k0_pay11 y w a (ix2 i q) = gdb (dw (fun l => y (ix2 i l)) w q) (a (ix3 0 i q)) := by
  pointwise [k0_pay11]
  simp only [gdb, pay4_apply, pay8_apply]
theorem pay12_apply (v : FVec Ideal S256x704 .bf16) (i : Fin 256) (q : Fin 704) :
    k0_pay12 v (ix3 0 i q) = v (ix2 i q) := by
  pointwise! [k0_pay12]
theorem pay13_apply (v : FVec Ideal S256x704 .bf16) (i : Fin 256) (q : Fin 704) :
    k0_pay13 v (ix3 0 i q) = v (ix2 i q) := by
  pointwise! [k0_pay13]
theorem pay21_apply (y : FVec Ideal S256x1024 .bf16) (w : Vec Ideal S1x704x1024 .bf16) (b : Vec Ideal S1x256x704 .bf16) (i : Fin 256) (q : Fin 704) :
    k0_pay21 y w b (ix2 i q) = dw (fun l => y (ix2 i l)) w q * b (ix3 0 i q) := by
  pointwise [k0_pay21]
  simp only [pay15_apply, pay17_apply]
theorem pay22_apply (a : Vec Ideal S1x256x704 .bf16) (i : Fin 256) (q : Fin 704) :
    k0_pay22 a (ix2 i q) = 1 - Ideal.logistic (a (ix3 0 i q)) := by
  pointwise [k0_pay22]
  simp only [pay18_apply, Ffn.one_f32]
theorem pay23_apply (v52 : FVec Ideal S256x704 .f32) (v56 : FVec Ideal S256x704 .f32) (v63 : FVec Ideal S256x704 .f32) (v65 : FVec Ideal S256x704 .f32) (i : Fin 256) (q : Fin 704) :
    k0_pay23 v52 v56 v63 v65 (ix2 i q) = v63 (ix2 i q) * (v56 (ix2 i q) * (1 + v52 (ix2 i q) * v65 (ix2 i q))) := by
  pointwise! [k0_pay23]
theorem pay24_apply (v49 : FVec Ideal S256x704 .f32) (v57 : FVec Ideal S256x704 .f32) (i : Fin 256) (q : Fin 704) :
    k0_pay24 v49 v57 (ix2 i q) = v49 (ix2 i q) * v57 (ix2 i q) := by
  pointwise! [k0_pay24]
theorem pay25_apply (v52 : FVec Ideal S256x704 .f32) (v56 : FVec Ideal S256x704 .f32) (v63 : FVec Ideal S256x704 .f32) (v65 : FVec Ideal S256x704 .f32) (i : Fin 256) (q : Fin 704) :
    k0_pay25 v52 v56 v63 v65 (ix3 0 i q) = k0_pay23 v52 v56 v63 v65 (ix2 i q) := by
  pointwise! [k0_pay25]
theorem pay26_apply (v49 : FVec Ideal S256x704 .f32) (v57 : FVec Ideal S256x704 .f32) (i : Fin 256) (q : Fin 704) :
    k0_pay26 v49 v57 (ix3 0 i q) = k0_pay24 v49 v57 (ix2 i q) := by
  pointwise! [k0_pay26]
theorem pay34_apply (v90 : FVec Ideal S256x704 .f32) (v93 : FVec Ideal S256x704 .f32) (v96 : FVec Ideal S256x704 .f32) (v97 : FVec Ideal S256x704 .f32) (i : Fin 256) (q : Fin 704) :
    k0_pay34 v90 v93 v96 v97 (ix2 i q) = v90 (ix2 i q) * v96 (ix2 i q) * (v97 (ix2 i q) * (1 + v93 (ix2 i q) * (1 - v97 (ix2 i q)))) := by
  pointwise! [k0_pay34]
theorem pay35_apply (v90 : FVec Ideal S256x704 .f32) (v98 : FVec Ideal S256x704 .f32) (i : Fin 256) (q : Fin 704) :
    k0_pay35 v90 v98 (ix2 i q) = v90 (ix2 i q) * v98 (ix2 i q) := by
  pointwise! [k0_pay35]
theorem pay36_apply (v90 : FVec Ideal S256x704 .f32) (v93 : FVec Ideal S256x704 .f32) (v96 : FVec Ideal S256x704 .f32) (v97 : FVec Ideal S256x704 .f32) (i : Fin 256) (q : Fin 704) :
    k0_pay36 v90 v93 v96 v97 (ix3 0 i q) = k0_pay34 v90 v93 v96 v97 (ix2 i q) := by
  pointwise! [k0_pay36]
theorem pay37_apply (v90 : FVec Ideal S256x704 .f32) (v98 : FVec Ideal S256x704 .f32) (i : Fin 256) (q : Fin 704) :
    k0_pay37 v90 v98 (ix3 0 i q) = k0_pay35 v90 v98 (ix2 i q) := by
  pointwise! [k0_pay37]
theorem pay45_apply (d : FVec Ideal S256x704 .f32) (a : Vec Ideal S1x256x704 .bf16) (b : Vec Ideal S1x256x704 .bf16) (i : Fin 256) (q : Fin 704) :
    k0_pay45 d a b (ix2 i q) = gda (d (ix2 i q)) (a (ix3 0 i q)) (b (ix3 0 i q)) := by
  pointwise [k0_pay45]
  simp only [gda, pay40_apply, pay41_apply, pay42_apply, Ffn.one_f32]
theorem pay46_apply (d : FVec Ideal S256x704 .f32) (a : Vec Ideal S1x256x704 .bf16) (i : Fin 256) (q : Fin 704) :
    k0_pay46 d a (ix2 i q) = gdb (d (ix2 i q)) (a (ix3 0 i q)) := by
  pointwise [k0_pay46]
  simp only [gdb, pay43_apply]
theorem pay47_apply (d : FVec Ideal S256x704 .f32) (a : Vec Ideal S1x256x704 .bf16) (b : Vec Ideal S1x256x704 .bf16) (i : Fin 256) (q : Fin 704) :
    k0_pay47 d a b (ix3 0 i q) = k0_pay45 d a b (ix2 i q) := by
  pointwise! [k0_pay47]
theorem pay48_apply (d : FVec Ideal S256x704 .f32) (a : Vec Ideal S1x256x704 .bf16) (i : Fin 256) (q : Fin 704) :
    k0_pay48 d a (ix3 0 i q) = k0_pay46 d a (ix2 i q) := by
  pointwise! [k0_pay48]
theorem pay14_apply (s : FVec Ideal S256x1024 .f32) (u : FVec Ideal S256x704 .bf16) (u' : FVec Ideal S256x704 .bf16) (w w' : Vec Ideal S1x704x1024 .bf16) (i : Fin 256) (j : Fin 1024) :
    k0_pay14 s u u' w w' (ix2 i j) = s (ix2 i j) + dn (fun q => u (ix2 i q)) w j + dn (fun q => u' (ix2 i q)) w' j := by
  unfold dn
  pointwise! [k0_pay14]
theorem pay27_apply (s : FVec Ideal S256x1024 .f32) (v49 : FVec Ideal S256x704 .f32) (v52 : FVec Ideal S256x704 .f32) (v56 : FVec Ideal S256x704 .f32) (v57 : FVec Ideal S256x704 .f32) (v63 : FVec Ideal S256x704 .f32) (v65 : FVec Ideal S256x704 .f32) (w w' : Vec Ideal S1x704x1024 .bf16) (i : Fin 256) (j : Fin 1024) :
    k0_pay27 s v49 v52 v56 v57 v63 v65 w w' (ix2 i j) = s (ix2 i j) + dn (fun q => k0_pay23 v52 v56 v63 v65 (ix2 i q)) w j + dn (fun q => k0_pay24 v49 v57 (ix2 i q)) w' j := by
  unfold dn
  pointwise! [k0_pay27]
theorem pay38_apply (s : FVec Ideal S256x1024 .f32) (v90 : FVec Ideal S256x704 .f32) (v93 : FVec Ideal S256x704 .f32) (v96 : FVec Ideal S256x704 .f32) (v97 : FVec Ideal S256x704 .f32) (v98 : FVec Ideal S256x704 .f32) (w w' : Vec Ideal S1x704x1024 .bf16) (i : Fin 256) (j : Fin 1024) :
    k0_pay38 s v90 v93 v96 v97 v98 w w' (ix2 i j) = s (ix2 i j) + dn (fun q => k0_pay34 v90 v93 v96 v97 (ix2 i q)) w j + dn (fun q => k0_pay35 v90 v98 (ix2 i q)) w' j := by
  unfold dn
  pointwise! [k0_pay38]
theorem pay49_apply (s : FVec Ideal S256x1024 .f32) (d : FVec Ideal S256x704 .f32) (a : Vec Ideal S1x256x704 .bf16) (b : Vec Ideal S1x256x704 .bf16) (w : Vec Ideal S1x704x1024 .bf16) (i : Fin 256) (j : Fin 1024) :
    k0_pay49 s d a b w (ix2 i j) = s (ix2 i j) + dn (fun q => k0_pay45 d a b (ix2 i q)) w j := by
  unfold dn
  pointwise! [k0_pay49]
theorem pay50_apply (u : FVec Ideal S256x704 .bf16) (s : FVec Ideal S256x1024 .f32) (w : Vec Ideal S1x704x1024 .bf16) (i : Fin 256) (j : Fin 1024) :
    k0_pay50 u s w (ix2 i j) = s (ix2 i j) + dn (fun q => u (ix2 i q)) w j := by
  unfold dn
  pointwise! [k0_pay50]
theorem pay51_apply (x : Vec Ideal S256x1024 .f32) (i : Fin 256) : k0_pay51 x (ix2 i 0) = Ffn.rstd (fun l => x (ix2 i l)) := by
  unfold Ffn.rstd
  pointwise! [k0_pay51]
theorem pay52_apply (x : Vec Ideal S256x1024 .f32) (i : Fin 256) (j : Fin 1024) : k0_pay52 x (ix2 i j) = x (ix2 i j) * Ffn.rstd (fun l => x (ix2 i l)) := by
  pointwise [k0_pay52]
  simp only [pay51_apply]
theorem pay53_apply (u : FVec Ideal S256x704 .bf16) (s : FVec Ideal S256x1024 .f32) (w : Vec Ideal S1x704x1024 .bf16) (x : Vec Ideal S256x1024 .f32) (p : Vec Ideal S1x1024 .f32)
    (j : Fin 1024) :
    k0_pay53 u s w x p (ix2 0 j) = p (ix2 0 j) + ∑ i : Fin 256, k0_pay50 u s w (ix2 i j) * (x (ix2 i j) * Ffn.rstd (fun l => x (ix2 i l))) := by
  pointwise [k0_pay53]
  simp only [pay52_apply]
theorem pay54_apply (y : Vec Ideal S256x1024 .f32) (u : FVec Ideal S256x704 .bf16) (s : FVec Ideal S256x1024 .f32) (w : Vec Ideal S1x704x1024 .bf16) (x : Vec Ideal S256x1024 .f32)
    (g : Vec Ideal S1x1024 .f32) (i : Fin 256) (j : Fin 1024) :
    k0_pay54 y u s w x g (ix2 i j)
      = y (ix2 i j) + Ffn.rstd (fun l => x (ix2 i l)) * (k0_pay50 u s w (ix2 i j) * g (ix2 0 j)
          - x (ix2 i j) * Ffn.rstd (fun l => x (ix2 i l))
            * ((∑ k : Fin 1024, k0_pay50 u s w (ix2 i k) * g (ix2 0 k) * (x (ix2 i k) * Ffn.rstd (fun l => x (ix2 i l)))) * Ideal.ofBits FTy.f32 981467136#32)) := by
  pointwise [k0_pay54]
  simp only [pay51_apply, pay52_apply]

/-- Cut 0 of a stacked weight, and of a stacked pre-activation. -/
def sw0 (x : Vec Ideal S4x704x1024 .bf16) : Vec Ideal S1x704x1024 .bf16 :=
  View.ld x (Rect.unit (s := S4x704x1024) ![0, 0, 0] S1x704x1024.size inb_S4x704x1024_S1x704x1024_0_0_0)
def sa0 (x : Vec Ideal S4x256x704 .bf16) : Vec Ideal S1x256x704 .bf16 :=
  View.ld x (Rect.unit (s := S4x256x704) ![0, 0, 0] S1x256x704.size inb_S4x256x704_S1x256x704_0_0_0)
theorem sa0_apply (x : Vec Ideal S4x256x704 .bf16) (i : Fin 256) (q : Fin 704) : sa0 x (ix3 0 i q) = x (ix3 0 i q) :=
  Slabs.ld_slab 0 _ x i q 0 rfl
theorem dw0 (h : Fin 1024 → EReal) (x : Vec Ideal S4x704x1024 .bf16) (q : Fin 704) :
    dw h (sw0 x) q = ∑ l : Fin 1024, h l * x (ix3 0 q l) :=
  Finset.sum_congr rfl fun l _ => congrArg (h l * ·) (Slabs.ld_slab 0 _ x q l 0 rfl)
theorem dn0 (u : Fin 704 → EReal) (x : Vec Ideal S4x704x1024 .bf16) (j : Fin 1024) :
    dn u (sw0 x) j = ∑ q : Fin 704, u q * x (ix3 0 q j) :=
  Finset.sum_congr rfl fun q _ => congrArg (u q * ·) (Slabs.ld_slab 0 _ x q j 0 rfl)
/-- Cut 1 of a stacked weight, and of a stacked pre-activation. -/
def sw1 (x : Vec Ideal S4x704x1024 .bf16) : Vec Ideal S1x704x1024 .bf16 :=
  View.ld x (Rect.unit (s := S4x704x1024) ![1, 0, 0] S1x704x1024.size inb_S4x704x1024_S1x704x1024_1_0_0)
def sa1 (x : Vec Ideal S4x256x704 .bf16) : Vec Ideal S1x256x704 .bf16 :=
  View.ld x (Rect.unit (s := S4x256x704) ![1, 0, 0] S1x256x704.size inb_S4x256x704_S1x256x704_1_0_0)
theorem sa1_apply (x : Vec Ideal S4x256x704 .bf16) (i : Fin 256) (q : Fin 704) : sa1 x (ix3 0 i q) = x (ix3 1 i q) :=
  Slabs.ld_slab 1 _ x i q 1 rfl
theorem dw1 (h : Fin 1024 → EReal) (x : Vec Ideal S4x704x1024 .bf16) (q : Fin 704) :
    dw h (sw1 x) q = ∑ l : Fin 1024, h l * x (ix3 1 q l) :=
  Finset.sum_congr rfl fun l _ => congrArg (h l * ·) (Slabs.ld_slab 1 _ x q l 1 rfl)
theorem dn1 (u : Fin 704 → EReal) (x : Vec Ideal S4x704x1024 .bf16) (j : Fin 1024) :
    dn u (sw1 x) j = ∑ q : Fin 704, u q * x (ix3 1 q j) :=
  Finset.sum_congr rfl fun q _ => congrArg (u q * ·) (Slabs.ld_slab 1 _ x q j 1 rfl)
/-- Cut 2 of a stacked weight, and of a stacked pre-activation. -/
def sw2 (x : Vec Ideal S4x704x1024 .bf16) : Vec Ideal S1x704x1024 .bf16 :=
  View.ld x (Rect.unit (s := S4x704x1024) ![2, 0, 0] S1x704x1024.size inb_S4x704x1024_S1x704x1024_2_0_0)
def sa2 (x : Vec Ideal S4x256x704 .bf16) : Vec Ideal S1x256x704 .bf16 :=
  View.ld x (Rect.unit (s := S4x256x704) ![2, 0, 0] S1x256x704.size inb_S4x256x704_S1x256x704_2_0_0)
theorem sa2_apply (x : Vec Ideal S4x256x704 .bf16) (i : Fin 256) (q : Fin 704) : sa2 x (ix3 0 i q) = x (ix3 2 i q) :=
  Slabs.ld_slab 2 _ x i q 2 rfl
theorem dw2 (h : Fin 1024 → EReal) (x : Vec Ideal S4x704x1024 .bf16) (q : Fin 704) :
    dw h (sw2 x) q = ∑ l : Fin 1024, h l * x (ix3 2 q l) :=
  Finset.sum_congr rfl fun l _ => congrArg (h l * ·) (Slabs.ld_slab 2 _ x q l 2 rfl)
theorem dn2 (u : Fin 704 → EReal) (x : Vec Ideal S4x704x1024 .bf16) (j : Fin 1024) :
    dn u (sw2 x) j = ∑ q : Fin 704, u q * x (ix3 2 q j) :=
  Finset.sum_congr rfl fun q _ => congrArg (u q * ·) (Slabs.ld_slab 2 _ x q j 2 rfl)
/-- Cut 3 of a stacked weight, and of a stacked pre-activation. -/
def sw3 (x : Vec Ideal S4x704x1024 .bf16) : Vec Ideal S1x704x1024 .bf16 :=
  View.ld x (Rect.unit (s := S4x704x1024) ![3, 0, 0] S1x704x1024.size inb_S4x704x1024_S1x704x1024_3_0_0)
def sa3 (x : Vec Ideal S4x256x704 .bf16) : Vec Ideal S1x256x704 .bf16 :=
  View.ld x (Rect.unit (s := S4x256x704) ![3, 0, 0] S1x256x704.size inb_S4x256x704_S1x256x704_3_0_0)
theorem sa3_apply (x : Vec Ideal S4x256x704 .bf16) (i : Fin 256) (q : Fin 704) : sa3 x (ix3 0 i q) = x (ix3 3 i q) :=
  Slabs.ld_slab 3 _ x i q 3 rfl
theorem dw3 (h : Fin 1024 → EReal) (x : Vec Ideal S4x704x1024 .bf16) (q : Fin 704) :
    dw h (sw3 x) q = ∑ l : Fin 1024, h l * x (ix3 3 q l) :=
  Finset.sum_congr rfl fun l _ => congrArg (h l * ·) (Slabs.ld_slab 3 _ x q l 3 rfl)
theorem dn3 (u : Fin 704 → EReal) (x : Vec Ideal S4x704x1024 .bf16) (j : Fin 1024) :
    dn u (sw3 x) j = ∑ q : Fin 704, u q * x (ix3 3 q j) :=
  Finset.sum_congr rfl fun q _ => congrArg (u q * ·) (Slabs.ld_slab 3 _ x q j 3 rfl)

/-- The hidden units' gradient, and the two pre-activations', over the blocks. -/
def bh (y : Vec Ideal S256x1024 .f32) (wd : Vec Ideal S4x704x1024 .bf16) (s : Fin 4) (i : Fin 256) (q : Fin 704) : EReal :=
  ∑ l : Fin 1024, y (ix2 i l) * wd (ix3 s q l)
def ba (y : Vec Ideal S256x1024 .f32) (a b : Vec Ideal S4x256x704 .bf16) (wd : Vec Ideal S4x704x1024 .bf16) (s : Fin 4) (i : Fin 256) (q : Fin 704) : EReal :=
  gda (bh y wd s i q) (a (ix3 s i q)) (b (ix3 s i q))
def bb (y : Vec Ideal S256x1024 .f32) (a : Vec Ideal S4x256x704 .bf16) (wd : Vec Ideal S4x704x1024 .bf16) (s : Fin 4) (i : Fin 256) (q : Fin 704) : EReal :=
  gdb (bh y wd s i q) (a (ix3 s i q))

/-- What the body has summed after each cut. -/
def g1 (y : Vec Ideal S256x1024 .f32) (a b : Vec Ideal S4x256x704 .bf16) (wg wu wd : Vec Ideal S4x704x1024 .bf16) : FVec Ideal S256x1024 .f32 :=
  k0_pay14 k0_pay3 (k0_pay10 y (sw0 wd) (sa0 a) (sa0 b)) (k0_pay11 y (sw0 wd) (sa0 a)) (sw0 wg) (sw0 wu)
def g2 (y : Vec Ideal S256x1024 .f32) (a b : Vec Ideal S4x256x704 .bf16) (wg wu wd : Vec Ideal S4x704x1024 .bf16) : FVec Ideal S256x1024 .f32 :=
  k0_pay27 (g1 y a b wg wu wd) (k0_pay15 (k0_pay2 y) (sw1 wd)) (k0_pay16 (sa1 a)) (k0_pay18 (sa1 a)) (k0_pay19 (sa1 a))
    (k0_pay21 (k0_pay2 y) (sw1 wd) (sa1 b)) (k0_pay22 (sa1 a)) (sw1 wg) (sw1 wu)
def g3 (y : Vec Ideal S256x1024 .f32) (a b : Vec Ideal S4x256x704 .bf16) (wg wu wd : Vec Ideal S4x704x1024 .bf16) : FVec Ideal S256x1024 .f32 :=
  k0_pay38 (g2 y a b wg wu wd) (k0_pay28 (k0_pay2 y) (sw2 wd)) (k0_pay29 (sa2 a)) (k0_pay30 (sa2 b)) (k0_pay31 (sa2 a)) (k0_pay32 (sa2 a)) (sw2 wg) (sw2 wu)
def g4 (y : Vec Ideal S256x1024 .f32) (a b : Vec Ideal S4x256x704 .bf16) (wg wu wd : Vec Ideal S4x704x1024 .bf16) : FVec Ideal S256x1024 .f32 :=
  k0_pay49 (g3 y a b wg wu wd) (k0_pay39 (k0_pay2 y) (sw3 wd)) (sa3 a) (sa3 b) (sw3 wg)
def d3 (y : Vec Ideal S256x1024 .f32) (a : Vec Ideal S4x256x704 .bf16) (wd : Vec Ideal S4x704x1024 .bf16) : FVec Ideal S256x704 .bf16 :=
  k0_pay46 (k0_pay39 (k0_pay2 y) (sw3 wd)) (sa3 a)

/-- The gradient of the normalized rows, over the blocks. -/
def bg (y : Vec Ideal S256x1024 .f32) (a b : Vec Ideal S4x256x704 .bf16) (wg wu wd : Vec Ideal S4x704x1024 .bf16) (i : Fin 256) (j : Fin 1024) : EReal :=
  0 + ∑ q, ba y a b wd 0 i q * wg (ix3 0 q j) + ∑ q, bb y a wd 0 i q * wu (ix3 0 q j)
    + ∑ q, ba y a b wd 1 i q * wg (ix3 1 q j) + ∑ q, bb y a wd 1 i q * wu (ix3 1 q j)
    + ∑ q, ba y a b wd 2 i q * wg (ix3 2 q j) + ∑ q, bb y a wd 2 i q * wu (ix3 2 q j)
    + ∑ q, ba y a b wd 3 i q * wg (ix3 3 q j) + ∑ q, bb y a wd 3 i q * wu (ix3 3 q j)

theorem pay50_g4 (y : Vec Ideal S256x1024 .f32) (a b : Vec Ideal S4x256x704 .bf16) (wg wu wd : Vec Ideal S4x704x1024 .bf16) (i : Fin 256) (j : Fin 1024) :
    k0_pay50 (d3 y a wd) (g4 y a b wg wu wd) (sw3 wu) (ix2 i j) = bg y a b wg wu wd i j := by
  unfold g4 g3 g2 g1 d3 bg
  simp only [pay50_apply, pay49_apply, pay38_apply, pay27_apply, pay14_apply, pay3_apply, pay10_apply, pay11_apply, pay23_apply, pay24_apply,
    pay34_apply, pay35_apply, pay45_apply, pay46_apply, pay15_apply, pay28_apply, pay39_apply, pay16_apply, pay18_apply, pay19_apply, pay21_apply,
    pay22_apply, pay29_apply, pay30_apply, pay31_apply, pay32_apply, pay2_apply, dw0, dw1, dw2, dw3, dn0, dn1, dn2, dn3,
    sa0_apply, sa1_apply, sa2_apply, sa3_apply]
  rfl

theorem cuta_apply (y : Vec Ideal S256x1024 .f32) (a b : Vec Ideal S4x256x704 .bf16) (wd : Vec Ideal S4x704x1024 .bf16) (s : Fin 4) (i : Fin 256) (q : Fin 704) :
    View.canon (Val := Elt Ideal) (s := S4x256x704) (e := .bf16)
      [⟨Rect.unit (s := S4x256x704) ![3, 0, 0] S1x256x704.size inb_S4x256x704_S1x256x704_3_0_0, k0_pay47 (k0_pay39 (k0_pay2 y) (sw3 wd)) (sa3 a) (sa3 b)⟩,
        ⟨Rect.unit (s := S4x256x704) ![2, 0, 0] S1x256x704.size inb_S4x256x704_S1x256x704_2_0_0, k0_pay36 (k0_pay28 (k0_pay2 y) (sw2 wd)) (k0_pay29 (sa2 a)) (k0_pay30 (sa2 b)) (k0_pay31 (sa2 a))⟩,
        ⟨Rect.unit (s := S4x256x704) ![1, 0, 0] S1x256x704.size inb_S4x256x704_S1x256x704_1_0_0, k0_pay25 (k0_pay16 (sa1 a)) (k0_pay18 (sa1 a)) (k0_pay21 (k0_pay2 y) (sw1 wd) (sa1 b)) (k0_pay22 (sa1 a))⟩,
        ⟨Rect.unit (s := S4x256x704) ![0, 0, 0] S1x256x704.size inb_S4x256x704_S1x256x704_0_0_0, k0_pay12 (k0_pay10 y (sw0 wd) (sa0 a) (sa0 b))⟩] (ix3 s i q) = ba y a b wd s i q := by
  rw [Slabs.canon_slab, Slabs.canon_slab, Slabs.canon_slab, Slabs.canon_slab]
  simp only [pay9_apply, pay20_apply, pay33_apply, pay44_apply, pay12_apply, pay13_apply, pay25_apply, pay26_apply, pay36_apply, pay37_apply, pay47_apply, pay48_apply,
    pay10_apply, pay11_apply, pay23_apply, pay24_apply,
    pay34_apply, pay35_apply, pay45_apply, pay46_apply, pay15_apply, pay28_apply, pay39_apply, pay16_apply, pay18_apply, pay19_apply, pay21_apply,
    pay22_apply, pay29_apply, pay30_apply, pay31_apply, pay32_apply, pay2_apply, dw0, dw1, dw2, dw3,
    sa0_apply, sa1_apply, sa2_apply, sa3_apply]
  fin_vals s with hs
  all_goals simp only [hs, Nat.reduceEqDiff, ↓reduceIte]
  · obtain rfl : s = 0 := Fin.ext hs
    rfl
  · obtain rfl : s = 1 := Fin.ext hs
    rfl
  · obtain rfl : s = 2 := Fin.ext hs
    rfl
  · obtain rfl : s = 3 := Fin.ext hs
    rfl
theorem cutb_apply (y : Vec Ideal S256x1024 .f32) (a : Vec Ideal S4x256x704 .bf16) (wd : Vec Ideal S4x704x1024 .bf16) (s : Fin 4) (i : Fin 256) (q : Fin 704) :
    View.canon (Val := Elt Ideal) (s := S4x256x704) (e := .bf16)
      [⟨Rect.unit (s := S4x256x704) ![3, 0, 0] S1x256x704.size inb_S4x256x704_S1x256x704_3_0_0, k0_pay48 (k0_pay39 (k0_pay2 y) (sw3 wd)) (sa3 a)⟩,
        ⟨Rect.unit (s := S4x256x704) ![2, 0, 0] S1x256x704.size inb_S4x256x704_S1x256x704_2_0_0, k0_pay37 (k0_pay28 (k0_pay2 y) (sw2 wd)) (k0_pay32 (sa2 a))⟩,
        ⟨Rect.unit (s := S4x256x704) ![1, 0, 0] S1x256x704.size inb_S4x256x704_S1x256x704_1_0_0, k0_pay26 (k0_pay15 (k0_pay2 y) (sw1 wd)) (k0_pay19 (sa1 a))⟩,
        ⟨Rect.unit (s := S4x256x704) ![0, 0, 0] S1x256x704.size inb_S4x256x704_S1x256x704_0_0_0, k0_pay13 (k0_pay11 y (sw0 wd) (sa0 a))⟩] (ix3 s i q) = bb y a wd s i q := by
  rw [Slabs.canon_slab, Slabs.canon_slab, Slabs.canon_slab, Slabs.canon_slab]
  simp only [pay9_apply, pay20_apply, pay33_apply, pay44_apply, pay12_apply, pay13_apply, pay25_apply, pay26_apply, pay36_apply, pay37_apply, pay47_apply, pay48_apply,
    pay10_apply, pay11_apply, pay23_apply, pay24_apply,
    pay34_apply, pay35_apply, pay45_apply, pay46_apply, pay15_apply, pay28_apply, pay39_apply, pay16_apply, pay18_apply, pay19_apply, pay21_apply,
    pay22_apply, pay29_apply, pay30_apply, pay31_apply, pay32_apply, pay2_apply, dw0, dw1, dw2, dw3,
    sa0_apply, sa1_apply, sa2_apply, sa3_apply]
  fin_vals s with hs
  all_goals simp only [hs, Nat.reduceEqDiff, ↓reduceIte]
  · obtain rfl : s = 0 := Fin.ext hs
    rfl
  · obtain rfl : s = 1 := Fin.ext hs
    rfl
  · obtain rfl : s = 2 := Fin.ext hs
    rfl
  · obtain rfl : s = 3 := Fin.ext hs
    rfl
theorem cuth_apply (a b : Vec Ideal S4x256x704 .bf16) (s : Fin 4) (i : Fin 256) (q : Fin 704) :
    View.canon (Val := Elt Ideal) (s := S4x256x704) (e := .bf16)
      [⟨Rect.unit (s := S4x256x704) ![3, 0, 0] S1x256x704.size inb_S4x256x704_S1x256x704_3_0_0, k0_pay44 (sa3 a) (sa3 b)⟩,
        ⟨Rect.unit (s := S4x256x704) ![2, 0, 0] S1x256x704.size inb_S4x256x704_S1x256x704_2_0_0, k0_pay33 (k0_pay30 (sa2 b)) (k0_pay32 (sa2 a))⟩,
        ⟨Rect.unit (s := S4x256x704) ![1, 0, 0] S1x256x704.size inb_S4x256x704_S1x256x704_1_0_0, k0_pay20 (sa1 a) (sa1 b)⟩,
        ⟨Rect.unit (s := S4x256x704) ![0, 0, 0] S1x256x704.size inb_S4x256x704_S1x256x704_0_0_0, k0_pay9 (sa0 a) (sa0 b)⟩] (ix3 s i q) = Ffn.unit (a (ix3 s i q)) (b (ix3 s i q)) := by
  rw [Slabs.canon_slab, Slabs.canon_slab, Slabs.canon_slab, Slabs.canon_slab]
  simp only [pay9_apply, pay20_apply, pay33_apply, pay44_apply, pay12_apply, pay13_apply, pay25_apply, pay26_apply, pay36_apply, pay37_apply, pay47_apply, pay48_apply,
    pay10_apply, pay11_apply, pay23_apply, pay24_apply,
    pay34_apply, pay35_apply, pay45_apply, pay46_apply, pay15_apply, pay28_apply, pay39_apply, pay16_apply, pay18_apply, pay19_apply, pay21_apply,
    pay22_apply, pay29_apply, pay30_apply, pay31_apply, pay32_apply, pay2_apply, dw0, dw1, dw2, dw3,
    sa0_apply, sa1_apply, sa2_apply, sa3_apply]
  fin_vals s with hs
  all_goals simp only [hs, Nat.reduceEqDiff, ↓reduceIte]
  · obtain rfl : s = 0 := Fin.ext hs
    rfl
  · obtain rfl : s = 1 := Fin.ext hs
    rfl
  · obtain rfl : s = 2 := Fin.ext hs
    rfl
  · obtain rfl : s = 3 := Fin.ext hs
    rfl

end Cert.Kernel2Ideal.Layer

end

end
-- ==== Proof.FfnBwdArr.lean ====
module

public import proofs.«01_k».proof.Defs
public import proofs.«01_k».proof.Proof.Gen.Kernel2
public import proofs.«01_k».proof.Proof.Gen.Pre_finite
public import proofs.«01_k».proof.Proof.Gen.Kernel2Ideal.Value
public import proofs.«01_k».proof.Proof.Gen.Reference2Ideal.Run
public import proofs.«01_k».proof.Proof.Gen.Reference2Ideal.Read
public import Idealize.ShloMosaic.Lib.Quiescent
public import Idealize.ShloMosaic.Lib.Pipeline.ValueKit.Point
public import proofs.«01_k».proof.Proof.Slabs
public import proofs.«01_k».proof.Proof.Ffn
public import proofs.«01_k».proof.Proof.RmsBwd
public import proofs.«01_k».proof.Proof.FfnBwdBody

@[expose] public section

set_option maxRecDepth 16384

noncomputable section

namespace Cert.Kernel2Ideal.Layer

open Idealize.ShloMosaic Idealize.ShloMosaic.TcCoe Idealize.SL.Sem
open Cert.Kernel2Ideal Cert.Kernel2Ideal.Gen

variable (m : (ℓ : Loc nD τ sig) → Buf (Elt Ideal) ℓ)

def A0 (c : Dev nD) : FVec Ideal S8192x1024 .f32 := m ((c : Thread nD τ).loc main_arg0)
def A1 (c : Dev nD) : FVec Ideal S8192x1024 .f32 := m ((c : Thread nD τ).loc main_arg1)
def A2 (c : Dev nD) : FVec Ideal S1024 .f32 := m ((c : Thread nD τ).loc main_arg2)
def A3 (c : Dev nD) : FVec Ideal S1024x2816 .f32 := m ((c : Thread nD τ).loc main_arg3)
def A4 (c : Dev nD) : FVec Ideal S1024x2816 .f32 := m ((c : Thread nD τ).loc main_arg4)
def A5 (c : Dev nD) : FVec Ideal S2816x1024 .f32 := m ((c : Thread nD τ).loc main_arg5)
def X0 (c : Dev nD) (t : Fin cfg0.N) : FVec Ideal S256x1024 .f32 := iblk m c 0 t
def X1 (c : Dev nD) (t : Fin cfg0.N) : FVec Ideal S256x1024 .f32 := iblk m c 1 t
def X2 (c : Dev nD) (t : Fin cfg0.N) : FVec Ideal S1x1024 .f32 := iblk m c 2 t
def X3 (c : Dev nD) (t : Fin cfg0.N) : FVec Ideal S4x256x704 .bf16 := iblk m c 3 t
def X4 (c : Dev nD) (t : Fin cfg0.N) : FVec Ideal S4x256x704 .bf16 := iblk m c 4 t
def X5 (c : Dev nD) (t : Fin cfg0.N) : FVec Ideal S4x704x1024 .bf16 := iblk m c 5 t
def X6 (c : Dev nD) (t : Fin cfg0.N) : FVec Ideal S4x704x1024 .bf16 := iblk m c 6 t
def X7 (c : Dev nD) (t : Fin cfg0.N) : FVec Ideal S4x704x1024 .bf16 := iblk m c 7 t

/-- One entry of the normalized rows, and of a pre-activation. -/
def hr (x : FVec Ideal S8192x1024 .f32) (g : FVec Ideal S1024 .f32) (r : Fin 8192) (l : Fin 1024) : EReal :=
  Ffn.nrm (fun l => x (ix2 r l)) (fun l => g (ix1 l)) l
def dr (x : FVec Ideal S8192x1024 .f32) (g : FVec Ideal S1024 .f32) (w : FVec Ideal S1024x2816 .f32) (r : Fin 8192) (q : Fin 2816) : EReal :=
  ∑ l : Fin 1024, hr x g r l * w (ix2 l q)
/-- The gradient at one hidden unit. -/
def uh (y : FVec Ideal S8192x1024 .f32) (w : FVec Ideal S2816x1024 .f32) (r : Fin 8192) (q : Fin 2816) : EReal :=
  ∑ l : Fin 1024, y (ix2 r l) * w (ix2 q l)

theorem v21 (c : Dev nD) (l : Fin 1024) : V m c main_v21 (ix2 0 l) = A2 m c (ix1 l) := by
  unfold V A2
  after_reads_at
theorem v16 (c : Dev nD) (s : Fin 4) (r : Fin 8192) (q : Fin 704) : V m c main_v16 (ix3 s r q) = dr (A1 m c) (A2 m c) (A3 m c) r (Ffn.at4 s q) := by
  unfold V A1 A2 A3 dr hr Ffn.nrm Ffn.rstd
  after_reads_at
  simp only [Ffn.div_1024]
  rfl
theorem v20 (c : Dev nD) (s : Fin 4) (r : Fin 8192) (q : Fin 704) : V m c main_v20 (ix3 s r q) = dr (A1 m c) (A2 m c) (A4 m c) r (Ffn.at4 s q) := by
  unfold V A1 A2 A4 dr hr Ffn.nrm Ffn.rstd
  after_reads_at
  simp only [Ffn.div_1024]
  rfl
theorem v28g (c : Dev nD) (s : Fin 4) (q : Fin 704) (l : Fin 1024) :
    V m c main_v28 (ix3 s (⟨q.val, by omega⟩ : Fin 2112) l) = A3 m c (ix2 l (Ffn.at4 s q)) := by
  unfold V A3
  after_reads_at
  after_reads_at
  rfl
theorem v28u (c : Dev nD) (s : Fin 4) (q : Fin 704) (l : Fin 1024) :
    V m c main_v28 (ix3 s (⟨704 + q.val, by omega⟩ : Fin 2112) l) = A4 m c (ix2 l (Ffn.at4 s q)) := by
  unfold V A4
  after_reads_at
  after_reads_at
  rfl
theorem v28d (c : Dev nD) (s : Fin 4) (q : Fin 704) (l : Fin 1024) :
    V m c main_v28 (ix3 s (⟨1408 + q.val, by omega⟩ : Fin 2112) l) = A5 m c (ix2 (Ffn.at4 s q) l) := by
  unfold V A5
  after_reads_at
  rw [dif_neg (by omega), dif_neg (by omega)]
  rw [show (⟨1408 + q.val - 704 - 704, by omega⟩ : Fin 704) = q from Fin.ext (by show 1408 + q.val - 704 - 704 = q.val; omega)]
  after_reads_at
  rfl

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, t.val, 0] := (by decide +kernel : ∀ t : Fin grid0.N, _)
theorem e4 : ∀ t : Fin cfg0.N, win0_4.index t = ![0, t.val, 0] := (by decide +kernel : ∀ t : Fin grid0.N, _)
theorem e5 : ∀ t : Fin cfg0.N, win0_5.index t = ![0, 0, 0] := (by decide +kernel : ∀ t : Fin grid0.N, _)
theorem e6 : ∀ t : Fin cfg0.N, win0_6.index t = ![0, 1, 0] := (by decide +kernel : ∀ t : Fin grid0.N, _)
theorem e7 : ∀ t : Fin cfg0.N, win0_7.index t = ![0, 2, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![0, t.val, 0] := (by decide +kernel : ∀ t : Fin grid0.N, _)
theorem e10 : ∀ t : Fin cfg0.N, win0_10.index t = ![0, t.val, 0] := (by decide +kernel : ∀ t : Fin grid0.N, _)
theorem e11 : ∀ t : Fin cfg0.N, win0_11.index t = ![0, t.val, 0] := (by decide +kernel : ∀ t : Fin grid0.N, _)
theorem e12 : ∀ t : Fin cfg0.N, win0_12.index t = ![0, 0] := (by decide +kernel : ∀ t : Fin grid0.N, _)

theorem N_0 : cfg0.N = 32 := by decide +kernel

/-- The row of the whole array that row `i` of tile `t` is. -/
def row (t : Fin cfg0.N) (i : Fin 256) : Fin 8192 := ⟨t.val * 256 + i.val, by
  have h : t.val < 32 := lt_of_lt_of_eq t.isLt N_0
  omega⟩

theorem X0_apply (c : Dev nD) (t : Fin cfg0.N) (i : Fin 256) (l : Fin 1024) : X0 m c t (ix2 i l) = A0 m c (ix2 (row t i) l) := by
  unfold X0 A0 row
  blk_ext [iblk, e0]
theorem X1_apply (c : Dev nD) (t : Fin cfg0.N) (i : Fin 256) (l : Fin 1024) : X1 m c t (ix2 i l) = A1 m c (ix2 (row t i) l) := by
  unfold X1 A1 row
  blk_ext [iblk, e1]
theorem X2_apply (c : Dev nD) (t : Fin cfg0.N) (l : Fin 1024) : X2 m c t (ix2 0 l) = A2 m c (ix1 l) := by
  rw [← v21 m c l]
  unfold X2
  blk_ext [iblk, e2]
theorem X3_apply (c : Dev nD) (t : Fin cfg0.N) (s : Fin 4) (i : Fin 256) (q : Fin 704) : X3 m c t (ix3 s i q) = dr (A1 m c) (A2 m c) (A3 m c) (row t i) (Ffn.at4 s q) := by
  rw [← v16 m c s _ q]
  unfold X3 row
  blk_ext [iblk, e3]
theorem X4_apply (c : Dev nD) (t : Fin cfg0.N) (s : Fin 4) (i : Fin 256) (q : Fin 704) : X4 m c t (ix3 s i q) = dr (A1 m c) (A2 m c) (A4 m c) (row t i) (Ffn.at4 s q) := by
  rw [← v20 m c s _ q]
  unfold X4 row
  blk_ext [iblk, e4]
theorem X5_apply (c : Dev nD) (t : Fin cfg0.N) (s : Fin 4) (q : Fin 704) (l : Fin 1024) : X5 m c t (ix3 s q l) = A3 m c (ix2 l (Ffn.at4 s q)) := by
  rw [← v28g m c s q l]
  unfold X5
  blk_ext [iblk, e5]
theorem X6_apply (c : Dev nD) (t : Fin cfg0.N) (s : Fin 4) (q : Fin 704) (l : Fin 1024) : X6 m c t (ix3 s q l) = A4 m c (ix2 l (Ffn.at4 s q)) := by
  rw [← v28u m c s q l]
  unfold X6
  blk_ext [iblk, e6]
theorem X7_apply (c : Dev nD) (t : Fin cfg0.N) (s : Fin 4) (q : Fin 704) (l : Fin 1024) : X7 m c t (ix3 s q l) = A5 m c (ix2 (Ffn.at4 s q) l) := by
  rw [← v28d m c s q l]
  unfold X7
  blk_ext [iblk, e7]

/-- The two pre-activations, their gradients and the normalized rows' over the whole arrays. -/
def ar (c : Dev nD) (r : Fin 8192) (q : Fin 2816) : EReal := dr (A1 m c) (A2 m c) (A3 m c) r q
def br (c : Dev nD) (r : Fin 8192) (q : Fin 2816) : EReal := dr (A1 m c) (A2 m c) (A4 m c) r q
def dar (c : Dev nD) (r : Fin 8192) (q : Fin 2816) : EReal := gda (uh (A0 m c) (A5 m c) r q) (ar m c r q) (br m c r q)
def dbr (c : Dev nD) (r : Fin 8192) (q : Fin 2816) : EReal := gdb (uh (A0 m c) (A5 m c) r q) (ar m c r q)
def dhr (c : Dev nD) (r : Fin 8192) (j : Fin 1024) : EReal :=
  ∑ q : Fin 2816, dbr m c r q * A4 m c (ix2 j q) + ∑ q : Fin 2816, dar m c r q * A3 m c (ix2 j q)

theorem bh_eq (c : Dev nD) (t : Fin cfg0.N) (s : Fin 4) (i : Fin 256) (q : Fin 704) :
    bh (X0 m c t) (X7 m c t) s i q = uh (A0 m c) (A5 m c) (row t i) (Ffn.at4 s q) := by
  unfold bh uh
  simp only [X0_apply, X7_apply]
theorem ba_eq (c : Dev nD) (t : Fin cfg0.N) (s : Fin 4) (i : Fin 256) (q : Fin 704) :
    ba (X0 m c t) (X3 m c t) (X4 m c t) (X7 m c t) s i q = dar m c (row t i) (Ffn.at4 s q) := by
  unfold ba dar ar br
  rw [bh_eq, X3_apply, X4_apply]
theorem bb_eq (c : Dev nD) (t : Fin cfg0.N) (s : Fin 4) (i : Fin 256) (q : Fin 704) :
    bb (X0 m c t) (X3 m c t) (X7 m c t) s i q = dbr m c (row t i) (Ffn.at4 s q) := by
  unfold bb dbr ar
  rw [bh_eq, X3_apply]
theorem bg_eq (c : Dev nD) (t : Fin cfg0.N) (i : Fin 256) (j : Fin 1024) :
    bg (X0 m c t) (X3 m c t) (X4 m c t) (X5 m c t) (X6 m c t) (X7 m c t) i j = dhr m c (row t i) j := by
  unfold bg dhr
  simp only [ba_eq, bb_eq, X5_apply, X6_apply]
  rw [Ffn.sum_cuts, Ffn.sum_cuts]
  abel

/-- The gradient of the rows and of the gains. -/
def xr (c : Dev nD) (r : Fin 8192) (j : Fin 1024) : EReal :=
  A0 m c (ix2 r j) + Ffn.rstd (fun l => A1 m c (ix2 r l)) * (dhr m c r j * A2 m c (ix1 j)
    - A1 m c (ix2 r j) * Ffn.rstd (fun l => A1 m c (ix2 r l))
      * ((∑ k : Fin 1024, dhr m c r k * A2 m c (ix1 k) * (A1 m c (ix2 r k) * Ffn.rstd (fun l => A1 m c (ix2 r l)))) * Ideal.ofBits FTy.f32 981467136#32))
def gr (c : Dev nD) (r : Fin 8192) (j : Fin 1024) : EReal := dhr m c r j * (A1 m c (ix2 r j) * Ffn.rstd (fun l => A1 m c (ix2 r l)))

theorem out8_t (c : Dev nD) (t : Fin cfg0.N) (i : Fin 256) (j : Fin 1024) :
    (outsAt0 m c t.val t.isLt).1 (ix2 i j) = xr m c (row t i) j := by
  unfold xr
  simp only [← bg_eq, ← X0_apply, ← X1_apply, ← X2_apply m c t, ← pay50_g4]
  by_cases h0 : t.val % 32 = 0
  · rw [outsAt0_A m c t h0]
    frame_out
    exact pay54_apply (X0 m c t) (d3 (X0 m c t) (X3 m c t) (X7 m c t)) (g4 (X0 m c t) (X3 m c t) (X4 m c t) (X5 m c t) (X6 m c t) (X7 m c t)) (sw3 (X6 m c t)) (X1 m c t) (X2 m c t) i j
  · rw [outsAt0_B m c t h0]
    frame_out
    exact pay54_apply (X0 m c t) (d3 (X0 m c t) (X3 m c t) (X7 m c t)) (g4 (X0 m c t) (X3 m c t) (X4 m c t) (X5 m c t) (X6 m c t) (X7 m c t)) (sw3 (X6 m c t)) (X1 m c t) (X2 m c t) i j
theorem out9_t (c : Dev nD) (t : Fin cfg0.N) (s : Fin 4) (i : Fin 256) (q : Fin 704) :
    (outsAt0 m c t.val t.isLt).2.1 (ix3 s i q) = dar m c (row t i) (Ffn.at4 s q) := by
  rw [← ba_eq]
  by_cases h0 : t.val % 32 = 0
  · rw [outsAt0_A m c t h0]
    frame_out
    exact cuta_apply (X0 m c t) (X3 m c t) (X4 m c t) (X7 m c t) s i q
  · rw [outsAt0_B m c t h0]
    frame_out
    exact cuta_apply (X0 m c t) (X3 m c t) (X4 m c t) (X7 m c t) s i q
theorem out10_t (c : Dev nD) (t : Fin cfg0.N) (s : Fin 4) (i : Fin 256) (q : Fin 704) :
    (outsAt0 m c t.val t.isLt).2.2.1 (ix3 s i q) = dbr m c (row t i) (Ffn.at4 s q) := by
  rw [← bb_eq]
  by_cases h0 : t.val % 32 = 0
  · rw [outsAt0_A m c t h0]
    frame_out
    exact cutb_apply (X0 m c t) (X3 m c t) (X7 m c t) s i q
  · rw [outsAt0_B m c t h0]
    frame_out
    exact cutb_apply (X0 m c t) (X3 m c t) (X7 m c t) s i q
theorem out11_t (c : Dev nD) (t : Fin cfg0.N) (s : Fin 4) (i : Fin 256) (q : Fin 704) :
    (outsAt0 m c t.val t.isLt).2.2.2.1 (ix3 s i q) = Ffn.unit (dr (A1 m c) (A2 m c) (A3 m c) (row t i) (Ffn.at4 s q)) (dr (A1 m c) (A2 m c) (A4 m c) (row t i) (Ffn.at4 s q)) := by
  rw [← X3_apply, ← X4_apply]
  by_cases h0 : t.val % 32 = 0
  · rw [outsAt0_A m c t h0]
    frame_out
    exact cuth_apply (X3 m c t) (X4 m c t) s i q
  · rw [outsAt0_B m c t h0]
    frame_out
    exact cuth_apply (X3 m c t) (X4 m c t) s i q

/-- One tile's part of the gains' gradient. -/
def tile (c : Dev nD) (t : Fin cfg0.N) (j : Fin 1024) : EReal := ∑ i : Fin 256, gr m c (row t i) j

theorem out12_A (c : Dev nD) (t : Fin cfg0.N) (h0 : t.val % 32 = 0) (j : Fin 1024) :
    (outsAt0 m c t.val t.isLt).2.2.2.2 (ix2 0 j) = 0 + tile m c t j := by
  unfold tile gr
  simp only [← bg_eq, ← X1_apply, ← pay50_g4]
  rw [outsAt0_A m c t h0]
  frame_out
  refine (pay53_apply (d3 (X0 m c t) (X3 m c t) (X7 m c t)) (g4 (X0 m c t) (X3 m c t) (X4 m c t) (X5 m c t) (X6 m c t) (X7 m c t)) (sw3 (X6 m c t)) (X1 m c t) _ j).trans ?_
  exact Ideal.add_congr (pay1_apply _) rfl
theorem out12_B (c : Dev nD) (t : Fin cfg0.N) (h0 : ¬t.val % 32 = 0) (j : Fin 1024) :
    (outsAt0 m c t.val t.isLt).2.2.2.2 (ix2 0 j)
      = (outsAt0 m c (t.val - 1) (Nat.lt_of_le_of_lt (Nat.sub_le _ _) t.isLt)).2.2.2.2 (ix2 0 j) + tile m c t j := by
  unfold tile gr
  simp only [← bg_eq, ← X1_apply, ← pay50_g4]
  rw [outsAt0_B m c t h0]
  frame_out
  exact pay53_apply (d3 (X0 m c t) (X3 m c t) (X7 m c t)) (g4 (X0 m c t) (X3 m c t) (X4 m c t) (X5 m c t) (X6 m c t) (X7 m c t)) (sw3 (X6 m c t)) (X1 m c t) _ j

theorem out12_last (c : Dev nD) (t : Fin cfg0.N) (ht : t.val + 1 = cfg0.N) (j : Fin 1024) :
    (outsAt0 m c t.val t.isLt).2.2.2.2 (ix2 0 j) = 0 + ∑ p : Fin cfg0.N, tile m c p j :=
  Pipeline.eq_sum_fin_of_reset_step_apply_last (fun n hn (j : Fin 1024) => (outsAt0 m c n hn).2.2.2.2 (ix2 0 j)) 32 (fun _ => (0 : EReal))
    (fun t j => tile m c t j) (fun t ht j => out12_A m c t ht _) (fun t ht j => out12_B m c t ht _) (le_of_eq N_0) t ht j

theorem tiles_sum (c : Dev nD) (j : Fin 1024) : ∑ p : Fin cfg0.N, tile m c p j = ∑ r : Fin 8192, gr m c r j := by
  have h1 : ∑ r : Fin 8192, gr m c r j = ∑ p : Fin 32 × Fin 256, gr m c (row (Fin.cast N_0.symm p.1) p.2) j := by
    refine (Fintype.sum_equiv (finProdFinEquiv (m := 32) (n := 256)) _ _ fun p => ?_).symm
    have hp : row (Fin.cast N_0.symm p.1) p.2 = finProdFinEquiv p := by
      apply Fin.ext
      show p.1.val * 256 + p.2.val = p.2.val + 256 * p.1.val
      omega
    rw [hp]
  rw [h1, Fintype.sum_prod_type]
  exact (Fintype.sum_equiv (finCongr N_0.symm) _ _ fun p => rfl).symm

def DX (c : Dev nD) : FVec Ideal S8192x1024 .f32 := fun i => xr m c (i 0) (i 1)
def DA (c : Dev nD) : FVec Ideal S4x8192x704 .bf16 := fun i => dar m c (i 1) (Ffn.at4 (i 0) (i 2))
def DB (c : Dev nD) : FVec Ideal S4x8192x704 .bf16 := fun i => dbr m c (i 1) (Ffn.at4 (i 0) (i 2))
def HM (c : Dev nD) : FVec Ideal S4x8192x704 .bf16 := fun i =>
  Ffn.unit (dr (A1 m c) (A2 m c) (A3 m c) (i 1) (Ffn.at4 (i 0) (i 2))) (dr (A1 m c) (A2 m c) (A4 m c) (i 1) (Ffn.at4 (i 0) (i 2)))
def DG (c : Dev nD) : FVec Ideal S1x1024 .f32 := fun i => ∑ r : Fin 8192, gr m c r (i 1)

theorem emb8 (t : Fin cfg0.N) (i : Fin 256) (j : Fin 1024) : ((cfg0.win 8).blk t).view.emb (ix2 i j) = ix2 (row t i) j := by
  unfold row
  blk_ext [e8]
theorem emb9 (t : Fin cfg0.N) (s : Fin 4) (i : Fin 256) (q : Fin 704) : ((cfg0.win 9).blk t).view.emb (ix3 s i q) = ix3 s (row t i) q := by
  unfold row
  blk_ext [e9]
theorem emb10 (t : Fin cfg0.N) (s : Fin 4) (i : Fin 256) (q : Fin 704) : ((cfg0.win 10).blk t).view.emb (ix3 s i q) = ix3 s (row t i) q := by
  unfold row
  blk_ext [e10]
theorem emb11 (t : Fin cfg0.N) (s : Fin 4) (i : Fin 256) (q : Fin 704) : ((cfg0.win 11).blk t).view.emb (ix3 s i q) = ix3 s (row t i) q := by
  unfold row
  blk_ext [e11]
theorem emb12 (t : Fin cfg0.N) (j : Fin 1024) : ((cfg0.win 12).blk t).view.emb (ix2 0 j) = ix2 0 j := by
  blk_ext [e12]
theorem flush12 : ∀ t : Fin cfg0.N, (cfg0.win 12).flush t = true → t.val + 1 = cfg0.N :=
  (by decide +kernel : ∀ t : Fin grid0.N, win0_12.flush t = true → t.val + 1 = grid0.N)

theorem final8 (c : Dev nD) : (dats m 0 c).arrAt 8 cfg0.N = DX m c := by
  refine (dats m 0 c).arrAt_eq_of_cover 8 (DX m c) (fun t _ => ?_) (Pipeline.Window.Covers.cover win0_8 (by decide +kernel) (Memref.isWhole_whole _))
  rw [Value.flushed8]
  funext y
  obtain ⟨i, j, rfl⟩ : ∃ (i : Fin 256) (j : Fin 1024), y = ix2 i j := ⟨y 0, y 1, eq_ix2 y⟩
  refine (out8_t m c t i j).trans ?_
  show _ = DX m c (((cfg0.win 8).blk t).view.emb (ix2 i j))
  rw [emb8]
  rfl
theorem final9 (c : Dev nD) : (dats m 0 c).arrAt 9 cfg0.N = DA m c := by
  refine (dats m 0 c).arrAt_eq_of_cover 9 (DA m c) (fun t _ => ?_) (Pipeline.Window.Covers.cover win0_9 (by decide +kernel) (Memref.isWhole_whole _))
  rw [Value.flushed9]
  funext y
  obtain ⟨s, i, q, rfl⟩ : ∃ (s : Fin 4) (i : Fin 256) (q : Fin 704), y = ix3 s i q := ⟨y 0, y 1, y 2, eq_ix3 y⟩
  refine (out9_t m c t s i q).trans ?_
  show _ = DA m c (((cfg0.win 9).blk t).view.emb (ix3 s i q))
  rw [emb9]
  rfl
theorem final10 (c : Dev nD) : (dats m 0 c).arrAt 10 cfg0.N = DB m c := by
  refine (dats m 0 c).arrAt_eq_of_cover 10 (DB m c) (fun t _ => ?_) (Pipeline.Window.Covers.cover win0_10 (by decide +kernel) (Memref.isWhole_whole _))
  rw [Value.flushed10]
  funext y
  obtain ⟨s, i, q, rfl⟩ : ∃ (s : Fin 4) (i : Fin 256) (q : Fin 704), y = ix3 s i q := ⟨y 0, y 1, y 2, eq_ix3 y⟩
  refine (out10_t m c t s i q).trans ?_
  show _ = DB m c (((cfg0.win 10).blk t).view.emb (ix3 s i q))
  rw [emb10]
  rfl
theorem final11 (c : Dev nD) : (dats m 0 c).arrAt 11 cfg0.N = HM m c := by
  refine (dats m 0 c).arrAt_eq_of_cover 11 (HM m c) (fun t _ => ?_) (Pipeline.Window.Covers.cover win0_11 (by decide +kernel) (Memref.isWhole_whole _))
  rw [Value.flushed11]
  funext y
  obtain ⟨s, i, q, rfl⟩ : ∃ (s : Fin 4) (i : Fin 256) (q : Fin 704), y = ix3 s i q := ⟨y 0, y 1, y 2, eq_ix3 y⟩
  refine (out11_t m c t s i q).trans ?_
  show _ = HM m c (((cfg0.win 11).blk t).view.emb (ix3 s i q))
  rw [emb11]
  rfl
theorem final12 (c : Dev nD) : (dats m 0 c).arrAt 12 cfg0.N = DG m c := by
  refine (dats m 0 c).arrAt_eq_of_cover 12 (DG m c) (fun t ht => ?_) (Pipeline.Window.Covers.cover win0_12 (by decide +kernel) (Memref.isWhole_whole _))
  rw [Value.flushed12]
  funext y
  obtain ⟨i, j, rfl⟩ : ∃ (i : Fin 1) (j : Fin 1024), y = ix2 i j := ⟨y 0, y 1, eq_ix2 y⟩
  obtain rfl : i = 0 := Subsingleton.elim _ _
  refine (out12_last m c t (flush12 t ht) j).trans ?_
  show _ = DG m c (((cfg0.win 12).blk t).view.emb (ix2 0 j))
  rw [emb12, zero_add, tiles_sum]
  rfl

end Cert.Kernel2Ideal.Layer

end

end
-- ==== Proof.FfnBwd.lean ====
module

public import proofs.«01_k».proof.Defs
public import proofs.«01_k».proof.Proof.Gen.Kernel2
public import proofs.«01_k».proof.Proof.Gen.Pre_finite
public import proofs.«01_k».proof.Proof.Gen.Kernel2Ideal.Value
public import proofs.«01_k».proof.Proof.Gen.Reference2Ideal.Run
public import proofs.«01_k».proof.Proof.Gen.Reference2Ideal.Read
public import Idealize.ShloMosaic.Lib.Quiescent
public import Idealize.ShloMosaic.Lib.Pipeline.ValueKit.Point
public import proofs.«01_k».proof.Proof.Slabs
public import proofs.«01_k».proof.Proof.Ffn
public import proofs.«01_k».proof.Proof.RmsBwd
public import proofs.«01_k».proof.Proof.FfnBwdArr
public import Idealize.ShloMosaic.Lib.ReduceAll

@[expose] public section

set_option maxRecDepth 16384

noncomputable section

namespace Cert.FfnBwd

open Idealize.ShloMosaic Idealize.ShloMosaic.TcCoe Idealize.SL.Sem
open Cert.Reference2Ideal Cert.Reference2Ideal.Read
open Cert.Kernel2Ideal.Layer (hr dr uh gda gdb ar br dar dbr dhr xr gr A0 A1 A2 A3 A4 A5 DX DA DB HM DG)

/-- An entry below infinity in magnitude is a real number. -/
theorem real_of_cmp {x : EReal} (h : Ideal.cmp .olt (max x (-x)) (Ideal.ofBits FTy.f32 2139095040#32) = 1#1) : Ffn.IsReal x := by
  have ht : Ideal.ofBits FTy.f32 2139095040#32 = ⊤ := by simp [Ideal.ofBits, Ideal.ieee]
  rw [ht] at h
  refine Ffn.real_of_abs ?_
  by_contra hn
  simp [Ideal.cmp, hn] at h

/-- What the precondition says of the arguments it reads. -/
theorem pre_real (x0 x1 : FVec Ideal S8192x1024 .f32) (x2 : FVec Ideal S1024 .f32) (x3 x4 : FVec Ideal S1024x2816 .f32) (x5 : FVec Ideal S2816x1024 .f32) (h : Cert.Pre_finite.fn (F := Ideal) x0 x1 x2 x3 x4 x5 = fun _ => 1#1) :
    (∀ i, Ffn.IsReal (x0 i)) ∧ (∀ i, Ffn.IsReal (x1 i)) ∧ (∀ i, Ffn.IsReal (x2 i)) ∧ (∀ i, Ffn.IsReal (x4 i)) ∧ (∀ i, Ffn.IsReal (x5 i)) := by
  have hs : Subsingleton Cert.Pre_finite.S_.Idx := ⟨fun a b => funext fun k => k.elim0⟩
  have h0 := congrFun h (fun k => k.elim0)
  unfold Cert.Pre_finite.fn Cert.Pre_finite.fn_part1 at h0
  obtain ⟨h0, h5⟩ := IntOp.andi_eq_one.1 h0
  obtain ⟨h0, h4⟩ := IntOp.andi_eq_one.1 h0
  obtain ⟨h0, h2⟩ := IntOp.andi_eq_one.1 h0
  obtain ⟨h0, h1⟩ := IntOp.andi_eq_one.1 h0
  exact ⟨fun i => real_of_cmp (Host.reduce_andi_all _ _ _ _ _ h0 i), fun i => real_of_cmp (Host.reduce_andi_all _ _ _ _ _ h1 i),
    fun i => real_of_cmp (Host.reduce_andi_all _ _ _ _ _ h2 i), fun i => real_of_cmp (Host.reduce_andi_all _ _ _ _ _ h4 i),
    fun i => real_of_cmp (Host.reduce_andi_all _ _ _ _ _ h5 i)⟩

/-- The factor the gate's gradient is taken along is real. -/
theorem real_u (x0 x1 : FVec Ideal S8192x1024 .f32) (x2 : FVec Ideal S1024 .f32) (x4 : FVec Ideal S1024x2816 .f32) (x5 : FVec Ideal S2816x1024 .f32)
    (h0 : ∀ i, Ffn.IsReal (x0 i)) (h1 : ∀ i, Ffn.IsReal (x1 i)) (h2 : ∀ i, Ffn.IsReal (x2 i)) (h4 : ∀ i, Ffn.IsReal (x4 i)) (h5 : ∀ i, Ffn.IsReal (x5 i))
    (r : Fin 8192) (q : Fin 2816) : Ffn.IsReal (uh x0 x5 r q * dr x1 x2 x4 r q) := by
  refine Ffn.IsReal.mul (Ffn.IsReal.sum _ fun l => (h0 _).mul (h5 _)) (Ffn.IsReal.sum _ fun l => Ffn.IsReal.mul ?_ (h4 _))
  obtain ⟨s, _, hs, _⟩ := Ffn.rstd_real (fun l => x1 (ix2 r l))
  exact ((h1 _).mul ⟨s, hs⟩).mul (h2 _)

theorem ref12 (x1 : FVec Ideal S8192x1024 .f32) (x2 : FVec Ideal S1024 .f32) (r : Fin 8192) (l : Fin 1024) :
    val_main_v12 (F := Ideal) x1 x2 (ix2 r l) = hr x1 x2 r l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rw [Ffn.div_1024]
  rfl
theorem ref37 (x1 : FVec Ideal S8192x1024 .f32) (x2 : FVec Ideal S1024 .f32) (r : Fin 8192) (l : Fin 1024) :
    val_main_v37 (F := Ideal) x1 x2 (ix2 r l) = hr x1 x2 r l := by
  exact ref12 x1 x2 r l
theorem ref13 (x1 : FVec Ideal S8192x1024 .f32) (x2 : FVec Ideal S1024 .f32) (w : FVec Ideal S1024x2816 .f32) (r : Fin 8192) (q : Fin 2816) :
    val_main_v13 (F := Ideal) x1 x2 w (ix2 r q) = dr x1 x2 w r q := by
  pointwise [val_main_v13]
  simp only [ref12]
  rfl
theorem ref14 (x1 : FVec Ideal S8192x1024 .f32) (x2 : FVec Ideal S1024 .f32) (w : FVec Ideal S1024x2816 .f32) (r : Fin 8192) (q : Fin 2816) :
    val_main_v14 (F := Ideal) x1 x2 w (ix2 r q) = dr x1 x2 w r q := by
  pointwise [val_main_v14]
  simp only [ref12]
  rfl
theorem ref38 (x1 : FVec Ideal S8192x1024 .f32) (x2 : FVec Ideal S1024 .f32) (w : FVec Ideal S1024x2816 .f32) (r : Fin 8192) (q : Fin 2816) :
    val_main_v38 (F := Ideal) x1 x2 w (ix2 r q) = dr x1 x2 w r q := by
  pointwise [val_main_v38]
  simp only [ref37]
  rfl
theorem ref40 (x1 : FVec Ideal S8192x1024 .f32) (x2 : FVec Ideal S1024 .f32) (w : FVec Ideal S1024x2816 .f32) (r : Fin 8192) (q : Fin 2816) :
    val_main_v40 (F := Ideal) x1 x2 w (ix2 r q) = dr x1 x2 w r q := by
  pointwise [val_main_v40]
  simp only [ref37]
  rfl
theorem ref15_2 (x1 : FVec Ideal S8192x1024 .f32) (x2 : FVec Ideal S1024 .f32) (w : FVec Ideal S1024x2816 .f32) (r : Fin 8192) (q : Fin 2816) :
    val_main_v15_2 (F := Ideal) x1 x2 w (ix2 r q) = Ideal.logistic (dr x1 x2 w r q) := by
  pointwise [val_main_v15_2, val_main_call0_v4, val_main_call0_v3, val_main_call0_v2, val_main_call0_v1, val_main_call0_v0, val_main_call0_cst, val_main_call0_cst_0]
  simp only [ref13]
  rfl
theorem ref15_1 (x1 : FVec Ideal S8192x1024 .f32) (x2 : FVec Ideal S1024 .f32) (w : FVec Ideal S1024x2816 .f32) (r : Fin 8192) (q : Fin 2816) :
    val_main_v15_1 (F := Ideal) x1 x2 w (ix2 r q) = Ideal.logistic (dr x1 x2 w r q) * (1 - Ideal.logistic (dr x1 x2 w r q)) := by
  pointwise [val_main_v15_1, val_main_call0_v7, val_main_call0_v6, val_main_call0_cst_1]
  simp only [ref15_2, Ffn.one_f32]
theorem ref15_0 (x1 : FVec Ideal S8192x1024 .f32) (x2 : FVec Ideal S1024 .f32) (w : FVec Ideal S1024x2816 .f32) (r : Fin 8192) (q : Fin 2816) :
    val_main_v15_0 (F := Ideal) x1 x2 w (ix2 r q) = dr x1 x2 w r q * Ideal.logistic (dr x1 x2 w r q) := by
  pointwise [val_main_v15_0]
  simp only [ref13, ref15_2]
theorem ref39_2 (x1 : FVec Ideal S8192x1024 .f32) (x2 : FVec Ideal S1024 .f32) (w : FVec Ideal S1024x2816 .f32) (r : Fin 8192) (q : Fin 2816) :
    val_main_v39_2 (F := Ideal) x1 x2 w (ix2 r q) = Ideal.logistic (dr x1 x2 w r q) := by
  pointwise [val_main_v39_2, val_main_call2_v4, val_main_call2_v3, val_main_call2_v2, val_main_call2_v1, val_main_call2_v0, val_main_call2_cst, val_main_call2_cst_0]
  simp only [ref38]
  rfl
theorem ref39_1 (x1 : FVec Ideal S8192x1024 .f32) (x2 : FVec Ideal S1024 .f32) (w : FVec Ideal S1024x2816 .f32) (r : Fin 8192) (q : Fin 2816) :
    val_main_v39_1 (F := Ideal) x1 x2 w (ix2 r q) = Ideal.logistic (dr x1 x2 w r q) * (1 - Ideal.logistic (dr x1 x2 w r q)) := by
  pointwise [val_main_v39_1, val_main_call2_v7, val_main_call2_v6, val_main_call2_cst_1]
  simp only [ref39_2, Ffn.one_f32]
theorem ref39_0 (x1 : FVec Ideal S8192x1024 .f32) (x2 : FVec Ideal S1024 .f32) (w : FVec Ideal S1024x2816 .f32) (r : Fin 8192) (q : Fin 2816) :
    val_main_v39_0 (F := Ideal) x1 x2 w (ix2 r q) = dr x1 x2 w r q * Ideal.logistic (dr x1 x2 w r q) := by
  pointwise [val_main_v39_0]
  simp only [ref38, ref39_2]
theorem ref16 (x1 : FVec Ideal S8192x1024 .f32) (x2 : FVec Ideal S1024 .f32) (x3 x4 : FVec Ideal S1024x2816 .f32) (r : Fin 8192) (q : Fin 2816) :
    val_main_v16 (F := Ideal) x1 x2 x3 x4 (ix2 r q) = Ffn.unit (dr x1 x2 x3 r q) (dr x1 x2 x4 r q) := by
  pointwise [val_main_v16]
  simp only [ref15_0, ref14]
  rfl
theorem ref18 (x0 : FVec Ideal S8192x1024 .f32) (x5 : FVec Ideal S2816x1024 .f32) (r : Fin 8192) (q : Fin 2816) :
    val_main_v18 (F := Ideal) x0 x5 (ix2 r q) = uh x0 x5 r q := by
  pointwise [val_main_v18]
  rfl
theorem ref47 (x0 : FVec Ideal S8192x1024 .f32) (x5 : FVec Ideal S2816x1024 .f32) (r : Fin 8192) (q : Fin 2816) :
    val_main_v47 (F := Ideal) x0 x5 (ix2 r q) = uh x0 x5 r q := by
  pointwise [val_main_v47, val_main_v44]
  rfl
theorem ref19 (x0 x1 : FVec Ideal S8192x1024 .f32) (x2 : FVec Ideal S1024 .f32) (x3 : FVec Ideal S1024x2816 .f32) (x5 : FVec Ideal S2816x1024 .f32) (r : Fin 8192) (q : Fin 2816) :
    val_main_v19 (F := Ideal) x0 x1 x2 x3 x5 (ix2 r q) = gdb (uh x0 x5 r q) (dr x1 x2 x3 r q) := by
  pointwise [val_main_v19]
  simp only [ref15_0, ref18]
  exact mul_comm _ _
theorem ref48 (x0 x1 : FVec Ideal S8192x1024 .f32) (x2 : FVec Ideal S1024 .f32) (x3 : FVec Ideal S1024x2816 .f32) (x5 : FVec Ideal S2816x1024 .f32) (r : Fin 8192) (q : Fin 2816) :
    val_main_v48 (F := Ideal) x0 x1 x2 x3 x5 (ix2 r q) = gdb (uh x0 x5 r q) (dr x1 x2 x3 r q) := by
  pointwise [val_main_v48]
  simp only [ref39_0, ref47]
  exact mul_comm _ _
theorem ref20 (x0 x1 : FVec Ideal S8192x1024 .f32) (x2 : FVec Ideal S1024 .f32) (x4 : FVec Ideal S1024x2816 .f32) (x5 : FVec Ideal S2816x1024 .f32) (r : Fin 8192) (q : Fin 2816) :
    val_main_v20 (F := Ideal) x0 x1 x2 x4 x5 (ix2 r q) = uh x0 x5 r q * dr x1 x2 x4 r q := by
  pointwise [val_main_v20]
  simp only [ref14, ref18]
theorem ref49 (x0 x1 : FVec Ideal S8192x1024 .f32) (x2 : FVec Ideal S1024 .f32) (x4 : FVec Ideal S1024x2816 .f32) (x5 : FVec Ideal S2816x1024 .f32) (r : Fin 8192) (q : Fin 2816) :
    val_main_v49 (F := Ideal) x0 x1 x2 x4 x5 (ix2 r q) = uh x0 x5 r q * dr x1 x2 x4 r q := by
  pointwise [val_main_v49]
  simp only [ref40, ref47]
theorem ref21 (x0 x1 : FVec Ideal S8192x1024 .f32) (x2 : FVec Ideal S1024 .f32) (x3 x4 : FVec Ideal S1024x2816 .f32) (x5 : FVec Ideal S2816x1024 .f32) (hu : ∀ r q, Ffn.IsReal (uh x0 x5 r q * dr x1 x2 x4 r q)) (r : Fin 8192) (q : Fin 2816) :
    val_main_v21 (F := Ideal) x0 x1 x2 x3 x4 x5 (ix2 r q) = gda (uh x0 x5 r q) (dr x1 x2 x3 r q) (dr x1 x2 x4 r q) := by
  pointwise [val_main_v21, val_main_call1_v1, val_main_call1_v2, val_main_call1_v0]
  simp only [ref13, ref20, ref15_1, ref15_2]
  exact (Ffn.gate_bwd _ _ (hu r q)).symm
theorem ref53 (x0 x1 : FVec Ideal S8192x1024 .f32) (x2 : FVec Ideal S1024 .f32) (x3 x4 : FVec Ideal S1024x2816 .f32) (x5 : FVec Ideal S2816x1024 .f32) (hu : ∀ r q, Ffn.IsReal (uh x0 x5 r q * dr x1 x2 x4 r q)) (r : Fin 8192) (q : Fin 2816) :
    val_main_v53 (F := Ideal) x0 x1 x2 x3 x4 x5 (ix2 r q) = gda (uh x0 x5 r q) (dr x1 x2 x3 r q) (dr x1 x2 x4 r q) := by
  pointwise [val_main_v53, val_main_call3_v1, val_main_call3_v2, val_main_call3_v0]
  simp only [ref38, ref49, ref39_1, ref39_2]
  exact (Ffn.gate_bwd _ _ (hu r q)).symm

/-- The gradient of one normalized entry. -/
def dh (x0 x1 : FVec Ideal S8192x1024 .f32) (x2 : FVec Ideal S1024 .f32) (x3 x4 : FVec Ideal S1024x2816 .f32) (x5 : FVec Ideal S2816x1024 .f32) (r : Fin 8192) (j : Fin 1024) : EReal :=
  ∑ q : Fin 2816, gdb (uh x0 x5 r q) (dr x1 x2 x3 r q) * x4 (ix2 j q)
    + ∑ q : Fin 2816, gda (uh x0 x5 r q) (dr x1 x2 x3 r q) (dr x1 x2 x4 r q) * x3 (ix2 j q)
theorem ref57 (x0 x1 : FVec Ideal S8192x1024 .f32) (x2 : FVec Ideal S1024 .f32) (x3 x4 : FVec Ideal S1024x2816 .f32) (x5 : FVec Ideal S2816x1024 .f32) (hu : ∀ r q, Ffn.IsReal (uh x0 x5 r q * dr x1 x2 x4 r q)) (r : Fin 8192) (j : Fin 1024) :
    val_main_v57 (F := Ideal) x0 x1 x2 x3 x4 x5 (ix2 r j) = dh x0 x1 x2 x3 x4 x5 r j := by
  pointwise [val_main_v57, val_main_v52, val_main_v56]
  simp only [ref48, ref53 x0 x1 x2 x3 x4 x5 hu]
  rfl
theorem ref29 (x1 : FVec Ideal S8192x1024 .f32) (r : Fin 8192) :
    val_main_v29 (F := Ideal) x1 (ix2 r 0) = Ffn.rstd (fun l => x1 (ix2 r l)) := by
  pointwise [val_main_v29, val_main_v28, val_main_v27, val_main_v26, val_main_v25, val_main_v24, val_main_v23, val_main_v22, val_main_cst_2, val_main_cst_3, val_main_cst_4]
  rw [Ffn.div_1024]
  rfl
theorem ref32 (x1 : FVec Ideal S8192x1024 .f32) (r : Fin 8192) :
    val_main_v32 (F := Ideal) x1 (ix2 r 0) = Ideal.ofBits FTy.f32 3204448256#32 * Ideal.div (Ffn.rstd (fun l => x1 (ix2 r l)))
      ((∑ l, x1 (ix2 r l) * x1 (ix2 r l)) * Ideal.ofBits FTy.f32 981467136#32 + Ideal.ofBits FTy.f32 897988541#32) := by
  pointwise [val_main_v32, val_main_v31, val_main_v30, val_main_cst_5]
  rw [ref29]
  pointwise [val_main_v28, val_main_v27, val_main_v26, val_main_v25, val_main_v24, val_main_v23, val_main_v22, val_main_cst_2, val_main_cst_3, val_main_cst_4]
  rw [Ffn.div_1024]
theorem ref34 (x1 : FVec Ideal S8192x1024 .f32) (r : Fin 8192) (j : Fin 1024) :
    val_main_v34 (F := Ideal) x1 (ix2 r j) = x1 (ix2 r j) * Ffn.rstd (fun l => x1 (ix2 r l)) := by
  pointwise [val_main_v34, val_main_v33]
  simp only [ref29]
theorem ref88 (x0 x1 : FVec Ideal S8192x1024 .f32) (x2 : FVec Ideal S1024 .f32) (x3 x4 : FVec Ideal S1024x2816 .f32) (x5 : FVec Ideal S2816x1024 .f32) (hu : ∀ r q, Ffn.IsReal (uh x0 x5 r q * dr x1 x2 x4 r q)) (j : Fin 1024) :
    val_main_v88 (F := Ideal) x0 x1 x2 x3 x4 x5 (ix2 0 j) = ∑ r : Fin 8192, x1 (ix2 r j) * Ffn.rstd (fun l => x1 (ix2 r l)) * dh x0 x1 x2 x3 x4 x5 r j := by
  pointwise [val_main_v88, val_main_v63, val_main_v60, val_main_v59, val_main_v58, val_main_cst_6, val_main_cst_7]
  simp only [ref34, ref57 x0 x1 x2 x3 x4 x5 hu]
  exact Fin.sum_univ_one _
theorem ref62 (x0 x1 : FVec Ideal S8192x1024 .f32) (x2 : FVec Ideal S1024 .f32) (x3 x4 : FVec Ideal S1024x2816 .f32) (x5 : FVec Ideal S2816x1024 .f32) (hu : ∀ r q, Ffn.IsReal (uh x0 x5 r q * dr x1 x2 x4 r q)) (r : Fin 8192) (j : Fin 1024) :
    val_main_v62 (F := Ideal) x0 x1 x2 x3 x4 x5 (ix2 r j) = dh x0 x1 x2 x3 x4 x5 r j * x2 (ix1 j) := by
  pointwise [val_main_v62, val_main_v61, val_main_v35]
  simp only [ref57 x0 x1 x2 x3 x4 x5 hu]
theorem ref74 (x0 x1 : FVec Ideal S8192x1024 .f32) (x2 : FVec Ideal S1024 .f32) (x3 x4 : FVec Ideal S1024x2816 .f32) (x5 : FVec Ideal S2816x1024 .f32) (hu : ∀ r q, Ffn.IsReal (uh x0 x5 r q * dr x1 x2 x4 r q)) (r : Fin 8192) (j : Fin 1024) :
    val_main_v74 (F := Ideal) x0 x1 x2 x3 x4 x5 (ix2 r j) = (∑ k, x1 (ix2 r k) * (dh x0 x1 x2 x3 x4 x5 r k * x2 (ix1 k))) * (Ideal.ofBits FTy.f32 3204448256#32 * Ideal.div (Ffn.rstd (fun l => x1 (ix2 r l)))
      ((∑ l, x1 (ix2 r l) * x1 (ix2 r l)) * Ideal.ofBits FTy.f32 981467136#32 + Ideal.ofBits FTy.f32 897988541#32)) * Ideal.ofBits FTy.f32 981467136#32 := by
  pointwise [val_main_v74, val_main_v73, val_main_v72, val_main_v71, val_main_v70, val_main_v66, val_main_v65, val_main_v64, val_main_cst_8, val_main_cst_9, val_main_cst_10]
  simp only [ref62 x0 x1 x2 x3 x4 x5 hu, Ffn.div_1024]
  refine (Fin.sum_univ_one _).trans ?_
  show _ * val_main_v32 (F := Ideal) x1 (ix2 r 0) * _ = _
  rw [ref32]
theorem ref78 (x0 x1 : FVec Ideal S8192x1024 .f32) (x2 : FVec Ideal S1024 .f32) (x3 x4 : FVec Ideal S1024x2816 .f32) (x5 : FVec Ideal S2816x1024 .f32) (hu : ∀ r q, Ffn.IsReal (uh x0 x5 r q * dr x1 x2 x4 r q)) (r : Fin 8192) (j : Fin 1024) :
    val_main_v78 (F := Ideal) x0 x1 x2 x3 x4 x5 (ix2 r j) = x0 (ix2 r j) + Ffn.rstd (fun l => x1 (ix2 r l)) * (dh x0 x1 x2 x3 x4 x5 r j * x2 (ix1 j)
      - x1 (ix2 r j) * Ffn.rstd (fun l => x1 (ix2 r l))
        * ((∑ k : Fin 1024, dh x0 x1 x2 x3 x4 x5 r k * x2 (ix1 k) * (x1 (ix2 r k) * Ffn.rstd (fun l => x1 (ix2 r l)))) * Ideal.ofBits FTy.f32 981467136#32)) := by
  pointwise [val_main_v78, val_main_v77, val_main_v76, val_main_v75, val_main_v69, val_main_v68, val_main_v67]
  simp only [ref62 x0 x1 x2 x3 x4 x5 hu, ref74 x0 x1 x2 x3 x4 x5 hu, ref29]
  exact (Ffn.rms_bwd (fun l => x1 (ix2 r l)) (fun k => dh x0 x1 x2 x3 x4 x5 r k * x2 (ix1 k)) (x0 (ix2 r j)) j).symm
theorem ref81 (x0 x1 : FVec Ideal S8192x1024 .f32) (x2 : FVec Ideal S1024 .f32) (x3 x4 : FVec Ideal S1024x2816 .f32) (x5 : FVec Ideal S2816x1024 .f32) (hu : ∀ r q, Ffn.IsReal (uh x0 x5 r q * dr x1 x2 x4 r q)) (s : Fin 4) (r : Fin 8192) (q : Fin 704) :
    val_main_v81 (F := Ideal) x0 x1 x2 x3 x4 x5 (ix3 s r q) = gda (uh x0 x5 r (Ffn.at4 s q)) (dr x1 x2 x3 r (Ffn.at4 s q)) (dr x1 x2 x4 r (Ffn.at4 s q)) := by
  pointwise [val_main_v81, val_main_v80, val_main_v79]
  exact ref21 x0 x1 x2 x3 x4 x5 hu _ _
theorem ref84 (x0 x1 : FVec Ideal S8192x1024 .f32) (x2 : FVec Ideal S1024 .f32) (x3 : FVec Ideal S1024x2816 .f32) (x5 : FVec Ideal S2816x1024 .f32) (s : Fin 4) (r : Fin 8192) (q : Fin 704) :
    val_main_v84 (F := Ideal) x0 x1 x2 x3 x5 (ix3 s r q) = gdb (uh x0 x5 r (Ffn.at4 s q)) (dr x1 x2 x3 r (Ffn.at4 s q)) := by
  pointwise [val_main_v84, val_main_v83, val_main_v82]
  exact ref19 _ _ _ _ _ _ _
theorem ref87 (x1 : FVec Ideal S8192x1024 .f32) (x2 : FVec Ideal S1024 .f32) (x3 x4 : FVec Ideal S1024x2816 .f32) (s : Fin 4) (r : Fin 8192) (q : Fin 704) :
    val_main_v87 (F := Ideal) x1 x2 x3 x4 (ix3 s r q) = Ffn.unit (dr x1 x2 x3 r (Ffn.at4 s q)) (dr x1 x2 x4 r (Ffn.at4 s q)) := by
  pointwise [val_main_v87, val_main_v86, val_main_v85]
  exact ref16 _ _ _ _ _ _

variable (m : (ℓ : Loc Cert.Kernel2Ideal.nD Cert.Kernel2Ideal.τ Cert.Kernel2Ideal.sig) → Buf (Elt Ideal) ℓ) (c : Dev Cert.Kernel2Ideal.nD)
theorem real_m (h : Cert.Pre_Kernel2Ideal_finite m) : ∀ r q, Ffn.IsReal (uh (A0 m c) (A5 m c) r q * dr (A1 m c) (A2 m c) (A4 m c) r q) := by
  obtain ⟨h0, h1, h2, h4, h5⟩ := pre_real (A0 m c) (A1 m c) (A2 m c) (A3 m c) (A4 m c) (A5 m c) (h c)
  exact real_u _ _ _ _ _ h0 h1 h2 h4 h5
theorem value_DX (hu : ∀ r q, Ffn.IsReal (uh (A0 m c) (A5 m c) r q * dr (A1 m c) (A2 m c) (A4 m c) r q)) : DX m c = val_main_v78 (F := Ideal) (A0 m c) (A1 m c) (A2 m c) (A3 m c) (A4 m c) (A5 m c) := by
  funext i
  idx_vars i
  exact (ref78 (A0 m c) (A1 m c) (A2 m c) (A3 m c) (A4 m c) (A5 m c) hu _ _).symm
theorem value_DA (hu : ∀ r q, Ffn.IsReal (uh (A0 m c) (A5 m c) r q * dr (A1 m c) (A2 m c) (A4 m c) r q)) : DA m c = val_main_v81 (F := Ideal) (A0 m c) (A1 m c) (A2 m c) (A3 m c) (A4 m c) (A5 m c) := by
  funext i
  idx_vars i
  exact (ref81 (A0 m c) (A1 m c) (A2 m c) (A3 m c) (A4 m c) (A5 m c) hu _ _ _).symm
theorem value_DB : DB m c = val_main_v84 (F := Ideal) (A0 m c) (A1 m c) (A2 m c) (A3 m c) (A5 m c) := by
  funext i
  idx_vars i
  exact (ref84 _ _ _ _ _ _ _ _).symm
theorem value_HM : HM m c = val_main_v87 (F := Ideal) (A1 m c) (A2 m c) (A3 m c) (A4 m c) := by
  funext i
  idx_vars i
  exact (ref87 _ _ _ _ _ _ _).symm
theorem value_DG (hu : ∀ r q, Ffn.IsReal (uh (A0 m c) (A5 m c) r q * dr (A1 m c) (A2 m c) (A4 m c) r q)) : DG m c = val_main_v88 (F := Ideal) (A0 m c) (A1 m c) (A2 m c) (A3 m c) (A4 m c) (A5 m c) := by
  funext y
  obtain ⟨i, j, rfl⟩ : ∃ (i : Fin 1) (j : Fin 1024), y = ix2 i j := ⟨y 0, y 1, eq_ix2 y⟩
  obtain rfl : i = 0 := Subsingleton.elim _ _
  refine Eq.trans ?_ (ref88 (A0 m c) (A1 m c) (A2 m c) (A3 m c) (A4 m c) (A5 m c) hu j).symm
  exact Finset.sum_congr rfl fun r _ => mul_comm _ _

/-- The two programs have the same functions. -/
theorem defs₀_eq {F : FTy → Type} [FloatOps F] : Cert.Kernel2.defs₀ (F := F) = Cert.Kernel2Ideal.defs₀ (F := F) := by
  unfold Cert.Kernel2.defs₀ Cert.Kernel2Ideal.defs₀
  refine congrArg Defs.onTc (funext fun l => ?_)
  match l with
  | ⟨0, _⟩ => exact funext fun ⟨t, s⟩ => rfl
theorem defs_eq {F : FTy → Type} [FloatOps F] : Cert.Kernel2.defs (F := F) = Cert.Kernel2Ideal.defs (F := F) := by
  unfold Cert.Kernel2.defs Cert.Kernel2Ideal.defs
  rw [defs₀_eq]
  rfl
set_option maxHeartbeats 4000000 in
theorem frame_kernel : Cert.quiescent_Kernel2 := fun m ρ _ => by
  rw [defs_eq]
  exact Cert.Kernel2Ideal.Gen.frame (F := Bits) m ρ
theorem frame_ideal : Cert.quiescent_Kernel2Ideal := fun m ρ _ => Cert.Kernel2Ideal.Gen.frame (F := Ideal) m ρ
theorem frame_ideal_pre : Cert.quiescent_Kernel2Ideal_pre_finite := fun m ρ _ => Cert.Kernel2Ideal.Gen.frame (F := Ideal) m ρ
theorem frame_reference : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)
theorem frame_reference_pre : Cert.quiescent_Reference2Ideal_pre_finite := fun m ρ _ => frame_reference m ρ trivial
theorem preserves : Cert.preserves_Kernel2_Kernel2Ideal := trivial

/-- The five gradients are the reference's, where the arguments are real numbers. -/
theorem algebraic : Cert.algebraic_Kernel2Ideal_Reference2Ideal_pre_finite := fun m ρ m' ρ' hp hargs =>
  ⟨fun c => DX m c, fun c => DA m c, fun c => DB m c, fun c => HM m c, fun c => DG m c,
    (θ_run Cert.Kernel2Ideal.defs _ _).mono (fun _ h c =>
      ⟨(h c).1.trans (Cert.Kernel2Ideal.Layer.final8 m c), (h c).2.1.trans (Cert.Kernel2Ideal.Layer.final9 m c), (h c).2.2.1.trans (Cert.Kernel2Ideal.Layer.final10 m c),
        (h c).2.2.2.1.trans (Cert.Kernel2Ideal.Layer.final11 m c), (h c).2.2.2.2.1.trans (Cert.Kernel2Ideal.Layer.final12 m c), (h c).2.2.2.2.2⟩)
      (Cert.Kernel2Ideal.Value.run_blocks m ρ),
    (θ_run Cert.Reference2Ideal.defs _ _).mono (fun _ h c =>
      ⟨(h c).1.trans ((val_main_v78_eq m' c).trans (by
          rw [(hargs c).1, (hargs c).2.1, (hargs c).2.2.1, (hargs c).2.2.2.1, (hargs c).2.2.2.2.1, (hargs c).2.2.2.2.2]
          exact (value_DX m c (real_m m c hp)).symm)),
        (h c).2.1.trans ((val_main_v81_eq m' c).trans (by
          rw [(hargs c).1, (hargs c).2.1, (hargs c).2.2.1, (hargs c).2.2.2.1, (hargs c).2.2.2.2.1, (hargs c).2.2.2.2.2]
          exact (value_DA m c (real_m m c hp)).symm)),
        (h c).2.2.1.trans (by
          rw [(hargs c).1, (hargs c).2.1, (hargs c).2.2.1, (hargs c).2.2.2.1, (hargs c).2.2.2.2.2]
          exact (val_main_v84_eq _ _ _ _ _).trans (value_DB m c).symm),
        (h c).2.2.2.1.trans (by
          rw [(hargs c).2.1, (hargs c).2.2.1, (hargs c).2.2.2.1, (hargs c).2.2.2.2.1]
          exact (val_main_v87_eq _ _ _ _).trans (value_HM m c).symm),
        (h c).2.2.2.2.1.trans ((val_main_v88_eq m' c).trans (by
          rw [(hargs c).1, (hargs c).2.1, (hargs c).2.2.1, (hargs c).2.2.2.1, (hargs c).2.2.2.2.1, (hargs c).2.2.2.2.2]
          exact (value_DG m c (real_m m c hp)).symm)),
        (h c).2.2.2.2.2⟩) (Cert.Reference2Ideal.Value.run m' ρ')⟩

end Cert.FfnBwd

end

end
-- ==== Proof.WgradGate.lean ====
module

public import proofs.«01_k».proof.Defs
public import Idealize.ShloMosaic.Lib.Quiescent
public import proofs.«01_k».proof.Proof.Slabs
public import proofs.«01_k».proof.Proof.Gen.Kernel3
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

noncomputable section

namespace Cert.Kernel3Ideal.Grad

open Idealize.ShloMosaic Idealize.ShloMosaic.TcCoe Idealize.SL.Sem
open Cert.Kernel3Ideal Cert.Kernel3Ideal.Gen

/-- One slab of the body's four products, added to what the accumulator held. -/
theorem pay2_apply (v4 : FVec Ideal S1024x1024 .bf16) (p : Vec Ideal S1x704x1024 .f32) (a : Vec Ideal S1x1024x704 .bf16) (j : Fin 704) (k : Fin 1024) :
    k0_pay2 v4 p a (ix3 0 j k) = p (ix3 0 j k) + ∑ r : Fin 1024, a (ix3 0 r j) * v4 (ix2 r k) := by
  pointwise! [k0_pay2]
theorem pay1_apply (v4 : FVec Ideal S1024x1024 .bf16) (p : Vec Ideal S1x704x1024 .f32) (a : Vec Ideal S1x1024x704 .bf16) (j : Fin 704) (k : Fin 1024) :
    k0_pay1 v4 (k0_pay8 p) a (ix3 0 j k) = p (ix3 0 j k) + ∑ r : Fin 1024, a (ix3 0 r j) * v4 (ix2 r k) := by
  pointwise! [k0_pay1, k0_pay8]
theorem pay5_eq (v : Vec Ideal S1024x1024 .bf16) : k0_pay5 v = v := by
  unfold k0_pay5; exact shapeCast_self _ _
theorem pay6_apply (v4 : FVec Ideal S1024x1024 .bf16) (p : Vec Ideal S1x704x1024 .f32) (a : Vec Ideal S1x1024x704 .bf16) (j : Fin 704) (k : Fin 1024) :
    k0_pay6 v4 p a (ix3 0 j k) = p (ix3 0 j k) + ∑ r : Fin 1024, a (ix3 0 r j) * v4 (ix2 r k) := by
  pointwise! [k0_pay6, k0_pay5]
theorem pay7_apply (v4 : FVec Ideal S1024x1024 .bf16) (p : Vec Ideal S1x704x1024 .f32) (a : Vec Ideal S1x1024x704 .bf16) (j : Fin 704) (k : Fin 1024) :
    k0_pay7 v4 p a (ix3 0 j k) = p (ix3 0 j k) + ∑ r : Fin 1024, a (ix3 0 r j) * v4 (ix2 r k) := by
  pointwise! [k0_pay7, k0_pay5]
theorem pay4_apply (i : S4x704x1024.Idx) : (k0_pay4 : FVec Ideal S4x704x1024 .f32) i = 0 := by
  pointwise! [k0_pay4]
theorem pay3_apply (v : Vec Ideal S4x704x1024 .f32) (i : S4x704x1024.Idx) : k0_pay3 v i = v i := by
  pointwise! [k0_pay3]

theorem hz3 : (![0, 0, 0] : Fin 3 → ℕ) = fun _ => 0 := funext fun a => by fin_cases a <;> rfl

variable (m : (ℓ : Loc nD τ sig) → Buf (Elt Ideal) ℓ)

/-- The two input blocks of a grid point. -/
def X0 (c : Dev nD) (t : Fin cfg0.N) : FVec Ideal S4x1024x704 .bf16 := iblk m c 0 t
def A0 (c : Dev nD) : FVec Ideal S8192x2816 .f32 := m ((c : Thread nD τ).loc main_arg0)
def A1 (c : Dev nD) : FVec Ideal S8192x1024 .f32 := m ((c : Thread nD τ).loc main_arg1)
def X1 (c : Dev nD) (t : Fin cfg0.N) : FVec Ideal S1024x1024 .bf16 := iblk m c 1 t

theorem read_scratch (x : Vec Ideal S4x704x1024 .f32) :
    View.read (Elt Ideal) (View.whole cc0_scratch0) ((Memref.isWhole_whole cc0_scratch0).unread x) = x :=
  (Memref.isWhole_whole cc0_scratch0).read_unread x

theorem whole_idx (inb) (i : S4x704x1024.Idx) :
    (Rect.unit (s := S4x704x1024) ![0, 0, 0] ![4, 704, 1024] inb).idx i = i := by
  funext a
  apply Fin.ext
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

/-- A later point adds its rows' product to what the accumulator held. -/
theorem scratch_B (c : Dev nD) (t : Fin cfg0.N) (h0 : ¬t.val % 8 = 0) (h1 : ¬t.val % 8 = 7)
    (s : Fin 4) (j : Fin 704) (k : Fin 1024) :
    (outsAt0 m c t.val t.isLt).2 (ix3 s j k)
      = (outsAt0 m c (t.val - 1) (Nat.lt_of_le_of_lt (Nat.sub_le _ _) t.isLt)).2 (ix3 s j k)
        + ∑ r : Fin 1024, X0 m c t (ix3 s r j) * X1 m c t (ix2 r k) := by
  rw [outsAt0_B m c t h0 h1]
  frame_out
  simp only [pay5_eq]
  rw [read_scratch]
  rw [Slabs.canon_slab, Slabs.canon_slab, Slabs.canon_slab, Slabs.canon_slab, pay2_apply, pay1_apply, pay7_apply, pay6_apply]
  fin_vals s with hs
  all_goals simp only [hs, Nat.reduceEqDiff, ↓reduceIte]
  · exact Ideal.add_congr (Slabs.ld_slab 0 _ _ _ _ s hs) (Finset.sum_congr rfl fun r _ => congrArg (· * X1 m c t (ix2 r k)) (Slabs.ld_slab 0 _ _ _ _ s hs))
  · exact Ideal.add_congr (Slabs.ld_slab 1 _ _ _ _ s hs) (Finset.sum_congr rfl fun r _ => congrArg (· * X1 m c t (ix2 r k)) (Slabs.ld_slab 1 _ _ _ _ s hs))
  · exact Ideal.add_congr (Slabs.ld_slab 2 _ _ _ _ s hs) (Finset.sum_congr rfl fun r _ => congrArg (· * X1 m c t (ix2 r k)) (Slabs.ld_slab 2 _ _ _ _ s hs))
  · exact Ideal.add_congr (Slabs.ld_slab 3 _ _ _ _ s hs) (Finset.sum_congr rfl fun r _ => congrArg (· * X1 m c t (ix2 r k)) (Slabs.ld_slab 3 _ _ _ _ s hs))

/-- The first point starts from zero. -/
theorem scratch_A (c : Dev nD) (t : Fin cfg0.N) (h0 : t.val % 8 = 0) (h1 : ¬t.val % 8 = 7)
    (s : Fin 4) (j : Fin 704) (k : Fin 1024) :
    (outsAt0 m c t.val t.isLt).2 (ix3 s j k)
      = 0 + ∑ r : Fin 1024, X0 m c t (ix3 s r j) * X1 m c t (ix2 r k) := by
  rw [outsAt0_A m c t h0 h1]
  frame_out
  simp only [pay5_eq, View.readCov_eq_canon']
  rw [Slabs.canon_slab, Slabs.canon_slab, Slabs.canon_slab, Slabs.canon_slab, pay2_apply, pay1_apply, pay7_apply, pay6_apply]
  fin_vals s with hs
  all_goals simp only [hs, Nat.reduceEqDiff, ↓reduceIte]
  · simp only [Slabs.slab_idx 0 _ _ _ s hs, Slabs.canon_slab, hs, Nat.reduceEqDiff, ↓reduceIte, View.canon_unit_zero (S := S4x704x1024) hz3, pay4_apply]
    exact Ideal.add_congr rfl (Finset.sum_congr rfl fun r _ => congrArg (· * X1 m c t (ix2 r k)) (Slabs.ld_slab 0 _ _ _ _ s hs))
  · simp only [Slabs.slab_idx 1 _ _ _ s hs, Slabs.canon_slab, hs, Nat.reduceEqDiff, ↓reduceIte, View.canon_unit_zero (S := S4x704x1024) hz3, pay4_apply]
    exact Ideal.add_congr rfl (Finset.sum_congr rfl fun r _ => congrArg (· * X1 m c t (ix2 r k)) (Slabs.ld_slab 1 _ _ _ _ s hs))
  · simp only [Slabs.slab_idx 2 _ _ _ s hs, Slabs.canon_slab, hs, Nat.reduceEqDiff, ↓reduceIte, View.canon_unit_zero (S := S4x704x1024) hz3, pay4_apply]
    exact Ideal.add_congr rfl (Finset.sum_congr rfl fun r _ => congrArg (· * X1 m c t (ix2 r k)) (Slabs.ld_slab 2 _ _ _ _ s hs))
  · simp only [Slabs.slab_idx 3 _ _ _ s hs, Slabs.canon_slab, hs, Nat.reduceEqDiff, ↓reduceIte, View.canon_unit_zero (S := S4x704x1024) hz3, pay4_apply]
    exact Ideal.add_congr rfl (Finset.sum_congr rfl fun r _ => congrArg (· * X1 m c t (ix2 r k)) (Slabs.ld_slab 3 _ _ _ _ s hs))

/-- The last point adds its rows' product and writes the accumulator out. -/
theorem out_C (c : Dev nD) (t : Fin cfg0.N) (h0 : ¬t.val % 8 = 0) (h1 : t.val % 8 = 7)
    (s : Fin 4) (j : Fin 704) (k : Fin 1024) :
    (outsAt0 m c t.val t.isLt).1 (ix3 s j k)
      = (outsAt0 m c (t.val - 1) (Nat.lt_of_le_of_lt (Nat.sub_le _ _) t.isLt)).2 (ix3 s j k)
        + ∑ r : Fin 1024, X0 m c t (ix3 s r j) * X1 m c t (ix2 r k) := by
  rw [outsAt0_C m c t h0 h1]
  frame_out
  simp only [pay5_eq, View.readCov_eq_canon', pay3_apply, whole_idx]
  rw [read_scratch]
  rw [Slabs.canon_slab, Slabs.canon_slab, Slabs.canon_slab, Slabs.canon_slab, pay2_apply, pay1_apply, pay7_apply, pay6_apply]
  fin_vals s with hs
  all_goals simp only [hs, Nat.reduceEqDiff, ↓reduceIte]
  · exact Ideal.add_congr (Slabs.ld_slab 0 _ _ _ _ s hs) (Finset.sum_congr rfl fun r _ => congrArg (· * X1 m c t (ix2 r k)) (Slabs.ld_slab 0 _ _ _ _ s hs))
  · exact Ideal.add_congr (Slabs.ld_slab 1 _ _ _ _ s hs) (Finset.sum_congr rfl fun r _ => congrArg (· * X1 m c t (ix2 r k)) (Slabs.ld_slab 1 _ _ _ _ s hs))
  · exact Ideal.add_congr (Slabs.ld_slab 2 _ _ _ _ s hs) (Finset.sum_congr rfl fun r _ => congrArg (· * X1 m c t (ix2 r k)) (Slabs.ld_slab 2 _ _ _ _ s hs))
  · exact Ideal.add_congr (Slabs.ld_slab 3 _ _ _ _ s hs) (Finset.sum_congr rfl fun r _ => congrArg (· * X1 m c t (ix2 r k)) (Slabs.ld_slab 3 _ _ _ _ s hs))

theorem v2 (c : Dev nD) (s : Fin 4) (r : Fin 8192) (j : Fin 704) :
    V m c main_v2 (ix3 s r j) = A0 m c (ix2 r ⟨s.val * 704 + j.val, by omega⟩) := by
  unfold V A0
  after_reads_at
theorem v3 (c : Dev nD) (r : Fin 8192) (k : Fin 1024) :
    V m c main_v3 (ix2 r k) = A1 m c (ix2 r k) := by
  unfold V A1
  after_reads_at

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)

theorem X0_apply (c : Dev nD) (t : Fin cfg0.N) (s : Fin 4) (r : Fin 1024) (j : Fin 704) :
    X0 m c t (ix3 s r j) = A0 m c (ix2 ⟨t.val * 1024 + r.val, by have := t.isLt; have : cfg0.N = 8 := N_0; omega⟩ ⟨s.val * 704 + j.val, by omega⟩) := by
  rw [← v2 m c s ⟨t.val * 1024 + r.val, by have := t.isLt; have : cfg0.N = 8 := N_0; omega⟩ j]
  unfold X0
  blk_ext [iblk, e0]

theorem X1_apply (c : Dev nD) (t : Fin cfg0.N) (r : Fin 1024) (k : Fin 1024) :
    X1 m c t (ix2 r k) = A1 m c (ix2 ⟨t.val * 1024 + r.val, by have := t.isLt; have : cfg0.N = 8 := N_0; omega⟩ k) := by
  rw [← v3 m c ⟨t.val * 1024 + r.val, by have := t.isLt; have : cfg0.N = 8 := N_0; omega⟩ k]
  unfold X1
  blk_ext [iblk, e1]

/-- The result: the sum over all rows of the products. -/
def acc (c : Dev nD) (n : ℕ) (hn : n < cfg0.N) (i : Fin 4 × Fin 704 × Fin 1024) : EReal :=
  if n % 8 = 7 then (outsAt0 m c n hn).1 (ix3 i.1 i.2.1 i.2.2) else (outsAt0 m c n hn).2 (ix3 i.1 i.2.1 i.2.2)

theorem acc_of_last (c : Dev nD) (n : ℕ) (hn : n < cfg0.N) (h : n % 8 = 7) (s : Fin 4) (j : Fin 704) (k : Fin 1024) :
    acc m c n hn (s, j, k) = (outsAt0 m c n hn).1 (ix3 s j k) := if_pos h

theorem acc_last (c : Dev nD) (t : Fin cfg0.N) (ht : t.val + 1 = cfg0.N) (i : Fin 4 × Fin 704 × Fin 1024) :
    acc m c t.val t.isLt i = 0 + ∑ p : Fin cfg0.N, ∑ r : Fin 1024, X0 m c p (ix3 i.1 r i.2.1) * X1 m c p (ix2 r i.2.2) :=
  Pipeline.eq_sum_fin_of_reset_step_apply_last (acc m c) 8 (fun _ => (0 : EReal))
    (fun t i => ∑ r : Fin 1024, X0 m c t (ix3 i.1 r i.2.1) * X1 m c t (ix2 r i.2.2))
    (fun t ht i => by
      unfold acc; rw [if_neg (by omega)]; exact scratch_A m c t ht (by omega) _ _ _)
    (fun t ht i => by
      have := t.isLt
      unfold acc
      rw [if_neg (show ¬ (t.val - 1) % 8 = 7 by have hN : cfg0.N = 8 := N_0; omega)]
      by_cases h1 : t.val % 8 = 7
      · rw [if_pos h1]; exact out_C m c t ht h1 _ _ _
      · rw [if_neg h1]; exact scratch_B m c t ht h1 _ _ _)
    (le_of_eq N_0) t ht i

theorem out_last (c : Dev nD) (t : Fin cfg0.N) (ht : t.val = 7) (s : Fin 4) (j : Fin 704) (k : Fin 1024) :
    (outsAt0 m c t.val t.isLt).1 (ix3 s j k)
      = ∑ l : Fin 8192, A0 m c (ix2 l ⟨s.val * 704 + j.val, by omega⟩) * A1 m c (ix2 l k) := by
  have hN : cfg0.N = 8 := N_0
  rw [← acc_of_last m c t.val t.isLt (by omega), acc_last m c t (by omega), zero_add]
  refine Fin.sum_mul_add_congr (fun p r hl => ?_) (by omega)
  rw [X0_apply, X1_apply]

theorem G2_apply (c : Dev nD) (s : Fin 4) (j : Fin 704) (k : Fin 1024) :
    Value.G2 m c (ix3 s j k)
      = ∑ l : Fin 8192, A0 m c (ix2 l ⟨s.val * 704 + j.val, by omega⟩) * A1 m c (ix2 l k) := by
  rw [Value.G2_last, ← out_last m c ⟨7, by have : cfg0.N = 8 := N_0; omega⟩ rfl s j k]
  exact (congrArg (fun f => f.1 (ix3 s j k)) (Value.outsAt0_sweep m c 7 _)).symm

end Cert.Kernel3Ideal.Grad

namespace Cert.WgradGate

open Idealize.ShloMosaic Idealize.ShloMosaic.TcCoe Idealize.SL.Sem
open Cert.Reference3Ideal Cert.Reference3Ideal.Read

theorem val_apply (x0 : FVec Ideal S8192x2816 .f32) (x1 : FVec Ideal S8192x1024 .f32) (s : Fin 4) (j : Fin 704) (k : Fin 1024) :
    val_main_v6 (F := Ideal) x0 x1 (ix3 s j k)
      = ∑ l : Fin 8192, x0 (ix2 l ⟨s.val * 704 + j.val, by omega⟩) * x1 (ix2 l k) := by
  pointwise! [val_main_v6, val_main_v5, val_main_v4, val_main_v3, val_main_v2]

theorem value (m : (ℓ : Loc Cert.Kernel3Ideal.nD Cert.Kernel3Ideal.τ Cert.Kernel3Ideal.sig) → Buf (Elt Ideal) ℓ) (c : Dev Cert.Kernel3Ideal.nD) :
    Cert.Kernel3Ideal.Value.G2 m c = val_main_v6 (F := Ideal) (Cert.Kernel3Ideal.Grad.A0 m c) (Cert.Kernel3Ideal.Grad.A1 m c) := by
  funext i
  idx_vars i
  exact (Cert.Kernel3Ideal.Grad.G2_apply m c _ _ _).trans (val_apply _ _ _ _ _).symm

/-- The two programs have the same functions. -/
theorem defs₀_eq {F : FTy → Type} [FloatOps F] : Cert.Kernel3.defs₀ (F := F) = Cert.Kernel3Ideal.defs₀ (F := F) := by
  unfold Cert.Kernel3.defs₀ Cert.Kernel3Ideal.defs₀
  refine congrArg Defs.onTc (funext fun l => ?_)
  match l with
  | ⟨0, _⟩ => exact funext fun ⟨t, s⟩ => rfl
theorem defs_eq {F : FTy → Type} [FloatOps F] : Cert.Kernel3.defs (F := F) = Cert.Kernel3Ideal.defs (F := F) := by
  unfold Cert.Kernel3.defs Cert.Kernel3Ideal.defs
  rw [defs₀_eq]
  rfl
theorem frame_kernel : Cert.quiescent_Kernel3 := fun m ρ _ => by
  rw [defs_eq]
  exact Cert.Kernel3Ideal.Gen.frame (F := Bits) m ρ
theorem frame_ideal : Cert.quiescent_Kernel3Ideal := fun m ρ _ => Cert.Kernel3Ideal.Gen.frame (F := Ideal) m ρ
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem preserves : Cert.preserves_Kernel3_Kernel3Ideal := trivial

/-- The gradient the kernel accumulates is the reference's product. -/
theorem algebraic : Cert.algebraic_Kernel3Ideal_Reference3Ideal := fun m ρ m' ρ' _ hargs =>
  ⟨fun c => Cert.Kernel3Ideal.Value.G2 m c, Cert.Kernel3Ideal.Value.run m ρ,
    (θ_run Cert.Reference3Ideal.defs _ _).mono (fun _ h c => ⟨(h c).1.trans (by
      rw [(hargs c).1, (hargs c).2]
      exact (val_main_v6_eq _ _).trans (value m c).symm), (h c).2⟩) (Cert.Reference3Ideal.Value.run m' ρ')⟩

end Cert.WgradGate
-- ==== Proof.WgradDown.lean ====
module

public import proofs.«01_k».proof.Defs
public import Idealize.ShloMosaic.Lib.Quiescent
public import proofs.«01_k».proof.Proof.Slabs
public import proofs.«01_k».proof.Proof.Gen.Kernel4
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384

noncomputable section

namespace Cert.Kernel4Ideal.Grad

open Idealize.ShloMosaic Idealize.ShloMosaic.TcCoe Idealize.SL.Sem
open Cert.Kernel4Ideal Cert.Kernel4Ideal.Gen

/-- One slab of the body's four products, added to what the accumulator held. -/
theorem pay2_apply (v4 : FVec Ideal S1024x1024 .bf16) (p : Vec Ideal S1x704x1024 .f32) (a : Vec Ideal S1x1024x704 .bf16) (j : Fin 704) (k : Fin 1024) :
    k0_pay2 v4 p a (ix3 0 j k) = p (ix3 0 j k) + ∑ r : Fin 1024, a (ix3 0 r j) * v4 (ix2 r k) := by
  pointwise! [k0_pay2]
theorem pay1_apply (v4 : FVec Ideal S1024x1024 .bf16) (p : Vec Ideal S1x704x1024 .f32) (a : Vec Ideal S1x1024x704 .bf16) (j : Fin 704) (k : Fin 1024) :
    k0_pay1 v4 (k0_pay8 p) a (ix3 0 j k) = p (ix3 0 j k) + ∑ r : Fin 1024, a (ix3 0 r j) * v4 (ix2 r k) := by
  pointwise! [k0_pay1, k0_pay8]
theorem pay5_eq (v : Vec Ideal S1024x1024 .f32) : k0_pay5 v = v := by
  unfold k0_pay5; rfl
theorem pay6_apply (v4 : FVec Ideal S1024x1024 .f32) (p : Vec Ideal S1x704x1024 .f32) (a : Vec Ideal S1x1024x704 .bf16) (j : Fin 704) (k : Fin 1024) :
    k0_pay6 v4 p a (ix3 0 j k) = p (ix3 0 j k) + ∑ r : Fin 1024, a (ix3 0 r j) * v4 (ix2 r k) := by
  pointwise! [k0_pay6, k0_pay5]
theorem pay7_apply (v4 : FVec Ideal S1024x1024 .f32) (p : Vec Ideal S1x704x1024 .f32) (a : Vec Ideal S1x1024x704 .bf16) (j : Fin 704) (k : Fin 1024) :
    k0_pay7 v4 p a (ix3 0 j k) = p (ix3 0 j k) + ∑ r : Fin 1024, a (ix3 0 r j) * v4 (ix2 r k) := by
  pointwise! [k0_pay7, k0_pay5]
theorem pay4_apply (i : S4x704x1024.Idx) : (k0_pay4 : FVec Ideal S4x704x1024 .f32) i = 0 := by
  pointwise! [k0_pay4]
theorem pay3_apply (v : Vec Ideal S4x704x1024 .f32) (i : S4x704x1024.Idx) : k0_pay3 v i = v i := by
  pointwise! [k0_pay3]

theorem hz3 : (![0, 0, 0] : Fin 3 → ℕ) = fun _ => 0 := funext fun a => by fin_cases a <;> rfl

variable (m : (ℓ : Loc nD τ sig) → Buf (Elt Ideal) ℓ)

/-- The two input blocks of a grid point. -/
def X0 (c : Dev nD) (t : Fin cfg0.N) : FVec Ideal S4x1024x704 .bf16 := iblk m c 0 t
def A0 (c : Dev nD) : FVec Ideal S8192x2816 .f32 := m ((c : Thread nD τ).loc main_arg0)
def A1 (c : Dev nD) : FVec Ideal S8192x1024 .f32 := m ((c : Thread nD τ).loc main_arg1)
def X1 (c : Dev nD) (t : Fin cfg0.N) : FVec Ideal S1024x1024 .f32 := iblk m c 1 t

theorem read_scratch (x : Vec Ideal S4x704x1024 .f32) :
    View.read (Elt Ideal) (View.whole cc0_scratch0) ((Memref.isWhole_whole cc0_scratch0).unread x) = x :=
  (Memref.isWhole_whole cc0_scratch0).read_unread x

theorem whole_idx (inb) (i : S4x704x1024.Idx) :
    (Rect.unit (s := S4x704x1024) ![0, 0, 0] ![4, 704, 1024] inb).idx i = i := by
  funext a
  apply Fin.ext
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

/-- A later point adds its rows' product to what the accumulator held. -/
theorem scratch_B (c : Dev nD) (t : Fin cfg0.N) (h0 : ¬t.val % 8 = 0) (h1 : ¬t.val % 8 = 7)
    (s : Fin 4) (j : Fin 704) (k : Fin 1024) :
    (outsAt0 m c t.val t.isLt).2 (ix3 s j k)
      = (outsAt0 m c (t.val - 1) (Nat.lt_of_le_of_lt (Nat.sub_le _ _) t.isLt)).2 (ix3 s j k)
        + ∑ r : Fin 1024, X0 m c t (ix3 s r j) * X1 m c t (ix2 r k) := by
  rw [outsAt0_B m c t h0 h1]
  frame_out
  simp only [pay5_eq]
  rw [read_scratch]
  rw [Slabs.canon_slab, Slabs.canon_slab, Slabs.canon_slab, Slabs.canon_slab, pay2_apply, pay1_apply, pay7_apply, pay6_apply]
  fin_vals s with hs
  all_goals simp only [hs, Nat.reduceEqDiff, ↓reduceIte]
  · exact Ideal.add_congr (Slabs.ld_slab 0 _ _ _ _ s hs) (Finset.sum_congr rfl fun r _ => congrArg (· * X1 m c t (ix2 r k)) (Slabs.ld_slab 0 _ _ _ _ s hs))
  · exact Ideal.add_congr (Slabs.ld_slab 1 _ _ _ _ s hs) (Finset.sum_congr rfl fun r _ => congrArg (· * X1 m c t (ix2 r k)) (Slabs.ld_slab 1 _ _ _ _ s hs))
  · exact Ideal.add_congr (Slabs.ld_slab 2 _ _ _ _ s hs) (Finset.sum_congr rfl fun r _ => congrArg (· * X1 m c t (ix2 r k)) (Slabs.ld_slab 2 _ _ _ _ s hs))
  · exact Ideal.add_congr (Slabs.ld_slab 3 _ _ _ _ s hs) (Finset.sum_congr rfl fun r _ => congrArg (· * X1 m c t (ix2 r k)) (Slabs.ld_slab 3 _ _ _ _ s hs))

/-- The first point starts from zero. -/
theorem scratch_A (c : Dev nD) (t : Fin cfg0.N) (h0 : t.val % 8 = 0) (h1 : ¬t.val % 8 = 7)
    (s : Fin 4) (j : Fin 704) (k : Fin 1024) :
    (outsAt0 m c t.val t.isLt).2 (ix3 s j k)
      = 0 + ∑ r : Fin 1024, X0 m c t (ix3 s r j) * X1 m c t (ix2 r k) := by
  rw [outsAt0_A m c t h0 h1]
  frame_out
  simp only [pay5_eq, View.readCov_eq_canon']
  rw [Slabs.canon_slab, Slabs.canon_slab, Slabs.canon_slab, Slabs.canon_slab, pay2_apply, pay1_apply, pay7_apply, pay6_apply]
  fin_vals s with hs
  all_goals simp only [hs, Nat.reduceEqDiff, ↓reduceIte]
  · simp only [Slabs.slab_idx 0 _ _ _ s hs, Slabs.canon_slab, hs, Nat.reduceEqDiff, ↓reduceIte, View.canon_unit_zero (S := S4x704x1024) hz3, pay4_apply]
    exact Ideal.add_congr rfl (Finset.sum_congr rfl fun r _ => congrArg (· * X1 m c t (ix2 r k)) (Slabs.ld_slab 0 _ _ _ _ s hs))
  · simp only [Slabs.slab_idx 1 _ _ _ s hs, Slabs.canon_slab, hs, Nat.reduceEqDiff, ↓reduceIte, View.canon_unit_zero (S := S4x704x1024) hz3, pay4_apply]
    exact Ideal.add_congr rfl (Finset.sum_congr rfl fun r _ => congrArg (· * X1 m c t (ix2 r k)) (Slabs.ld_slab 1 _ _ _ _ s hs))
  · simp only [Slabs.slab_idx 2 _ _ _ s hs, Slabs.canon_slab, hs, Nat.reduceEqDiff, ↓reduceIte, View.canon_unit_zero (S := S4x704x1024) hz3, pay4_apply]
    exact Ideal.add_congr rfl (Finset.sum_congr rfl fun r _ => congrArg (· * X1 m c t (ix2 r k)) (Slabs.ld_slab 2 _ _ _ _ s hs))
  · simp only [Slabs.slab_idx 3 _ _ _ s hs, Slabs.canon_slab, hs, Nat.reduceEqDiff, ↓reduceIte, View.canon_unit_zero (S := S4x704x1024) hz3, pay4_apply]
    exact Ideal.add_congr rfl (Finset.sum_congr rfl fun r _ => congrArg (· * X1 m c t (ix2 r k)) (Slabs.ld_slab 3 _ _ _ _ s hs))

/-- The last point adds its rows' product and writes the accumulator out. -/
theorem out_C (c : Dev nD) (t : Fin cfg0.N) (h0 : ¬t.val % 8 = 0) (h1 : t.val % 8 = 7)
    (s : Fin 4) (j : Fin 704) (k : Fin 1024) :
    (outsAt0 m c t.val t.isLt).1 (ix3 s j k)
      = (outsAt0 m c (t.val - 1) (Nat.lt_of_le_of_lt (Nat.sub_le _ _) t.isLt)).2 (ix3 s j k)
        + ∑ r : Fin 1024, X0 m c t (ix3 s r j) * X1 m c t (ix2 r k) := by
  rw [outsAt0_C m c t h0 h1]
  frame_out
  simp only [pay5_eq, View.readCov_eq_canon', pay3_apply, whole_idx]
  rw [read_scratch]
  rw [Slabs.canon_slab, Slabs.canon_slab, Slabs.canon_slab, Slabs.canon_slab, pay2_apply, pay1_apply, pay7_apply, pay6_apply]
  fin_vals s with hs
  all_goals simp only [hs, Nat.reduceEqDiff, ↓reduceIte]
  · exact Ideal.add_congr (Slabs.ld_slab 0 _ _ _ _ s hs) (Finset.sum_congr rfl fun r _ => congrArg (· * X1 m c t (ix2 r k)) (Slabs.ld_slab 0 _ _ _ _ s hs))
  · exact Ideal.add_congr (Slabs.ld_slab 1 _ _ _ _ s hs) (Finset.sum_congr rfl fun r _ => congrArg (· * X1 m c t (ix2 r k)) (Slabs.ld_slab 1 _ _ _ _ s hs))
  · exact Ideal.add_congr (Slabs.ld_slab 2 _ _ _ _ s hs) (Finset.sum_congr rfl fun r _ => congrArg (· * X1 m c t (ix2 r k)) (Slabs.ld_slab 2 _ _ _ _ s hs))
  · exact Ideal.add_congr (Slabs.ld_slab 3 _ _ _ _ s hs) (Finset.sum_congr rfl fun r _ => congrArg (· * X1 m c t (ix2 r k)) (Slabs.ld_slab 3 _ _ _ _ s hs))

theorem v2 (c : Dev nD) (s : Fin 4) (r : Fin 8192) (j : Fin 704) :
    V m c main_v2 (ix3 s r j) = A0 m c (ix2 r ⟨s.val * 704 + j.val, by omega⟩) := by
  unfold V A0
  after_reads_at
theorem v3 (c : Dev nD) (r : Fin 8192) (k : Fin 1024) :
    V m c main_arg1 (ix2 r k) = A1 m c (ix2 r k) := by
  unfold V A1
  after_reads_at

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)

theorem X0_apply (c : Dev nD) (t : Fin cfg0.N) (s : Fin 4) (r : Fin 1024) (j : Fin 704) :
    X0 m c t (ix3 s r j) = A0 m c (ix2 ⟨t.val * 1024 + r.val, by have := t.isLt; have : cfg0.N = 8 := N_0; omega⟩ ⟨s.val * 704 + j.val, by omega⟩) := by
  rw [← v2 m c s ⟨t.val * 1024 + r.val, by have := t.isLt; have : cfg0.N = 8 := N_0; omega⟩ j]
  unfold X0
  blk_ext [iblk, e0]

theorem X1_apply (c : Dev nD) (t : Fin cfg0.N) (r : Fin 1024) (k : Fin 1024) :
    X1 m c t (ix2 r k) = A1 m c (ix2 ⟨t.val * 1024 + r.val, by have := t.isLt; have : cfg0.N = 8 := N_0; omega⟩ k) := by
  rw [← v3 m c ⟨t.val * 1024 + r.val, by have := t.isLt; have : cfg0.N = 8 := N_0; omega⟩ k]
  unfold X1
  blk_ext [iblk, e1]

/-- The result: the sum over all rows of the products. -/
def acc (c : Dev nD) (n : ℕ) (hn : n < cfg0.N) (i : Fin 4 × Fin 704 × Fin 1024) : EReal :=
  if n % 8 = 7 then (outsAt0 m c n hn).1 (ix3 i.1 i.2.1 i.2.2) else (outsAt0 m c n hn).2 (ix3 i.1 i.2.1 i.2.2)

theorem acc_of_last (c : Dev nD) (n : ℕ) (hn : n < cfg0.N) (h : n % 8 = 7) (s : Fin 4) (j : Fin 704) (k : Fin 1024) :
    acc m c n hn (s, j, k) = (outsAt0 m c n hn).1 (ix3 s j k) := if_pos h

theorem acc_last (c : Dev nD) (t : Fin cfg0.N) (ht : t.val + 1 = cfg0.N) (i : Fin 4 × Fin 704 × Fin 1024) :
    acc m c t.val t.isLt i = 0 + ∑ p : Fin cfg0.N, ∑ r : Fin 1024, X0 m c p (ix3 i.1 r i.2.1) * X1 m c p (ix2 r i.2.2) :=
  Pipeline.eq_sum_fin_of_reset_step_apply_last (acc m c) 8 (fun _ => (0 : EReal))
    (fun t i => ∑ r : Fin 1024, X0 m c t (ix3 i.1 r i.2.1) * X1 m c t (ix2 r i.2.2))
    (fun t ht i => by
      unfold acc; rw [if_neg (by omega)]; exact scratch_A m c t ht (by omega) _ _ _)
    (fun t ht i => by
      have := t.isLt
      unfold acc
      rw [if_neg (show ¬ (t.val - 1) % 8 = 7 by have hN : cfg0.N = 8 := N_0; omega)]
      by_cases h1 : t.val % 8 = 7
      · rw [if_pos h1]; exact out_C m c t ht h1 _ _ _
      · rw [if_neg h1]; exact scratch_B m c t ht h1 _ _ _)
    (le_of_eq N_0) t ht i

theorem out_last (c : Dev nD) (t : Fin cfg0.N) (ht : t.val = 7) (s : Fin 4) (j : Fin 704) (k : Fin 1024) :
    (outsAt0 m c t.val t.isLt).1 (ix3 s j k)
      = ∑ l : Fin 8192, A0 m c (ix2 l ⟨s.val * 704 + j.val, by omega⟩) * A1 m c (ix2 l k) := by
  have hN : cfg0.N = 8 := N_0
  rw [← acc_of_last m c t.val t.isLt (by omega), acc_last m c t (by omega), zero_add]
  refine Fin.sum_mul_add_congr (fun p r hl => ?_) (by omega)
  rw [X0_apply, X1_apply]

theorem G2_apply (c : Dev nD) (s : Fin 4) (j : Fin 704) (k : Fin 1024) :
    Value.G2 m c (ix3 s j k)
      = ∑ l : Fin 8192, A0 m c (ix2 l ⟨s.val * 704 + j.val, by omega⟩) * A1 m c (ix2 l k) := by
  rw [Value.G2_last, ← out_last m c ⟨7, by have : cfg0.N = 8 := N_0; omega⟩ rfl s j k]
  exact (congrArg (fun f => f.1 (ix3 s j k)) (Value.outsAt0_sweep m c 7 _)).symm

end Cert.Kernel4Ideal.Grad

namespace Cert.WgradDown

open Idealize.ShloMosaic Idealize.ShloMosaic.TcCoe Idealize.SL.Sem
open Cert.Reference4Ideal Cert.Reference4Ideal.Read

theorem val_apply (x0 : FVec Ideal S8192x2816 .f32) (x1 : FVec Ideal S8192x1024 .f32) (s : Fin 4) (j : Fin 704) (k : Fin 1024) :
    val_main_v5 (F := Ideal) x0 x1 (ix3 s j k)
      = ∑ l : Fin 8192, x0 (ix2 l ⟨s.val * 704 + j.val, by omega⟩) * x1 (ix2 l k) := by
  pointwise! [val_main_v5, val_main_v4, val_main_v3, val_main_v2]

theorem value (m : (ℓ : Loc Cert.Kernel4Ideal.nD Cert.Kernel4Ideal.τ Cert.Kernel4Ideal.sig) → Buf (Elt Ideal) ℓ) (c : Dev Cert.Kernel4Ideal.nD) :
    Cert.Kernel4Ideal.Value.G2 m c = val_main_v5 (F := Ideal) (Cert.Kernel4Ideal.Grad.A0 m c) (Cert.Kernel4Ideal.Grad.A1 m c) := by
  funext i
  idx_vars i
  exact (Cert.Kernel4Ideal.Grad.G2_apply m c _ _ _).trans (val_apply _ _ _ _ _).symm

/-- The two programs have the same functions. -/
theorem defs₀_eq {F : FTy → Type} [FloatOps F] : Cert.Kernel4.defs₀ (F := F) = Cert.Kernel4Ideal.defs₀ (F := F) := by
  unfold Cert.Kernel4.defs₀ Cert.Kernel4Ideal.defs₀
  refine congrArg Defs.onTc (funext fun l => ?_)
  match l with
  | ⟨0, _⟩ => exact funext fun ⟨t, s⟩ => rfl
theorem defs_eq {F : FTy → Type} [FloatOps F] : Cert.Kernel4.defs (F := F) = Cert.Kernel4Ideal.defs (F := F) := by
  unfold Cert.Kernel4.defs Cert.Kernel4Ideal.defs
  rw [defs₀_eq]
  rfl
theorem frame_kernel : Cert.quiescent_Kernel4 := fun m ρ _ => by
  rw [defs_eq]
  exact Cert.Kernel4Ideal.Gen.frame (F := Bits) m ρ
theorem frame_ideal : Cert.quiescent_Kernel4Ideal := fun m ρ _ => Cert.Kernel4Ideal.Gen.frame (F := Ideal) m ρ
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
theorem preserves : Cert.preserves_Kernel4_Kernel4Ideal := trivial

/-- The gradient the kernel accumulates is the reference's product. -/
theorem algebraic : Cert.algebraic_Kernel4Ideal_Reference4Ideal := fun m ρ m' ρ' _ hargs =>
  ⟨fun c => Cert.Kernel4Ideal.Value.G2 m c, Cert.Kernel4Ideal.Value.run m ρ,
    (θ_run Cert.Reference4Ideal.defs _ _).mono (fun _ h c => ⟨(h c).1.trans (by
      rw [(hargs c).1, (hargs c).2]
      exact (val_main_v5_eq _ _).trans (value m c).symm), (h c).2⟩) (Cert.Reference4Ideal.Value.run m' ρ')⟩

end Cert.WgradDown
-- ==== Proof.FfnFwd.lean ====
module

public import proofs.«01_k».proof.Defs
public import proofs.«01_k».proof.Proof.Gen.Kernel5
public import proofs.«01_k».proof.Proof.Gen.Kernel5Ideal.Value
public import proofs.«01_k».proof.Proof.Gen.Reference5Ideal.Run
public import proofs.«01_k».proof.Proof.Gen.Reference5Ideal.Read
public import Idealize.ShloMosaic.Lib.Quiescent
public import Idealize.ShloMosaic.Lib.Pipeline.ValueKit.Point
public import proofs.«01_k».proof.Proof.Slabs
public import proofs.«01_k».proof.Proof.Ffn

@[expose] public section

set_option maxRecDepth 16384

noncomputable section

namespace Cert.Kernel5Ideal.Layer

open Idealize.ShloMosaic Idealize.ShloMosaic.TcCoe Idealize.SL.Sem
open Cert.Kernel5Ideal Cert.Kernel5Ideal.Gen

/-- One entry of a row's product with one cut of a weight. -/
def dw (h : Fin 1024 → EReal) (w : Vec Ideal S1x704x1024 .bf16) (q : Fin 704) : EReal := ∑ l : Fin 1024, h l * w (ix3 0 q l)

/-- One entry of a hidden cut's product with its cut of the last weight. -/
def dn (u : Fin 704 → EReal) (w : Vec Ideal S1x704x1024 .bf16) (j : Fin 1024) : EReal := ∑ q : Fin 704, u q * w (ix3 0 q j)

/-! The body's values at an index -/

theorem pay3_apply (x : Vec Ideal S512x1024 .f32) (g : Vec Ideal S1x1024 .f32) (i : Fin 512) (l : Fin 1024) :
    k0_pay3 x g (ix2 i l) = Ffn.nrm (fun l => x (ix2 i l)) (fun l => g (ix2 0 l)) l := by
  pointwise! [k0_pay3]
theorem pay4_apply (x : Vec Ideal S512x1024 .f32) (g : Vec Ideal S1x1024 .f32) (w : Vec Ideal S1x704x1024 .bf16) (i : Fin 512) (q : Fin 704) :
    k0_pay4 x g w (ix2 i q) = dw (fun l => k0_pay3 x g (ix2 i l)) w q := by
  unfold dw
  pointwise! [k0_pay4, k0_pay4, k0_pay5]
theorem pay5_apply (x : Vec Ideal S512x1024 .f32) (g : Vec Ideal S1x1024 .f32) (w : Vec Ideal S1x704x1024 .bf16) (i : Fin 512) (q : Fin 704) :
    k0_pay5 x g w (ix2 i q) = dw (fun l => k0_pay3 x g (ix2 i l)) w q := by
  unfold dw
  pointwise! [k0_pay5, k0_pay4, k0_pay5]
theorem pay6_apply (x : Vec Ideal S512x1024 .f32) (g : Vec Ideal S1x1024 .f32) (w : Vec Ideal S1x704x1024 .bf16) (i : Fin 512) (q : Fin 704) :
    k0_pay6 x g w (ix3 0 i q) = dw (fun l => k0_pay3 x g (ix2 i l)) w q := by
  unfold dw
  pointwise! [k0_pay6, k0_pay4, k0_pay5]
theorem pay7_apply (x : Vec Ideal S512x1024 .f32) (g : Vec Ideal S1x1024 .f32) (w : Vec Ideal S1x704x1024 .bf16) (i : Fin 512) (q : Fin 704) :
    k0_pay7 x g w (ix3 0 i q) = dw (fun l => k0_pay3 x g (ix2 i l)) w q := by
  unfold dw
  pointwise! [k0_pay7, k0_pay4, k0_pay5]
theorem pay9_apply (h : FVec Ideal S512x1024 .bf16) (w : Vec Ideal S1x704x1024 .bf16) (i : Fin 512) (q : Fin 704) :
    k0_pay9 h w (ix2 i q) = dw (fun l => h (ix2 i l)) w q := by
  unfold dw
  pointwise! [k0_pay9]
theorem pay10_apply (h : FVec Ideal S512x1024 .bf16) (w : Vec Ideal S1x704x1024 .bf16) (i : Fin 512) (q : Fin 704) :
    k0_pay10 h w (ix2 i q) = dw (fun l => h (ix2 i l)) w q := by
  unfold dw
  pointwise! [k0_pay10]
theorem pay11_apply (h : FVec Ideal S512x1024 .bf16) (w : Vec Ideal S1x704x1024 .bf16) (i : Fin 512) (q : Fin 704) :
    k0_pay11 h w (ix3 0 i q) = dw (fun l => h (ix2 i l)) w q := by
  unfold dw
  pointwise! [k0_pay11, k0_pay9]
theorem pay12_apply (h : FVec Ideal S512x1024 .bf16) (w : Vec Ideal S1x704x1024 .bf16) (i : Fin 512) (q : Fin 704) :
    k0_pay12 h w (ix3 0 i q) = dw (fun l => h (ix2 i l)) w q := by
  unfold dw
  pointwise! [k0_pay12, k0_pay10]
theorem pay14_apply (h : FVec Ideal S512x1024 .bf16) (w : Vec Ideal S1x704x1024 .bf16) (i : Fin 512) (q : Fin 704) :
    k0_pay14 h w (ix2 i q) = dw (fun l => h (ix2 i l)) w q := by
  unfold dw
  pointwise! [k0_pay14]
theorem pay15_apply (h : FVec Ideal S512x1024 .bf16) (w : Vec Ideal S1x704x1024 .bf16) (i : Fin 512) (q : Fin 704) :
    k0_pay15 h w (ix2 i q) = dw (fun l => h (ix2 i l)) w q := by
  unfold dw
  pointwise! [k0_pay15]
theorem pay17_apply (h : FVec Ideal S512x1024 .bf16) (w : Vec Ideal S1x704x1024 .bf16) (i : Fin 512) (q : Fin 704) :
    k0_pay17 h w (ix3 0 i q) = dw (fun l => h (ix2 i l)) w q := by
  unfold dw
  pointwise! [k0_pay17, k0_pay15]
theorem pay19_apply (h : FVec Ideal S512x1024 .bf16) (w : Vec Ideal S1x704x1024 .bf16) (i : Fin 512) (q : Fin 704) :
    k0_pay19 h w (ix2 i q) = dw (fun l => h (ix2 i l)) w q := by
  unfold dw
  pointwise! [k0_pay19]
theorem pay20_apply (h : FVec Ideal S512x1024 .bf16) (w : Vec Ideal S1x704x1024 .bf16) (i : Fin 512) (q : Fin 704) :
    k0_pay20 h w (ix2 i q) = dw (fun l => h (ix2 i l)) w q := by
  unfold dw
  pointwise! [k0_pay20]
theorem pay21_apply (h : FVec Ideal S512x1024 .bf16) (w : Vec Ideal S1x704x1024 .bf16) (i : Fin 512) (q : Fin 704) :
    k0_pay21 h w (ix3 0 i q) = dw (fun l => h (ix2 i l)) w q := by
  unfold dw
  pointwise! [k0_pay21, k0_pay19]
theorem pay22_apply (h : FVec Ideal S512x1024 .bf16) (w : Vec Ideal S1x704x1024 .bf16) (i : Fin 512) (q : Fin 704) :
    k0_pay22 h w (ix2 i q) = dw (fun l => h (ix2 i l)) w q := by
  unfold dw
  pointwise! [k0_pay22, k0_pay20]
theorem pay1_apply (v : FVec Ideal S512x704 .bf16) (i : Fin 512) (q : Fin 704) : k0_pay1 v (ix3 0 i q) = v (ix2 i q) := by
  pointwise! [k0_pay1]
theorem pay16_apply (v : FVec Ideal S512x704 .f32) (i : Fin 512) (q : Fin 704) : k0_pay16 v (ix3 0 i q) = v (ix2 i q) := by
  pointwise! [k0_pay16]
theorem pay8_apply (x : Vec Ideal S512x1024 .f32) (g : Vec Ideal S1x1024 .f32) (w : Vec Ideal S1x704x1024 .bf16) (i : Fin 512) (q : Fin 704) :
    k0_pay8 x g w (ix2 i q) = k0_pay4 x g w (ix2 i q) * Ideal.logistic (k0_pay4 x g w (ix2 i q)) := by
  pointwise! [k0_pay8]
theorem pay2_apply (v82 : FVec Ideal S512x1024 .f32) (a b : FVec Ideal S512x704 .f32) (w : Vec Ideal S1x704x1024 .bf16) (i : Fin 512) (j : Fin 1024) :
    k0_pay2 v82 a b w (ix2 i j) = v82 (ix2 i j) + dn (fun q => Ffn.unit (a (ix2 i q)) (b (ix2 i q))) w j := by
  unfold dn
  pointwise! [k0_pay2]
theorem pay18_apply (h : FVec Ideal S512x1024 .bf16) (v : FVec Ideal S512x1024 .f32) (a : FVec Ideal S512x704 .f32)
    (wu wd : Vec Ideal S1x704x1024 .bf16) (i : Fin 512) (j : Fin 1024) :
    k0_pay18 h v a wu wd (ix2 i j) = v (ix2 i j) + dn (fun q => Ffn.unit (a (ix2 i q)) (k0_pay15 h wu (ix2 i q))) wd j := by
  unfold dn
  pointwise! [k0_pay18]
theorem pay13_apply (v : FVec Ideal S512x1024 .f32) (h : FVec Ideal S512x1024 .bf16) (b s : FVec Ideal S512x704 .f32)
    (wd wg wu wd' : Vec Ideal S1x704x1024 .bf16) (i : Fin 512) (j : Fin 1024) :
    k0_pay13 v h b s wd wg wu wd' (ix2 i j)
      = (v (ix2 i j) + dn (fun q => s (ix2 i q) * b (ix2 i q)) wd j)
        + dn (fun q => Ffn.unit (k0_pay9 h wg (ix2 i q)) (k0_pay10 h wu (ix2 i q))) wd' j := by
  unfold dn
  pointwise! [k0_pay13]

/-! The loads and stores of the body -/

theorem hz2 : (![0, 0] : Fin 2 → ℕ) = fun _ => 0 := funext fun a => by fin_cases a <;> rfl
theorem ldx (x : Vec Ideal S512x1024 .f32) : View.ld x r0_0 = x := View.ld_unit_zero hz2 _ _
theorem ldg (x : Vec Ideal S1x1024 .f32) : View.ld x r0_1 = x := View.ld_unit_zero hz2 _ _
/-- The normalized rows the body computes from its row block. -/
def hb (x0 : Vec Ideal S512x1024 .f32) (x1 : Vec Ideal S1x1024 .f32) (i : Fin 512) : Fin 1024 → EReal :=
  Ffn.nrm (fun l => x0 (ix2 i l)) (fun l => x1 (ix2 0 l))

/-- One cut's product entry. -/
def db (x0 : Vec Ideal S512x1024 .f32) (x1 : Vec Ideal S1x1024 .f32) (w : Vec Ideal S4x704x1024 .bf16) (s : Fin 4) (i : Fin 512) (q : Fin 704) : EReal :=
  ∑ l : Fin 1024, hb x0 x1 i l * w (ix3 s q l)

theorem dw0 (h : Fin 1024 → EReal) (x : Vec Ideal S4x704x1024 .bf16) (q : Fin 704) :
    dw h (View.ld x r0_2) q = ∑ l : Fin 1024, h l * x (ix3 0 q l) :=
  Finset.sum_congr rfl fun l _ => congrArg (h l * ·) (Slabs.ld_slab 0 _ x q l 0 rfl)
theorem dn0 (u : Fin 704 → EReal) (x : Vec Ideal S4x704x1024 .bf16) (j : Fin 1024) :
    dn u (View.ld x r0_2) j = ∑ q : Fin 704, u q * x (ix3 0 q j) :=
  Finset.sum_congr rfl fun q _ => congrArg (u q * ·) (Slabs.ld_slab 0 _ x q j 0 rfl)
theorem dw1 (h : Fin 1024 → EReal) (x : Vec Ideal S4x704x1024 .bf16) (q : Fin 704) :
    dw h (View.ld x r0_4) q = ∑ l : Fin 1024, h l * x (ix3 1 q l) :=
  Finset.sum_congr rfl fun l _ => congrArg (h l * ·) (Slabs.ld_slab 1 _ x q l 1 rfl)
theorem dn1 (u : Fin 704 → EReal) (x : Vec Ideal S4x704x1024 .bf16) (j : Fin 1024) :
    dn u (View.ld x r0_4) j = ∑ q : Fin 704, u q * x (ix3 1 q j) :=
  Finset.sum_congr rfl fun q _ => congrArg (u q * ·) (Slabs.ld_slab 1 _ x q j 1 rfl)
theorem dw2 (h : Fin 1024 → EReal) (x : Vec Ideal S4x704x1024 .bf16) (q : Fin 704) :
    dw h (View.ld x r0_6) q = ∑ l : Fin 1024, h l * x (ix3 2 q l) :=
  Finset.sum_congr rfl fun l _ => congrArg (h l * ·) (Slabs.ld_slab 2 _ x q l 2 rfl)
theorem dn2 (u : Fin 704 → EReal) (x : Vec Ideal S4x704x1024 .bf16) (j : Fin 1024) :
    dn u (View.ld x r0_6) j = ∑ q : Fin 704, u q * x (ix3 2 q j) :=
  Finset.sum_congr rfl fun q _ => congrArg (u q * ·) (Slabs.ld_slab 2 _ x q j 2 rfl)
theorem dw3 (h : Fin 1024 → EReal) (x : Vec Ideal S4x704x1024 .bf16) (q : Fin 704) :
    dw h (View.ld x r0_8) q = ∑ l : Fin 1024, h l * x (ix3 3 q l) :=
  Finset.sum_congr rfl fun l _ => congrArg (h l * ·) (Slabs.ld_slab 3 _ x q l 3 rfl)
theorem dn3 (u : Fin 704 → EReal) (x : Vec Ideal S4x704x1024 .bf16) (j : Fin 1024) :
    dn u (View.ld x r0_8) j = ∑ q : Fin 704, u q * x (ix3 3 q j) :=
  Finset.sum_congr rfl fun q _ => congrArg (u q * ·) (Slabs.ld_slab 3 _ x q j 3 rfl)

theorem out5_apply (x0 : Vec Ideal S512x1024 .f32) (x1 : Vec Ideal S1x1024 .f32) (x2 x3 x4 : Vec Ideal S4x704x1024 .bf16) (i : Fin 512) (j : Fin 1024) :
    out0_5 x0 x1 x2 x3 x4 (ix2 i j)
      = (((x0 (ix2 i j) + ∑ q, Ffn.unit (db x0 x1 x2 0 i q) (db x0 x1 x3 0 i q) * x4 (ix3 0 q j))
          + ∑ q, Ffn.unit (db x0 x1 x2 1 i q) (db x0 x1 x3 1 i q) * x4 (ix3 1 q j))
          + ∑ q, Ffn.unit (db x0 x1 x2 2 i q) (db x0 x1 x3 2 i q) * x4 (ix3 2 q j))
          + ∑ q, Ffn.unit (db x0 x1 x2 3 i q) (db x0 x1 x3 3 i q) * x4 (ix3 3 q j) := by
  unfold_out out0_5
  rw [View.canon_unit_zero (S := S512x1024) hz2]
  simp only [pay2_apply, pay18_apply, pay13_apply, pay5_apply, pay8_apply, pay4_apply, pay9_apply, pay10_apply, pay14_apply, pay15_apply,
    pay19_apply, pay20_apply, pay3_apply, ldx, ldg, dw0, dw1, dw2, dw3, dn0, dn1, dn2, dn3]
  rfl

theorem out6_apply (x0 : Vec Ideal S512x1024 .f32) (x1 : Vec Ideal S1x1024 .f32) (x2 x3 x4 : Vec Ideal S4x704x1024 .bf16) (s : Fin 4) (i : Fin 512) (q : Fin 704) :
    out0_6 x0 x1 x2 x3 x4 (ix3 s i q) = db x0 x1 x2 s i q := by
  unfold_out out0_6
  rw [Slabs.canon_slab, Slabs.canon_slab, Slabs.canon_slab, Slabs.canon_slab]
  simp only [pay21_apply, pay16_apply, pay14_apply, pay11_apply, pay6_apply, pay3_apply, ldx, ldg, dw0, dw1, dw2, dw3, dn0, dn1, dn2, dn3]
  fin_vals s with hs
  all_goals simp only [hs, Nat.reduceEqDiff, ↓reduceIte]
  · obtain rfl : s = 0 := Fin.ext hs
    rfl
  · obtain rfl : s = 1 := Fin.ext hs
    rfl
  · obtain rfl : s = 2 := Fin.ext hs
    rfl
  · obtain rfl : s = 3 := Fin.ext hs
    rfl

theorem out7_apply (x0 : Vec Ideal S512x1024 .f32) (x1 : Vec Ideal S1x1024 .f32) (x2 x3 x4 : Vec Ideal S4x704x1024 .bf16) (s : Fin 4) (i : Fin 512) (q : Fin 704) :
    out0_7 x0 x1 x2 x3 x4 (ix3 s i q) = db x0 x1 x3 s i q := by
  unfold_out out0_7
  rw [Slabs.canon_slab, Slabs.canon_slab, Slabs.canon_slab, Slabs.canon_slab]
  simp only [pay1_apply, pay22_apply, pay17_apply, pay12_apply, pay7_apply, pay3_apply, ldx, ldg, dw0, dw1, dw2, dw3, dn0, dn1, dn2, dn3]
  fin_vals s with hs
  all_goals simp only [hs, Nat.reduceEqDiff, ↓reduceIte]
  · obtain rfl : s = 0 := Fin.ext hs
    rfl
  · obtain rfl : s = 1 := Fin.ext hs
    rfl
  · obtain rfl : s = 2 := Fin.ext hs
    rfl
  · obtain rfl : s = 3 := Fin.ext hs
    rfl

theorem out8_apply (x0 : Vec Ideal S512x1024 .f32) (x1 : Vec Ideal S1x1024 .f32) (x2 x3 x4 : Vec Ideal S4x704x1024 .bf16) (i : Fin 512) (l : Fin 1024) :
    out0_8 x0 x1 x2 x3 x4 (ix2 i l) = hb x0 x1 i l := by
  unfold_out out0_8
  rw [View.canon_unit_zero (S := S512x1024) hz2]
  simp only [pay3_apply, ldx, ldg]
  rfl

/-! The blocks of a grid point -/

variable (m : (ℓ : Loc nD τ sig) → Buf (Elt Ideal) ℓ)

def A0 (c : Dev nD) : FVec Ideal S8192x1024 .f32 := m ((c : Thread nD τ).loc main_arg0)
def A1 (c : Dev nD) : FVec Ideal S1024 .f32 := m ((c : Thread nD τ).loc main_arg1)
def A2 (c : Dev nD) : FVec Ideal S1024x2816 .f32 := m ((c : Thread nD τ).loc main_arg2)
def A3 (c : Dev nD) : FVec Ideal S1024x2816 .f32 := m ((c : Thread nD τ).loc main_arg3)
def A4 (c : Dev nD) : FVec Ideal S2816x1024 .f32 := m ((c : Thread nD τ).loc main_arg4)
def X0 (c : Dev nD) (t : Fin cfg0.N) : FVec Ideal S512x1024 .f32 := iblk m c 0 t
def X1 (c : Dev nD) (t : Fin cfg0.N) : FVec Ideal S1x1024 .f32 := iblk m c 1 t
def X2 (c : Dev nD) (t : Fin cfg0.N) : FVec Ideal S4x704x1024 .bf16 := iblk m c 2 t
def X3 (c : Dev nD) (t : Fin cfg0.N) : FVec Ideal S4x704x1024 .bf16 := iblk m c 3 t
def X4 (c : Dev nD) (t : Fin cfg0.N) : FVec Ideal S4x704x1024 .bf16 := iblk m c 4 t

theorem v0 (c : Dev nD) (l : Fin 1024) : V m c main_v0 (ix2 0 l) = A1 m c (ix1 l) := by
  unfold V A1
  after_reads_at
theorem v7g (c : Dev nD) (s : Fin 4) (q : Fin 704) (l : Fin 1024) :
    V m c main_v7 (ix3 s (⟨q.val, by omega⟩ : Fin 2112) l) = A2 m c (ix2 l (Ffn.at4 s q)) := by
  unfold V A2
  after_reads_at
  after_reads_at
  rfl
theorem v7u (c : Dev nD) (s : Fin 4) (q : Fin 704) (l : Fin 1024) :
    V m c main_v7 (ix3 s (⟨704 + q.val, by omega⟩ : Fin 2112) l) = A3 m c (ix2 l (Ffn.at4 s q)) := by
  unfold V A3
  after_reads_at
  after_reads_at
  rfl
theorem v7d (c : Dev nD) (s : Fin 4) (q : Fin 704) (l : Fin 1024) :
    V m c main_v7 (ix3 s (⟨1408 + q.val, by omega⟩ : Fin 2112) l) = A4 m c (ix2 (Ffn.at4 s q) l) := by
  unfold V A4
  after_reads_at
  rw [dif_neg (by omega), dif_neg (by omega)]
  rw [show (⟨1408 + q.val - 704 - 704, by omega⟩ : Fin 704) = q from Fin.ext (by show 1408 + q.val - 704 - 704 = q.val; omega)]
  after_reads_at
  rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0, 0] := (by decide +kernel : ∀ t : Fin grid0.N, _)
theorem e3 : ∀ t : Fin cfg0.N, win0_3.index t = ![0, 1, 0] := (by decide +kernel : ∀ t : Fin grid0.N, _)
theorem e4 : ∀ t : Fin cfg0.N, win0_4.index t = ![0, 2, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![0, t.val, 0] := (by decide +kernel : ∀ t : Fin grid0.N, _)
theorem e7 : ∀ t : Fin cfg0.N, win0_7.index t = ![0, t.val, 0] := (by decide +kernel : ∀ t : Fin grid0.N, _)
theorem e8 : ∀ t : Fin cfg0.N, win0_8.index t = ![t.val, 0] := (by decide +kernel : ∀ t : Fin grid0.N, _)

/-- The row of the whole array a block's row is. -/
def row (t : Fin cfg0.N) (i : Fin 512) : Fin 8192 := ⟨t.val * 512 + i.val, by have := t.isLt; have : cfg0.N = 16 := N_0; omega⟩

theorem X0_apply (c : Dev nD) (t : Fin cfg0.N) (i : Fin 512) (l : Fin 1024) : X0 m c t (ix2 i l) = A0 m c (ix2 (row t i) l) := by
  have h : V m c main_arg0 (ix2 (row t i) l) = A0 m c (ix2 (row t i) l) := by rw [V_main_arg0]; rfl
  rw [← h]
  unfold X0 row
  blk_ext [iblk, e0]
theorem X1_apply (c : Dev nD) (t : Fin cfg0.N) (l : Fin 1024) : X1 m c t (ix2 0 l) = A1 m c (ix1 l) := by
  rw [← v0 m c l]
  unfold X1
  blk_ext [iblk, e1]
theorem X2_apply (c : Dev nD) (t : Fin cfg0.N) (s : Fin 4) (q : Fin 704) (l : Fin 1024) : X2 m c t (ix3 s q l) = A2 m c (ix2 l (Ffn.at4 s q)) := by
  rw [← v7g m c s q l]
  unfold X2
  blk_ext [iblk, e2]
theorem X3_apply (c : Dev nD) (t : Fin cfg0.N) (s : Fin 4) (q : Fin 704) (l : Fin 1024) : X3 m c t (ix3 s q l) = A3 m c (ix2 l (Ffn.at4 s q)) := by
  rw [← v7u m c s q l]
  unfold X3
  blk_ext [iblk, e3]
theorem X4_apply (c : Dev nD) (t : Fin cfg0.N) (s : Fin 4) (q : Fin 704) (l : Fin 1024) : X4 m c t (ix3 s q l) = A4 m c (ix2 (Ffn.at4 s q) l) := by
  rw [← v7d m c s q l]
  unfold X4
  blk_ext [iblk, e4]

/-! The layer's values over the argument arrays -/

/-- The normalized row `r`. -/
def hr (x : FVec Ideal S8192x1024 .f32) (g : FVec Ideal S1024 .f32) (r : Fin 8192) : Fin 1024 → EReal :=
  Ffn.nrm (fun l => x (ix2 r l)) (fun l => g (ix1 l))
/-- One pre-activation of row `r`. -/
def dr (x : FVec Ideal S8192x1024 .f32) (g : FVec Ideal S1024 .f32) (w : FVec Ideal S1024x2816 .f32) (r : Fin 8192) (q : Fin 2816) : EReal :=
  Ffn.dotp (hr x g r) (fun l q => w (ix2 l q)) q
/-- One entry of the layer's output. -/
def yr (x : FVec Ideal S8192x1024 .f32) (g : FVec Ideal S1024 .f32) (wg wu : FVec Ideal S1024x2816 .f32) (wd : FVec Ideal S2816x1024 .f32)
    (r : Fin 8192) (j : Fin 1024) : EReal :=
  x (ix2 r j) + ∑ q, Ffn.unit (dr x g wg r q) (dr x g wu r q) * wd (ix2 q j)

theorem hb_eq (c : Dev nD) (t : Fin cfg0.N) (i : Fin 512) : hb (X0 m c t) (X1 m c t) i = hr (A0 m c) (A1 m c) (row t i) := by
  unfold hb hr
  simp only [X0_apply, X1_apply]
theorem dbg_eq (c : Dev nD) (t : Fin cfg0.N) (s : Fin 4) (i : Fin 512) (q : Fin 704) :
    db (X0 m c t) (X1 m c t) (X2 m c t) s i q = dr (A0 m c) (A1 m c) (A2 m c) (row t i) (Ffn.at4 s q) := by
  unfold db dr Ffn.dotp
  simp only [hb_eq, X2_apply]
theorem dbu_eq (c : Dev nD) (t : Fin cfg0.N) (s : Fin 4) (i : Fin 512) (q : Fin 704) :
    db (X0 m c t) (X1 m c t) (X3 m c t) s i q = dr (A0 m c) (A1 m c) (A3 m c) (row t i) (Ffn.at4 s q) := by
  unfold db dr Ffn.dotp
  simp only [hb_eq, X3_apply]

theorem out5_block (c : Dev nD) (t : Fin cfg0.N) (i : Fin 512) (j : Fin 1024) :
    out0_5 (F := Ideal) (X0 m c t) (X1 m c t) (X2 m c t) (X3 m c t) (X4 m c t) (ix2 i j)
      = (yr (A0 m c) (A1 m c) (A2 m c) (A3 m c) (A4 m c) (row t i) j : EReal) := by
  rw [out5_apply]
  simp only [dbg_eq, dbu_eq, X4_apply, X0_apply]
  exact Ffn.add_cuts _ (fun q => Ffn.unit (dr (A0 m c) (A1 m c) (A2 m c) (row t i) q) (dr (A0 m c) (A1 m c) (A3 m c) (row t i) q) * A4 m c (ix2 q j))

/-! The result arrays -/

def Y (c : Dev nD) : FVec Ideal S8192x1024 .f32 := fun i => yr (A0 m c) (A1 m c) (A2 m c) (A3 m c) (A4 m c) (i 0) (i 1)
def PA (c : Dev nD) : FVec Ideal S4x8192x704 .bf16 := fun i => dr (A0 m c) (A1 m c) (A2 m c) (i 1) (Ffn.at4 (i 0) (i 2))
def PB (c : Dev nD) : FVec Ideal S4x8192x704 .bf16 := fun i => dr (A0 m c) (A1 m c) (A3 m c) (i 1) (Ffn.at4 (i 0) (i 2))
def H (c : Dev nD) : FVec Ideal S8192x1024 .bf16 := fun i => hr (A0 m c) (A1 m c) (i 0) (i 1)

theorem emb5 (t : Fin cfg0.N) (i : Fin 512) (j : Fin 1024) : ((cfg0.win 5).blk t).view.emb (ix2 i j) = ix2 (row t i) j := by
  unfold row
  blk_ext [e5]
theorem emb6 (t : Fin cfg0.N) (s : Fin 4) (i : Fin 512) (q : Fin 704) : ((cfg0.win 6).blk t).view.emb (ix3 s i q) = ix3 s (row t i) q := by
  unfold row
  blk_ext [e6]
theorem emb7 (t : Fin cfg0.N) (s : Fin 4) (i : Fin 512) (q : Fin 704) : ((cfg0.win 7).blk t).view.emb (ix3 s i q) = ix3 s (row t i) q := by
  unfold row
  blk_ext [e7]
theorem emb8 (t : Fin cfg0.N) (i : Fin 512) (j : Fin 1024) : ((cfg0.win 8).blk t).view.emb (ix2 i j) = ix2 (row t i) j := by
  unfold row
  blk_ext [e8]

theorem final5 (c : Dev nD) : (dats m 0 c).arrAt 5 cfg0.N = Y m c := by
  refine (dats m 0 c).arrAt_eq_of_cover 5 (Y m c) (fun t _ => ?_) (Pipeline.Window.Covers.cover win0_5 (by decide +kernel) (Memref.isWhole_whole _))
  rw [Value.flushed5]
  funext y
  obtain ⟨i, j, rfl⟩ : ∃ (i : Fin 512) (j : Fin 1024), y = ix2 i j := ⟨y 0, y 1, eq_ix2 y⟩
  refine (out5_block m c t i j).trans ?_
  show _ = Y m c (((cfg0.win 5).blk t).view.emb (ix2 i j))
  rw [emb5]
  rfl
theorem final6 (c : Dev nD) : (dats m 0 c).arrAt 6 cfg0.N = PA m c := by
  refine (dats m 0 c).arrAt_eq_of_cover 6 (PA m c) (fun t _ => ?_) (Pipeline.Window.Covers.cover win0_6 (by decide +kernel) (Memref.isWhole_whole _))
  rw [Value.flushed6]
  funext y
  obtain ⟨s, i, q, rfl⟩ : ∃ (s : Fin 4) (i : Fin 512) (q : Fin 704), y = ix3 s i q := ⟨y 0, y 1, y 2, eq_ix3 y⟩
  refine ((out6_apply _ _ _ _ _ s i q).trans (dbg_eq m c t s i q)).trans ?_
  show _ = PA m c (((cfg0.win 6).blk t).view.emb (ix3 s i q))
  rw [emb6]
  rfl
theorem final7 (c : Dev nD) : (dats m 0 c).arrAt 7 cfg0.N = PB m c := by
  refine (dats m 0 c).arrAt_eq_of_cover 7 (PB m c) (fun t _ => ?_) (Pipeline.Window.Covers.cover win0_7 (by decide +kernel) (Memref.isWhole_whole _))
  rw [Value.flushed7]
  funext y
  obtain ⟨s, i, q, rfl⟩ : ∃ (s : Fin 4) (i : Fin 512) (q : Fin 704), y = ix3 s i q := ⟨y 0, y 1, y 2, eq_ix3 y⟩
  refine ((out7_apply _ _ _ _ _ s i q).trans (dbu_eq m c t s i q)).trans ?_
  show _ = PB m c (((cfg0.win 7).blk t).view.emb (ix3 s i q))
  rw [emb7]
  rfl
theorem final8 (c : Dev nD) : (dats m 0 c).arrAt 8 cfg0.N = H m c := by
  refine (dats m 0 c).arrAt_eq_of_cover 8 (H m c) (fun t _ => ?_) (Pipeline.Window.Covers.cover win0_8 (by decide +kernel) (Memref.isWhole_whole _))
  rw [Value.flushed8]
  funext y
  obtain ⟨i, j, rfl⟩ : ∃ (i : Fin 512) (j : Fin 1024), y = ix2 i j := ⟨y 0, y 1, eq_ix2 y⟩
  refine ((out8_apply _ _ _ _ _ i j).trans (congrFun (hb_eq m c t i) j)).trans ?_
  show _ = H m c (((cfg0.win 8).blk t).view.emb (ix2 i j))
  rw [emb8]
  rfl

end Cert.Kernel5Ideal.Layer

namespace Cert.FfnFwd

open Idealize.ShloMosaic Idealize.ShloMosaic.TcCoe Idealize.SL.Sem
open Cert.Reference5Ideal Cert.Reference5Ideal.Read
open Cert.Kernel5Ideal.Layer (hr dr yr A0 A1 A2 A3 A4 Y PA PB H)

theorem ref12 (x0 : FVec Ideal S8192x1024 .f32) (x1 : FVec Ideal S1024 .f32) (r : Fin 8192) (l : Fin 1024) :
    val_main_v12 (F := Ideal) x0 x1 (ix2 r l) = hr x0 x1 r l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rw [Ffn.div_1024]
  rfl
theorem ref40 (x0 : FVec Ideal S8192x1024 .f32) (x1 : FVec Ideal S1024 .f32) (r : Fin 8192) (l : Fin 1024) :
    val_main_v40 (F := Ideal) x0 x1 (ix2 r l) = hr x0 x1 r l := ref12 x0 x1 r l
theorem ref25 (x0 : FVec Ideal S8192x1024 .f32) (x1 : FVec Ideal S1024 .f32) (r : Fin 8192) (l : Fin 1024) :
    val_main_v25 (F := Ideal) x0 x1 (ix2 r l) = hr x0 x1 r l := ref12 x0 x1 r l

theorem ref26 (x0 : FVec Ideal S8192x1024 .f32) (x1 : FVec Ideal S1024 .f32) (w : FVec Ideal S1024x2816 .f32) (r : Fin 8192) (q : Fin 2816) :
    val_main_v26 (F := Ideal) x0 x1 w (ix2 r q) = dr x0 x1 w r q := by
  pointwise [val_main_v26]
  simp only [ref25]
  rfl
theorem ref28 (x0 : FVec Ideal S8192x1024 .f32) (x1 : FVec Ideal S1024 .f32) (w : FVec Ideal S1024x2816 .f32) (r : Fin 8192) (q : Fin 2816) :
    val_main_v28 (F := Ideal) x0 x1 w (ix2 r q) = dr x0 x1 w r q := by
  pointwise [val_main_v28]
  simp only [ref25]
  rfl
theorem ref32 (x0 : FVec Ideal S8192x1024 .f32) (x1 : FVec Ideal S1024 .f32) (w : FVec Ideal S1024x2816 .f32) (r : Fin 8192) (q : Fin 2816) :
    val_main_v32 (F := Ideal) x0 x1 w (ix2 r q) = dr x0 x1 w r q := by
  pointwise [val_main_v32]
  simp only [ref12]
  rfl
theorem ref36 (x0 : FVec Ideal S8192x1024 .f32) (x1 : FVec Ideal S1024 .f32) (w : FVec Ideal S1024x2816 .f32) (r : Fin 8192) (q : Fin 2816) :
    val_main_v36 (F := Ideal) x0 x1 w (ix2 r q) = dr x0 x1 w r q := by
  pointwise [val_main_v36]
  simp only [ref12]
  rfl
theorem ref29 (x0 : FVec Ideal S8192x1024 .f32) (x1 : FVec Ideal S1024 .f32) (x2 x3 : FVec Ideal S1024x2816 .f32) (r : Fin 8192) (q : Fin 2816) :
    val_main_v29 (F := Ideal) x0 x1 x2 x3 (ix2 r q) = Ffn.unit (dr x0 x1 x2 r q) (dr x0 x1 x3 r q) := by
  pointwise [val_main_v29, val_main_v27, val_main_call0_v5, val_main_call0_v4, val_main_call0_v3, val_main_call0_v2, val_main_call0_v1, val_main_call0_v0, val_main_call0_cst, val_main_call0_cst_0]
  simp only [ref26, ref28]
  rfl
theorem ref31 (x0 : FVec Ideal S8192x1024 .f32) (x1 : FVec Ideal S1024 .f32) (x2 x3 : FVec Ideal S1024x2816 .f32) (x4 : FVec Ideal S2816x1024 .f32)
    (r : Fin 8192) (j : Fin 1024) :
    val_main_v31 (F := Ideal) x0 x1 x2 x3 x4 (ix2 r j) = yr x0 x1 x2 x3 x4 r j := by
  pointwise [val_main_v31, val_main_v30]
  simp only [ref29]
  rfl
theorem ref35 (x0 : FVec Ideal S8192x1024 .f32) (x1 : FVec Ideal S1024 .f32) (w : FVec Ideal S1024x2816 .f32) (s : Fin 4) (r : Fin 8192) (q : Fin 704) :
    val_main_v35 (F := Ideal) x0 x1 w (ix3 s r q) = dr x0 x1 w r (Ffn.at4 s q) := by
  pointwise [val_main_v35, val_main_v34, val_main_v33]
  exact ref32 _ _ _ _ _
theorem ref39 (x0 : FVec Ideal S8192x1024 .f32) (x1 : FVec Ideal S1024 .f32) (w : FVec Ideal S1024x2816 .f32) (s : Fin 4) (r : Fin 8192) (q : Fin 704) :
    val_main_v39 (F := Ideal) x0 x1 w (ix3 s r q) = dr x0 x1 w r (Ffn.at4 s q) := by
  pointwise [val_main_v39, val_main_v38, val_main_v37]
  exact ref36 _ _ _ _ _

variable (m : (ℓ : Loc Cert.Kernel5Ideal.nD Cert.Kernel5Ideal.τ Cert.Kernel5Ideal.sig) → Buf (Elt Ideal) ℓ) (c : Dev Cert.Kernel5Ideal.nD)
theorem value_y : Y m c = val_main_v31 (F := Ideal) (A0 m c) (A1 m c) (A2 m c) (A3 m c) (A4 m c) := by
  funext i
  idx_vars i
  exact (ref31 _ _ _ _ _ _ _).symm
theorem value_a : PA m c = val_main_v35 (F := Ideal) (A0 m c) (A1 m c) (A2 m c) := by
  funext i
  idx_vars i
  exact (ref35 _ _ _ _ _ _).symm
theorem value_b : PB m c = val_main_v39 (F := Ideal) (A0 m c) (A1 m c) (A3 m c) := by
  funext i
  idx_vars i
  exact (ref39 _ _ _ _ _ _).symm
theorem value_h : H m c = val_main_v40 (F := Ideal) (A0 m c) (A1 m c) := by
  funext i
  idx_vars i
  exact (ref40 _ _ _ _).symm

/-- The two programs have the same functions. -/
theorem defs₀_eq {F : FTy → Type} [FloatOps F] : Cert.Kernel5.defs₀ (F := F) = Cert.Kernel5Ideal.defs₀ (F := F) := by
  unfold Cert.Kernel5.defs₀ Cert.Kernel5Ideal.defs₀
  refine congrArg Defs.onTc (funext fun l => ?_)
  match l with
  | ⟨0, _⟩ => exact funext fun ⟨t, s⟩ => rfl
theorem defs_eq {F : FTy → Type} [FloatOps F] : Cert.Kernel5.defs (F := F) = Cert.Kernel5Ideal.defs (F := F) := by
  unfold Cert.Kernel5.defs Cert.Kernel5Ideal.defs
  rw [defs₀_eq]
  rfl
theorem frame_kernel : Cert.quiescent_Kernel5 := fun m ρ _ => by
  rw [defs_eq]
  exact Cert.Kernel5Ideal.Gen.frame (F := Bits) m ρ
theorem frame_ideal : Cert.quiescent_Kernel5Ideal := fun m ρ _ => Cert.Kernel5Ideal.Gen.frame (F := Ideal) m ρ
theorem frame_reference : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)
theorem preserves : Cert.preserves_Kernel5_Kernel5Ideal := trivial

/-- The layer's output, both pre-activations and the normalized rows are the reference's. -/
theorem algebraic : Cert.algebraic_Kernel5Ideal_Reference5Ideal := fun m ρ m' ρ' _ hargs =>
  ⟨fun c => Y m c, fun c => PA m c, fun c => PB m c, fun c => H m c,
    (θ_run Cert.Kernel5Ideal.defs _ _).mono (fun _ h c =>
      ⟨(h c).1.trans (Cert.Kernel5Ideal.Layer.final5 m c), (h c).2.1.trans (Cert.Kernel5Ideal.Layer.final6 m c),
        (h c).2.2.1.trans (Cert.Kernel5Ideal.Layer.final7 m c), (h c).2.2.2.1.trans (Cert.Kernel5Ideal.Layer.final8 m c), (h c).2.2.2.2⟩)
      (Cert.Kernel5Ideal.Value.run_blocks m ρ),
    (θ_run Cert.Reference5Ideal.defs _ _).mono (fun _ h c =>
      ⟨(h c).1.trans (by
          rw [(hargs c).1, (hargs c).2.1, (hargs c).2.2.1, (hargs c).2.2.2.1, (hargs c).2.2.2.2]
          exact (val_main_v31_eq _ _ _ _ _).trans (value_y m c).symm),
        (h c).2.1.trans (by
          rw [(hargs c).1, (hargs c).2.1, (hargs c).2.2.1]
          exact (val_main_v35_eq _ _ _).trans (value_a m c).symm),
        (h c).2.2.1.trans (by
          rw [(hargs c).1, (hargs c).2.1, (hargs c).2.2.2.1]
          exact (val_main_v39_eq _ _ _).trans (value_b m c).symm),
        (h c).2.2.2.1.trans (by
          rw [(hargs c).1, (hargs c).2.1]
          exact (val_main_v40_eq _ _).trans (value_h m c).symm),
        (h c).2.2.2.2⟩) (Cert.Reference5Ideal.Value.run m' ρ')⟩

end Cert.FfnFwd
-- ==== Proof.FfnLoss.lean ====
module

public import proofs.«01_k».proof.Defs
public import proofs.«01_k».proof.Proof.Gen.Kernel6
public import proofs.«01_k».proof.Proof.Gen.Kernel6Ideal.Value
public import proofs.«01_k».proof.Proof.Gen.Reference6Ideal.Run
public import proofs.«01_k».proof.Proof.Gen.Reference6Ideal.Read
public import Idealize.ShloMosaic.Lib.Quiescent
public import Idealize.ShloMosaic.Lib.Pipeline.ValueKit.Point
public import proofs.«01_k».proof.Proof.Slabs
public import proofs.«01_k».proof.Proof.Ffn

@[expose] public section

set_option maxRecDepth 16384

noncomputable section

namespace Cert.Kernel6Ideal.Layer

open Idealize.ShloMosaic Idealize.ShloMosaic.TcCoe Idealize.SL.Sem
open Cert.Kernel6Ideal Cert.Kernel6Ideal.Gen

/-- One entry of a row's product with one cut of a weight. -/
def dw (h : Fin 1024 → EReal) (w : Vec Ideal S1x704x1024 .bf16) (q : Fin 704) : EReal := ∑ l : Fin 1024, h l * w (ix3 0 q l)

/-- One entry of a hidden cut's product with its cut of the last weight. -/
def dn (u : Fin 704 → EReal) (w : Vec Ideal S1x704x1024 .bf16) (j : Fin 1024) : EReal := ∑ q : Fin 704, u q * w (ix3 0 q j)

/-! The body's values at an index -/

theorem pay6_apply (x : Vec Ideal S512x1024 .f32) (g : Vec Ideal S1x1024 .f32) (i : Fin 512) (l : Fin 1024) :
    k0_pay6 x g (ix2 i l) = Ffn.nrm (fun l => x (ix2 i l)) (fun l => g (ix2 0 l)) l := by
  pointwise! [k0_pay6]
theorem pay7_apply (x : Vec Ideal S512x1024 .f32) (g : Vec Ideal S1x1024 .f32) (w : Vec Ideal S1x704x1024 .bf16) (i : Fin 512) (q : Fin 704) :
    k0_pay7 x g w (ix2 i q) = dw (fun l => k0_pay6 x g (ix2 i l)) w q := by
  unfold dw
  pointwise! [k0_pay7, k0_pay7, k0_pay8]
theorem pay8_apply (x : Vec Ideal S512x1024 .f32) (g : Vec Ideal S1x1024 .f32) (w : Vec Ideal S1x704x1024 .bf16) (i : Fin 512) (q : Fin 704) :
    k0_pay8 x g w (ix2 i q) = dw (fun l => k0_pay6 x g (ix2 i l)) w q := by
  unfold dw
  pointwise! [k0_pay8, k0_pay7, k0_pay8]
theorem pay9_apply (x : Vec Ideal S512x1024 .f32) (g : Vec Ideal S1x1024 .f32) (w : Vec Ideal S1x704x1024 .bf16) (i : Fin 512) (q : Fin 704) :
    k0_pay9 x g w (ix3 0 i q) = dw (fun l => k0_pay6 x g (ix2 i l)) w q := by
  unfold dw
  pointwise! [k0_pay9, k0_pay7, k0_pay8]
theorem pay10_apply (x : Vec Ideal S512x1024 .f32) (g : Vec Ideal S1x1024 .f32) (w : Vec Ideal S1x704x1024 .bf16) (i : Fin 512) (q : Fin 704) :
    k0_pay10 x g w (ix3 0 i q) = dw (fun l => k0_pay6 x g (ix2 i l)) w q := by
  unfold dw
  pointwise! [k0_pay10, k0_pay7, k0_pay8]
theorem pay12_apply (h : FVec Ideal S512x1024 .bf16) (w : Vec Ideal S1x704x1024 .bf16) (i : Fin 512) (q : Fin 704) :
    k0_pay12 h w (ix2 i q) = dw (fun l => h (ix2 i l)) w q := by
  unfold dw
  pointwise! [k0_pay12]
theorem pay13_apply (h : FVec Ideal S512x1024 .bf16) (w : Vec Ideal S1x704x1024 .bf16) (i : Fin 512) (q : Fin 704) :
    k0_pay13 h w (ix2 i q) = dw (fun l => h (ix2 i l)) w q := by
  unfold dw
  pointwise! [k0_pay13]
theorem pay14_apply (h : FVec Ideal S512x1024 .bf16) (w : Vec Ideal S1x704x1024 .bf16) (i : Fin 512) (q : Fin 704) :
    k0_pay14 h w (ix3 0 i q) = dw (fun l => h (ix2 i l)) w q := by
  unfold dw
  pointwise! [k0_pay14, k0_pay12]
theorem pay15_apply (h : FVec Ideal S512x1024 .bf16) (w : Vec Ideal S1x704x1024 .bf16) (i : Fin 512) (q : Fin 704) :
    k0_pay15 h w (ix3 0 i q) = dw (fun l => h (ix2 i l)) w q := by
  unfold dw
  pointwise! [k0_pay15, k0_pay13]
theorem pay17_apply (h : FVec Ideal S512x1024 .bf16) (w : Vec Ideal S1x704x1024 .bf16) (i : Fin 512) (q : Fin 704) :
    k0_pay17 h w (ix2 i q) = dw (fun l => h (ix2 i l)) w q := by
  unfold dw
  pointwise! [k0_pay17]
theorem pay18_apply (h : FVec Ideal S512x1024 .bf16) (w : Vec Ideal S1x704x1024 .bf16) (i : Fin 512) (q : Fin 704) :
    k0_pay18 h w (ix2 i q) = dw (fun l => h (ix2 i l)) w q := by
  unfold dw
  pointwise! [k0_pay18]
theorem pay20_apply (h : FVec Ideal S512x1024 .bf16) (w : Vec Ideal S1x704x1024 .bf16) (i : Fin 512) (q : Fin 704) :
    k0_pay20 h w (ix3 0 i q) = dw (fun l => h (ix2 i l)) w q := by
  unfold dw
  pointwise! [k0_pay20, k0_pay18]
theorem pay22_apply (h : FVec Ideal S512x1024 .bf16) (w : Vec Ideal S1x704x1024 .bf16) (i : Fin 512) (q : Fin 704) :
    k0_pay22 h w (ix2 i q) = dw (fun l => h (ix2 i l)) w q := by
  unfold dw
  pointwise! [k0_pay22]
theorem pay23_apply (h : FVec Ideal S512x1024 .bf16) (w : Vec Ideal S1x704x1024 .bf16) (i : Fin 512) (q : Fin 704) :
    k0_pay23 h w (ix2 i q) = dw (fun l => h (ix2 i l)) w q := by
  unfold dw
  pointwise! [k0_pay23]
theorem pay24_apply (h : FVec Ideal S512x1024 .bf16) (w : Vec Ideal S1x704x1024 .bf16) (i : Fin 512) (q : Fin 704) :
    k0_pay24 h w (ix3 0 i q) = dw (fun l => h (ix2 i l)) w q := by
  unfold dw
  pointwise! [k0_pay24, k0_pay22]
theorem pay25_apply (h : FVec Ideal S512x1024 .bf16) (w : Vec Ideal S1x704x1024 .bf16) (i : Fin 512) (q : Fin 704) :
    k0_pay25 h w (ix2 i q) = dw (fun l => h (ix2 i l)) w q := by
  unfold dw
  pointwise! [k0_pay25, k0_pay23]
theorem pay1_apply (v : FVec Ideal S512x704 .bf16) (i : Fin 512) (q : Fin 704) : k0_pay1 v (ix3 0 i q) = v (ix2 i q) := by
  pointwise! [k0_pay1]
theorem pay19_apply (v : FVec Ideal S512x704 .f32) (i : Fin 512) (q : Fin 704) : k0_pay19 v (ix3 0 i q) = v (ix2 i q) := by
  pointwise! [k0_pay19]
theorem pay11_apply (x : Vec Ideal S512x1024 .f32) (g : Vec Ideal S1x1024 .f32) (w : Vec Ideal S1x704x1024 .bf16) (i : Fin 512) (q : Fin 704) :
    k0_pay11 x g w (ix2 i q) = k0_pay7 x g w (ix2 i q) * Ideal.logistic (k0_pay7 x g w (ix2 i q)) := by
  pointwise! [k0_pay11]
theorem pay2_apply (i : S8x128.Idx) : (k0_pay2 : FVec Ideal S8x128 .f32) i = 0 := by
  pointwise! [k0_pay2]
theorem pay3_apply (v82 : FVec Ideal S512x1024 .f32) (a b : FVec Ideal S512x704 .f32) (w : Vec Ideal S1x704x1024 .bf16) (tg : Vec Ideal S512x1024 .f32)
    (i : Fin 512) (j : Fin 1024) :
    k0_pay3 v82 a b w tg (ix2 i j) = (v82 (ix2 i j) + dn (fun q => Ffn.unit (a (ix2 i q)) (b (ix2 i q))) w j) - tg (ix2 i j) := by
  unfold dn
  pointwise! [k0_pay3]
theorem pay4_apply (v82 : FVec Ideal S512x1024 .f32) (a b : FVec Ideal S512x704 .f32) (w : Vec Ideal S1x704x1024 .bf16) (tg : Vec Ideal S512x1024 .f32)
    (i : Fin 512) (j : Fin 1024) :
    k0_pay4 v82 a b w tg (ix2 i j) = k0_pay3 v82 a b w tg (ix2 i j) * Ideal.ofBits FTy.f32 981467136#32 := by
  pointwise! [k0_pay4]
theorem pay5_apply (v82 : FVec Ideal S512x1024 .f32) (a b : FVec Ideal S512x704 .f32) (w : Vec Ideal S1x704x1024 .bf16) (tg : Vec Ideal S512x1024 .f32)
    (l : Vec Ideal S8x128 .f32) (i : Fin 8) (j : Fin 128) :
    k0_pay5 v82 a b w tg l (ix2 i j)
      = l (ix2 i j) + (∑ r : Fin 512, ∑ k : Fin 1024, k0_pay3 v82 a b w tg (ix2 r k) * k0_pay3 v82 a b w tg (ix2 r k)) * Ideal.ofBits FTy.f32 973078528#32 := by
  pointwise! [k0_pay5]
theorem pay21_apply (h : FVec Ideal S512x1024 .bf16) (v : FVec Ideal S512x1024 .f32) (a : FVec Ideal S512x704 .f32)
    (wu wd : Vec Ideal S1x704x1024 .bf16) (i : Fin 512) (j : Fin 1024) :
    k0_pay21 h v a wu wd (ix2 i j) = v (ix2 i j) + dn (fun q => Ffn.unit (a (ix2 i q)) (k0_pay18 h wu (ix2 i q))) wd j := by
  unfold dn
  pointwise! [k0_pay21]
theorem pay16_apply (v : FVec Ideal S512x1024 .f32) (h : FVec Ideal S512x1024 .bf16) (b s : FVec Ideal S512x704 .f32)
    (wd wg wu wd' : Vec Ideal S1x704x1024 .bf16) (i : Fin 512) (j : Fin 1024) :
    k0_pay16 v h b s wd wg wu wd' (ix2 i j)
      = (v (ix2 i j) + dn (fun q => s (ix2 i q) * b (ix2 i q)) wd j)
        + dn (fun q => Ffn.unit (k0_pay12 h wg (ix2 i q)) (k0_pay13 h wu (ix2 i q))) wd' j := by
  unfold dn
  pointwise! [k0_pay16]

/-- The normalized rows the body computes from its row block. -/
def hb (x0 : Vec Ideal S512x1024 .f32) (x1 : Vec Ideal S1x1024 .f32) (i : Fin 512) : Fin 1024 → EReal :=
  Ffn.nrm (fun l => x0 (ix2 i l)) (fun l => x1 (ix2 0 l))

/-- One cut's product entry. -/
def db (x0 : Vec Ideal S512x1024 .f32) (x1 : Vec Ideal S1x1024 .f32) (w : Vec Ideal S4x704x1024 .bf16) (s : Fin 4) (i : Fin 512) (q : Fin 704) : EReal :=
  ∑ l : Fin 1024, hb x0 x1 i l * w (ix3 s q l)

/-- Cut 0 of a stacked block. -/
def sl0 (x : Vec Ideal S4x704x1024 .bf16) : Vec Ideal S1x704x1024 .bf16 :=
  View.ld x (Rect.unit (s := S4x704x1024) ![0, 0, 0] S1x704x1024.size inb_S4x704x1024_S1x704x1024_0_0_0)
theorem dw0 (h : Fin 1024 → EReal) (x : Vec Ideal S4x704x1024 .bf16) (q : Fin 704) :
    dw h (sl0 x) q = ∑ l : Fin 1024, h l * x (ix3 0 q l) :=
  Finset.sum_congr rfl fun l _ => congrArg (h l * ·) (Slabs.ld_slab 0 _ x q l 0 rfl)
theorem dn0 (u : Fin 704 → EReal) (x : Vec Ideal S4x704x1024 .bf16) (j : Fin 1024) :
    dn u (sl0 x) j = ∑ q : Fin 704, u q * x (ix3 0 q j) :=
  Finset.sum_congr rfl fun q _ => congrArg (u q * ·) (Slabs.ld_slab 0 _ x q j 0 rfl)
/-- Cut 1 of a stacked block. -/
def sl1 (x : Vec Ideal S4x704x1024 .bf16) : Vec Ideal S1x704x1024 .bf16 :=
  View.ld x (Rect.unit (s := S4x704x1024) ![1, 0, 0] S1x704x1024.size inb_S4x704x1024_S1x704x1024_1_0_0)
theorem dw1 (h : Fin 1024 → EReal) (x : Vec Ideal S4x704x1024 .bf16) (q : Fin 704) :
    dw h (sl1 x) q = ∑ l : Fin 1024, h l * x (ix3 1 q l) :=
  Finset.sum_congr rfl fun l _ => congrArg (h l * ·) (Slabs.ld_slab 1 _ x q l 1 rfl)
theorem dn1 (u : Fin 704 → EReal) (x : Vec Ideal S4x704x1024 .bf16) (j : Fin 1024) :
    dn u (sl1 x) j = ∑ q : Fin 704, u q * x (ix3 1 q j) :=
  Finset.sum_congr rfl fun q _ => congrArg (u q * ·) (Slabs.ld_slab 1 _ x q j 1 rfl)
/-- Cut 2 of a stacked block. -/
def sl2 (x : Vec Ideal S4x704x1024 .bf16) : Vec Ideal S1x704x1024 .bf16 :=
  View.ld x (Rect.unit (s := S4x704x1024) ![2, 0, 0] S1x704x1024.size inb_S4x704x1024_S1x704x1024_2_0_0)
theorem dw2 (h : Fin 1024 → EReal) (x : Vec Ideal S4x704x1024 .bf16) (q : Fin 704) :
    dw h (sl2 x) q = ∑ l : Fin 1024, h l * x (ix3 2 q l) :=
  Finset.sum_congr rfl fun l _ => congrArg (h l * ·) (Slabs.ld_slab 2 _ x q l 2 rfl)
theorem dn2 (u : Fin 704 → EReal) (x : Vec Ideal S4x704x1024 .bf16) (j : Fin 1024) :
    dn u (sl2 x) j = ∑ q : Fin 704, u q * x (ix3 2 q j) :=
  Finset.sum_congr rfl fun q _ => congrArg (u q * ·) (Slabs.ld_slab 2 _ x q j 2 rfl)
/-- Cut 3 of a stacked block. -/
def sl3 (x : Vec Ideal S4x704x1024 .bf16) : Vec Ideal S1x704x1024 .bf16 :=
  View.ld x (Rect.unit (s := S4x704x1024) ![3, 0, 0] S1x704x1024.size inb_S4x704x1024_S1x704x1024_3_0_0)
theorem dw3 (h : Fin 1024 → EReal) (x : Vec Ideal S4x704x1024 .bf16) (q : Fin 704) :
    dw h (sl3 x) q = ∑ l : Fin 1024, h l * x (ix3 3 q l) :=
  Finset.sum_congr rfl fun l _ => congrArg (h l * ·) (Slabs.ld_slab 3 _ x q l 3 rfl)
theorem dn3 (u : Fin 704 → EReal) (x : Vec Ideal S4x704x1024 .bf16) (j : Fin 1024) :
    dn u (sl3 x) j = ∑ q : Fin 704, u q * x (ix3 3 q j) :=
  Finset.sum_congr rfl fun q _ => congrArg (u q * ·) (Slabs.ld_slab 3 _ x q j 3 rfl)

/-- What the body has summed before the last cut. -/
def part (x0 : Vec Ideal S512x1024 .f32) (x1 : Vec Ideal S1x1024 .f32) (x2 x3 x4 : Vec Ideal S4x704x1024 .bf16) : FVec Ideal S512x1024 .f32 :=
  k0_pay21 (k0_pay6 x0 x1)
    (k0_pay16 x0 (k0_pay6 x0 x1) (k0_pay8 x0 x1 (sl0 x3)) (k0_pay11 x0 x1 (sl0 x2)) (sl0 x4) (sl1 x2) (sl1 x3) (sl1 x4))
    (k0_pay17 (k0_pay6 x0 x1) (sl2 x2)) (sl2 x3) (sl2 x4)

/-- The difference from the target the body computes. -/
def err (x0 : Vec Ideal S512x1024 .f32) (x1 : Vec Ideal S1x1024 .f32) (x2 x3 x4 : Vec Ideal S4x704x1024 .bf16) (x5 : Vec Ideal S512x1024 .f32) : FVec Ideal S512x1024 .f32 :=
  k0_pay3 (part x0 x1 x2 x3 x4) (k0_pay22 (k0_pay6 x0 x1) (sl3 x2)) (k0_pay23 (k0_pay6 x0 x1) (sl3 x3)) (sl3 x4) x5

theorem err_apply (x0 : Vec Ideal S512x1024 .f32) (x1 : Vec Ideal S1x1024 .f32) (x2 x3 x4 : Vec Ideal S4x704x1024 .bf16) (x5 : Vec Ideal S512x1024 .f32)
    (i : Fin 512) (j : Fin 1024) :
    err x0 x1 x2 x3 x4 x5 (ix2 i j)
      = ((((x0 (ix2 i j) + ∑ q, Ffn.unit (db x0 x1 x2 0 i q) (db x0 x1 x3 0 i q) * x4 (ix3 0 q j))
          + ∑ q, Ffn.unit (db x0 x1 x2 1 i q) (db x0 x1 x3 1 i q) * x4 (ix3 1 q j))
          + ∑ q, Ffn.unit (db x0 x1 x2 2 i q) (db x0 x1 x3 2 i q) * x4 (ix3 2 q j))
          + ∑ q, Ffn.unit (db x0 x1 x2 3 i q) (db x0 x1 x3 3 i q) * x4 (ix3 3 q j)) - x5 (ix2 i j) := by
  unfold err part
  simp only [pay3_apply, pay21_apply, pay16_apply, pay8_apply, pay11_apply, pay7_apply, pay12_apply, pay13_apply, pay17_apply, pay18_apply,
    pay22_apply, pay23_apply, pay6_apply, dw0, dw1, dw2, dw3, dn0, dn1, dn2, dn3]
  rfl

theorem cuts_apply (x0 : Vec Ideal S512x1024 .f32) (x1 : Vec Ideal S1x1024 .f32) (w : Vec Ideal S4x704x1024 .bf16) (s : Fin 4) (i : Fin 512) (q : Fin 704) :
    View.canon (Val := Elt Ideal) (s := S4x512x704) (e := .bf16)
      [⟨Rect.unit (s := S4x512x704) ![3, 0, 0] S1x512x704.size inb_S4x512x704_S1x512x704_3_0_0, k0_pay24 (k0_pay6 x0 x1) (sl3 w)⟩,
        ⟨Rect.unit (s := S4x512x704) ![2, 0, 0] S1x512x704.size inb_S4x512x704_S1x512x704_2_0_0, k0_pay19 (k0_pay17 (k0_pay6 x0 x1) (sl2 w))⟩,
        ⟨Rect.unit (s := S4x512x704) ![1, 0, 0] S1x512x704.size inb_S4x512x704_S1x512x704_1_0_0, k0_pay14 (k0_pay6 x0 x1) (sl1 w)⟩,
        ⟨Rect.unit (s := S4x512x704) ![0, 0, 0] S1x512x704.size inb_S4x512x704_S1x512x704_0_0_0, k0_pay9 x0 x1 (sl0 w)⟩] (ix3 s i q) = db x0 x1 w s i q := by
  rw [Slabs.canon_slab, Slabs.canon_slab, Slabs.canon_slab, Slabs.canon_slab]
  simp only [pay1_apply, pay9_apply, pay10_apply, pay14_apply, pay15_apply, pay19_apply, pay17_apply, pay20_apply, pay24_apply, pay25_apply, pay6_apply, dw0, dw1, dw2, dw3]
  fin_vals s with hs
  all_goals simp only [hs, Nat.reduceEqDiff, ↓reduceIte]
  · obtain rfl : s = 0 := Fin.ext hs
    rfl
  · obtain rfl : s = 1 := Fin.ext hs
    rfl
  · obtain rfl : s = 2 := Fin.ext hs
    rfl
  · obtain rfl : s = 3 := Fin.ext hs
    rfl

theorem cutsu_apply (x0 : Vec Ideal S512x1024 .f32) (x1 : Vec Ideal S1x1024 .f32) (w : Vec Ideal S4x704x1024 .bf16) (s : Fin 4) (i : Fin 512) (q : Fin 704) :
    View.canon (Val := Elt Ideal) (s := S4x512x704) (e := .bf16)
      [⟨Rect.unit (s := S4x512x704) ![3, 0, 0] S1x512x704.size inb_S4x512x704_S1x512x704_3_0_0, k0_pay1 (k0_pay25 (k0_pay6 x0 x1) (sl3 w))⟩,
        ⟨Rect.unit (s := S4x512x704) ![2, 0, 0] S1x512x704.size inb_S4x512x704_S1x512x704_2_0_0, k0_pay20 (k0_pay6 x0 x1) (sl2 w)⟩,
        ⟨Rect.unit (s := S4x512x704) ![1, 0, 0] S1x512x704.size inb_S4x512x704_S1x512x704_1_0_0, k0_pay15 (k0_pay6 x0 x1) (sl1 w)⟩,
        ⟨Rect.unit (s := S4x512x704) ![0, 0, 0] S1x512x704.size inb_S4x512x704_S1x512x704_0_0_0, k0_pay10 x0 x1 (sl0 w)⟩] (ix3 s i q) = db x0 x1 w s i q := by
  rw [Slabs.canon_slab, Slabs.canon_slab, Slabs.canon_slab, Slabs.canon_slab]
  simp only [pay1_apply, pay9_apply, pay10_apply, pay14_apply, pay15_apply, pay19_apply, pay17_apply, pay20_apply, pay24_apply, pay25_apply, pay6_apply, dw0, dw1, dw2, dw3]
  fin_vals s with hs
  all_goals simp only [hs, Nat.reduceEqDiff, ↓reduceIte]
  · obtain rfl : s = 0 := Fin.ext hs
    rfl
  · obtain rfl : s = 1 := Fin.ext hs
    rfl
  · obtain rfl : s = 2 := Fin.ext hs
    rfl
  · obtain rfl : s = 3 := Fin.ext hs
    rfl

/-! The blocks of a grid point -/

variable (m : (ℓ : Loc nD τ sig) → Buf (Elt Ideal) ℓ)

def A0 (c : Dev nD) : FVec Ideal S8192x1024 .f32 := m ((c : Thread nD τ).loc main_arg0)
def A1 (c : Dev nD) : FVec Ideal S1024 .f32 := m ((c : Thread nD τ).loc main_arg1)
def A2 (c : Dev nD) : FVec Ideal S1024x2816 .f32 := m ((c : Thread nD τ).loc main_arg2)
def A3 (c : Dev nD) : FVec Ideal S1024x2816 .f32 := m ((c : Thread nD τ).loc main_arg3)
def A4 (c : Dev nD) : FVec Ideal S2816x1024 .f32 := m ((c : Thread nD τ).loc main_arg4)
def X0 (c : Dev nD) (t : Fin cfg0.N) : FVec Ideal S512x1024 .f32 := iblk m c 0 t
def X1 (c : Dev nD) (t : Fin cfg0.N) : FVec Ideal S1x1024 .f32 := iblk m c 1 t
def X2 (c : Dev nD) (t : Fin cfg0.N) : FVec Ideal S4x704x1024 .bf16 := iblk m c 2 t
def X3 (c : Dev nD) (t : Fin cfg0.N) : FVec Ideal S4x704x1024 .bf16 := iblk m c 3 t
def X5 (c : Dev nD) (t : Fin cfg0.N) : FVec Ideal S512x1024 .f32 := iblk m c 5 t
def A5 (c : Dev nD) : FVec Ideal S8192x1024 .f32 := m ((c : Thread nD τ).loc main_arg5)
def X4 (c : Dev nD) (t : Fin cfg0.N) : FVec Ideal S4x704x1024 .bf16 := iblk m c 4 t

theorem v0 (c : Dev nD) (l : Fin 1024) : V m c main_v0 (ix2 0 l) = A1 m c (ix1 l) := by
  unfold V A1
  after_reads_at
theorem v7g (c : Dev nD) (s : Fin 4) (q : Fin 704) (l : Fin 1024) :
    V m c main_v7 (ix3 s (⟨q.val, by omega⟩ : Fin 2112) l) = A2 m c (ix2 l (Ffn.at4 s q)) := by
  unfold V A2
  after_reads_at
  after_reads_at
  rfl
theorem v7u (c : Dev nD) (s : Fin 4) (q : Fin 704) (l : Fin 1024) :
    V m c main_v7 (ix3 s (⟨704 + q.val, by omega⟩ : Fin 2112) l) = A3 m c (ix2 l (Ffn.at4 s q)) := by
  unfold V A3
  after_reads_at
  after_reads_at
  rfl
theorem v7d (c : Dev nD) (s : Fin 4) (q : Fin 704) (l : Fin 1024) :
    V m c main_v7 (ix3 s (⟨1408 + q.val, by omega⟩ : Fin 2112) l) = A4 m c (ix2 (Ffn.at4 s q) l) := by
  unfold V A4
  after_reads_at
  rw [dif_neg (by omega), dif_neg (by omega)]
  rw [show (⟨1408 + q.val - 704 - 704, by omega⟩ : Fin 704) = q from Fin.ext (by show 1408 + q.val - 704 - 704 = q.val; omega)]
  after_reads_at
  rfl

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0, 0] := (by decide +kernel : ∀ t : Fin grid0.N, _)
theorem e3 : ∀ t : Fin cfg0.N, win0_3.index t = ![0, 1, 0] := (by decide +kernel : ∀ t : Fin grid0.N, _)
theorem e4 : ∀ t : Fin cfg0.N, win0_4.index t = ![0, 2, 0] := (by decide +kernel : ∀ t : Fin grid0.N, _)
theorem e5 : ∀ t : Fin cfg0.N, win0_5.index t = ![t.val, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![0, t.val, 0] := (by decide +kernel : ∀ t : Fin grid0.N, _)
theorem e9 : ∀ t : Fin cfg0.N, win0_9.index t = ![0, t.val, 0] := (by decide +kernel : ∀ t : Fin grid0.N, _)
theorem e10 : ∀ t : Fin cfg0.N, win0_10.index t = ![t.val, 0] := (by decide +kernel : ∀ t : Fin grid0.N, _)

/-- The row of the whole array a block's row is. -/
def row (t : Fin cfg0.N) (i : Fin 512) : Fin 8192 := ⟨t.val * 512 + i.val, by have := t.isLt; have : cfg0.N = 16 := N_0; omega⟩

theorem X0_apply (c : Dev nD) (t : Fin cfg0.N) (i : Fin 512) (l : Fin 1024) : X0 m c t (ix2 i l) = A0 m c (ix2 (row t i) l) := by
  have h : V m c main_arg0 (ix2 (row t i) l) = A0 m c (ix2 (row t i) l) := by rw [V_main_arg0]; rfl
  rw [← h]
  unfold X0 row
  blk_ext [iblk, e0]
theorem X5_apply (c : Dev nD) (t : Fin cfg0.N) (i : Fin 512) (l : Fin 1024) : X5 m c t (ix2 i l) = A5 m c (ix2 (row t i) l) := by
  have h : V m c main_arg5 (ix2 (row t i) l) = A5 m c (ix2 (row t i) l) := by rw [V_main_arg5]; rfl
  rw [← h]
  unfold X5 row
  blk_ext [iblk, e5]
theorem X1_apply (c : Dev nD) (t : Fin cfg0.N) (l : Fin 1024) : X1 m c t (ix2 0 l) = A1 m c (ix1 l) := by
  rw [← v0 m c l]
  unfold X1
  blk_ext [iblk, e1]
theorem X2_apply (c : Dev nD) (t : Fin cfg0.N) (s : Fin 4) (q : Fin 704) (l : Fin 1024) : X2 m c t (ix3 s q l) = A2 m c (ix2 l (Ffn.at4 s q)) := by
  rw [← v7g m c s q l]
  unfold X2
  blk_ext [iblk, e2]
theorem X3_apply (c : Dev nD) (t : Fin cfg0.N) (s : Fin 4) (q : Fin 704) (l : Fin 1024) : X3 m c t (ix3 s q l) = A3 m c (ix2 l (Ffn.at4 s q)) := by
  rw [← v7u m c s q l]
  unfold X3
  blk_ext [iblk, e3]
theorem X4_apply (c : Dev nD) (t : Fin cfg0.N) (s : Fin 4) (q : Fin 704) (l : Fin 1024) : X4 m c t (ix3 s q l) = A4 m c (ix2 (Ffn.at4 s q) l) := by
  rw [← v7d m c s q l]
  unfold X4
  blk_ext [iblk, e4]

/-! The layer's values over the argument arrays -/

/-- The normalized row `r`. -/
def hr (x : FVec Ideal S8192x1024 .f32) (g : FVec Ideal S1024 .f32) (r : Fin 8192) : Fin 1024 → EReal :=
  Ffn.nrm (fun l => x (ix2 r l)) (fun l => g (ix1 l))
/-- One pre-activation of row `r`. -/
def dr (x : FVec Ideal S8192x1024 .f32) (g : FVec Ideal S1024 .f32) (w : FVec Ideal S1024x2816 .f32) (r : Fin 8192) (q : Fin 2816) : EReal :=
  Ffn.dotp (hr x g r) (fun l q => w (ix2 l q)) q
/-- One entry of the layer's output. -/
def yr (x : FVec Ideal S8192x1024 .f32) (g : FVec Ideal S1024 .f32) (wg wu : FVec Ideal S1024x2816 .f32) (wd : FVec Ideal S2816x1024 .f32)
    (r : Fin 8192) (j : Fin 1024) : EReal :=
  x (ix2 r j) + ∑ q, Ffn.unit (dr x g wg r q) (dr x g wu r q) * wd (ix2 q j)

theorem hb_eq (c : Dev nD) (t : Fin cfg0.N) (i : Fin 512) : hb (X0 m c t) (X1 m c t) i = hr (A0 m c) (A1 m c) (row t i) := by
  unfold hb hr
  simp only [X0_apply, X1_apply]
theorem dbg_eq (c : Dev nD) (t : Fin cfg0.N) (s : Fin 4) (i : Fin 512) (q : Fin 704) :
    db (X0 m c t) (X1 m c t) (X2 m c t) s i q = dr (A0 m c) (A1 m c) (A2 m c) (row t i) (Ffn.at4 s q) := by
  unfold db dr Ffn.dotp
  simp only [hb_eq, X2_apply]
theorem dbu_eq (c : Dev nD) (t : Fin cfg0.N) (s : Fin 4) (i : Fin 512) (q : Fin 704) :
    db (X0 m c t) (X1 m c t) (X3 m c t) s i q = dr (A0 m c) (A1 m c) (A3 m c) (row t i) (Ffn.at4 s q) := by
  unfold db dr Ffn.dotp
  simp only [hb_eq, X3_apply]

/-- The difference from the target over the argument arrays. -/
def er (c : Dev nD) (r : Fin 8192) (j : Fin 1024) : EReal :=
  yr (A0 m c) (A1 m c) (A2 m c) (A3 m c) (A4 m c) r j - A5 m c (ix2 r j)

theorem err_block (c : Dev nD) (t : Fin cfg0.N) (i : Fin 512) (j : Fin 1024) :
    err (X0 m c t) (X1 m c t) (X2 m c t) (X3 m c t) (X4 m c t) (X5 m c t) (ix2 i j) = er m c (row t i) j := by
  rw [err_apply]
  simp only [dbg_eq, dbu_eq, X4_apply, X0_apply, X5_apply]
  exact congrArg (· - A5 m c (ix2 (row t i) j)) (Ffn.add_cuts _ (fun q => Ffn.unit (dr (A0 m c) (A1 m c) (A2 m c) (row t i) q) (dr (A0 m c) (A1 m c) (A3 m c) (row t i) q) * A4 m c (ix2 q j)))

/-! What a grid point leaves -/

theorem out7_t (c : Dev nD) (t : Fin cfg0.N) (i : Fin 512) (j : Fin 1024) :
    (outsAt0 m c t.val t.isLt).2.1 (ix2 i j) = er m c (row t i) j * Ideal.ofBits FTy.f32 981467136#32 := by
  rw [← err_block]
  refine Eq.trans ?_ (pay4_apply (part (X0 m c t) (X1 m c t) (X2 m c t) (X3 m c t) (X4 m c t)) _ _ _ _ i j)
  by_cases h0 : t.val % 16 = 0
  · rw [outsAt0_A m c t h0]
    frame_out
    rfl
  · rw [outsAt0_B m c t h0]
    frame_out
    rfl

theorem out8_t (c : Dev nD) (t : Fin cfg0.N) (s : Fin 4) (i : Fin 512) (q : Fin 704) :
    (outsAt0 m c t.val t.isLt).2.2.1 (ix3 s i q) = dr (A0 m c) (A1 m c) (A2 m c) (row t i) (Ffn.at4 s q) := by
  rw [← dbg_eq]
  by_cases h0 : t.val % 16 = 0
  · rw [outsAt0_A m c t h0]
    frame_out
    exact cuts_apply (X0 m c t) (X1 m c t) (X2 m c t) s i q
  · rw [outsAt0_B m c t h0]
    frame_out
    exact cuts_apply (X0 m c t) (X1 m c t) (X2 m c t) s i q

theorem out9_t (c : Dev nD) (t : Fin cfg0.N) (s : Fin 4) (i : Fin 512) (q : Fin 704) :
    (outsAt0 m c t.val t.isLt).2.2.2.1 (ix3 s i q) = dr (A0 m c) (A1 m c) (A3 m c) (row t i) (Ffn.at4 s q) := by
  rw [← dbu_eq]
  by_cases h0 : t.val % 16 = 0
  · rw [outsAt0_A m c t h0]
    frame_out
    exact cutsu_apply (X0 m c t) (X1 m c t) (X3 m c t) s i q
  · rw [outsAt0_B m c t h0]
    frame_out
    exact cutsu_apply (X0 m c t) (X1 m c t) (X3 m c t) s i q

theorem out10_t (c : Dev nD) (t : Fin cfg0.N) (i : Fin 512) (l : Fin 1024) :
    (outsAt0 m c t.val t.isLt).2.2.2.2 (ix2 i l) = hr (A0 m c) (A1 m c) (row t i) l := by
  rw [← hb_eq]
  by_cases h0 : t.val % 16 = 0
  · rw [outsAt0_A m c t h0]
    frame_out
    exact pay6_apply (X0 m c t) (X1 m c t) i l
  · rw [outsAt0_B m c t h0]
    frame_out
    exact pay6_apply (X0 m c t) (X1 m c t) i l

/-- One tile's part of the loss. -/
def tile (c : Dev nD) (t : Fin cfg0.N) : EReal :=
  (∑ r : Fin 512, ∑ k : Fin 1024, er m c (row t r) k * er m c (row t r) k) * Ideal.ofBits FTy.f32 973078528#32

theorem out6_A (c : Dev nD) (t : Fin cfg0.N) (h0 : t.val % 16 = 0) (i : Fin 8) (j : Fin 128) :
    (outsAt0 m c t.val t.isLt).1 (ix2 i j) = 0 + tile m c t := by
  unfold tile
  simp only [← err_block]
  rw [outsAt0_A m c t h0]
  frame_out
  refine (pay5_apply _ _ _ _ _ _ i j).trans ?_
  exact Ideal.add_congr (pay2_apply _) rfl

theorem out6_B (c : Dev nD) (t : Fin cfg0.N) (h0 : ¬t.val % 16 = 0) (i : Fin 8) (j : Fin 128) :
    (outsAt0 m c t.val t.isLt).1 (ix2 i j)
      = (outsAt0 m c (t.val - 1) (Nat.lt_of_le_of_lt (Nat.sub_le _ _) t.isLt)).1 (ix2 i j) + tile m c t := by
  unfold tile
  simp only [← err_block]
  rw [outsAt0_B m c t h0]
  frame_out
  exact pay5_apply _ _ _ _ _ _ i j

theorem out6_last (c : Dev nD) (t : Fin cfg0.N) (ht : t.val + 1 = cfg0.N) (i : Fin 8 × Fin 128) :
    (outsAt0 m c t.val t.isLt).1 (ix2 i.1 i.2) = 0 + ∑ p : Fin cfg0.N, tile m c p :=
  Pipeline.eq_sum_fin_of_reset_step_apply_last (fun n hn (i : Fin 8 × Fin 128) => (outsAt0 m c n hn).1 (ix2 i.1 i.2)) 16 (fun _ => (0 : EReal))
    (fun t _ => tile m c t) (fun t ht i => out6_A m c t ht _ _) (fun t ht i => out6_B m c t ht _ _) (le_of_eq N_0) t ht i

/-- The loss: the mean square of the difference, halved. -/
def lr (c : Dev nD) : EReal :=
  (∑ r : Fin 8192, ∑ k : Fin 1024, er m c r k * er m c r k) * Ideal.ofBits FTy.f32 973078528#32

theorem tiles_sum (c : Dev nD) : ∑ p : Fin cfg0.N, tile m c p = lr m c := by
  have hg : ∀ r : Fin 8192, 0 ≤ ∑ k : Fin 1024, er m c r k * er m c r k := fun r => Finset.sum_nonneg fun k _ => Ffn.mul_self_nonneg _
  have h : ∑ r : Fin 8192, (∑ k : Fin 1024, er m c r k * er m c r k)
      = ∑ p : Fin cfg0.N, ∑ i : Fin 512, (∑ k : Fin 1024, er m c (row p i) k * er m c (row p i) k) := by
    have h1 : ∑ r : Fin 8192, (∑ k : Fin 1024, er m c r k * er m c r k)
        = ∑ p : Fin 16 × Fin 512, (∑ k : Fin 1024, er m c (row (Fin.cast N_0.symm p.1) p.2) k * er m c (row (Fin.cast N_0.symm p.1) p.2) k) := by
      refine (Fintype.sum_equiv (finProdFinEquiv (m := 16) (n := 512)) _ _ fun p => ?_).symm
      have hp : row (Fin.cast N_0.symm p.1) p.2 = finProdFinEquiv p := by
        apply Fin.ext
        show p.1.val * 512 + p.2.val = p.2.val + 512 * p.1.val
        omega
      rw [hp]
    rw [h1, Fintype.sum_prod_type]
    exact Fintype.sum_equiv (finCongr N_0.symm) _ _ fun p => rfl
  unfold lr tile
  rw [h, Ffn.sum_mul_nonneg _ (fun p => Finset.sum_nonneg fun i _ => hg _)]

def L (c : Dev nD) : FVec Ideal S8x128 .f32 := fun _ => lr m c
def Y (c : Dev nD) : FVec Ideal S8192x1024 .f32 := fun i => er m c (i 0) (i 1) * Ideal.ofBits FTy.f32 981467136#32
def PA (c : Dev nD) : FVec Ideal S4x8192x704 .bf16 := fun i => dr (A0 m c) (A1 m c) (A2 m c) (i 1) (Ffn.at4 (i 0) (i 2))
def PB (c : Dev nD) : FVec Ideal S4x8192x704 .bf16 := fun i => dr (A0 m c) (A1 m c) (A3 m c) (i 1) (Ffn.at4 (i 0) (i 2))
def H (c : Dev nD) : FVec Ideal S8192x1024 .bf16 := fun i => hr (A0 m c) (A1 m c) (i 0) (i 1)

theorem emb7 (t : Fin cfg0.N) (i : Fin 512) (j : Fin 1024) : ((cfg0.win 7).blk t).view.emb (ix2 i j) = ix2 (row t i) j := by
  unfold row
  blk_ext [e7]
theorem emb8 (t : Fin cfg0.N) (s : Fin 4) (i : Fin 512) (q : Fin 704) : ((cfg0.win 8).blk t).view.emb (ix3 s i q) = ix3 s (row t i) q := by
  unfold row
  blk_ext [e8]
theorem emb9 (t : Fin cfg0.N) (s : Fin 4) (i : Fin 512) (q : Fin 704) : ((cfg0.win 9).blk t).view.emb (ix3 s i q) = ix3 s (row t i) q := by
  unfold row
  blk_ext [e9]
theorem emb10 (t : Fin cfg0.N) (i : Fin 512) (j : Fin 1024) : ((cfg0.win 10).blk t).view.emb (ix2 i j) = ix2 (row t i) j := by
  unfold row
  blk_ext [e10]
theorem e6 : ∀ t : Fin cfg0.N, win0_6.index t = ![0, 0] := (by decide +kernel : ∀ t : Fin grid0.N, _)
theorem emb6 (t : Fin cfg0.N) (i : Fin 8) (j : Fin 128) : ((cfg0.win 6).blk t).view.emb (ix2 i j) = ix2 i j := by
  blk_ext [e6]
theorem flush6 : ∀ t : Fin cfg0.N, (cfg0.win 6).flush t = true → t.val + 1 = cfg0.N :=
  (by decide +kernel : ∀ t : Fin grid0.N, win0_6.flush t = true → t.val + 1 = grid0.N)

theorem final6 (c : Dev nD) : (dats m 0 c).arrAt 6 cfg0.N = L m c := by
  refine (dats m 0 c).arrAt_eq_of_cover 6 (L m c) (fun t ht => ?_) (Pipeline.Window.Covers.cover win0_6 (by decide +kernel) (Memref.isWhole_whole _))
  rw [Value.flushed6]
  funext y
  obtain ⟨i, j, rfl⟩ : ∃ (i : Fin 8) (j : Fin 128), y = ix2 i j := ⟨y 0, y 1, eq_ix2 y⟩
  refine (out6_last m c t (flush6 t ht) (i, j)).trans ?_
  show _ = lr m c
  rw [zero_add, tiles_sum]
theorem final7 (c : Dev nD) : (dats m 0 c).arrAt 7 cfg0.N = Y m c := by
  refine (dats m 0 c).arrAt_eq_of_cover 7 (Y m c) (fun t _ => ?_) (Pipeline.Window.Covers.cover win0_7 (by decide +kernel) (Memref.isWhole_whole _))
  rw [Value.flushed7]
  funext y
  obtain ⟨i, j, rfl⟩ : ∃ (i : Fin 512) (j : Fin 1024), y = ix2 i j := ⟨y 0, y 1, eq_ix2 y⟩
  refine (out7_t m c t i j).trans ?_
  show _ = Y m c (((cfg0.win 7).blk t).view.emb (ix2 i j))
  rw [emb7]
  rfl
theorem final8 (c : Dev nD) : (dats m 0 c).arrAt 8 cfg0.N = PA m c := by
  refine (dats m 0 c).arrAt_eq_of_cover 8 (PA m c) (fun t _ => ?_) (Pipeline.Window.Covers.cover win0_8 (by decide +kernel) (Memref.isWhole_whole _))
  rw [Value.flushed8]
  funext y
  obtain ⟨s, i, q, rfl⟩ : ∃ (s : Fin 4) (i : Fin 512) (q : Fin 704), y = ix3 s i q := ⟨y 0, y 1, y 2, eq_ix3 y⟩
  refine (out8_t m c t s i q).trans ?_
  show _ = PA m c (((cfg0.win 8).blk t).view.emb (ix3 s i q))
  rw [emb8]
  rfl
theorem final9 (c : Dev nD) : (dats m 0 c).arrAt 9 cfg0.N = PB m c := by
  refine (dats m 0 c).arrAt_eq_of_cover 9 (PB m c) (fun t _ => ?_) (Pipeline.Window.Covers.cover win0_9 (by decide +kernel) (Memref.isWhole_whole _))
  rw [Value.flushed9]
  funext y
  obtain ⟨s, i, q, rfl⟩ : ∃ (s : Fin 4) (i : Fin 512) (q : Fin 704), y = ix3 s i q := ⟨y 0, y 1, y 2, eq_ix3 y⟩
  refine (out9_t m c t s i q).trans ?_
  show _ = PB m c (((cfg0.win 9).blk t).view.emb (ix3 s i q))
  rw [emb9]
  rfl
theorem final10 (c : Dev nD) : (dats m 0 c).arrAt 10 cfg0.N = H m c := by
  refine (dats m 0 c).arrAt_eq_of_cover 10 (H m c) (fun t _ => ?_) (Pipeline.Window.Covers.cover win0_10 (by decide +kernel) (Memref.isWhole_whole _))
  rw [Value.flushed10]
  funext y
  obtain ⟨i, j, rfl⟩ : ∃ (i : Fin 512) (j : Fin 1024), y = ix2 i j := ⟨y 0, y 1, eq_ix2 y⟩
  refine (out10_t m c t i j).trans ?_
  show _ = H m c (((cfg0.win 10).blk t).view.emb (ix2 i j))
  rw [emb10]
  rfl

end Cert.Kernel6Ideal.Layer

namespace Cert.FfnLoss

open Idealize.ShloMosaic Idealize.ShloMosaic.TcCoe Idealize.SL.Sem
open Cert.Reference6Ideal Cert.Reference6Ideal.Read
open Cert.Kernel6Ideal.Layer (hr dr yr A0 A1 A2 A3 A4 A5 er lr L Y PA PB H)

theorem ref12 (x0 : FVec Ideal S8192x1024 .f32) (x1 : FVec Ideal S1024 .f32) (r : Fin 8192) (l : Fin 1024) :
    val_main_v12 (F := Ideal) x0 x1 (ix2 r l) = hr x0 x1 r l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rw [Ffn.div_1024]
  rfl
theorem ref25 (x0 : FVec Ideal S8192x1024 .f32) (x1 : FVec Ideal S1024 .f32) (r : Fin 8192) (l : Fin 1024) :
    val_main_v25 (F := Ideal) x0 x1 (ix2 r l) = hr x0 x1 r l := ref12 x0 x1 r l

theorem ref26 (x0 : FVec Ideal S8192x1024 .f32) (x1 : FVec Ideal S1024 .f32) (w : FVec Ideal S1024x2816 .f32) (r : Fin 8192) (q : Fin 2816) :
    val_main_v26 (F := Ideal) x0 x1 w (ix2 r q) = dr x0 x1 w r q := by
  pointwise [val_main_v26]
  simp only [ref25]
  rfl
theorem ref28 (x0 : FVec Ideal S8192x1024 .f32) (x1 : FVec Ideal S1024 .f32) (w : FVec Ideal S1024x2816 .f32) (r : Fin 8192) (q : Fin 2816) :
    val_main_v28 (F := Ideal) x0 x1 w (ix2 r q) = dr x0 x1 w r q := by
  pointwise [val_main_v28]
  simp only [ref25]
  rfl
theorem ref48 (x0 : FVec Ideal S8192x1024 .f32) (x1 : FVec Ideal S1024 .f32) (w : FVec Ideal S1024x2816 .f32) (r : Fin 8192) (q : Fin 2816) :
    val_main_v48 (F := Ideal) x0 x1 w (ix2 r q) = dr x0 x1 w r q := by
  pointwise [val_main_v48]
  simp only [ref12]
  rfl
theorem ref51 (x0 : FVec Ideal S8192x1024 .f32) (x1 : FVec Ideal S1024 .f32) (w : FVec Ideal S1024x2816 .f32) (s : Fin 4) (r : Fin 8192) (q : Fin 704) :
    val_main_v51 (F := Ideal) x0 x1 w (ix3 s r q) = dr x0 x1 w r (Ffn.at4 s q) := by
  pointwise [val_main_v51, val_main_v50, val_main_v49]
  exact ref48 _ _ _ _ _
theorem ref52 (x0 : FVec Ideal S8192x1024 .f32) (x1 : FVec Ideal S1024 .f32) (w : FVec Ideal S1024x2816 .f32) (r : Fin 8192) (q : Fin 2816) :
    val_main_v52 (F := Ideal) x0 x1 w (ix2 r q) = dr x0 x1 w r q := by
  pointwise [val_main_v52]
  simp only [ref12]
  rfl
theorem ref55 (x0 : FVec Ideal S8192x1024 .f32) (x1 : FVec Ideal S1024 .f32) (w : FVec Ideal S1024x2816 .f32) (s : Fin 4) (r : Fin 8192) (q : Fin 704) :
    val_main_v55 (F := Ideal) x0 x1 w (ix3 s r q) = dr x0 x1 w r (Ffn.at4 s q) := by
  pointwise [val_main_v55, val_main_v54, val_main_v53]
  exact ref52 _ _ _ _ _
theorem ref29 (x0 : FVec Ideal S8192x1024 .f32) (x1 : FVec Ideal S1024 .f32) (x2 x3 : FVec Ideal S1024x2816 .f32) (r : Fin 8192) (q : Fin 2816) :
    val_main_v29 (F := Ideal) x0 x1 x2 x3 (ix2 r q) = Ffn.unit (dr x0 x1 x2 r q) (dr x0 x1 x3 r q) := by
  pointwise [val_main_v29, val_main_v27, val_main_call0_v5, val_main_call0_v4, val_main_call0_v3, val_main_call0_v2, val_main_call0_v1, val_main_call0_v0, val_main_call0_cst, val_main_call0_cst_0]
  simp only [ref26, ref28]
  rfl
theorem ref31 (x0 : FVec Ideal S8192x1024 .f32) (x1 : FVec Ideal S1024 .f32) (x2 x3 : FVec Ideal S1024x2816 .f32) (x4 : FVec Ideal S2816x1024 .f32)
    (r : Fin 8192) (j : Fin 1024) :
    val_main_v31 (F := Ideal) x0 x1 x2 x3 x4 (ix2 r j) = yr x0 x1 x2 x3 x4 r j := by
  pointwise [val_main_v31, val_main_v30]
  simp only [ref29]
  rfl
theorem ref56 (x0 : FVec Ideal S8192x1024 .f32) (x1 : FVec Ideal S1024 .f32) (r : Fin 8192) (l : Fin 1024) :
    val_main_v56 (F := Ideal) x0 x1 (ix2 r l) = hr x0 x1 r l := ref12 x0 x1 r l
theorem ref32 (x0 : FVec Ideal S8192x1024 .f32) (x1 : FVec Ideal S1024 .f32) (x2 x3 : FVec Ideal S1024x2816 .f32) (x4 : FVec Ideal S2816x1024 .f32) (x5 : FVec Ideal S8192x1024 .f32) (r : Fin 8192) (j : Fin 1024) :
    val_main_v32 (F := Ideal) x0 x1 x2 x3 x4 x5 (ix2 r j) = yr x0 x1 x2 x3 x4 r j - x5 (ix2 r j) := by
  pointwise [val_main_v32]
  simp only [ref31]
theorem ref33 (x0 : FVec Ideal S8192x1024 .f32) (x1 : FVec Ideal S1024 .f32) (x2 x3 : FVec Ideal S1024x2816 .f32) (x4 : FVec Ideal S2816x1024 .f32) (x5 : FVec Ideal S8192x1024 .f32) (r : Fin 8192) (j : Fin 1024) :
    val_main_v33 (F := Ideal) x0 x1 x2 x3 x4 x5 (ix2 r j) = (yr x0 x1 x2 x3 x4 r j - x5 (ix2 r j)) * (yr x0 x1 x2 x3 x4 r j - x5 (ix2 r j)) := by
  pointwise [val_main_v33]
  simp only [ref32]
theorem ref46 (x0 : FVec Ideal S8192x1024 .f32) (x1 : FVec Ideal S1024 .f32) (x2 x3 : FVec Ideal S1024x2816 .f32) (x4 : FVec Ideal S2816x1024 .f32) (x5 : FVec Ideal S8192x1024 .f32) (r : Fin 8192) (j : Fin 1024) :
    val_main_v46 (F := Ideal) x0 x1 x2 x3 x4 x5 (ix2 r j) = (yr x0 x1 x2 x3 x4 r j - x5 (ix2 r j)) * Ideal.ofBits FTy.f32 981467136#32 := by
  pointwise [val_main_v46, val_main_v45, val_main_v44, val_main_v43, val_main_v42, val_main_v41, val_main_v35, val_main_v34, val_main_cst_5, val_main_cst_10, val_main_cst_11, val_main_cst_12]
  simp only [ref32]
  exact Ffn.dy_scale _
theorem ref38 (x0 : FVec Ideal S8192x1024 .f32) (x1 : FVec Ideal S1024 .f32) (x2 x3 : FVec Ideal S1024x2816 .f32) (x4 : FVec Ideal S2816x1024 .f32) (x5 : FVec Ideal S8192x1024 .f32) (r : Fin 8192) :
    val_main_v38 (F := Ideal) x0 x1 x2 x3 x4 x5 (ix1 r)
      = (∑ j : Fin 1024, (yr x0 x1 x2 x3 x4 r j - x5 (ix2 r j)) * (yr x0 x1 x2 x3 x4 r j - x5 (ix2 r j))) * Ideal.ofBits FTy.f32 981467136#32 := by
  pointwise [val_main_v38, val_main_v37, val_main_v36, val_main_cst_6, val_main_cst_7]
  simp only [ref33, Ffn.div_1024]
theorem ref47 (x0 : FVec Ideal S8192x1024 .f32) (x1 : FVec Ideal S1024 .f32) (x2 x3 : FVec Ideal S1024x2816 .f32) (x4 : FVec Ideal S2816x1024 .f32) (x5 : FVec Ideal S8192x1024 .f32) (i : Fin 8) (j : Fin 128) :
    val_main_v47 (F := Ideal) x0 x1 x2 x3 x4 x5 (ix2 i j)
      = (∑ r : Fin 8192, ∑ j : Fin 1024, (yr x0 x1 x2 x3 x4 r j - x5 (ix2 r j)) * (yr x0 x1 x2 x3 x4 r j - x5 (ix2 r j))) * Ideal.ofBits FTy.f32 973078528#32 := by
  pointwise [val_main_v47, val_main_v40, val_main_v39, val_main_cst_8, val_main_cst_9]
  simp only [ref38]
  exact Ffn.half_mean _ fun r => Finset.sum_nonneg fun k _ => Ffn.mul_self_nonneg _

variable (m : (ℓ : Loc Cert.Kernel6Ideal.nD Cert.Kernel6Ideal.τ Cert.Kernel6Ideal.sig) → Buf (Elt Ideal) ℓ) (c : Dev Cert.Kernel6Ideal.nD)
theorem value_L : L m c = val_main_v47 (F := Ideal) (A0 m c) (A1 m c) (A2 m c) (A3 m c) (A4 m c) (A5 m c) := by
  funext i
  idx_vars i
  exact (ref47 _ _ _ _ _ _ _ _).symm
theorem value_Y : Y m c = val_main_v46 (F := Ideal) (A0 m c) (A1 m c) (A2 m c) (A3 m c) (A4 m c) (A5 m c) := by
  funext i
  idx_vars i
  exact (ref46 _ _ _ _ _ _ _ _).symm
theorem value_PA : PA m c = val_main_v51 (F := Ideal) (A0 m c) (A1 m c) (A2 m c) := by
  funext i
  idx_vars i
  exact (ref51 _ _ _ _ _ _).symm
theorem value_PB : PB m c = val_main_v55 (F := Ideal) (A0 m c) (A1 m c) (A3 m c) := by
  funext i
  idx_vars i
  exact (ref55 _ _ _ _ _ _).symm
theorem value_H : H m c = val_main_v56 (F := Ideal) (A0 m c) (A1 m c) := by
  funext i
  idx_vars i
  exact (ref56 _ _ _ _).symm

/-- The two programs have the same functions. -/
theorem defs₀_eq {F : FTy → Type} [FloatOps F] : Cert.Kernel6.defs₀ (F := F) = Cert.Kernel6Ideal.defs₀ (F := F) := by
  unfold Cert.Kernel6.defs₀ Cert.Kernel6Ideal.defs₀
  refine congrArg Defs.onTc (funext fun l => ?_)
  match l with
  | ⟨0, _⟩ => exact funext fun ⟨t, s⟩ => rfl
theorem defs_eq {F : FTy → Type} [FloatOps F] : Cert.Kernel6.defs (F := F) = Cert.Kernel6Ideal.defs (F := F) := by
  unfold Cert.Kernel6.defs Cert.Kernel6Ideal.defs
  rw [defs₀_eq]
  rfl
theorem frame_kernel : Cert.quiescent_Kernel6 := fun m ρ _ => by
  rw [defs_eq]
  exact Cert.Kernel6Ideal.Gen.frame (F := Bits) m ρ
theorem frame_ideal : Cert.quiescent_Kernel6Ideal := fun m ρ _ => Cert.Kernel6Ideal.Gen.frame (F := Ideal) m ρ
theorem frame_reference : Cert.quiescent_Reference6Ideal := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)
theorem preserves : Cert.preserves_Kernel6_Kernel6Ideal := trivial

/-- The loss, its gradient, both pre-activations and the normalized rows are the reference's. -/
theorem algebraic : Cert.algebraic_Kernel6Ideal_Reference6Ideal := fun m ρ m' ρ' _ hargs =>
  ⟨fun c => L m c, fun c => Y m c, fun c => PA m c, fun c => PB m c, fun c => H m c,
    (θ_run Cert.Kernel6Ideal.defs _ _).mono (fun _ h c =>
      ⟨(h c).1.trans (Cert.Kernel6Ideal.Layer.final6 m c), (h c).2.1.trans (Cert.Kernel6Ideal.Layer.final7 m c), (h c).2.2.1.trans (Cert.Kernel6Ideal.Layer.final8 m c),
        (h c).2.2.2.1.trans (Cert.Kernel6Ideal.Layer.final9 m c), (h c).2.2.2.2.1.trans (Cert.Kernel6Ideal.Layer.final10 m c), (h c).2.2.2.2.2⟩)
      (Cert.Kernel6Ideal.Value.run_blocks m ρ),
    (θ_run Cert.Reference6Ideal.defs _ _).mono (fun _ h c =>
      ⟨(h c).1.trans ((val_main_v47_eq m' c).trans (by
          rw [(hargs c).1, (hargs c).2.1, (hargs c).2.2.1, (hargs c).2.2.2.1, (hargs c).2.2.2.2.1, (hargs c).2.2.2.2.2]
          exact (value_L m c).symm)),
        (h c).2.1.trans (by
          rw [(hargs c).1, (hargs c).2.1, (hargs c).2.2.1, (hargs c).2.2.2.1, (hargs c).2.2.2.2.1, (hargs c).2.2.2.2.2]
          exact (val_main_v46_eq _ _ _ _ _ _).trans (value_Y m c).symm),
        (h c).2.2.1.trans (by
          rw [(hargs c).1, (hargs c).2.1, (hargs c).2.2.1]
          exact (val_main_v51_eq _ _ _).trans (value_PA m c).symm),
        (h c).2.2.2.1.trans (by
          rw [(hargs c).1, (hargs c).2.1, (hargs c).2.2.2.1]
          exact (val_main_v55_eq _ _ _).trans (value_PB m c).symm),
        (h c).2.2.2.2.1.trans (by
          rw [(hargs c).1, (hargs c).2.1]
          exact (val_main_v56_eq _ _).trans (value_H m c).symm),
        (h c).2.2.2.2.2⟩) (Cert.Reference6Ideal.Value.run m' ρ')⟩

end Cert.FfnLoss
-- ==== Proof.Heads.lean ====
module

public import Idealize.ShloMosaic.Lib.Pointwise
public import Idealize.ShloMosaic.Lib.Pipeline.ValueKit.Acc
public import Idealize.ShloMosaic.Lib.Pipeline.ValueKit.Geometry

@[expose] public section

namespace Cert.Heads

open Idealize.ShloMosaic

/-! Rows of heads: each head's 64 entries are followed by 64 zeros in the padded layout. -/

/-- Entry `e` of head `k`, without and with the padding, and the `e`-th zero after the head. -/
abbrev plain {n : ℕ} (k : Fin n) (e : Fin 64) : Fin (n * 64) := ⟨k.val * 64 + e.val, by omega⟩
abbrev kept {n : ℕ} (k : Fin n) (e : Fin 64) : Fin (n * 128) := ⟨k.val * 128 + e.val, by omega⟩
abbrev zero {n : ℕ} (k : Fin n) (e : Fin 64) : Fin (n * 128) := ⟨k.val * 128 + (64 + e.val), by omega⟩

theorem kept_or_zero {n : ℕ} (q : Fin (n * 128)) : (∃ (k : Fin n) (e : Fin 64), q = kept k e) ∨ ∃ (k : Fin n) (e : Fin 64), q = zero k e := by
  have hq := q.isLt
  by_cases h : q.val % 128 < 64
  · exact .inl ⟨⟨q.val / 128, by omega⟩, ⟨q.val % 128, h⟩, Fin.ext (by show q.val = q.val / 128 * 128 + q.val % 128; omega)⟩
  · exact .inr ⟨⟨q.val / 128, by omega⟩, ⟨q.val % 128 - 64, by omega⟩,
      Fin.ext (by show q.val = q.val / 128 * 128 + (64 + (q.val % 128 - 64)); omega)⟩

theorem sum_blocks {n w : ℕ} (f : Fin (n * w) → EReal) :
    ∑ p, f p = ∑ k : Fin n, ∑ e : Fin w, f (finProdFinEquiv (k, e)) := by
  rw [← Fintype.sum_prod_type' (f := fun k e => f (finProdFinEquiv (k, e)))]
  exact (Fintype.sum_equiv finProdFinEquiv _ _ fun _ => rfl).symm

/-- A sum over padded heads is the sum over the heads. -/
theorem sum_heads {n : ℕ} (g : Fin (n * 128) → EReal) (f : Fin (n * 64) → EReal)
    (hk : ∀ (k : Fin n) (e : Fin 64), g (kept k e) = f (plain k e)) (hz : ∀ (k : Fin n) (e : Fin 64), g (zero k e) = 0) :
    ∑ q, g q = ∑ p, f p := by
  rw [sum_blocks, sum_blocks]
  refine Finset.sum_congr rfl fun k _ => ?_
  refine (Fin.sum_univ_add (a := 64) (b := 64) (fun e => g (finProdFinEquiv (k, e)))).trans ?_
  have h0 : ∑ e : Fin 64, g (finProdFinEquiv (k, Fin.natAdd 64 e)) = 0 := Finset.sum_eq_zero fun e _ => by
    refine Eq.trans (congrArg g (Fin.ext ?_)) (hz k e)
    show (64 + e.val) + 128 * k.val = k.val * 128 + (64 + e.val)
    omega
  rw [h0, add_zero]
  refine Finset.sum_congr rfl fun e _ => ?_
  refine Eq.trans (congrArg g (Fin.ext ?_)) ((hk k e).trans (congrArg f (Fin.ext ?_)))
  · show e.val + 128 * k.val = k.val * 128 + e.val
    omega
  · show k.val * 64 + e.val = e.val + 64 * k.val
    omega

/-- The columns of a projection: 1536 columns and 8 heads in the first part, 4 heads in the second. -/
theorem sum_columns (g1 : Fin 2560 → EReal) (g2 : Fin 512 → EReal) (f : Fin 2304 → EReal)
    (h1 : ∀ q : Fin 1536, g1 ⟨q.val, by omega⟩ = f ⟨q.val, by omega⟩)
    (hk : ∀ (k : Fin 8) (e : Fin 64), g1 ⟨1536 + (kept k e).val, by omega⟩ = f ⟨1536 + (plain k e).val, by omega⟩)
    (hz : ∀ (k : Fin 8) (e : Fin 64), g1 ⟨1536 + (zero k e).val, by omega⟩ = 0)
    (hk' : ∀ (k : Fin 4) (e : Fin 64), g2 (kept k e) = f ⟨2048 + (plain k e).val, by omega⟩)
    (hz' : ∀ (k : Fin 4) (e : Fin 64), g2 (zero k e) = 0) :
    ∑ q, g1 q + ∑ q, g2 q = ∑ p, f p := by
  rw [Fin.sum_univ_add (a := 1536) (b := 1024) g1, Fin.sum_univ_add (a := 2048) (b := 256) f,
    Fin.sum_univ_add (a := 1536) (b := 512) (fun p : Fin 2048 => f (Fin.castAdd 256 p)),
    sum_heads (n := 8) (fun q => g1 (Fin.natAdd 1536 q)) (fun p => f (Fin.castAdd 256 (Fin.natAdd 1536 p))) hk hz,
    sum_heads (n := 4) g2 (fun p => f (Fin.natAdd 2048 p)) hk' hz']
  refine congrArg (fun x => x + _ + _) (Finset.sum_congr rfl fun q _ => h1 q)

section Rows

variable {Val : EltTy → Type} {e : EltTy} [∀ e, Nonempty (Val e)]

/-- Where the rows from `q` on lie in a matrix. -/
theorem rows_idx {A B C : ℕ} (q : ℕ) (inb : ∀ a, (![q, 0] : Fin 2 → ℕ) a + (![B, C] : Fin 2 → ℕ) a ≤ (⟨2, ![A, C]⟩ : Shape).size a)
    (j : Fin B) (k : Fin C) (s : Fin A) (hs : s.val = q + j.val) :
    (Rect.unit (s := ⟨2, ![A, C]⟩) ![q, 0] ![B, C] inb).idx (ix2 j k) = ix2 s k := by
  funext a
  apply Fin.ext
  match a with
  | ⟨0, _⟩ => show q + 1 * j.val = s.val; omega
  | ⟨1, _⟩ => show 0 + 1 * k.val = k.val; omega

/-- A load of the rows from `q` on, read at an index. -/
theorem ld_rows {A B C : ℕ} (q : ℕ) (inb : ∀ a, (![q, 0] : Fin 2 → ℕ) a + (![B, C] : Fin 2 → ℕ) a ≤ (⟨2, ![A, C]⟩ : Shape).size a)
    (X : (⟨2, ![A, C]⟩ : Shape).Idx → Val e) (j : Fin B) (k : Fin C) (s : Fin A) (hs : s.val = q + j.val) :
    View.ld X (Rect.unit (s := ⟨2, ![A, C]⟩) ![q, 0] ![B, C] inb) (ix2 j k) = X (ix2 s k) := by
  show X _ = _
  exact congrArg X (rows_idx q inb j k s hs)

/-- A store of the rows from `q` on, read inside them. -/
theorem canon_rows {A B C : ℕ} (q : ℕ) (inb : ∀ a, (![q, 0] : Fin 2 → ℕ) a + (![B, C] : Fin 2 → ℕ) a ≤ (⟨2, ![A, C]⟩ : Shape).size a)
    (w : (Rect.unit (s := ⟨2, ![A, C]⟩) ![q, 0] ![B, C] inb).shape.Idx → Val e)
    (L : List (View.Piece Val ⟨2, ![A, C]⟩ e)) (s : Fin A) (k : Fin C) (j : Fin B) (hs : s.val = q + j.val) :
    View.canon ((⟨Rect.unit (s := ⟨2, ![A, C]⟩) ![q, 0] ![B, C] inb, w⟩ : View.Piece Val ⟨2, ![A, C]⟩ e) :: L) (ix2 s k) = w (ix2 j k) := by
  have e1 : (ix2 s k : (⟨2, ![A, C]⟩ : Shape).Idx) = (Rect.unit (s := ⟨2, ![A, C]⟩) ![q, 0] ![B, C] inb).emb (ix2 j k) := by
    funext a
    apply Fin.ext
    match a with
    | ⟨0, _⟩ => show s.val = q + 1 * j.val; omega
    | ⟨1, _⟩ => show k.val = 0 + 1 * k.val; omega
  rw [e1, View.canon_cons_emb]

/-- A store of the rows from `q` on, read outside them. -/
theorem canon_rows_ne {A B C : ℕ} (q : ℕ) (inb : ∀ a, (![q, 0] : Fin 2 → ℕ) a + (![B, C] : Fin 2 → ℕ) a ≤ (⟨2, ![A, C]⟩ : Shape).size a)
    (w : (Rect.unit (s := ⟨2, ![A, C]⟩) ![q, 0] ![B, C] inb).shape.Idx → Val e)
    (L : List (View.Piece Val ⟨2, ![A, C]⟩ e)) (s : Fin A) (k : Fin C) (hs : s.val < q ∨ q + B ≤ s.val) :
    View.canon ((⟨Rect.unit (s := ⟨2, ![A, C]⟩) ![q, 0] ![B, C] inb, w⟩ : View.Piece Val ⟨2, ![A, C]⟩ e) :: L) (ix2 s k) = View.canon L (ix2 s k) := by
  apply View.canon_cons_of_not_mem
  intro hm
  rw [Rect.mem_set_unit] at hm
  have h1 : q ≤ s.val := (hm 0).1
  have h2 : s.val < q + B := (hm 0).2
  omega

end Rows

end Cert.Heads

end
-- ==== Proof.InprojBwdArr.lean ====
module

public import proofs.«01_k».proof.Defs
public import proofs.«01_k».proof.Proof.Gen.Kernel7
public import proofs.«01_k».proof.Proof.Gen.Kernel7Ideal.Value
public import proofs.«01_k».proof.Proof.Gen.Reference7Ideal.Run
public import proofs.«01_k».proof.Proof.Gen.Reference7Ideal.Read
public import Idealize.ShloMosaic.Lib.Quiescent
public import Idealize.ShloMosaic.Lib.Pipeline.ValueKit.Point
public import proofs.«01_k».proof.Proof.Slabs
public import proofs.«01_k».proof.Proof.Heads
public import proofs.«01_k».proof.Proof.RmsBwd
public import proofs.«01_k».proof.Proof.Ffn

@[expose] public section

set_option maxRecDepth 16384

noncomputable section

namespace Cert.Kernel7Ideal.Layer

open Idealize.ShloMosaic Idealize.ShloMosaic.TcCoe Idealize.SL.Sem
open Cert.Kernel7Ideal Cert.Kernel7Ideal.Gen Cert.Heads

variable (m : (ℓ : Loc nD τ sig) → Buf (Elt Ideal) ℓ)

def A0 (c : Dev nD) : FVec Ideal S8192x2048 .f32 := m ((c : Thread nD τ).loc main_arg0)
def A1 (c : Dev nD) : FVec Ideal S8192x256 .f32 := m ((c : Thread nD τ).loc main_arg1)
def A2 (c : Dev nD) : FVec Ideal S2048x256 .f32 := m ((c : Thread nD τ).loc main_arg2)
def A3 (c : Dev nD) : FVec Ideal S1024x2304 .f32 := m ((c : Thread nD τ).loc main_arg3)
def A4 (c : Dev nD) : FVec Ideal S8192x1024 .f32 := m ((c : Thread nD τ).loc main_arg4)
def A5 (c : Dev nD) : FVec Ideal S1024 .f32 := m ((c : Thread nD τ).loc main_arg5)
def A6 (c : Dev nD) : FVec Ideal S8192x1024 .f32 := m ((c : Thread nD τ).loc main_arg6)

theorem sitofp_zero : (FloatOps.sitofp (F := Ideal) FTy.f32 0#32 : EReal) = 0 := by
  show (((0#32 : BitVec 32).toInt : ℝ) : EReal) = 0
  simp

theorem v6_first (c : Dev nD) (r : Fin 8192) (q : Fin 1536) :
    V m c main_v6 (ix2 r ⟨q.val, by omega⟩) = A0 m c (ix2 r ⟨q.val, by omega⟩) := by
  unfold V A0
  after_reads_at
  after_reads_at
theorem v6_kept (c : Dev nD) (r : Fin 8192) (k : Fin 8) (e : Fin 64) :
    V m c main_v6 (ix2 r ⟨1536 + (kept k e).val, by omega⟩) = A0 m c (ix2 r ⟨1536 + (plain k e).val, by omega⟩) := by
  unfold V A0
  after_reads_at
  after_reads_at
  rw [dif_pos (by omega)]
  refine congrArg (m ((c : Thread nD τ).loc main_arg0)) (congrArg (ix2 r) (Fin.ext ?_))
  dsimp only
  omega
theorem v6_zero (c : Dev nD) (r : Fin 8192) (k : Fin 8) (e : Fin 64) :
    V m c main_v6 (ix2 r ⟨1536 + (zero k e).val, by omega⟩) = (0 : EReal) := by
  unfold V
  after_reads_at
  after_reads_at
  rw [dif_neg (by omega)]
  exact sitofp_zero
theorem v12_kept (c : Dev nD) (r : Fin 8192) (k : Fin 4) (e : Fin 64) :
    V m c main_v12 (ix2 r (kept k e)) = A1 m c (ix2 r (plain k e)) := by
  unfold V A1
  after_reads_at
  rw [dif_pos (by omega)]
  refine congrArg (m ((c : Thread nD τ).loc main_arg1)) (congrArg (ix2 r) (Fin.ext ?_))
  dsimp only
  omega
theorem v12_zero (c : Dev nD) (r : Fin 8192) (k : Fin 4) (e : Fin 64) :
    V m c main_v12 (ix2 r (zero k e)) = (0 : EReal) := by
  unfold V
  after_reads_at
  rw [dif_neg (by omega)]
  exact sitofp_zero
theorem v9_kept (c : Dev nD) (r : Fin 2048) (k : Fin 4) (e : Fin 64) :
    V m c main_v9 (ix2 r (kept k e)) = A2 m c (ix2 r (plain k e)) := by
  unfold V A2
  after_reads_at
  rw [dif_pos (by omega)]
  refine congrArg (m ((c : Thread nD τ).loc main_arg2)) (congrArg (ix2 r) (Fin.ext ?_))
  dsimp only
  omega
theorem v9_zero (c : Dev nD) (r : Fin 2048) (k : Fin 4) (e : Fin 64) :
    V m c main_v9 (ix2 r (zero k e)) = (0 : EReal) := by
  unfold V
  after_reads_at
  rw [dif_neg (by omega)]
  exact sitofp_zero
theorem v21_first (c : Dev nD) (q : Fin 1536) (l : Fin 1024) :
    V m c main_v21 (ix2 (⟨q.val, by omega⟩ : Fin 3072) l) = A3 m c (ix2 l ⟨q.val, by omega⟩) := by
  unfold V A3
  after_reads_at
  after_reads_at
theorem v21_kept (c : Dev nD) (k : Fin 12) (e : Fin 64) (l : Fin 1024) :
    V m c main_v21 (ix2 (⟨1536 + (kept k e).val, by omega⟩ : Fin 3072) l) = A3 m c (ix2 l ⟨1536 + (plain k e).val, by omega⟩) := by
  unfold V A3
  after_reads_at
  after_reads_at
  rw [dif_pos (by omega)]
  refine congrArg (m ((c : Thread nD τ).loc main_arg3)) (congrArg (ix2 l) (Fin.ext ?_))
  dsimp only
  omega
theorem v22 (c : Dev nD) (l : Fin 1024) : V m c main_v22 (ix2 0 l) = A5 m c (ix1 l) := by
  unfold V A5
  after_reads_at

/-! The gradients of the keys and values, of the projection's columns, and of the normalized rows. -/

/-- The part that the queries of the following tile give, for the last 128 rows of a tile of 512. -/
def hal (x2 : FVec Ideal S2048x256 .f32) (r : Fin 8192) (p : Fin 256) : EReal :=
  if h : 384 ≤ r.val % 512 ∧ r.val / 512 < 15 then x2 (ix2 ⟨(r.val / 512 + 1) * 128 + (r.val % 512 - 384), by omega⟩ p) else 0
def kv (x1 : FVec Ideal S8192x256 .f32) (x2 : FVec Ideal S2048x256 .f32) (r : Fin 8192) (p : Fin 256) : EReal :=
  x1 (ix2 r p) + hal x2 r p
def dproj (x0 : FVec Ideal S8192x2048 .f32) (x1 : FVec Ideal S8192x256 .f32) (x2 : FVec Ideal S2048x256 .f32) (r : Fin 8192) (p : Fin 2304) : EReal :=
  if h : p.val < 2048 then x0 (ix2 r ⟨p.val, h⟩) else kv x1 x2 r ⟨p.val - 2048, by omega⟩
def dh (x0 : FVec Ideal S8192x2048 .f32) (x1 : FVec Ideal S8192x256 .f32) (x2 : FVec Ideal S2048x256 .f32) (x3 : FVec Ideal S1024x2304 .f32)
    (r : Fin 8192) (j : Fin 1024) : EReal := ∑ p : Fin 2304, dproj x0 x1 x2 r p * x3 (ix2 j p)

/-! The payloads at an index -/

theorem pay1_apply (x : Vec Ideal S512x1024 .f32) (i : Fin 512) : k0_pay1 (k0_pay9 x) (ix2 i 0) = Ffn.rstd (fun l => x (ix2 i l)) := by
  unfold Ffn.rstd
  pointwise! [k0_pay1, k0_pay9]
theorem pay2_apply (x : Vec Ideal S512x1024 .f32) (i : Fin 512) (j : Fin 1024) :
    k0_pay2 x (k0_pay9 x) (ix2 i j) = x (ix2 i j) * Ffn.rstd (fun l => x (ix2 i l)) := by
  pointwise [k0_pay2]
  simp only [pay1_apply]
theorem pay3_apply (d : FVec Ideal S512x1024 .f32) (x : Vec Ideal S512x1024 .f32) (p : Vec Ideal S1x1024 .f32) (j : Fin 1024) :
    k0_pay3 d x (k0_pay9 x) p (ix2 0 j) = p (ix2 0 j) + ∑ i : Fin 512, d (ix2 i j) * (x (ix2 i j) * Ffn.rstd (fun l => x (ix2 i l))) := by
  pointwise [k0_pay3]
  simp only [pay2_apply]
theorem pay4_apply (d : FVec Ideal S512x1024 .f32) (x y : Vec Ideal S512x1024 .f32) (g : Vec Ideal S1x1024 .f32) (i : Fin 512) (j : Fin 1024) :
    k0_pay4 d x (k0_pay9 x) y g (ix2 i j) = y (ix2 i j) + Ffn.rstd (fun l => x (ix2 i l)) * (d (ix2 i j) * g (ix2 0 j)
      - x (ix2 i j) * Ffn.rstd (fun l => x (ix2 i l))
        * ((∑ k : Fin 1024, d (ix2 i k) * g (ix2 0 k) * (x (ix2 i k) * Ffn.rstd (fun l => x (ix2 i l)))) * Ideal.ofBits FTy.f32 981467136#32)) := by
  pointwise [k0_pay4]
  simp only [pay1_apply, pay2_apply]
theorem pay5_apply (i : S1x1024.Idx) : (k0_pay5 : FVec Ideal S1x1024 .f32) i = 0 := by
  pointwise! [k0_pay5]
theorem pay6_apply (x : Vec Ideal S384x512 .f32) (i : Fin 384) (q : Fin 512) : k0_pay6 x (ix2 i q) = x (ix2 i q) := by
  pointwise! [k0_pay6]
theorem slt_15 : ∀ n : Fin 16, Scalar.cmpi .slt (BitVec.ofNat 32 n.val) 15#32 = if n.val < 15 then 1#1 else 0#1 := by decide
theorem pay7_apply (cs : grid0.Coords) (u x : Vec Ideal S128x512 .f32) (i : Fin 128) (q : Fin 512) :
    k0_pay7 cs u x (ix2 i q) = x (ix2 i q) + if (cs 0).val < 15 then u (ix2 i q) else 0 := by
  pointwise [k0_pay7]
  rw [show Scalar.cmpi .slt (BitVec.ofNat 32 (cs 0).val) 15#32 = if (cs 0).val < 15 then 1#1 else 0#1 from slt_15 (cs 0)]
  by_cases h : (cs 0).val < 15
  · rw [if_pos h, if_pos h]
    rfl
  · rw [if_neg h, if_neg h]
    rfl
theorem pay8_apply (a : Vec Ideal S512x2560 .bf16) (w : Vec Ideal S2560x1024 .bf16) (b : Vec Ideal S512x512 .bf16) (w' : Vec Ideal S512x1024 .bf16)
    (i : Fin 512) (j : Fin 1024) :
    k0_pay8 a w b w' (ix2 i j) = ∑ q : Fin 2560, a (ix2 i q) * w (ix2 q j) + ∑ q : Fin 512, b (ix2 i q) * w' (ix2 q j) := by
  pointwise! [k0_pay8]

/-- What the body leaves in its third result. -/
def bkv (cs : grid0.Coords) (y : Vec Ideal S512x512 .f32) (u : Vec Ideal S128x512 .f32) : FVec Ideal S512x512 .bf16 :=
  View.canon (Val := Elt Ideal) (s := S512x512) (e := .bf16)
    [⟨Rect.unit (s := S512x512) ![384, 0] S128x512.size inb_S512x512_S128x512_384_0,
        k0_pay7 cs u (View.ld y (Rect.unit (s := S512x512) ![384, 0] S128x512.size inb_S512x512_S128x512_384_0))⟩,
      ⟨Rect.unit (s := S512x512) ![0, 0] S384x512.size inb_S512x512_S384x512_0_0,
        k0_pay6 (View.ld y (Rect.unit (s := S512x512) ![0, 0] S384x512.size inb_S512x512_S384x512_0_0))⟩]
theorem bkv_apply (cs : grid0.Coords) (y : Vec Ideal S512x512 .f32) (u : Vec Ideal S128x512 .f32) (i : Fin 512) (q : Fin 512) :
    bkv cs y u (ix2 i q) = y (ix2 i q) + if h : 384 ≤ i.val ∧ (cs 0).val < 15 then u (ix2 ⟨i.val - 384, by omega⟩ q) else 0 := by
  unfold bkv
  by_cases h : i.val < 384
  · rw [canon_rows_ne 384 _ _ _ i q (.inl h), canon_rows 0 _ _ _ i q ⟨i.val, h⟩ (by dsimp only; omega), pay6_apply, dif_neg (by omega)]
    exact (ld_rows 0 _ y _ q i (by dsimp only; omega)).trans (add_zero _).symm
  · rw [canon_rows 384 _ _ _ i q ⟨i.val - 384, by omega⟩ (by dsimp only; omega), pay7_apply]
    refine Ideal.add_congr (ld_rows 384 _ y _ q i (by dsimp only; omega)) ?_
    by_cases h' : (cs 0).val < 15
    · rw [if_pos h', dif_pos ⟨by omega, h'⟩]
    · rw [if_neg h', dif_neg (by omega)]

/-- The gradient of the normalized rows, in one tile. -/
def bdh (cs : grid0.Coords) (a : Vec Ideal S512x2560 .bf16) (y : Vec Ideal S512x512 .f32) (u : Vec Ideal S128x512 .f32) (w : Vec Ideal S3072x1024 .bf16) :
    FVec Ideal S512x1024 .f32 :=
  k0_pay8 a (View.ld w (Rect.unit (s := S3072x1024) ![0, 0] S2560x1024.size inb_S3072x1024_S2560x1024_0_0)) (bkv cs y u)
    (View.ld w (Rect.unit (s := S3072x1024) ![2560, 0] S512x1024.size inb_S3072x1024_S512x1024_2560_0))
theorem bdh_apply (cs : grid0.Coords) (a : Vec Ideal S512x2560 .bf16) (y : Vec Ideal S512x512 .f32) (u : Vec Ideal S128x512 .f32) (w : Vec Ideal S3072x1024 .bf16)
    (i : Fin 512) (j : Fin 1024) :
    bdh cs a y u w (ix2 i j) = ∑ q : Fin 2560, a (ix2 i q) * w (ix2 (⟨q.val, by omega⟩ : Fin 3072) j)
      + ∑ q : Fin 512, bkv cs y u (ix2 i q) * w (ix2 (⟨2560 + q.val, by omega⟩ : Fin 3072) j) := by
  unfold bdh
  rw [pay8_apply]
  exact Ideal.add_congr
    (Finset.sum_congr rfl fun q _ => congrArg (a (ix2 i q) * ·) (ld_rows 0 _ w q j ⟨q.val, by omega⟩ (by dsimp only; omega)))
    (Finset.sum_congr rfl fun q _ => congrArg (bkv cs y u (ix2 i q) * ·) (ld_rows 2560 _ w q j ⟨2560 + q.val, by omega⟩ rfl))

theorem readCov_bkv (cs : grid0.Coords) (y : Vec Ideal S512x512 .f32) (u : Vec Ideal S128x512 .f32) (v : View sig .tc .vmem S512x512 .bf16) :
    v.readCov (Val := Elt Ideal) [⟨Rect.unit (s := S512x512) ![384, 0] S128x512.size inb_S512x512_S128x512_384_0,
        k0_pay7 cs u (View.ld y (Rect.unit (s := S512x512) ![384, 0] S128x512.size inb_S512x512_S128x512_384_0))⟩,
      ⟨Rect.unit (s := S512x512) ![0, 0] S384x512.size inb_S512x512_S384x512_0_0,
        k0_pay6 (View.ld y (Rect.unit (s := S512x512) ![0, 0] S384x512.size inb_S512x512_S384x512_0_0))⟩]
      (Rect.unit (s := S512x512) ![0, 0] S512x512.size inb_S512x512_S512x512_0_0).toLoadRect = bkv cs y u := by
  rw [View.readCov_eq_canon']
  funext x
  refine congrArg (bkv cs y u) (funext fun a => Fin.ext ?_)
  match a with
  | ⟨0, _⟩ => show 0 + 1 * (x 0).val = (x 0).val; omega
  | ⟨1, _⟩ => show 0 + 1 * (x 1).val = (x 1).val; omega

/-! The blocks -/

def X0 (c : Dev nD) (t : Fin cfg0.N) : FVec Ideal S512x2560 .bf16 := iblk m c 0 t
def X1 (c : Dev nD) (t : Fin cfg0.N) : FVec Ideal S512x512 .f32 := iblk m c 1 t
def X2 (c : Dev nD) (t : Fin cfg0.N) : FVec Ideal S128x512 .f32 := iblk m c 2 t
def X3 (c : Dev nD) (t : Fin cfg0.N) : FVec Ideal S3072x1024 .bf16 := iblk m c 3 t
def X4 (c : Dev nD) (t : Fin cfg0.N) : FVec Ideal S512x1024 .f32 := iblk m c 4 t
def X5 (c : Dev nD) (t : Fin cfg0.N) : FVec Ideal S1x1024 .f32 := iblk m c 5 t
def X6 (c : Dev nD) (t : Fin cfg0.N) : FVec Ideal S512x1024 .f32 := iblk m c 6 t

theorem N_0 : cfg0.N = 16 := rfl
theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![min (t.val + 1) 15, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![t.val, 0] := (by decide +kernel : ∀ t : Fin grid0.N, _)
theorem coord : ∀ t : Fin cfg0.N, ((grid0.coords t) 0).val = t.val := (by decide +kernel : ∀ t : Fin grid0.N, _)

/-- Row `i` of tile `t`. -/
def row (t : Fin cfg0.N) (i : Fin 512) : Fin 8192 := ⟨t.val * 512 + i.val, by have := t.isLt; have := N_0; omega⟩

theorem X0_apply (c : Dev nD) (t : Fin cfg0.N) (i : Fin 512) (q : Fin 2560) : X0 m c t (ix2 i q) = V m c main_v6 (ix2 (row t i) q) := by
  unfold X0 row
  blk_ext [iblk, e0]
theorem X1_apply (c : Dev nD) (t : Fin cfg0.N) (i : Fin 512) (q : Fin 512) : X1 m c t (ix2 i q) = V m c main_v12 (ix2 (row t i) q) := by
  unfold X1 row
  blk_ext [iblk, e1]
theorem X2_apply (c : Dev nD) (t : Fin cfg0.N) (i : Fin 128) (q : Fin 512) :
    X2 m c t (ix2 i q) = V m c main_v9 (ix2 ⟨min (t.val + 1) 15 * 128 + i.val, by omega⟩ q) := by
  unfold X2
  blk_ext [iblk, e2]
theorem X3_apply (c : Dev nD) (t : Fin cfg0.N) (q : Fin 3072) (l : Fin 1024) : X3 m c t (ix2 q l) = V m c main_v21 (ix2 q l) := by
  unfold X3
  blk_ext [iblk, e3]
theorem X4_apply (c : Dev nD) (t : Fin cfg0.N) (i : Fin 512) (j : Fin 1024) : X4 m c t (ix2 i j) = A4 m c (ix2 (row t i) j) := by
  unfold X4 A4 row
  blk_ext [iblk, e4]
theorem X5_apply (c : Dev nD) (t : Fin cfg0.N) (j : Fin 1024) : X5 m c t (ix2 0 j) = A5 m c (ix1 j) := by
  rw [← v22]
  unfold X5
  blk_ext [iblk, e5]
theorem X6_apply (c : Dev nD) (t : Fin cfg0.N) (i : Fin 512) (j : Fin 1024) : X6 m c t (ix2 i j) = A6 m c (ix2 (row t i) j) := by
  unfold X6 A6 row
  blk_ext [iblk, e6]

theorem row_mod (t : Fin cfg0.N) (i : Fin 512) : (row t i).val % 512 = i.val := by
  show (t.val * 512 + i.val) % 512 = i.val
  omega
theorem row_div (t : Fin cfg0.N) (i : Fin 512) : (row t i).val / 512 = t.val := by
  show (t.val * 512 + i.val) / 512 = t.val
  omega

theorem bkv_kept (c : Dev nD) (t : Fin cfg0.N) (i : Fin 512) (k : Fin 4) (e : Fin 64) :
    bkv (grid0.coords t) (X1 m c t) (X2 m c t) (ix2 i (kept k e)) = kv (A1 m c) (A2 m c) (row t i) (plain k e) := by
  rw [bkv_apply, X1_apply, v12_kept]
  unfold kv hal
  refine Ideal.add_congr rfl ?_
  simp only [row_mod, row_div, coord]
  by_cases h : 384 ≤ i.val ∧ t.val < 15
  · rw [dif_pos h, dif_pos h, X2_apply, v9_kept]
    refine congrArg (fun r => A2 m c (ix2 r (plain k e))) (Fin.ext ?_)
    show min (t.val + 1) 15 * 128 + (i.val - 384) = (t.val + 1) * 128 + (i.val - 384)
    rw [Nat.min_eq_left (by omega)]
  · rw [dif_neg h, dif_neg h]
theorem bkv_zero (c : Dev nD) (t : Fin cfg0.N) (i : Fin 512) (k : Fin 4) (e : Fin 64) :
    bkv (grid0.coords t) (X1 m c t) (X2 m c t) (ix2 i (zero k e)) = 0 := by
  rw [bkv_apply, X1_apply, v12_zero]
  by_cases h : 384 ≤ i.val ∧ ((grid0.coords t) 0).val < 15
  · rw [dif_pos h, X2_apply, v9_zero, add_zero]
  · rw [dif_neg h, add_zero]

theorem bdh_eq (c : Dev nD) (t : Fin cfg0.N) (i : Fin 512) (j : Fin 1024) :
    bdh (grid0.coords t) (X0 m c t) (X1 m c t) (X2 m c t) (X3 m c t) (ix2 i j) = dh (A0 m c) (A1 m c) (A2 m c) (A3 m c) (row t i) j := by
  rw [bdh_apply]
  unfold dh
  refine sum_columns _ _ _ (fun q => ?_) (fun k e => ?_) (fun k e => ?_) (fun k e => ?_) (fun k e => ?_)
  · dsimp only
    rw [X0_apply, v6_first, X3_apply, v21_first]
    unfold dproj
    rw [dif_pos (by dsimp only; omega)]
  · have hw := v21_kept m c ⟨k.val, by omega⟩ e j
    dsimp only at hw ⊢
    rw [X0_apply, v6_kept, X3_apply, hw]
    unfold dproj
    rw [dif_pos (by dsimp only; omega)]
  · dsimp only
    rw [X0_apply, v6_zero, zero_mul]
  · have hw := v21_kept m c ⟨8 + k.val, by omega⟩ e j
    dsimp only at hw ⊢
    rw [bkv_kept, X3_apply]
    rw [show (⟨2560 + (k.val * 128 + e.val), by omega⟩ : Fin 3072) = ⟨1536 + ((8 + k.val) * 128 + e.val), by omega⟩ from Fin.ext (by dsimp only; omega), hw]
    unfold dproj
    rw [dif_neg (by dsimp only; omega)]
    refine congrArg₂ (· * ·) (congrArg (kv (A1 m c) (A2 m c) (row t i)) (Fin.ext ?_)) (congrArg (fun p => A3 m c (ix2 j p)) (Fin.ext ?_))
    · show k.val * 64 + e.val = 2048 + (k.val * 64 + e.val) - 2048
      omega
    · show 1536 + ((8 + k.val) * 64 + e.val) = 2048 + (k.val * 64 + e.val)
      omega
  · dsimp only
    rw [bkv_zero, zero_mul]

/-- One entry of the first result, of the terms of the second, and of the third. -/
def xr (c : Dev nD) (r : Fin 8192) (j : Fin 1024) : EReal :=
  A6 m c (ix2 r j) + Ffn.rstd (fun l => A4 m c (ix2 r l)) * (dh (A0 m c) (A1 m c) (A2 m c) (A3 m c) r j * A5 m c (ix1 j)
    - A4 m c (ix2 r j) * Ffn.rstd (fun l => A4 m c (ix2 r l))
      * ((∑ k : Fin 1024, dh (A0 m c) (A1 m c) (A2 m c) (A3 m c) r k * A5 m c (ix1 k) * (A4 m c (ix2 r k) * Ffn.rstd (fun l => A4 m c (ix2 r l))))
        * Ideal.ofBits FTy.f32 981467136#32))
def gr (c : Dev nD) (r : Fin 8192) (j : Fin 1024) : EReal :=
  dh (A0 m c) (A1 m c) (A2 m c) (A3 m c) r j * (A4 m c (ix2 r j) * Ffn.rstd (fun l => A4 m c (ix2 r l)))

theorem out7_t (c : Dev nD) (t : Fin cfg0.N) (i : Fin 512) (j : Fin 1024) :
    (outsAt0 m c t.val t.isLt).1 (ix2 i j) = xr m c (row t i) j := by
  unfold xr
  simp only [← bdh_eq, ← X4_apply, ← X5_apply m c t, ← X6_apply]
  rw [← pay4_apply]
  by_cases h0 : t.val % 16 = 0
  · rw [outsAt0_A m c t h0]
    frame_out
    rw [readCov_bkv]
    rfl
  · rw [outsAt0_B m c t h0]
    frame_out
    rw [readCov_bkv]
    rfl
theorem out9_t (c : Dev nD) (t : Fin cfg0.N) : (outsAt0 m c t.val t.isLt).2.2 = bkv (grid0.coords t) (X1 m c t) (X2 m c t) := by
  by_cases h0 : t.val % 16 = 0
  · rw [outsAt0_A m c t h0]
    frame_out
    rfl
  · rw [outsAt0_B m c t h0]
    frame_out
    rfl

/-- One tile's part of the gains' gradient. -/
def tile (c : Dev nD) (t : Fin cfg0.N) (j : Fin 1024) : EReal := ∑ i : Fin 512, gr m c (row t i) j

theorem out8_A (c : Dev nD) (t : Fin cfg0.N) (h0 : t.val % 16 = 0) (j : Fin 1024) :
    (outsAt0 m c t.val t.isLt).2.1 (ix2 0 j) = 0 + tile m c t j := by
  unfold tile gr
  simp only [← bdh_eq, ← X4_apply]
  rw [outsAt0_A m c t h0]
  frame_out
  rw [readCov_bkv]
  refine (pay3_apply (bdh (grid0.coords t) (X0 m c t) (X1 m c t) (X2 m c t) (X3 m c t)) (X4 m c t) _ j).trans ?_
  exact Ideal.add_congr (pay5_apply _) rfl
theorem out8_B (c : Dev nD) (t : Fin cfg0.N) (h0 : ¬t.val % 16 = 0) (j : Fin 1024) :
    (outsAt0 m c t.val t.isLt).2.1 (ix2 0 j)
      = (outsAt0 m c (t.val - 1) (Nat.lt_of_le_of_lt (Nat.sub_le _ _) t.isLt)).2.1 (ix2 0 j) + tile m c t j := by
  unfold tile gr
  simp only [← bdh_eq, ← X4_apply]
  rw [outsAt0_B m c t h0]
  frame_out
  rw [readCov_bkv]
  exact pay3_apply (bdh (grid0.coords t) (X0 m c t) (X1 m c t) (X2 m c t) (X3 m c t)) (X4 m c t) _ j

theorem out8_last (c : Dev nD) (t : Fin cfg0.N) (ht : t.val + 1 = cfg0.N) (j : Fin 1024) :
    (outsAt0 m c t.val t.isLt).2.1 (ix2 0 j) = 0 + ∑ p : Fin cfg0.N, tile m c p j :=
  Pipeline.eq_sum_fin_of_reset_step_apply_last (fun n hn (j : Fin 1024) => (outsAt0 m c n hn).2.1 (ix2 0 j)) 16 (fun _ => (0 : EReal))
    (fun t j => tile m c t j) (fun t ht j => out8_A m c t ht _) (fun t ht j => out8_B m c t ht _) (le_of_eq N_0) t ht j

theorem tiles_sum (c : Dev nD) (j : Fin 1024) : ∑ p : Fin cfg0.N, tile m c p j = ∑ r : Fin 8192, gr m c r j := by
  have h1 : ∑ r : Fin 8192, gr m c r j = ∑ p : Fin 16 × Fin 512, gr m c (row (Fin.cast N_0.symm p.1) p.2) j := by
    refine (Fintype.sum_equiv (finProdFinEquiv (m := 16) (n := 512)) _ _ fun p => ?_).symm
    have hp : row (Fin.cast N_0.symm p.1) p.2 = finProdFinEquiv p := by
      apply Fin.ext
      show p.1.val * 512 + p.2.val = p.2.val + 512 * p.1.val
      omega
    rw [hp]
  rw [h1, Fintype.sum_prod_type]
  exact (Fintype.sum_equiv (finCongr N_0.symm) _ _ fun p => rfl).symm

def DX (c : Dev nD) : FVec Ideal S8192x1024 .f32 := fun i => xr m c (i 0) (i 1)
def DG (c : Dev nD) : FVec Ideal S1x1024 .f32 := fun i => ∑ r : Fin 8192, gr m c r (i 1)
/-- The gradient of the keys and values, each head followed by its zeros. -/
def KV (c : Dev nD) : FVec Ideal S8192x512 .bf16 := fun i =>
  if h : (i 1).val % 128 < 64 then
    kv (A1 m c) (A2 m c) (i 0) ⟨(i 1).val / 128 * 64 + (i 1).val % 128, by have : (i 1).val < 512 := (i 1).isLt; omega⟩
  else 0
theorem KV_kept (c : Dev nD) (r : Fin 8192) (k : Fin 4) (e : Fin 64) : KV m c (ix2 r (kept k e)) = kv (A1 m c) (A2 m c) r (plain k e) := by
  unfold KV
  refine (dif_pos (show (kept k e).val % 128 < 64 by show (k.val * 128 + e.val) % 128 < 64; omega)).trans ?_
  refine congrArg (kv (A1 m c) (A2 m c) r) (Fin.ext ?_)
  show (k.val * 128 + e.val) / 128 * 64 + (k.val * 128 + e.val) % 128 = k.val * 64 + e.val
  omega
theorem KV_zero (c : Dev nD) (r : Fin 8192) (k : Fin 4) (e : Fin 64) : KV m c (ix2 r (zero k e)) = 0 :=
  dif_neg (show ¬(zero k e).val % 128 < 64 by show ¬(k.val * 128 + (64 + e.val)) % 128 < 64; omega)

theorem emb7 (t : Fin cfg0.N) (i : Fin 512) (j : Fin 1024) : ((cfg0.win 7).blk t).view.emb (ix2 i j) = ix2 (row t i) j := by
  unfold row
  blk_ext [e7]
theorem emb8 (t : Fin cfg0.N) (j : Fin 1024) : ((cfg0.win 8).blk t).view.emb (ix2 0 j) = ix2 0 j := by
  blk_ext [e8]
theorem emb9 (t : Fin cfg0.N) (i : Fin 512) (j : Fin 512) : ((cfg0.win 9).blk t).view.emb (ix2 i j) = ix2 (row t i) j := by
  unfold row
  blk_ext [e9]
theorem flush8 : ∀ t : Fin cfg0.N, (cfg0.win 8).flush t = true → t.val + 1 = cfg0.N :=
  (by decide +kernel : ∀ t : Fin grid0.N, win0_8.flush t = true → t.val + 1 = grid0.N)

theorem final7 (c : Dev nD) : (dats m 0 c).arrAt 7 cfg0.N = DX m c := by
  refine (dats m 0 c).arrAt_eq_of_cover 7 (DX m c) (fun t _ => ?_) (Pipeline.Window.Covers.cover win0_7 (by decide +kernel) (Memref.isWhole_whole _))
  rw [Value.flushed7]
  funext y
  obtain ⟨i, j, rfl⟩ : ∃ (i : Fin 512) (j : Fin 1024), y = ix2 i j := ⟨y 0, y 1, eq_ix2 y⟩
  refine (out7_t m c t i j).trans ?_
  show _ = DX m c (((cfg0.win 7).blk t).view.emb (ix2 i j))
  rw [emb7]
  rfl
theorem final8 (c : Dev nD) : (dats m 0 c).arrAt 8 cfg0.N = DG m c := by
  refine (dats m 0 c).arrAt_eq_of_cover 8 (DG m c) (fun t ht => ?_) (Pipeline.Window.Covers.cover win0_8 (by decide +kernel) (Memref.isWhole_whole _))
  rw [Value.flushed8]
  funext y
  obtain ⟨i, j, rfl⟩ : ∃ (i : Fin 1) (j : Fin 1024), y = ix2 i j := ⟨y 0, y 1, eq_ix2 y⟩
  obtain rfl : i = 0 := Subsingleton.elim _ _
  refine (out8_last m c t (flush8 t ht) j).trans ?_
  show _ = DG m c (((cfg0.win 8).blk t).view.emb (ix2 0 j))
  rw [emb8, zero_add, tiles_sum]
  rfl
theorem final9 (c : Dev nD) : (dats m 0 c).arrAt 9 cfg0.N = KV m c := by
  refine (dats m 0 c).arrAt_eq_of_cover 9 (KV m c) (fun t _ => ?_) (Pipeline.Window.Covers.cover win0_9 (by decide +kernel) (Memref.isWhole_whole _))
  rw [Value.flushed9, out9_t]
  funext y
  obtain ⟨i, q, rfl⟩ : ∃ (i : Fin 512) (q : Fin 512), y = ix2 i q := ⟨y 0, y 1, eq_ix2 y⟩
  show bkv (grid0.coords t) (X1 m c t) (X2 m c t) (ix2 i q) = KV m c (((cfg0.win 9).blk t).view.emb (ix2 i q))
  rw [emb9]
  obtain ⟨k, e, rfl⟩ | ⟨k, e, rfl⟩ := kept_or_zero (n := 4) q
  · exact (bkv_kept m c t i k e).trans (KV_kept m c _ k e).symm
  · exact (bkv_zero m c t i k e).trans (KV_zero m c _ k e).symm

end Cert.Kernel7Ideal.Layer

end

end
-- ==== Proof.InprojBwd.lean ====
module

public import proofs.«01_k».proof.Defs
public import proofs.«01_k».proof.Proof.Gen.Kernel7
public import proofs.«01_k».proof.Proof.Gen.Kernel7Ideal.Value
public import proofs.«01_k».proof.Proof.Gen.Reference7Ideal.Run
public import proofs.«01_k».proof.Proof.Gen.Reference7Ideal.Read
public import Idealize.ShloMosaic.Lib.Quiescent
public import Idealize.ShloMosaic.Lib.Pipeline.ValueKit.Point
public import proofs.«01_k».proof.Proof.Slabs
public import proofs.«01_k».proof.Proof.Ffn
public import proofs.«01_k».proof.Proof.InprojBwdArr

@[expose] public section

set_option maxRecDepth 16384

noncomputable section

namespace Cert.InprojBwd

open Idealize.ShloMosaic Idealize.ShloMosaic.TcCoe Idealize.SL.Sem
open Cert.Reference7Ideal Cert.Reference7Ideal.Read Cert.Heads
open Cert.Kernel7Ideal.Layer (hal kv dproj dh xr gr A0 A1 A2 A3 A4 A5 A6 DX DG KV)

/-- The part of the following tile's queries, shifted to the rows it belongs to. -/
theorem ref3 (x2 : FVec Ideal S2048x256 .f32) (r : Fin 8192) (p : Fin 256) : val_main_v3 (F := Ideal) x2 (ix2 r p) = hal x2 r p := by
  pointwise [val_main_v3, val_main_v2, val_main_v1, val_main_v0, val_main_c, val_main_call0_v0]
  unfold hal
  by_cases h : 384 ≤ r.val % 512 ∧ r.val / 512 < 15
  · refine (dif_pos (show r.val / 512 < 15 ∧ 384 ≤ r.val % 512 ∧ r.val % 512 - 384 < 128 by omega)).trans (Eq.trans ?_ (dif_pos h).symm)
    refine congrArg x2 (congrArg (fun r => ix2 r p) (Fin.ext ?_))
    dsimp only
    omega
  · refine (dif_neg (show ¬(r.val / 512 < 15 ∧ 384 ≤ r.val % 512 ∧ r.val % 512 - 384 < 128) by omega)).trans (Eq.trans ?_ (dif_neg h).symm)
    exact Cert.Kernel7Ideal.Layer.sitofp_zero
theorem ref4 (x1 : FVec Ideal S8192x256 .f32) (x2 : FVec Ideal S2048x256 .f32) (r : Fin 8192) (p : Fin 256) : val_main_v4 (F := Ideal) x1 x2 (ix2 r p) = kv x1 x2 r p := by
  pointwise [val_main_v4]
  rw [ref3]
  rfl
theorem ref22 (x0 : FVec Ideal S8192x2048 .f32) (x1 : FVec Ideal S8192x256 .f32) (x2 : FVec Ideal S2048x256 .f32) (r : Fin 8192) (p : Fin 2304) :
    val_main_v22 (F := Ideal) x0 x1 x2 (ix2 r p) = dproj x0 x1 x2 r p := by
  pointwise [val_main_v22]
  unfold dproj
  by_cases h : p.val < 2048
  · rw [dif_pos h, dif_pos h]
  · rw [dif_neg h, dif_neg h]
    exact ref4 _ _ _ _
theorem ref25 (x0 : FVec Ideal S8192x2048 .f32) (x1 : FVec Ideal S8192x256 .f32) (x2 : FVec Ideal S2048x256 .f32) (x3 : FVec Ideal S1024x2304 .f32) (r : Fin 8192) (j : Fin 1024) :
    val_main_v25 (F := Ideal) x0 x1 x2 x3 (ix2 r j) = dh x0 x1 x2 x3 r j := by
  pointwise [val_main_v25]
  simp only [ref22]
  rfl
theorem ref12 (x4 : FVec Ideal S8192x1024 .f32) (r : Fin 8192) :
    val_main_v12 (F := Ideal) x4 (ix2 r 0) = Ffn.rstd (fun l => x4 (ix2 r l)) := by
  pointwise [val_main_v12, val_main_v11, val_main_v10, val_main_v9, val_main_v8, val_main_v7, val_main_v6, val_main_v5, val_main_cst, val_main_cst_0, val_main_cst_1]
  rw [Ffn.div_1024]
  rfl
theorem ref15 (x4 : FVec Ideal S8192x1024 .f32) (r : Fin 8192) :
    val_main_v15 (F := Ideal) x4 (ix2 r 0) = Ideal.ofBits FTy.f32 3204448256#32 * Ideal.div (Ffn.rstd (fun l => x4 (ix2 r l)))
      ((∑ l, x4 (ix2 r l) * x4 (ix2 r l)) * Ideal.ofBits FTy.f32 981467136#32 + Ideal.ofBits FTy.f32 897988541#32) := by
  pointwise [val_main_v15, val_main_v14, val_main_v13, val_main_cst_2]
  rw [ref12]
  pointwise [val_main_v11, val_main_v10, val_main_v9, val_main_v8, val_main_v7, val_main_v6, val_main_v5, val_main_cst, val_main_cst_0, val_main_cst_1]
  rw [Ffn.div_1024]
theorem ref17 (x4 : FVec Ideal S8192x1024 .f32) (r : Fin 8192) (j : Fin 1024) :
    val_main_v17 (F := Ideal) x4 (ix2 r j) = x4 (ix2 r j) * Ffn.rstd (fun l => x4 (ix2 r l)) := by
  pointwise [val_main_v17, val_main_v16]
  simp only [ref12]
theorem ref49 (x0 : FVec Ideal S8192x2048 .f32) (x1 : FVec Ideal S8192x256 .f32) (x2 : FVec Ideal S2048x256 .f32) (x3 : FVec Ideal S1024x2304 .f32) (x4 : FVec Ideal S8192x1024 .f32) (j : Fin 1024) :
    val_main_v49 (F := Ideal) x0 x1 x2 x3 x4 (ix2 0 j) = ∑ r : Fin 8192, x4 (ix2 r j) * Ffn.rstd (fun l => x4 (ix2 r l)) * dh x0 x1 x2 x3 r j := by
  pointwise [val_main_v49, val_main_v31, val_main_v28, val_main_v27, val_main_v26, val_main_cst_3, val_main_cst_4]
  simp only [ref17, ref25]
  exact Fin.sum_univ_one _
theorem ref30 (x0 : FVec Ideal S8192x2048 .f32) (x1 : FVec Ideal S8192x256 .f32) (x2 : FVec Ideal S2048x256 .f32) (x3 : FVec Ideal S1024x2304 .f32) (x5 : FVec Ideal S1024 .f32) (r : Fin 8192) (j : Fin 1024) :
    val_main_v30 (F := Ideal) x0 x1 x2 x3 x5 (ix2 r j) = dh x0 x1 x2 x3 r j * x5 (ix1 j) := by
  pointwise [val_main_v30, val_main_v29, val_main_v18]
  simp only [ref25]
theorem ref41 (x0 : FVec Ideal S8192x2048 .f32) (x1 : FVec Ideal S8192x256 .f32) (x2 : FVec Ideal S2048x256 .f32) (x3 : FVec Ideal S1024x2304 .f32) (x4 : FVec Ideal S8192x1024 .f32) (x5 : FVec Ideal S1024 .f32) (r : Fin 8192) (j : Fin 1024) :
    val_main_v41 (F := Ideal) x0 x1 x2 x3 x4 x5 (ix2 r j) = (∑ k, x4 (ix2 r k) * (dh x0 x1 x2 x3 r k * x5 (ix1 k))) * (Ideal.ofBits FTy.f32 3204448256#32 * Ideal.div (Ffn.rstd (fun l => x4 (ix2 r l)))
      ((∑ l, x4 (ix2 r l) * x4 (ix2 r l)) * Ideal.ofBits FTy.f32 981467136#32 + Ideal.ofBits FTy.f32 897988541#32)) * Ideal.ofBits FTy.f32 981467136#32 := by
  pointwise [val_main_v41, val_main_v40, val_main_v39, val_main_v38, val_main_v37, val_main_v34, val_main_v33, val_main_v32, val_main_cst_5, val_main_cst_6, val_main_cst_7]
  simp only [ref30, Ffn.div_1024]
  refine (Fin.sum_univ_one _).trans ?_
  show _ * val_main_v15 (F := Ideal) x4 (ix2 r 0) * _ = _
  rw [ref15]
theorem ref48 (x0 : FVec Ideal S8192x2048 .f32) (x1 : FVec Ideal S8192x256 .f32) (x2 : FVec Ideal S2048x256 .f32) (x3 : FVec Ideal S1024x2304 .f32) (x4 : FVec Ideal S8192x1024 .f32) (x5 : FVec Ideal S1024 .f32) (x6 : FVec Ideal S8192x1024 .f32) (r : Fin 8192) (j : Fin 1024) :
    val_main_v48 (F := Ideal) x0 x1 x2 x3 x4 x5 x6 (ix2 r j) = x6 (ix2 r j) + Ffn.rstd (fun l => x4 (ix2 r l)) * (dh x0 x1 x2 x3 r j * x5 (ix1 j)
      - x4 (ix2 r j) * Ffn.rstd (fun l => x4 (ix2 r l))
        * ((∑ k : Fin 1024, dh x0 x1 x2 x3 r k * x5 (ix1 k) * (x4 (ix2 r k) * Ffn.rstd (fun l => x4 (ix2 r l)))) * Ideal.ofBits FTy.f32 981467136#32)) := by
  pointwise [val_main_v48, val_main_v45, val_main_v44, val_main_v43, val_main_v42, val_main_v36, val_main_v35]
  simp only [ref30, ref41, ref12, ← add_assoc]
  exact (Ffn.rms_bwd (fun l => x4 (ix2 r l)) (fun k => dh x0 x1 x2 x3 r k * x5 (ix1 k)) (x6 (ix2 r j)) j).symm
theorem ref51_kept (x1 : FVec Ideal S8192x256 .f32) (x2 : FVec Ideal S2048x256 .f32) (r : Fin 8192) (k : Fin 4) (e : Fin 64) :
    val_main_v51 (F := Ideal) x1 x2 (ix2 r (kept k e)) = kv x1 x2 r (plain k e) := by
  pointwise [val_main_v51, val_main_v50, val_main_v47, val_main_v46, val_main_c_8, val_main_call1_v0]
  rw [dif_pos (by omega)]
  refine Eq.trans ?_ (ref4 x1 x2 r (plain k e))
  refine congrArg (val_main_v4 (F := Ideal) x1 x2) (congrArg (ix2 r) (Fin.ext ?_))
  dsimp only
  omega
theorem ref51_zero (x1 : FVec Ideal S8192x256 .f32) (x2 : FVec Ideal S2048x256 .f32) (r : Fin 8192) (k : Fin 4) (e : Fin 64) :
    val_main_v51 (F := Ideal) x1 x2 (ix2 r (zero k e)) = (0 : EReal) := by
  pointwise [val_main_v51, val_main_v50, val_main_v47, val_main_v46, val_main_c_8, val_main_call1_v0]
  rw [dif_neg (by omega)]
  exact Cert.Kernel7Ideal.Layer.sitofp_zero

variable (m : (ℓ : Loc Cert.Kernel7Ideal.nD Cert.Kernel7Ideal.τ Cert.Kernel7Ideal.sig) → Buf (Elt Ideal) ℓ) (c : Dev Cert.Kernel7Ideal.nD)
theorem value_DX : DX m c = val_main_v48 (F := Ideal) (A0 m c) (A1 m c) (A2 m c) (A3 m c) (A4 m c) (A5 m c) (A6 m c) := by
  funext i
  idx_vars i
  exact (ref48 (A0 m c) (A1 m c) (A2 m c) (A3 m c) (A4 m c) (A5 m c) (A6 m c) _ _).symm
theorem value_DG : DG m c = val_main_v49 (F := Ideal) (A0 m c) (A1 m c) (A2 m c) (A3 m c) (A4 m c) := by
  funext y
  obtain ⟨i, j, rfl⟩ : ∃ (i : Fin 1) (j : Fin 1024), y = ix2 i j := ⟨y 0, y 1, eq_ix2 y⟩
  obtain rfl : i = 0 := Subsingleton.elim _ _
  refine Eq.trans ?_ (ref49 (A0 m c) (A1 m c) (A2 m c) (A3 m c) (A4 m c) j).symm
  exact Finset.sum_congr rfl fun r _ => mul_comm _ _
theorem value_KV : KV m c = val_main_v51 (F := Ideal) (A1 m c) (A2 m c) := by
  funext y
  obtain ⟨r, q, rfl⟩ : ∃ (r : Fin 8192) (q : Fin 512), y = ix2 r q := ⟨y 0, y 1, eq_ix2 y⟩
  obtain ⟨k, e, rfl⟩ | ⟨k, e, rfl⟩ := kept_or_zero (n := 4) q
  · exact (Cert.Kernel7Ideal.Layer.KV_kept m c r k e).trans (ref51_kept _ _ r k e).symm
  · exact (Cert.Kernel7Ideal.Layer.KV_zero m c r k e).trans (ref51_zero _ _ r k e).symm

/-- The two programs have the same functions. -/
theorem defs₀_eq {F : FTy → Type} [FloatOps F] : Cert.Kernel7.defs₀ (F := F) = Cert.Kernel7Ideal.defs₀ (F := F) := by
  unfold Cert.Kernel7.defs₀ Cert.Kernel7Ideal.defs₀
  refine congrArg Defs.onTc (funext fun l => ?_)
  match l with
  | ⟨0, _⟩ => exact funext fun ⟨t, s⟩ => rfl
theorem defs_eq {F : FTy → Type} [FloatOps F] : Cert.Kernel7.defs (F := F) = Cert.Kernel7Ideal.defs (F := F) := by
  unfold Cert.Kernel7.defs Cert.Kernel7Ideal.defs
  rw [defs₀_eq]
  rfl
set_option maxHeartbeats 4000000 in
theorem frame_kernel : Cert.quiescent_Kernel7 := fun m ρ _ => by
  rw [defs_eq]
  exact Cert.Kernel7Ideal.Gen.frame (F := Bits) m ρ
theorem frame_ideal : Cert.quiescent_Kernel7Ideal := fun m ρ _ => Cert.Kernel7Ideal.Gen.frame (F := Ideal) m ρ
theorem frame_reference : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)
theorem preserves : Cert.preserves_Kernel7_Kernel7Ideal := trivial

/-- The three gradients are the reference's. -/
theorem algebraic : Cert.algebraic_Kernel7Ideal_Reference7Ideal := fun m ρ m' ρ' _ hargs =>
  ⟨fun c => DX m c, fun c => DG m c, fun c => KV m c,
    (θ_run Cert.Kernel7Ideal.defs _ _).mono (fun _ h c =>
      ⟨(h c).1.trans (Cert.Kernel7Ideal.Layer.final7 m c), (h c).2.1.trans (Cert.Kernel7Ideal.Layer.final8 m c),
        (h c).2.2.1.trans (Cert.Kernel7Ideal.Layer.final9 m c), (h c).2.2.2⟩)
      (Cert.Kernel7Ideal.Value.run_blocks m ρ),
    (θ_run Cert.Reference7Ideal.defs _ _).mono (fun _ h c =>
      ⟨(h c).1.trans ((val_main_v48_eq m' c).trans (by
          rw [(hargs c).1, (hargs c).2.1, (hargs c).2.2.1, (hargs c).2.2.2.1, (hargs c).2.2.2.2.1, (hargs c).2.2.2.2.2.1, (hargs c).2.2.2.2.2.2]
          exact (value_DX m c).symm)),
        (h c).2.1.trans (by
          rw [(hargs c).1, (hargs c).2.1, (hargs c).2.2.1, (hargs c).2.2.2.1, (hargs c).2.2.2.2.1]
          exact (val_main_v49_eq _ _ _ _ _).trans (value_DG m c).symm),
        (h c).2.2.1.trans (by
          rw [(hargs c).2.1, (hargs c).2.2.1]
          exact (val_main_v51_eq _ _).trans (value_KV m c).symm),
        (h c).2.2.2⟩) (Cert.Reference7Ideal.Value.run m' ρ')⟩

end Cert.InprojBwd

end

end
-- ==== Proof.WgradIn.lean ====
module

public import proofs.«01_k».proof.Defs
public import proofs.«01_k».proof.Proof.Gen.Kernel8
public import proofs.«01_k».proof.Proof.Gen.Kernel8Ideal.Value
public import proofs.«01_k».proof.Proof.Gen.Reference8Ideal.Run
public import proofs.«01_k».proof.Proof.Gen.Reference8Ideal.Read
public import Idealize.ShloMosaic.Lib.Quiescent
public import Idealize.ShloMosaic.Lib.Pipeline.ValueKit.Point
public import proofs.«01_k».proof.Proof.Slabs
public import proofs.«01_k».proof.Proof.Heads

@[expose] public section

set_option maxRecDepth 16384

noncomputable section

namespace Cert.Kernel8Ideal.Grad

open Idealize.ShloMosaic Idealize.ShloMosaic.TcCoe Idealize.SL.Sem
open Cert.Kernel8Ideal Cert.Kernel8Ideal.Gen Cert.Heads

theorem pay1_apply (i : S3072x1024.Idx) : (k0_pay1 : FVec Ideal S3072x1024 .f32) i = 0 := by
  pointwise! [k0_pay1]
theorem pay3_apply (h : Vec Ideal S1024x1024 .bf16) (p : Vec Ideal S2560x1024 .f32) (a : Vec Ideal S1024x2560 .bf16) (q : Fin 2560) (k : Fin 1024) :
    k0_pay3 h p a (ix2 q k) = p (ix2 q k) + ∑ r : Fin 1024, a (ix2 r q) * h (ix2 r k) := by
  pointwise! [k0_pay3, k0_pay2]
theorem pay4_apply (h : Vec Ideal S1024x1024 .bf16) (p : Vec Ideal S512x1024 .f32) (a : Vec Ideal S1024x512 .bf16) (q : Fin 512) (k : Fin 1024) :
    k0_pay4 h p a (ix2 q k) = p (ix2 q k) + ∑ r : Fin 1024, a (ix2 r q) * h (ix2 r k) := by
  pointwise! [k0_pay4, k0_pay2]
theorem pay5_apply (v : Vec Ideal S64x1024 .f32) (i : Fin 64) (k : Fin 1024) : k0_pay5 v (ix2 i k) = v (ix2 i k) := by
  pointwise! [k0_pay5]
theorem pay6_apply (v : Vec Ideal S64x1024 .f32) (i : Fin 64) (k : Fin 1024) : k0_pay6 v (ix2 i k) = v (ix2 i k) := by
  pointwise! [k0_pay6]
theorem pay7_apply (v : Vec Ideal S64x1024 .f32) (i : Fin 64) (k : Fin 1024) : k0_pay7 v (ix2 i k) = v (ix2 i k) := by
  pointwise! [k0_pay7]
theorem pay8_apply (v : Vec Ideal S64x1024 .f32) (i : Fin 64) (k : Fin 1024) : k0_pay8 v (ix2 i k) = v (ix2 i k) := by
  pointwise! [k0_pay8]
theorem pay9_apply (v : Vec Ideal S64x1024 .f32) (i : Fin 64) (k : Fin 1024) : k0_pay9 v (ix2 i k) = v (ix2 i k) := by
  pointwise! [k0_pay9]
theorem pay11_apply (v : Vec Ideal S64x1024 .f32) (i : Fin 64) (k : Fin 1024) : k0_pay11 v (ix2 i k) = v (ix2 i k) := by
  pointwise! [k0_pay11]
theorem pay12_apply (v : Vec Ideal S64x1024 .f32) (i : Fin 64) (k : Fin 1024) : k0_pay12 v (ix2 i k) = v (ix2 i k) := by
  pointwise! [k0_pay12]
theorem pay13_apply (v : Vec Ideal S64x1024 .f32) (i : Fin 64) (k : Fin 1024) : k0_pay13 v (ix2 i k) = v (ix2 i k) := by
  pointwise! [k0_pay13]
theorem pay14_apply (v : Vec Ideal S64x1024 .f32) (i : Fin 64) (k : Fin 1024) : k0_pay14 v (ix2 i k) = v (ix2 i k) := by
  pointwise! [k0_pay14]
theorem pay15_apply (v : Vec Ideal S64x1024 .f32) (i : Fin 64) (k : Fin 1024) : k0_pay15 v (ix2 i k) = v (ix2 i k) := by
  pointwise! [k0_pay15]
theorem pay16_apply (v : Vec Ideal S64x1024 .f32) (i : Fin 64) (k : Fin 1024) : k0_pay16 v (ix2 i k) = v (ix2 i k) := by
  pointwise! [k0_pay16]
theorem pay17_apply (v : Vec Ideal S64x1024 .f32) (i : Fin 64) (k : Fin 1024) : k0_pay17 v (ix2 i k) = v (ix2 i k) := by
  pointwise! [k0_pay17]
theorem pay10_apply (v : Vec Ideal S1536x1024 .f32) (i : Fin 1536) (k : Fin 1024) : k0_pay10 v (ix2 i k) = v (ix2 i k) := by
  pointwise! [k0_pay10]

variable (m : (ℓ : Loc nD τ sig) → Buf (Elt Ideal) ℓ)

def A0 (c : Dev nD) : FVec Ideal S8192x2304 .f32 := m ((c : Thread nD τ).loc main_arg0)
def A1 (c : Dev nD) : FVec Ideal S8192x1024 .f32 := m ((c : Thread nD τ).loc main_arg1)

theorem sitofp_zero : (FloatOps.sitofp (F := Ideal) FTy.f32 0#32 : EReal) = 0 := by
  show (((0#32 : BitVec 32).toInt : ℝ) : EReal) = 0
  simp

theorem v7_first (c : Dev nD) (r : Fin 8192) (q : Fin 1536) :
    V m c main_v7 (ix2 r ⟨q.val, by omega⟩) = A0 m c (ix2 r ⟨q.val, by omega⟩) := by
  unfold V A0
  after_reads_at
  after_reads_at
theorem v7_kept (c : Dev nD) (r : Fin 8192) (k : Fin 8) (e : Fin 64) :
    V m c main_v7 (ix2 r ⟨1536 + (kept k e).val, by omega⟩) = A0 m c (ix2 r ⟨1536 + (plain k e).val, by omega⟩) := by
  unfold V A0
  after_reads_at
  after_reads_at
  rw [dif_pos (by omega)]
  refine congrArg (m ((c : Thread nD τ).loc main_arg0)) (congrArg (ix2 r) (Fin.ext ?_))
  dsimp only
  omega
theorem v12_kept (c : Dev nD) (r : Fin 8192) (k : Fin 4) (e : Fin 64) :
    V m c main_v12 (ix2 r (kept k e)) = A0 m c (ix2 r ⟨2048 + (plain k e).val, by omega⟩) := by
  unfold V A0
  after_reads_at
  rw [dif_pos (by omega)]
  refine congrArg (m ((c : Thread nD τ).loc main_arg0)) (congrArg (ix2 r) (Fin.ext ?_))
  dsimp only
  omega
theorem v13 (c : Dev nD) (r : Fin 8192) (l : Fin 1024) : V m c main_v13 (ix2 r l) = A1 m c (ix2 r l) := by
  unfold V A1
  after_reads_at

/-! The blocks -/

def X0 (c : Dev nD) (t : Fin cfg0.N) : FVec Ideal S1024x2560 .bf16 := iblk m c 0 t
def X1 (c : Dev nD) (t : Fin cfg0.N) : FVec Ideal S1024x512 .bf16 := iblk m c 1 t
def X2 (c : Dev nD) (t : Fin cfg0.N) : FVec Ideal S1024x1024 .bf16 := iblk m c 2 t

theorem N_0 : cfg0.N = 8 := rfl
theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)

/-- Row `i` of tile `t`. -/
def row (t : Fin cfg0.N) (i : Fin 1024) : Fin 8192 := ⟨t.val * 1024 + i.val, by have := t.isLt; have := N_0; omega⟩

theorem X0_apply (c : Dev nD) (t : Fin cfg0.N) (i : Fin 1024) (q : Fin 2560) : X0 m c t (ix2 i q) = V m c main_v7 (ix2 (row t i) q) := by
  unfold X0 row
  blk_ext [iblk, e0]
theorem X1_apply (c : Dev nD) (t : Fin cfg0.N) (i : Fin 1024) (q : Fin 512) : X1 m c t (ix2 i q) = V m c main_v12 (ix2 (row t i) q) := by
  unfold X1 row
  blk_ext [iblk, e1]
theorem X2_apply (c : Dev nD) (t : Fin cfg0.N) (i : Fin 1024) (l : Fin 1024) : X2 m c t (ix2 i l) = A1 m c (ix2 (row t i) l) := by
  rw [← v13]
  unfold X2 row
  blk_ext [iblk, e2]

/-- What a point adds to the accumulator's row `q`. -/
def step (c : Dev nD) (t : Fin cfg0.N) (q : Fin 3072) (k : Fin 1024) : EReal :=
  if h : q.val < 2560 then ∑ r : Fin 1024, X0 m c t (ix2 r ⟨q.val, h⟩) * X2 m c t (ix2 r k)
  else ∑ r : Fin 1024, X1 m c t (ix2 r ⟨q.val - 2560, by omega⟩) * X2 m c t (ix2 r k)

theorem read_scratch (x : Vec Ideal S3072x1024 .f32) :
    View.read (Elt Ideal) (View.whole cc0_scratch0) ((Memref.isWhole_whole cc0_scratch0).unread x) = x :=
  (Memref.isWhole_whole cc0_scratch0).read_unread x

/-- The accumulator after the body's two stores. -/
def pieces (h : Vec Ideal S1024x1024 .bf16) (a : Vec Ideal S1024x2560 .bf16) (b : Vec Ideal S1024x512 .bf16)
    (p : Vec Ideal S2560x1024 .f32) (p' : Vec Ideal S512x1024 .f32) (L : List (View.Piece (Elt Ideal) S3072x1024 .f32)) : List (View.Piece (Elt Ideal) S3072x1024 .f32) :=
  ⟨Rect.unit (s := S3072x1024) ![2560, 0] S512x1024.size inb_S3072x1024_S512x1024_2560_0, k0_pay4 h p' b⟩ ::
    ⟨Rect.unit (s := S3072x1024) ![0, 0] S2560x1024.size inb_S3072x1024_S2560x1024_0_0, k0_pay3 h p a⟩ :: L

/-- A piece's rows, one at a time. -/
theorem canon_step {A B C : ℕ} {Val : EltTy → Type} [∀ e, Nonempty (Val e)] {e : EltTy} (q : ℕ) (inb : ∀ a, (![q, 0] : Fin 2 → ℕ) a + (![B, C] : Fin 2 → ℕ) a ≤ (⟨2, ![A, C]⟩ : Shape).size a)
    (w : (Rect.unit (s := ⟨2, ![A, C]⟩) ![q, 0] ![B, C] inb).shape.Idx → Val e)
    (L : List (View.Piece Val ⟨2, ![A, C]⟩ e)) (s : Fin A) (k : Fin C) (x : Val e)
    (h : ∀ j : Fin B, s.val = q + j.val → w (ix2 j k) = x) (h' : s.val < q ∨ q + B ≤ s.val → View.canon L (ix2 s k) = x) :
    View.canon ((⟨Rect.unit (s := ⟨2, ![A, C]⟩) ![q, 0] ![B, C] inb, w⟩ : View.Piece Val ⟨2, ![A, C]⟩ e) :: L) (ix2 s k) = x := by
  by_cases hs : s.val < q ∨ q + B ≤ s.val
  · exact (canon_rows_ne q inb w L s k hs).trans (h' hs)
  · have hj : s.val = q + (⟨s.val - q, by omega⟩ : Fin B).val := by dsimp only; omega
    exact (canon_rows q inb w L s k ⟨s.val - q, by omega⟩ hj).trans (h _ hj)

/-- What the body's two stores leave in the accumulator's row `q`. -/
theorem canon_pieces (h : Vec Ideal S1024x1024 .bf16) (a : Vec Ideal S1024x2560 .bf16) (b : Vec Ideal S1024x512 .bf16)
    (p : Vec Ideal S2560x1024 .f32) (p' : Vec Ideal S512x1024 .f32) (L : List (View.Piece (Elt Ideal) S3072x1024 .f32)) (q : Fin 3072) (k : Fin 1024) (x : EReal)
    (hp : ∀ j : Fin 2560, q.val = j.val → p (ix2 j k) = x) (hp' : ∀ j : Fin 512, q.val = 2560 + j.val → p' (ix2 j k) = x) :
    View.canon (Val := Elt Ideal) (pieces h a b p p' L) (ix2 q k) = x
      + if hq : q.val < 2560 then ∑ r : Fin 1024, a (ix2 r ⟨q.val, hq⟩) * h (ix2 r k)
        else ∑ r : Fin 1024, b (ix2 r ⟨q.val - 2560, by omega⟩) * h (ix2 r k) := by
  unfold pieces
  refine canon_step 2560 _ _ _ q k _ (fun j hj => ?_) (fun hn => ?_)
  · rw [dif_neg (by omega), pay4_apply, hp' j hj]
    refine Ideal.add_congr rfl (Finset.sum_congr rfl fun r _ => congrArg (· * h (ix2 r k)) (congrArg (fun q => b (ix2 r q)) (Fin.ext ?_)))
    dsimp only
    omega
  · refine canon_step 0 _ _ _ q k _ (fun j hj => ?_) (fun hn' => ?_)
    · have hj : q.val = j.val := by omega
      rw [dif_pos (by omega), pay3_apply, hp j hj]
      refine Ideal.add_congr rfl (Finset.sum_congr rfl fun r _ => congrArg (· * h (ix2 r k)) (congrArg (fun q => a (ix2 r q)) (Fin.ext ?_)))
      dsimp only
      omega
    · omega

/-- A read of the accumulator's rows after the two stores. -/
theorem readCov_rows {B : ℕ} (v : View sig .tc .vmem S3072x1024 .f32) (L : List (View.Piece (Elt Ideal) S3072x1024 .f32)) (o : ℕ)
    (inb : ∀ a, (![o, 0] : Fin 2 → ℕ) a + (![B, 1024] : Fin 2 → ℕ) a ≤ S3072x1024.size a) (j : Fin B) (k : Fin 1024) (q : Fin 3072) (hq : q.val = o + j.val) :
    v.readCov (Val := Elt Ideal) L (Rect.unit (s := S3072x1024) ![o, 0] ![B, 1024] inb).toLoadRect (ix2 j k) = View.canon L (ix2 q k) := by
  rw [View.readCov_eq_canon']
  exact congrArg (View.canon L) (rows_idx o inb j k q hq)

theorem scratch_B (c : Dev nD) (t : Fin cfg0.N) (h0 : ¬t.val % 8 = 0) (h1 : ¬t.val % 8 = 7) (q : Fin 3072) (k : Fin 1024) :
    (outsAt0 m c t.val t.isLt).2 (ix2 q k)
      = (outsAt0 m c (t.val - 1) (Nat.lt_of_le_of_lt (Nat.sub_le _ _) t.isLt)).2 (ix2 q k) + step m c t q k := by
  rw [outsAt0_B m c t h0 h1]
  frame_out
  rw [read_scratch]
  exact canon_pieces (iblk m c 2 t) (iblk m c 0 t) (iblk m c 1 t) _ _ [] q k _ (fun j hj => ld_rows 0 _ _ j k q (by omega)) (fun j hj => ld_rows 2560 _ _ j k q hj)
/-- The accumulator after the first point's store of zeros. -/
theorem canon_zero (q : Fin 3072) (k : Fin 1024) : View.canon (Val := Elt Ideal) [(⟨Rect.unit (s := S3072x1024) ![0, 0] S3072x1024.size inb_S3072x1024_S3072x1024_0_0, k0_pay1 (F := Ideal)⟩ : View.Piece (Elt Ideal) S3072x1024 .f32)] (ix2 q k) = (0 : EReal) :=
  (canon_rows 0 _ _ _ q k q (by omega)).trans (pay1_apply _)
def zp : Vec Ideal S2560x1024 .f32 :=
  (View.whole cc0_scratch0).readCov (Val := Elt Ideal) [(⟨Rect.unit (s := S3072x1024) ![0, 0] S3072x1024.size inb_S3072x1024_S3072x1024_0_0, k0_pay1 (F := Ideal)⟩ : View.Piece (Elt Ideal) S3072x1024 .f32)] (Rect.unit (s := S3072x1024) ![0, 0] S2560x1024.size inb_S3072x1024_S2560x1024_0_0).toLoadRect
def zq (c : Dev nD) (t : Fin cfg0.N) : Vec Ideal S512x1024 .f32 :=
  (View.whole cc0_scratch0).readCov (Val := Elt Ideal) [⟨(Rect.unit (s := S3072x1024) ![0, 0] S2560x1024.size inb_S3072x1024_S2560x1024_0_0), k0_pay3 (iblk m c 2 t) zp (iblk m c 0 t)⟩, (⟨Rect.unit (s := S3072x1024) ![0, 0] S3072x1024.size inb_S3072x1024_S3072x1024_0_0, k0_pay1 (F := Ideal)⟩ : View.Piece (Elt Ideal) S3072x1024 .f32)] (Rect.unit (s := S3072x1024) ![2560, 0] S512x1024.size inb_S3072x1024_S512x1024_2560_0).toLoadRect

theorem scratch_A (c : Dev nD) (t : Fin cfg0.N) (h0 : t.val % 8 = 0) (h1 : ¬t.val % 8 = 7) (q : Fin 3072) (k : Fin 1024) :
    (outsAt0 m c t.val t.isLt).2 (ix2 q k) = 0 + step m c t q k := by
  rw [outsAt0_A m c t h0 h1]
  frame_out
  exact canon_pieces (iblk m c 2 t) (iblk m c 0 t) (iblk m c 1 t) zp (zq m c t) [(⟨Rect.unit (s := S3072x1024) ![0, 0] S3072x1024.size inb_S3072x1024_S3072x1024_0_0, k0_pay1 (F := Ideal)⟩ : View.Piece (Elt Ideal) S3072x1024 .f32)] q k 0
    (fun j hj => (readCov_rows _ _ 0 _ j k q (by omega)).trans (canon_zero q k))
    (fun j hj => (readCov_rows _ _ 2560 _ j k q hj).trans ((canon_rows_ne 0 _ _ _ q k (.inr (by omega))).trans (canon_zero q k)))
theorem out_C (c : Dev nD) (t : Fin cfg0.N) (h0 : ¬t.val % 8 = 0) (h1 : t.val % 8 = 7) (p : Fin 2304) (q : Fin 3072)
    (hpq : (p.val < 1536 ∧ q.val = p.val) ∨ (1536 ≤ p.val ∧ q.val = 1536 + ((p.val - 1536) / 64 * 128 + (p.val - 1536) % 64))) (k : Fin 1024) :
    (outsAt0 m c t.val t.isLt).1 (ix2 p k)
      = (outsAt0 m c (t.val - 1) (Nat.lt_of_le_of_lt (Nat.sub_le _ _) t.isLt)).2 (ix2 q k) + step m c t q k := by
  rw [outsAt0_C m c t h0 h1]
  frame_out
  rw [read_scratch]
  have hs := canon_pieces (iblk m c 2 t) (iblk m c 0 t) (iblk m c 1 t) (View.ld (outsAt0 m c (t.val - 1) (Nat.lt_of_le_of_lt (Nat.sub_le _ _) t.isLt)).2 (Rect.unit (s := S3072x1024) ![0, 0] S2560x1024.size inb_S3072x1024_S2560x1024_0_0))
    (View.ld (outsAt0 m c (t.val - 1) (Nat.lt_of_le_of_lt (Nat.sub_le _ _) t.isLt)).2 (Rect.unit (s := S3072x1024) ![2560, 0] S512x1024.size inb_S3072x1024_S512x1024_2560_0)) [] q k _ (fun j hj => ld_rows 0 _ _ j k q (by omega)) (fun j hj => ld_rows 2560 _ _ j k q hj)
  refine canon_step 2240 _ _ _ p k _ (fun j hj => (pay9_apply _ j k).trans ((readCov_rows _ _ 2944 _ j k q (by omega)).trans hs)) (fun _ => ?_)
  refine canon_step 2176 _ _ _ p k _ (fun j hj => (pay8_apply _ j k).trans ((readCov_rows _ _ 2816 _ j k q (by omega)).trans hs)) (fun _ => ?_)
  refine canon_step 2112 _ _ _ p k _ (fun j hj => (pay7_apply _ j k).trans ((readCov_rows _ _ 2688 _ j k q (by omega)).trans hs)) (fun _ => ?_)
  refine canon_step 2048 _ _ _ p k _ (fun j hj => (pay6_apply _ j k).trans ((readCov_rows _ _ 2560 _ j k q (by omega)).trans hs)) (fun _ => ?_)
  refine canon_step 1984 _ _ _ p k _ (fun j hj => (pay5_apply _ j k).trans ((readCov_rows _ _ 2432 _ j k q (by omega)).trans hs)) (fun _ => ?_)
  refine canon_step 1920 _ _ _ p k _ (fun j hj => (pay17_apply _ j k).trans ((readCov_rows _ _ 2304 _ j k q (by omega)).trans hs)) (fun _ => ?_)
  refine canon_step 1856 _ _ _ p k _ (fun j hj => (pay16_apply _ j k).trans ((readCov_rows _ _ 2176 _ j k q (by omega)).trans hs)) (fun _ => ?_)
  refine canon_step 1792 _ _ _ p k _ (fun j hj => (pay15_apply _ j k).trans ((readCov_rows _ _ 2048 _ j k q (by omega)).trans hs)) (fun _ => ?_)
  refine canon_step 1728 _ _ _ p k _ (fun j hj => (pay14_apply _ j k).trans ((readCov_rows _ _ 1920 _ j k q (by omega)).trans hs)) (fun _ => ?_)
  refine canon_step 1664 _ _ _ p k _ (fun j hj => (pay13_apply _ j k).trans ((readCov_rows _ _ 1792 _ j k q (by omega)).trans hs)) (fun _ => ?_)
  refine canon_step 1600 _ _ _ p k _ (fun j hj => (pay12_apply _ j k).trans ((readCov_rows _ _ 1664 _ j k q (by omega)).trans hs)) (fun _ => ?_)
  refine canon_step 1536 _ _ _ p k _ (fun j hj => (pay11_apply _ j k).trans ((readCov_rows _ _ 1536 _ j k q (by omega)).trans hs)) (fun _ => ?_)
  refine canon_step 0 _ _ _ p k _ (fun j hj => (pay10_apply _ j k).trans ((readCov_rows _ _ 0 _ j k q (by omega)).trans hs)) (fun _ => ?_)
  omega

/-- Where the accumulator keeps the result's row `p`. -/
def src (p : Fin 2304) : Fin 3072 :=
  if h : p.val < 1536 then ⟨p.val, by omega⟩ else ⟨1536 + ((p.val - 1536) / 64 * 128 + (p.val - 1536) % 64), by omega⟩
theorem src_eq (p : Fin 2304) : (p.val < 1536 ∧ (src p).val = p.val)
    ∨ (1536 ≤ p.val ∧ (src p).val = 1536 + ((p.val - 1536) / 64 * 128 + (p.val - 1536) % 64)) := by
  by_cases h : p.val < 1536
  · exact .inl ⟨h, congrArg Fin.val (dif_pos h)⟩
  · exact .inr ⟨by omega, congrArg Fin.val (dif_neg h)⟩

/-- The result: the sum over all rows of the products. -/
def acc (c : Dev nD) (n : ℕ) (hn : n < cfg0.N) (i : Fin 2304 × Fin 1024) : EReal :=
  if n % 8 = 7 then (outsAt0 m c n hn).1 (ix2 i.1 i.2) else (outsAt0 m c n hn).2 (ix2 (src i.1) i.2)

theorem acc_of_last (c : Dev nD) (n : ℕ) (hn : n < cfg0.N) (h : n % 8 = 7) (p : Fin 2304) (k : Fin 1024) :
    acc m c n hn (p, k) = (outsAt0 m c n hn).1 (ix2 p k) := if_pos h

theorem acc_last (c : Dev nD) (t : Fin cfg0.N) (ht : t.val + 1 = cfg0.N) (i : Fin 2304 × Fin 1024) :
    acc m c t.val t.isLt i = 0 + ∑ p : Fin cfg0.N, step m c p (src i.1) i.2 :=
  Pipeline.eq_sum_fin_of_reset_step_apply_last (acc m c) 8 (fun _ => (0 : EReal))
    (fun t i => step m c t (src i.1) i.2)
    (fun t ht i => by
      unfold acc; rw [if_neg (by omega)]; exact scratch_A m c t ht (by omega) _ _)
    (fun t ht i => by
      have := t.isLt
      unfold acc
      rw [if_neg (show ¬ (t.val - 1) % 8 = 7 by have hN : cfg0.N = 8 := N_0; omega)]
      by_cases h1 : t.val % 8 = 7
      · rw [if_pos h1]; exact out_C m c t ht h1 _ _ (src_eq _) _
      · rw [if_neg h1]; exact scratch_B m c t ht h1 _ _)
    (le_of_eq N_0) t ht i

theorem step_eq (c : Dev nD) (t : Fin cfg0.N) (p : Fin 2304) (k : Fin 1024) :
    step m c t (src p) k = ∑ r : Fin 1024, A0 m c (ix2 (row t r) p) * A1 m c (ix2 (row t r) k) := by
  have hp := p.isLt
  unfold step
  by_cases h : (src p).val < 2560
  · rw [dif_pos h]
    refine Finset.sum_congr rfl fun r _ => ?_
    rw [X0_apply, X2_apply]
    refine congrArg (· * A1 m c (ix2 (row t r) k)) ?_
    rcases src_eq p with ⟨h1, h2⟩ | ⟨h1, h2⟩
    · have hv := v7_first m c (row t r) ⟨p.val, h1⟩
      refine Eq.trans (congrArg (fun q => V m c main_v7 (ix2 (row t r) q)) (Fin.ext ?_)) hv
      exact h2
    · have hv := v7_kept m c (row t r) ⟨(p.val - 1536) / 64, by omega⟩ ⟨(p.val - 1536) % 64, by omega⟩
      refine Eq.trans (congrArg (fun q => V m c main_v7 (ix2 (row t r) q)) (Fin.ext h2)) (hv.trans (congrArg (fun q => A0 m c (ix2 (row t r) q)) (Fin.ext ?_)))
      show 1536 + ((p.val - 1536) / 64 * 64 + (p.val - 1536) % 64) = p.val
      omega
  · rw [dif_neg h]
    refine Finset.sum_congr rfl fun r _ => ?_
    rw [X1_apply, X2_apply]
    refine congrArg (· * A1 m c (ix2 (row t r) k)) ?_
    rcases src_eq p with ⟨h1, h2⟩ | ⟨h1, h2⟩
    · omega
    · have hv := v12_kept m c (row t r) ⟨(p.val - 2048) / 64, by omega⟩ ⟨(p.val - 2048) % 64, by omega⟩
      refine Eq.trans (congrArg (fun q => V m c main_v12 (ix2 (row t r) q)) (Fin.ext ?_)) (hv.trans (congrArg (fun q => A0 m c (ix2 (row t r) q)) (Fin.ext ?_)))
      · show (src p).val - 2560 = (p.val - 2048) / 64 * 128 + (p.val - 2048) % 64
        omega
      · show 2048 + ((p.val - 2048) / 64 * 64 + (p.val - 2048) % 64) = p.val
        omega

theorem out_last (c : Dev nD) (t : Fin cfg0.N) (ht : t.val = 7) (p : Fin 2304) (k : Fin 1024) :
    (outsAt0 m c t.val t.isLt).1 (ix2 p k) = ∑ l : Fin 8192, A0 m c (ix2 l p) * A1 m c (ix2 l k) := by
  have hN : cfg0.N = 8 := N_0
  rw [← acc_of_last m c t.val t.isLt (by omega), acc_last m c t (by omega), zero_add]
  simp only [step_eq]
  have h1 : ∑ l : Fin 8192, A0 m c (ix2 l p) * A1 m c (ix2 l k) = ∑ q : Fin 8 × Fin 1024, A0 m c (ix2 (row (Fin.cast N_0.symm q.1) q.2) p) * A1 m c (ix2 (row (Fin.cast N_0.symm q.1) q.2) k) := by
    refine (Fintype.sum_equiv (finProdFinEquiv (m := 8) (n := 1024)) _ _ fun q => ?_).symm
    have hp : row (Fin.cast N_0.symm q.1) q.2 = finProdFinEquiv q := by
      apply Fin.ext
      show q.1.val * 1024 + q.2.val = q.2.val + 1024 * q.1.val
      omega
    rw [hp]
  rw [h1, Fintype.sum_prod_type]
  exact (Fintype.sum_equiv (finCongr N_0.symm) _ _ fun q => rfl).symm

theorem G3_apply (c : Dev nD) (p : Fin 2304) (k : Fin 1024) :
    Value.G3 m c (ix2 p k) = ∑ l : Fin 8192, A0 m c (ix2 l p) * A1 m c (ix2 l k) := by
  rw [Value.G3_last, ← out_last m c ⟨7, by have : cfg0.N = 8 := N_0; omega⟩ rfl p k]
  exact (congrArg (fun f => f.1 (ix2 p k)) (Value.outsAt0_sweep m c 7 _)).symm

end Cert.Kernel8Ideal.Grad

namespace Cert.WgradIn

open Idealize.ShloMosaic Idealize.ShloMosaic.TcCoe Idealize.SL.Sem
open Cert.Reference8Ideal Cert.Reference8Ideal.Read

theorem val_apply (x0 : FVec Ideal S8192x2304 .f32) (x1 : FVec Ideal S8192x1024 .f32) (p : Fin 2304) (k : Fin 1024) :
    val_main_v5 (F := Ideal) x0 x1 (ix2 p k) = ∑ l : Fin 8192, x0 (ix2 l p) * x1 (ix2 l k) := by
  pointwise! [val_main_v5, val_main_v4, val_main_v3, val_main_v2]

theorem value (m : (ℓ : Loc Cert.Kernel8Ideal.nD Cert.Kernel8Ideal.τ Cert.Kernel8Ideal.sig) → Buf (Elt Ideal) ℓ) (c : Dev Cert.Kernel8Ideal.nD) :
    Cert.Kernel8Ideal.Value.G3 m c = val_main_v5 (F := Ideal) (Cert.Kernel8Ideal.Grad.A0 m c) (Cert.Kernel8Ideal.Grad.A1 m c) := by
  funext i
  idx_vars i
  exact (Cert.Kernel8Ideal.Grad.G3_apply m c _ _).trans (val_apply _ _ _ _).symm

/-- The two programs have the same functions. -/
theorem defs₀_eq {F : FTy → Type} [FloatOps F] : Cert.Kernel8.defs₀ (F := F) = Cert.Kernel8Ideal.defs₀ (F := F) := by
  unfold Cert.Kernel8.defs₀ Cert.Kernel8Ideal.defs₀
  refine congrArg Defs.onTc (funext fun l => ?_)
  match l with
  | ⟨0, _⟩ => exact funext fun ⟨t, s⟩ => rfl
theorem defs_eq {F : FTy → Type} [FloatOps F] : Cert.Kernel8.defs (F := F) = Cert.Kernel8Ideal.defs (F := F) := by
  unfold Cert.Kernel8.defs Cert.Kernel8Ideal.defs
  rw [defs₀_eq]
  rfl
set_option maxHeartbeats 4000000 in
theorem frame_kernel : Cert.quiescent_Kernel8 := fun m ρ _ => by
  rw [defs_eq]
  exact Cert.Kernel8Ideal.Gen.frame (F := Bits) m ρ
theorem frame_ideal : Cert.quiescent_Kernel8Ideal := fun m ρ _ => Cert.Kernel8Ideal.Gen.frame (F := Ideal) m ρ
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)
theorem preserves : Cert.preserves_Kernel8_Kernel8Ideal := trivial

/-- The gradient the kernel accumulates is the reference's product. -/
theorem algebraic : Cert.algebraic_Kernel8Ideal_Reference8Ideal := fun m ρ m' ρ' _ hargs =>
  ⟨fun c => Cert.Kernel8Ideal.Value.G3 m c, Cert.Kernel8Ideal.Value.run m ρ,
    (θ_run Cert.Reference8Ideal.defs _ _).mono (fun _ h c => ⟨(h c).1.trans (by
      rw [(hargs c).1, (hargs c).2]
      exact (val_main_v5_eq _ _).trans (value m c).symm), (h c).2⟩) (Cert.Reference8Ideal.Value.run m' ρ')⟩

end Cert.WgradIn

end

end
-- ==== Proof.AdamSmallBody.lean ====
/- The optimiser's call over the eight small parameters, its body on whole staging buffers: what each window holds before it, and
   what it leaves in each of its outputs. -/
module

public import proofs.«01_k».proof.Proof.Gen.Kernel10Ideal.Launch
public import proofs.«01_k».proof.Proof.Gen.Kernel10Ideal.Skeleton
public import proofs.«01_k».proof.Proof.Gen.Kernel10Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.AdamSmall

open Cert.Kernel10Ideal Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl
theorem V_main_arg15 (c : Dev nD) : V m c main_arg15 = m ((c : Thread nD τ).loc main_arg15) := rfl
theorem V_main_arg16 (c : Dev nD) : V m c main_arg16 = m ((c : Thread nD τ).loc main_arg16) := rfl
theorem V_main_arg17 (c : Dev nD) : V m c main_arg17 = m ((c : Thread nD τ).loc main_arg17) := rfl
theorem V_main_arg18 (c : Dev nD) : V m c main_arg18 = m ((c : Thread nD τ).loc main_arg18) := rfl
theorem V_main_arg19 (c : Dev nD) : V m c main_arg19 = m ((c : Thread nD τ).loc main_arg19) := rfl
theorem V_main_arg20 (c : Dev nD) : V m c main_arg20 = m ((c : Thread nD τ).loc main_arg20) := rfl
theorem V_main_arg21 (c : Dev nD) : V m c main_arg21 = m ((c : Thread nD τ).loc main_arg21) := rfl
theorem V_main_arg22 (c : Dev nD) : V m c main_arg22 = m ((c : Thread nD τ).loc main_arg22) := rfl
theorem V_main_arg23 (c : Dev nD) : V m c main_arg23 = m ((c : Thread nD τ).loc main_arg23) := rfl
theorem V_main_arg24 (c : Dev nD) : V m c main_arg24 = m ((c : Thread nD τ).loc main_arg24) := rfl
theorem V_main_arg25 (c : Dev nD) : V m c main_arg25 = m ((c : Thread nD τ).loc main_arg25) := rfl
theorem V_main_arg26 (c : Dev nD) : V m c main_arg26 = m ((c : Thread nD τ).loc main_arg26) := rfl
theorem V_main_arg27 (c : Dev nD) : V m c main_arg27 = m ((c : Thread nD τ).loc main_arg27) := rfl
theorem V_main_arg28 (c : Dev nD) : V m c main_arg28 = m ((c : Thread nD τ).loc main_arg28) := rfl
theorem V_main_arg29 (c : Dev nD) : V m c main_arg29 = m ((c : Thread nD τ).loc main_arg29) := rfl
theorem V_main_arg30 (c : Dev nD) : V m c main_arg30 = m ((c : Thread nD τ).loc main_arg30) := rfl
theorem V_main_arg31 (c : Dev nD) : V m c main_arg31 = m ((c : Thread nD τ).loc main_arg31) := rfl

/-! ## The windows' blocks -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The frame claim's post from the frame run's -/

set_option maxHeartbeats 3360000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c))),
      ((h c).1 15).trans (((dats 0 c).arrAt_in 15 rfl _).trans ((hA c 15).trans (V_main_arg15 m c))),
      ((h c).1 16).trans (((dats 0 c).arrAt_in 16 rfl _).trans ((hA c 16).trans (V_main_arg16 m c))),
      ((h c).1 17).trans (((dats 0 c).arrAt_in 17 rfl _).trans ((hA c 17).trans (V_main_arg17 m c))),
      ((h c).1 18).trans (((dats 0 c).arrAt_in 18 rfl _).trans ((hA c 18).trans (V_main_arg18 m c))),
      ((h c).1 19).trans (((dats 0 c).arrAt_in 19 rfl _).trans ((hA c 19).trans (V_main_arg19 m c))),
      ((h c).1 20).trans (((dats 0 c).arrAt_in 20 rfl _).trans ((hA c 20).trans (V_main_arg20 m c))),
      ((h c).1 21).trans (((dats 0 c).arrAt_in 21 rfl _).trans ((hA c 21).trans (V_main_arg21 m c))),
      ((h c).1 22).trans (((dats 0 c).arrAt_in 22 rfl _).trans ((hA c 22).trans (V_main_arg22 m c))),
      ((h c).1 23).trans (((dats 0 c).arrAt_in 23 rfl _).trans ((hA c 23).trans (V_main_arg23 m c))),
      ((h c).1 24).trans (((dats 0 c).arrAt_in 24 rfl _).trans ((hA c 24).trans (V_main_arg24 m c))),
      ((h c).1 25).trans (((dats 0 c).arrAt_in 25 rfl _).trans ((hA c 25).trans (V_main_arg25 m c))),
      ((h c).1 26).trans (((dats 0 c).arrAt_in 26 rfl _).trans ((hA c 26).trans (V_main_arg26 m c))),
      ((h c).1 27).trans (((dats 0 c).arrAt_in 27 rfl _).trans ((hA c 27).trans (V_main_arg27 m c))),
      ((h c).1 28).trans (((dats 0 c).arrAt_in 28 rfl _).trans ((hA c 28).trans (V_main_arg28 m c))),
      ((h c).1 29).trans (((dats 0 c).arrAt_in 29 rfl _).trans ((hA c 29).trans (V_main_arg29 m c))),
      ((h c).1 30).trans (((dats 0 c).arrAt_in 30 rfl _).trans ((hA c 30).trans (V_main_arg30 m c))),
      ((h c).1 31).trans (((dats 0 c).arrAt_in 31 rfl _).trans ((hA c 31).trans (V_main_arg31 m c)))⟩) h

/-! ## The body's accesses -/
abbrev r0_0 : Rect S2x1024 := Rect.unit (s := S2x1024) ![0, 0] S2x1024.size inb_S2x1024_S2x1024_0_0
abbrev r0_1 : Rect S2x3x128 := Rect.unit (s := S2x3x128) ![0, 0, 0] S2x3x128.size inb_S2x3x128_S2x3x128_0_0_0
abbrev r0_2 : Rect S2x64 := Rect.unit (s := S2x64) ![0, 0] S2x64.size inb_S2x64_S2x64_0_0
abbrev r0_3 : Rect S2x8 := Rect.unit (s := S2x8) ![0, 0] S2x8.size inb_S2x8_S2x8_0_0
abbrev r0_4 : Rect S2x512 := Rect.unit (s := S2x512) ![0, 0] S2x512.size inb_S2x512_S2x512_0_0

/-! ## What the body leaves in each output window's buffer -/

/-! ### Vectors of the body that more than one store uses -/
def k0_pay28 : FVec F S2x512 .f32 :=
  k0_pay18 (F := F)
def k0_pay29 (x22 : Vec F S2x512 .f32) : FVec F S2x512 .f32 :=
  k0_pay22 (View.ld x22 r0_4)
def k0_pay30 : FVec F S2x512 .f32 :=
  k0_pay23 (F := F)
def k0_pay31 (x15 : Vec F S2x1024 .f32) (x23 : Vec F S2x1024 .f32) : FVec F S2x1024 .f32 :=
  k0_pay27 (View.ld x15 r0_0) (View.ld x23 r0_0)
def out0_32 (x0 : Vec F S2x1024 .f32) (x8 : Vec F S2x1024 .f32) (x16 : Vec F S2x1024 .f32) (x24 : Vec F S2x1024 .f32) : Vec F S2x1024 .f32 :=
  View.canon [⟨r0_0, k0_pay5 (View.ld x8 r0_0) (View.ld x16 r0_0) (View.ld x24 r0_0) (View.ld x0 r0_0)⟩]
theorem cover0_32 (p0 : Vec F S2x1024 .f32) (y : S2x1024.Idx) :
    ∃ pc ∈ ([⟨r0_0, p0⟩] : List (View.Piece (Elt F) S2x1024 .f32)), y ∈ pc.1.set :=
  View.cover_of_tiled [⟨r0_0, p0⟩] S2x1024.size (by rfl) y
def out0_33 (x1 : Vec F S2x3x128 .f32) (x9 : Vec F S2x3x128 .f32) (x17 : Vec F S2x3x128 .f32) (x25 : Vec F S2x3x128 .f32) : Vec F S2x3x128 .f32 :=
  View.canon [⟨r0_1, k0_pay8 (View.ld x9 r0_1) (View.ld x17 r0_1) (View.ld x25 r0_1) (View.ld x1 r0_1)⟩]
theorem cover0_33 (p0 : Vec F S2x3x128 .f32) (y : S2x3x128.Idx) :
    ∃ pc ∈ ([⟨r0_1, p0⟩] : List (View.Piece (Elt F) S2x3x128 .f32)), y ∈ pc.1.set :=
  View.cover_of_tiled [⟨r0_1, p0⟩] S2x3x128.size (by rfl) y
def out0_34 (x2 : Vec F S2x64 .f32) (x10 : Vec F S2x64 .f32) (x18 : Vec F S2x64 .f32) (x26 : Vec F S2x64 .f32) : Vec F S2x64 .f32 :=
  View.canon [⟨r0_2, k0_pay11 (View.ld x10 r0_2) (View.ld x18 r0_2) (View.ld x26 r0_2) (View.ld x2 r0_2)⟩]
theorem cover0_34 (p0 : Vec F S2x64 .f32) (y : S2x64.Idx) :
    ∃ pc ∈ ([⟨r0_2, p0⟩] : List (View.Piece (Elt F) S2x64 .f32)), y ∈ pc.1.set :=
  View.cover_of_tiled [⟨r0_2, p0⟩] S2x64.size (by rfl) y
def out0_35 (x3 : Vec F S2x64 .f32) (x11 : Vec F S2x64 .f32) (x19 : Vec F S2x64 .f32) (x27 : Vec F S2x64 .f32) : Vec F S2x64 .f32 :=
  View.canon [⟨r0_2, k0_pay14 (View.ld x11 r0_2) (View.ld x19 r0_2) (View.ld x27 r0_2) (View.ld x3 r0_2)⟩]
theorem cover0_35 (p0 : Vec F S2x64 .f32) (y : S2x64.Idx) :
    ∃ pc ∈ ([⟨r0_2, p0⟩] : List (View.Piece (Elt F) S2x64 .f32)), y ∈ pc.1.set :=
  View.cover_of_tiled [⟨r0_2, p0⟩] S2x64.size (by rfl) y
def out0_36 (x4 : Vec F S2x8 .f32) (x12 : Vec F S2x8 .f32) (x20 : Vec F S2x8 .f32) (x28 : Vec F S2x8 .f32) : Vec F S2x8 .f32 :=
  View.canon [⟨r0_3, k0_pay17 (View.ld x12 r0_3) (View.ld x20 r0_3) (View.ld x28 r0_3) (View.ld x4 r0_3)⟩]
theorem cover0_36 (p0 : Vec F S2x8 .f32) (y : S2x8.Idx) :
    ∃ pc ∈ ([⟨r0_3, p0⟩] : List (View.Piece (Elt F) S2x8 .f32)), y ∈ pc.1.set :=
  View.cover_of_tiled [⟨r0_3, p0⟩] S2x8.size (by rfl) y
def out0_37 (x5 : Vec F S2x512 .f32) (x13 : Vec F S2x512 .f32) (x21 : Vec F S2x512 .f32) (x29 : Vec F S2x512 .f32) : Vec F S2x512 .f32 :=
  View.canon [⟨r0_4, k0_pay21 (View.ld x13 r0_4) (View.ld x21 r0_4) k0_pay28 (View.ld x29 r0_4) (View.ld x5 r0_4)⟩]
theorem cover0_37 (p0 : Vec F S2x512 .f32) (y : S2x512.Idx) :
    ∃ pc ∈ ([⟨r0_4, p0⟩] : List (View.Piece (Elt F) S2x512 .f32)), y ∈ pc.1.set :=
  View.cover_of_tiled [⟨r0_4, p0⟩] S2x512.size (by rfl) y
def out0_38 (x6 : Vec F S2x512 .f32) (x14 : Vec F S2x512 .f32) (x22 : Vec F S2x512 .f32) (x30 : Vec F S2x512 .f32) : Vec F S2x512 .f32 :=
  View.canon [⟨r0_4, k0_pay26 (View.ld x14 r0_4) (k0_pay29 x22) k0_pay30 (View.ld x30 r0_4) (View.ld x6 r0_4)⟩]
theorem cover0_38 (p0 : Vec F S2x512 .f32) (y : S2x512.Idx) :
    ∃ pc ∈ ([⟨r0_4, p0⟩] : List (View.Piece (Elt F) S2x512 .f32)), y ∈ pc.1.set :=
  View.cover_of_tiled [⟨r0_4, p0⟩] S2x512.size (by rfl) y
def out0_39 (x7 : Vec F S2x1024 .f32) (x15 : Vec F S2x1024 .f32) (x23 : Vec F S2x1024 .f32) (x31 : Vec F S2x1024 .f32) : Vec F S2x1024 .f32 :=
  View.canon [⟨r0_0, k0_pay2 (View.ld x15 r0_0) (k0_pay31 x15 x23) (View.ld x31 r0_0) (View.ld x7 r0_0)⟩]
theorem cover0_39 (p0 : Vec F S2x1024 .f32) (y : S2x1024.Idx) :
    ∃ pc ∈ ([⟨r0_0, p0⟩] : List (View.Piece (Elt F) S2x1024 .f32)), y ∈ pc.1.set :=
  View.cover_of_tiled [⟨r0_0, p0⟩] S2x1024.size (by rfl) y
def out0_40 (x8 : Vec F S2x1024 .f32) (x16 : Vec F S2x1024 .f32) : Vec F S2x1024 .f32 :=
  View.canon [⟨r0_0, k0_pay3 (View.ld x8 r0_0) (View.ld x16 r0_0)⟩]
theorem cover0_40 (p0 : Vec F S2x1024 .f32) (y : S2x1024.Idx) :
    ∃ pc ∈ ([⟨r0_0, p0⟩] : List (View.Piece (Elt F) S2x1024 .f32)), y ∈ pc.1.set :=
  View.cover_of_tiled [⟨r0_0, p0⟩] S2x1024.size (by rfl) y
def out0_41 (x9 : Vec F S2x3x128 .f32) (x17 : Vec F S2x3x128 .f32) : Vec F S2x3x128 .f32 :=
  View.canon [⟨r0_1, k0_pay6 (View.ld x9 r0_1) (View.ld x17 r0_1)⟩]
theorem cover0_41 (p0 : Vec F S2x3x128 .f32) (y : S2x3x128.Idx) :
    ∃ pc ∈ ([⟨r0_1, p0⟩] : List (View.Piece (Elt F) S2x3x128 .f32)), y ∈ pc.1.set :=
  View.cover_of_tiled [⟨r0_1, p0⟩] S2x3x128.size (by rfl) y
def out0_42 (x10 : Vec F S2x64 .f32) (x18 : Vec F S2x64 .f32) : Vec F S2x64 .f32 :=
  View.canon [⟨r0_2, k0_pay9 (View.ld x10 r0_2) (View.ld x18 r0_2)⟩]
theorem cover0_42 (p0 : Vec F S2x64 .f32) (y : S2x64.Idx) :
    ∃ pc ∈ ([⟨r0_2, p0⟩] : List (View.Piece (Elt F) S2x64 .f32)), y ∈ pc.1.set :=
  View.cover_of_tiled [⟨r0_2, p0⟩] S2x64.size (by rfl) y
def out0_43 (x11 : Vec F S2x64 .f32) (x19 : Vec F S2x64 .f32) : Vec F S2x64 .f32 :=
  View.canon [⟨r0_2, k0_pay12 (View.ld x11 r0_2) (View.ld x19 r0_2)⟩]
theorem cover0_43 (p0 : Vec F S2x64 .f32) (y : S2x64.Idx) :
    ∃ pc ∈ ([⟨r0_2, p0⟩] : List (View.Piece (Elt F) S2x64 .f32)), y ∈ pc.1.set :=
  View.cover_of_tiled [⟨r0_2, p0⟩] S2x64.size (by rfl) y
def out0_44 (x12 : Vec F S2x8 .f32) (x20 : Vec F S2x8 .f32) : Vec F S2x8 .f32 :=
  View.canon [⟨r0_3, k0_pay15 (View.ld x12 r0_3) (View.ld x20 r0_3)⟩]
theorem cover0_44 (p0 : Vec F S2x8 .f32) (y : S2x8.Idx) :
    ∃ pc ∈ ([⟨r0_3, p0⟩] : List (View.Piece (Elt F) S2x8 .f32)), y ∈ pc.1.set :=
  View.cover_of_tiled [⟨r0_3, p0⟩] S2x8.size (by rfl) y
def out0_45 (x13 : Vec F S2x512 .f32) (x21 : Vec F S2x512 .f32) : Vec F S2x512 .f32 :=
  View.canon [⟨r0_4, k0_pay19 (View.ld x13 r0_4) (View.ld x21 r0_4) k0_pay28⟩]
theorem cover0_45 (p0 : Vec F S2x512 .f32) (y : S2x512.Idx) :
    ∃ pc ∈ ([⟨r0_4, p0⟩] : List (View.Piece (Elt F) S2x512 .f32)), y ∈ pc.1.set :=
  View.cover_of_tiled [⟨r0_4, p0⟩] S2x512.size (by rfl) y
def out0_46 (x14 : Vec F S2x512 .f32) (x22 : Vec F S2x512 .f32) : Vec F S2x512 .f32 :=
  View.canon [⟨r0_4, k0_pay24 (View.ld x14 r0_4) (k0_pay29 x22) k0_pay30⟩]
theorem cover0_46 (p0 : Vec F S2x512 .f32) (y : S2x512.Idx) :
    ∃ pc ∈ ([⟨r0_4, p0⟩] : List (View.Piece (Elt F) S2x512 .f32)), y ∈ pc.1.set :=
  View.cover_of_tiled [⟨r0_4, p0⟩] S2x512.size (by rfl) y
def out0_47 (x15 : Vec F S2x1024 .f32) (x23 : Vec F S2x1024 .f32) : Vec F S2x1024 .f32 :=
  View.canon [⟨r0_0, k0_pay31 x15 x23⟩]
theorem cover0_47 (p0 : Vec F S2x1024 .f32) (y : S2x1024.Idx) :
    ∃ pc ∈ ([⟨r0_0, p0⟩] : List (View.Piece (Elt F) S2x1024 .f32)), y ∈ pc.1.set :=
  View.cover_of_tiled [⟨r0_0, p0⟩] S2x1024.size (by rfl) y
def out0_48 (x8 : Vec F S2x1024 .f32) (x24 : Vec F S2x1024 .f32) : Vec F S2x1024 .f32 :=
  View.canon [⟨r0_0, k0_pay4 (View.ld x8 r0_0) (View.ld x24 r0_0)⟩]
theorem cover0_48 (p0 : Vec F S2x1024 .f32) (y : S2x1024.Idx) :
    ∃ pc ∈ ([⟨r0_0, p0⟩] : List (View.Piece (Elt F) S2x1024 .f32)), y ∈ pc.1.set :=
  View.cover_of_tiled [⟨r0_0, p0⟩] S2x1024.size (by rfl) y
def out0_49 (x9 : Vec F S2x3x128 .f32) (x25 : Vec F S2x3x128 .f32) : Vec F S2x3x128 .f32 :=
  View.canon [⟨r0_1, k0_pay7 (View.ld x9 r0_1) (View.ld x25 r0_1)⟩]
theorem cover0_49 (p0 : Vec F S2x3x128 .f32) (y : S2x3x128.Idx) :
    ∃ pc ∈ ([⟨r0_1, p0⟩] : List (View.Piece (Elt F) S2x3x128 .f32)), y ∈ pc.1.set :=
  View.cover_of_tiled [⟨r0_1, p0⟩] S2x3x128.size (by rfl) y
def out0_50 (x10 : Vec F S2x64 .f32) (x26 : Vec F S2x64 .f32) : Vec F S2x64 .f32 :=
  View.canon [⟨r0_2, k0_pay10 (View.ld x10 r0_2) (View.ld x26 r0_2)⟩]
theorem cover0_50 (p0 : Vec F S2x64 .f32) (y : S2x64.Idx) :
    ∃ pc ∈ ([⟨r0_2, p0⟩] : List (View.Piece (Elt F) S2x64 .f32)), y ∈ pc.1.set :=
  View.cover_of_tiled [⟨r0_2, p0⟩] S2x64.size (by rfl) y
def out0_51 (x11 : Vec F S2x64 .f32) (x27 : Vec F S2x64 .f32) : Vec F S2x64 .f32 :=
  View.canon [⟨r0_2, k0_pay13 (View.ld x11 r0_2) (View.ld x27 r0_2)⟩]
theorem cover0_51 (p0 : Vec F S2x64 .f32) (y : S2x64.Idx) :
    ∃ pc ∈ ([⟨r0_2, p0⟩] : List (View.Piece (Elt F) S2x64 .f32)), y ∈ pc.1.set :=
  View.cover_of_tiled [⟨r0_2, p0⟩] S2x64.size (by rfl) y
def out0_52 (x12 : Vec F S2x8 .f32) (x28 : Vec F S2x8 .f32) : Vec F S2x8 .f32 :=
  View.canon [⟨r0_3, k0_pay16 (View.ld x12 r0_3) (View.ld x28 r0_3)⟩]
theorem cover0_52 (p0 : Vec F S2x8 .f32) (y : S2x8.Idx) :
    ∃ pc ∈ ([⟨r0_3, p0⟩] : List (View.Piece (Elt F) S2x8 .f32)), y ∈ pc.1.set :=
  View.cover_of_tiled [⟨r0_3, p0⟩] S2x8.size (by rfl) y
def out0_53 (x13 : Vec F S2x512 .f32) (x29 : Vec F S2x512 .f32) : Vec F S2x512 .f32 :=
  View.canon [⟨r0_4, k0_pay20 (View.ld x13 r0_4) (View.ld x29 r0_4)⟩]
theorem cover0_53 (p0 : Vec F S2x512 .f32) (y : S2x512.Idx) :
    ∃ pc ∈ ([⟨r0_4, p0⟩] : List (View.Piece (Elt F) S2x512 .f32)), y ∈ pc.1.set :=
  View.cover_of_tiled [⟨r0_4, p0⟩] S2x512.size (by rfl) y
def out0_54 (x14 : Vec F S2x512 .f32) (x30 : Vec F S2x512 .f32) : Vec F S2x512 .f32 :=
  View.canon [⟨r0_4, k0_pay25 (View.ld x14 r0_4) (View.ld x30 r0_4)⟩]
theorem cover0_54 (p0 : Vec F S2x512 .f32) (y : S2x512.Idx) :
    ∃ pc ∈ ([⟨r0_4, p0⟩] : List (View.Piece (Elt F) S2x512 .f32)), y ∈ pc.1.set :=
  View.cover_of_tiled [⟨r0_4, p0⟩] S2x512.size (by rfl) y
def out0_55 (x15 : Vec F S2x1024 .f32) (x31 : Vec F S2x1024 .f32) : Vec F S2x1024 .f32 :=
  View.canon [⟨r0_0, k0_pay1 (View.ld x15 r0_0) (View.ld x31 r0_0)⟩]
theorem cover0_55 (p0 : Vec F S2x1024 .f32) (y : S2x1024.Idx) :
    ∃ pc ∈ ([⟨r0_0, p0⟩] : List (View.Piece (Elt F) S2x1024 .f32)), y ∈ pc.1.set :=
  View.cover_of_tiled [⟨r0_0, p0⟩] S2x1024.size (by rfl) y

/-! ## The body's triple -/

set_option maxHeartbeats 1000000 in
theorem sound_kernel (c : Dev nD) (E : Set ℕ) (arg0 : Memref sig .tc .vmem S2x1024 .f32) (harg0 : arg0.IsWhole) (arg1 : Memref sig .tc .vmem S2x3x128 .f32) (harg1 : arg1.IsWhole) (arg2 : Memref sig .tc .vmem S2x64 .f32) (harg2 : arg2.IsWhole) (arg3 : Memref sig .tc .vmem S2x64 .f32) (harg3 : arg3.IsWhole) (arg4 : Memref sig .tc .vmem S2x8 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x1024 .f32) (harg7 : arg7.IsWhole) (arg8 : Memref sig .tc .vmem S2x1024 .f32) (harg8 : arg8.IsWhole) (arg9 : Memref sig .tc .vmem S2x3x128 .f32) (harg9 : arg9.IsWhole) (arg10 : Memref sig .tc .vmem S2x64 .f32) (harg10 : arg10.IsWhole) (arg11 : Memref sig .tc .vmem S2x64 .f32) (harg11 : arg11.IsWhole) (arg12 : Memref sig .tc .vmem S2x8 .f32) (harg12 : arg12.IsWhole) (arg13 : Memref sig .tc .vmem S2x512 .f32) (harg13 : arg13.IsWhole) (arg14 : Memref sig .tc .vmem S2x512 .f32) (harg14 : arg14.IsWhole) (arg15 : Memref sig .tc .vmem S2x1024 .f32) (harg15 : arg15.IsWhole) (arg16 : Memref sig .tc .vmem S2x1024 .f32) (harg16 : arg16.IsWhole) (arg17 : Memref sig .tc .vmem S2x3x128 .f32) (harg17 : arg17.IsWhole) (arg18 : Memref sig .tc .vmem S2x64 .f32) (harg18 : arg18.IsWhole) (arg19 : Memref sig .tc .vmem S2x64 .f32) (harg19 : arg19.IsWhole) (arg20 : Memref sig .tc .vmem S2x8 .f32) (harg20 : arg20.IsWhole) (arg21 : Memref sig .tc .vmem S2x512 .f32) (harg21 : arg21.IsWhole) (arg22 : Memref sig .tc .vmem S2x512 .f32) (harg22 : arg22.IsWhole) (arg23 : Memref sig .tc .vmem S2x1024 .f32) (harg23 : arg23.IsWhole) (arg24 : Memref sig .tc .vmem S2x1024 .f32) (harg24 : arg24.IsWhole) (arg25 : Memref sig .tc .vmem S2x3x128 .f32) (harg25 : arg25.IsWhole) (arg26 : Memref sig .tc .vmem S2x64 .f32) (harg26 : arg26.IsWhole) (arg27 : Memref sig .tc .vmem S2x64 .f32) (harg27 : arg27.IsWhole) (arg28 : Memref sig .tc .vmem S2x8 .f32) (harg28 : arg28.IsWhole) (arg29 : Memref sig .tc .vmem S2x512 .f32) (harg29 : arg29.IsWhole) (arg30 : Memref sig .tc .vmem S2x512 .f32) (harg30 : arg30.IsWhole) (arg31 : Memref sig .tc .vmem S2x1024 .f32) (harg31 : arg31.IsWhole) (arg32 : Memref sig .tc .vmem S2x1024 .f32) (harg32 : arg32.IsWhole) (arg33 : Memref sig .tc .vmem S2x3x128 .f32) (harg33 : arg33.IsWhole) (arg34 : Memref sig .tc .vmem S2x64 .f32) (harg34 : arg34.IsWhole) (arg35 : Memref sig .tc .vmem S2x64 .f32) (harg35 : arg35.IsWhole) (arg36 : Memref sig .tc .vmem S2x8 .f32) (harg36 : arg36.IsWhole) (arg37 : Memref sig .tc .vmem S2x512 .f32) (harg37 : arg37.IsWhole) (arg38 : Memref sig .tc .vmem S2x512 .f32) (harg38 : arg38.IsWhole) (arg39 : Memref sig .tc .vmem S2x1024 .f32) (harg39 : arg39.IsWhole) (arg40 : Memref sig .tc .vmem S2x1024 .f32) (harg40 : arg40.IsWhole) (arg41 : Memref sig .tc .vmem S2x3x128 .f32) (harg41 : arg41.IsWhole) (arg42 : Memref sig .tc .vmem S2x64 .f32) (harg42 : arg42.IsWhole) (arg43 : Memref sig .tc .vmem S2x64 .f32) (harg43 : arg43.IsWhole) (arg44 : Memref sig .tc .vmem S2x8 .f32) (harg44 : arg44.IsWhole) (arg45 : Memref sig .tc .vmem S2x512 .f32) (harg45 : arg45.IsWhole) (arg46 : Memref sig .tc .vmem S2x512 .f32) (harg46 : arg46.IsWhole) (arg47 : Memref sig .tc .vmem S2x1024 .f32) (harg47 : arg47.IsWhole) (arg48 : Memref sig .tc .vmem S2x1024 .f32) (harg48 : arg48.IsWhole) (arg49 : Memref sig .tc .vmem S2x3x128 .f32) (harg49 : arg49.IsWhole) (arg50 : Memref sig .tc .vmem S2x64 .f32) (harg50 : arg50.IsWhole) (arg51 : Memref sig .tc .vmem S2x64 .f32) (harg51 : arg51.IsWhole) (arg52 : Memref sig .tc .vmem S2x8 .f32) (harg52 : arg52.IsWhole) (arg53 : Memref sig .tc .vmem S2x512 .f32) (harg53 : arg53.IsWhole) (arg54 : Memref sig .tc .vmem S2x512 .f32) (harg54 : arg54.IsWhole) (arg55 : Memref sig .tc .vmem S2x1024 .f32) (harg55 : arg55.IsWhole)
    (x0 : Vec F S2x1024 .f32) (x1 : Vec F S2x3x128 .f32) (x2 : Vec F S2x64 .f32) (x3 : Vec F S2x64 .f32) (x4 : Vec F S2x8 .f32) (x5 : Vec F S2x512 .f32) (x6 : Vec F S2x512 .f32) (x7 : Vec F S2x1024 .f32) (x8 : Vec F S2x1024 .f32) (x9 : Vec F S2x3x128 .f32) (x10 : Vec F S2x64 .f32) (x11 : Vec F S2x64 .f32) (x12 : Vec F S2x8 .f32) (x13 : Vec F S2x512 .f32) (x14 : Vec F S2x512 .f32) (x15 : Vec F S2x1024 .f32) (x16 : Vec F S2x1024 .f32) (x17 : Vec F S2x3x128 .f32) (x18 : Vec F S2x64 .f32) (x19 : Vec F S2x64 .f32) (x20 : Vec F S2x8 .f32) (x21 : Vec F S2x512 .f32) (x22 : Vec F S2x512 .f32) (x23 : Vec F S2x1024 .f32) (x24 : Vec F S2x1024 .f32) (x25 : Vec F S2x3x128 .f32) (x26 : Vec F S2x64 .f32) (x27 : Vec F S2x64 .f32) (x28 : Vec F S2x8 .f32) (x29 : Vec F S2x512 .f32) (x30 : Vec F S2x512 .f32) (x31 : Vec F S2x1024 .f32) (K : PUnit → sProp (MT nD τ sig Unit (Elt F) ℕ (UR sig nD τ) ℕ)) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare (out0_32 x0 x8 x16 x24) ∗ owns (c : Thread nD τ) arg33 fullShare (out0_33 x1 x9 x17 x25) ∗ owns (c : Thread nD τ) arg34 fullShare (out0_34 x2 x10 x18 x26) ∗ owns (c : Thread nD τ) arg35 fullShare (out0_35 x3 x11 x19 x27) ∗ owns (c : Thread nD τ) arg36 fullShare (out0_36 x4 x12 x20 x28) ∗ owns (c : Thread nD τ) arg37 fullShare (out0_37 x5 x13 x21 x29) ∗ owns (c : Thread nD τ) arg38 fullShare (out0_38 x6 x14 x22 x30) ∗ owns (c : Thread nD τ) arg39 fullShare (out0_39 x7 x15 x23 x31) ∗ owns (c : Thread nD τ) arg40 fullShare (out0_40 x8 x16) ∗ owns (c : Thread nD τ) arg41 fullShare (out0_41 x9 x17) ∗ owns (c : Thread nD τ) arg42 fullShare (out0_42 x10 x18) ∗ owns (c : Thread nD τ) arg43 fullShare (out0_43 x11 x19) ∗ owns (c : Thread nD τ) arg44 fullShare (out0_44 x12 x20) ∗ owns (c : Thread nD τ) arg45 fullShare (out0_45 x13 x21) ∗ owns (c : Thread nD τ) arg46 fullShare (out0_46 x14 x22) ∗ owns (c : Thread nD τ) arg47 fullShare (out0_47 x15 x23) ∗ owns (c : Thread nD τ) arg48 fullShare (out0_48 x8 x24) ∗ owns (c : Thread nD τ) arg49 fullShare (out0_49 x9 x25) ∗ owns (c : Thread nD τ) arg50 fullShare (out0_50 x10 x26) ∗ owns (c : Thread nD τ) arg51 fullShare (out0_51 x11 x27) ∗ owns (c : Thread nD τ) arg52 fullShare (out0_52 x12 x28) ∗ owns (c : Thread nD τ) arg53 fullShare (out0_53 x13 x29) ∗ owns (c : Thread nD τ) arg54 fullShare (out0_54 x14 x30) ∗ owns (c : Thread nD τ) arg55 fullShare (out0_55 x15 x31)) -∗ K ⟨⟩))
      ⊢ wp frame (wpE (defs₀ (F := F)) Variants.none c none) E (cc0_adamw_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55) K := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists _; isplitr
    swap; · iexact H32
    ipureintro
    refine (View.read_writes_eq_canon _ _ _ (cover0_32 _)).trans ?_
    rfl
  isplitl [H33]
  · iexists _; isplitr
    swap; · iexact H33
    ipureintro
    refine (View.read_writes_eq_canon _ _ _ (cover0_33 _)).trans ?_
    rfl
  isplitl [H34]
  · iexists _; isplitr
    swap; · iexact H34
    ipureintro
    refine (View.read_writes_eq_canon _ _ _ (cover0_34 _)).trans ?_
    rfl
  isplitl [H35]
  · iexists _; isplitr
    swap; · iexact H35
    ipureintro
    refine (View.read_writes_eq_canon _ _ _ (cover0_35 _)).trans ?_
    rfl
  isplitl [H36]
  · iexists _; isplitr
    swap; · iexact H36
    ipureintro
    refine (View.read_writes_eq_canon _ _ _ (cover0_36 _)).trans ?_
    rfl
  isplitl [H37]
  · iexists _; isplitr
    swap; · iexact H37
    ipureintro
    refine (View.read_writes_eq_canon _ _ _ (cover0_37 _)).trans ?_
    rfl
  isplitl [H38]
  · iexists _; isplitr
    swap; · iexact H38
    ipureintro
    refine (View.read_writes_eq_canon _ _ _ (cover0_38 _)).trans ?_
    rfl
  isplitl [H39]
  · iexists _; isplitr
    swap; · iexact H39
    ipureintro
    refine (View.read_writes_eq_canon _ _ _ (cover0_39 _)).trans ?_
    rfl
  isplitl [H40]
  · iexists _; isplitr
    swap; · iexact H40
    ipureintro
    refine (View.read_writes_eq_canon _ _ _ (cover0_40 _)).trans ?_
    rfl
  isplitl [H41]
  · iexists _; isplitr
    swap; · iexact H41
    ipureintro
    refine (View.read_writes_eq_canon _ _ _ (cover0_41 _)).trans ?_
    rfl
  isplitl [H42]
  · iexists _; isplitr
    swap; · iexact H42
    ipureintro
    refine (View.read_writes_eq_canon _ _ _ (cover0_42 _)).trans ?_
    rfl
  isplitl [H43]
  · iexists _; isplitr
    swap; · iexact H43
    ipureintro
    refine (View.read_writes_eq_canon _ _ _ (cover0_43 _)).trans ?_
    rfl
  isplitl [H44]
  · iexists _; isplitr
    swap; · iexact H44
    ipureintro
    refine (View.read_writes_eq_canon _ _ _ (cover0_44 _)).trans ?_
    rfl
  isplitl [H45]
  · iexists _; isplitr
    swap; · iexact H45
    ipureintro
    refine (View.read_writes_eq_canon _ _ _ (cover0_45 _)).trans ?_
    rfl
  isplitl [H46]
  · iexists _; isplitr
    swap; · iexact H46
    ipureintro
    refine (View.read_writes_eq_canon _ _ _ (cover0_46 _)).trans ?_
    rfl
  isplitl [H47]
  · iexists _; isplitr
    swap; · iexact H47
    ipureintro
    refine (View.read_writes_eq_canon _ _ _ (cover0_47 _)).trans ?_
    rfl
  isplitl [H48]
  · iexists _; isplitr
    swap; · iexact H48
    ipureintro
    refine (View.read_writes_eq_canon _ _ _ (cover0_48 _)).trans ?_
    rfl
  isplitl [H49]
  · iexists _; isplitr
    swap; · iexact H49
    ipureintro
    refine (View.read_writes_eq_canon _ _ _ (cover0_49 _)).trans ?_
    rfl
  isplitl [H50]
  · iexists _; isplitr
    swap; · iexact H50
    ipureintro
    refine (View.read_writes_eq_canon _ _ _ (cover0_50 _)).trans ?_
    rfl
  isplitl [H51]
  · iexists _; isplitr
    swap; · iexact H51
    ipureintro
    refine (View.read_writes_eq_canon _ _ _ (cover0_51 _)).trans ?_
    rfl
  isplitl [H52]
  · iexists _; isplitr
    swap; · iexact H52
    ipureintro
    refine (View.read_writes_eq_canon _ _ _ (cover0_52 _)).trans ?_
    rfl
  isplitl [H53]
  · iexists _; isplitr
    swap; · iexact H53
    ipureintro
    refine (View.read_writes_eq_canon _ _ _ (cover0_53 _)).trans ?_
    rfl
  isplitl [H54]
  · iexists _; isplitr
    swap; · iexact H54
    ipureintro
    refine (View.read_writes_eq_canon _ _ _ (cover0_54 _)).trans ?_
    rfl
  iexists _; isplitr
  swap; · iexact H55
  ipureintro
  refine (View.read_writes_eq_canon _ _ _ (cover0_55 _)).trans ?_
  rfl

end Cert.AdamSmall

end
-- ==== Proof.AdamSmallRun.lean ====
/- The optimiser's call over the eight small parameters, its run: the body at the one point, and the arrays at the end. -/
module

public import proofs.«01_k».proof.Proof.AdamSmallBody

@[expose] public section

-- membership in a rectangle of production extents (`View.cover_of_tiled`): the elaborator's structural look
-- recurses once per coordinate of the long axes
set_option maxRecDepth 16384

noncomputable section

namespace Cert.AdamSmall

open Cert.Kernel10Ideal Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The pipeline's proof data -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => out0_32 (iblk m c 0 t) (iblk m c 8 t) (iblk m c 16 t) (iblk m c 24 t)
    | ⟨33, _⟩ => out0_33 (iblk m c 1 t) (iblk m c 9 t) (iblk m c 17 t) (iblk m c 25 t)
    | ⟨34, _⟩ => out0_34 (iblk m c 2 t) (iblk m c 10 t) (iblk m c 18 t) (iblk m c 26 t)
    | ⟨35, _⟩ => out0_35 (iblk m c 3 t) (iblk m c 11 t) (iblk m c 19 t) (iblk m c 27 t)
    | ⟨36, _⟩ => out0_36 (iblk m c 4 t) (iblk m c 12 t) (iblk m c 20 t) (iblk m c 28 t)
    | ⟨37, _⟩ => out0_37 (iblk m c 5 t) (iblk m c 13 t) (iblk m c 21 t) (iblk m c 29 t)
    | ⟨38, _⟩ => out0_38 (iblk m c 6 t) (iblk m c 14 t) (iblk m c 22 t) (iblk m c 30 t)
    | ⟨39, _⟩ => out0_39 (iblk m c 7 t) (iblk m c 15 t) (iblk m c 23 t) (iblk m c 31 t)
    | ⟨40, _⟩ => out0_40 (iblk m c 8 t) (iblk m c 16 t)
    | ⟨41, _⟩ => out0_41 (iblk m c 9 t) (iblk m c 17 t)
    | ⟨42, _⟩ => out0_42 (iblk m c 10 t) (iblk m c 18 t)
    | ⟨43, _⟩ => out0_43 (iblk m c 11 t) (iblk m c 19 t)
    | ⟨44, _⟩ => out0_44 (iblk m c 12 t) (iblk m c 20 t)
    | ⟨45, _⟩ => out0_45 (iblk m c 13 t) (iblk m c 21 t)
    | ⟨46, _⟩ => out0_46 (iblk m c 14 t) (iblk m c 22 t)
    | ⟨47, _⟩ => out0_47 (iblk m c 15 t) (iblk m c 23 t)
    | ⟨48, _⟩ => out0_48 (iblk m c 8 t) (iblk m c 24 t)
    | ⟨49, _⟩ => out0_49 (iblk m c 9 t) (iblk m c 25 t)
    | ⟨50, _⟩ => out0_50 (iblk m c 10 t) (iblk m c 26 t)
    | ⟨51, _⟩ => out0_51 (iblk m c 11 t) (iblk m c 27 t)
    | ⟨52, _⟩ => out0_52 (iblk m c 12 t) (iblk m c 28 t)
    | ⟨53, _⟩ => out0_53 (iblk m c 13 t) (iblk m c 29 t)
    | ⟨54, _⟩ => out0_54 (iblk m c 14 t) (iblk m c 30 t)
    | ⟨55, _⟩ => out0_55 (iblk m c 15 t) (iblk m c 31 t)
    | ⟨_ + 56, h⟩ => absurd h (Nat.not_lt.2 (Nat.le_add_left _ _))
  Φ _ := Pipeline.ΦA spec0 c
  q _ := fullShare
  owed _ := 0
theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = out0_32 (iblk m c 0 t) (iblk m c 8 t) (iblk m c 16 t) (iblk m c 24 t) := by dsimp only [dats]
theorem after0_33 (c : Dev nD) (t : Fin cfg0.N) : (dats m 0 c).after 33 t = out0_33 (iblk m c 1 t) (iblk m c 9 t) (iblk m c 17 t) (iblk m c 25 t) := by dsimp only [dats]
theorem after0_34 (c : Dev nD) (t : Fin cfg0.N) : (dats m 0 c).after 34 t = out0_34 (iblk m c 2 t) (iblk m c 10 t) (iblk m c 18 t) (iblk m c 26 t) := by dsimp only [dats]
theorem after0_35 (c : Dev nD) (t : Fin cfg0.N) : (dats m 0 c).after 35 t = out0_35 (iblk m c 3 t) (iblk m c 11 t) (iblk m c 19 t) (iblk m c 27 t) := by dsimp only [dats]
theorem after0_36 (c : Dev nD) (t : Fin cfg0.N) : (dats m 0 c).after 36 t = out0_36 (iblk m c 4 t) (iblk m c 12 t) (iblk m c 20 t) (iblk m c 28 t) := by dsimp only [dats]
theorem after0_37 (c : Dev nD) (t : Fin cfg0.N) : (dats m 0 c).after 37 t = out0_37 (iblk m c 5 t) (iblk m c 13 t) (iblk m c 21 t) (iblk m c 29 t) := by dsimp only [dats]
theorem after0_38 (c : Dev nD) (t : Fin cfg0.N) : (dats m 0 c).after 38 t = out0_38 (iblk m c 6 t) (iblk m c 14 t) (iblk m c 22 t) (iblk m c 30 t) := by dsimp only [dats]
theorem after0_39 (c : Dev nD) (t : Fin cfg0.N) : (dats m 0 c).after 39 t = out0_39 (iblk m c 7 t) (iblk m c 15 t) (iblk m c 23 t) (iblk m c 31 t) := by dsimp only [dats]
theorem after0_40 (c : Dev nD) (t : Fin cfg0.N) : (dats m 0 c).after 40 t = out0_40 (iblk m c 8 t) (iblk m c 16 t) := by dsimp only [dats]
theorem after0_41 (c : Dev nD) (t : Fin cfg0.N) : (dats m 0 c).after 41 t = out0_41 (iblk m c 9 t) (iblk m c 17 t) := by dsimp only [dats]
theorem after0_42 (c : Dev nD) (t : Fin cfg0.N) : (dats m 0 c).after 42 t = out0_42 (iblk m c 10 t) (iblk m c 18 t) := by dsimp only [dats]
theorem after0_43 (c : Dev nD) (t : Fin cfg0.N) : (dats m 0 c).after 43 t = out0_43 (iblk m c 11 t) (iblk m c 19 t) := by dsimp only [dats]
theorem after0_44 (c : Dev nD) (t : Fin cfg0.N) : (dats m 0 c).after 44 t = out0_44 (iblk m c 12 t) (iblk m c 20 t) := by dsimp only [dats]
theorem after0_45 (c : Dev nD) (t : Fin cfg0.N) : (dats m 0 c).after 45 t = out0_45 (iblk m c 13 t) (iblk m c 21 t) := by dsimp only [dats]
theorem after0_46 (c : Dev nD) (t : Fin cfg0.N) : (dats m 0 c).after 46 t = out0_46 (iblk m c 14 t) (iblk m c 22 t) := by dsimp only [dats]
theorem after0_47 (c : Dev nD) (t : Fin cfg0.N) : (dats m 0 c).after 47 t = out0_47 (iblk m c 15 t) (iblk m c 23 t) := by dsimp only [dats]
theorem after0_48 (c : Dev nD) (t : Fin cfg0.N) : (dats m 0 c).after 48 t = out0_48 (iblk m c 8 t) (iblk m c 24 t) := by dsimp only [dats]
theorem after0_49 (c : Dev nD) (t : Fin cfg0.N) : (dats m 0 c).after 49 t = out0_49 (iblk m c 9 t) (iblk m c 25 t) := by dsimp only [dats]
theorem after0_50 (c : Dev nD) (t : Fin cfg0.N) : (dats m 0 c).after 50 t = out0_50 (iblk m c 10 t) (iblk m c 26 t) := by dsimp only [dats]
theorem after0_51 (c : Dev nD) (t : Fin cfg0.N) : (dats m 0 c).after 51 t = out0_51 (iblk m c 11 t) (iblk m c 27 t) := by dsimp only [dats]
theorem after0_52 (c : Dev nD) (t : Fin cfg0.N) : (dats m 0 c).after 52 t = out0_52 (iblk m c 12 t) (iblk m c 28 t) := by dsimp only [dats]
theorem after0_53 (c : Dev nD) (t : Fin cfg0.N) : (dats m 0 c).after 53 t = out0_53 (iblk m c 13 t) (iblk m c 29 t) := by dsimp only [dats]
theorem after0_54 (c : Dev nD) (t : Fin cfg0.N) : (dats m 0 c).after 54 t = out0_54 (iblk m c 14 t) (iblk m c 30 t) := by dsimp only [dats]
theorem after0_55 (c : Dev nD) (t : Fin cfg0.N) : (dats m 0 c).after 55 t = out0_55 (iblk m c 15 t) (iblk m c 31 t) := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl) (fun t => by rw [after0_17]; unfold Dat.blockOf iblk; rw [A_eq]; try rfl) t d).trans
    (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl) (fun t => by rw [after0_18]; unfold Dat.blockOf iblk; rw [A_eq]; try rfl) t d).trans
    (by unfold Dat.fetched Dat.blockOf iblk; rw [A_eq]; try rfl)
theorem before0_19 (c : Dev nD) (t : Fin cfg0.N) (d) : (dats m 0 c).before 19 t d = iblk m c 19 t :=
  ((dats m 0 c).before_in_eq_fetched 19 rfl (fun _ => rfl) (fun _ _ _ => rfl) (fun t => by rw [after0_19]; unfold Dat.blockOf iblk; rw [A_eq]; try rfl) t d).trans
    (by unfold Dat.fetched Dat.blockOf iblk; rw [A_eq]; try rfl)
theorem before0_20 (c : Dev nD) (t : Fin cfg0.N) (d) : (dats m 0 c).before 20 t d = iblk m c 20 t :=
  ((dats m 0 c).before_in_eq_fetched 20 rfl (fun _ => rfl) (fun _ _ _ => rfl) (fun t => by rw [after0_20]; unfold Dat.blockOf iblk; rw [A_eq]; try rfl) t d).trans
    (by unfold Dat.fetched Dat.blockOf iblk; rw [A_eq]; try rfl)
theorem before0_21 (c : Dev nD) (t : Fin cfg0.N) (d) : (dats m 0 c).before 21 t d = iblk m c 21 t :=
  ((dats m 0 c).before_in_eq_fetched 21 rfl (fun _ => rfl) (fun _ _ _ => rfl) (fun t => by rw [after0_21]; unfold Dat.blockOf iblk; rw [A_eq]; try rfl) t d).trans
    (by unfold Dat.fetched Dat.blockOf iblk; rw [A_eq]; try rfl)
theorem before0_22 (c : Dev nD) (t : Fin cfg0.N) (d) : (dats m 0 c).before 22 t d = iblk m c 22 t :=
  ((dats m 0 c).before_in_eq_fetched 22 rfl (fun _ => rfl) (fun _ _ _ => rfl) (fun t => by rw [after0_22]; unfold Dat.blockOf iblk; rw [A_eq]; try rfl) t d).trans
    (by unfold Dat.fetched Dat.blockOf iblk; rw [A_eq]; try rfl)
theorem before0_23 (c : Dev nD) (t : Fin cfg0.N) (d) : (dats m 0 c).before 23 t d = iblk m c 23 t :=
  ((dats m 0 c).before_in_eq_fetched 23 rfl (fun _ => rfl) (fun _ _ _ => rfl) (fun t => by rw [after0_23]; unfold Dat.blockOf iblk; rw [A_eq]; try rfl) t d).trans
    (by unfold Dat.fetched Dat.blockOf iblk; rw [A_eq]; try rfl)
theorem before0_24 (c : Dev nD) (t : Fin cfg0.N) (d) : (dats m 0 c).before 24 t d = iblk m c 24 t :=
  ((dats m 0 c).before_in_eq_fetched 24 rfl (fun _ => rfl) (fun _ _ _ => rfl) (fun t => by rw [after0_24]; unfold Dat.blockOf iblk; rw [A_eq]; try rfl) t d).trans
    (by unfold Dat.fetched Dat.blockOf iblk; rw [A_eq]; try rfl)
theorem before0_25 (c : Dev nD) (t : Fin cfg0.N) (d) : (dats m 0 c).before 25 t d = iblk m c 25 t :=
  ((dats m 0 c).before_in_eq_fetched 25 rfl (fun _ => rfl) (fun _ _ _ => rfl) (fun t => by rw [after0_25]; unfold Dat.blockOf iblk; rw [A_eq]; try rfl) t d).trans
    (by unfold Dat.fetched Dat.blockOf iblk; rw [A_eq]; try rfl)
theorem before0_26 (c : Dev nD) (t : Fin cfg0.N) (d) : (dats m 0 c).before 26 t d = iblk m c 26 t :=
  ((dats m 0 c).before_in_eq_fetched 26 rfl (fun _ => rfl) (fun _ _ _ => rfl) (fun t => by rw [after0_26]; unfold Dat.blockOf iblk; rw [A_eq]; try rfl) t d).trans
    (by unfold Dat.fetched Dat.blockOf iblk; rw [A_eq]; try rfl)
theorem before0_27 (c : Dev nD) (t : Fin cfg0.N) (d) : (dats m 0 c).before 27 t d = iblk m c 27 t :=
  ((dats m 0 c).before_in_eq_fetched 27 rfl (fun _ => rfl) (fun _ _ _ => rfl) (fun t => by rw [after0_27]; unfold Dat.blockOf iblk; rw [A_eq]; try rfl) t d).trans
    (by unfold Dat.fetched Dat.blockOf iblk; rw [A_eq]; try rfl)
theorem before0_28 (c : Dev nD) (t : Fin cfg0.N) (d) : (dats m 0 c).before 28 t d = iblk m c 28 t :=
  ((dats m 0 c).before_in_eq_fetched 28 rfl (fun _ => rfl) (fun _ _ _ => rfl) (fun t => by rw [after0_28]; unfold Dat.blockOf iblk; rw [A_eq]; try rfl) t d).trans
    (by unfold Dat.fetched Dat.blockOf iblk; rw [A_eq]; try rfl)
theorem before0_29 (c : Dev nD) (t : Fin cfg0.N) (d) : (dats m 0 c).before 29 t d = iblk m c 29 t :=
  ((dats m 0 c).before_in_eq_fetched 29 rfl (fun _ => rfl) (fun _ _ _ => rfl) (fun t => by rw [after0_29]; unfold Dat.blockOf iblk; rw [A_eq]; try rfl) t d).trans
    (by unfold Dat.fetched Dat.blockOf iblk; rw [A_eq]; try rfl)
theorem before0_30 (c : Dev nD) (t : Fin cfg0.N) (d) : (dats m 0 c).before 30 t d = iblk m c 30 t :=
  ((dats m 0 c).before_in_eq_fetched 30 rfl (fun _ => rfl) (fun _ _ _ => rfl) (fun t => by rw [after0_30]; unfold Dat.blockOf iblk; rw [A_eq]; try rfl) t d).trans
    (by unfold Dat.fetched Dat.blockOf iblk; rw [A_eq]; try rfl)
theorem before0_31 (c : Dev nD) (t : Fin cfg0.N) (d) : (dats m 0 c).before 31 t d = iblk m c 31 t :=
  ((dats m 0 c).before_in_eq_fetched 31 rfl (fun _ => rfl) (fun _ _ _ => rfl) (fun t => by rw [after0_31]; unfold Dat.blockOf iblk; rw [A_eq]; try rfl) t d).trans
    (by unfold Dat.fetched Dat.blockOf iblk; rw [A_eq]; try rfl)

/-! ## The body obligation, at a generic point -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d)))
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48, after0_49, after0_50, after0_51, after0_52, after0_53, after0_54, after0_55]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  iexact H55
theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
theorem run_main : θ_run defs (onTc (τ := τ) (main (F := F))) (s₀ m ρ) (Pipeline.FramePost cfgs (dats m) 0 (V m)) :=
  (θ_run defs _ _).mono (fun _ h => h.1) (run_main_quiescent m ρ)
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  frame_of m ρ (dats m) (A_eq m) (run_main m ρ)
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31))
      ∧ r.2.sem = fun _ => 0) :=
  θ_run_and (unchanged m ρ) ((θ_run defs _ _).mono (fun _ h => h.2) (run_main_quiescent m ρ))

end Cert.AdamSmall

end
-- ==== Proof.Adam.lean ====
module

public import proofs.«01_k».proof.Proof.Slabs

@[expose] public section
open Idealize.ShloMosaic Idealize.ShloMosaic.TcCoe
namespace Cert.Adam
noncomputable section
variable {S : Shape}

/-- A literal at every entry. -/
def lit (b : BitVec 32) : FVec Ideal S .f32 := broadcast S (Scalar.ofBits .f32 b)

/-- The first moment after a step. -/
def newM (g m : FVec Ideal S .f32) : FVec Ideal S .f32 := addf (mulf (lit 0x3F666666#32) m) (mulf (lit 0x3DCCCCCD#32) g)

/-- The second moment after a step. -/
def newV (g v : FVec Ideal S .f32) : FVec Ideal S .f32 := addf (mulf (lit 0x3F7FBE77#32) v) (mulf (lit 0x3A83126F#32) (mulf g g))

/-- What a step adds to a parameter. -/
def delta (g m v w : FVec Ideal S .f32) : FVec Ideal S .f32 :=
  mulf (lit 0xBA83126F#32) (addf (divf (divf (newM g m) (lit 0x3F26BD02#32)) (addf (sqrt (divf (newV g v) (lit 0x3C231ACC#32))) (lit 0x322BCC77#32)))
    (mulf (lit 0x3C23D70A#32) w))

/-- The half a core owns: its own sum where it is core `h`, the one it received otherwise. -/
def pick (k h : BitVec 32) (a b : FVec Ideal S .f32) : FVec Ideal S .f32 := Scalar.select (Scalar.cmpi .eq k h) a b

/-- What a step leaves: the gradient, the change of the parameter and the two moments. -/
def outs (g m v w : FVec Ideal S .f32) : FVec Ideal S .f32 × FVec Ideal S .f32 × FVec Ideal S .f32 × FVec Ideal S .f32 :=
  (g, delta g m v w, newM g m, newV g v)

theorem host_lit {T : Shape} {d : Fin T.rank → Fin S.rank} (h : T.BroadcastsInDim S d) (b : BitVec 32) : broadcastInDim S d h (constant (F := Ideal) T .f32 b) = lit b := rfl
theorem host_divf (a b : FVec Ideal S .f32) : Host.divf a b = divf a b := rfl
theorem host_sqrt (a : FVec Ideal S .f32) : Host.sqrt a = sqrt a := rfl
end
end Cert.Adam
end
-- ==== Proof.AdamSmallVal.lean ====
module

public import proofs.«01_k».proof.Defs
public import proofs.«01_k».proof.Proof.Gen.Kernel10
public import proofs.«01_k».proof.Proof.AdamSmallRun
public import Idealize.ShloMosaic.Lib.Pipeline.Value
public import proofs.«01_k».proof.Proof.Gen.Reference10Ideal.Run
public import proofs.«01_k».proof.Proof.Gen.Reference10Ideal.Read
public import Idealize.ShloMosaic.Lib.Quiescent
public import Idealize.ShloMosaic.Lib.Pipeline.ValueKit.Point
public import proofs.«01_k».proof.Proof.Slabs
public import proofs.«01_k».proof.Proof.Adam

@[expose] public section

set_option maxRecDepth 16384

noncomputable section

namespace Cert.AdamSmall

open Cert.Kernel10Ideal Cert.Kernel10Ideal.Gen Idealize.ShloMosaic Idealize.ShloMosaic.TcCoe Idealize.SL.Sem
open Idealize.ShloMosaic.Pipeline (Dat)
open Cert.Adam

variable (m : (ℓ : Loc nD τ sig) → Buf (Elt Ideal) ℓ) (ρ : Dev nD → PrngReg)

/-! ## One grid point: every window's block is its array -/

theorem hz2 : (![0, 0] : Fin 2 → Nat) = fun _ => 0 := funext fun a => by fin_cases a <;> rfl
theorem hz3 : (![0, 0, 0] : Fin 3 → Nat) = fun _ => 0 := funext fun a => by fin_cases a <;> rfl

/-- A block that starts at the array's origin and is as large as the array: an entry's place is the entry. -/
theorem zero_emb {S : Shape} (f : Fin S.rank → Nat) (j e : S.Idx) (h : f = fun _ => 0) (he : ∀ a, (e a).val = f a * S.size a + 1 * (j a).val) : e = j :=
  funext fun a => Fin.ext ((he a).trans (by rw [h, Nat.zero_mul, Nat.zero_add, Nat.one_mul]))

theorem emb0 (t : Fin cfg0.N) (j : S2x1024.Idx) : ((cfg0.win 0).blk t).view.emb j = j :=
  zero_emb (win0_0.index t) j _ ((by decide +kernel : ∀ t : Fin grid0.N, win0_0.index t = fun _ => 0) t) fun _ => rfl
theorem emb1 (t : Fin cfg0.N) (j : S2x3x128.Idx) : ((cfg0.win 1).blk t).view.emb j = j :=
  zero_emb (win0_1.index t) j _ ((by decide +kernel : ∀ t : Fin grid0.N, win0_1.index t = fun _ => 0) t) fun _ => rfl
theorem emb2 (t : Fin cfg0.N) (j : S2x64.Idx) : ((cfg0.win 2).blk t).view.emb j = j :=
  zero_emb (win0_2.index t) j _ ((by decide +kernel : ∀ t : Fin grid0.N, win0_2.index t = fun _ => 0) t) fun _ => rfl
theorem emb3 (t : Fin cfg0.N) (j : S2x64.Idx) : ((cfg0.win 3).blk t).view.emb j = j :=
  zero_emb (win0_3.index t) j _ ((by decide +kernel : ∀ t : Fin grid0.N, win0_3.index t = fun _ => 0) t) fun _ => rfl
theorem emb4 (t : Fin cfg0.N) (j : S2x8.Idx) : ((cfg0.win 4).blk t).view.emb j = j :=
  zero_emb (win0_4.index t) j _ ((by decide +kernel : ∀ t : Fin grid0.N, win0_4.index t = fun _ => 0) t) fun _ => rfl
theorem emb5 (t : Fin cfg0.N) (j : S2x512.Idx) : ((cfg0.win 5).blk t).view.emb j = j :=
  zero_emb (win0_5.index t) j _ ((by decide +kernel : ∀ t : Fin grid0.N, win0_5.index t = fun _ => 0) t) fun _ => rfl
theorem emb6 (t : Fin cfg0.N) (j : S2x512.Idx) : ((cfg0.win 6).blk t).view.emb j = j :=
  zero_emb (win0_6.index t) j _ ((by decide +kernel : ∀ t : Fin grid0.N, win0_6.index t = fun _ => 0) t) fun _ => rfl
theorem emb7 (t : Fin cfg0.N) (j : S2x1024.Idx) : ((cfg0.win 7).blk t).view.emb j = j :=
  zero_emb (win0_7.index t) j _ ((by decide +kernel : ∀ t : Fin grid0.N, win0_7.index t = fun _ => 0) t) fun _ => rfl
theorem emb8 (t : Fin cfg0.N) (j : S2x1024.Idx) : ((cfg0.win 8).blk t).view.emb j = j :=
  zero_emb (win0_8.index t) j _ ((by decide +kernel : ∀ t : Fin grid0.N, win0_8.index t = fun _ => 0) t) fun _ => rfl
theorem emb9 (t : Fin cfg0.N) (j : S2x3x128.Idx) : ((cfg0.win 9).blk t).view.emb j = j :=
  zero_emb (win0_9.index t) j _ ((by decide +kernel : ∀ t : Fin grid0.N, win0_9.index t = fun _ => 0) t) fun _ => rfl
theorem emb10 (t : Fin cfg0.N) (j : S2x64.Idx) : ((cfg0.win 10).blk t).view.emb j = j :=
  zero_emb (win0_10.index t) j _ ((by decide +kernel : ∀ t : Fin grid0.N, win0_10.index t = fun _ => 0) t) fun _ => rfl
theorem emb11 (t : Fin cfg0.N) (j : S2x64.Idx) : ((cfg0.win 11).blk t).view.emb j = j :=
  zero_emb (win0_11.index t) j _ ((by decide +kernel : ∀ t : Fin grid0.N, win0_11.index t = fun _ => 0) t) fun _ => rfl
theorem emb12 (t : Fin cfg0.N) (j : S2x8.Idx) : ((cfg0.win 12).blk t).view.emb j = j :=
  zero_emb (win0_12.index t) j _ ((by decide +kernel : ∀ t : Fin grid0.N, win0_12.index t = fun _ => 0) t) fun _ => rfl
theorem emb13 (t : Fin cfg0.N) (j : S2x512.Idx) : ((cfg0.win 13).blk t).view.emb j = j :=
  zero_emb (win0_13.index t) j _ ((by decide +kernel : ∀ t : Fin grid0.N, win0_13.index t = fun _ => 0) t) fun _ => rfl
theorem emb14 (t : Fin cfg0.N) (j : S2x512.Idx) : ((cfg0.win 14).blk t).view.emb j = j :=
  zero_emb (win0_14.index t) j _ ((by decide +kernel : ∀ t : Fin grid0.N, win0_14.index t = fun _ => 0) t) fun _ => rfl
theorem emb15 (t : Fin cfg0.N) (j : S2x1024.Idx) : ((cfg0.win 15).blk t).view.emb j = j :=
  zero_emb (win0_15.index t) j _ ((by decide +kernel : ∀ t : Fin grid0.N, win0_15.index t = fun _ => 0) t) fun _ => rfl
theorem emb16 (t : Fin cfg0.N) (j : S2x1024.Idx) : ((cfg0.win 16).blk t).view.emb j = j :=
  zero_emb (win0_16.index t) j _ ((by decide +kernel : ∀ t : Fin grid0.N, win0_16.index t = fun _ => 0) t) fun _ => rfl
theorem emb17 (t : Fin cfg0.N) (j : S2x3x128.Idx) : ((cfg0.win 17).blk t).view.emb j = j :=
  zero_emb (win0_17.index t) j _ ((by decide +kernel : ∀ t : Fin grid0.N, win0_17.index t = fun _ => 0) t) fun _ => rfl
theorem emb18 (t : Fin cfg0.N) (j : S2x64.Idx) : ((cfg0.win 18).blk t).view.emb j = j :=
  zero_emb (win0_18.index t) j _ ((by decide +kernel : ∀ t : Fin grid0.N, win0_18.index t = fun _ => 0) t) fun _ => rfl
theorem emb19 (t : Fin cfg0.N) (j : S2x64.Idx) : ((cfg0.win 19).blk t).view.emb j = j :=
  zero_emb (win0_19.index t) j _ ((by decide +kernel : ∀ t : Fin grid0.N, win0_19.index t = fun _ => 0) t) fun _ => rfl
theorem emb20 (t : Fin cfg0.N) (j : S2x8.Idx) : ((cfg0.win 20).blk t).view.emb j = j :=
  zero_emb (win0_20.index t) j _ ((by decide +kernel : ∀ t : Fin grid0.N, win0_20.index t = fun _ => 0) t) fun _ => rfl
theorem emb21 (t : Fin cfg0.N) (j : S2x512.Idx) : ((cfg0.win 21).blk t).view.emb j = j :=
  zero_emb (win0_21.index t) j _ ((by decide +kernel : ∀ t : Fin grid0.N, win0_21.index t = fun _ => 0) t) fun _ => rfl
theorem emb22 (t : Fin cfg0.N) (j : S2x512.Idx) : ((cfg0.win 22).blk t).view.emb j = j :=
  zero_emb (win0_22.index t) j _ ((by decide +kernel : ∀ t : Fin grid0.N, win0_22.index t = fun _ => 0) t) fun _ => rfl
theorem emb23 (t : Fin cfg0.N) (j : S2x1024.Idx) : ((cfg0.win 23).blk t).view.emb j = j :=
  zero_emb (win0_23.index t) j _ ((by decide +kernel : ∀ t : Fin grid0.N, win0_23.index t = fun _ => 0) t) fun _ => rfl
theorem emb24 (t : Fin cfg0.N) (j : S2x1024.Idx) : ((cfg0.win 24).blk t).view.emb j = j :=
  zero_emb (win0_24.index t) j _ ((by decide +kernel : ∀ t : Fin grid0.N, win0_24.index t = fun _ => 0) t) fun _ => rfl
theorem emb25 (t : Fin cfg0.N) (j : S2x3x128.Idx) : ((cfg0.win 25).blk t).view.emb j = j :=
  zero_emb (win0_25.index t) j _ ((by decide +kernel : ∀ t : Fin grid0.N, win0_25.index t = fun _ => 0) t) fun _ => rfl
theorem emb26 (t : Fin cfg0.N) (j : S2x64.Idx) : ((cfg0.win 26).blk t).view.emb j = j :=
  zero_emb (win0_26.index t) j _ ((by decide +kernel : ∀ t : Fin grid0.N, win0_26.index t = fun _ => 0) t) fun _ => rfl
theorem emb27 (t : Fin cfg0.N) (j : S2x64.Idx) : ((cfg0.win 27).blk t).view.emb j = j :=
  zero_emb (win0_27.index t) j _ ((by decide +kernel : ∀ t : Fin grid0.N, win0_27.index t = fun _ => 0) t) fun _ => rfl
theorem emb28 (t : Fin cfg0.N) (j : S2x8.Idx) : ((cfg0.win 28).blk t).view.emb j = j :=
  zero_emb (win0_28.index t) j _ ((by decide +kernel : ∀ t : Fin grid0.N, win0_28.index t = fun _ => 0) t) fun _ => rfl
theorem emb29 (t : Fin cfg0.N) (j : S2x512.Idx) : ((cfg0.win 29).blk t).view.emb j = j :=
  zero_emb (win0_29.index t) j _ ((by decide +kernel : ∀ t : Fin grid0.N, win0_29.index t = fun _ => 0) t) fun _ => rfl
theorem emb30 (t : Fin cfg0.N) (j : S2x512.Idx) : ((cfg0.win 30).blk t).view.emb j = j :=
  zero_emb (win0_30.index t) j _ ((by decide +kernel : ∀ t : Fin grid0.N, win0_30.index t = fun _ => 0) t) fun _ => rfl
theorem emb31 (t : Fin cfg0.N) (j : S2x1024.Idx) : ((cfg0.win 31).blk t).view.emb j = j :=
  zero_emb (win0_31.index t) j _ ((by decide +kernel : ∀ t : Fin grid0.N, win0_31.index t = fun _ => 0) t) fun _ => rfl
theorem emb32 (t : Fin cfg0.N) (j : S2x1024.Idx) : ((cfg0.win 32).blk t).view.emb j = j :=
  zero_emb (win0_32.index t) j _ ((by decide +kernel : ∀ t : Fin grid0.N, win0_32.index t = fun _ => 0) t) fun _ => rfl
theorem emb33 (t : Fin cfg0.N) (j : S2x3x128.Idx) : ((cfg0.win 33).blk t).view.emb j = j :=
  zero_emb (win0_33.index t) j _ ((by decide +kernel : ∀ t : Fin grid0.N, win0_33.index t = fun _ => 0) t) fun _ => rfl
theorem emb34 (t : Fin cfg0.N) (j : S2x64.Idx) : ((cfg0.win 34).blk t).view.emb j = j :=
  zero_emb (win0_34.index t) j _ ((by decide +kernel : ∀ t : Fin grid0.N, win0_34.index t = fun _ => 0) t) fun _ => rfl
theorem emb35 (t : Fin cfg0.N) (j : S2x64.Idx) : ((cfg0.win 35).blk t).view.emb j = j :=
  zero_emb (win0_35.index t) j _ ((by decide +kernel : ∀ t : Fin grid0.N, win0_35.index t = fun _ => 0) t) fun _ => rfl
theorem emb36 (t : Fin cfg0.N) (j : S2x8.Idx) : ((cfg0.win 36).blk t).view.emb j = j :=
  zero_emb (win0_36.index t) j _ ((by decide +kernel : ∀ t : Fin grid0.N, win0_36.index t = fun _ => 0) t) fun _ => rfl
theorem emb37 (t : Fin cfg0.N) (j : S2x512.Idx) : ((cfg0.win 37).blk t).view.emb j = j :=
  zero_emb (win0_37.index t) j _ ((by decide +kernel : ∀ t : Fin grid0.N, win0_37.index t = fun _ => 0) t) fun _ => rfl
theorem emb38 (t : Fin cfg0.N) (j : S2x512.Idx) : ((cfg0.win 38).blk t).view.emb j = j :=
  zero_emb (win0_38.index t) j _ ((by decide +kernel : ∀ t : Fin grid0.N, win0_38.index t = fun _ => 0) t) fun _ => rfl
theorem emb39 (t : Fin cfg0.N) (j : S2x1024.Idx) : ((cfg0.win 39).blk t).view.emb j = j :=
  zero_emb (win0_39.index t) j _ ((by decide +kernel : ∀ t : Fin grid0.N, win0_39.index t = fun _ => 0) t) fun _ => rfl
theorem emb40 (t : Fin cfg0.N) (j : S2x1024.Idx) : ((cfg0.win 40).blk t).view.emb j = j :=
  zero_emb (win0_40.index t) j _ ((by decide +kernel : ∀ t : Fin grid0.N, win0_40.index t = fun _ => 0) t) fun _ => rfl
theorem emb41 (t : Fin cfg0.N) (j : S2x3x128.Idx) : ((cfg0.win 41).blk t).view.emb j = j :=
  zero_emb (win0_41.index t) j _ ((by decide +kernel : ∀ t : Fin grid0.N, win0_41.index t = fun _ => 0) t) fun _ => rfl
theorem emb42 (t : Fin cfg0.N) (j : S2x64.Idx) : ((cfg0.win 42).blk t).view.emb j = j :=
  zero_emb (win0_42.index t) j _ ((by decide +kernel : ∀ t : Fin grid0.N, win0_42.index t = fun _ => 0) t) fun _ => rfl
theorem emb43 (t : Fin cfg0.N) (j : S2x64.Idx) : ((cfg0.win 43).blk t).view.emb j = j :=
  zero_emb (win0_43.index t) j _ ((by decide +kernel : ∀ t : Fin grid0.N, win0_43.index t = fun _ => 0) t) fun _ => rfl
theorem emb44 (t : Fin cfg0.N) (j : S2x8.Idx) : ((cfg0.win 44).blk t).view.emb j = j :=
  zero_emb (win0_44.index t) j _ ((by decide +kernel : ∀ t : Fin grid0.N, win0_44.index t = fun _ => 0) t) fun _ => rfl
theorem emb45 (t : Fin cfg0.N) (j : S2x512.Idx) : ((cfg0.win 45).blk t).view.emb j = j :=
  zero_emb (win0_45.index t) j _ ((by decide +kernel : ∀ t : Fin grid0.N, win0_45.index t = fun _ => 0) t) fun _ => rfl
theorem emb46 (t : Fin cfg0.N) (j : S2x512.Idx) : ((cfg0.win 46).blk t).view.emb j = j :=
  zero_emb (win0_46.index t) j _ ((by decide +kernel : ∀ t : Fin grid0.N, win0_46.index t = fun _ => 0) t) fun _ => rfl
theorem emb47 (t : Fin cfg0.N) (j : S2x1024.Idx) : ((cfg0.win 47).blk t).view.emb j = j :=
  zero_emb (win0_47.index t) j _ ((by decide +kernel : ∀ t : Fin grid0.N, win0_47.index t = fun _ => 0) t) fun _ => rfl
theorem emb48 (t : Fin cfg0.N) (j : S2x1024.Idx) : ((cfg0.win 48).blk t).view.emb j = j :=
  zero_emb (win0_48.index t) j _ ((by decide +kernel : ∀ t : Fin grid0.N, win0_48.index t = fun _ => 0) t) fun _ => rfl
theorem emb49 (t : Fin cfg0.N) (j : S2x3x128.Idx) : ((cfg0.win 49).blk t).view.emb j = j :=
  zero_emb (win0_49.index t) j _ ((by decide +kernel : ∀ t : Fin grid0.N, win0_49.index t = fun _ => 0) t) fun _ => rfl
theorem emb50 (t : Fin cfg0.N) (j : S2x64.Idx) : ((cfg0.win 50).blk t).view.emb j = j :=
  zero_emb (win0_50.index t) j _ ((by decide +kernel : ∀ t : Fin grid0.N, win0_50.index t = fun _ => 0) t) fun _ => rfl
theorem emb51 (t : Fin cfg0.N) (j : S2x64.Idx) : ((cfg0.win 51).blk t).view.emb j = j :=
  zero_emb (win0_51.index t) j _ ((by decide +kernel : ∀ t : Fin grid0.N, win0_51.index t = fun _ => 0) t) fun _ => rfl
theorem emb52 (t : Fin cfg0.N) (j : S2x8.Idx) : ((cfg0.win 52).blk t).view.emb j = j :=
  zero_emb (win0_52.index t) j _ ((by decide +kernel : ∀ t : Fin grid0.N, win0_52.index t = fun _ => 0) t) fun _ => rfl
theorem emb53 (t : Fin cfg0.N) (j : S2x512.Idx) : ((cfg0.win 53).blk t).view.emb j = j :=
  zero_emb (win0_53.index t) j _ ((by decide +kernel : ∀ t : Fin grid0.N, win0_53.index t = fun _ => 0) t) fun _ => rfl
theorem emb54 (t : Fin cfg0.N) (j : S2x512.Idx) : ((cfg0.win 54).blk t).view.emb j = j :=
  zero_emb (win0_54.index t) j _ ((by decide +kernel : ∀ t : Fin grid0.N, win0_54.index t = fun _ => 0) t) fun _ => rfl
theorem emb55 (t : Fin cfg0.N) (j : S2x1024.Idx) : ((cfg0.win 55).blk t).view.emb j = j :=
  zero_emb (win0_55.index t) j _ ((by decide +kernel : ∀ t : Fin grid0.N, win0_55.index t = fun _ => 0) t) fun _ => rfl
theorem iblk0_eq (c : Dev nD) (t : Fin cfg0.N) : iblk m c 0 t = m ((c : Thread nD τ).loc main_arg0) :=
  Eq.trans (funext fun j => congrArg (V m c main_arg0 : S2x1024.Idx → _) (emb0 t j)) (V_main_arg0 m c)
theorem iblk1_eq (c : Dev nD) (t : Fin cfg0.N) : iblk m c 1 t = m ((c : Thread nD τ).loc main_arg1) :=
  Eq.trans (funext fun j => congrArg (V m c main_arg1 : S2x3x128.Idx → _) (emb1 t j)) (V_main_arg1 m c)
theorem iblk2_eq (c : Dev nD) (t : Fin cfg0.N) : iblk m c 2 t = m ((c : Thread nD τ).loc main_arg2) :=
  Eq.trans (funext fun j => congrArg (V m c main_arg2 : S2x64.Idx → _) (emb2 t j)) (V_main_arg2 m c)
theorem iblk3_eq (c : Dev nD) (t : Fin cfg0.N) : iblk m c 3 t = m ((c : Thread nD τ).loc main_arg3) :=
  Eq.trans (funext fun j => congrArg (V m c main_arg3 : S2x64.Idx → _) (emb3 t j)) (V_main_arg3 m c)
theorem iblk4_eq (c : Dev nD) (t : Fin cfg0.N) : iblk m c 4 t = m ((c : Thread nD τ).loc main_arg4) :=
  Eq.trans (funext fun j => congrArg (V m c main_arg4 : S2x8.Idx → _) (emb4 t j)) (V_main_arg4 m c)
theorem iblk5_eq (c : Dev nD) (t : Fin cfg0.N) : iblk m c 5 t = m ((c : Thread nD τ).loc main_arg5) :=
  Eq.trans (funext fun j => congrArg (V m c main_arg5 : S2x512.Idx → _) (emb5 t j)) (V_main_arg5 m c)
theorem iblk6_eq (c : Dev nD) (t : Fin cfg0.N) : iblk m c 6 t = m ((c : Thread nD τ).loc main_arg6) :=
  Eq.trans (funext fun j => congrArg (V m c main_arg6 : S2x512.Idx → _) (emb6 t j)) (V_main_arg6 m c)
theorem iblk7_eq (c : Dev nD) (t : Fin cfg0.N) : iblk m c 7 t = m ((c : Thread nD τ).loc main_arg7) :=
  Eq.trans (funext fun j => congrArg (V m c main_arg7 : S2x1024.Idx → _) (emb7 t j)) (V_main_arg7 m c)
theorem iblk8_eq (c : Dev nD) (t : Fin cfg0.N) : iblk m c 8 t = m ((c : Thread nD τ).loc main_arg8) :=
  Eq.trans (funext fun j => congrArg (V m c main_arg8 : S2x1024.Idx → _) (emb8 t j)) (V_main_arg8 m c)
theorem iblk9_eq (c : Dev nD) (t : Fin cfg0.N) : iblk m c 9 t = m ((c : Thread nD τ).loc main_arg9) :=
  Eq.trans (funext fun j => congrArg (V m c main_arg9 : S2x3x128.Idx → _) (emb9 t j)) (V_main_arg9 m c)
theorem iblk10_eq (c : Dev nD) (t : Fin cfg0.N) : iblk m c 10 t = m ((c : Thread nD τ).loc main_arg10) :=
  Eq.trans (funext fun j => congrArg (V m c main_arg10 : S2x64.Idx → _) (emb10 t j)) (V_main_arg10 m c)
theorem iblk11_eq (c : Dev nD) (t : Fin cfg0.N) : iblk m c 11 t = m ((c : Thread nD τ).loc main_arg11) :=
  Eq.trans (funext fun j => congrArg (V m c main_arg11 : S2x64.Idx → _) (emb11 t j)) (V_main_arg11 m c)
theorem iblk12_eq (c : Dev nD) (t : Fin cfg0.N) : iblk m c 12 t = m ((c : Thread nD τ).loc main_arg12) :=
  Eq.trans (funext fun j => congrArg (V m c main_arg12 : S2x8.Idx → _) (emb12 t j)) (V_main_arg12 m c)
theorem iblk13_eq (c : Dev nD) (t : Fin cfg0.N) : iblk m c 13 t = m ((c : Thread nD τ).loc main_arg13) :=
  Eq.trans (funext fun j => congrArg (V m c main_arg13 : S2x512.Idx → _) (emb13 t j)) (V_main_arg13 m c)
theorem iblk14_eq (c : Dev nD) (t : Fin cfg0.N) : iblk m c 14 t = m ((c : Thread nD τ).loc main_arg14) :=
  Eq.trans (funext fun j => congrArg (V m c main_arg14 : S2x512.Idx → _) (emb14 t j)) (V_main_arg14 m c)
theorem iblk15_eq (c : Dev nD) (t : Fin cfg0.N) : iblk m c 15 t = m ((c : Thread nD τ).loc main_arg15) :=
  Eq.trans (funext fun j => congrArg (V m c main_arg15 : S2x1024.Idx → _) (emb15 t j)) (V_main_arg15 m c)
theorem iblk16_eq (c : Dev nD) (t : Fin cfg0.N) : iblk m c 16 t = m ((c : Thread nD τ).loc main_arg16) :=
  Eq.trans (funext fun j => congrArg (V m c main_arg16 : S2x1024.Idx → _) (emb16 t j)) (V_main_arg16 m c)
theorem iblk17_eq (c : Dev nD) (t : Fin cfg0.N) : iblk m c 17 t = m ((c : Thread nD τ).loc main_arg17) :=
  Eq.trans (funext fun j => congrArg (V m c main_arg17 : S2x3x128.Idx → _) (emb17 t j)) (V_main_arg17 m c)
theorem iblk18_eq (c : Dev nD) (t : Fin cfg0.N) : iblk m c 18 t = m ((c : Thread nD τ).loc main_arg18) :=
  Eq.trans (funext fun j => congrArg (V m c main_arg18 : S2x64.Idx → _) (emb18 t j)) (V_main_arg18 m c)
theorem iblk19_eq (c : Dev nD) (t : Fin cfg0.N) : iblk m c 19 t = m ((c : Thread nD τ).loc main_arg19) :=
  Eq.trans (funext fun j => congrArg (V m c main_arg19 : S2x64.Idx → _) (emb19 t j)) (V_main_arg19 m c)
theorem iblk20_eq (c : Dev nD) (t : Fin cfg0.N) : iblk m c 20 t = m ((c : Thread nD τ).loc main_arg20) :=
  Eq.trans (funext fun j => congrArg (V m c main_arg20 : S2x8.Idx → _) (emb20 t j)) (V_main_arg20 m c)
theorem iblk21_eq (c : Dev nD) (t : Fin cfg0.N) : iblk m c 21 t = m ((c : Thread nD τ).loc main_arg21) :=
  Eq.trans (funext fun j => congrArg (V m c main_arg21 : S2x512.Idx → _) (emb21 t j)) (V_main_arg21 m c)
theorem iblk22_eq (c : Dev nD) (t : Fin cfg0.N) : iblk m c 22 t = m ((c : Thread nD τ).loc main_arg22) :=
  Eq.trans (funext fun j => congrArg (V m c main_arg22 : S2x512.Idx → _) (emb22 t j)) (V_main_arg22 m c)
theorem iblk23_eq (c : Dev nD) (t : Fin cfg0.N) : iblk m c 23 t = m ((c : Thread nD τ).loc main_arg23) :=
  Eq.trans (funext fun j => congrArg (V m c main_arg23 : S2x1024.Idx → _) (emb23 t j)) (V_main_arg23 m c)
theorem iblk24_eq (c : Dev nD) (t : Fin cfg0.N) : iblk m c 24 t = m ((c : Thread nD τ).loc main_arg24) :=
  Eq.trans (funext fun j => congrArg (V m c main_arg24 : S2x1024.Idx → _) (emb24 t j)) (V_main_arg24 m c)
theorem iblk25_eq (c : Dev nD) (t : Fin cfg0.N) : iblk m c 25 t = m ((c : Thread nD τ).loc main_arg25) :=
  Eq.trans (funext fun j => congrArg (V m c main_arg25 : S2x3x128.Idx → _) (emb25 t j)) (V_main_arg25 m c)
theorem iblk26_eq (c : Dev nD) (t : Fin cfg0.N) : iblk m c 26 t = m ((c : Thread nD τ).loc main_arg26) :=
  Eq.trans (funext fun j => congrArg (V m c main_arg26 : S2x64.Idx → _) (emb26 t j)) (V_main_arg26 m c)
theorem iblk27_eq (c : Dev nD) (t : Fin cfg0.N) : iblk m c 27 t = m ((c : Thread nD τ).loc main_arg27) :=
  Eq.trans (funext fun j => congrArg (V m c main_arg27 : S2x64.Idx → _) (emb27 t j)) (V_main_arg27 m c)
theorem iblk28_eq (c : Dev nD) (t : Fin cfg0.N) : iblk m c 28 t = m ((c : Thread nD τ).loc main_arg28) :=
  Eq.trans (funext fun j => congrArg (V m c main_arg28 : S2x8.Idx → _) (emb28 t j)) (V_main_arg28 m c)
theorem iblk29_eq (c : Dev nD) (t : Fin cfg0.N) : iblk m c 29 t = m ((c : Thread nD τ).loc main_arg29) :=
  Eq.trans (funext fun j => congrArg (V m c main_arg29 : S2x512.Idx → _) (emb29 t j)) (V_main_arg29 m c)
theorem iblk30_eq (c : Dev nD) (t : Fin cfg0.N) : iblk m c 30 t = m ((c : Thread nD τ).loc main_arg30) :=
  Eq.trans (funext fun j => congrArg (V m c main_arg30 : S2x512.Idx → _) (emb30 t j)) (V_main_arg30 m c)
theorem iblk31_eq (c : Dev nD) (t : Fin cfg0.N) : iblk m c 31 t = m ((c : Thread nD τ).loc main_arg31) :=
  Eq.trans (funext fun j => congrArg (V m c main_arg31 : S2x1024.Idx → _) (emb31 t j)) (V_main_arg31 m c)

/-! ## What the body leaves in each output block -/

section

variable (x0 : Vec Ideal S2x1024 .f32) (x1 : Vec Ideal S2x3x128 .f32) (x2 : Vec Ideal S2x64 .f32) (x3 : Vec Ideal S2x64 .f32) (x4 : Vec Ideal S2x8 .f32) (x5 : Vec Ideal S2x512 .f32) (x6 : Vec Ideal S2x512 .f32) (x7 : Vec Ideal S2x1024 .f32) (x8 : Vec Ideal S2x1024 .f32) (x9 : Vec Ideal S2x3x128 .f32) (x10 : Vec Ideal S2x64 .f32) (x11 : Vec Ideal S2x64 .f32) (x12 : Vec Ideal S2x8 .f32) (x13 : Vec Ideal S2x512 .f32) (x14 : Vec Ideal S2x512 .f32) (x15 : Vec Ideal S2x1024 .f32) (x16 : Vec Ideal S2x1024 .f32) (x17 : Vec Ideal S2x3x128 .f32) (x18 : Vec Ideal S2x64 .f32) (x19 : Vec Ideal S2x64 .f32) (x20 : Vec Ideal S2x8 .f32) (x21 : Vec Ideal S2x512 .f32) (x22 : Vec Ideal S2x512 .f32) (x23 : Vec Ideal S2x1024 .f32) (x24 : Vec Ideal S2x1024 .f32) (x25 : Vec Ideal S2x3x128 .f32) (x26 : Vec Ideal S2x64 .f32) (x27 : Vec Ideal S2x64 .f32) (x28 : Vec Ideal S2x8 .f32) (x29 : Vec Ideal S2x512 .f32) (x30 : Vec Ideal S2x512 .f32) (x31 : Vec Ideal S2x1024 .f32)

theorem out32_eq : out0_32 x0 x8 x16 x24 = delta x8 x16 x24 x0 := by
  unfold out0_32
  rw [View.canon_unit_zero hz2, View.ld_unit_zero (S := S2x1024) hz2 _ x8, View.ld_unit_zero (S := S2x1024) hz2 _ x16, View.ld_unit_zero (S := S2x1024) hz2 _ x24, View.ld_unit_zero (S := S2x1024) hz2 _ x0]
  rfl

theorem out33_eq : out0_33 x1 x9 x17 x25 = delta x9 x17 x25 x1 := by
  unfold out0_33
  rw [View.canon_unit_zero hz3, View.ld_unit_zero (S := S2x3x128) hz3 _ x9, View.ld_unit_zero (S := S2x3x128) hz3 _ x17, View.ld_unit_zero (S := S2x3x128) hz3 _ x25, View.ld_unit_zero (S := S2x3x128) hz3 _ x1]
  rfl

theorem out34_eq : out0_34 x2 x10 x18 x26 = delta x10 x18 x26 x2 := by
  unfold out0_34
  rw [View.canon_unit_zero hz2, View.ld_unit_zero (S := S2x64) hz2 _ x10, View.ld_unit_zero (S := S2x64) hz2 _ x18, View.ld_unit_zero (S := S2x64) hz2 _ x26, View.ld_unit_zero (S := S2x64) hz2 _ x2]
  rfl

theorem out35_eq : out0_35 x3 x11 x19 x27 = delta x11 x19 x27 x3 := by
  unfold out0_35
  rw [View.canon_unit_zero hz2, View.ld_unit_zero (S := S2x64) hz2 _ x11, View.ld_unit_zero (S := S2x64) hz2 _ x19, View.ld_unit_zero (S := S2x64) hz2 _ x27, View.ld_unit_zero (S := S2x64) hz2 _ x3]
  rfl

theorem out36_eq : out0_36 x4 x12 x20 x28 = delta x12 x20 x28 x4 := by
  unfold out0_36
  rw [View.canon_unit_zero hz2, View.ld_unit_zero (S := S2x8) hz2 _ x12, View.ld_unit_zero (S := S2x8) hz2 _ x20, View.ld_unit_zero (S := S2x8) hz2 _ x28, View.ld_unit_zero (S := S2x8) hz2 _ x4]
  rfl

theorem out37_eq : out0_37 x5 x13 x21 x29 = delta x13 x21 x29 x5 := by
  unfold out0_37 k0_pay28
  rw [View.canon_unit_zero hz2, View.ld_unit_zero (S := S2x512) hz2 _ x13, View.ld_unit_zero (S := S2x512) hz2 _ x21, View.ld_unit_zero (S := S2x512) hz2 _ x29, View.ld_unit_zero (S := S2x512) hz2 _ x5]
  rfl

theorem out38_eq : out0_38 x6 x14 x22 x30 = delta x14 x22 x30 x6 := by
  unfold out0_38 k0_pay29 k0_pay30
  rw [View.canon_unit_zero hz2, View.ld_unit_zero (S := S2x512) hz2 _ x14, View.ld_unit_zero (S := S2x512) hz2 _ x22, View.ld_unit_zero (S := S2x512) hz2 _ x30, View.ld_unit_zero (S := S2x512) hz2 _ x6]
  rfl

theorem out39_eq : out0_39 x7 x15 x23 x31 = delta x15 x23 x31 x7 := by
  unfold out0_39 k0_pay31
  rw [View.canon_unit_zero hz2, View.ld_unit_zero (S := S2x1024) hz2 _ x15, View.ld_unit_zero (S := S2x1024) hz2 _ x23, View.ld_unit_zero (S := S2x1024) hz2 _ x31, View.ld_unit_zero (S := S2x1024) hz2 _ x7]
  rfl

theorem out40_eq : out0_40 x8 x16 = newM x8 x16 := by
  unfold out0_40
  rw [View.canon_unit_zero hz2, View.ld_unit_zero (S := S2x1024) hz2 _ x8, View.ld_unit_zero (S := S2x1024) hz2 _ x16]
  rfl

theorem out41_eq : out0_41 x9 x17 = newM x9 x17 := by
  unfold out0_41
  rw [View.canon_unit_zero hz3, View.ld_unit_zero (S := S2x3x128) hz3 _ x9, View.ld_unit_zero (S := S2x3x128) hz3 _ x17]
  rfl

theorem out42_eq : out0_42 x10 x18 = newM x10 x18 := by
  unfold out0_42
  rw [View.canon_unit_zero hz2, View.ld_unit_zero (S := S2x64) hz2 _ x10, View.ld_unit_zero (S := S2x64) hz2 _ x18]
  rfl

theorem out43_eq : out0_43 x11 x19 = newM x11 x19 := by
  unfold out0_43
  rw [View.canon_unit_zero hz2, View.ld_unit_zero (S := S2x64) hz2 _ x11, View.ld_unit_zero (S := S2x64) hz2 _ x19]
  rfl

theorem out44_eq : out0_44 x12 x20 = newM x12 x20 := by
  unfold out0_44
  rw [View.canon_unit_zero hz2, View.ld_unit_zero (S := S2x8) hz2 _ x12, View.ld_unit_zero (S := S2x8) hz2 _ x20]
  rfl

theorem out45_eq : out0_45 x13 x21 = newM x13 x21 := by
  unfold out0_45 k0_pay28
  rw [View.canon_unit_zero hz2, View.ld_unit_zero (S := S2x512) hz2 _ x13, View.ld_unit_zero (S := S2x512) hz2 _ x21]
  rfl

theorem out46_eq : out0_46 x14 x22 = newM x14 x22 := by
  unfold out0_46 k0_pay29 k0_pay30
  rw [View.canon_unit_zero hz2, View.ld_unit_zero (S := S2x512) hz2 _ x14, View.ld_unit_zero (S := S2x512) hz2 _ x22]
  rfl

theorem out47_eq : out0_47 x15 x23 = newM x15 x23 := by
  unfold out0_47 k0_pay31
  rw [View.canon_unit_zero hz2, View.ld_unit_zero (S := S2x1024) hz2 _ x15, View.ld_unit_zero (S := S2x1024) hz2 _ x23]
  rfl

theorem out48_eq : out0_48 x8 x24 = newV x8 x24 := by
  unfold out0_48
  rw [View.canon_unit_zero hz2, View.ld_unit_zero (S := S2x1024) hz2 _ x8, View.ld_unit_zero (S := S2x1024) hz2 _ x24]
  rfl

theorem out49_eq : out0_49 x9 x25 = newV x9 x25 := by
  unfold out0_49
  rw [View.canon_unit_zero hz3, View.ld_unit_zero (S := S2x3x128) hz3 _ x9, View.ld_unit_zero (S := S2x3x128) hz3 _ x25]
  rfl

theorem out50_eq : out0_50 x10 x26 = newV x10 x26 := by
  unfold out0_50
  rw [View.canon_unit_zero hz2, View.ld_unit_zero (S := S2x64) hz2 _ x10, View.ld_unit_zero (S := S2x64) hz2 _ x26]
  rfl

theorem out51_eq : out0_51 x11 x27 = newV x11 x27 := by
  unfold out0_51
  rw [View.canon_unit_zero hz2, View.ld_unit_zero (S := S2x64) hz2 _ x11, View.ld_unit_zero (S := S2x64) hz2 _ x27]
  rfl

theorem out52_eq : out0_52 x12 x28 = newV x12 x28 := by
  unfold out0_52
  rw [View.canon_unit_zero hz2, View.ld_unit_zero (S := S2x8) hz2 _ x12, View.ld_unit_zero (S := S2x8) hz2 _ x28]
  rfl

theorem out53_eq : out0_53 x13 x29 = newV x13 x29 := by
  unfold out0_53
  rw [View.canon_unit_zero hz2, View.ld_unit_zero (S := S2x512) hz2 _ x13, View.ld_unit_zero (S := S2x512) hz2 _ x29]
  rfl

theorem out54_eq : out0_54 x14 x30 = newV x14 x30 := by
  unfold out0_54
  rw [View.canon_unit_zero hz2, View.ld_unit_zero (S := S2x512) hz2 _ x14, View.ld_unit_zero (S := S2x512) hz2 _ x30]
  rfl

theorem out55_eq : out0_55 x15 x31 = newV x15 x31 := by
  unfold out0_55
  rw [View.canon_unit_zero hz2, View.ld_unit_zero (S := S2x1024) hz2 _ x15, View.ld_unit_zero (S := S2x1024) hz2 _ x31]
  rfl

end

/-! ## The output arrays after the run -/

theorem cut32_eq (t : Fin cfg0.N) (X : Vec Ideal S2x1024 .f32) :
    (cfg0.win 32).cut (grid0.coords t) X = ((cfg0.win 32).blk t).view.read (Elt Ideal) X := by
  funext j
  show X j = X (((cfg0.win 32).blk t).view.emb j)
  rw [emb32]

theorem covered32 (i : S2x1024.Idx) :
    ∃ t : Fin cfg0.N, (cfg0.win 32).flush t = true ∧ i ∈ ((cfg0.win 32).blk t).view.set :=
  ⟨(⟨0, by decide⟩ : Fin cfg0.N), flush0_32 _, by have h := ((cfg0.win 32).blk (⟨0, by decide⟩ : Fin cfg0.N)).view.emb_mem_set i; rwa [emb32] at h⟩

theorem arr32 (c : Dev nD) : (dats m 0 c).arrAt 32 cfg0.N = delta (m ((c : Thread nD τ).loc main_arg8)) (m ((c : Thread nD τ).loc main_arg16)) (m ((c : Thread nD τ).loc main_arg24)) (m ((c : Thread nD τ).loc main_arg0)) :=
  (dats m 0 c).arrAt_eq_of_cover 32 _ (fun t _ => by
    show (cfg0.win 32).cut (grid0.coords t) ((dats m 0 c).after 32 t) = _
    rw [after0_32, out32_eq, iblk8_eq, iblk16_eq, iblk24_eq, iblk0_eq]
    exact cut32_eq t _) covered32

theorem cut33_eq (t : Fin cfg0.N) (X : Vec Ideal S2x3x128 .f32) :
    (cfg0.win 33).cut (grid0.coords t) X = ((cfg0.win 33).blk t).view.read (Elt Ideal) X := by
  funext j
  show X j = X (((cfg0.win 33).blk t).view.emb j)
  rw [emb33]

theorem covered33 (i : S2x3x128.Idx) :
    ∃ t : Fin cfg0.N, (cfg0.win 33).flush t = true ∧ i ∈ ((cfg0.win 33).blk t).view.set :=
  ⟨(⟨0, by decide⟩ : Fin cfg0.N), flush0_33 _, by have h := ((cfg0.win 33).blk (⟨0, by decide⟩ : Fin cfg0.N)).view.emb_mem_set i; rwa [emb33] at h⟩

theorem arr33 (c : Dev nD) : (dats m 0 c).arrAt 33 cfg0.N = delta (m ((c : Thread nD τ).loc main_arg9)) (m ((c : Thread nD τ).loc main_arg17)) (m ((c : Thread nD τ).loc main_arg25)) (m ((c : Thread nD τ).loc main_arg1)) :=
  (dats m 0 c).arrAt_eq_of_cover 33 _ (fun t _ => by
    show (cfg0.win 33).cut (grid0.coords t) ((dats m 0 c).after 33 t) = _
    rw [after0_33, out33_eq, iblk9_eq, iblk17_eq, iblk25_eq, iblk1_eq]
    exact cut33_eq t _) covered33

theorem cut34_eq (t : Fin cfg0.N) (X : Vec Ideal S2x64 .f32) :
    (cfg0.win 34).cut (grid0.coords t) X = ((cfg0.win 34).blk t).view.read (Elt Ideal) X := by
  funext j
  show X j = X (((cfg0.win 34).blk t).view.emb j)
  rw [emb34]

theorem covered34 (i : S2x64.Idx) :
    ∃ t : Fin cfg0.N, (cfg0.win 34).flush t = true ∧ i ∈ ((cfg0.win 34).blk t).view.set :=
  ⟨(⟨0, by decide⟩ : Fin cfg0.N), flush0_34 _, by have h := ((cfg0.win 34).blk (⟨0, by decide⟩ : Fin cfg0.N)).view.emb_mem_set i; rwa [emb34] at h⟩

theorem arr34 (c : Dev nD) : (dats m 0 c).arrAt 34 cfg0.N = delta (m ((c : Thread nD τ).loc main_arg10)) (m ((c : Thread nD τ).loc main_arg18)) (m ((c : Thread nD τ).loc main_arg26)) (m ((c : Thread nD τ).loc main_arg2)) :=
  (dats m 0 c).arrAt_eq_of_cover 34 _ (fun t _ => by
    show (cfg0.win 34).cut (grid0.coords t) ((dats m 0 c).after 34 t) = _
    rw [after0_34, out34_eq, iblk10_eq, iblk18_eq, iblk26_eq, iblk2_eq]
    exact cut34_eq t _) covered34

theorem cut35_eq (t : Fin cfg0.N) (X : Vec Ideal S2x64 .f32) :
    (cfg0.win 35).cut (grid0.coords t) X = ((cfg0.win 35).blk t).view.read (Elt Ideal) X := by
  funext j
  show X j = X (((cfg0.win 35).blk t).view.emb j)
  rw [emb35]

theorem covered35 (i : S2x64.Idx) :
    ∃ t : Fin cfg0.N, (cfg0.win 35).flush t = true ∧ i ∈ ((cfg0.win 35).blk t).view.set :=
  ⟨(⟨0, by decide⟩ : Fin cfg0.N), flush0_35 _, by have h := ((cfg0.win 35).blk (⟨0, by decide⟩ : Fin cfg0.N)).view.emb_mem_set i; rwa [emb35] at h⟩

theorem arr35 (c : Dev nD) : (dats m 0 c).arrAt 35 cfg0.N = delta (m ((c : Thread nD τ).loc main_arg11)) (m ((c : Thread nD τ).loc main_arg19)) (m ((c : Thread nD τ).loc main_arg27)) (m ((c : Thread nD τ).loc main_arg3)) :=
  (dats m 0 c).arrAt_eq_of_cover 35 _ (fun t _ => by
    show (cfg0.win 35).cut (grid0.coords t) ((dats m 0 c).after 35 t) = _
    rw [after0_35, out35_eq, iblk11_eq, iblk19_eq, iblk27_eq, iblk3_eq]
    exact cut35_eq t _) covered35

theorem cut36_eq (t : Fin cfg0.N) (X : Vec Ideal S2x8 .f32) :
    (cfg0.win 36).cut (grid0.coords t) X = ((cfg0.win 36).blk t).view.read (Elt Ideal) X := by
  funext j
  show X j = X (((cfg0.win 36).blk t).view.emb j)
  rw [emb36]

theorem covered36 (i : S2x8.Idx) :
    ∃ t : Fin cfg0.N, (cfg0.win 36).flush t = true ∧ i ∈ ((cfg0.win 36).blk t).view.set :=
  ⟨(⟨0, by decide⟩ : Fin cfg0.N), flush0_36 _, by have h := ((cfg0.win 36).blk (⟨0, by decide⟩ : Fin cfg0.N)).view.emb_mem_set i; rwa [emb36] at h⟩

theorem arr36 (c : Dev nD) : (dats m 0 c).arrAt 36 cfg0.N = delta (m ((c : Thread nD τ).loc main_arg12)) (m ((c : Thread nD τ).loc main_arg20)) (m ((c : Thread nD τ).loc main_arg28)) (m ((c : Thread nD τ).loc main_arg4)) :=
  (dats m 0 c).arrAt_eq_of_cover 36 _ (fun t _ => by
    show (cfg0.win 36).cut (grid0.coords t) ((dats m 0 c).after 36 t) = _
    rw [after0_36, out36_eq, iblk12_eq, iblk20_eq, iblk28_eq, iblk4_eq]
    exact cut36_eq t _) covered36

theorem cut37_eq (t : Fin cfg0.N) (X : Vec Ideal S2x512 .f32) :
    (cfg0.win 37).cut (grid0.coords t) X = ((cfg0.win 37).blk t).view.read (Elt Ideal) X := by
  funext j
  show X j = X (((cfg0.win 37).blk t).view.emb j)
  rw [emb37]

theorem covered37 (i : S2x512.Idx) :
    ∃ t : Fin cfg0.N, (cfg0.win 37).flush t = true ∧ i ∈ ((cfg0.win 37).blk t).view.set :=
  ⟨(⟨0, by decide⟩ : Fin cfg0.N), flush0_37 _, by have h := ((cfg0.win 37).blk (⟨0, by decide⟩ : Fin cfg0.N)).view.emb_mem_set i; rwa [emb37] at h⟩

theorem arr37 (c : Dev nD) : (dats m 0 c).arrAt 37 cfg0.N = delta (m ((c : Thread nD τ).loc main_arg13)) (m ((c : Thread nD τ).loc main_arg21)) (m ((c : Thread nD τ).loc main_arg29)) (m ((c : Thread nD τ).loc main_arg5)) :=
  (dats m 0 c).arrAt_eq_of_cover 37 _ (fun t _ => by
    show (cfg0.win 37).cut (grid0.coords t) ((dats m 0 c).after 37 t) = _
    rw [after0_37, out37_eq, iblk13_eq, iblk21_eq, iblk29_eq, iblk5_eq]
    exact cut37_eq t _) covered37

theorem cut38_eq (t : Fin cfg0.N) (X : Vec Ideal S2x512 .f32) :
    (cfg0.win 38).cut (grid0.coords t) X = ((cfg0.win 38).blk t).view.read (Elt Ideal) X := by
  funext j
  show X j = X (((cfg0.win 38).blk t).view.emb j)
  rw [emb38]

theorem covered38 (i : S2x512.Idx) :
    ∃ t : Fin cfg0.N, (cfg0.win 38).flush t = true ∧ i ∈ ((cfg0.win 38).blk t).view.set :=
  ⟨(⟨0, by decide⟩ : Fin cfg0.N), flush0_38 _, by have h := ((cfg0.win 38).blk (⟨0, by decide⟩ : Fin cfg0.N)).view.emb_mem_set i; rwa [emb38] at h⟩

theorem arr38 (c : Dev nD) : (dats m 0 c).arrAt 38 cfg0.N = delta (m ((c : Thread nD τ).loc main_arg14)) (m ((c : Thread nD τ).loc main_arg22)) (m ((c : Thread nD τ).loc main_arg30)) (m ((c : Thread nD τ).loc main_arg6)) :=
  (dats m 0 c).arrAt_eq_of_cover 38 _ (fun t _ => by
    show (cfg0.win 38).cut (grid0.coords t) ((dats m 0 c).after 38 t) = _
    rw [after0_38, out38_eq, iblk14_eq, iblk22_eq, iblk30_eq, iblk6_eq]
    exact cut38_eq t _) covered38

theorem cut39_eq (t : Fin cfg0.N) (X : Vec Ideal S2x1024 .f32) :
    (cfg0.win 39).cut (grid0.coords t) X = ((cfg0.win 39).blk t).view.read (Elt Ideal) X := by
  funext j
  show X j = X (((cfg0.win 39).blk t).view.emb j)
  rw [emb39]

theorem covered39 (i : S2x1024.Idx) :
    ∃ t : Fin cfg0.N, (cfg0.win 39).flush t = true ∧ i ∈ ((cfg0.win 39).blk t).view.set :=
  ⟨(⟨0, by decide⟩ : Fin cfg0.N), flush0_39 _, by have h := ((cfg0.win 39).blk (⟨0, by decide⟩ : Fin cfg0.N)).view.emb_mem_set i; rwa [emb39] at h⟩

theorem arr39 (c : Dev nD) : (dats m 0 c).arrAt 39 cfg0.N = delta (m ((c : Thread nD τ).loc main_arg15)) (m ((c : Thread nD τ).loc main_arg23)) (m ((c : Thread nD τ).loc main_arg31)) (m ((c : Thread nD τ).loc main_arg7)) :=
  (dats m 0 c).arrAt_eq_of_cover 39 _ (fun t _ => by
    show (cfg0.win 39).cut (grid0.coords t) ((dats m 0 c).after 39 t) = _
    rw [after0_39, out39_eq, iblk15_eq, iblk23_eq, iblk31_eq, iblk7_eq]
    exact cut39_eq t _) covered39

theorem cut40_eq (t : Fin cfg0.N) (X : Vec Ideal S2x1024 .f32) :
    (cfg0.win 40).cut (grid0.coords t) X = ((cfg0.win 40).blk t).view.read (Elt Ideal) X := by
  funext j
  show X j = X (((cfg0.win 40).blk t).view.emb j)
  rw [emb40]

theorem covered40 (i : S2x1024.Idx) :
    ∃ t : Fin cfg0.N, (cfg0.win 40).flush t = true ∧ i ∈ ((cfg0.win 40).blk t).view.set :=
  ⟨(⟨0, by decide⟩ : Fin cfg0.N), flush0_40 _, by have h := ((cfg0.win 40).blk (⟨0, by decide⟩ : Fin cfg0.N)).view.emb_mem_set i; rwa [emb40] at h⟩

theorem arr40 (c : Dev nD) : (dats m 0 c).arrAt 40 cfg0.N = newM (m ((c : Thread nD τ).loc main_arg8)) (m ((c : Thread nD τ).loc main_arg16)) :=
  (dats m 0 c).arrAt_eq_of_cover 40 _ (fun t _ => by
    show (cfg0.win 40).cut (grid0.coords t) ((dats m 0 c).after 40 t) = _
    rw [after0_40, out40_eq, iblk8_eq, iblk16_eq]
    exact cut40_eq t _) covered40

theorem cut41_eq (t : Fin cfg0.N) (X : Vec Ideal S2x3x128 .f32) :
    (cfg0.win 41).cut (grid0.coords t) X = ((cfg0.win 41).blk t).view.read (Elt Ideal) X := by
  funext j
  show X j = X (((cfg0.win 41).blk t).view.emb j)
  rw [emb41]

theorem covered41 (i : S2x3x128.Idx) :
    ∃ t : Fin cfg0.N, (cfg0.win 41).flush t = true ∧ i ∈ ((cfg0.win 41).blk t).view.set :=
  ⟨(⟨0, by decide⟩ : Fin cfg0.N), flush0_41 _, by have h := ((cfg0.win 41).blk (⟨0, by decide⟩ : Fin cfg0.N)).view.emb_mem_set i; rwa [emb41] at h⟩

theorem arr41 (c : Dev nD) : (dats m 0 c).arrAt 41 cfg0.N = newM (m ((c : Thread nD τ).loc main_arg9)) (m ((c : Thread nD τ).loc main_arg17)) :=
  (dats m 0 c).arrAt_eq_of_cover 41 _ (fun t _ => by
    show (cfg0.win 41).cut (grid0.coords t) ((dats m 0 c).after 41 t) = _
    rw [after0_41, out41_eq, iblk9_eq, iblk17_eq]
    exact cut41_eq t _) covered41

theorem cut42_eq (t : Fin cfg0.N) (X : Vec Ideal S2x64 .f32) :
    (cfg0.win 42).cut (grid0.coords t) X = ((cfg0.win 42).blk t).view.read (Elt Ideal) X := by
  funext j
  show X j = X (((cfg0.win 42).blk t).view.emb j)
  rw [emb42]

theorem covered42 (i : S2x64.Idx) :
    ∃ t : Fin cfg0.N, (cfg0.win 42).flush t = true ∧ i ∈ ((cfg0.win 42).blk t).view.set :=
  ⟨(⟨0, by decide⟩ : Fin cfg0.N), flush0_42 _, by have h := ((cfg0.win 42).blk (⟨0, by decide⟩ : Fin cfg0.N)).view.emb_mem_set i; rwa [emb42] at h⟩

theorem arr42 (c : Dev nD) : (dats m 0 c).arrAt 42 cfg0.N = newM (m ((c : Thread nD τ).loc main_arg10)) (m ((c : Thread nD τ).loc main_arg18)) :=
  (dats m 0 c).arrAt_eq_of_cover 42 _ (fun t _ => by
    show (cfg0.win 42).cut (grid0.coords t) ((dats m 0 c).after 42 t) = _
    rw [after0_42, out42_eq, iblk10_eq, iblk18_eq]
    exact cut42_eq t _) covered42

theorem cut43_eq (t : Fin cfg0.N) (X : Vec Ideal S2x64 .f32) :
    (cfg0.win 43).cut (grid0.coords t) X = ((cfg0.win 43).blk t).view.read (Elt Ideal) X := by
  funext j
  show X j = X (((cfg0.win 43).blk t).view.emb j)
  rw [emb43]

theorem covered43 (i : S2x64.Idx) :
    ∃ t : Fin cfg0.N, (cfg0.win 43).flush t = true ∧ i ∈ ((cfg0.win 43).blk t).view.set :=
  ⟨(⟨0, by decide⟩ : Fin cfg0.N), flush0_43 _, by have h := ((cfg0.win 43).blk (⟨0, by decide⟩ : Fin cfg0.N)).view.emb_mem_set i; rwa [emb43] at h⟩

theorem arr43 (c : Dev nD) : (dats m 0 c).arrAt 43 cfg0.N = newM (m ((c : Thread nD τ).loc main_arg11)) (m ((c : Thread nD τ).loc main_arg19)) :=
  (dats m 0 c).arrAt_eq_of_cover 43 _ (fun t _ => by
    show (cfg0.win 43).cut (grid0.coords t) ((dats m 0 c).after 43 t) = _
    rw [after0_43, out43_eq, iblk11_eq, iblk19_eq]
    exact cut43_eq t _) covered43

theorem cut44_eq (t : Fin cfg0.N) (X : Vec Ideal S2x8 .f32) :
    (cfg0.win 44).cut (grid0.coords t) X = ((cfg0.win 44).blk t).view.read (Elt Ideal) X := by
  funext j
  show X j = X (((cfg0.win 44).blk t).view.emb j)
  rw [emb44]

theorem covered44 (i : S2x8.Idx) :
    ∃ t : Fin cfg0.N, (cfg0.win 44).flush t = true ∧ i ∈ ((cfg0.win 44).blk t).view.set :=
  ⟨(⟨0, by decide⟩ : Fin cfg0.N), flush0_44 _, by have h := ((cfg0.win 44).blk (⟨0, by decide⟩ : Fin cfg0.N)).view.emb_mem_set i; rwa [emb44] at h⟩

theorem arr44 (c : Dev nD) : (dats m 0 c).arrAt 44 cfg0.N = newM (m ((c : Thread nD τ).loc main_arg12)) (m ((c : Thread nD τ).loc main_arg20)) :=
  (dats m 0 c).arrAt_eq_of_cover 44 _ (fun t _ => by
    show (cfg0.win 44).cut (grid0.coords t) ((dats m 0 c).after 44 t) = _
    rw [after0_44, out44_eq, iblk12_eq, iblk20_eq]
    exact cut44_eq t _) covered44

theorem cut45_eq (t : Fin cfg0.N) (X : Vec Ideal S2x512 .f32) :
    (cfg0.win 45).cut (grid0.coords t) X = ((cfg0.win 45).blk t).view.read (Elt Ideal) X := by
  funext j
  show X j = X (((cfg0.win 45).blk t).view.emb j)
  rw [emb45]

theorem covered45 (i : S2x512.Idx) :
    ∃ t : Fin cfg0.N, (cfg0.win 45).flush t = true ∧ i ∈ ((cfg0.win 45).blk t).view.set :=
  ⟨(⟨0, by decide⟩ : Fin cfg0.N), flush0_45 _, by have h := ((cfg0.win 45).blk (⟨0, by decide⟩ : Fin cfg0.N)).view.emb_mem_set i; rwa [emb45] at h⟩

theorem arr45 (c : Dev nD) : (dats m 0 c).arrAt 45 cfg0.N = newM (m ((c : Thread nD τ).loc main_arg13)) (m ((c : Thread nD τ).loc main_arg21)) :=
  (dats m 0 c).arrAt_eq_of_cover 45 _ (fun t _ => by
    show (cfg0.win 45).cut (grid0.coords t) ((dats m 0 c).after 45 t) = _
    rw [after0_45, out45_eq, iblk13_eq, iblk21_eq]
    exact cut45_eq t _) covered45

theorem cut46_eq (t : Fin cfg0.N) (X : Vec Ideal S2x512 .f32) :
    (cfg0.win 46).cut (grid0.coords t) X = ((cfg0.win 46).blk t).view.read (Elt Ideal) X := by
  funext j
  show X j = X (((cfg0.win 46).blk t).view.emb j)
  rw [emb46]

theorem covered46 (i : S2x512.Idx) :
    ∃ t : Fin cfg0.N, (cfg0.win 46).flush t = true ∧ i ∈ ((cfg0.win 46).blk t).view.set :=
  ⟨(⟨0, by decide⟩ : Fin cfg0.N), flush0_46 _, by have h := ((cfg0.win 46).blk (⟨0, by decide⟩ : Fin cfg0.N)).view.emb_mem_set i; rwa [emb46] at h⟩

theorem arr46 (c : Dev nD) : (dats m 0 c).arrAt 46 cfg0.N = newM (m ((c : Thread nD τ).loc main_arg14)) (m ((c : Thread nD τ).loc main_arg22)) :=
  (dats m 0 c).arrAt_eq_of_cover 46 _ (fun t _ => by
    show (cfg0.win 46).cut (grid0.coords t) ((dats m 0 c).after 46 t) = _
    rw [after0_46, out46_eq, iblk14_eq, iblk22_eq]
    exact cut46_eq t _) covered46

theorem cut47_eq (t : Fin cfg0.N) (X : Vec Ideal S2x1024 .f32) :
    (cfg0.win 47).cut (grid0.coords t) X = ((cfg0.win 47).blk t).view.read (Elt Ideal) X := by
  funext j
  show X j = X (((cfg0.win 47).blk t).view.emb j)
  rw [emb47]

theorem covered47 (i : S2x1024.Idx) :
    ∃ t : Fin cfg0.N, (cfg0.win 47).flush t = true ∧ i ∈ ((cfg0.win 47).blk t).view.set :=
  ⟨(⟨0, by decide⟩ : Fin cfg0.N), flush0_47 _, by have h := ((cfg0.win 47).blk (⟨0, by decide⟩ : Fin cfg0.N)).view.emb_mem_set i; rwa [emb47] at h⟩

theorem arr47 (c : Dev nD) : (dats m 0 c).arrAt 47 cfg0.N = newM (m ((c : Thread nD τ).loc main_arg15)) (m ((c : Thread nD τ).loc main_arg23)) :=
  (dats m 0 c).arrAt_eq_of_cover 47 _ (fun t _ => by
    show (cfg0.win 47).cut (grid0.coords t) ((dats m 0 c).after 47 t) = _
    rw [after0_47, out47_eq, iblk15_eq, iblk23_eq]
    exact cut47_eq t _) covered47

theorem cut48_eq (t : Fin cfg0.N) (X : Vec Ideal S2x1024 .f32) :
    (cfg0.win 48).cut (grid0.coords t) X = ((cfg0.win 48).blk t).view.read (Elt Ideal) X := by
  funext j
  show X j = X (((cfg0.win 48).blk t).view.emb j)
  rw [emb48]

theorem covered48 (i : S2x1024.Idx) :
    ∃ t : Fin cfg0.N, (cfg0.win 48).flush t = true ∧ i ∈ ((cfg0.win 48).blk t).view.set :=
  ⟨(⟨0, by decide⟩ : Fin cfg0.N), flush0_48 _, by have h := ((cfg0.win 48).blk (⟨0, by decide⟩ : Fin cfg0.N)).view.emb_mem_set i; rwa [emb48] at h⟩

theorem arr48 (c : Dev nD) : (dats m 0 c).arrAt 48 cfg0.N = newV (m ((c : Thread nD τ).loc main_arg8)) (m ((c : Thread nD τ).loc main_arg24)) :=
  (dats m 0 c).arrAt_eq_of_cover 48 _ (fun t _ => by
    show (cfg0.win 48).cut (grid0.coords t) ((dats m 0 c).after 48 t) = _
    rw [after0_48, out48_eq, iblk8_eq, iblk24_eq]
    exact cut48_eq t _) covered48

theorem cut49_eq (t : Fin cfg0.N) (X : Vec Ideal S2x3x128 .f32) :
    (cfg0.win 49).cut (grid0.coords t) X = ((cfg0.win 49).blk t).view.read (Elt Ideal) X := by
  funext j
  show X j = X (((cfg0.win 49).blk t).view.emb j)
  rw [emb49]

theorem covered49 (i : S2x3x128.Idx) :
    ∃ t : Fin cfg0.N, (cfg0.win 49).flush t = true ∧ i ∈ ((cfg0.win 49).blk t).view.set :=
  ⟨(⟨0, by decide⟩ : Fin cfg0.N), flush0_49 _, by have h := ((cfg0.win 49).blk (⟨0, by decide⟩ : Fin cfg0.N)).view.emb_mem_set i; rwa [emb49] at h⟩

theorem arr49 (c : Dev nD) : (dats m 0 c).arrAt 49 cfg0.N = newV (m ((c : Thread nD τ).loc main_arg9)) (m ((c : Thread nD τ).loc main_arg25)) :=
  (dats m 0 c).arrAt_eq_of_cover 49 _ (fun t _ => by
    show (cfg0.win 49).cut (grid0.coords t) ((dats m 0 c).after 49 t) = _
    rw [after0_49, out49_eq, iblk9_eq, iblk25_eq]
    exact cut49_eq t _) covered49

theorem cut50_eq (t : Fin cfg0.N) (X : Vec Ideal S2x64 .f32) :
    (cfg0.win 50).cut (grid0.coords t) X = ((cfg0.win 50).blk t).view.read (Elt Ideal) X := by
  funext j
  show X j = X (((cfg0.win 50).blk t).view.emb j)
  rw [emb50]

theorem covered50 (i : S2x64.Idx) :
    ∃ t : Fin cfg0.N, (cfg0.win 50).flush t = true ∧ i ∈ ((cfg0.win 50).blk t).view.set :=
  ⟨(⟨0, by decide⟩ : Fin cfg0.N), flush0_50 _, by have h := ((cfg0.win 50).blk (⟨0, by decide⟩ : Fin cfg0.N)).view.emb_mem_set i; rwa [emb50] at h⟩

theorem arr50 (c : Dev nD) : (dats m 0 c).arrAt 50 cfg0.N = newV (m ((c : Thread nD τ).loc main_arg10)) (m ((c : Thread nD τ).loc main_arg26)) :=
  (dats m 0 c).arrAt_eq_of_cover 50 _ (fun t _ => by
    show (cfg0.win 50).cut (grid0.coords t) ((dats m 0 c).after 50 t) = _
    rw [after0_50, out50_eq, iblk10_eq, iblk26_eq]
    exact cut50_eq t _) covered50

theorem cut51_eq (t : Fin cfg0.N) (X : Vec Ideal S2x64 .f32) :
    (cfg0.win 51).cut (grid0.coords t) X = ((cfg0.win 51).blk t).view.read (Elt Ideal) X := by
  funext j
  show X j = X (((cfg0.win 51).blk t).view.emb j)
  rw [emb51]

theorem covered51 (i : S2x64.Idx) :
    ∃ t : Fin cfg0.N, (cfg0.win 51).flush t = true ∧ i ∈ ((cfg0.win 51).blk t).view.set :=
  ⟨(⟨0, by decide⟩ : Fin cfg0.N), flush0_51 _, by have h := ((cfg0.win 51).blk (⟨0, by decide⟩ : Fin cfg0.N)).view.emb_mem_set i; rwa [emb51] at h⟩

theorem arr51 (c : Dev nD) : (dats m 0 c).arrAt 51 cfg0.N = newV (m ((c : Thread nD τ).loc main_arg11)) (m ((c : Thread nD τ).loc main_arg27)) :=
  (dats m 0 c).arrAt_eq_of_cover 51 _ (fun t _ => by
    show (cfg0.win 51).cut (grid0.coords t) ((dats m 0 c).after 51 t) = _
    rw [after0_51, out51_eq, iblk11_eq, iblk27_eq]
    exact cut51_eq t _) covered51

theorem cut52_eq (t : Fin cfg0.N) (X : Vec Ideal S2x8 .f32) :
    (cfg0.win 52).cut (grid0.coords t) X = ((cfg0.win 52).blk t).view.read (Elt Ideal) X := by
  funext j
  show X j = X (((cfg0.win 52).blk t).view.emb j)
  rw [emb52]

theorem covered52 (i : S2x8.Idx) :
    ∃ t : Fin cfg0.N, (cfg0.win 52).flush t = true ∧ i ∈ ((cfg0.win 52).blk t).view.set :=
  ⟨(⟨0, by decide⟩ : Fin cfg0.N), flush0_52 _, by have h := ((cfg0.win 52).blk (⟨0, by decide⟩ : Fin cfg0.N)).view.emb_mem_set i; rwa [emb52] at h⟩

theorem arr52 (c : Dev nD) : (dats m 0 c).arrAt 52 cfg0.N = newV (m ((c : Thread nD τ).loc main_arg12)) (m ((c : Thread nD τ).loc main_arg28)) :=
  (dats m 0 c).arrAt_eq_of_cover 52 _ (fun t _ => by
    show (cfg0.win 52).cut (grid0.coords t) ((dats m 0 c).after 52 t) = _
    rw [after0_52, out52_eq, iblk12_eq, iblk28_eq]
    exact cut52_eq t _) covered52

theorem cut53_eq (t : Fin cfg0.N) (X : Vec Ideal S2x512 .f32) :
    (cfg0.win 53).cut (grid0.coords t) X = ((cfg0.win 53).blk t).view.read (Elt Ideal) X := by
  funext j
  show X j = X (((cfg0.win 53).blk t).view.emb j)
  rw [emb53]

theorem covered53 (i : S2x512.Idx) :
    ∃ t : Fin cfg0.N, (cfg0.win 53).flush t = true ∧ i ∈ ((cfg0.win 53).blk t).view.set :=
  ⟨(⟨0, by decide⟩ : Fin cfg0.N), flush0_53 _, by have h := ((cfg0.win 53).blk (⟨0, by decide⟩ : Fin cfg0.N)).view.emb_mem_set i; rwa [emb53] at h⟩

theorem arr53 (c : Dev nD) : (dats m 0 c).arrAt 53 cfg0.N = newV (m ((c : Thread nD τ).loc main_arg13)) (m ((c : Thread nD τ).loc main_arg29)) :=
  (dats m 0 c).arrAt_eq_of_cover 53 _ (fun t _ => by
    show (cfg0.win 53).cut (grid0.coords t) ((dats m 0 c).after 53 t) = _
    rw [after0_53, out53_eq, iblk13_eq, iblk29_eq]
    exact cut53_eq t _) covered53

theorem cut54_eq (t : Fin cfg0.N) (X : Vec Ideal S2x512 .f32) :
    (cfg0.win 54).cut (grid0.coords t) X = ((cfg0.win 54).blk t).view.read (Elt Ideal) X := by
  funext j
  show X j = X (((cfg0.win 54).blk t).view.emb j)
  rw [emb54]

theorem covered54 (i : S2x512.Idx) :
    ∃ t : Fin cfg0.N, (cfg0.win 54).flush t = true ∧ i ∈ ((cfg0.win 54).blk t).view.set :=
  ⟨(⟨0, by decide⟩ : Fin cfg0.N), flush0_54 _, by have h := ((cfg0.win 54).blk (⟨0, by decide⟩ : Fin cfg0.N)).view.emb_mem_set i; rwa [emb54] at h⟩

theorem arr54 (c : Dev nD) : (dats m 0 c).arrAt 54 cfg0.N = newV (m ((c : Thread nD τ).loc main_arg14)) (m ((c : Thread nD τ).loc main_arg30)) :=
  (dats m 0 c).arrAt_eq_of_cover 54 _ (fun t _ => by
    show (cfg0.win 54).cut (grid0.coords t) ((dats m 0 c).after 54 t) = _
    rw [after0_54, out54_eq, iblk14_eq, iblk30_eq]
    exact cut54_eq t _) covered54

theorem cut55_eq (t : Fin cfg0.N) (X : Vec Ideal S2x1024 .f32) :
    (cfg0.win 55).cut (grid0.coords t) X = ((cfg0.win 55).blk t).view.read (Elt Ideal) X := by
  funext j
  show X j = X (((cfg0.win 55).blk t).view.emb j)
  rw [emb55]

theorem covered55 (i : S2x1024.Idx) :
    ∃ t : Fin cfg0.N, (cfg0.win 55).flush t = true ∧ i ∈ ((cfg0.win 55).blk t).view.set :=
  ⟨(⟨0, by decide⟩ : Fin cfg0.N), flush0_55 _, by have h := ((cfg0.win 55).blk (⟨0, by decide⟩ : Fin cfg0.N)).view.emb_mem_set i; rwa [emb55] at h⟩

theorem arr55 (c : Dev nD) : (dats m 0 c).arrAt 55 cfg0.N = newV (m ((c : Thread nD τ).loc main_arg15)) (m ((c : Thread nD τ).loc main_arg31)) :=
  (dats m 0 c).arrAt_eq_of_cover 55 _ (fun t _ => by
    show (cfg0.win 55).cut (grid0.coords t) ((dats m 0 c).after 55 t) = _
    rw [after0_55, out55_eq, iblk15_eq, iblk31_eq]
    exact cut55_eq t _) covered55

end Cert.AdamSmall

end

end
-- ==== Proof.AdamSmall.lean ====
module

public import proofs.«01_k».proof.Defs
public import proofs.«01_k».proof.Proof.Gen.Kernel10
public import proofs.«01_k».proof.Proof.AdamSmallVal
public import Idealize.ShloMosaic.Lib.Pipeline.Value
public import proofs.«01_k».proof.Proof.Gen.Reference10Ideal.Run
public import proofs.«01_k».proof.Proof.Gen.Reference10Ideal.Read
public import Idealize.ShloMosaic.Lib.Quiescent
public import Idealize.ShloMosaic.Lib.Pipeline.ValueKit.Point
public import proofs.«01_k».proof.Proof.Slabs
public import proofs.«01_k».proof.Proof.Adam

@[expose] public section

set_option maxRecDepth 16384

noncomputable section

namespace Cert.AdamSmall

open Cert.Kernel10Ideal Cert.Kernel10Ideal.Gen Idealize.ShloMosaic Idealize.ShloMosaic.TcCoe Idealize.SL.Sem
open Idealize.ShloMosaic.Pipeline (Dat)
open Cert.Adam

variable (m : (ℓ : Loc nD τ sig) → Buf (Elt Ideal) ℓ) (ρ : Dev nD → PrngReg)

/-! ## The claims -/

theorem newM_congr {S : Shape} {g g' a a' : FVec Ideal S .f32} (h1 : g = g') (h2 : a = a') : newM g a = newM g' a' := by rw [h1, h2]
theorem newV_congr {S : Shape} {g g' a a' : FVec Ideal S .f32} (h1 : g = g') (h2 : a = a') : newV g a = newV g' a' := by rw [h1, h2]
theorem delta_congr {S : Shape} {g g' a a' b b' w w' : FVec Ideal S .f32} (h1 : g = g') (h2 : a = a') (h3 : b = b') (h4 : w = w') :
    delta g a b w = delta g' a' b' w' := by rw [h1, h2, h3, h4]

set_option maxHeartbeats 8000000 in
/-- The two programs have the same functions. -/
theorem defs₀_eq {F : FTy → Type} [FloatOps F] : Cert.Kernel10.defs₀ (F := F) = Cert.Kernel10Ideal.defs₀ (F := F) := by
  unfold Cert.Kernel10.defs₀ Cert.Kernel10Ideal.defs₀
  refine congrArg Defs.onTc (funext fun l => ?_)
  match l with
  | ⟨0, _⟩ => exact funext fun ⟨t, s⟩ => rfl
set_option maxHeartbeats 8000000 in
theorem defs_eq {F : FTy → Type} [FloatOps F] : Cert.Kernel10.defs (F := F) = Cert.Kernel10Ideal.defs (F := F) := by
  unfold Cert.Kernel10.defs Cert.Kernel10Ideal.defs
  rw [defs₀_eq]
  rfl
set_option maxHeartbeats 4000000 in
theorem frame_kernel : Cert.quiescent_Kernel10 := fun m ρ _ => by
  rw [defs_eq]
  exact frame (F := Bits) m ρ
theorem frame_ideal : Cert.quiescent_Kernel10Ideal := fun m ρ _ => frame (F := Ideal) m ρ
theorem frame_reference : Cert.quiescent_Reference10Ideal := fun m ρ _ =>
  (θ_run Cert.Reference10Ideal.defs _ _).mono (fun r h => ⟨fun c => (h c).2.2.2.2.2.2.2.2.2.2.2.2.2.2.2.2.2.2.2.2.2.2.2.2, sem_eq_zero_of_no_sems (by decide) r.2⟩)
    (Cert.Reference10Ideal.Value.run (F := Ideal) m ρ)
theorem preserves : Cert.preserves_Kernel10_Kernel10Ideal := trivial

set_option maxHeartbeats 4000000 in
/-- Every moment and every change the kernel leaves is the reference's. -/
theorem algebraic : Cert.algebraic_Kernel10Ideal_Reference10Ideal := fun m ρ m' ρ' _ hargs =>
  ⟨fun c => delta (m ((c : Thread nD τ).loc main_arg8)) (m ((c : Thread nD τ).loc main_arg16)) (m ((c : Thread nD τ).loc main_arg24)) (m ((c : Thread nD τ).loc main_arg0)),
    fun c => delta (m ((c : Thread nD τ).loc main_arg9)) (m ((c : Thread nD τ).loc main_arg17)) (m ((c : Thread nD τ).loc main_arg25)) (m ((c : Thread nD τ).loc main_arg1)),
    fun c => delta (m ((c : Thread nD τ).loc main_arg10)) (m ((c : Thread nD τ).loc main_arg18)) (m ((c : Thread nD τ).loc main_arg26)) (m ((c : Thread nD τ).loc main_arg2)),
    fun c => delta (m ((c : Thread nD τ).loc main_arg11)) (m ((c : Thread nD τ).loc main_arg19)) (m ((c : Thread nD τ).loc main_arg27)) (m ((c : Thread nD τ).loc main_arg3)),
    fun c => delta (m ((c : Thread nD τ).loc main_arg12)) (m ((c : Thread nD τ).loc main_arg20)) (m ((c : Thread nD τ).loc main_arg28)) (m ((c : Thread nD τ).loc main_arg4)),
    fun c => delta (m ((c : Thread nD τ).loc main_arg13)) (m ((c : Thread nD τ).loc main_arg21)) (m ((c : Thread nD τ).loc main_arg29)) (m ((c : Thread nD τ).loc main_arg5)),
    fun c => delta (m ((c : Thread nD τ).loc main_arg14)) (m ((c : Thread nD τ).loc main_arg22)) (m ((c : Thread nD τ).loc main_arg30)) (m ((c : Thread nD τ).loc main_arg6)),
    fun c => delta (m ((c : Thread nD τ).loc main_arg15)) (m ((c : Thread nD τ).loc main_arg23)) (m ((c : Thread nD τ).loc main_arg31)) (m ((c : Thread nD τ).loc main_arg7)),
    fun c => newM (m ((c : Thread nD τ).loc main_arg8)) (m ((c : Thread nD τ).loc main_arg16)),
    fun c => newM (m ((c : Thread nD τ).loc main_arg9)) (m ((c : Thread nD τ).loc main_arg17)),
    fun c => newM (m ((c : Thread nD τ).loc main_arg10)) (m ((c : Thread nD τ).loc main_arg18)),
    fun c => newM (m ((c : Thread nD τ).loc main_arg11)) (m ((c : Thread nD τ).loc main_arg19)),
    fun c => newM (m ((c : Thread nD τ).loc main_arg12)) (m ((c : Thread nD τ).loc main_arg20)),
    fun c => newM (m ((c : Thread nD τ).loc main_arg13)) (m ((c : Thread nD τ).loc main_arg21)),
    fun c => newM (m ((c : Thread nD τ).loc main_arg14)) (m ((c : Thread nD τ).loc main_arg22)),
    fun c => newM (m ((c : Thread nD τ).loc main_arg15)) (m ((c : Thread nD τ).loc main_arg23)),
    fun c => newV (m ((c : Thread nD τ).loc main_arg8)) (m ((c : Thread nD τ).loc main_arg24)),
    fun c => newV (m ((c : Thread nD τ).loc main_arg9)) (m ((c : Thread nD τ).loc main_arg25)),
    fun c => newV (m ((c : Thread nD τ).loc main_arg10)) (m ((c : Thread nD τ).loc main_arg26)),
    fun c => newV (m ((c : Thread nD τ).loc main_arg11)) (m ((c : Thread nD τ).loc main_arg27)),
    fun c => newV (m ((c : Thread nD τ).loc main_arg12)) (m ((c : Thread nD τ).loc main_arg28)),
    fun c => newV (m ((c : Thread nD τ).loc main_arg13)) (m ((c : Thread nD τ).loc main_arg29)),
    fun c => newV (m ((c : Thread nD τ).loc main_arg14)) (m ((c : Thread nD τ).loc main_arg30)),
    fun c => newV (m ((c : Thread nD τ).loc main_arg15)) (m ((c : Thread nD τ).loc main_arg31)),
    (θ_run Cert.Kernel10Ideal.defs _ _).mono (fun _ h c => ⟨((h.1 c).1 32).trans (arr32 m c),
      ((h.1 c).1 33).trans (arr33 m c),
      ((h.1 c).1 34).trans (arr34 m c),
      ((h.1 c).1 35).trans (arr35 m c),
      ((h.1 c).1 36).trans (arr36 m c),
      ((h.1 c).1 37).trans (arr37 m c),
      ((h.1 c).1 38).trans (arr38 m c),
      ((h.1 c).1 39).trans (arr39 m c),
      ((h.1 c).1 40).trans (arr40 m c),
      ((h.1 c).1 41).trans (arr41 m c),
      ((h.1 c).1 42).trans (arr42 m c),
      ((h.1 c).1 43).trans (arr43 m c),
      ((h.1 c).1 44).trans (arr44 m c),
      ((h.1 c).1 45).trans (arr45 m c),
      ((h.1 c).1 46).trans (arr46 m c),
      ((h.1 c).1 47).trans (arr47 m c),
      ((h.1 c).1 48).trans (arr48 m c),
      ((h.1 c).1 49).trans (arr49 m c),
      ((h.1 c).1 50).trans (arr50 m c),
      ((h.1 c).1 51).trans (arr51 m c),
      ((h.1 c).1 52).trans (arr52 m c),
      ((h.1 c).1 53).trans (arr53 m c),
      ((h.1 c).1 54).trans (arr54 m c),
      ((h.1 c).1 55).trans (arr55 m c),
      h.2 c⟩) (θ_run_and (run_main m ρ) (unchanged m ρ)),
    (θ_run Cert.Reference10Ideal.defs _ _).mono (fun _ h c => ⟨(h c).1.trans (delta_congr ((hargs c).2.2.2.2.2.2.2.2.1) ((hargs c).2.2.2.2.2.2.2.2.2.2.2.2.2.2.2.2.1) ((hargs c).2.2.2.2.2.2.2.2.2.2.2.2.2.2.2.2.2.2.2.2.2.2.2.2.1) ((hargs c).1)),
      (h c).2.1.trans (delta_congr ((hargs c).2.2.2.2.2.2.2.2.2.1) ((hargs c).2.2.2.2.2.2.2.2.2.2.2.2.2.2.2.2.2.1) ((hargs c).2.2.2.2.2.2.2.2.2.2.2.2.2.2.2.2.2.2.2.2.2.2.2.2.2.1) ((hargs c).2.1)),
      (h c).2.2.1.trans (delta_congr ((hargs c).2.2.2.2.2.2.2.2.2.2.1) ((hargs c).2.2.2.2.2.2.2.2.2.2.2.2.2.2.2.2.2.2.1) ((hargs c).2.2.2.2.2.2.2.2.2.2.2.2.2.2.2.2.2.2.2.2.2.2.2.2.2.2.1) ((hargs c).2.2.1)),
      (h c).2.2.2.1.trans (delta_congr ((hargs c).2.2.2.2.2.2.2.2.2.2.2.1) ((hargs c).2.2.2.2.2.2.2.2.2.2.2.2.2.2.2.2.2.2.2.1) ((hargs c).2.2.2.2.2.2.2.2.2.2.2.2.2.2.2.2.2.2.2.2.2.2.2.2.2.2.2.1) ((hargs c).2.2.2.1)),
      (h c).2.2.2.2.1.trans (delta_congr ((hargs c).2.2.2.2.2.2.2.2.2.2.2.2.1) ((hargs c).2.2.2.2.2.2.2.2.2.2.2.2.2.2.2.2.2.2.2.2.1) ((hargs c).2.2.2.2.2.2.2.2.2.2.2.2.2.2.2.2.2.2.2.2.2.2.2.2.2.2.2.2.1) ((hargs c).2.2.2.2.1)),
      (h c).2.2.2.2.2.1.trans (delta_congr ((hargs c).2.2.2.2.2.2.2.2.2.2.2.2.2.1) ((hargs c).2.2.2.2.2.2.2.2.2.2.2.2.2.2.2.2.2.2.2.2.2.1) ((hargs c).2.2.2.2.2.2.2.2.2.2.2.2.2.2.2.2.2.2.2.2.2.2.2.2.2.2.2.2.2.1) ((hargs c).2.2.2.2.2.1)),
      (h c).2.2.2.2.2.2.1.trans (delta_congr ((hargs c).2.2.2.2.2.2.2.2.2.2.2.2.2.2.1) ((hargs c).2.2.2.2.2.2.2.2.2.2.2.2.2.2.2.2.2.2.2.2.2.2.1) ((hargs c).2.2.2.2.2.2.2.2.2.2.2.2.2.2.2.2.2.2.2.2.2.2.2.2.2.2.2.2.2.2.1) ((hargs c).2.2.2.2.2.2.1)),
      (h c).2.2.2.2.2.2.2.1.trans (delta_congr ((hargs c).2.2.2.2.2.2.2.2.2.2.2.2.2.2.2.1) ((hargs c).2.2.2.2.2.2.2.2.2.2.2.2.2.2.2.2.2.2.2.2.2.2.2.1) ((hargs c).2.2.2.2.2.2.2.2.2.2.2.2.2.2.2.2.2.2.2.2.2.2.2.2.2.2.2.2.2.2.2) ((hargs c).2.2.2.2.2.2.2.1)),
      (h c).2.2.2.2.2.2.2.2.1.trans (newM_congr ((hargs c).2.2.2.2.2.2.2.2.1) ((hargs c).2.2.2.2.2.2.2.2.2.2.2.2.2.2.2.2.1)),
      (h c).2.2.2.2.2.2.2.2.2.1.trans (newM_congr ((hargs c).2.2.2.2.2.2.2.2.2.1) ((hargs c).2.2.2.2.2.2.2.2.2.2.2.2.2.2.2.2.2.1)),
      (h c).2.2.2.2.2.2.2.2.2.2.1.trans (newM_congr ((hargs c).2.2.2.2.2.2.2.2.2.2.1) ((hargs c).2.2.2.2.2.2.2.2.2.2.2.2.2.2.2.2.2.2.1)),
      (h c).2.2.2.2.2.2.2.2.2.2.2.1.trans (newM_congr ((hargs c).2.2.2.2.2.2.2.2.2.2.2.1) ((hargs c).2.2.2.2.2.2.2.2.2.2.2.2.2.2.2.2.2.2.2.1)),
      (h c).2.2.2.2.2.2.2.2.2.2.2.2.1.trans (newM_congr ((hargs c).2.2.2.2.2.2.2.2.2.2.2.2.1) ((hargs c).2.2.2.2.2.2.2.2.2.2.2.2.2.2.2.2.2.2.2.2.1)),
      (h c).2.2.2.2.2.2.2.2.2.2.2.2.2.1.trans (newM_congr ((hargs c).2.2.2.2.2.2.2.2.2.2.2.2.2.1) ((hargs c).2.2.2.2.2.2.2.2.2.2.2.2.2.2.2.2.2.2.2.2.2.1)),
      (h c).2.2.2.2.2.2.2.2.2.2.2.2.2.2.1.trans (newM_congr ((hargs c).2.2.2.2.2.2.2.2.2.2.2.2.2.2.1) ((hargs c).2.2.2.2.2.2.2.2.2.2.2.2.2.2.2.2.2.2.2.2.2.2.1)),
      (h c).2.2.2.2.2.2.2.2.2.2.2.2.2.2.2.1.trans (newM_congr ((hargs c).2.2.2.2.2.2.2.2.2.2.2.2.2.2.2.1) ((hargs c).2.2.2.2.2.2.2.2.2.2.2.2.2.2.2.2.2.2.2.2.2.2.2.1)),
      (h c).2.2.2.2.2.2.2.2.2.2.2.2.2.2.2.2.1.trans (newV_congr ((hargs c).2.2.2.2.2.2.2.2.1) ((hargs c).2.2.2.2.2.2.2.2.2.2.2.2.2.2.2.2.2.2.2.2.2.2.2.2.1)),
      (h c).2.2.2.2.2.2.2.2.2.2.2.2.2.2.2.2.2.1.trans (newV_congr ((hargs c).2.2.2.2.2.2.2.2.2.1) ((hargs c).2.2.2.2.2.2.2.2.2.2.2.2.2.2.2.2.2.2.2.2.2.2.2.2.2.1)),
      (h c).2.2.2.2.2.2.2.2.2.2.2.2.2.2.2.2.2.2.1.trans (newV_congr ((hargs c).2.2.2.2.2.2.2.2.2.2.1) ((hargs c).2.2.2.2.2.2.2.2.2.2.2.2.2.2.2.2.2.2.2.2.2.2.2.2.2.2.1)),
      (h c).2.2.2.2.2.2.2.2.2.2.2.2.2.2.2.2.2.2.2.1.trans (newV_congr ((hargs c).2.2.2.2.2.2.2.2.2.2.2.1) ((hargs c).2.2.2.2.2.2.2.2.2.2.2.2.2.2.2.2.2.2.2.2.2.2.2.2.2.2.2.1)),
      (h c).2.2.2.2.2.2.2.2.2.2.2.2.2.2.2.2.2.2.2.2.1.trans (newV_congr ((hargs c).2.2.2.2.2.2.2.2.2.2.2.2.1) ((hargs c).2.2.2.2.2.2.2.2.2.2.2.2.2.2.2.2.2.2.2.2.2.2.2.2.2.2.2.2.1)),
      (h c).2.2.2.2.2.2.2.2.2.2.2.2.2.2.2.2.2.2.2.2.2.1.trans (newV_congr ((hargs c).2.2.2.2.2.2.2.2.2.2.2.2.2.1) ((hargs c).2.2.2.2.2.2.2.2.2.2.2.2.2.2.2.2.2.2.2.2.2.2.2.2.2.2.2.2.2.1)),
      (h c).2.2.2.2.2.2.2.2.2.2.2.2.2.2.2.2.2.2.2.2.2.2.1.trans (newV_congr ((hargs c).2.2.2.2.2.2.2.2.2.2.2.2.2.2.1) ((hargs c).2.2.2.2.2.2.2.2.2.2.2.2.2.2.2.2.2.2.2.2.2.2.2.2.2.2.2.2.2.2.1)),
      (h c).2.2.2.2.2.2.2.2.2.2.2.2.2.2.2.2.2.2.2.2.2.2.2.1.trans (newV_congr ((hargs c).2.2.2.2.2.2.2.2.2.2.2.2.2.2.2.1) ((hargs c).2.2.2.2.2.2.2.2.2.2.2.2.2.2.2.2.2.2.2.2.2.2.2.2.2.2.2.2.2.2.2)),
      (h c).2.2.2.2.2.2.2.2.2.2.2.2.2.2.2.2.2.2.2.2.2.2.2.2⟩) (Cert.Reference10Ideal.Value.run m' ρ')⟩

end Cert.AdamSmall

end

end
-- ==== Proof.AdamGate.lean ====
module

public import proofs.«01_k».proof.Defs
public import proofs.«01_k».proof.Proof.Gen.Kernel11
public import proofs.«01_k».proof.Proof.Gen.Kernel11Ideal.Frame
public import proofs.«01_k».proof.Proof.Gen.Reference11Ideal.Run
public import proofs.«01_k».proof.Proof.Gen.Reference11Ideal.Read
public import Idealize.ShloMosaic.Lib.Quiescent
public import Idealize.ShloMosaic.Lib.Pipeline.Value
public import Idealize.ShloMosaic.Lib.Pipeline.ValueKit.Point
public import Idealize.ShloMosaic.Lib.VecWindow
public import Idealize.ShloMosaic.Lib.WholeRead
public import proofs.«01_k».proof.Proof.Adam

@[expose] public section

set_option maxRecDepth 16384

noncomputable section

namespace Cert.AdamGate

open Cert.Kernel11Ideal Cert.Kernel11Ideal.Gen Idealize.ShloMosaic Idealize.ShloMosaic.TcCoe Idealize.SL.Sem
open Idealize.ShloMosaic.Pipeline (Dat)
open Cert.Adam

variable (m : (ℓ : Loc nD τ sig) → Buf (Elt Ideal) ℓ) (ρ : Dev nD → PrngReg)

/-! ## One grid point -/

theorem hz2 : (![0, 0] : Fin 2 → Nat) = fun _ => 0 := funext fun a => by fin_cases a <;> rfl

theorem ok : Ok m := trivial

/-- The core's number, as the table holds it. -/
def core : BitVec 32 := (tbl m 0 : S1.Idx → BitVec 32) (ix1 0)

theorem whole {arg : Memref sig .tc .vmem S352x1024 .f32} (hw : arg.IsWhole) (X : Vec Ideal S352x1024 .f32) :
    View.readAt (Elt Ideal) arg.view (Rect.unit ![0, 0] S352x1024.size inb_S352x1024_S352x1024_0_0).toLoadRect (hw.unread X) = X :=
  (funext fun x => Memref.IsWhole.readAt_unread hw X _ x).trans (View.ld_unit_zero (S := S352x1024) hz2 _ X)

theorem pay7_eq (g x : Vec Ideal S352x1024 .f32) : k0_pay7 g x = newM g x := by
  unfold k0_pay7 k0_pay6; simp only [shapeCast_self]; rfl
theorem pay8_eq (g x : Vec Ideal S352x1024 .f32) : k0_pay8 g x = newV g x := by
  unfold k0_pay8 k0_pay6; simp only [shapeCast_self]; rfl
theorem pay1_eq (g x y w : Vec Ideal S352x1024 .f32) : k0_pay1 (newM g x) (newV g y) w = delta g x y w := by
  unfold k0_pay1; simp only [shapeCast_self]; rfl

theorem core_read {c : Dev nD} (x : TbBuf0 (F := Ideal) c tbM0_0) (hp) :
    View.readAt (Elt Ideal) tbM0_0.view (Rect.unit ![0] S1.size inb_S1_S1_0).toLoadRect x (Shape.Idx.first hp) = (x : S1.Idx → BitVec 32) (ix1 0) :=
  congrArg (x : S1.Idx → BitVec 32) (funext fun a => by match a with | ⟨0, _⟩ => exact Subsingleton.elim (α := Fin 1) _ _)

theorem pay_A (c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0) :
    (out0_A_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_A_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_A_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_A_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0)
      = outs (pick ((xt0 : S1.Idx → BitVec 32) (ix1 0)) 0#32 x0 x2) x5 x6 x4 := by
  have hg : kernelRun0_A.sl.v12 c arg2 harg2 arg4 harg4 arg9 x0 x2 xt0 = pick ((xt0 : S1.Idx → BitVec 32) (ix1 0)) 0#32 x0 x2 := by
    unfold kernelRun0_A.sl.v12 kernelRun0_A.sl.H7_1 kernelRun0_A.sl.r
    refine (View.readCov_unit_zero (S := S352x1024) arg9.view hz2 _ _).trans ?_
    rw [whole, whole, core_read]; rfl
  refine Prod.ext ?_ (Prod.ext ?_ (Prod.ext ?_ ?_))
  · dsimp only [outs]; unfold out0_A_7
    refine (View.read_writes_full VO0_7 _ inb_S352x1024_S352x1024_0_0 _ []).trans ?_
    unfold kernelRun0_A.sl.r; rw [whole, whole, core_read]; rfl
  · dsimp only [outs]; unfold out0_A_8
    refine (View.read_writes_full VO0_8 _ inb_S352x1024_S352x1024_0_0 _ []).trans ?_
    unfold kernelRun0_A.sl.r_1 kernelRun0_A.sl.r_2
    rw [hg, whole, whole, whole, pay7_eq, pay8_eq, pay1_eq]
  · dsimp only [outs]; unfold out0_A_9
    refine (View.read_writes_full VO0_9 _ inb_S352x1024_S352x1024_0_0 _ []).trans ?_
    rw [hg, whole, pay7_eq]
  · dsimp only [outs]; unfold out0_A_10
    refine (View.read_writes_full VO0_10 _ inb_S352x1024_S352x1024_0_0 _ []).trans ?_
    rw [hg, whole, pay8_eq]

theorem outs_A (c : Dev nD) (t : Fin (cfgM m (ok m)).N) (h0 : t.val % 4 = 0) (h1 : ¬t.val % 4 = 1) (h2 : ¬t.val % 4 = 2) (h3 : ¬t.val % 4 = 3) :
    outsAt0 m (ok m) c t.val t.isLt = outs (pick (core m) 0#32 (iblk m (ok m) c 0 t : Vec Ideal S352x1024 .f32) (iblk m (ok m) c 2 t : Vec Ideal S352x1024 .f32))
      (iblk m (ok m) c 5 t : Vec Ideal S352x1024 .f32) (iblk m (ok m) c 6 t : Vec Ideal S352x1024 .f32) (iblk m (ok m) c 4 t : Vec Ideal S352x1024 .f32) :=
  (outsAt0_A m (ok m) c t h0 h1 h2 h3).trans (pay_A ..)

theorem pay_B (c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0) :
    (out0_B_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_B_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_B_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_B_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0)
      = outs (pick ((xt0 : S1.Idx → BitVec 32) (ix1 0)) 1#32 x0 x2) x5 x6 x4 := by
  have hg : kernelRun0_B.sl.v12 c arg2 harg2 arg4 harg4 arg9 x0 x2 xt0 = pick ((xt0 : S1.Idx → BitVec 32) (ix1 0)) 1#32 x0 x2 := by
    unfold kernelRun0_B.sl.v12 kernelRun0_B.sl.H7_1 kernelRun0_B.sl.r
    refine (View.readCov_unit_zero (S := S352x1024) arg9.view hz2 _ _).trans ?_
    rw [whole, whole, core_read]; rfl
  refine Prod.ext ?_ (Prod.ext ?_ (Prod.ext ?_ ?_))
  · dsimp only [outs]; unfold out0_B_7
    refine (View.read_writes_full VO0_7 _ inb_S352x1024_S352x1024_0_0 _ []).trans ?_
    unfold kernelRun0_B.sl.r; rw [whole, whole, core_read]; rfl
  · dsimp only [outs]; unfold out0_B_8
    refine (View.read_writes_full VO0_8 _ inb_S352x1024_S352x1024_0_0 _ []).trans ?_
    unfold kernelRun0_B.sl.r_1 kernelRun0_B.sl.r_2
    rw [hg, whole, whole, whole, pay7_eq, pay8_eq, pay1_eq]
  · dsimp only [outs]; unfold out0_B_9
    refine (View.read_writes_full VO0_9 _ inb_S352x1024_S352x1024_0_0 _ []).trans ?_
    rw [hg, whole, pay7_eq]
  · dsimp only [outs]; unfold out0_B_10
    refine (View.read_writes_full VO0_10 _ inb_S352x1024_S352x1024_0_0 _ []).trans ?_
    rw [hg, whole, pay8_eq]

theorem outs_B (c : Dev nD) (t : Fin (cfgM m (ok m)).N) (h0 : ¬t.val % 4 = 0) (h1 : t.val % 4 = 1) (h2 : ¬t.val % 4 = 2) (h3 : ¬t.val % 4 = 3) :
    outsAt0 m (ok m) c t.val t.isLt = outs (pick (core m) 1#32 (iblk m (ok m) c 0 t : Vec Ideal S352x1024 .f32) (iblk m (ok m) c 2 t : Vec Ideal S352x1024 .f32))
      (iblk m (ok m) c 5 t : Vec Ideal S352x1024 .f32) (iblk m (ok m) c 6 t : Vec Ideal S352x1024 .f32) (iblk m (ok m) c 4 t : Vec Ideal S352x1024 .f32) :=
  (outsAt0_B m (ok m) c t h0 h1 h2 h3).trans (pay_B ..)

theorem pay_C (c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0) :
    (out0_C_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_C_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_C_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_C_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0)
      = outs (pick ((xt0 : S1.Idx → BitVec 32) (ix1 0)) 0#32 x1 x3) x5 x6 x4 := by
  have hg : kernelRun0_C.sl.v12 c arg3 harg3 arg5 harg5 arg9 x1 x3 xt0 = pick ((xt0 : S1.Idx → BitVec 32) (ix1 0)) 0#32 x1 x3 := by
    unfold kernelRun0_C.sl.v12 kernelRun0_C.sl.H7_1 kernelRun0_C.sl.r
    refine (View.readCov_unit_zero (S := S352x1024) arg9.view hz2 _ _).trans ?_
    rw [whole, whole, core_read]; rfl
  refine Prod.ext ?_ (Prod.ext ?_ (Prod.ext ?_ ?_))
  · dsimp only [outs]; unfold out0_C_7
    refine (View.read_writes_full VO0_7 _ inb_S352x1024_S352x1024_0_0 _ []).trans ?_
    unfold kernelRun0_C.sl.r; rw [whole, whole, core_read]; rfl
  · dsimp only [outs]; unfold out0_C_8
    refine (View.read_writes_full VO0_8 _ inb_S352x1024_S352x1024_0_0 _ []).trans ?_
    unfold kernelRun0_C.sl.r_1 kernelRun0_C.sl.r_2
    rw [hg, whole, whole, whole, pay7_eq, pay8_eq, pay1_eq]
  · dsimp only [outs]; unfold out0_C_9
    refine (View.read_writes_full VO0_9 _ inb_S352x1024_S352x1024_0_0 _ []).trans ?_
    rw [hg, whole, pay7_eq]
  · dsimp only [outs]; unfold out0_C_10
    refine (View.read_writes_full VO0_10 _ inb_S352x1024_S352x1024_0_0 _ []).trans ?_
    rw [hg, whole, pay8_eq]

theorem outs_C (c : Dev nD) (t : Fin (cfgM m (ok m)).N) (h0 : ¬t.val % 4 = 0) (h1 : ¬t.val % 4 = 1) (h2 : t.val % 4 = 2) (h3 : ¬t.val % 4 = 3) :
    outsAt0 m (ok m) c t.val t.isLt = outs (pick (core m) 0#32 (iblk m (ok m) c 1 t : Vec Ideal S352x1024 .f32) (iblk m (ok m) c 3 t : Vec Ideal S352x1024 .f32))
      (iblk m (ok m) c 5 t : Vec Ideal S352x1024 .f32) (iblk m (ok m) c 6 t : Vec Ideal S352x1024 .f32) (iblk m (ok m) c 4 t : Vec Ideal S352x1024 .f32) :=
  (outsAt0_C m (ok m) c t h0 h1 h2 h3).trans (pay_C ..)

theorem pay_D (c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0) :
    (out0_D_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_D_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_D_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_D_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0)
      = outs (pick ((xt0 : S1.Idx → BitVec 32) (ix1 0)) 1#32 x1 x3) x5 x6 x4 := by
  have hg : kernelRun0_D.sl.v12 c arg3 harg3 arg5 harg5 arg9 x1 x3 xt0 = pick ((xt0 : S1.Idx → BitVec 32) (ix1 0)) 1#32 x1 x3 := by
    unfold kernelRun0_D.sl.v12 kernelRun0_D.sl.H7_1 kernelRun0_D.sl.r
    refine (View.readCov_unit_zero (S := S352x1024) arg9.view hz2 _ _).trans ?_
    rw [whole, whole, core_read]; rfl
  refine Prod.ext ?_ (Prod.ext ?_ (Prod.ext ?_ ?_))
  · dsimp only [outs]; unfold out0_D_7
    refine (View.read_writes_full VO0_7 _ inb_S352x1024_S352x1024_0_0 _ []).trans ?_
    unfold kernelRun0_D.sl.r; rw [whole, whole, core_read]; rfl
  · dsimp only [outs]; unfold out0_D_8
    refine (View.read_writes_full VO0_8 _ inb_S352x1024_S352x1024_0_0 _ []).trans ?_
    unfold kernelRun0_D.sl.r_1 kernelRun0_D.sl.r_2
    rw [hg, whole, whole, whole, pay7_eq, pay8_eq, pay1_eq]
  · dsimp only [outs]; unfold out0_D_9
    refine (View.read_writes_full VO0_9 _ inb_S352x1024_S352x1024_0_0 _ []).trans ?_
    rw [hg, whole, pay7_eq]
  · dsimp only [outs]; unfold out0_D_10
    refine (View.read_writes_full VO0_10 _ inb_S352x1024_S352x1024_0_0 _ []).trans ?_
    rw [hg, whole, pay8_eq]

theorem outs_D (c : Dev nD) (t : Fin (cfgM m (ok m)).N) (h0 : ¬t.val % 4 = 0) (h1 : ¬t.val % 4 = 1) (h2 : ¬t.val % 4 = 2) (h3 : t.val % 4 = 3) :
    outsAt0 m (ok m) c t.val t.isLt = outs (pick (core m) 1#32 (iblk m (ok m) c 1 t : Vec Ideal S352x1024 .f32) (iblk m (ok m) c 3 t : Vec Ideal S352x1024 .f32))
      (iblk m (ok m) c 5 t : Vec Ideal S352x1024 .f32) (iblk m (ok m) c 6 t : Vec Ideal S352x1024 .f32) (iblk m (ok m) c 4 t : Vec Ideal S352x1024 .f32) :=
  (outsAt0_D m (ok m) c t h0 h1 h2 h3).trans (pay_D ..)

/-! ## The blocks -/

/-- Where entry `j` of point `t`'s block of rows lies. -/
def rowIx (t : Fin grid0.N) (j : S352x1024.Idx) : S1408x1024.Idx :=
  ix2 ⟨352 * t.val + (j 0).val, by have h1 : t.val < 4 := N_0 ▸ t.isLt; have h2 : (j 0).val < 352 := (j 0).isLt; omega⟩ (j 1)

theorem row_at : ∀ t : Fin grid0.N, cc0_transform_4 (grid0.coords t) (0 : Fin 2) = t.val ∧ cc0_transform_4 (grid0.coords t) (1 : Fin 2) = 0 := by decide +kernel
theorem all_at : ∀ t : Fin grid0.N, cc0_transform_0 (grid0.coords t) (0 : Fin 2) = 0 ∧ cc0_transform_0 (grid0.coords t) (1 : Fin 2) = 0 := by decide +kernel

theorem emb4 (t : Fin grid0.N) (j : S352x1024.Idx) : (((cfgM m (ok m)).win 4).blk t).view.emb j = rowIx t j := by
  obtain ⟨e0, e1⟩ := row_at t
  funext a; apply Fin.ext
  match a with
  | ⟨0, _⟩ => show cc0_transform_4 (grid0.coords t) (0 : Fin 2) * 352 + 1 * (j 0).val = 352 * t.val + (j 0).val; omega
  | ⟨1, _⟩ => show cc0_transform_4 (grid0.coords t) (1 : Fin 2) * 1024 + 1 * (j 1).val = (j 1).val; omega

theorem emb5 (t : Fin grid0.N) (j : S352x1024.Idx) : (((cfgM m (ok m)).win 5).blk t).view.emb j = rowIx t j :=
  emb4 m t j

theorem emb6 (t : Fin grid0.N) (j : S352x1024.Idx) : (((cfgM m (ok m)).win 6).blk t).view.emb j = rowIx t j :=
  emb4 m t j

theorem emb7 (t : Fin grid0.N) (j : S352x1024.Idx) : (((cfgM m (ok m)).win 7).blk t).view.emb j = rowIx t j :=
  emb4 m t j

theorem emb8 (t : Fin grid0.N) (j : S352x1024.Idx) : (((cfgM m (ok m)).win 8).blk t).view.emb j = rowIx t j :=
  emb4 m t j

theorem emb9 (t : Fin grid0.N) (j : S352x1024.Idx) : (((cfgM m (ok m)).win 9).blk t).view.emb j = rowIx t j :=
  emb4 m t j

theorem emb10 (t : Fin grid0.N) (j : S352x1024.Idx) : (((cfgM m (ok m)).win 10).blk t).view.emb j = rowIx t j :=
  emb4 m t j

theorem emb0 (t : Fin grid0.N) (j : S352x1024.Idx) : (((cfgM m (ok m)).win 0).blk t).view.emb j = j := by
  obtain ⟨e0, e1⟩ := all_at t
  funext a; apply Fin.ext
  match a with
  | ⟨0, _⟩ => show cc0_transform_0 (grid0.coords t) (0 : Fin 2) * 352 + 1 * (j 0).val = (j 0).val; omega
  | ⟨1, _⟩ => show cc0_transform_0 (grid0.coords t) (1 : Fin 2) * 1024 + 1 * (j 1).val = (j 1).val; omega
theorem in0 (c : Dev nD) (t : Fin grid0.N) : (iblk m (ok m) c 0 t : Vec Ideal S352x1024 .f32) = m ((c : Thread nD τ).loc main_arg3) :=
  Eq.trans (funext fun j => congrArg (V m c main_arg3 : S352x1024.Idx → _) (emb0 m t j)) (V_main_arg3 m c)

theorem emb1 (t : Fin grid0.N) (j : S352x1024.Idx) : (((cfgM m (ok m)).win 1).blk t).view.emb j = j :=
  emb0 m t j
theorem in1 (c : Dev nD) (t : Fin grid0.N) : (iblk m (ok m) c 1 t : Vec Ideal S352x1024 .f32) = m ((c : Thread nD τ).loc main_arg4) :=
  Eq.trans (funext fun j => congrArg (V m c main_arg4 : S352x1024.Idx → _) (emb1 m t j)) (V_main_arg4 m c)

theorem emb2 (t : Fin grid0.N) (j : S352x1024.Idx) : (((cfgM m (ok m)).win 2).blk t).view.emb j = j :=
  emb0 m t j
theorem in2 (c : Dev nD) (t : Fin grid0.N) : (iblk m (ok m) c 2 t : Vec Ideal S352x1024 .f32) = m ((c : Thread nD τ).loc main_arg5) :=
  Eq.trans (funext fun j => congrArg (V m c main_arg5 : S352x1024.Idx → _) (emb2 m t j)) (V_main_arg5 m c)

theorem emb3 (t : Fin grid0.N) (j : S352x1024.Idx) : (((cfgM m (ok m)).win 3).blk t).view.emb j = j :=
  emb0 m t j
theorem in3 (c : Dev nD) (t : Fin grid0.N) : (iblk m (ok m) c 3 t : Vec Ideal S352x1024 .f32) = m ((c : Thread nD τ).loc main_arg6) :=
  Eq.trans (funext fun j => congrArg (V m c main_arg6 : S352x1024.Idx → _) (emb3 m t j)) (V_main_arg6 m c)

theorem in4 (c : Dev nD) (t : Fin grid0.N) : (iblk m (ok m) c 4 t : Vec Ideal S352x1024 .f32) = fun j => (V m c main_v1 : Vec Ideal S1408x1024 .f32) (rowIx t j) :=
  funext fun j => congrArg (V m c main_v1 : S1408x1024.Idx → _) (emb4 m t j)

theorem in5 (c : Dev nD) (t : Fin grid0.N) : (iblk m (ok m) c 5 t : Vec Ideal S352x1024 .f32) = fun j => (V m c main_v3 : Vec Ideal S1408x1024 .f32) (rowIx t j) :=
  funext fun j => congrArg (V m c main_v3 : S1408x1024.Idx → _) (emb5 m t j)

theorem in6 (c : Dev nD) (t : Fin grid0.N) : (iblk m (ok m) c 6 t : Vec Ideal S352x1024 .f32) = fun j => (V m c main_v5 : Vec Ideal S1408x1024 .f32) (rowIx t j) :=
  funext fun j => congrArg (V m c main_v5 : S1408x1024.Idx → _) (emb6 m t j)

/-! ## The gradient, assembled from the halves the cores own -/

/-- The rows of the two layers' halves, one below the other. -/
def gArr (k : BitVec 32) (a b c d : Vec Ideal S352x1024 .f32) : Vec Ideal S1408x1024 .f32 := fun i =>
  pick k (BitVec.ofNat 32 ((i 0).val / 352 % 2)) (if (i 0).val / 352 < 2 then a else b) (if (i 0).val / 352 < 2 then c else d)
    (ix2 ⟨(i 0).val % 352, Nat.mod_lt _ (by decide)⟩ (i 1))

theorem gArr_at (k : BitVec 32) (a b c d : Vec Ideal S352x1024 .f32) (i : S1408x1024.Idx) (j : S352x1024.Idx) (q : Nat)
    (h0 : (i 0).val = 352 * q + (j 0).val) (h1 : (i 1).val = (j 1).val) :
    gArr k a b c d i = pick k (BitVec.ofNat 32 (q % 2)) (if q < 2 then a else b) (if q < 2 then c else d) j := by
  have hj : (j 0).val < 352 := (j 0).isLt
  have hq : (i 0).val / 352 = q := by omega
  have hi : (ix2 ⟨(i 0).val % 352, Nat.mod_lt _ (by decide)⟩ (i 1) : S352x1024.Idx) = j := by
    funext x; apply Fin.ext
    match x with
    | ⟨0, _⟩ => show (i 0).val % 352 = (j 0).val; omega
    | ⟨1, _⟩ => exact h1
  unfold gArr
  rw [hi, hq]

/-- The gradient of the whole array, of the arguments. -/
def grad (c : Dev nD) : Vec Ideal S1408x1024 .f32 :=
  gArr (core m) (m ((c : Thread nD τ).loc main_arg3)) (m ((c : Thread nD τ).loc main_arg4)) (m ((c : Thread nD τ).loc main_arg5)) (m ((c : Thread nD τ).loc main_arg6))

theorem outs_at (c : Dev nD) (t : Fin grid0.N) :
    outsAt0 m (ok m) c t.val t.isLt = outs (fun j : S352x1024.Idx => grad m c (rowIx t j)) (fun j => (V m c main_v3 : Vec Ideal S1408x1024 .f32) (rowIx t j))
      (fun j => (V m c main_v5 : Vec Ideal S1408x1024 .f32) (rowIx t j)) (fun j => (V m c main_v1 : Vec Ideal S1408x1024 .f32) (rowIx t j)) := by
  rcases fin_N0 t with h | h | h | h <;> subst h
  · refine (outs_A m c t0_0 (by show (0 : Nat) % 4 = 0; decide) (by show ¬ (0 : Nat) % 4 = 1; decide) (by show ¬ (0 : Nat) % 4 = 2; decide) (by show ¬ (0 : Nat) % 4 = 3; decide)).trans ?_
    rw [in0, in2, in4, in5, in6]
    exact congrArg (outs · _ _ _) (funext fun j => (gArr_at _ _ _ _ _ _ j 0 rfl rfl).symm)
  · refine (outs_B m c t0_1 (by show ¬ (1 : Nat) % 4 = 0; decide) (by show (1 : Nat) % 4 = 1; decide) (by show ¬ (1 : Nat) % 4 = 2; decide) (by show ¬ (1 : Nat) % 4 = 3; decide)).trans ?_
    rw [in0, in2, in4, in5, in6]
    exact congrArg (outs · _ _ _) (funext fun j => (gArr_at _ _ _ _ _ _ j 1 rfl rfl).symm)
  · refine (outs_C m c t0_2 (by show ¬ (2 : Nat) % 4 = 0; decide) (by show ¬ (2 : Nat) % 4 = 1; decide) (by show (2 : Nat) % 4 = 2; decide) (by show ¬ (2 : Nat) % 4 = 3; decide)).trans ?_
    rw [in1, in3, in4, in5, in6]
    exact congrArg (outs · _ _ _) (funext fun j => (gArr_at _ _ _ _ _ _ j 2 rfl rfl).symm)
  · refine (outs_D m c t0_3 (by show ¬ (3 : Nat) % 4 = 0; decide) (by show ¬ (3 : Nat) % 4 = 1; decide) (by show ¬ (3 : Nat) % 4 = 2; decide) (by show (3 : Nat) % 4 = 3; decide)).trans ?_
    rw [in1, in3, in4, in5, in6]
    exact congrArg (outs · _ _ _) (funext fun j => (gArr_at _ _ _ _ _ _ j 3 rfl rfl).symm)

/-- Every row lies in some point's block. -/
theorem row_cover (i : S1408x1024.Idx) : ∃ (t : Fin grid0.N) (j : S352x1024.Idx), rowIx t j = i := by
  have hi : (i 0).val < 1408 := (i 0).isLt
  refine ⟨⟨(i 0).val / 352, by rw [N_0]; omega⟩, ix2 ⟨(i 0).val % 352, Nat.mod_lt _ (by decide)⟩ (i 1), ?_⟩
  funext x; apply Fin.ext
  match x with
  | ⟨0, _⟩ => show 352 * ((i 0).val / 352) + (i 0).val % 352 = (i 0).val; omega
  | ⟨1, _⟩ => rfl

set_option maxHeartbeats 1000000 in
theorem arr7 (c : Dev nD) : (dats m (ok m) 0 c).arrAt 7 (cfgM m (ok m)).N = (grad m c : Vec Ideal S1408x1024 .f32) :=
  (dats m (ok m) 0 c).arrAt_eq_of_cover 7 _ (fun t _ => by
    show ((cfgM m (ok m)).win 7).cut (grid0.coords t) ((dats m (ok m) 0 c).after 7 t) = _
    rw [after0_7, outs_at]
    exact funext fun j => (congrArg (grad m c : Vec Ideal S1408x1024 .f32) (emb7 m t j)).symm)
    fun i => by
      obtain ⟨t, j, e⟩ := row_cover i
      refine ⟨t, flush0_7 _ t, ?_⟩
      have h := (((cfgM m (ok m)).win 7).blk t).view.emb_mem_set j
      rw [emb7, e] at h; exact h

set_option maxHeartbeats 1000000 in
theorem arr8 (c : Dev nD) : (dats m (ok m) 0 c).arrAt 8 (cfgM m (ok m)).N = (delta (grad m c) (V m c main_v3) (V m c main_v5) (V m c main_v1) : Vec Ideal S1408x1024 .f32) :=
  (dats m (ok m) 0 c).arrAt_eq_of_cover 8 _ (fun t _ => by
    show ((cfgM m (ok m)).win 8).cut (grid0.coords t) ((dats m (ok m) 0 c).after 8 t) = _
    rw [after0_8, outs_at]
    exact funext fun j => (congrArg (delta (grad m c) (V m c main_v3) (V m c main_v5) (V m c main_v1) : Vec Ideal S1408x1024 .f32) (emb8 m t j)).symm)
    fun i => by
      obtain ⟨t, j, e⟩ := row_cover i
      refine ⟨t, flush0_8 _ t, ?_⟩
      have h := (((cfgM m (ok m)).win 8).blk t).view.emb_mem_set j
      rw [emb8, e] at h; exact h

set_option maxHeartbeats 1000000 in
theorem arr9 (c : Dev nD) : (dats m (ok m) 0 c).arrAt 9 (cfgM m (ok m)).N = (newM (grad m c) (V m c main_v3) : Vec Ideal S1408x1024 .f32) :=
  (dats m (ok m) 0 c).arrAt_eq_of_cover 9 _ (fun t _ => by
    show ((cfgM m (ok m)).win 9).cut (grid0.coords t) ((dats m (ok m) 0 c).after 9 t) = _
    rw [after0_9, outs_at]
    exact funext fun j => (congrArg (newM (grad m c) (V m c main_v3) : Vec Ideal S1408x1024 .f32) (emb9 m t j)).symm)
    fun i => by
      obtain ⟨t, j, e⟩ := row_cover i
      refine ⟨t, flush0_9 _ t, ?_⟩
      have h := (((cfgM m (ok m)).win 9).blk t).view.emb_mem_set j
      rw [emb9, e] at h; exact h

set_option maxHeartbeats 1000000 in
theorem arr10 (c : Dev nD) : (dats m (ok m) 0 c).arrAt 10 (cfgM m (ok m)).N = (newV (grad m c) (V m c main_v5) : Vec Ideal S1408x1024 .f32) :=
  (dats m (ok m) 0 c).arrAt_eq_of_cover 10 _ (fun t _ => by
    show ((cfgM m (ok m)).win 10).cut (grid0.coords t) ((dats m (ok m) 0 c).after 10 t) = _
    rw [after0_10, outs_at]
    exact funext fun j => (congrArg (newV (grad m c) (V m c main_v5) : Vec Ideal S1408x1024 .f32) (emb10 m t j)).symm)
    fun i => by
      obtain ⟨t, j, e⟩ := row_cover i
      refine ⟨t, flush0_10 _ t, ?_⟩
      have h := (((cfgM m (ok m)).win 10).blk t).view.emb_mem_set j
      rw [emb10, e] at h; exact h

/-! ## The host's transposes and reshapes -/

/-- The rows of the transposed layers, one below the other. -/
def into (X : Vec Ideal S2x1024x704 .f32) : Vec Ideal S1408x1024 .f32 :=
  shapeCast S1408x1024 (transpose S2x704x1024 [0, 2, 1] X transposes_S2x1024x704_S2x704x1024_0_2_1) shapeCasts_S2x704x1024_S1408x1024
/-- The layers again. -/
def back (X : Vec Ideal S1408x1024 .f32) : Vec Ideal S2x1024x704 .f32 :=
  transpose S2x1024x704 [0, 2, 1] (shapeCast S2x704x1024 X shapeCasts_S1408x1024_S2x704x1024) transposes_S2x704x1024_S2x1024x704_0_2_1
theorem back_into (X : Vec Ideal S2x1024x704 .f32) : back (into X) = X := by
  unfold back into
  rw [shapeCast_shapeCast]
  funext j
  rw [transpose_apply _ _ _ j (ix3 (j 0) (j 2) (j 1) : S2x704x1024.Idx) (fun b => by match b with | ⟨0, _⟩ => rfl | ⟨1, _⟩ => rfl | ⟨2, _⟩ => rfl),
    transpose_apply _ _ _ _ j (fun b => by match b with | ⟨0, _⟩ => rfl | ⟨1, _⟩ => rfl | ⟨2, _⟩ => rfl)]

theorem host_in0 (c : Dev nD) : V m c main_v1 = into (m ((c : Thread nD τ).loc main_arg0)) := by
  show StableHlo.after hostOps0 _ (Proc.devRef .tc main_v1) = _
  after_results
  rfl

theorem host_in1 (c : Dev nD) : V m c main_v3 = into (m ((c : Thread nD τ).loc main_arg1)) := by
  show StableHlo.after hostOps0 _ (Proc.devRef .tc main_v3) = _
  after_results
  rfl

theorem host_in2 (c : Dev nD) : V m c main_v5 = into (m ((c : Thread nD τ).loc main_arg2)) := by
  show StableHlo.after hostOps0 _ (Proc.devRef .tc main_v5) = _
  after_results
  rfl

theorem host_out0 (W : Valuation τ sig (Elt Ideal)) :
    StableHlo.after hostOps1 W (Proc.devRef .tc main_v11) = back (W (Proc.devRef .tc main_v6_0)) := by
  after_results
  rfl

theorem host_out1 (W : Valuation τ sig (Elt Ideal)) :
    StableHlo.after hostOps1 W (Proc.devRef .tc main_v12) = back (W (Proc.devRef .tc main_v6_1)) := by
  after_results
  rfl

theorem host_out2 (W : Valuation τ sig (Elt Ideal)) :
    StableHlo.after hostOps1 W (Proc.devRef .tc main_v13) = back (W (Proc.devRef .tc main_v6_2)) := by
  after_results
  rfl

theorem host_out3 (W : Valuation τ sig (Elt Ideal)) :
    StableHlo.after hostOps1 W (Proc.devRef .tc main_v14) = back (W (Proc.devRef .tc main_v6_3)) := by
  after_results
  rfl

theorem arr_inj : Function.Injective (Pipeline.arrRef spec0) := by decide

theorem tail0 (c : Dev nD) : Pipeline.afterTail pcfgs (fun _ => adm m (ok m)) (dats m (ok m)) 0 (V0 m) [hostOps1] c main_v11
    = back ((dats m (ok m) 0 c).arrAt 7 (cfgM m (ok m)).N) :=
  (host_out0 _).trans (congrArg back (Pipeline.withArrays_arr spec0 arr_inj c _ _ 7))

theorem tail1 (c : Dev nD) : Pipeline.afterTail pcfgs (fun _ => adm m (ok m)) (dats m (ok m)) 0 (V0 m) [hostOps1] c main_v12
    = back ((dats m (ok m) 0 c).arrAt 8 (cfgM m (ok m)).N) :=
  (host_out1 _).trans (congrArg back (Pipeline.withArrays_arr spec0 arr_inj c _ _ 8))

theorem tail2 (c : Dev nD) : Pipeline.afterTail pcfgs (fun _ => adm m (ok m)) (dats m (ok m)) 0 (V0 m) [hostOps1] c main_v13
    = back ((dats m (ok m) 0 c).arrAt 9 (cfgM m (ok m)).N) :=
  (host_out2 _).trans (congrArg back (Pipeline.withArrays_arr spec0 arr_inj c _ _ 9))

theorem tail3 (c : Dev nD) : Pipeline.afterTail pcfgs (fun _ => adm m (ok m)) (dats m (ok m)) 0 (V0 m) [hostOps1] c main_v14
    = back ((dats m (ok m) 0 c).arrAt 10 (cfgM m (ok m)).N) :=
  (host_out3 _).trans (congrArg back (Pipeline.withArrays_arr spec0 arr_inj c _ _ 10))

/-! ## The reference's gradient -/

section Reference
open Cert.Reference11Ideal.Read

theorem where2 (a b : Vec Ideal S352x1024 .f32) (x : IVec S1 32) : val_main_v2 (F := Ideal) a b x = pick (x (ix1 0)) 0#32 a b := by
  have e : val_main_v0 (F := Ideal) x = fun _ => x (ix1 0) := funext fun i => congrArg x (funext fun a => by match a with | ⟨0, _⟩ => exact Subsingleton.elim (α := Fin 1) _ _)
  unfold val_main_v2 val_main_v1 pick; rw [e]
  funext j; unfold select Scalar.select; dsimp only [broadcastInDim, cmpi, val_main_c, constantI]
  by_cases hk : IntOp.cmpi .eq (x (ix1 0)) 0#32 = 1
  · exact (if_pos hk).trans (congrFun (if_pos hk).symm j)
  · exact (if_neg hk).trans (congrFun (if_neg hk).symm j)
theorem where5 (a b : Vec Ideal S352x1024 .f32) (x : IVec S1 32) : val_main_v5 (F := Ideal) a b x = pick (x (ix1 0)) 1#32 a b := by
  have e : val_main_v3 (F := Ideal) x = fun _ => x (ix1 0) := funext fun i => congrArg x (funext fun a => by match a with | ⟨0, _⟩ => exact Subsingleton.elim (α := Fin 1) _ _)
  unfold val_main_v5 val_main_v4 pick; rw [e]
  funext j; unfold select Scalar.select; dsimp only [broadcastInDim, cmpi, val_main_c_0, constantI]
  by_cases hk : IntOp.cmpi .eq (x (ix1 0)) 1#32 = 1
  · exact (if_pos hk).trans (congrFun (if_pos hk).symm j)
  · exact (if_neg hk).trans (congrFun (if_neg hk).symm j)
theorem where9 (a b : Vec Ideal S352x1024 .f32) (x : IVec S1 32) : val_main_v9 (F := Ideal) a b x = pick (x (ix1 0)) 0#32 a b := where2 a b x
theorem where12 (a b : Vec Ideal S352x1024 .f32) (x : IVec S1 32) : val_main_v12 (F := Ideal) a b x = pick (x (ix1 0)) 1#32 a b := where5 a b x

/-- A layer: the two halves, one below the other. -/
theorem half (a b : Vec Ideal S352x1024 .f32) (hc : Shape.Concatenates [S352x1024, S352x1024] Cert.Reference11Ideal.S704x1024 0) (p : Fin 704) (k : Fin 1024) :
    concatenate Cert.Reference11Ideal.S704x1024 0 [⟨S352x1024, a⟩, ⟨S352x1024, b⟩] hc (ix2 p k) = (if p.val < 352 then a else b) (ix2 ⟨p.val % 352, Nat.mod_lt _ (by decide)⟩ k) := by
  by_cases hp : p.val < 352
  · rw [if_pos hp]
    exact concatenate_pair_apply_left 0 a b hc _ rfl _ (fun x => by
      match x with
      | ⟨0, _⟩ => exact Nat.mod_eq_of_lt hp
      | ⟨1, _⟩ => rfl)
  · rw [if_neg hp]
    have hb := p.isLt
    exact concatenate_pair_apply_right 0 a b hc _ rfl rfl _ (fun x hx => by
      match x, hx with
      | ⟨0, _⟩, hx => exact absurd rfl hx
      | ⟨1, _⟩, _ => rfl) (by show p.val % 352 + 352 = p.val; omega)

theorem stack (a b c d : Vec Ideal S352x1024 .f32) (x : IVec S1 32) :
    val_main_v16 (F := Ideal) a b c d x = shapeCast S2x704x1024 (gArr (x (ix1 0)) a b c d) shapeCasts_S1408x1024_S2x704x1024 := by
  funext i
  obtain ⟨l, p, k, rfl⟩ : ∃ (l : Fin 2) (p : Fin 704) (k : Fin 1024), i = ix3 l p k := ⟨i 0, i 1, i 2, by funext x; match x with | ⟨0, _⟩ => rfl | ⟨1, _⟩ => rfl | ⟨2, _⟩ => rfl⟩
  have hl := l.isLt
  have hb := p.isLt
  refine Eq.trans ?_ (shapeCast_apply _ _ _ (ix2 ⟨704 * l.val + p.val, by omega⟩ k : S1408x1024.Idx) (by
    rw [Shape.rowMajor_val_three, Shape.rowMajor_val_two]
    show (704 * l.val + p.val) * 1024 + k.val = (l.val * 704 + p.val) * 1024 + k.val; omega)).symm
  refine Eq.trans ?_ (gArr_at _ _ _ _ _ _ (ix2 ⟨p.val % 352, Nat.mod_lt _ (by decide)⟩ k) (2 * l.val + p.val / 352)
    (by show 704 * l.val + p.val = 352 * (2 * l.val + p.val / 352) + p.val % 352; omega) rfl).symm
  have hq : (2 * l.val + p.val / 352) % 2 = p.val / 352 := by omega
  rw [hq]
  have hl2 : l.val = 0 ∨ l.val = 1 := by omega
  unfold val_main_v16
  rcases hl2 with h | h
  · refine (concatenate_pair_apply_left (s₁ := Cert.Reference11Ideal.S1x704x1024) (s₂ := Cert.Reference11Ideal.S1x704x1024) 0 _ _ _ (ix3 l p k) rfl (ix3 0 p k : Cert.Reference11Ideal.S1x704x1024.Idx) (fun x => by
      match x with
      | ⟨0, _⟩ => exact h.symm
      | ⟨1, _⟩ => rfl
      | ⟨2, _⟩ => rfl)).trans ?_
    rw [if_pos (by omega : 2 * l.val + p.val / 352 < 2), if_pos (by omega : 2 * l.val + p.val / 352 < 2)]
    refine Eq.trans (b := val_main_v6 (F := Ideal) a c x (ix2 p k)) ((val_main_v14_apply (F := Ideal) a c x (ix3 0 p k)).trans <| congrArg (val_main_v6 (F := Ideal) a c x) (funext fun y => by match y with | ⟨0, _⟩ => rfl | ⟨1, _⟩ => rfl)) ?_
    unfold val_main_v6
    rw [half, where2, where5]
    by_cases hp : p.val < 352
    · rw [if_pos hp, Nat.div_eq_of_lt hp]
    · rw [if_neg hp, (by omega : p.val / 352 = 1)]
  · refine (concatenate_pair_apply_right (s₁ := Cert.Reference11Ideal.S1x704x1024) (s₂ := Cert.Reference11Ideal.S1x704x1024) 0 _ _ _ (ix3 l p k) rfl rfl (ix3 0 p k : Cert.Reference11Ideal.S1x704x1024.Idx) (fun x hx => by
      match x, hx with
      | ⟨0, _⟩, hx => exact absurd rfl hx
      | ⟨1, _⟩, _ => rfl
      | ⟨2, _⟩, _ => rfl) (by show 0 + 1 = l.val; omega)).trans ?_
    rw [if_neg (by omega : ¬ 2 * l.val + p.val / 352 < 2), if_neg (by omega : ¬ 2 * l.val + p.val / 352 < 2)]
    refine Eq.trans (b := val_main_v13 (F := Ideal) b d x (ix2 p k)) ((val_main_v15_apply (F := Ideal) b d x (ix3 0 p k)).trans <| congrArg (val_main_v13 (F := Ideal) b d x) (funext fun y => by match y with | ⟨0, _⟩ => rfl | ⟨1, _⟩ => rfl)) ?_
    unfold val_main_v13
    rw [half, where9, where12]
    by_cases hp : p.val < 352
    · rw [if_pos hp, Nat.div_eq_of_lt hp]
    · rw [if_neg hp, (by omega : p.val / 352 = 1)]

/-- The reference's gradient is the kernel's. -/
theorem ref_grad (a b c d : Vec Ideal S352x1024 .f32) (x : IVec S1 32) : val_main_v17 (F := Ideal) a b c d x = back (gArr (x (ix1 0)) a b c d) := by
  unfold val_main_v17 back; rw [stack]

theorem ref_m (y : Vec Ideal S2x1024x704 .f32) (a b c d : Vec Ideal S352x1024 .f32) (x : IVec S1 32) :
    val_main_v22 (F := Ideal) y a b c d x = newM (val_main_v17 (F := Ideal) a b c d x) y := rfl
theorem ref_v (y : Vec Ideal S2x1024x704 .f32) (a b c d : Vec Ideal S352x1024 .f32) (x : IVec S1 32) :
    val_main_v28 (F := Ideal) y a b c d x = newV (val_main_v17 (F := Ideal) a b c d x) y := rfl
theorem ref_d (w y z : Vec Ideal S2x1024x704 .f32) (a b c d : Vec Ideal S352x1024 .f32) (x : IVec S1 32) :
    val_main_v41 (F := Ideal) w y z a b c d x = delta (val_main_v17 (F := Ideal) a b c d x) y z w := rfl

end Reference

/-! ## The claims -/

/-- The core's number, off the arguments. -/
theorem core_eq (c : Dev nD) : core m = (m ((c : Thread nD τ).loc main_arg7) : S1.Idx → BitVec 32) (ix1 0) :=
  congrArg (fun f : S1.Idx → BitVec 32 => f (ix1 0)) ((V_pre m c 0).symm.trans (V_main_arg7 m c))

/-- The gradient as the reference computes it, of the kernel's arguments. -/
def G (c : Dev nD) : Vec Ideal S2x1024x704 .f32 := Cert.Reference11Ideal.Read.val_main_v17 (F := Ideal) (m ((c : Thread nD τ).loc main_arg3)) (m ((c : Thread nD τ).loc main_arg4))
  (m ((c : Thread nD τ).loc main_arg5)) (m ((c : Thread nD τ).loc main_arg6)) (m ((c : Thread nD τ).loc main_arg7))
theorem back_grad (c : Dev nD) : back (grad m c) = G m c := by
  unfold G grad; rw [ref_grad, core_eq m c]

theorem val0 (c : Dev nD) : back ((dats m (ok m) 0 c).arrAt 7 (cfgM m (ok m)).N) = G m c := by
  rw [arr7]; exact back_grad m c
theorem val1 (c : Dev nD) : back ((dats m (ok m) 0 c).arrAt 8 (cfgM m (ok m)).N)
    = delta (G m c) (m ((c : Thread nD τ).loc main_arg1)) (m ((c : Thread nD τ).loc main_arg2)) (m ((c : Thread nD τ).loc main_arg0)) := by
  rw [arr8, host_in0, host_in1, host_in2]
  refine Eq.trans (b := delta (back (grad m c)) (back (into (m ((c : Thread nD τ).loc main_arg1)))) (back (into (m ((c : Thread nD τ).loc main_arg2)))) (back (into (m ((c : Thread nD τ).loc main_arg0))))) rfl ?_
  rw [back_grad, back_into, back_into, back_into]
theorem val2 (c : Dev nD) : back ((dats m (ok m) 0 c).arrAt 9 (cfgM m (ok m)).N) = newM (G m c) (m ((c : Thread nD τ).loc main_arg1)) := by
  rw [arr9, host_in1]
  refine Eq.trans (b := newM (back (grad m c)) (back (into (m ((c : Thread nD τ).loc main_arg1))))) rfl ?_
  rw [back_grad, back_into]
theorem val3 (c : Dev nD) : back ((dats m (ok m) 0 c).arrAt 10 (cfgM m (ok m)).N) = newV (G m c) (m ((c : Thread nD τ).loc main_arg2)) := by
  rw [arr10, host_in2]
  refine Eq.trans (b := newV (back (grad m c)) (back (into (m ((c : Thread nD τ).loc main_arg2))))) rfl ?_
  rw [back_grad, back_into]

/-- The two programs have the same functions. -/
theorem defs₀_eq {F : FTy → Type} [FloatOps F] : Cert.Kernel11.defs₀ (F := F) = Cert.Kernel11Ideal.defs₀ (F := F) := by
  unfold Cert.Kernel11.defs₀ Cert.Kernel11Ideal.defs₀
  refine congrArg Defs.onTc (funext fun l => ?_)
  match l with
  | ⟨0, _⟩ => exact funext fun ⟨t, s⟩ => rfl
theorem defs_eq {F : FTy → Type} [FloatOps F] : Cert.Kernel11.defs (F := F) = Cert.Kernel11Ideal.defs (F := F) := by
  unfold Cert.Kernel11.defs Cert.Kernel11Ideal.defs
  rw [defs₀_eq]
  rfl
set_option maxHeartbeats 4000000 in
theorem frame_kernel : Cert.quiescent_Kernel11 := fun m ρ _ => by
  rw [defs_eq]
  exact frame (F := Bits) m ρ trivial
theorem frame_ideal : Cert.quiescent_Kernel11Ideal := fun m ρ _ => frame (F := Ideal) m ρ trivial
theorem frame_reference : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)
theorem preserves : Cert.preserves_Kernel11_Kernel11Ideal := trivial

section Reference
open Cert.Reference11Ideal.Read
theorem of_args {a a' b b' c c' d d' : Vec Ideal S352x1024 .f32} {x x' : IVec S1 32} (h1 : a = a') (h2 : b = b') (h3 : c = c') (h4 : d = d') (h5 : x = x') :
    val_main_v17 (F := Ideal) a b c d x = val_main_v17 (F := Ideal) a' b' c' d' x' := by rw [h1, h2, h3, h4, h5]

set_option maxHeartbeats 4000000 in
/-- The gradient, the change of the parameter and the two moments the kernel leaves are the reference's. -/
theorem algebraic : Cert.algebraic_Kernel11Ideal_Reference11Ideal := fun m ρ m' ρ' _ hargs =>
  ⟨fun c => G m c, fun c => delta (G m c) (m ((c : Thread nD τ).loc main_arg1)) (m ((c : Thread nD τ).loc main_arg2)) (m ((c : Thread nD τ).loc main_arg0)),
    fun c => newM (G m c) (m ((c : Thread nD τ).loc main_arg1)), fun c => newV (G m c) (m ((c : Thread nD τ).loc main_arg2)),
    (θ_run Cert.Kernel11Ideal.defs _ _).mono (fun _ h c => ⟨((h.1 c).2 main_v11 (by decide : main_v11 ∈ Pipeline.restRefs sig spec0)).trans ((tail0 m c).trans (val0 m c)),
      ((h.1 c).2 main_v12 (by decide : main_v12 ∈ Pipeline.restRefs sig spec0)).trans ((tail1 m c).trans (val1 m c)),
      ((h.1 c).2 main_v13 (by decide : main_v13 ∈ Pipeline.restRefs sig spec0)).trans ((tail2 m c).trans (val2 m c)),
      ((h.1 c).2 main_v14 (by decide : main_v14 ∈ Pipeline.restRefs sig spec0)).trans ((tail3 m c).trans (val3 m c)), h.2 c⟩) (θ_run_and (run_main m ρ (ok m)) (unchanged m ρ (ok m))),
    (θ_run Cert.Reference11Ideal.defs _ _).mono (fun _ h c => by
      obtain ⟨a0, a1, a2, a3, a4, a5, a6, a7⟩ := hargs c
      have hG := of_args a3 a4 a5 a6 a7
      exact ⟨(h c).1.trans ((val_main_v17_eq ..).trans hG),
        (h c).2.1.trans ((val_main_v41_eq ..).trans ((ref_d ..).trans (by rw [hG, a0, a1, a2]; rfl))),
        (h c).2.2.1.trans ((val_main_v22_eq ..).trans ((ref_m ..).trans (by rw [hG, a1]; rfl))),
        (h c).2.2.2.1.trans ((val_main_v28_eq ..).trans ((ref_v ..).trans (by rw [hG, a2]; rfl))),
        (h c).2.2.2.2⟩) (Cert.Reference11Ideal.Value.run m' ρ')⟩
end Reference

end Cert.AdamGate
end
end
-- ==== Proof.AdamDown.lean ====
module

public import proofs.«01_k».proof.Defs
public import proofs.«01_k».proof.Proof.Gen.Kernel12
public import proofs.«01_k».proof.Proof.Gen.Kernel12Ideal.Frame
public import proofs.«01_k».proof.Proof.Gen.Reference12Ideal.Run
public import proofs.«01_k».proof.Proof.Gen.Reference12Ideal.Read
public import Idealize.ShloMosaic.Lib.Quiescent
public import Idealize.ShloMosaic.Lib.Pipeline.Value
public import Idealize.ShloMosaic.Lib.Pipeline.ValueKit.Point
public import Idealize.ShloMosaic.Lib.VecWindow
public import Idealize.ShloMosaic.Lib.WholeRead
public import proofs.«01_k».proof.Proof.Adam

@[expose] public section

set_option maxRecDepth 16384

noncomputable section

namespace Cert.AdamDown

open Cert.Kernel12Ideal Cert.Kernel12Ideal.Gen Idealize.ShloMosaic Idealize.ShloMosaic.TcCoe Idealize.SL.Sem
open Idealize.ShloMosaic.Pipeline (Dat)
open Cert.Adam

variable (m : (ℓ : Loc nD τ sig) → Buf (Elt Ideal) ℓ) (ρ : Dev nD → PrngReg)

/-! ## One grid point -/

theorem hz2 : (![0, 0] : Fin 2 → Nat) = fun _ => 0 := funext fun a => by fin_cases a <;> rfl

theorem ok : Ok m := trivial

/-- The core's number, as the table holds it. -/
def core : BitVec 32 := (tbl m 0 : S1.Idx → BitVec 32) (ix1 0)

theorem whole {arg : Memref sig .tc .vmem S352x1024 .f32} (hw : arg.IsWhole) (X : Vec Ideal S352x1024 .f32) :
    View.readAt (Elt Ideal) arg.view (Rect.unit ![0, 0] S352x1024.size inb_S352x1024_S352x1024_0_0).toLoadRect (hw.unread X) = X :=
  (funext fun x => Memref.IsWhole.readAt_unread hw X _ x).trans (View.ld_unit_zero (S := S352x1024) hz2 _ X)

theorem pay7_eq (g x : Vec Ideal S352x1024 .f32) : k0_pay7 g x = newM g x := by
  unfold k0_pay7 k0_pay6; simp only [shapeCast_self]; rfl
theorem pay8_eq (g x : Vec Ideal S352x1024 .f32) : k0_pay8 g x = newV g x := by
  unfold k0_pay8 k0_pay6; simp only [shapeCast_self]; rfl
theorem pay1_eq (g x y w : Vec Ideal S352x1024 .f32) : k0_pay1 (newM g x) (newV g y) w = delta g x y w := by
  unfold k0_pay1; simp only [shapeCast_self]; rfl

theorem core_read {c : Dev nD} (x : TbBuf0 (F := Ideal) c tbM0_0) (hp) :
    View.readAt (Elt Ideal) tbM0_0.view (Rect.unit ![0] S1.size inb_S1_S1_0).toLoadRect x (Shape.Idx.first hp) = (x : S1.Idx → BitVec 32) (ix1 0) :=
  congrArg (x : S1.Idx → BitVec 32) (funext fun a => by match a with | ⟨0, _⟩ => exact Subsingleton.elim (α := Fin 1) _ _)

theorem pay_A (c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0) :
    (out0_A_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_A_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_A_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_A_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0)
      = outs (pick ((xt0 : S1.Idx → BitVec 32) (ix1 0)) 0#32 x0 x2) x5 x6 x4 := by
  have hg : kernelRun0_A.sl.v12 c arg2 harg2 arg4 harg4 arg9 x0 x2 xt0 = pick ((xt0 : S1.Idx → BitVec 32) (ix1 0)) 0#32 x0 x2 := by
    unfold kernelRun0_A.sl.v12 kernelRun0_A.sl.H7_1 kernelRun0_A.sl.r
    refine (View.readCov_unit_zero (S := S352x1024) arg9.view hz2 _ _).trans ?_
    rw [whole, whole, core_read]; rfl
  refine Prod.ext ?_ (Prod.ext ?_ (Prod.ext ?_ ?_))
  · dsimp only [outs]; unfold out0_A_7
    refine (View.read_writes_full VO0_7 _ inb_S352x1024_S352x1024_0_0 _ []).trans ?_
    unfold kernelRun0_A.sl.r; rw [whole, whole, core_read]; rfl
  · dsimp only [outs]; unfold out0_A_8
    refine (View.read_writes_full VO0_8 _ inb_S352x1024_S352x1024_0_0 _ []).trans ?_
    unfold kernelRun0_A.sl.r_1 kernelRun0_A.sl.r_2
    rw [hg, whole, whole, whole, pay7_eq, pay8_eq, pay1_eq]
  · dsimp only [outs]; unfold out0_A_9
    refine (View.read_writes_full VO0_9 _ inb_S352x1024_S352x1024_0_0 _ []).trans ?_
    rw [hg, whole, pay7_eq]
  · dsimp only [outs]; unfold out0_A_10
    refine (View.read_writes_full VO0_10 _ inb_S352x1024_S352x1024_0_0 _ []).trans ?_
    rw [hg, whole, pay8_eq]

theorem outs_A (c : Dev nD) (t : Fin (cfgM m (ok m)).N) (h0 : t.val % 4 = 0) (h1 : ¬t.val % 4 = 1) (h2 : ¬t.val % 4 = 2) (h3 : ¬t.val % 4 = 3) :
    outsAt0 m (ok m) c t.val t.isLt = outs (pick (core m) 0#32 (iblk m (ok m) c 0 t : Vec Ideal S352x1024 .f32) (iblk m (ok m) c 2 t : Vec Ideal S352x1024 .f32))
      (iblk m (ok m) c 5 t : Vec Ideal S352x1024 .f32) (iblk m (ok m) c 6 t : Vec Ideal S352x1024 .f32) (iblk m (ok m) c 4 t : Vec Ideal S352x1024 .f32) :=
  (outsAt0_A m (ok m) c t h0 h1 h2 h3).trans (pay_A ..)

theorem pay_B (c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0) :
    (out0_B_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_B_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_B_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_B_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0)
      = outs (pick ((xt0 : S1.Idx → BitVec 32) (ix1 0)) 1#32 x0 x2) x5 x6 x4 := by
  have hg : kernelRun0_B.sl.v12 c arg2 harg2 arg4 harg4 arg9 x0 x2 xt0 = pick ((xt0 : S1.Idx → BitVec 32) (ix1 0)) 1#32 x0 x2 := by
    unfold kernelRun0_B.sl.v12 kernelRun0_B.sl.H7_1 kernelRun0_B.sl.r
    refine (View.readCov_unit_zero (S := S352x1024) arg9.view hz2 _ _).trans ?_
    rw [whole, whole, core_read]; rfl
  refine Prod.ext ?_ (Prod.ext ?_ (Prod.ext ?_ ?_))
  · dsimp only [outs]; unfold out0_B_7
    refine (View.read_writes_full VO0_7 _ inb_S352x1024_S352x1024_0_0 _ []).trans ?_
    unfold kernelRun0_B.sl.r; rw [whole, whole, core_read]; rfl
  · dsimp only [outs]; unfold out0_B_8
    refine (View.read_writes_full VO0_8 _ inb_S352x1024_S352x1024_0_0 _ []).trans ?_
    unfold kernelRun0_B.sl.r_1 kernelRun0_B.sl.r_2
    rw [hg, whole, whole, whole, pay7_eq, pay8_eq, pay1_eq]
  · dsimp only [outs]; unfold out0_B_9
    refine (View.read_writes_full VO0_9 _ inb_S352x1024_S352x1024_0_0 _ []).trans ?_
    rw [hg, whole, pay7_eq]
  · dsimp only [outs]; unfold out0_B_10
    refine (View.read_writes_full VO0_10 _ inb_S352x1024_S352x1024_0_0 _ []).trans ?_
    rw [hg, whole, pay8_eq]

theorem outs_B (c : Dev nD) (t : Fin (cfgM m (ok m)).N) (h0 : ¬t.val % 4 = 0) (h1 : t.val % 4 = 1) (h2 : ¬t.val % 4 = 2) (h3 : ¬t.val % 4 = 3) :
    outsAt0 m (ok m) c t.val t.isLt = outs (pick (core m) 1#32 (iblk m (ok m) c 0 t : Vec Ideal S352x1024 .f32) (iblk m (ok m) c 2 t : Vec Ideal S352x1024 .f32))
      (iblk m (ok m) c 5 t : Vec Ideal S352x1024 .f32) (iblk m (ok m) c 6 t : Vec Ideal S352x1024 .f32) (iblk m (ok m) c 4 t : Vec Ideal S352x1024 .f32) :=
  (outsAt0_B m (ok m) c t h0 h1 h2 h3).trans (pay_B ..)

theorem pay_C (c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0) :
    (out0_C_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_C_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_C_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_C_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0)
      = outs (pick ((xt0 : S1.Idx → BitVec 32) (ix1 0)) 0#32 x1 x3) x5 x6 x4 := by
  have hg : kernelRun0_C.sl.v12 c arg3 harg3 arg5 harg5 arg9 x1 x3 xt0 = pick ((xt0 : S1.Idx → BitVec 32) (ix1 0)) 0#32 x1 x3 := by
    unfold kernelRun0_C.sl.v12 kernelRun0_C.sl.H7_1 kernelRun0_C.sl.r
    refine (View.readCov_unit_zero (S := S352x1024) arg9.view hz2 _ _).trans ?_
    rw [whole, whole, core_read]; rfl
  refine Prod.ext ?_ (Prod.ext ?_ (Prod.ext ?_ ?_))
  · dsimp only [outs]; unfold out0_C_7
    refine (View.read_writes_full VO0_7 _ inb_S352x1024_S352x1024_0_0 _ []).trans ?_
    unfold kernelRun0_C.sl.r; rw [whole, whole, core_read]; rfl
  · dsimp only [outs]; unfold out0_C_8
    refine (View.read_writes_full VO0_8 _ inb_S352x1024_S352x1024_0_0 _ []).trans ?_
    unfold kernelRun0_C.sl.r_1 kernelRun0_C.sl.r_2
    rw [hg, whole, whole, whole, pay7_eq, pay8_eq, pay1_eq]
  · dsimp only [outs]; unfold out0_C_9
    refine (View.read_writes_full VO0_9 _ inb_S352x1024_S352x1024_0_0 _ []).trans ?_
    rw [hg, whole, pay7_eq]
  · dsimp only [outs]; unfold out0_C_10
    refine (View.read_writes_full VO0_10 _ inb_S352x1024_S352x1024_0_0 _ []).trans ?_
    rw [hg, whole, pay8_eq]

theorem outs_C (c : Dev nD) (t : Fin (cfgM m (ok m)).N) (h0 : ¬t.val % 4 = 0) (h1 : ¬t.val % 4 = 1) (h2 : t.val % 4 = 2) (h3 : ¬t.val % 4 = 3) :
    outsAt0 m (ok m) c t.val t.isLt = outs (pick (core m) 0#32 (iblk m (ok m) c 1 t : Vec Ideal S352x1024 .f32) (iblk m (ok m) c 3 t : Vec Ideal S352x1024 .f32))
      (iblk m (ok m) c 5 t : Vec Ideal S352x1024 .f32) (iblk m (ok m) c 6 t : Vec Ideal S352x1024 .f32) (iblk m (ok m) c 4 t : Vec Ideal S352x1024 .f32) :=
  (outsAt0_C m (ok m) c t h0 h1 h2 h3).trans (pay_C ..)

theorem pay_D (c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0) :
    (out0_D_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_D_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_D_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_D_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0)
      = outs (pick ((xt0 : S1.Idx → BitVec 32) (ix1 0)) 1#32 x1 x3) x5 x6 x4 := by
  have hg : kernelRun0_D.sl.v12 c arg3 harg3 arg5 harg5 arg9 x1 x3 xt0 = pick ((xt0 : S1.Idx → BitVec 32) (ix1 0)) 1#32 x1 x3 := by
    unfold kernelRun0_D.sl.v12 kernelRun0_D.sl.H7_1 kernelRun0_D.sl.r
    refine (View.readCov_unit_zero (S := S352x1024) arg9.view hz2 _ _).trans ?_
    rw [whole, whole, core_read]; rfl
  refine Prod.ext ?_ (Prod.ext ?_ (Prod.ext ?_ ?_))
  · dsimp only [outs]; unfold out0_D_7
    refine (View.read_writes_full VO0_7 _ inb_S352x1024_S352x1024_0_0 _ []).trans ?_
    unfold kernelRun0_D.sl.r; rw [whole, whole, core_read]; rfl
  · dsimp only [outs]; unfold out0_D_8
    refine (View.read_writes_full VO0_8 _ inb_S352x1024_S352x1024_0_0 _ []).trans ?_
    unfold kernelRun0_D.sl.r_1 kernelRun0_D.sl.r_2
    rw [hg, whole, whole, whole, pay7_eq, pay8_eq, pay1_eq]
  · dsimp only [outs]; unfold out0_D_9
    refine (View.read_writes_full VO0_9 _ inb_S352x1024_S352x1024_0_0 _ []).trans ?_
    rw [hg, whole, pay7_eq]
  · dsimp only [outs]; unfold out0_D_10
    refine (View.read_writes_full VO0_10 _ inb_S352x1024_S352x1024_0_0 _ []).trans ?_
    rw [hg, whole, pay8_eq]

theorem outs_D (c : Dev nD) (t : Fin (cfgM m (ok m)).N) (h0 : ¬t.val % 4 = 0) (h1 : ¬t.val % 4 = 1) (h2 : ¬t.val % 4 = 2) (h3 : t.val % 4 = 3) :
    outsAt0 m (ok m) c t.val t.isLt = outs (pick (core m) 1#32 (iblk m (ok m) c 1 t : Vec Ideal S352x1024 .f32) (iblk m (ok m) c 3 t : Vec Ideal S352x1024 .f32))
      (iblk m (ok m) c 5 t : Vec Ideal S352x1024 .f32) (iblk m (ok m) c 6 t : Vec Ideal S352x1024 .f32) (iblk m (ok m) c 4 t : Vec Ideal S352x1024 .f32) :=
  (outsAt0_D m (ok m) c t h0 h1 h2 h3).trans (pay_D ..)

/-! ## The blocks -/

/-- Where entry `j` of point `t`'s block of rows lies. -/
def rowIx (t : Fin grid0.N) (j : S352x1024.Idx) : S1408x1024.Idx :=
  ix2 ⟨352 * t.val + (j 0).val, by have h1 : t.val < 4 := N_0 ▸ t.isLt; have h2 : (j 0).val < 352 := (j 0).isLt; omega⟩ (j 1)

theorem row_at : ∀ t : Fin grid0.N, cc0_transform_4 (grid0.coords t) (0 : Fin 2) = t.val ∧ cc0_transform_4 (grid0.coords t) (1 : Fin 2) = 0 := by decide +kernel
theorem all_at : ∀ t : Fin grid0.N, cc0_transform_0 (grid0.coords t) (0 : Fin 2) = 0 ∧ cc0_transform_0 (grid0.coords t) (1 : Fin 2) = 0 := by decide +kernel

theorem emb4 (t : Fin grid0.N) (j : S352x1024.Idx) : (((cfgM m (ok m)).win 4).blk t).view.emb j = rowIx t j := by
  obtain ⟨e0, e1⟩ := row_at t
  funext a; apply Fin.ext
  match a with
  | ⟨0, _⟩ => show cc0_transform_4 (grid0.coords t) (0 : Fin 2) * 352 + 1 * (j 0).val = 352 * t.val + (j 0).val; omega
  | ⟨1, _⟩ => show cc0_transform_4 (grid0.coords t) (1 : Fin 2) * 1024 + 1 * (j 1).val = (j 1).val; omega

theorem emb5 (t : Fin grid0.N) (j : S352x1024.Idx) : (((cfgM m (ok m)).win 5).blk t).view.emb j = rowIx t j :=
  emb4 m t j

theorem emb6 (t : Fin grid0.N) (j : S352x1024.Idx) : (((cfgM m (ok m)).win 6).blk t).view.emb j = rowIx t j :=
  emb4 m t j

theorem emb7 (t : Fin grid0.N) (j : S352x1024.Idx) : (((cfgM m (ok m)).win 7).blk t).view.emb j = rowIx t j :=
  emb4 m t j

theorem emb8 (t : Fin grid0.N) (j : S352x1024.Idx) : (((cfgM m (ok m)).win 8).blk t).view.emb j = rowIx t j :=
  emb4 m t j

theorem emb9 (t : Fin grid0.N) (j : S352x1024.Idx) : (((cfgM m (ok m)).win 9).blk t).view.emb j = rowIx t j :=
  emb4 m t j

theorem emb10 (t : Fin grid0.N) (j : S352x1024.Idx) : (((cfgM m (ok m)).win 10).blk t).view.emb j = rowIx t j :=
  emb4 m t j

theorem emb0 (t : Fin grid0.N) (j : S352x1024.Idx) : (((cfgM m (ok m)).win 0).blk t).view.emb j = j := by
  obtain ⟨e0, e1⟩ := all_at t
  funext a; apply Fin.ext
  match a with
  | ⟨0, _⟩ => show cc0_transform_0 (grid0.coords t) (0 : Fin 2) * 352 + 1 * (j 0).val = (j 0).val; omega
  | ⟨1, _⟩ => show cc0_transform_0 (grid0.coords t) (1 : Fin 2) * 1024 + 1 * (j 1).val = (j 1).val; omega
theorem in0 (c : Dev nD) (t : Fin grid0.N) : (iblk m (ok m) c 0 t : Vec Ideal S352x1024 .f32) = m ((c : Thread nD τ).loc main_arg3) :=
  Eq.trans (funext fun j => congrArg (V m c main_arg3 : S352x1024.Idx → _) (emb0 m t j)) (V_main_arg3 m c)

theorem emb1 (t : Fin grid0.N) (j : S352x1024.Idx) : (((cfgM m (ok m)).win 1).blk t).view.emb j = j :=
  emb0 m t j
theorem in1 (c : Dev nD) (t : Fin grid0.N) : (iblk m (ok m) c 1 t : Vec Ideal S352x1024 .f32) = m ((c : Thread nD τ).loc main_arg4) :=
  Eq.trans (funext fun j => congrArg (V m c main_arg4 : S352x1024.Idx → _) (emb1 m t j)) (V_main_arg4 m c)

theorem emb2 (t : Fin grid0.N) (j : S352x1024.Idx) : (((cfgM m (ok m)).win 2).blk t).view.emb j = j :=
  emb0 m t j
theorem in2 (c : Dev nD) (t : Fin grid0.N) : (iblk m (ok m) c 2 t : Vec Ideal S352x1024 .f32) = m ((c : Thread nD τ).loc main_arg5) :=
  Eq.trans (funext fun j => congrArg (V m c main_arg5 : S352x1024.Idx → _) (emb2 m t j)) (V_main_arg5 m c)

theorem emb3 (t : Fin grid0.N) (j : S352x1024.Idx) : (((cfgM m (ok m)).win 3).blk t).view.emb j = j :=
  emb0 m t j
theorem in3 (c : Dev nD) (t : Fin grid0.N) : (iblk m (ok m) c 3 t : Vec Ideal S352x1024 .f32) = m ((c : Thread nD τ).loc main_arg6) :=
  Eq.trans (funext fun j => congrArg (V m c main_arg6 : S352x1024.Idx → _) (emb3 m t j)) (V_main_arg6 m c)

theorem in4 (c : Dev nD) (t : Fin grid0.N) : (iblk m (ok m) c 4 t : Vec Ideal S352x1024 .f32) = fun j => (V m c main_v0 : Vec Ideal S1408x1024 .f32) (rowIx t j) :=
  funext fun j => congrArg (V m c main_v0 : S1408x1024.Idx → _) (emb4 m t j)

theorem in5 (c : Dev nD) (t : Fin grid0.N) : (iblk m (ok m) c 5 t : Vec Ideal S352x1024 .f32) = fun j => (V m c main_v1 : Vec Ideal S1408x1024 .f32) (rowIx t j) :=
  funext fun j => congrArg (V m c main_v1 : S1408x1024.Idx → _) (emb5 m t j)

theorem in6 (c : Dev nD) (t : Fin grid0.N) : (iblk m (ok m) c 6 t : Vec Ideal S352x1024 .f32) = fun j => (V m c main_v2 : Vec Ideal S1408x1024 .f32) (rowIx t j) :=
  funext fun j => congrArg (V m c main_v2 : S1408x1024.Idx → _) (emb6 m t j)

/-! ## The gradient, assembled from the halves the cores own -/

/-- The rows of the two layers' halves, one below the other. -/
def gArr (k : BitVec 32) (a b c d : Vec Ideal S352x1024 .f32) : Vec Ideal S1408x1024 .f32 := fun i =>
  pick k (BitVec.ofNat 32 ((i 0).val / 352 % 2)) (if (i 0).val / 352 < 2 then a else b) (if (i 0).val / 352 < 2 then c else d)
    (ix2 ⟨(i 0).val % 352, Nat.mod_lt _ (by decide)⟩ (i 1))

theorem gArr_at (k : BitVec 32) (a b c d : Vec Ideal S352x1024 .f32) (i : S1408x1024.Idx) (j : S352x1024.Idx) (q : Nat)
    (h0 : (i 0).val = 352 * q + (j 0).val) (h1 : (i 1).val = (j 1).val) :
    gArr k a b c d i = pick k (BitVec.ofNat 32 (q % 2)) (if q < 2 then a else b) (if q < 2 then c else d) j := by
  have hj : (j 0).val < 352 := (j 0).isLt
  have hq : (i 0).val / 352 = q := by omega
  have hi : (ix2 ⟨(i 0).val % 352, Nat.mod_lt _ (by decide)⟩ (i 1) : S352x1024.Idx) = j := by
    funext x; apply Fin.ext
    match x with
    | ⟨0, _⟩ => show (i 0).val % 352 = (j 0).val; omega
    | ⟨1, _⟩ => exact h1
  unfold gArr
  rw [hi, hq]

/-- The gradient of the whole array, of the arguments. -/
def grad (c : Dev nD) : Vec Ideal S1408x1024 .f32 :=
  gArr (core m) (m ((c : Thread nD τ).loc main_arg3)) (m ((c : Thread nD τ).loc main_arg4)) (m ((c : Thread nD τ).loc main_arg5)) (m ((c : Thread nD τ).loc main_arg6))

theorem outs_at (c : Dev nD) (t : Fin grid0.N) :
    outsAt0 m (ok m) c t.val t.isLt = outs (fun j : S352x1024.Idx => grad m c (rowIx t j)) (fun j => (V m c main_v1 : Vec Ideal S1408x1024 .f32) (rowIx t j))
      (fun j => (V m c main_v2 : Vec Ideal S1408x1024 .f32) (rowIx t j)) (fun j => (V m c main_v0 : Vec Ideal S1408x1024 .f32) (rowIx t j)) := by
  rcases fin_N0 t with h | h | h | h <;> subst h
  · refine (outs_A m c t0_0 (by show (0 : Nat) % 4 = 0; decide) (by show ¬ (0 : Nat) % 4 = 1; decide) (by show ¬ (0 : Nat) % 4 = 2; decide) (by show ¬ (0 : Nat) % 4 = 3; decide)).trans ?_
    rw [in0, in2, in4, in5, in6]
    exact congrArg (outs · _ _ _) (funext fun j => (gArr_at _ _ _ _ _ _ j 0 rfl rfl).symm)
  · refine (outs_B m c t0_1 (by show ¬ (1 : Nat) % 4 = 0; decide) (by show (1 : Nat) % 4 = 1; decide) (by show ¬ (1 : Nat) % 4 = 2; decide) (by show ¬ (1 : Nat) % 4 = 3; decide)).trans ?_
    rw [in0, in2, in4, in5, in6]
    exact congrArg (outs · _ _ _) (funext fun j => (gArr_at _ _ _ _ _ _ j 1 rfl rfl).symm)
  · refine (outs_C m c t0_2 (by show ¬ (2 : Nat) % 4 = 0; decide) (by show ¬ (2 : Nat) % 4 = 1; decide) (by show (2 : Nat) % 4 = 2; decide) (by show ¬ (2 : Nat) % 4 = 3; decide)).trans ?_
    rw [in1, in3, in4, in5, in6]
    exact congrArg (outs · _ _ _) (funext fun j => (gArr_at _ _ _ _ _ _ j 2 rfl rfl).symm)
  · refine (outs_D m c t0_3 (by show ¬ (3 : Nat) % 4 = 0; decide) (by show ¬ (3 : Nat) % 4 = 1; decide) (by show ¬ (3 : Nat) % 4 = 2; decide) (by show (3 : Nat) % 4 = 3; decide)).trans ?_
    rw [in1, in3, in4, in5, in6]
    exact congrArg (outs · _ _ _) (funext fun j => (gArr_at _ _ _ _ _ _ j 3 rfl rfl).symm)

/-- Every row lies in some point's block. -/
theorem row_cover (i : S1408x1024.Idx) : ∃ (t : Fin grid0.N) (j : S352x1024.Idx), rowIx t j = i := by
  have hi : (i 0).val < 1408 := (i 0).isLt
  refine ⟨⟨(i 0).val / 352, by rw [N_0]; omega⟩, ix2 ⟨(i 0).val % 352, Nat.mod_lt _ (by decide)⟩ (i 1), ?_⟩
  funext x; apply Fin.ext
  match x with
  | ⟨0, _⟩ => show 352 * ((i 0).val / 352) + (i 0).val % 352 = (i 0).val; omega
  | ⟨1, _⟩ => rfl

set_option maxHeartbeats 1000000 in
theorem arr7 (c : Dev nD) : (dats m (ok m) 0 c).arrAt 7 (cfgM m (ok m)).N = (grad m c : Vec Ideal S1408x1024 .f32) :=
  (dats m (ok m) 0 c).arrAt_eq_of_cover 7 _ (fun t _ => by
    show ((cfgM m (ok m)).win 7).cut (grid0.coords t) ((dats m (ok m) 0 c).after 7 t) = _
    rw [after0_7, outs_at]
    exact funext fun j => (congrArg (grad m c : Vec Ideal S1408x1024 .f32) (emb7 m t j)).symm)
    fun i => by
      obtain ⟨t, j, e⟩ := row_cover i
      refine ⟨t, flush0_7 _ t, ?_⟩
      have h := (((cfgM m (ok m)).win 7).blk t).view.emb_mem_set j
      rw [emb7, e] at h; exact h

set_option maxHeartbeats 1000000 in
theorem arr8 (c : Dev nD) : (dats m (ok m) 0 c).arrAt 8 (cfgM m (ok m)).N = (delta (grad m c) (V m c main_v1) (V m c main_v2) (V m c main_v0) : Vec Ideal S1408x1024 .f32) :=
  (dats m (ok m) 0 c).arrAt_eq_of_cover 8 _ (fun t _ => by
    show ((cfgM m (ok m)).win 8).cut (grid0.coords t) ((dats m (ok m) 0 c).after 8 t) = _
    rw [after0_8, outs_at]
    exact funext fun j => (congrArg (delta (grad m c) (V m c main_v1) (V m c main_v2) (V m c main_v0) : Vec Ideal S1408x1024 .f32) (emb8 m t j)).symm)
    fun i => by
      obtain ⟨t, j, e⟩ := row_cover i
      refine ⟨t, flush0_8 _ t, ?_⟩
      have h := (((cfgM m (ok m)).win 8).blk t).view.emb_mem_set j
      rw [emb8, e] at h; exact h

set_option maxHeartbeats 1000000 in
theorem arr9 (c : Dev nD) : (dats m (ok m) 0 c).arrAt 9 (cfgM m (ok m)).N = (newM (grad m c) (V m c main_v1) : Vec Ideal S1408x1024 .f32) :=
  (dats m (ok m) 0 c).arrAt_eq_of_cover 9 _ (fun t _ => by
    show ((cfgM m (ok m)).win 9).cut (grid0.coords t) ((dats m (ok m) 0 c).after 9 t) = _
    rw [after0_9, outs_at]
    exact funext fun j => (congrArg (newM (grad m c) (V m c main_v1) : Vec Ideal S1408x1024 .f32) (emb9 m t j)).symm)
    fun i => by
      obtain ⟨t, j, e⟩ := row_cover i
      refine ⟨t, flush0_9 _ t, ?_⟩
      have h := (((cfgM m (ok m)).win 9).blk t).view.emb_mem_set j
      rw [emb9, e] at h; exact h

set_option maxHeartbeats 1000000 in
theorem arr10 (c : Dev nD) : (dats m (ok m) 0 c).arrAt 10 (cfgM m (ok m)).N = (newV (grad m c) (V m c main_v2) : Vec Ideal S1408x1024 .f32) :=
  (dats m (ok m) 0 c).arrAt_eq_of_cover 10 _ (fun t _ => by
    show ((cfgM m (ok m)).win 10).cut (grid0.coords t) ((dats m (ok m) 0 c).after 10 t) = _
    rw [after0_10, outs_at]
    exact funext fun j => (congrArg (newV (grad m c) (V m c main_v2) : Vec Ideal S1408x1024 .f32) (emb10 m t j)).symm)
    fun i => by
      obtain ⟨t, j, e⟩ := row_cover i
      refine ⟨t, flush0_10 _ t, ?_⟩
      have h := (((cfgM m (ok m)).win 10).blk t).view.emb_mem_set j
      rw [emb10, e] at h; exact h

/-! ## The host's reshapes -/

/-- The layers' rows, one below the other. -/
def into (X : Vec Ideal S2x704x1024 .f32) : Vec Ideal S1408x1024 .f32 := shapeCast S1408x1024 X shapeCasts_S2x704x1024_S1408x1024
/-- The layers again. -/
def back (X : Vec Ideal S1408x1024 .f32) : Vec Ideal S2x704x1024 .f32 := shapeCast S2x704x1024 X shapeCasts_S1408x1024_S2x704x1024
theorem back_into (X : Vec Ideal S2x704x1024 .f32) : back (into X) = X := shapeCast_shapeCast X _ _

theorem host_in0 (c : Dev nD) : V m c main_v0 = into (m ((c : Thread nD τ).loc main_arg0)) := by
  show StableHlo.after hostOps0 _ (Proc.devRef .tc main_v0) = _
  after_results
  rfl

theorem host_in1 (c : Dev nD) : V m c main_v1 = into (m ((c : Thread nD τ).loc main_arg1)) := by
  show StableHlo.after hostOps0 _ (Proc.devRef .tc main_v1) = _
  after_results
  rfl

theorem host_in2 (c : Dev nD) : V m c main_v2 = into (m ((c : Thread nD τ).loc main_arg2)) := by
  show StableHlo.after hostOps0 _ (Proc.devRef .tc main_v2) = _
  after_results
  rfl

theorem host_out0 (W : Valuation τ sig (Elt Ideal)) :
    StableHlo.after hostOps1 W (Proc.devRef .tc main_v4) = back (W (Proc.devRef .tc main_v3_0)) := by
  after_results
  rfl

theorem host_out1 (W : Valuation τ sig (Elt Ideal)) :
    StableHlo.after hostOps1 W (Proc.devRef .tc main_v5) = back (W (Proc.devRef .tc main_v3_1)) := by
  after_results
  rfl

theorem host_out2 (W : Valuation τ sig (Elt Ideal)) :
    StableHlo.after hostOps1 W (Proc.devRef .tc main_v6) = back (W (Proc.devRef .tc main_v3_2)) := by
  after_results
  rfl

theorem host_out3 (W : Valuation τ sig (Elt Ideal)) :
    StableHlo.after hostOps1 W (Proc.devRef .tc main_v7) = back (W (Proc.devRef .tc main_v3_3)) := by
  after_results
  rfl

theorem arr_inj : Function.Injective (Pipeline.arrRef spec0) := by decide

theorem tail0 (c : Dev nD) : Pipeline.afterTail pcfgs (fun _ => adm m (ok m)) (dats m (ok m)) 0 (V0 m) [hostOps1] c main_v4
    = back ((dats m (ok m) 0 c).arrAt 7 (cfgM m (ok m)).N) :=
  (host_out0 _).trans (congrArg back (Pipeline.withArrays_arr spec0 arr_inj c _ _ 7))

theorem tail1 (c : Dev nD) : Pipeline.afterTail pcfgs (fun _ => adm m (ok m)) (dats m (ok m)) 0 (V0 m) [hostOps1] c main_v5
    = back ((dats m (ok m) 0 c).arrAt 8 (cfgM m (ok m)).N) :=
  (host_out1 _).trans (congrArg back (Pipeline.withArrays_arr spec0 arr_inj c _ _ 8))

theorem tail2 (c : Dev nD) : Pipeline.afterTail pcfgs (fun _ => adm m (ok m)) (dats m (ok m)) 0 (V0 m) [hostOps1] c main_v6
    = back ((dats m (ok m) 0 c).arrAt 9 (cfgM m (ok m)).N) :=
  (host_out2 _).trans (congrArg back (Pipeline.withArrays_arr spec0 arr_inj c _ _ 9))

theorem tail3 (c : Dev nD) : Pipeline.afterTail pcfgs (fun _ => adm m (ok m)) (dats m (ok m)) 0 (V0 m) [hostOps1] c main_v7
    = back ((dats m (ok m) 0 c).arrAt 10 (cfgM m (ok m)).N) :=
  (host_out3 _).trans (congrArg back (Pipeline.withArrays_arr spec0 arr_inj c _ _ 10))

/-! ## The reference's gradient -/

section Reference
open Cert.Reference12Ideal.Read

theorem where2 (a b : Vec Ideal S352x1024 .f32) (x : IVec S1 32) : val_main_v2 (F := Ideal) a b x = pick (x (ix1 0)) 0#32 a b := by
  have e : val_main_v0 (F := Ideal) x = fun _ => x (ix1 0) := funext fun i => congrArg x (funext fun a => by match a with | ⟨0, _⟩ => exact Subsingleton.elim (α := Fin 1) _ _)
  unfold val_main_v2 val_main_v1 pick; rw [e]
  funext j; unfold select Scalar.select; dsimp only [broadcastInDim, cmpi, val_main_c, constantI]
  by_cases hk : IntOp.cmpi .eq (x (ix1 0)) 0#32 = 1
  · exact (if_pos hk).trans (congrFun (if_pos hk).symm j)
  · exact (if_neg hk).trans (congrFun (if_neg hk).symm j)
theorem where5 (a b : Vec Ideal S352x1024 .f32) (x : IVec S1 32) : val_main_v5 (F := Ideal) a b x = pick (x (ix1 0)) 1#32 a b := by
  have e : val_main_v3 (F := Ideal) x = fun _ => x (ix1 0) := funext fun i => congrArg x (funext fun a => by match a with | ⟨0, _⟩ => exact Subsingleton.elim (α := Fin 1) _ _)
  unfold val_main_v5 val_main_v4 pick; rw [e]
  funext j; unfold select Scalar.select; dsimp only [broadcastInDim, cmpi, val_main_c_0, constantI]
  by_cases hk : IntOp.cmpi .eq (x (ix1 0)) 1#32 = 1
  · exact (if_pos hk).trans (congrFun (if_pos hk).symm j)
  · exact (if_neg hk).trans (congrFun (if_neg hk).symm j)
theorem where9 (a b : Vec Ideal S352x1024 .f32) (x : IVec S1 32) : val_main_v9 (F := Ideal) a b x = pick (x (ix1 0)) 0#32 a b := where2 a b x
theorem where12 (a b : Vec Ideal S352x1024 .f32) (x : IVec S1 32) : val_main_v12 (F := Ideal) a b x = pick (x (ix1 0)) 1#32 a b := where5 a b x

/-- A layer: the two halves, one below the other. -/
theorem half (a b : Vec Ideal S352x1024 .f32) (hc : Shape.Concatenates [S352x1024, S352x1024] Cert.Reference12Ideal.S704x1024 0) (p : Fin 704) (k : Fin 1024) :
    concatenate Cert.Reference12Ideal.S704x1024 0 [⟨S352x1024, a⟩, ⟨S352x1024, b⟩] hc (ix2 p k) = (if p.val < 352 then a else b) (ix2 ⟨p.val % 352, Nat.mod_lt _ (by decide)⟩ k) := by
  by_cases hp : p.val < 352
  · rw [if_pos hp]
    exact concatenate_pair_apply_left 0 a b hc _ rfl _ (fun x => by
      match x with
      | ⟨0, _⟩ => exact Nat.mod_eq_of_lt hp
      | ⟨1, _⟩ => rfl)
  · rw [if_neg hp]
    have hb := p.isLt
    exact concatenate_pair_apply_right 0 a b hc _ rfl rfl _ (fun x hx => by
      match x, hx with
      | ⟨0, _⟩, hx => exact absurd rfl hx
      | ⟨1, _⟩, _ => rfl) (by show p.val % 352 + 352 = p.val; omega)

theorem stack (a b c d : Vec Ideal S352x1024 .f32) (x : IVec S1 32) :
    val_main_v16 (F := Ideal) a b c d x = shapeCast S2x704x1024 (gArr (x (ix1 0)) a b c d) shapeCasts_S1408x1024_S2x704x1024 := by
  funext i
  obtain ⟨l, p, k, rfl⟩ : ∃ (l : Fin 2) (p : Fin 704) (k : Fin 1024), i = ix3 l p k := ⟨i 0, i 1, i 2, by funext x; match x with | ⟨0, _⟩ => rfl | ⟨1, _⟩ => rfl | ⟨2, _⟩ => rfl⟩
  have hl := l.isLt
  have hb := p.isLt
  refine Eq.trans ?_ (shapeCast_apply _ _ _ (ix2 ⟨704 * l.val + p.val, by omega⟩ k : S1408x1024.Idx) (by
    rw [Shape.rowMajor_val_three, Shape.rowMajor_val_two]
    show (704 * l.val + p.val) * 1024 + k.val = (l.val * 704 + p.val) * 1024 + k.val; omega)).symm
  refine Eq.trans ?_ (gArr_at _ _ _ _ _ _ (ix2 ⟨p.val % 352, Nat.mod_lt _ (by decide)⟩ k) (2 * l.val + p.val / 352)
    (by show 704 * l.val + p.val = 352 * (2 * l.val + p.val / 352) + p.val % 352; omega) rfl).symm
  have hq : (2 * l.val + p.val / 352) % 2 = p.val / 352 := by omega
  rw [hq]
  have hl2 : l.val = 0 ∨ l.val = 1 := by omega
  unfold val_main_v16
  rcases hl2 with h | h
  · refine (concatenate_pair_apply_left (s₁ := Cert.Reference12Ideal.S1x704x1024) (s₂ := Cert.Reference12Ideal.S1x704x1024) 0 _ _ _ (ix3 l p k) rfl (ix3 0 p k : Cert.Reference12Ideal.S1x704x1024.Idx) (fun x => by
      match x with
      | ⟨0, _⟩ => exact h.symm
      | ⟨1, _⟩ => rfl
      | ⟨2, _⟩ => rfl)).trans ?_
    rw [if_pos (by omega : 2 * l.val + p.val / 352 < 2), if_pos (by omega : 2 * l.val + p.val / 352 < 2)]
    refine Eq.trans (b := val_main_v6 (F := Ideal) a c x (ix2 p k)) ((val_main_v14_apply (F := Ideal) a c x (ix3 0 p k)).trans <| congrArg (val_main_v6 (F := Ideal) a c x) (funext fun y => by match y with | ⟨0, _⟩ => rfl | ⟨1, _⟩ => rfl)) ?_
    unfold val_main_v6
    rw [half, where2, where5]
    by_cases hp : p.val < 352
    · rw [if_pos hp, Nat.div_eq_of_lt hp]
    · rw [if_neg hp, (by omega : p.val / 352 = 1)]
  · refine (concatenate_pair_apply_right (s₁ := Cert.Reference12Ideal.S1x704x1024) (s₂ := Cert.Reference12Ideal.S1x704x1024) 0 _ _ _ (ix3 l p k) rfl rfl (ix3 0 p k : Cert.Reference12Ideal.S1x704x1024.Idx) (fun x hx => by
      match x, hx with
      | ⟨0, _⟩, hx => exact absurd rfl hx
      | ⟨1, _⟩, _ => rfl
      | ⟨2, _⟩, _ => rfl) (by show 0 + 1 = l.val; omega)).trans ?_
    rw [if_neg (by omega : ¬ 2 * l.val + p.val / 352 < 2), if_neg (by omega : ¬ 2 * l.val + p.val / 352 < 2)]
    refine Eq.trans (b := val_main_v13 (F := Ideal) b d x (ix2 p k)) ((val_main_v15_apply (F := Ideal) b d x (ix3 0 p k)).trans <| congrArg (val_main_v13 (F := Ideal) b d x) (funext fun y => by match y with | ⟨0, _⟩ => rfl | ⟨1, _⟩ => rfl)) ?_
    unfold val_main_v13
    rw [half, where9, where12]
    by_cases hp : p.val < 352
    · rw [if_pos hp, Nat.div_eq_of_lt hp]
    · rw [if_neg hp, (by omega : p.val / 352 = 1)]

/-- The reference's gradient is the kernel's. -/
theorem ref_grad (a b c d : Vec Ideal S352x1024 .f32) (x : IVec S1 32) : val_main_v16 (F := Ideal) a b c d x = back (gArr (x (ix1 0)) a b c d) := by
  exact stack a b c d x

theorem ref_m (y : Vec Ideal S2x704x1024 .f32) (a b c d : Vec Ideal S352x1024 .f32) (x : IVec S1 32) :
    val_main_v21 (F := Ideal) y a b c d x = newM (val_main_v16 (F := Ideal) a b c d x) y := rfl
theorem ref_v (y : Vec Ideal S2x704x1024 .f32) (a b c d : Vec Ideal S352x1024 .f32) (x : IVec S1 32) :
    val_main_v27 (F := Ideal) y a b c d x = newV (val_main_v16 (F := Ideal) a b c d x) y := rfl
theorem ref_d (w y z : Vec Ideal S2x704x1024 .f32) (a b c d : Vec Ideal S352x1024 .f32) (x : IVec S1 32) :
    val_main_v40 (F := Ideal) w y z a b c d x = delta (val_main_v16 (F := Ideal) a b c d x) y z w := rfl

end Reference

/-! ## The claims -/

/-- The core's number, off the arguments. -/
theorem core_eq (c : Dev nD) : core m = (m ((c : Thread nD τ).loc main_arg7) : S1.Idx → BitVec 32) (ix1 0) :=
  congrArg (fun f : S1.Idx → BitVec 32 => f (ix1 0)) ((V_pre m c 0).symm.trans (V_main_arg7 m c))

/-- The gradient as the reference computes it, of the kernel's arguments. -/
def G (c : Dev nD) : Vec Ideal S2x704x1024 .f32 := Cert.Reference12Ideal.Read.val_main_v16 (F := Ideal) (m ((c : Thread nD τ).loc main_arg3)) (m ((c : Thread nD τ).loc main_arg4))
  (m ((c : Thread nD τ).loc main_arg5)) (m ((c : Thread nD τ).loc main_arg6)) (m ((c : Thread nD τ).loc main_arg7))
theorem back_grad (c : Dev nD) : back (grad m c) = G m c := by
  unfold G grad; rw [ref_grad, core_eq m c]

theorem val0 (c : Dev nD) : back ((dats m (ok m) 0 c).arrAt 7 (cfgM m (ok m)).N) = G m c := by
  rw [arr7]; exact back_grad m c
theorem val1 (c : Dev nD) : back ((dats m (ok m) 0 c).arrAt 8 (cfgM m (ok m)).N)
    = delta (G m c) (m ((c : Thread nD τ).loc main_arg1)) (m ((c : Thread nD τ).loc main_arg2)) (m ((c : Thread nD τ).loc main_arg0)) := by
  rw [arr8, host_in0, host_in1, host_in2]
  refine Eq.trans (b := delta (back (grad m c)) (back (into (m ((c : Thread nD τ).loc main_arg1)))) (back (into (m ((c : Thread nD τ).loc main_arg2)))) (back (into (m ((c : Thread nD τ).loc main_arg0))))) rfl ?_
  rw [back_grad, back_into, back_into, back_into]
theorem val2 (c : Dev nD) : back ((dats m (ok m) 0 c).arrAt 9 (cfgM m (ok m)).N) = newM (G m c) (m ((c : Thread nD τ).loc main_arg1)) := by
  rw [arr9, host_in1]
  refine Eq.trans (b := newM (back (grad m c)) (back (into (m ((c : Thread nD τ).loc main_arg1))))) rfl ?_
  rw [back_grad, back_into]
theorem val3 (c : Dev nD) : back ((dats m (ok m) 0 c).arrAt 10 (cfgM m (ok m)).N) = newV (G m c) (m ((c : Thread nD τ).loc main_arg2)) := by
  rw [arr10, host_in2]
  refine Eq.trans (b := newV (back (grad m c)) (back (into (m ((c : Thread nD τ).loc main_arg2))))) rfl ?_
  rw [back_grad, back_into]

/-- The two programs have the same functions. -/
theorem defs₀_eq {F : FTy → Type} [FloatOps F] : Cert.Kernel12.defs₀ (F := F) = Cert.Kernel12Ideal.defs₀ (F := F) := by
  unfold Cert.Kernel12.defs₀ Cert.Kernel12Ideal.defs₀
  refine congrArg Defs.onTc (funext fun l => ?_)
  match l with
  | ⟨0, _⟩ => exact funext fun ⟨t, s⟩ => rfl
theorem defs_eq {F : FTy → Type} [FloatOps F] : Cert.Kernel12.defs (F := F) = Cert.Kernel12Ideal.defs (F := F) := by
  unfold Cert.Kernel12.defs Cert.Kernel12Ideal.defs
  rw [defs₀_eq]
  rfl
set_option maxHeartbeats 4000000 in
theorem frame_kernel : Cert.quiescent_Kernel12 := fun m ρ _ => by
  rw [defs_eq]
  exact frame (F := Bits) m ρ trivial
theorem frame_ideal : Cert.quiescent_Kernel12Ideal := fun m ρ _ => frame (F := Ideal) m ρ trivial
theorem frame_reference : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)
theorem preserves : Cert.preserves_Kernel12_Kernel12Ideal := trivial

section Reference
open Cert.Reference12Ideal.Read
theorem of_args {a a' b b' c c' d d' : Vec Ideal S352x1024 .f32} {x x' : IVec S1 32} (h1 : a = a') (h2 : b = b') (h3 : c = c') (h4 : d = d') (h5 : x = x') :
    val_main_v16 (F := Ideal) a b c d x = val_main_v16 (F := Ideal) a' b' c' d' x' := by rw [h1, h2, h3, h4, h5]

set_option maxHeartbeats 4000000 in
/-- The gradient, the change of the parameter and the two moments the kernel leaves are the reference's. -/
theorem algebraic : Cert.algebraic_Kernel12Ideal_Reference12Ideal := fun m ρ m' ρ' _ hargs =>
  ⟨fun c => G m c, fun c => delta (G m c) (m ((c : Thread nD τ).loc main_arg1)) (m ((c : Thread nD τ).loc main_arg2)) (m ((c : Thread nD τ).loc main_arg0)),
    fun c => newM (G m c) (m ((c : Thread nD τ).loc main_arg1)), fun c => newV (G m c) (m ((c : Thread nD τ).loc main_arg2)),
    (θ_run Cert.Kernel12Ideal.defs _ _).mono (fun _ h c => ⟨((h.1 c).2 main_v4 (by decide : main_v4 ∈ Pipeline.restRefs sig spec0)).trans ((tail0 m c).trans (val0 m c)),
      ((h.1 c).2 main_v5 (by decide : main_v5 ∈ Pipeline.restRefs sig spec0)).trans ((tail1 m c).trans (val1 m c)),
      ((h.1 c).2 main_v6 (by decide : main_v6 ∈ Pipeline.restRefs sig spec0)).trans ((tail2 m c).trans (val2 m c)),
      ((h.1 c).2 main_v7 (by decide : main_v7 ∈ Pipeline.restRefs sig spec0)).trans ((tail3 m c).trans (val3 m c)), h.2 c⟩) (θ_run_and (run_main m ρ (ok m)) (unchanged m ρ (ok m))),
    (θ_run Cert.Reference12Ideal.defs _ _).mono (fun _ h c => by
      obtain ⟨a0, a1, a2, a3, a4, a5, a6, a7⟩ := hargs c
      have hG := of_args a3 a4 a5 a6 a7
      exact ⟨(h c).1.trans ((val_main_v16_eq ..).trans hG),
        (h c).2.1.trans ((val_main_v40_eq ..).trans ((ref_d ..).trans (by rw [hG, a0, a1, a2]; rfl))),
        (h c).2.2.1.trans ((val_main_v21_eq ..).trans ((ref_m ..).trans (by rw [hG, a1]; rfl))),
        (h c).2.2.2.1.trans ((val_main_v27_eq ..).trans ((ref_v ..).trans (by rw [hG, a2]; rfl))),
        (h c).2.2.2.2⟩) (Cert.Reference12Ideal.Value.run m' ρ')⟩
end Reference

end Cert.AdamDown
end
end
-- ==== Proof.AdamIn.lean ====
module

public import proofs.«01_k».proof.Defs
public import proofs.«01_k».proof.Proof.Gen.Kernel13
public import proofs.«01_k».proof.Proof.Gen.Kernel13Ideal.Frame
public import proofs.«01_k».proof.Proof.Gen.Reference13Ideal.Run
public import proofs.«01_k».proof.Proof.Gen.Reference13Ideal.Read
public import Idealize.ShloMosaic.Lib.Quiescent
public import Idealize.ShloMosaic.Lib.Pipeline.Value
public import Idealize.ShloMosaic.Lib.Pipeline.ValueKit.Point
public import Idealize.ShloMosaic.Lib.VecWindow
public import Idealize.ShloMosaic.Lib.WholeRead
public import proofs.«01_k».proof.Proof.Adam

@[expose] public section

set_option maxRecDepth 16384

noncomputable section

namespace Cert.AdamIn

open Cert.Kernel13Ideal Cert.Kernel13Ideal.Gen Idealize.ShloMosaic Idealize.ShloMosaic.TcCoe Idealize.SL.Sem
open Idealize.ShloMosaic.Pipeline (Dat)
open Cert.Adam

variable (m : (ℓ : Loc nD τ sig) → Buf (Elt Ideal) ℓ) (ρ : Dev nD → PrngReg)

/-! ## One grid point -/

theorem hz2 : (![0, 0] : Fin 2 → Nat) = fun _ => 0 := funext fun a => by fin_cases a <;> rfl

theorem ok : Ok m := trivial

/-- The core's number, as the table holds it. -/
def core : BitVec 32 := (tbl m 0 : S1.Idx → BitVec 32) (ix1 0)

theorem whole {arg : Memref sig .tc .vmem S288x1024 .f32} (hw : arg.IsWhole) (X : Vec Ideal S288x1024 .f32) :
    View.readAt (Elt Ideal) arg.view (Rect.unit ![0, 0] S288x1024.size inb_S288x1024_S288x1024_0_0).toLoadRect (hw.unread X) = X :=
  (funext fun x => Memref.IsWhole.readAt_unread hw X _ x).trans (View.ld_unit_zero (S := S288x1024) hz2 _ X)

theorem pay7_eq (g x : Vec Ideal S288x1024 .f32) : k0_pay7 g x = newM g x := by
  unfold k0_pay7 k0_pay6; simp only [shapeCast_self]; rfl
theorem pay8_eq (g x : Vec Ideal S288x1024 .f32) : k0_pay8 g x = newV g x := by
  unfold k0_pay8 k0_pay6; simp only [shapeCast_self]; rfl
theorem pay1_eq (g x y w : Vec Ideal S288x1024 .f32) : k0_pay1 (newM g x) (newV g y) w = delta g x y w := by
  unfold k0_pay1; simp only [shapeCast_self]; rfl

theorem core_read {c : Dev nD} (x : TbBuf0 (F := Ideal) c tbM0_0) (hp) :
    View.readAt (Elt Ideal) tbM0_0.view (Rect.unit ![0] S1.size inb_S1_S1_0).toLoadRect x (Shape.Idx.first hp) = (x : S1.Idx → BitVec 32) (ix1 0) :=
  congrArg (x : S1.Idx → BitVec 32) (funext fun a => by match a with | ⟨0, _⟩ => exact Subsingleton.elim (α := Fin 1) _ _)

theorem pay_A (c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0) :
    (out0_A_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_A_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_A_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_A_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0)
      = outs (pick ((xt0 : S1.Idx → BitVec 32) (ix1 0)) 0#32 x0 x2) x5 x6 x4 := by
  have hg : kernelRun0_A.sl.v12 c arg2 harg2 arg4 harg4 arg9 x0 x2 xt0 = pick ((xt0 : S1.Idx → BitVec 32) (ix1 0)) 0#32 x0 x2 := by
    unfold kernelRun0_A.sl.v12 kernelRun0_A.sl.H7_1 kernelRun0_A.sl.r
    refine (View.readCov_unit_zero (S := S288x1024) arg9.view hz2 _ _).trans ?_
    rw [whole, whole, core_read]; rfl
  refine Prod.ext ?_ (Prod.ext ?_ (Prod.ext ?_ ?_))
  · dsimp only [outs]; unfold out0_A_7
    refine (View.read_writes_full VO0_7 _ inb_S288x1024_S288x1024_0_0 _ []).trans ?_
    unfold kernelRun0_A.sl.r; rw [whole, whole, core_read]; rfl
  · dsimp only [outs]; unfold out0_A_8
    refine (View.read_writes_full VO0_8 _ inb_S288x1024_S288x1024_0_0 _ []).trans ?_
    unfold kernelRun0_A.sl.r_1 kernelRun0_A.sl.r_2
    rw [hg, whole, whole, whole, pay7_eq, pay8_eq, pay1_eq]
  · dsimp only [outs]; unfold out0_A_9
    refine (View.read_writes_full VO0_9 _ inb_S288x1024_S288x1024_0_0 _ []).trans ?_
    rw [hg, whole, pay7_eq]
  · dsimp only [outs]; unfold out0_A_10
    refine (View.read_writes_full VO0_10 _ inb_S288x1024_S288x1024_0_0 _ []).trans ?_
    rw [hg, whole, pay8_eq]

theorem outs_A (c : Dev nD) (t : Fin (cfgM m (ok m)).N) (h0 : t.val % 4 = 0) (h1 : ¬t.val % 4 = 1) (h2 : ¬t.val % 4 = 2) (h3 : ¬t.val % 4 = 3) :
    outsAt0 m (ok m) c t.val t.isLt = outs (pick (core m) 0#32 (iblk m (ok m) c 0 t : Vec Ideal S288x1024 .f32) (iblk m (ok m) c 2 t : Vec Ideal S288x1024 .f32))
      (iblk m (ok m) c 5 t : Vec Ideal S288x1024 .f32) (iblk m (ok m) c 6 t : Vec Ideal S288x1024 .f32) (iblk m (ok m) c 4 t : Vec Ideal S288x1024 .f32) :=
  (outsAt0_A m (ok m) c t h0 h1 h2 h3).trans (pay_A ..)

theorem pay_B (c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0) :
    (out0_B_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_B_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_B_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_B_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0)
      = outs (pick ((xt0 : S1.Idx → BitVec 32) (ix1 0)) 1#32 x0 x2) x5 x6 x4 := by
  have hg : kernelRun0_B.sl.v12 c arg2 harg2 arg4 harg4 arg9 x0 x2 xt0 = pick ((xt0 : S1.Idx → BitVec 32) (ix1 0)) 1#32 x0 x2 := by
    unfold kernelRun0_B.sl.v12 kernelRun0_B.sl.H7_1 kernelRun0_B.sl.r
    refine (View.readCov_unit_zero (S := S288x1024) arg9.view hz2 _ _).trans ?_
    rw [whole, whole, core_read]; rfl
  refine Prod.ext ?_ (Prod.ext ?_ (Prod.ext ?_ ?_))
  · dsimp only [outs]; unfold out0_B_7
    refine (View.read_writes_full VO0_7 _ inb_S288x1024_S288x1024_0_0 _ []).trans ?_
    unfold kernelRun0_B.sl.r; rw [whole, whole, core_read]; rfl
  · dsimp only [outs]; unfold out0_B_8
    refine (View.read_writes_full VO0_8 _ inb_S288x1024_S288x1024_0_0 _ []).trans ?_
    unfold kernelRun0_B.sl.r_1 kernelRun0_B.sl.r_2
    rw [hg, whole, whole, whole, pay7_eq, pay8_eq, pay1_eq]
  · dsimp only [outs]; unfold out0_B_9
    refine (View.read_writes_full VO0_9 _ inb_S288x1024_S288x1024_0_0 _ []).trans ?_
    rw [hg, whole, pay7_eq]
  · dsimp only [outs]; unfold out0_B_10
    refine (View.read_writes_full VO0_10 _ inb_S288x1024_S288x1024_0_0 _ []).trans ?_
    rw [hg, whole, pay8_eq]

theorem outs_B (c : Dev nD) (t : Fin (cfgM m (ok m)).N) (h0 : ¬t.val % 4 = 0) (h1 : t.val % 4 = 1) (h2 : ¬t.val % 4 = 2) (h3 : ¬t.val % 4 = 3) :
    outsAt0 m (ok m) c t.val t.isLt = outs (pick (core m) 1#32 (iblk m (ok m) c 0 t : Vec Ideal S288x1024 .f32) (iblk m (ok m) c 2 t : Vec Ideal S288x1024 .f32))
      (iblk m (ok m) c 5 t : Vec Ideal S288x1024 .f32) (iblk m (ok m) c 6 t : Vec Ideal S288x1024 .f32) (iblk m (ok m) c 4 t : Vec Ideal S288x1024 .f32) :=
  (outsAt0_B m (ok m) c t h0 h1 h2 h3).trans (pay_B ..)

theorem pay_C (c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0) :
    (out0_C_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_C_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_C_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_C_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0)
      = outs (pick ((xt0 : S1.Idx → BitVec 32) (ix1 0)) 0#32 x1 x3) x5 x6 x4 := by
  have hg : kernelRun0_C.sl.v12 c arg3 harg3 arg5 harg5 arg9 x1 x3 xt0 = pick ((xt0 : S1.Idx → BitVec 32) (ix1 0)) 0#32 x1 x3 := by
    unfold kernelRun0_C.sl.v12 kernelRun0_C.sl.H7_1 kernelRun0_C.sl.r
    refine (View.readCov_unit_zero (S := S288x1024) arg9.view hz2 _ _).trans ?_
    rw [whole, whole, core_read]; rfl
  refine Prod.ext ?_ (Prod.ext ?_ (Prod.ext ?_ ?_))
  · dsimp only [outs]; unfold out0_C_7
    refine (View.read_writes_full VO0_7 _ inb_S288x1024_S288x1024_0_0 _ []).trans ?_
    unfold kernelRun0_C.sl.r; rw [whole, whole, core_read]; rfl
  · dsimp only [outs]; unfold out0_C_8
    refine (View.read_writes_full VO0_8 _ inb_S288x1024_S288x1024_0_0 _ []).trans ?_
    unfold kernelRun0_C.sl.r_1 kernelRun0_C.sl.r_2
    rw [hg, whole, whole, whole, pay7_eq, pay8_eq, pay1_eq]
  · dsimp only [outs]; unfold out0_C_9
    refine (View.read_writes_full VO0_9 _ inb_S288x1024_S288x1024_0_0 _ []).trans ?_
    rw [hg, whole, pay7_eq]
  · dsimp only [outs]; unfold out0_C_10
    refine (View.read_writes_full VO0_10 _ inb_S288x1024_S288x1024_0_0 _ []).trans ?_
    rw [hg, whole, pay8_eq]

theorem outs_C (c : Dev nD) (t : Fin (cfgM m (ok m)).N) (h0 : ¬t.val % 4 = 0) (h1 : ¬t.val % 4 = 1) (h2 : t.val % 4 = 2) (h3 : ¬t.val % 4 = 3) :
    outsAt0 m (ok m) c t.val t.isLt = outs (pick (core m) 0#32 (iblk m (ok m) c 1 t : Vec Ideal S288x1024 .f32) (iblk m (ok m) c 3 t : Vec Ideal S288x1024 .f32))
      (iblk m (ok m) c 5 t : Vec Ideal S288x1024 .f32) (iblk m (ok m) c 6 t : Vec Ideal S288x1024 .f32) (iblk m (ok m) c 4 t : Vec Ideal S288x1024 .f32) :=
  (outsAt0_C m (ok m) c t h0 h1 h2 h3).trans (pay_C ..)

theorem pay_D (c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0) :
    (out0_D_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_D_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_D_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_D_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0)
      = outs (pick ((xt0 : S1.Idx → BitVec 32) (ix1 0)) 1#32 x1 x3) x5 x6 x4 := by
  have hg : kernelRun0_D.sl.v12 c arg3 harg3 arg5 harg5 arg9 x1 x3 xt0 = pick ((xt0 : S1.Idx → BitVec 32) (ix1 0)) 1#32 x1 x3 := by
    unfold kernelRun0_D.sl.v12 kernelRun0_D.sl.H7_1 kernelRun0_D.sl.r
    refine (View.readCov_unit_zero (S := S288x1024) arg9.view hz2 _ _).trans ?_
    rw [whole, whole, core_read]; rfl
  refine Prod.ext ?_ (Prod.ext ?_ (Prod.ext ?_ ?_))
  · dsimp only [outs]; unfold out0_D_7
    refine (View.read_writes_full VO0_7 _ inb_S288x1024_S288x1024_0_0 _ []).trans ?_
    unfold kernelRun0_D.sl.r; rw [whole, whole, core_read]; rfl
  · dsimp only [outs]; unfold out0_D_8
    refine (View.read_writes_full VO0_8 _ inb_S288x1024_S288x1024_0_0 _ []).trans ?_
    unfold kernelRun0_D.sl.r_1 kernelRun0_D.sl.r_2
    rw [hg, whole, whole, whole, pay7_eq, pay8_eq, pay1_eq]
  · dsimp only [outs]; unfold out0_D_9
    refine (View.read_writes_full VO0_9 _ inb_S288x1024_S288x1024_0_0 _ []).trans ?_
    rw [hg, whole, pay7_eq]
  · dsimp only [outs]; unfold out0_D_10
    refine (View.read_writes_full VO0_10 _ inb_S288x1024_S288x1024_0_0 _ []).trans ?_
    rw [hg, whole, pay8_eq]

theorem outs_D (c : Dev nD) (t : Fin (cfgM m (ok m)).N) (h0 : ¬t.val % 4 = 0) (h1 : ¬t.val % 4 = 1) (h2 : ¬t.val % 4 = 2) (h3 : t.val % 4 = 3) :
    outsAt0 m (ok m) c t.val t.isLt = outs (pick (core m) 1#32 (iblk m (ok m) c 1 t : Vec Ideal S288x1024 .f32) (iblk m (ok m) c 3 t : Vec Ideal S288x1024 .f32))
      (iblk m (ok m) c 5 t : Vec Ideal S288x1024 .f32) (iblk m (ok m) c 6 t : Vec Ideal S288x1024 .f32) (iblk m (ok m) c 4 t : Vec Ideal S288x1024 .f32) :=
  (outsAt0_D m (ok m) c t h0 h1 h2 h3).trans (pay_D ..)

/-! ## The blocks -/

/-- Where entry `j` of point `t`'s block of rows lies. -/
def rowIx (t : Fin grid0.N) (j : S288x1024.Idx) : S1152x1024.Idx :=
  ix2 ⟨288 * t.val + (j 0).val, by have h1 : t.val < 4 := N_0 ▸ t.isLt; have h2 : (j 0).val < 288 := (j 0).isLt; omega⟩ (j 1)

theorem row_at : ∀ t : Fin grid0.N, cc0_transform_4 (grid0.coords t) (0 : Fin 2) = t.val ∧ cc0_transform_4 (grid0.coords t) (1 : Fin 2) = 0 := by decide +kernel
theorem all_at : ∀ t : Fin grid0.N, cc0_transform_0 (grid0.coords t) (0 : Fin 2) = 0 ∧ cc0_transform_0 (grid0.coords t) (1 : Fin 2) = 0 := by decide +kernel

theorem emb4 (t : Fin grid0.N) (j : S288x1024.Idx) : (((cfgM m (ok m)).win 4).blk t).view.emb j = rowIx t j := by
  obtain ⟨e0, e1⟩ := row_at t
  funext a; apply Fin.ext
  match a with
  | ⟨0, _⟩ => show cc0_transform_4 (grid0.coords t) (0 : Fin 2) * 288 + 1 * (j 0).val = 288 * t.val + (j 0).val; omega
  | ⟨1, _⟩ => show cc0_transform_4 (grid0.coords t) (1 : Fin 2) * 1024 + 1 * (j 1).val = (j 1).val; omega

theorem emb5 (t : Fin grid0.N) (j : S288x1024.Idx) : (((cfgM m (ok m)).win 5).blk t).view.emb j = rowIx t j :=
  emb4 m t j

theorem emb6 (t : Fin grid0.N) (j : S288x1024.Idx) : (((cfgM m (ok m)).win 6).blk t).view.emb j = rowIx t j :=
  emb4 m t j

theorem emb7 (t : Fin grid0.N) (j : S288x1024.Idx) : (((cfgM m (ok m)).win 7).blk t).view.emb j = rowIx t j :=
  emb4 m t j

theorem emb8 (t : Fin grid0.N) (j : S288x1024.Idx) : (((cfgM m (ok m)).win 8).blk t).view.emb j = rowIx t j :=
  emb4 m t j

theorem emb9 (t : Fin grid0.N) (j : S288x1024.Idx) : (((cfgM m (ok m)).win 9).blk t).view.emb j = rowIx t j :=
  emb4 m t j

theorem emb10 (t : Fin grid0.N) (j : S288x1024.Idx) : (((cfgM m (ok m)).win 10).blk t).view.emb j = rowIx t j :=
  emb4 m t j

theorem emb0 (t : Fin grid0.N) (j : S288x1024.Idx) : (((cfgM m (ok m)).win 0).blk t).view.emb j = j := by
  obtain ⟨e0, e1⟩ := all_at t
  funext a; apply Fin.ext
  match a with
  | ⟨0, _⟩ => show cc0_transform_0 (grid0.coords t) (0 : Fin 2) * 288 + 1 * (j 0).val = (j 0).val; omega
  | ⟨1, _⟩ => show cc0_transform_0 (grid0.coords t) (1 : Fin 2) * 1024 + 1 * (j 1).val = (j 1).val; omega
theorem in0 (c : Dev nD) (t : Fin grid0.N) : (iblk m (ok m) c 0 t : Vec Ideal S288x1024 .f32) = m ((c : Thread nD τ).loc main_arg3) :=
  Eq.trans (funext fun j => congrArg (V m c main_arg3 : S288x1024.Idx → _) (emb0 m t j)) (V_main_arg3 m c)

theorem emb1 (t : Fin grid0.N) (j : S288x1024.Idx) : (((cfgM m (ok m)).win 1).blk t).view.emb j = j :=
  emb0 m t j
theorem in1 (c : Dev nD) (t : Fin grid0.N) : (iblk m (ok m) c 1 t : Vec Ideal S288x1024 .f32) = m ((c : Thread nD τ).loc main_arg4) :=
  Eq.trans (funext fun j => congrArg (V m c main_arg4 : S288x1024.Idx → _) (emb1 m t j)) (V_main_arg4 m c)

theorem emb2 (t : Fin grid0.N) (j : S288x1024.Idx) : (((cfgM m (ok m)).win 2).blk t).view.emb j = j :=
  emb0 m t j
theorem in2 (c : Dev nD) (t : Fin grid0.N) : (iblk m (ok m) c 2 t : Vec Ideal S288x1024 .f32) = m ((c : Thread nD τ).loc main_arg5) :=
  Eq.trans (funext fun j => congrArg (V m c main_arg5 : S288x1024.Idx → _) (emb2 m t j)) (V_main_arg5 m c)

theorem emb3 (t : Fin grid0.N) (j : S288x1024.Idx) : (((cfgM m (ok m)).win 3).blk t).view.emb j = j :=
  emb0 m t j
theorem in3 (c : Dev nD) (t : Fin grid0.N) : (iblk m (ok m) c 3 t : Vec Ideal S288x1024 .f32) = m ((c : Thread nD τ).loc main_arg6) :=
  Eq.trans (funext fun j => congrArg (V m c main_arg6 : S288x1024.Idx → _) (emb3 m t j)) (V_main_arg6 m c)

theorem in4 (c : Dev nD) (t : Fin grid0.N) : (iblk m (ok m) c 4 t : Vec Ideal S288x1024 .f32) = fun j => (V m c main_v1 : Vec Ideal S1152x1024 .f32) (rowIx t j) :=
  funext fun j => congrArg (V m c main_v1 : S1152x1024.Idx → _) (emb4 m t j)

theorem in5 (c : Dev nD) (t : Fin grid0.N) : (iblk m (ok m) c 5 t : Vec Ideal S288x1024 .f32) = fun j => (V m c main_v3 : Vec Ideal S1152x1024 .f32) (rowIx t j) :=
  funext fun j => congrArg (V m c main_v3 : S1152x1024.Idx → _) (emb5 m t j)

theorem in6 (c : Dev nD) (t : Fin grid0.N) : (iblk m (ok m) c 6 t : Vec Ideal S288x1024 .f32) = fun j => (V m c main_v5 : Vec Ideal S1152x1024 .f32) (rowIx t j) :=
  funext fun j => congrArg (V m c main_v5 : S1152x1024.Idx → _) (emb6 m t j)

/-! ## The gradient, assembled from the halves the cores own -/

/-- The rows of the two layers' halves, one below the other. -/
def gArr (k : BitVec 32) (a b c d : Vec Ideal S288x1024 .f32) : Vec Ideal S1152x1024 .f32 := fun i =>
  pick k (BitVec.ofNat 32 ((i 0).val / 288 % 2)) (if (i 0).val / 288 < 2 then a else b) (if (i 0).val / 288 < 2 then c else d)
    (ix2 ⟨(i 0).val % 288, Nat.mod_lt _ (by decide)⟩ (i 1))

theorem gArr_at (k : BitVec 32) (a b c d : Vec Ideal S288x1024 .f32) (i : S1152x1024.Idx) (j : S288x1024.Idx) (q : Nat)
    (h0 : (i 0).val = 288 * q + (j 0).val) (h1 : (i 1).val = (j 1).val) :
    gArr k a b c d i = pick k (BitVec.ofNat 32 (q % 2)) (if q < 2 then a else b) (if q < 2 then c else d) j := by
  have hj : (j 0).val < 288 := (j 0).isLt
  have hq : (i 0).val / 288 = q := by omega
  have hi : (ix2 ⟨(i 0).val % 288, Nat.mod_lt _ (by decide)⟩ (i 1) : S288x1024.Idx) = j := by
    funext x; apply Fin.ext
    match x with
    | ⟨0, _⟩ => show (i 0).val % 288 = (j 0).val; omega
    | ⟨1, _⟩ => exact h1
  unfold gArr
  rw [hi, hq]

/-- The gradient of the whole array, of the arguments. -/
def grad (c : Dev nD) : Vec Ideal S1152x1024 .f32 :=
  gArr (core m) (m ((c : Thread nD τ).loc main_arg3)) (m ((c : Thread nD τ).loc main_arg4)) (m ((c : Thread nD τ).loc main_arg5)) (m ((c : Thread nD τ).loc main_arg6))

theorem outs_at (c : Dev nD) (t : Fin grid0.N) :
    outsAt0 m (ok m) c t.val t.isLt = outs (fun j : S288x1024.Idx => grad m c (rowIx t j)) (fun j => (V m c main_v3 : Vec Ideal S1152x1024 .f32) (rowIx t j))
      (fun j => (V m c main_v5 : Vec Ideal S1152x1024 .f32) (rowIx t j)) (fun j => (V m c main_v1 : Vec Ideal S1152x1024 .f32) (rowIx t j)) := by
  rcases fin_N0 t with h | h | h | h <;> subst h
  · refine (outs_A m c t0_0 (by show (0 : Nat) % 4 = 0; decide) (by show ¬ (0 : Nat) % 4 = 1; decide) (by show ¬ (0 : Nat) % 4 = 2; decide) (by show ¬ (0 : Nat) % 4 = 3; decide)).trans ?_
    rw [in0, in2, in4, in5, in6]
    exact congrArg (outs · _ _ _) (funext fun j => (gArr_at _ _ _ _ _ _ j 0 rfl rfl).symm)
  · refine (outs_B m c t0_1 (by show ¬ (1 : Nat) % 4 = 0; decide) (by show (1 : Nat) % 4 = 1; decide) (by show ¬ (1 : Nat) % 4 = 2; decide) (by show ¬ (1 : Nat) % 4 = 3; decide)).trans ?_
    rw [in0, in2, in4, in5, in6]
    exact congrArg (outs · _ _ _) (funext fun j => (gArr_at _ _ _ _ _ _ j 1 rfl rfl).symm)
  · refine (outs_C m c t0_2 (by show ¬ (2 : Nat) % 4 = 0; decide) (by show ¬ (2 : Nat) % 4 = 1; decide) (by show (2 : Nat) % 4 = 2; decide) (by show ¬ (2 : Nat) % 4 = 3; decide)).trans ?_
    rw [in1, in3, in4, in5, in6]
    exact congrArg (outs · _ _ _) (funext fun j => (gArr_at _ _ _ _ _ _ j 2 rfl rfl).symm)
  · refine (outs_D m c t0_3 (by show ¬ (3 : Nat) % 4 = 0; decide) (by show ¬ (3 : Nat) % 4 = 1; decide) (by show ¬ (3 : Nat) % 4 = 2; decide) (by show (3 : Nat) % 4 = 3; decide)).trans ?_
    rw [in1, in3, in4, in5, in6]
    exact congrArg (outs · _ _ _) (funext fun j => (gArr_at _ _ _ _ _ _ j 3 rfl rfl).symm)

/-- Every row lies in some point's block. -/
theorem row_cover (i : S1152x1024.Idx) : ∃ (t : Fin grid0.N) (j : S288x1024.Idx), rowIx t j = i := by
  have hi : (i 0).val < 1152 := (i 0).isLt
  refine ⟨⟨(i 0).val / 288, by rw [N_0]; omega⟩, ix2 ⟨(i 0).val % 288, Nat.mod_lt _ (by decide)⟩ (i 1), ?_⟩
  funext x; apply Fin.ext
  match x with
  | ⟨0, _⟩ => show 288 * ((i 0).val / 288) + (i 0).val % 288 = (i 0).val; omega
  | ⟨1, _⟩ => rfl

set_option maxHeartbeats 1000000 in
theorem arr7 (c : Dev nD) : (dats m (ok m) 0 c).arrAt 7 (cfgM m (ok m)).N = (grad m c : Vec Ideal S1152x1024 .f32) :=
  (dats m (ok m) 0 c).arrAt_eq_of_cover 7 _ (fun t _ => by
    show ((cfgM m (ok m)).win 7).cut (grid0.coords t) ((dats m (ok m) 0 c).after 7 t) = _
    rw [after0_7, outs_at]
    exact funext fun j => (congrArg (grad m c : Vec Ideal S1152x1024 .f32) (emb7 m t j)).symm)
    fun i => by
      obtain ⟨t, j, e⟩ := row_cover i
      refine ⟨t, flush0_7 _ t, ?_⟩
      have h := (((cfgM m (ok m)).win 7).blk t).view.emb_mem_set j
      rw [emb7, e] at h; exact h

set_option maxHeartbeats 1000000 in
theorem arr8 (c : Dev nD) : (dats m (ok m) 0 c).arrAt 8 (cfgM m (ok m)).N = (delta (grad m c) (V m c main_v3) (V m c main_v5) (V m c main_v1) : Vec Ideal S1152x1024 .f32) :=
  (dats m (ok m) 0 c).arrAt_eq_of_cover 8 _ (fun t _ => by
    show ((cfgM m (ok m)).win 8).cut (grid0.coords t) ((dats m (ok m) 0 c).after 8 t) = _
    rw [after0_8, outs_at]
    exact funext fun j => (congrArg (delta (grad m c) (V m c main_v3) (V m c main_v5) (V m c main_v1) : Vec Ideal S1152x1024 .f32) (emb8 m t j)).symm)
    fun i => by
      obtain ⟨t, j, e⟩ := row_cover i
      refine ⟨t, flush0_8 _ t, ?_⟩
      have h := (((cfgM m (ok m)).win 8).blk t).view.emb_mem_set j
      rw [emb8, e] at h; exact h

set_option maxHeartbeats 1000000 in
theorem arr9 (c : Dev nD) : (dats m (ok m) 0 c).arrAt 9 (cfgM m (ok m)).N = (newM (grad m c) (V m c main_v3) : Vec Ideal S1152x1024 .f32) :=
  (dats m (ok m) 0 c).arrAt_eq_of_cover 9 _ (fun t _ => by
    show ((cfgM m (ok m)).win 9).cut (grid0.coords t) ((dats m (ok m) 0 c).after 9 t) = _
    rw [after0_9, outs_at]
    exact funext fun j => (congrArg (newM (grad m c) (V m c main_v3) : Vec Ideal S1152x1024 .f32) (emb9 m t j)).symm)
    fun i => by
      obtain ⟨t, j, e⟩ := row_cover i
      refine ⟨t, flush0_9 _ t, ?_⟩
      have h := (((cfgM m (ok m)).win 9).blk t).view.emb_mem_set j
      rw [emb9, e] at h; exact h

set_option maxHeartbeats 1000000 in
theorem arr10 (c : Dev nD) : (dats m (ok m) 0 c).arrAt 10 (cfgM m (ok m)).N = (newV (grad m c) (V m c main_v5) : Vec Ideal S1152x1024 .f32) :=
  (dats m (ok m) 0 c).arrAt_eq_of_cover 10 _ (fun t _ => by
    show ((cfgM m (ok m)).win 10).cut (grid0.coords t) ((dats m (ok m) 0 c).after 10 t) = _
    rw [after0_10, outs_at]
    exact funext fun j => (congrArg (newV (grad m c) (V m c main_v5) : Vec Ideal S1152x1024 .f32) (emb10 m t j)).symm)
    fun i => by
      obtain ⟨t, j, e⟩ := row_cover i
      refine ⟨t, flush0_10 _ t, ?_⟩
      have h := (((cfgM m (ok m)).win 10).blk t).view.emb_mem_set j
      rw [emb10, e] at h; exact h

/-! ## The host's transposes and reshapes -/

/-- The rows of the transposed layers, one below the other. -/
def into (X : Vec Ideal S2x1024x576 .f32) : Vec Ideal S1152x1024 .f32 :=
  shapeCast S1152x1024 (transpose S2x576x1024 [0, 2, 1] X transposes_S2x1024x576_S2x576x1024_0_2_1) shapeCasts_S2x576x1024_S1152x1024
/-- The layers again. -/
def back (X : Vec Ideal S1152x1024 .f32) : Vec Ideal S2x1024x576 .f32 :=
  transpose S2x1024x576 [0, 2, 1] (shapeCast S2x576x1024 X shapeCasts_S1152x1024_S2x576x1024) transposes_S2x576x1024_S2x1024x576_0_2_1
theorem back_into (X : Vec Ideal S2x1024x576 .f32) : back (into X) = X := by
  unfold back into
  rw [shapeCast_shapeCast]
  funext j
  rw [transpose_apply _ _ _ j (ix3 (j 0) (j 2) (j 1) : S2x576x1024.Idx) (fun b => by match b with | ⟨0, _⟩ => rfl | ⟨1, _⟩ => rfl | ⟨2, _⟩ => rfl),
    transpose_apply _ _ _ _ j (fun b => by match b with | ⟨0, _⟩ => rfl | ⟨1, _⟩ => rfl | ⟨2, _⟩ => rfl)]

theorem host_in0 (c : Dev nD) : V m c main_v1 = into (m ((c : Thread nD τ).loc main_arg0)) := by
  show StableHlo.after hostOps0 _ (Proc.devRef .tc main_v1) = _
  after_results
  rfl

theorem host_in1 (c : Dev nD) : V m c main_v3 = into (m ((c : Thread nD τ).loc main_arg1)) := by
  show StableHlo.after hostOps0 _ (Proc.devRef .tc main_v3) = _
  after_results
  rfl

theorem host_in2 (c : Dev nD) : V m c main_v5 = into (m ((c : Thread nD τ).loc main_arg2)) := by
  show StableHlo.after hostOps0 _ (Proc.devRef .tc main_v5) = _
  after_results
  rfl

theorem host_out0 (W : Valuation τ sig (Elt Ideal)) :
    StableHlo.after hostOps1 W (Proc.devRef .tc main_v11) = back (W (Proc.devRef .tc main_v6_0)) := by
  after_results
  rfl

theorem host_out1 (W : Valuation τ sig (Elt Ideal)) :
    StableHlo.after hostOps1 W (Proc.devRef .tc main_v12) = back (W (Proc.devRef .tc main_v6_1)) := by
  after_results
  rfl

theorem host_out2 (W : Valuation τ sig (Elt Ideal)) :
    StableHlo.after hostOps1 W (Proc.devRef .tc main_v13) = back (W (Proc.devRef .tc main_v6_2)) := by
  after_results
  rfl

theorem host_out3 (W : Valuation τ sig (Elt Ideal)) :
    StableHlo.after hostOps1 W (Proc.devRef .tc main_v14) = back (W (Proc.devRef .tc main_v6_3)) := by
  after_results
  rfl

theorem arr_inj : Function.Injective (Pipeline.arrRef spec0) := by decide

theorem tail0 (c : Dev nD) : Pipeline.afterTail pcfgs (fun _ => adm m (ok m)) (dats m (ok m)) 0 (V0 m) [hostOps1] c main_v11
    = back ((dats m (ok m) 0 c).arrAt 7 (cfgM m (ok m)).N) :=
  (host_out0 _).trans (congrArg back (Pipeline.withArrays_arr spec0 arr_inj c _ _ 7))

theorem tail1 (c : Dev nD) : Pipeline.afterTail pcfgs (fun _ => adm m (ok m)) (dats m (ok m)) 0 (V0 m) [hostOps1] c main_v12
    = back ((dats m (ok m) 0 c).arrAt 8 (cfgM m (ok m)).N) :=
  (host_out1 _).trans (congrArg back (Pipeline.withArrays_arr spec0 arr_inj c _ _ 8))

theorem tail2 (c : Dev nD) : Pipeline.afterTail pcfgs (fun _ => adm m (ok m)) (dats m (ok m)) 0 (V0 m) [hostOps1] c main_v13
    = back ((dats m (ok m) 0 c).arrAt 9 (cfgM m (ok m)).N) :=
  (host_out2 _).trans (congrArg back (Pipeline.withArrays_arr spec0 arr_inj c _ _ 9))

theorem tail3 (c : Dev nD) : Pipeline.afterTail pcfgs (fun _ => adm m (ok m)) (dats m (ok m)) 0 (V0 m) [hostOps1] c main_v14
    = back ((dats m (ok m) 0 c).arrAt 10 (cfgM m (ok m)).N) :=
  (host_out3 _).trans (congrArg back (Pipeline.withArrays_arr spec0 arr_inj c _ _ 10))

/-! ## The reference's gradient -/

section Reference
open Cert.Reference13Ideal.Read

theorem where2 (a b : Vec Ideal S288x1024 .f32) (x : IVec S1 32) : val_main_v2 (F := Ideal) a b x = pick (x (ix1 0)) 0#32 a b := by
  have e : val_main_v0 (F := Ideal) x = fun _ => x (ix1 0) := funext fun i => congrArg x (funext fun a => by match a with | ⟨0, _⟩ => exact Subsingleton.elim (α := Fin 1) _ _)
  unfold val_main_v2 val_main_v1 pick; rw [e]
  funext j; unfold select Scalar.select; dsimp only [broadcastInDim, cmpi, val_main_c, constantI]
  by_cases hk : IntOp.cmpi .eq (x (ix1 0)) 0#32 = 1
  · exact (if_pos hk).trans (congrFun (if_pos hk).symm j)
  · exact (if_neg hk).trans (congrFun (if_neg hk).symm j)
theorem where5 (a b : Vec Ideal S288x1024 .f32) (x : IVec S1 32) : val_main_v5 (F := Ideal) a b x = pick (x (ix1 0)) 1#32 a b := by
  have e : val_main_v3 (F := Ideal) x = fun _ => x (ix1 0) := funext fun i => congrArg x (funext fun a => by match a with | ⟨0, _⟩ => exact Subsingleton.elim (α := Fin 1) _ _)
  unfold val_main_v5 val_main_v4 pick; rw [e]
  funext j; unfold select Scalar.select; dsimp only [broadcastInDim, cmpi, val_main_c_0, constantI]
  by_cases hk : IntOp.cmpi .eq (x (ix1 0)) 1#32 = 1
  · exact (if_pos hk).trans (congrFun (if_pos hk).symm j)
  · exact (if_neg hk).trans (congrFun (if_neg hk).symm j)
theorem where9 (a b : Vec Ideal S288x1024 .f32) (x : IVec S1 32) : val_main_v9 (F := Ideal) a b x = pick (x (ix1 0)) 0#32 a b := where2 a b x
theorem where12 (a b : Vec Ideal S288x1024 .f32) (x : IVec S1 32) : val_main_v12 (F := Ideal) a b x = pick (x (ix1 0)) 1#32 a b := where5 a b x

/-- A layer: the two halves, one below the other. -/
theorem half (a b : Vec Ideal S288x1024 .f32) (hc : Shape.Concatenates [S288x1024, S288x1024] Cert.Reference13Ideal.S576x1024 0) (p : Fin 576) (k : Fin 1024) :
    concatenate Cert.Reference13Ideal.S576x1024 0 [⟨S288x1024, a⟩, ⟨S288x1024, b⟩] hc (ix2 p k) = (if p.val < 288 then a else b) (ix2 ⟨p.val % 288, Nat.mod_lt _ (by decide)⟩ k) := by
  by_cases hp : p.val < 288
  · rw [if_pos hp]
    exact concatenate_pair_apply_left 0 a b hc _ rfl _ (fun x => by
      match x with
      | ⟨0, _⟩ => exact Nat.mod_eq_of_lt hp
      | ⟨1, _⟩ => rfl)
  · rw [if_neg hp]
    have hb := p.isLt
    exact concatenate_pair_apply_right 0 a b hc _ rfl rfl _ (fun x hx => by
      match x, hx with
      | ⟨0, _⟩, hx => exact absurd rfl hx
      | ⟨1, _⟩, _ => rfl) (by show p.val % 288 + 288 = p.val; omega)

theorem stack (a b c d : Vec Ideal S288x1024 .f32) (x : IVec S1 32) :
    val_main_v16 (F := Ideal) a b c d x = shapeCast S2x576x1024 (gArr (x (ix1 0)) a b c d) shapeCasts_S1152x1024_S2x576x1024 := by
  funext i
  obtain ⟨l, p, k, rfl⟩ : ∃ (l : Fin 2) (p : Fin 576) (k : Fin 1024), i = ix3 l p k := ⟨i 0, i 1, i 2, by funext x; match x with | ⟨0, _⟩ => rfl | ⟨1, _⟩ => rfl | ⟨2, _⟩ => rfl⟩
  have hl := l.isLt
  have hb := p.isLt
  refine Eq.trans ?_ (shapeCast_apply _ _ _ (ix2 ⟨576 * l.val + p.val, by omega⟩ k : S1152x1024.Idx) (by
    rw [Shape.rowMajor_val_three, Shape.rowMajor_val_two]
    show (576 * l.val + p.val) * 1024 + k.val = (l.val * 576 + p.val) * 1024 + k.val; omega)).symm
  refine Eq.trans ?_ (gArr_at _ _ _ _ _ _ (ix2 ⟨p.val % 288, Nat.mod_lt _ (by decide)⟩ k) (2 * l.val + p.val / 288)
    (by show 576 * l.val + p.val = 288 * (2 * l.val + p.val / 288) + p.val % 288; omega) rfl).symm
  have hq : (2 * l.val + p.val / 288) % 2 = p.val / 288 := by omega
  rw [hq]
  have hl2 : l.val = 0 ∨ l.val = 1 := by omega
  unfold val_main_v16
  rcases hl2 with h | h
  · refine (concatenate_pair_apply_left (s₁ := Cert.Reference13Ideal.S1x576x1024) (s₂ := Cert.Reference13Ideal.S1x576x1024) 0 _ _ _ (ix3 l p k) rfl (ix3 0 p k : Cert.Reference13Ideal.S1x576x1024.Idx) (fun x => by
      match x with
      | ⟨0, _⟩ => exact h.symm
      | ⟨1, _⟩ => rfl
      | ⟨2, _⟩ => rfl)).trans ?_
    rw [if_pos (by omega : 2 * l.val + p.val / 288 < 2), if_pos (by omega : 2 * l.val + p.val / 288 < 2)]
    refine Eq.trans (b := val_main_v6 (F := Ideal) a c x (ix2 p k)) ((val_main_v14_apply (F := Ideal) a c x (ix3 0 p k)).trans <| congrArg (val_main_v6 (F := Ideal) a c x) (funext fun y => by match y with | ⟨0, _⟩ => rfl | ⟨1, _⟩ => rfl)) ?_
    unfold val_main_v6
    rw [half, where2, where5]
    by_cases hp : p.val < 288
    · rw [if_pos hp, Nat.div_eq_of_lt hp]
    · rw [if_neg hp, (by omega : p.val / 288 = 1)]
  · refine (concatenate_pair_apply_right (s₁ := Cert.Reference13Ideal.S1x576x1024) (s₂ := Cert.Reference13Ideal.S1x576x1024) 0 _ _ _ (ix3 l p k) rfl rfl (ix3 0 p k : Cert.Reference13Ideal.S1x576x1024.Idx) (fun x hx => by
      match x, hx with
      | ⟨0, _⟩, hx => exact absurd rfl hx
      | ⟨1, _⟩, _ => rfl
      | ⟨2, _⟩, _ => rfl) (by show 0 + 1 = l.val; omega)).trans ?_
    rw [if_neg (by omega : ¬ 2 * l.val + p.val / 288 < 2), if_neg (by omega : ¬ 2 * l.val + p.val / 288 < 2)]
    refine Eq.trans (b := val_main_v13 (F := Ideal) b d x (ix2 p k)) ((val_main_v15_apply (F := Ideal) b d x (ix3 0 p k)).trans <| congrArg (val_main_v13 (F := Ideal) b d x) (funext fun y => by match y with | ⟨0, _⟩ => rfl | ⟨1, _⟩ => rfl)) ?_
    unfold val_main_v13
    rw [half, where9, where12]
    by_cases hp : p.val < 288
    · rw [if_pos hp, Nat.div_eq_of_lt hp]
    · rw [if_neg hp, (by omega : p.val / 288 = 1)]

/-- The reference's gradient is the kernel's. -/
theorem ref_grad (a b c d : Vec Ideal S288x1024 .f32) (x : IVec S1 32) : val_main_v17 (F := Ideal) a b c d x = back (gArr (x (ix1 0)) a b c d) := by
  unfold val_main_v17 back; rw [stack]

theorem ref_m (y : Vec Ideal S2x1024x576 .f32) (a b c d : Vec Ideal S288x1024 .f32) (x : IVec S1 32) :
    val_main_v22 (F := Ideal) y a b c d x = newM (val_main_v17 (F := Ideal) a b c d x) y := rfl
theorem ref_v (y : Vec Ideal S2x1024x576 .f32) (a b c d : Vec Ideal S288x1024 .f32) (x : IVec S1 32) :
    val_main_v28 (F := Ideal) y a b c d x = newV (val_main_v17 (F := Ideal) a b c d x) y := rfl
theorem ref_d (w y z : Vec Ideal S2x1024x576 .f32) (a b c d : Vec Ideal S288x1024 .f32) (x : IVec S1 32) :
    val_main_v41 (F := Ideal) w y z a b c d x = delta (val_main_v17 (F := Ideal) a b c d x) y z w := rfl

end Reference

/-! ## The claims -/

/-- The core's number, off the arguments. -/
theorem core_eq (c : Dev nD) : core m = (m ((c : Thread nD τ).loc main_arg7) : S1.Idx → BitVec 32) (ix1 0) :=
  congrArg (fun f : S1.Idx → BitVec 32 => f (ix1 0)) ((V_pre m c 0).symm.trans (V_main_arg7 m c))

/-- The gradient as the reference computes it, of the kernel's arguments. -/
def G (c : Dev nD) : Vec Ideal S2x1024x576 .f32 := Cert.Reference13Ideal.Read.val_main_v17 (F := Ideal) (m ((c : Thread nD τ).loc main_arg3)) (m ((c : Thread nD τ).loc main_arg4))
  (m ((c : Thread nD τ).loc main_arg5)) (m ((c : Thread nD τ).loc main_arg6)) (m ((c : Thread nD τ).loc main_arg7))
theorem back_grad (c : Dev nD) : back (grad m c) = G m c := by
  unfold G grad; rw [ref_grad, core_eq m c]

theorem val0 (c : Dev nD) : back ((dats m (ok m) 0 c).arrAt 7 (cfgM m (ok m)).N) = G m c := by
  rw [arr7]; exact back_grad m c
theorem val1 (c : Dev nD) : back ((dats m (ok m) 0 c).arrAt 8 (cfgM m (ok m)).N)
    = delta (G m c) (m ((c : Thread nD τ).loc main_arg1)) (m ((c : Thread nD τ).loc main_arg2)) (m ((c : Thread nD τ).loc main_arg0)) := by
  rw [arr8, host_in0, host_in1, host_in2]
  refine Eq.trans (b := delta (back (grad m c)) (back (into (m ((c : Thread nD τ).loc main_arg1)))) (back (into (m ((c : Thread nD τ).loc main_arg2)))) (back (into (m ((c : Thread nD τ).loc main_arg0))))) rfl ?_
  rw [back_grad, back_into, back_into, back_into]
theorem val2 (c : Dev nD) : back ((dats m (ok m) 0 c).arrAt 9 (cfgM m (ok m)).N) = newM (G m c) (m ((c : Thread nD τ).loc main_arg1)) := by
  rw [arr9, host_in1]
  refine Eq.trans (b := newM (back (grad m c)) (back (into (m ((c : Thread nD τ).loc main_arg1))))) rfl ?_
  rw [back_grad, back_into]
theorem val3 (c : Dev nD) : back ((dats m (ok m) 0 c).arrAt 10 (cfgM m (ok m)).N) = newV (G m c) (m ((c : Thread nD τ).loc main_arg2)) := by
  rw [arr10, host_in2]
  refine Eq.trans (b := newV (back (grad m c)) (back (into (m ((c : Thread nD τ).loc main_arg2))))) rfl ?_
  rw [back_grad, back_into]

/-- The two programs have the same functions. -/
theorem defs₀_eq {F : FTy → Type} [FloatOps F] : Cert.Kernel13.defs₀ (F := F) = Cert.Kernel13Ideal.defs₀ (F := F) := by
  unfold Cert.Kernel13.defs₀ Cert.Kernel13Ideal.defs₀
  refine congrArg Defs.onTc (funext fun l => ?_)
  match l with
  | ⟨0, _⟩ => exact funext fun ⟨t, s⟩ => rfl
theorem defs_eq {F : FTy → Type} [FloatOps F] : Cert.Kernel13.defs (F := F) = Cert.Kernel13Ideal.defs (F := F) := by
  unfold Cert.Kernel13.defs Cert.Kernel13Ideal.defs
  rw [defs₀_eq]
  rfl
set_option maxHeartbeats 4000000 in
theorem frame_kernel : Cert.quiescent_Kernel13 := fun m ρ _ => by
  rw [defs_eq]
  exact frame (F := Bits) m ρ trivial
theorem frame_ideal : Cert.quiescent_Kernel13Ideal := fun m ρ _ => frame (F := Ideal) m ρ trivial
theorem frame_reference : Cert.quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)
theorem preserves : Cert.preserves_Kernel13_Kernel13Ideal := trivial

section Reference
open Cert.Reference13Ideal.Read
theorem of_args {a a' b b' c c' d d' : Vec Ideal S288x1024 .f32} {x x' : IVec S1 32} (h1 : a = a') (h2 : b = b') (h3 : c = c') (h4 : d = d') (h5 : x = x') :
    val_main_v17 (F := Ideal) a b c d x = val_main_v17 (F := Ideal) a' b' c' d' x' := by rw [h1, h2, h3, h4, h5]

set_option maxHeartbeats 4000000 in
/-- The gradient, the change of the parameter and the two moments the kernel leaves are the reference's. -/
theorem algebraic : Cert.algebraic_Kernel13Ideal_Reference13Ideal := fun m ρ m' ρ' _ hargs =>
  ⟨fun c => G m c, fun c => delta (G m c) (m ((c : Thread nD τ).loc main_arg1)) (m ((c : Thread nD τ).loc main_arg2)) (m ((c : Thread nD τ).loc main_arg0)),
    fun c => newM (G m c) (m ((c : Thread nD τ).loc main_arg1)), fun c => newV (G m c) (m ((c : Thread nD τ).loc main_arg2)),
    (θ_run Cert.Kernel13Ideal.defs _ _).mono (fun _ h c => ⟨((h.1 c).2 main_v11 (by decide : main_v11 ∈ Pipeline.restRefs sig spec0)).trans ((tail0 m c).trans (val0 m c)),
      ((h.1 c).2 main_v12 (by decide : main_v12 ∈ Pipeline.restRefs sig spec0)).trans ((tail1 m c).trans (val1 m c)),
      ((h.1 c).2 main_v13 (by decide : main_v13 ∈ Pipeline.restRefs sig spec0)).trans ((tail2 m c).trans (val2 m c)),
      ((h.1 c).2 main_v14 (by decide : main_v14 ∈ Pipeline.restRefs sig spec0)).trans ((tail3 m c).trans (val3 m c)), h.2 c⟩) (θ_run_and (run_main m ρ (ok m)) (unchanged m ρ (ok m))),
    (θ_run Cert.Reference13Ideal.defs _ _).mono (fun _ h c => by
      obtain ⟨a0, a1, a2, a3, a4, a5, a6, a7⟩ := hargs c
      have hG := of_args a3 a4 a5 a6 a7
      exact ⟨(h c).1.trans ((val_main_v17_eq ..).trans hG),
        (h c).2.1.trans ((val_main_v41_eq ..).trans ((ref_d ..).trans (by rw [hG, a0, a1, a2]; rfl))),
        (h c).2.2.1.trans ((val_main_v22_eq ..).trans ((ref_m ..).trans (by rw [hG, a1]; rfl))),
        (h c).2.2.2.1.trans ((val_main_v28_eq ..).trans ((ref_v ..).trans (by rw [hG, a2]; rfl))),
        (h c).2.2.2.2⟩) (Cert.Reference13Ideal.Value.run m' ρ')⟩
end Reference

end Cert.AdamIn
end
end
-- ==== Proof.AdamO.lean ====
module

public import proofs.«01_k».proof.Defs
public import proofs.«01_k».proof.Proof.Gen.Kernel14
public import proofs.«01_k».proof.Proof.Gen.Kernel14Ideal.Frame
public import proofs.«01_k».proof.Proof.Gen.Reference14Ideal.Run
public import proofs.«01_k».proof.Proof.Gen.Reference14Ideal.Read
public import Idealize.ShloMosaic.Lib.Quiescent
public import Idealize.ShloMosaic.Lib.Pipeline.Value
public import Idealize.ShloMosaic.Lib.Pipeline.ValueKit.Point
public import Idealize.ShloMosaic.Lib.VecWindow
public import Idealize.ShloMosaic.Lib.WholeRead
public import proofs.«01_k».proof.Proof.Adam

@[expose] public section

set_option maxRecDepth 16384

noncomputable section

namespace Cert.AdamO

open Cert.Kernel14Ideal Cert.Kernel14Ideal.Gen Idealize.ShloMosaic Idealize.ShloMosaic.TcCoe Idealize.SL.Sem
open Idealize.ShloMosaic.Pipeline (Dat)
open Cert.Adam

variable (m : (ℓ : Loc nD τ sig) → Buf (Elt Ideal) ℓ) (ρ : Dev nD → PrngReg)

/-! ## One grid point -/

theorem hz2 : (![0, 0] : Fin 2 → Nat) = fun _ => 0 := funext fun a => by fin_cases a <;> rfl

theorem ok : Ok m := trivial

/-- The core's number, as the table holds it. -/
def core : BitVec 32 := (tbl m 0 : S1.Idx → BitVec 32) (ix1 0)

theorem whole {arg : Memref sig .tc .vmem S128x1024 .f32} (hw : arg.IsWhole) (X : Vec Ideal S128x1024 .f32) :
    View.readAt (Elt Ideal) arg.view (Rect.unit ![0, 0] S128x1024.size inb_S128x1024_S128x1024_0_0).toLoadRect (hw.unread X) = X :=
  (funext fun x => Memref.IsWhole.readAt_unread hw X _ x).trans (View.ld_unit_zero (S := S128x1024) hz2 _ X)

theorem pay7_eq (g x : Vec Ideal S128x1024 .f32) : k0_pay7 g x = newM g x := by
  unfold k0_pay7 k0_pay6; simp only [shapeCast_self]; rfl
theorem pay8_eq (g x : Vec Ideal S128x1024 .f32) : k0_pay8 g x = newV g x := by
  unfold k0_pay8 k0_pay6; simp only [shapeCast_self]; rfl
theorem pay1_eq (g x y w : Vec Ideal S128x1024 .f32) : k0_pay1 (newM g x) (newV g y) w = delta g x y w := by
  unfold k0_pay1; simp only [shapeCast_self]; rfl

theorem core_read {c : Dev nD} (x : TbBuf0 (F := Ideal) c tbM0_0) (hp) :
    View.readAt (Elt Ideal) tbM0_0.view (Rect.unit ![0] S1.size inb_S1_S1_0).toLoadRect x (Shape.Idx.first hp) = (x : S1.Idx → BitVec 32) (ix1 0) :=
  congrArg (x : S1.Idx → BitVec 32) (funext fun a => by match a with | ⟨0, _⟩ => exact Subsingleton.elim (α := Fin 1) _ _)

theorem pay_A (c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0) :
    (out0_A_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_A_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_A_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_A_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0)
      = outs (pick ((xt0 : S1.Idx → BitVec 32) (ix1 0)) 0#32 x0 x2) x5 x6 x4 := by
  have hg : kernelRun0_A.sl.v12 c arg2 harg2 arg4 harg4 arg9 x0 x2 xt0 = pick ((xt0 : S1.Idx → BitVec 32) (ix1 0)) 0#32 x0 x2 := by
    unfold kernelRun0_A.sl.v12 kernelRun0_A.sl.H7_1 kernelRun0_A.sl.r
    refine (View.readCov_unit_zero (S := S128x1024) arg9.view hz2 _ _).trans ?_
    rw [whole, whole, core_read]; rfl
  refine Prod.ext ?_ (Prod.ext ?_ (Prod.ext ?_ ?_))
  · dsimp only [outs]; unfold out0_A_7
    refine (View.read_writes_full VO0_7 _ inb_S128x1024_S128x1024_0_0 _ []).trans ?_
    unfold kernelRun0_A.sl.r; rw [whole, whole, core_read]; rfl
  · dsimp only [outs]; unfold out0_A_8
    refine (View.read_writes_full VO0_8 _ inb_S128x1024_S128x1024_0_0 _ []).trans ?_
    unfold kernelRun0_A.sl.r_1 kernelRun0_A.sl.r_2
    rw [hg, whole, whole, whole, pay7_eq, pay8_eq, pay1_eq]
  · dsimp only [outs]; unfold out0_A_9
    refine (View.read_writes_full VO0_9 _ inb_S128x1024_S128x1024_0_0 _ []).trans ?_
    rw [hg, whole, pay7_eq]
  · dsimp only [outs]; unfold out0_A_10
    refine (View.read_writes_full VO0_10 _ inb_S128x1024_S128x1024_0_0 _ []).trans ?_
    rw [hg, whole, pay8_eq]

theorem outs_A (c : Dev nD) (t : Fin (cfgM m (ok m)).N) (h0 : t.val % 4 = 0) (h1 : ¬t.val % 4 = 1) (h2 : ¬t.val % 4 = 2) (h3 : ¬t.val % 4 = 3) :
    outsAt0 m (ok m) c t.val t.isLt = outs (pick (core m) 0#32 (iblk m (ok m) c 0 t : Vec Ideal S128x1024 .f32) (iblk m (ok m) c 2 t : Vec Ideal S128x1024 .f32))
      (iblk m (ok m) c 5 t : Vec Ideal S128x1024 .f32) (iblk m (ok m) c 6 t : Vec Ideal S128x1024 .f32) (iblk m (ok m) c 4 t : Vec Ideal S128x1024 .f32) :=
  (outsAt0_A m (ok m) c t h0 h1 h2 h3).trans (pay_A ..)

theorem pay_B (c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0) :
    (out0_B_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_B_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_B_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_B_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0)
      = outs (pick ((xt0 : S1.Idx → BitVec 32) (ix1 0)) 1#32 x0 x2) x5 x6 x4 := by
  have hg : kernelRun0_B.sl.v12 c arg2 harg2 arg4 harg4 arg9 x0 x2 xt0 = pick ((xt0 : S1.Idx → BitVec 32) (ix1 0)) 1#32 x0 x2 := by
    unfold kernelRun0_B.sl.v12 kernelRun0_B.sl.H7_1 kernelRun0_B.sl.r
    refine (View.readCov_unit_zero (S := S128x1024) arg9.view hz2 _ _).trans ?_
    rw [whole, whole, core_read]; rfl
  refine Prod.ext ?_ (Prod.ext ?_ (Prod.ext ?_ ?_))
  · dsimp only [outs]; unfold out0_B_7
    refine (View.read_writes_full VO0_7 _ inb_S128x1024_S128x1024_0_0 _ []).trans ?_
    unfold kernelRun0_B.sl.r; rw [whole, whole, core_read]; rfl
  · dsimp only [outs]; unfold out0_B_8
    refine (View.read_writes_full VO0_8 _ inb_S128x1024_S128x1024_0_0 _ []).trans ?_
    unfold kernelRun0_B.sl.r_1 kernelRun0_B.sl.r_2
    rw [hg, whole, whole, whole, pay7_eq, pay8_eq, pay1_eq]
  · dsimp only [outs]; unfold out0_B_9
    refine (View.read_writes_full VO0_9 _ inb_S128x1024_S128x1024_0_0 _ []).trans ?_
    rw [hg, whole, pay7_eq]
  · dsimp only [outs]; unfold out0_B_10
    refine (View.read_writes_full VO0_10 _ inb_S128x1024_S128x1024_0_0 _ []).trans ?_
    rw [hg, whole, pay8_eq]

theorem outs_B (c : Dev nD) (t : Fin (cfgM m (ok m)).N) (h0 : ¬t.val % 4 = 0) (h1 : t.val % 4 = 1) (h2 : ¬t.val % 4 = 2) (h3 : ¬t.val % 4 = 3) :
    outsAt0 m (ok m) c t.val t.isLt = outs (pick (core m) 1#32 (iblk m (ok m) c 0 t : Vec Ideal S128x1024 .f32) (iblk m (ok m) c 2 t : Vec Ideal S128x1024 .f32))
      (iblk m (ok m) c 5 t : Vec Ideal S128x1024 .f32) (iblk m (ok m) c 6 t : Vec Ideal S128x1024 .f32) (iblk m (ok m) c 4 t : Vec Ideal S128x1024 .f32) :=
  (outsAt0_B m (ok m) c t h0 h1 h2 h3).trans (pay_B ..)

theorem pay_C (c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0) :
    (out0_C_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_C_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_C_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_C_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0)
      = outs (pick ((xt0 : S1.Idx → BitVec 32) (ix1 0)) 0#32 x1 x3) x5 x6 x4 := by
  have hg : kernelRun0_C.sl.v12 c arg3 harg3 arg5 harg5 arg9 x1 x3 xt0 = pick ((xt0 : S1.Idx → BitVec 32) (ix1 0)) 0#32 x1 x3 := by
    unfold kernelRun0_C.sl.v12 kernelRun0_C.sl.H7_1 kernelRun0_C.sl.r
    refine (View.readCov_unit_zero (S := S128x1024) arg9.view hz2 _ _).trans ?_
    rw [whole, whole, core_read]; rfl
  refine Prod.ext ?_ (Prod.ext ?_ (Prod.ext ?_ ?_))
  · dsimp only [outs]; unfold out0_C_7
    refine (View.read_writes_full VO0_7 _ inb_S128x1024_S128x1024_0_0 _ []).trans ?_
    unfold kernelRun0_C.sl.r; rw [whole, whole, core_read]; rfl
  · dsimp only [outs]; unfold out0_C_8
    refine (View.read_writes_full VO0_8 _ inb_S128x1024_S128x1024_0_0 _ []).trans ?_
    unfold kernelRun0_C.sl.r_1 kernelRun0_C.sl.r_2
    rw [hg, whole, whole, whole, pay7_eq, pay8_eq, pay1_eq]
  · dsimp only [outs]; unfold out0_C_9
    refine (View.read_writes_full VO0_9 _ inb_S128x1024_S128x1024_0_0 _ []).trans ?_
    rw [hg, whole, pay7_eq]
  · dsimp only [outs]; unfold out0_C_10
    refine (View.read_writes_full VO0_10 _ inb_S128x1024_S128x1024_0_0 _ []).trans ?_
    rw [hg, whole, pay8_eq]

theorem outs_C (c : Dev nD) (t : Fin (cfgM m (ok m)).N) (h0 : ¬t.val % 4 = 0) (h1 : ¬t.val % 4 = 1) (h2 : t.val % 4 = 2) (h3 : ¬t.val % 4 = 3) :
    outsAt0 m (ok m) c t.val t.isLt = outs (pick (core m) 0#32 (iblk m (ok m) c 1 t : Vec Ideal S128x1024 .f32) (iblk m (ok m) c 3 t : Vec Ideal S128x1024 .f32))
      (iblk m (ok m) c 5 t : Vec Ideal S128x1024 .f32) (iblk m (ok m) c 6 t : Vec Ideal S128x1024 .f32) (iblk m (ok m) c 4 t : Vec Ideal S128x1024 .f32) :=
  (outsAt0_C m (ok m) c t h0 h1 h2 h3).trans (pay_C ..)

theorem pay_D (c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0) :
    (out0_D_7 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_D_8 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_D_9 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0,
      out0_D_10 (F := Ideal) c i arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xt0)
      = outs (pick ((xt0 : S1.Idx → BitVec 32) (ix1 0)) 1#32 x1 x3) x5 x6 x4 := by
  have hg : kernelRun0_D.sl.v12 c arg3 harg3 arg5 harg5 arg9 x1 x3 xt0 = pick ((xt0 : S1.Idx → BitVec 32) (ix1 0)) 1#32 x1 x3 := by
    unfold kernelRun0_D.sl.v12 kernelRun0_D.sl.H7_1 kernelRun0_D.sl.r
    refine (View.readCov_unit_zero (S := S128x1024) arg9.view hz2 _ _).trans ?_
    rw [whole, whole, core_read]; rfl
  refine Prod.ext ?_ (Prod.ext ?_ (Prod.ext ?_ ?_))
  · dsimp only [outs]; unfold out0_D_7
    refine (View.read_writes_full VO0_7 _ inb_S128x1024_S128x1024_0_0 _ []).trans ?_
    unfold kernelRun0_D.sl.r; rw [whole, whole, core_read]; rfl
  · dsimp only [outs]; unfold out0_D_8
    refine (View.read_writes_full VO0_8 _ inb_S128x1024_S128x1024_0_0 _ []).trans ?_
    unfold kernelRun0_D.sl.r_1 kernelRun0_D.sl.r_2
    rw [hg, whole, whole, whole, pay7_eq, pay8_eq, pay1_eq]
  · dsimp only [outs]; unfold out0_D_9
    refine (View.read_writes_full VO0_9 _ inb_S128x1024_S128x1024_0_0 _ []).trans ?_
    rw [hg, whole, pay7_eq]
  · dsimp only [outs]; unfold out0_D_10
    refine (View.read_writes_full VO0_10 _ inb_S128x1024_S128x1024_0_0 _ []).trans ?_
    rw [hg, whole, pay8_eq]

theorem outs_D (c : Dev nD) (t : Fin (cfgM m (ok m)).N) (h0 : ¬t.val % 4 = 0) (h1 : ¬t.val % 4 = 1) (h2 : ¬t.val % 4 = 2) (h3 : t.val % 4 = 3) :
    outsAt0 m (ok m) c t.val t.isLt = outs (pick (core m) 1#32 (iblk m (ok m) c 1 t : Vec Ideal S128x1024 .f32) (iblk m (ok m) c 3 t : Vec Ideal S128x1024 .f32))
      (iblk m (ok m) c 5 t : Vec Ideal S128x1024 .f32) (iblk m (ok m) c 6 t : Vec Ideal S128x1024 .f32) (iblk m (ok m) c 4 t : Vec Ideal S128x1024 .f32) :=
  (outsAt0_D m (ok m) c t h0 h1 h2 h3).trans (pay_D ..)

/-! ## The blocks -/

/-- Where entry `j` of point `t`'s block of rows lies. -/
def rowIx (t : Fin grid0.N) (j : S128x1024.Idx) : S512x1024.Idx :=
  ix2 ⟨128 * t.val + (j 0).val, by have h1 : t.val < 4 := N_0 ▸ t.isLt; have h2 : (j 0).val < 128 := (j 0).isLt; omega⟩ (j 1)

theorem row_at : ∀ t : Fin grid0.N, cc0_transform_4 (grid0.coords t) (0 : Fin 2) = t.val ∧ cc0_transform_4 (grid0.coords t) (1 : Fin 2) = 0 := by decide +kernel
theorem all_at : ∀ t : Fin grid0.N, cc0_transform_0 (grid0.coords t) (0 : Fin 2) = 0 ∧ cc0_transform_0 (grid0.coords t) (1 : Fin 2) = 0 := by decide +kernel

theorem emb4 (t : Fin grid0.N) (j : S128x1024.Idx) : (((cfgM m (ok m)).win 4).blk t).view.emb j = rowIx t j := by
  obtain ⟨e0, e1⟩ := row_at t
  funext a; apply Fin.ext
  match a with
  | ⟨0, _⟩ => show cc0_transform_4 (grid0.coords t) (0 : Fin 2) * 128 + 1 * (j 0).val = 128 * t.val + (j 0).val; omega
  | ⟨1, _⟩ => show cc0_transform_4 (grid0.coords t) (1 : Fin 2) * 1024 + 1 * (j 1).val = (j 1).val; omega

theorem emb5 (t : Fin grid0.N) (j : S128x1024.Idx) : (((cfgM m (ok m)).win 5).blk t).view.emb j = rowIx t j :=
  emb4 m t j

theorem emb6 (t : Fin grid0.N) (j : S128x1024.Idx) : (((cfgM m (ok m)).win 6).blk t).view.emb j = rowIx t j :=
  emb4 m t j

theorem emb7 (t : Fin grid0.N) (j : S128x1024.Idx) : (((cfgM m (ok m)).win 7).blk t).view.emb j = rowIx t j :=
  emb4 m t j

theorem emb8 (t : Fin grid0.N) (j : S128x1024.Idx) : (((cfgM m (ok m)).win 8).blk t).view.emb j = rowIx t j :=
  emb4 m t j

theorem emb9 (t : Fin grid0.N) (j : S128x1024.Idx) : (((cfgM m (ok m)).win 9).blk t).view.emb j = rowIx t j :=
  emb4 m t j

theorem emb10 (t : Fin grid0.N) (j : S128x1024.Idx) : (((cfgM m (ok m)).win 10).blk t).view.emb j = rowIx t j :=
  emb4 m t j

theorem emb0 (t : Fin grid0.N) (j : S128x1024.Idx) : (((cfgM m (ok m)).win 0).blk t).view.emb j = j := by
  obtain ⟨e0, e1⟩ := all_at t
  funext a; apply Fin.ext
  match a with
  | ⟨0, _⟩ => show cc0_transform_0 (grid0.coords t) (0 : Fin 2) * 128 + 1 * (j 0).val = (j 0).val; omega
  | ⟨1, _⟩ => show cc0_transform_0 (grid0.coords t) (1 : Fin 2) * 1024 + 1 * (j 1).val = (j 1).val; omega
theorem in0 (c : Dev nD) (t : Fin grid0.N) : (iblk m (ok m) c 0 t : Vec Ideal S128x1024 .f32) = m ((c : Thread nD τ).loc main_arg3) :=
  Eq.trans (funext fun j => congrArg (V m c main_arg3 : S128x1024.Idx → _) (emb0 m t j)) (V_main_arg3 m c)

theorem emb1 (t : Fin grid0.N) (j : S128x1024.Idx) : (((cfgM m (ok m)).win 1).blk t).view.emb j = j :=
  emb0 m t j
theorem in1 (c : Dev nD) (t : Fin grid0.N) : (iblk m (ok m) c 1 t : Vec Ideal S128x1024 .f32) = m ((c : Thread nD τ).loc main_arg4) :=
  Eq.trans (funext fun j => congrArg (V m c main_arg4 : S128x1024.Idx → _) (emb1 m t j)) (V_main_arg4 m c)

theorem emb2 (t : Fin grid0.N) (j : S128x1024.Idx) : (((cfgM m (ok m)).win 2).blk t).view.emb j = j :=
  emb0 m t j
theorem in2 (c : Dev nD) (t : Fin grid0.N) : (iblk m (ok m) c 2 t : Vec Ideal S128x1024 .f32) = m ((c : Thread nD τ).loc main_arg5) :=
  Eq.trans (funext fun j => congrArg (V m c main_arg5 : S128x1024.Idx → _) (emb2 m t j)) (V_main_arg5 m c)

theorem emb3 (t : Fin grid0.N) (j : S128x1024.Idx) : (((cfgM m (ok m)).win 3).blk t).view.emb j = j :=
  emb0 m t j
theorem in3 (c : Dev nD) (t : Fin grid0.N) : (iblk m (ok m) c 3 t : Vec Ideal S128x1024 .f32) = m ((c : Thread nD τ).loc main_arg6) :=
  Eq.trans (funext fun j => congrArg (V m c main_arg6 : S128x1024.Idx → _) (emb3 m t j)) (V_main_arg6 m c)

theorem in4 (c : Dev nD) (t : Fin grid0.N) : (iblk m (ok m) c 4 t : Vec Ideal S128x1024 .f32) = fun j => (V m c main_v0 : Vec Ideal S512x1024 .f32) (rowIx t j) :=
  funext fun j => congrArg (V m c main_v0 : S512x1024.Idx → _) (emb4 m t j)

theorem in5 (c : Dev nD) (t : Fin grid0.N) : (iblk m (ok m) c 5 t : Vec Ideal S128x1024 .f32) = fun j => (V m c main_v1 : Vec Ideal S512x1024 .f32) (rowIx t j) :=
  funext fun j => congrArg (V m c main_v1 : S512x1024.Idx → _) (emb5 m t j)

theorem in6 (c : Dev nD) (t : Fin grid0.N) : (iblk m (ok m) c 6 t : Vec Ideal S128x1024 .f32) = fun j => (V m c main_v2 : Vec Ideal S512x1024 .f32) (rowIx t j) :=
  funext fun j => congrArg (V m c main_v2 : S512x1024.Idx → _) (emb6 m t j)

/-! ## The gradient, assembled from the halves the cores own -/

/-- The rows of the two layers' halves, one below the other. -/
def gArr (k : BitVec 32) (a b c d : Vec Ideal S128x1024 .f32) : Vec Ideal S512x1024 .f32 := fun i =>
  pick k (BitVec.ofNat 32 ((i 0).val / 128 % 2)) (if (i 0).val / 128 < 2 then a else b) (if (i 0).val / 128 < 2 then c else d)
    (ix2 ⟨(i 0).val % 128, Nat.mod_lt _ (by decide)⟩ (i 1))

theorem gArr_at (k : BitVec 32) (a b c d : Vec Ideal S128x1024 .f32) (i : S512x1024.Idx) (j : S128x1024.Idx) (q : Nat)
    (h0 : (i 0).val = 128 * q + (j 0).val) (h1 : (i 1).val = (j 1).val) :
    gArr k a b c d i = pick k (BitVec.ofNat 32 (q % 2)) (if q < 2 then a else b) (if q < 2 then c else d) j := by
  have hj : (j 0).val < 128 := (j 0).isLt
  have hq : (i 0).val / 128 = q := by omega
  have hi : (ix2 ⟨(i 0).val % 128, Nat.mod_lt _ (by decide)⟩ (i 1) : S128x1024.Idx) = j := by
    funext x; apply Fin.ext
    match x with
    | ⟨0, _⟩ => show (i 0).val % 128 = (j 0).val; omega
    | ⟨1, _⟩ => exact h1
  unfold gArr
  rw [hi, hq]

/-- The gradient of the whole array, of the arguments. -/
def grad (c : Dev nD) : Vec Ideal S512x1024 .f32 :=
  gArr (core m) (m ((c : Thread nD τ).loc main_arg3)) (m ((c : Thread nD τ).loc main_arg4)) (m ((c : Thread nD τ).loc main_arg5)) (m ((c : Thread nD τ).loc main_arg6))

theorem outs_at (c : Dev nD) (t : Fin grid0.N) :
    outsAt0 m (ok m) c t.val t.isLt = outs (fun j : S128x1024.Idx => grad m c (rowIx t j)) (fun j => (V m c main_v1 : Vec Ideal S512x1024 .f32) (rowIx t j))
      (fun j => (V m c main_v2 : Vec Ideal S512x1024 .f32) (rowIx t j)) (fun j => (V m c main_v0 : Vec Ideal S512x1024 .f32) (rowIx t j)) := by
  rcases fin_N0 t with h | h | h | h <;> subst h
  · refine (outs_A m c t0_0 (by show (0 : Nat) % 4 = 0; decide) (by show ¬ (0 : Nat) % 4 = 1; decide) (by show ¬ (0 : Nat) % 4 = 2; decide) (by show ¬ (0 : Nat) % 4 = 3; decide)).trans ?_
    rw [in0, in2, in4, in5, in6]
    exact congrArg (outs · _ _ _) (funext fun j => (gArr_at _ _ _ _ _ _ j 0 rfl rfl).symm)
  · refine (outs_B m c t0_1 (by show ¬ (1 : Nat) % 4 = 0; decide) (by show (1 : Nat) % 4 = 1; decide) (by show ¬ (1 : Nat) % 4 = 2; decide) (by show ¬ (1 : Nat) % 4 = 3; decide)).trans ?_
    rw [in0, in2, in4, in5, in6]
    exact congrArg (outs · _ _ _) (funext fun j => (gArr_at _ _ _ _ _ _ j 1 rfl rfl).symm)
  · refine (outs_C m c t0_2 (by show ¬ (2 : Nat) % 4 = 0; decide) (by show ¬ (2 : Nat) % 4 = 1; decide) (by show (2 : Nat) % 4 = 2; decide) (by show ¬ (2 : Nat) % 4 = 3; decide)).trans ?_
    rw [in1, in3, in4, in5, in6]
    exact congrArg (outs · _ _ _) (funext fun j => (gArr_at _ _ _ _ _ _ j 2 rfl rfl).symm)
  · refine (outs_D m c t0_3 (by show ¬ (3 : Nat) % 4 = 0; decide) (by show ¬ (3 : Nat) % 4 = 1; decide) (by show ¬ (3 : Nat) % 4 = 2; decide) (by show (3 : Nat) % 4 = 3; decide)).trans ?_
    rw [in1, in3, in4, in5, in6]
    exact congrArg (outs · _ _ _) (funext fun j => (gArr_at _ _ _ _ _ _ j 3 rfl rfl).symm)

/-- Every row lies in some point's block. -/
theorem row_cover (i : S512x1024.Idx) : ∃ (t : Fin grid0.N) (j : S128x1024.Idx), rowIx t j = i := by
  have hi : (i 0).val < 512 := (i 0).isLt
  refine ⟨⟨(i 0).val / 128, by rw [N_0]; omega⟩, ix2 ⟨(i 0).val % 128, Nat.mod_lt _ (by decide)⟩ (i 1), ?_⟩
  funext x; apply Fin.ext
  match x with
  | ⟨0, _⟩ => show 128 * ((i 0).val / 128) + (i 0).val % 128 = (i 0).val; omega
  | ⟨1, _⟩ => rfl

set_option maxHeartbeats 1000000 in
theorem arr7 (c : Dev nD) : (dats m (ok m) 0 c).arrAt 7 (cfgM m (ok m)).N = (grad m c : Vec Ideal S512x1024 .f32) :=
  (dats m (ok m) 0 c).arrAt_eq_of_cover 7 _ (fun t _ => by
    show ((cfgM m (ok m)).win 7).cut (grid0.coords t) ((dats m (ok m) 0 c).after 7 t) = _
    rw [after0_7, outs_at]
    exact funext fun j => (congrArg (grad m c : Vec Ideal S512x1024 .f32) (emb7 m t j)).symm)
    fun i => by
      obtain ⟨t, j, e⟩ := row_cover i
      refine ⟨t, flush0_7 _ t, ?_⟩
      have h := (((cfgM m (ok m)).win 7).blk t).view.emb_mem_set j
      rw [emb7, e] at h; exact h

set_option maxHeartbeats 1000000 in
theorem arr8 (c : Dev nD) : (dats m (ok m) 0 c).arrAt 8 (cfgM m (ok m)).N = (delta (grad m c) (V m c main_v1) (V m c main_v2) (V m c main_v0) : Vec Ideal S512x1024 .f32) :=
  (dats m (ok m) 0 c).arrAt_eq_of_cover 8 _ (fun t _ => by
    show ((cfgM m (ok m)).win 8).cut (grid0.coords t) ((dats m (ok m) 0 c).after 8 t) = _
    rw [after0_8, outs_at]
    exact funext fun j => (congrArg (delta (grad m c) (V m c main_v1) (V m c main_v2) (V m c main_v0) : Vec Ideal S512x1024 .f32) (emb8 m t j)).symm)
    fun i => by
      obtain ⟨t, j, e⟩ := row_cover i
      refine ⟨t, flush0_8 _ t, ?_⟩
      have h := (((cfgM m (ok m)).win 8).blk t).view.emb_mem_set j
      rw [emb8, e] at h; exact h

set_option maxHeartbeats 1000000 in
theorem arr9 (c : Dev nD) : (dats m (ok m) 0 c).arrAt 9 (cfgM m (ok m)).N = (newM (grad m c) (V m c main_v1) : Vec Ideal S512x1024 .f32) :=
  (dats m (ok m) 0 c).arrAt_eq_of_cover 9 _ (fun t _ => by
    show ((cfgM m (ok m)).win 9).cut (grid0.coords t) ((dats m (ok m) 0 c).after 9 t) = _
    rw [after0_9, outs_at]
    exact funext fun j => (congrArg (newM (grad m c) (V m c main_v1) : Vec Ideal S512x1024 .f32) (emb9 m t j)).symm)
    fun i => by
      obtain ⟨t, j, e⟩ := row_cover i
      refine ⟨t, flush0_9 _ t, ?_⟩
      have h := (((cfgM m (ok m)).win 9).blk t).view.emb_mem_set j
      rw [emb9, e] at h; exact h

set_option maxHeartbeats 1000000 in
theorem arr10 (c : Dev nD) : (dats m (ok m) 0 c).arrAt 10 (cfgM m (ok m)).N = (newV (grad m c) (V m c main_v2) : Vec Ideal S512x1024 .f32) :=
  (dats m (ok m) 0 c).arrAt_eq_of_cover 10 _ (fun t _ => by
    show ((cfgM m (ok m)).win 10).cut (grid0.coords t) ((dats m (ok m) 0 c).after 10 t) = _
    rw [after0_10, outs_at]
    exact funext fun j => (congrArg (newV (grad m c) (V m c main_v2) : Vec Ideal S512x1024 .f32) (emb10 m t j)).symm)
    fun i => by
      obtain ⟨t, j, e⟩ := row_cover i
      refine ⟨t, flush0_10 _ t, ?_⟩
      have h := (((cfgM m (ok m)).win 10).blk t).view.emb_mem_set j
      rw [emb10, e] at h; exact h

/-! ## The host's reshapes -/

/-- The layers' rows, one below the other. -/
def into (X : Vec Ideal S2x256x1024 .f32) : Vec Ideal S512x1024 .f32 := shapeCast S512x1024 X shapeCasts_S2x256x1024_S512x1024
/-- The layers again. -/
def back (X : Vec Ideal S512x1024 .f32) : Vec Ideal S2x256x1024 .f32 := shapeCast S2x256x1024 X shapeCasts_S512x1024_S2x256x1024
theorem back_into (X : Vec Ideal S2x256x1024 .f32) : back (into X) = X := shapeCast_shapeCast X _ _

theorem host_in0 (c : Dev nD) : V m c main_v0 = into (m ((c : Thread nD τ).loc main_arg0)) := by
  show StableHlo.after hostOps0 _ (Proc.devRef .tc main_v0) = _
  after_results
  rfl

theorem host_in1 (c : Dev nD) : V m c main_v1 = into (m ((c : Thread nD τ).loc main_arg1)) := by
  show StableHlo.after hostOps0 _ (Proc.devRef .tc main_v1) = _
  after_results
  rfl

theorem host_in2 (c : Dev nD) : V m c main_v2 = into (m ((c : Thread nD τ).loc main_arg2)) := by
  show StableHlo.after hostOps0 _ (Proc.devRef .tc main_v2) = _
  after_results
  rfl

theorem host_out0 (W : Valuation τ sig (Elt Ideal)) :
    StableHlo.after hostOps1 W (Proc.devRef .tc main_v4) = back (W (Proc.devRef .tc main_v3_0)) := by
  after_results
  rfl

theorem host_out1 (W : Valuation τ sig (Elt Ideal)) :
    StableHlo.after hostOps1 W (Proc.devRef .tc main_v5) = back (W (Proc.devRef .tc main_v3_1)) := by
  after_results
  rfl

theorem host_out2 (W : Valuation τ sig (Elt Ideal)) :
    StableHlo.after hostOps1 W (Proc.devRef .tc main_v6) = back (W (Proc.devRef .tc main_v3_2)) := by
  after_results
  rfl

theorem host_out3 (W : Valuation τ sig (Elt Ideal)) :
    StableHlo.after hostOps1 W (Proc.devRef .tc main_v7) = back (W (Proc.devRef .tc main_v3_3)) := by
  after_results
  rfl

theorem arr_inj : Function.Injective (Pipeline.arrRef spec0) := by decide

theorem tail0 (c : Dev nD) : Pipeline.afterTail pcfgs (fun _ => adm m (ok m)) (dats m (ok m)) 0 (V0 m) [hostOps1] c main_v4
    = back ((dats m (ok m) 0 c).arrAt 7 (cfgM m (ok m)).N) :=
  (host_out0 _).trans (congrArg back (Pipeline.withArrays_arr spec0 arr_inj c _ _ 7))

theorem tail1 (c : Dev nD) : Pipeline.afterTail pcfgs (fun _ => adm m (ok m)) (dats m (ok m)) 0 (V0 m) [hostOps1] c main_v5
    = back ((dats m (ok m) 0 c).arrAt 8 (cfgM m (ok m)).N) :=
  (host_out1 _).trans (congrArg back (Pipeline.withArrays_arr spec0 arr_inj c _ _ 8))

theorem tail2 (c : Dev nD) : Pipeline.afterTail pcfgs (fun _ => adm m (ok m)) (dats m (ok m)) 0 (V0 m) [hostOps1] c main_v6
    = back ((dats m (ok m) 0 c).arrAt 9 (cfgM m (ok m)).N) :=
  (host_out2 _).trans (congrArg back (Pipeline.withArrays_arr spec0 arr_inj c _ _ 9))

theorem tail3 (c : Dev nD) : Pipeline.afterTail pcfgs (fun _ => adm m (ok m)) (dats m (ok m)) 0 (V0 m) [hostOps1] c main_v7
    = back ((dats m (ok m) 0 c).arrAt 10 (cfgM m (ok m)).N) :=
  (host_out3 _).trans (congrArg back (Pipeline.withArrays_arr spec0 arr_inj c _ _ 10))

/-! ## The reference's gradient -/

section Reference
open Cert.Reference14Ideal.Read

theorem where2 (a b : Vec Ideal S128x1024 .f32) (x : IVec S1 32) : val_main_v2 (F := Ideal) a b x = pick (x (ix1 0)) 0#32 a b := by
  have e : val_main_v0 (F := Ideal) x = fun _ => x (ix1 0) := funext fun i => congrArg x (funext fun a => by match a with | ⟨0, _⟩ => exact Subsingleton.elim (α := Fin 1) _ _)
  unfold val_main_v2 val_main_v1 pick; rw [e]
  funext j; unfold select Scalar.select; dsimp only [broadcastInDim, cmpi, val_main_c, constantI]
  by_cases hk : IntOp.cmpi .eq (x (ix1 0)) 0#32 = 1
  · exact (if_pos hk).trans (congrFun (if_pos hk).symm j)
  · exact (if_neg hk).trans (congrFun (if_neg hk).symm j)
theorem where5 (a b : Vec Ideal S128x1024 .f32) (x : IVec S1 32) : val_main_v5 (F := Ideal) a b x = pick (x (ix1 0)) 1#32 a b := by
  have e : val_main_v3 (F := Ideal) x = fun _ => x (ix1 0) := funext fun i => congrArg x (funext fun a => by match a with | ⟨0, _⟩ => exact Subsingleton.elim (α := Fin 1) _ _)
  unfold val_main_v5 val_main_v4 pick; rw [e]
  funext j; unfold select Scalar.select; dsimp only [broadcastInDim, cmpi, val_main_c_0, constantI]
  by_cases hk : IntOp.cmpi .eq (x (ix1 0)) 1#32 = 1
  · exact (if_pos hk).trans (congrFun (if_pos hk).symm j)
  · exact (if_neg hk).trans (congrFun (if_neg hk).symm j)
theorem where9 (a b : Vec Ideal S128x1024 .f32) (x : IVec S1 32) : val_main_v9 (F := Ideal) a b x = pick (x (ix1 0)) 0#32 a b := where2 a b x
theorem where12 (a b : Vec Ideal S128x1024 .f32) (x : IVec S1 32) : val_main_v12 (F := Ideal) a b x = pick (x (ix1 0)) 1#32 a b := where5 a b x

/-- A layer: the two halves, one below the other. -/
theorem half (a b : Vec Ideal S128x1024 .f32) (hc : Shape.Concatenates [S128x1024, S128x1024] Cert.Reference14Ideal.S256x1024 0) (p : Fin 256) (k : Fin 1024) :
    concatenate Cert.Reference14Ideal.S256x1024 0 [⟨S128x1024, a⟩, ⟨S128x1024, b⟩] hc (ix2 p k) = (if p.val < 128 then a else b) (ix2 ⟨p.val % 128, Nat.mod_lt _ (by decide)⟩ k) := by
  by_cases hp : p.val < 128
  · rw [if_pos hp]
    exact concatenate_pair_apply_left 0 a b hc _ rfl _ (fun x => by
      match x with
      | ⟨0, _⟩ => exact Nat.mod_eq_of_lt hp
      | ⟨1, _⟩ => rfl)
  · rw [if_neg hp]
    have hb := p.isLt
    exact concatenate_pair_apply_right 0 a b hc _ rfl rfl _ (fun x hx => by
      match x, hx with
      | ⟨0, _⟩, hx => exact absurd rfl hx
      | ⟨1, _⟩, _ => rfl) (by show p.val % 128 + 128 = p.val; omega)

theorem stack (a b c d : Vec Ideal S128x1024 .f32) (x : IVec S1 32) :
    val_main_v16 (F := Ideal) a b c d x = shapeCast S2x256x1024 (gArr (x (ix1 0)) a b c d) shapeCasts_S512x1024_S2x256x1024 := by
  funext i
  obtain ⟨l, p, k, rfl⟩ : ∃ (l : Fin 2) (p : Fin 256) (k : Fin 1024), i = ix3 l p k := ⟨i 0, i 1, i 2, by funext x; match x with | ⟨0, _⟩ => rfl | ⟨1, _⟩ => rfl | ⟨2, _⟩ => rfl⟩
  have hl := l.isLt
  have hb := p.isLt
  refine Eq.trans ?_ (shapeCast_apply _ _ _ (ix2 ⟨256 * l.val + p.val, by omega⟩ k : S512x1024.Idx) (by
    rw [Shape.rowMajor_val_three, Shape.rowMajor_val_two]
    show (256 * l.val + p.val) * 1024 + k.val = (l.val * 256 + p.val) * 1024 + k.val; omega)).symm
  refine Eq.trans ?_ (gArr_at _ _ _ _ _ _ (ix2 ⟨p.val % 128, Nat.mod_lt _ (by decide)⟩ k) (2 * l.val + p.val / 128)
    (by show 256 * l.val + p.val = 128 * (2 * l.val + p.val / 128) + p.val % 128; omega) rfl).symm
  have hq : (2 * l.val + p.val / 128) % 2 = p.val / 128 := by omega
  rw [hq]
  have hl2 : l.val = 0 ∨ l.val = 1 := by omega
  unfold val_main_v16
  rcases hl2 with h | h
  · refine (concatenate_pair_apply_left (s₁ := Cert.Reference14Ideal.S1x256x1024) (s₂ := Cert.Reference14Ideal.S1x256x1024) 0 _ _ _ (ix3 l p k) rfl (ix3 0 p k : Cert.Reference14Ideal.S1x256x1024.Idx) (fun x => by
      match x with
      | ⟨0, _⟩ => exact h.symm
      | ⟨1, _⟩ => rfl
      | ⟨2, _⟩ => rfl)).trans ?_
    rw [if_pos (by omega : 2 * l.val + p.val / 128 < 2), if_pos (by omega : 2 * l.val + p.val / 128 < 2)]
    refine Eq.trans (b := val_main_v6 (F := Ideal) a c x (ix2 p k)) ((val_main_v14_apply (F := Ideal) a c x (ix3 0 p k)).trans <| congrArg (val_main_v6 (F := Ideal) a c x) (funext fun y => by match y with | ⟨0, _⟩ => rfl | ⟨1, _⟩ => rfl)) ?_
    unfold val_main_v6
    rw [half, where2, where5]
    by_cases hp : p.val < 128
    · rw [if_pos hp, Nat.div_eq_of_lt hp]
    · rw [if_neg hp, (by omega : p.val / 128 = 1)]
  · refine (concatenate_pair_apply_right (s₁ := Cert.Reference14Ideal.S1x256x1024) (s₂ := Cert.Reference14Ideal.S1x256x1024) 0 _ _ _ (ix3 l p k) rfl rfl (ix3 0 p k : Cert.Reference14Ideal.S1x256x1024.Idx) (fun x hx => by
      match x, hx with
      | ⟨0, _⟩, hx => exact absurd rfl hx
      | ⟨1, _⟩, _ => rfl
      | ⟨2, _⟩, _ => rfl) (by show 0 + 1 = l.val; omega)).trans ?_
    rw [if_neg (by omega : ¬ 2 * l.val + p.val / 128 < 2), if_neg (by omega : ¬ 2 * l.val + p.val / 128 < 2)]
    refine Eq.trans (b := val_main_v13 (F := Ideal) b d x (ix2 p k)) ((val_main_v15_apply (F := Ideal) b d x (ix3 0 p k)).trans <| congrArg (val_main_v13 (F := Ideal) b d x) (funext fun y => by match y with | ⟨0, _⟩ => rfl | ⟨1, _⟩ => rfl)) ?_
    unfold val_main_v13
    rw [half, where9, where12]
    by_cases hp : p.val < 128
    · rw [if_pos hp, Nat.div_eq_of_lt hp]
    · rw [if_neg hp, (by omega : p.val / 128 = 1)]

/-- The reference's gradient is the kernel's. -/
theorem ref_grad (a b c d : Vec Ideal S128x1024 .f32) (x : IVec S1 32) : val_main_v16 (F := Ideal) a b c d x = back (gArr (x (ix1 0)) a b c d) := by
  exact stack a b c d x

theorem ref_m (y : Vec Ideal S2x256x1024 .f32) (a b c d : Vec Ideal S128x1024 .f32) (x : IVec S1 32) :
    val_main_v21 (F := Ideal) y a b c d x = newM (val_main_v16 (F := Ideal) a b c d x) y := rfl
theorem ref_v (y : Vec Ideal S2x256x1024 .f32) (a b c d : Vec Ideal S128x1024 .f32) (x : IVec S1 32) :
    val_main_v27 (F := Ideal) y a b c d x = newV (val_main_v16 (F := Ideal) a b c d x) y := rfl
theorem ref_d (w y z : Vec Ideal S2x256x1024 .f32) (a b c d : Vec Ideal S128x1024 .f32) (x : IVec S1 32) :
    val_main_v40 (F := Ideal) w y z a b c d x = delta (val_main_v16 (F := Ideal) a b c d x) y z w := rfl

end Reference

/-! ## The claims -/

/-- The core's number, off the arguments. -/
theorem core_eq (c : Dev nD) : core m = (m ((c : Thread nD τ).loc main_arg7) : S1.Idx → BitVec 32) (ix1 0) :=
  congrArg (fun f : S1.Idx → BitVec 32 => f (ix1 0)) ((V_pre m c 0).symm.trans (V_main_arg7 m c))

/-- The gradient as the reference computes it, of the kernel's arguments. -/
def G (c : Dev nD) : Vec Ideal S2x256x1024 .f32 := Cert.Reference14Ideal.Read.val_main_v16 (F := Ideal) (m ((c : Thread nD τ).loc main_arg3)) (m ((c : Thread nD τ).loc main_arg4))
  (m ((c : Thread nD τ).loc main_arg5)) (m ((c : Thread nD τ).loc main_arg6)) (m ((c : Thread nD τ).loc main_arg7))
theorem back_grad (c : Dev nD) : back (grad m c) = G m c := by
  unfold G grad; rw [ref_grad, core_eq m c]

theorem val0 (c : Dev nD) : back ((dats m (ok m) 0 c).arrAt 7 (cfgM m (ok m)).N) = G m c := by
  rw [arr7]; exact back_grad m c
theorem val1 (c : Dev nD) : back ((dats m (ok m) 0 c).arrAt 8 (cfgM m (ok m)).N)
    = delta (G m c) (m ((c : Thread nD τ).loc main_arg1)) (m ((c : Thread nD τ).loc main_arg2)) (m ((c : Thread nD τ).loc main_arg0)) := by
  rw [arr8, host_in0, host_in1, host_in2]
  refine Eq.trans (b := delta (back (grad m c)) (back (into (m ((c : Thread nD τ).loc main_arg1)))) (back (into (m ((c : Thread nD τ).loc main_arg2)))) (back (into (m ((c : Thread nD τ).loc main_arg0))))) rfl ?_
  rw [back_grad, back_into, back_into, back_into]
theorem val2 (c : Dev nD) : back ((dats m (ok m) 0 c).arrAt 9 (cfgM m (ok m)).N) = newM (G m c) (m ((c : Thread nD τ).loc main_arg1)) := by
  rw [arr9, host_in1]
  refine Eq.trans (b := newM (back (grad m c)) (back (into (m ((c : Thread nD τ).loc main_arg1))))) rfl ?_
  rw [back_grad, back_into]
theorem val3 (c : Dev nD) : back ((dats m (ok m) 0 c).arrAt 10 (cfgM m (ok m)).N) = newV (G m c) (m ((c : Thread nD τ).loc main_arg2)) := by
  rw [arr10, host_in2]
  refine Eq.trans (b := newV (back (grad m c)) (back (into (m ((c : Thread nD τ).loc main_arg2))))) rfl ?_
  rw [back_grad, back_into]

/-- The two programs have the same functions. -/
theorem defs₀_eq {F : FTy → Type} [FloatOps F] : Cert.Kernel14.defs₀ (F := F) = Cert.Kernel14Ideal.defs₀ (F := F) := by
  unfold Cert.Kernel14.defs₀ Cert.Kernel14Ideal.defs₀
  refine congrArg Defs.onTc (funext fun l => ?_)
  match l with
  | ⟨0, _⟩ => exact funext fun ⟨t, s⟩ => rfl
theorem defs_eq {F : FTy → Type} [FloatOps F] : Cert.Kernel14.defs (F := F) = Cert.Kernel14Ideal.defs (F := F) := by
  unfold Cert.Kernel14.defs Cert.Kernel14Ideal.defs
  rw [defs₀_eq]
  rfl
set_option maxHeartbeats 4000000 in
theorem frame_kernel : Cert.quiescent_Kernel14 := fun m ρ _ => by
  rw [defs_eq]
  exact frame (F := Bits) m ρ trivial
theorem frame_ideal : Cert.quiescent_Kernel14Ideal := fun m ρ _ => frame (F := Ideal) m ρ trivial
theorem frame_reference : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)
theorem preserves : Cert.preserves_Kernel14_Kernel14Ideal := trivial

section Reference
open Cert.Reference14Ideal.Read
theorem of_args {a a' b b' c c' d d' : Vec Ideal S128x1024 .f32} {x x' : IVec S1 32} (h1 : a = a') (h2 : b = b') (h3 : c = c') (h4 : d = d') (h5 : x = x') :
    val_main_v16 (F := Ideal) a b c d x = val_main_v16 (F := Ideal) a' b' c' d' x' := by rw [h1, h2, h3, h4, h5]

set_option maxHeartbeats 4000000 in
/-- The gradient, the change of the parameter and the two moments the kernel leaves are the reference's. -/
theorem algebraic : Cert.algebraic_Kernel14Ideal_Reference14Ideal := fun m ρ m' ρ' _ hargs =>
  ⟨fun c => G m c, fun c => delta (G m c) (m ((c : Thread nD τ).loc main_arg1)) (m ((c : Thread nD τ).loc main_arg2)) (m ((c : Thread nD τ).loc main_arg0)),
    fun c => newM (G m c) (m ((c : Thread nD τ).loc main_arg1)), fun c => newV (G m c) (m ((c : Thread nD τ).loc main_arg2)),
    (θ_run Cert.Kernel14Ideal.defs _ _).mono (fun _ h c => ⟨((h.1 c).2 main_v4 (by decide : main_v4 ∈ Pipeline.restRefs sig spec0)).trans ((tail0 m c).trans (val0 m c)),
      ((h.1 c).2 main_v5 (by decide : main_v5 ∈ Pipeline.restRefs sig spec0)).trans ((tail1 m c).trans (val1 m c)),
      ((h.1 c).2 main_v6 (by decide : main_v6 ∈ Pipeline.restRefs sig spec0)).trans ((tail2 m c).trans (val2 m c)),
      ((h.1 c).2 main_v7 (by decide : main_v7 ∈ Pipeline.restRefs sig spec0)).trans ((tail3 m c).trans (val3 m c)), h.2 c⟩) (θ_run_and (run_main m ρ (ok m)) (unchanged m ρ (ok m))),
    (θ_run Cert.Reference14Ideal.defs _ _).mono (fun _ h c => by
      obtain ⟨a0, a1, a2, a3, a4, a5, a6, a7⟩ := hargs c
      have hG := of_args a3 a4 a5 a6 a7
      exact ⟨(h c).1.trans ((val_main_v16_eq ..).trans hG),
        (h c).2.1.trans ((val_main_v40_eq ..).trans ((ref_d ..).trans (by rw [hG, a0, a1, a2]; rfl))),
        (h c).2.2.1.trans ((val_main_v21_eq ..).trans ((ref_m ..).trans (by rw [hG, a1]; rfl))),
        (h c).2.2.2.1.trans ((val_main_v27_eq ..).trans ((ref_v ..).trans (by rw [hG, a2]; rfl))),
        (h c).2.2.2.2⟩) (Cert.Reference14Ideal.Value.run m' ρ')⟩
end Reference

end Cert.AdamO
end
end
-- ==== Proof.Chips.lean ====
module

public import Idealize.ShloMosaic.Lib.Pointwise
public import Idealize.ShloMosaic.Lib.Pipeline.Value
public import Idealize.ShloMosaic.PureOps.Vector
public import proofs.«01_k».proof.Proof.Slabs

@[expose] public section

noncomputable section

namespace Cert.Chips

open Idealize.ShloMosaic

/-- One chip's part of a gradient: what it sent, or what is kept here where the chip is this one. -/
def term {S : Shape} (d k : BitVec 32) (own got : FVec Ideal S .bf16) : FVec Ideal S .f32 :=
  extf .f32 (Scalar.select (Scalar.cmpi .eq d k) own got) (by decide)

/-- One chip's slab of what was sent. -/
def slab {α : Type} {A B C : ℕ} (X : (⟨3, ![A, B, C]⟩ : Shape).Idx → α) (s : Fin A) : (⟨2, ![B, C]⟩ : Shape).Idx → α :=
  fun i => X (ix3 s (i 0) (i 1))

theorem term_apply {S : Shape} (d k : BitVec 32) (own got : FVec Ideal S .bf16) (i : S.Idx) :
    term d k own got i = FloatOps.extf .f32 (by decide) (Scalar.select (Scalar.cmpi .eq d k) (own i) (got i)) := by
  unfold term Scalar.select
  split <;> rfl

/-- The sum of the four parts. -/
def sum4 {S : Shape} (d : BitVec 32) (own g0 g1 g2 g3 : FVec Ideal S .bf16) : FVec Ideal S .f32 :=
  addf (addf (addf (term d 0#32 own g0) (term d 1#32 own g1)) (term d 2#32 own g2)) (term d 3#32 own g3)

/-- The chips' sum of a gradient. -/
def chips {B C : ℕ} (d : BitVec 32) (own : FVec Ideal ⟨2, ![B, C]⟩ .bf16) (got : FVec Ideal ⟨3, ![4, B, C]⟩ .bf16) : FVec Ideal ⟨2, ![B, C]⟩ .f32 :=
  sum4 d own (slab got 0) (slab got 1) (slab got 2) (slab got 3)

theorem term_at {S T : Shape} (e : T.Idx → S.Idx) (d k : BitVec 32) (own got : FVec Ideal S .bf16) (j : T.Idx) :
    term d k own got (e j) = term d k (fun i => own (e i)) (fun i => got (e i)) j := by
  unfold term Scalar.select
  split <;> rfl

theorem sum4_at {S T : Shape} (e : T.Idx → S.Idx) (d : BitVec 32) (own g0 g1 g2 g3 : FVec Ideal S .bf16) (j : T.Idx) :
    sum4 d own g0 g1 g2 g3 (e j) = sum4 d (fun i => own (e i)) (fun i => g0 (e i)) (fun i => g1 (e i)) (fun i => g2 (e i)) (fun i => g3 (e i)) j := by
  refine Eq.trans (b := FloatOps.addf (FloatOps.addf (FloatOps.addf (term d 0#32 own g0 (e j)) (term d 1#32 own g1 (e j))) (term d 2#32 own g2 (e j))) (term d 3#32 own g3 (e j))) rfl ?_
  rw [term_at, term_at, term_at, term_at]
  rfl

theorem cast_slab {α : Type} {A B C : ℕ} (X : (⟨3, ![A, B, C]⟩ : Shape).Idx → α) (s : Fin A) (Y : (⟨3, ![1, B, C]⟩ : Shape).Idx → α)
    (hY : ∀ j k, Y (ix3 0 j k) = X (ix3 s j k)) (h : (⟨3, ![1, B, C]⟩ : Shape).ShapeCasts ⟨2, ![B, C]⟩) : shapeCast ⟨2, ![B, C]⟩ Y h = slab X s := by
  funext i
  refine (shapeCast_apply Y h i (ix3 0 (i 0) (i 1)) ?_).trans (hY _ _)
  rewrite [Shape.rowMajor_val_three, Shape.rowMajor_val_two]
  show (0 * B + (i 0).val) * C + (i 1).val = (i 0).val * C + (i 1).val
  rw [Nat.zero_mul, Nat.zero_add]

end Cert.Chips
end
end
-- ==== Proof.SumFfn.lean ====
module

public import proofs.«01_k».proof.Defs
public import proofs.«01_k».proof.Proof.Gen.Kernel15
public import proofs.«01_k».proof.Proof.Gen.Kernel15Ideal.Frame
public import proofs.«01_k».proof.Proof.Gen.Reference15Ideal.Run
public import proofs.«01_k».proof.Proof.Gen.Reference15Ideal.Read
public import Idealize.ShloMosaic.Lib.Quiescent
public import Idealize.ShloMosaic.Lib.Pipeline.Value
public import Idealize.ShloMosaic.Lib.Pipeline.ValueKit.Point
public import Idealize.ShloMosaic.Lib.VecWindow
public import Idealize.ShloMosaic.Lib.WholeRead
public import proofs.«01_k».proof.Proof.Chips

@[expose] public section

set_option maxRecDepth 16384

noncomputable section

namespace Cert.SumFfn

open Cert.Kernel15Ideal Cert.Kernel15Ideal.Gen Idealize.ShloMosaic Idealize.ShloMosaic.TcCoe Idealize.SL.Sem
open Idealize.ShloMosaic.Pipeline (Dat)
open Cert.Chips

variable (m : (ℓ : Loc nD τ sig) → Buf (Elt Ideal) ℓ) (ρ : Dev nD → PrngReg)

/-! ## One grid point -/

theorem hz2 : (![0, 0] : Fin 2 → Nat) = fun _ => 0 := funext fun a => by fin_cases a <;> rfl

theorem ok : Ok m := trivial

/-- The chip's number, as the table holds it. -/
def chip : BitVec 32 := (tbl m 0 : S1.Idx → BitVec 32) (ix1 0)

theorem chip_read {c : Dev nD} (x : TbBuf0 (F := Ideal) c tbM0_0) (hp) :
    View.readAt (Elt Ideal) tbM0_0.view (Rect.unit ![0] S1.size inb_S1_S1_0).toLoadRect x (Shape.Idx.first hp) = (x : S1.Idx → BitVec 32) (ix1 0) :=
  congrArg (x : S1.Idx → BitVec 32) (funext fun a => by match a with | ⟨0, _⟩ => exact Subsingleton.elim (α := Fin 1) _ _)

theorem whole_176 {arg : Memref sig .tc .vmem S176x1024 .bf16} (hw : arg.IsWhole) (X : Vec Ideal S176x1024 .bf16) :
    View.readAt (Elt Ideal) arg.view (Rect.unit ![0, 0] S176x1024.size inb_S176x1024_S176x1024_0_0).toLoadRect (hw.unread X) = X :=
  (funext fun x => Memref.IsWhole.readAt_unread hw X _ x).trans (View.ld_unit_zero (S := S176x1024) hz2 _ X)

theorem slab_176 {arg : Memref sig .tc .vmem S4x176x1024 .bf16} (hw : arg.IsWhole) (X : Vec Ideal S4x176x1024 .bf16) (q : ℕ) (s : Fin 4) (hs : s.val = q) (inb) (h) :
    shapeCast S176x1024 (View.readAt (Elt Ideal) arg.view (Rect.unit (s := S4x176x1024) ![q, 0, 0] S1x176x1024.size inb).toLoadRect (hw.unread X)) h = slab (A := 4) (B := 176) (C := 1024) X s :=
  cast_slab (A := 4) (B := 176) (C := 1024) X s _ (fun j k => (Memref.IsWhole.readAt_unread hw X _ _).trans (Slabs.ld_slab q inb X j k s hs)) h

set_option maxHeartbeats 2000000 in
theorem pay_0 (c i arg2 harg2 arg3 harg3 arg4 harg4 arg5 harg5 arg6 harg6 arg7 harg7 arg8 harg8 arg9 harg9 arg10 harg10 x0 x1 x2 x3 x4 x5 xt0) :
    out0_A_6 (F := Ideal) c i arg2 harg2 arg3 harg3 arg4 harg4 arg5 harg5 arg6 harg6 arg7 harg7 arg8 harg8 arg9 harg9 arg10 harg10 x0 x1 x2 x3 x4 x5 xt0 = chips (B := 176) (C := 1024) ((xt0 : S1.Idx → BitVec 32) (ix1 0)) x3 x0 := by
  unfold out0_A_6
  refine (View.read_writes_full VO0_6 _ inb_S176x1024_S176x1024_0_0 _ []).trans ?_
  unfold kernelRun0_A.sl.r_1 kernelRun0_A.sl.r k0_pay2
  dsimp only
  rw [chip_read, whole_176, slab_176 _ _ 0 0 rfl, slab_176 _ _ 1 1 rfl, slab_176 _ _ 2 2 rfl, slab_176 _ _ 3 3 rfl]
  rfl

set_option maxHeartbeats 2000000 in
theorem pay_1 (c i arg2 harg2 arg3 harg3 arg4 harg4 arg5 harg5 arg6 harg6 arg7 harg7 arg8 harg8 arg9 harg9 arg10 harg10 x0 x1 x2 x3 x4 x5 xt0) :
    out0_A_7 (F := Ideal) c i arg2 harg2 arg3 harg3 arg4 harg4 arg5 harg5 arg6 harg6 arg7 harg7 arg8 harg8 arg9 harg9 arg10 harg10 x0 x1 x2 x3 x4 x5 xt0 = chips (B := 176) (C := 1024) ((xt0 : S1.Idx → BitVec 32) (ix1 0)) x4 x1 := by
  unfold out0_A_7
  refine (View.read_writes_full VO0_7 _ inb_S176x1024_S176x1024_0_0 _ []).trans ?_
  unfold kernelRun0_A.sl.r_2 kernelRun0_A.sl.v56 kernelRun0_A.sl.r_3 kernelRun0_A.sl.r_4
  unfold kernelRun0_A.sl.r
  unfold k0_pay5 k0_pay3 k0_pay4
  dsimp only
  rw [chip_read, whole_176, slab_176 _ _ 0 0 rfl, slab_176 _ _ 1 1 rfl, slab_176 _ _ 2 2 rfl, slab_176 _ _ 3 3 rfl]
  rfl

set_option maxHeartbeats 2000000 in
theorem pay_2 (c i arg2 harg2 arg3 harg3 arg4 harg4 arg5 harg5 arg6 harg6 arg7 harg7 arg8 harg8 arg9 harg9 arg10 harg10 x0 x1 x2 x3 x4 x5 xt0) :
    out0_A_8 (F := Ideal) c i arg2 harg2 arg3 harg3 arg4 harg4 arg5 harg5 arg6 harg6 arg7 harg7 arg8 harg8 arg9 harg9 arg10 harg10 x0 x1 x2 x3 x4 x5 xt0 = chips (B := 176) (C := 1024) ((xt0 : S1.Idx → BitVec 32) (ix1 0)) x5 x2 := by
  unfold out0_A_8
  refine (View.read_writes_full VO0_8 _ inb_S176x1024_S176x1024_0_0 _ []).trans ?_
  unfold kernelRun0_A.sl.r_5 kernelRun0_A.sl.v56 kernelRun0_A.sl.r_6
  unfold kernelRun0_A.sl.r
  unfold k0_pay1 k0_pay6
  dsimp only
  rw [chip_read, whole_176, slab_176 _ _ 0 0 rfl, slab_176 _ _ 1 1 rfl, slab_176 _ _ 2 2 rfl, slab_176 _ _ 3 3 rfl]
  rfl

theorem pays (c i arg2 harg2 arg3 harg3 arg4 harg4 arg5 harg5 arg6 harg6 arg7 harg7 arg8 harg8 arg9 harg9 arg10 harg10 x0 x1 x2 x3 x4 x5 xt0) :
    (out0_A_6 (F := Ideal) c i arg2 harg2 arg3 harg3 arg4 harg4 arg5 harg5 arg6 harg6 arg7 harg7 arg8 harg8 arg9 harg9 arg10 harg10 x0 x1 x2 x3 x4 x5 xt0, out0_A_7 (F := Ideal) c i arg2 harg2 arg3 harg3 arg4 harg4 arg5 harg5 arg6 harg6 arg7 harg7 arg8 harg8 arg9 harg9 arg10 harg10 x0 x1 x2 x3 x4 x5 xt0, out0_A_8 (F := Ideal) c i arg2 harg2 arg3 harg3 arg4 harg4 arg5 harg5 arg6 harg6 arg7 harg7 arg8 harg8 arg9 harg9 arg10 harg10 x0 x1 x2 x3 x4 x5 xt0) = (chips (B := 176) (C := 1024) ((xt0 : S1.Idx → BitVec 32) (ix1 0)) x3 x0, chips (B := 176) (C := 1024) ((xt0 : S1.Idx → BitVec 32) (ix1 0)) x4 x1, chips (B := 176) (C := 1024) ((xt0 : S1.Idx → BitVec 32) (ix1 0)) x5 x2) := by
  rw [pay_0, pay_1, pay_2]

theorem outs_at (c : Dev nD) (t : Fin (cfgM m (ok m)).N) :
    outsAt0 m (ok m) c t = (chips (B := 176) (C := 1024) (chip m) (iblk m (ok m) c 3 t : Vec Ideal S176x1024 .bf16) (iblk m (ok m) c 0 t : Vec Ideal S4x176x1024 .bf16), chips (B := 176) (C := 1024) (chip m) (iblk m (ok m) c 4 t : Vec Ideal S176x1024 .bf16) (iblk m (ok m) c 1 t : Vec Ideal S4x176x1024 .bf16), chips (B := 176) (C := 1024) (chip m) (iblk m (ok m) c 5 t : Vec Ideal S176x1024 .bf16) (iblk m (ok m) c 2 t : Vec Ideal S4x176x1024 .bf16)) := by
  unfold outsAt0 chip
  exact pays ..

/-! ## The blocks, in the arrays -/

def rowIx_176 (t : Fin grid0.N) (j : S176x1024.Idx) : S352x1024.Idx :=
  ix2 ⟨176 * t.val + (j 0).val, by have h1 : t.val < 2 := N_0 ▸ t.isLt; have h2 : (j 0).val < 176 := (j 0).isLt; omega⟩ (j 1)

def slabIx_176 (t : Fin grid0.N) (j : S4x176x1024.Idx) : S4x352x1024.Idx :=
  ix3 (j 0) ⟨176 * t.val + (j 1).val, by have h1 : t.val < 2 := N_0 ▸ t.isLt; have h2 : (j 1).val < 176 := (j 1).isLt; omega⟩ (j 2)

theorem row_cover_176 (i : S352x1024.Idx) : ∃ (t : Fin grid0.N) (j : S176x1024.Idx), rowIx_176 t j = i := by
  have hi : (i 0).val < 352 := (i 0).isLt
  refine ⟨⟨(i 0).val / 176, by rw [N_0]; omega⟩, ix2 ⟨(i 0).val % 176, Nat.mod_lt _ (by decide)⟩ (i 1), ?_⟩
  funext x; apply Fin.ext
  match x with
  | ⟨0, _⟩ => show 176 * ((i 0).val / 176) + (i 0).val % 176 = (i 0).val; omega
  | ⟨1, _⟩ => rfl

/-- The chips' sum at a block's index is the block's own sum. -/
theorem chips_at_176 (d : BitVec 32) (own : Vec Ideal S352x1024 .bf16) (got : Vec Ideal S4x352x1024 .bf16) (t : Fin grid0.N) (j : S176x1024.Idx) :
    chips (B := 352) (C := 1024) d own got (rowIx_176 t j) = chips (B := 176) (C := 1024) d (fun i : S176x1024.Idx => own (rowIx_176 t i)) (fun i : S4x176x1024.Idx => got (slabIx_176 t i)) j :=
  sum4_at (S := S352x1024) (T := S176x1024) (rowIx_176 t) d own _ _ _ _ j

theorem row_at (t : Fin grid0.N) : cc0_transform_0 (grid0.coords t) (0 : Fin 3) = 0 ∧ cc0_transform_0 (grid0.coords t) (1 : Fin 3) = t.val ∧ cc0_transform_0 (grid0.coords t) (2 : Fin 3) = 0 ∧ cc0_transform_1 (grid0.coords t) (0 : Fin 3) = 0 ∧ cc0_transform_1 (grid0.coords t) (1 : Fin 3) = t.val ∧ cc0_transform_1 (grid0.coords t) (2 : Fin 3) = 0 ∧ cc0_transform_2 (grid0.coords t) (0 : Fin 3) = 0 ∧ cc0_transform_2 (grid0.coords t) (1 : Fin 3) = t.val ∧ cc0_transform_2 (grid0.coords t) (2 : Fin 3) = 0 ∧ cc0_transform_3 (grid0.coords t) (0 : Fin 2) = t.val ∧ cc0_transform_3 (grid0.coords t) (1 : Fin 2) = 0 ∧ cc0_transform_4 (grid0.coords t) (0 : Fin 2) = t.val ∧ cc0_transform_4 (grid0.coords t) (1 : Fin 2) = 0 ∧ cc0_transform_5 (grid0.coords t) (0 : Fin 2) = t.val ∧ cc0_transform_5 (grid0.coords t) (1 : Fin 2) = 0 ∧ cc0_transform_6 (grid0.coords t) (0 : Fin 2) = t.val ∧ cc0_transform_6 (grid0.coords t) (1 : Fin 2) = 0 ∧ cc0_transform_7 (grid0.coords t) (0 : Fin 2) = t.val ∧ cc0_transform_7 (grid0.coords t) (1 : Fin 2) = 0 ∧ cc0_transform_8 (grid0.coords t) (0 : Fin 2) = t.val ∧ cc0_transform_8 (grid0.coords t) (1 : Fin 2) = 0 := by
  rcases fin_N0 t with h | h <;> subst h <;> decide

theorem emb0 (t : Fin grid0.N) (j : S4x176x1024.Idx) : (((cfgM m (ok m)).win 0).blk t).view.emb j = slabIx_176 t j := by
  obtain ⟨e0, e1, e2, e3, e4, e5, e6, e7, e8, e9, e10, e11, e12, e13, e14, e15, e16, e17, e18, e19, e20⟩ := row_at t
  funext a; apply Fin.ext
  match a with
  | ⟨0, _⟩ => show cc0_transform_0 (grid0.coords t) (0 : Fin 3) * 4 + 1 * (j 0).val = (j 0).val; omega
  | ⟨1, _⟩ => show cc0_transform_0 (grid0.coords t) (1 : Fin 3) * 176 + 1 * (j 1).val = 176 * t.val + (j 1).val; omega
  | ⟨2, _⟩ => show cc0_transform_0 (grid0.coords t) (2 : Fin 3) * 1024 + 1 * (j 2).val = (j 2).val; omega
theorem in0 (c : Dev nD) (t : Fin grid0.N) : (iblk m (ok m) c 0 t : Vec Ideal S4x176x1024 .bf16) = fun j => (m ((c : Thread nD τ).loc main_arg0) : Vec Ideal S4x352x1024 .bf16) (slabIx_176 t j) :=
  funext fun j => congrArg (V m c main_arg0 : S4x352x1024.Idx → _) (emb0 m t j)

theorem emb1 (t : Fin grid0.N) (j : S4x176x1024.Idx) : (((cfgM m (ok m)).win 1).blk t).view.emb j = slabIx_176 t j :=
  emb0 m t j
theorem in1 (c : Dev nD) (t : Fin grid0.N) : (iblk m (ok m) c 1 t : Vec Ideal S4x176x1024 .bf16) = fun j => (m ((c : Thread nD τ).loc main_arg1) : Vec Ideal S4x352x1024 .bf16) (slabIx_176 t j) :=
  funext fun j => congrArg (V m c main_arg1 : S4x352x1024.Idx → _) (emb1 m t j)

theorem emb2 (t : Fin grid0.N) (j : S4x176x1024.Idx) : (((cfgM m (ok m)).win 2).blk t).view.emb j = slabIx_176 t j :=
  emb0 m t j
theorem in2 (c : Dev nD) (t : Fin grid0.N) : (iblk m (ok m) c 2 t : Vec Ideal S4x176x1024 .bf16) = fun j => (m ((c : Thread nD τ).loc main_arg2) : Vec Ideal S4x352x1024 .bf16) (slabIx_176 t j) :=
  funext fun j => congrArg (V m c main_arg2 : S4x352x1024.Idx → _) (emb2 m t j)

theorem emb3 (t : Fin grid0.N) (j : S176x1024.Idx) : (((cfgM m (ok m)).win 3).blk t).view.emb j = rowIx_176 t j := by
  obtain ⟨e0, e1, e2, e3, e4, e5, e6, e7, e8, e9, e10, e11, e12, e13, e14, e15, e16, e17, e18, e19, e20⟩ := row_at t
  funext a; apply Fin.ext
  match a with
  | ⟨0, _⟩ => show cc0_transform_3 (grid0.coords t) (0 : Fin 2) * 176 + 1 * (j 0).val = 176 * t.val + (j 0).val; omega
  | ⟨1, _⟩ => show cc0_transform_3 (grid0.coords t) (1 : Fin 2) * 1024 + 1 * (j 1).val = (j 1).val; omega

theorem in3 (c : Dev nD) (t : Fin grid0.N) : (iblk m (ok m) c 3 t : Vec Ideal S176x1024 .bf16) = fun j => (m ((c : Thread nD τ).loc main_arg3) : Vec Ideal S352x1024 .bf16) (rowIx_176 t j) :=
  funext fun j => congrArg (V m c main_arg3 : S352x1024.Idx → _) (emb3 m t j)

theorem emb4 (t : Fin grid0.N) (j : S176x1024.Idx) : (((cfgM m (ok m)).win 4).blk t).view.emb j = rowIx_176 t j :=
  emb3 m t j

theorem in4 (c : Dev nD) (t : Fin grid0.N) : (iblk m (ok m) c 4 t : Vec Ideal S176x1024 .bf16) = fun j => (m ((c : Thread nD τ).loc main_arg4) : Vec Ideal S352x1024 .bf16) (rowIx_176 t j) :=
  funext fun j => congrArg (V m c main_arg4 : S352x1024.Idx → _) (emb4 m t j)

theorem emb5 (t : Fin grid0.N) (j : S176x1024.Idx) : (((cfgM m (ok m)).win 5).blk t).view.emb j = rowIx_176 t j :=
  emb3 m t j

theorem in5 (c : Dev nD) (t : Fin grid0.N) : (iblk m (ok m) c 5 t : Vec Ideal S176x1024 .bf16) = fun j => (m ((c : Thread nD τ).loc main_arg5) : Vec Ideal S352x1024 .bf16) (rowIx_176 t j) :=
  funext fun j => congrArg (V m c main_arg5 : S352x1024.Idx → _) (emb5 m t j)

theorem emb6 (t : Fin grid0.N) (j : S176x1024.Idx) : (((cfgM m (ok m)).win 6).blk t).view.emb j = rowIx_176 t j :=
  emb3 m t j

theorem emb7 (t : Fin grid0.N) (j : S176x1024.Idx) : (((cfgM m (ok m)).win 7).blk t).view.emb j = rowIx_176 t j :=
  emb3 m t j

theorem emb8 (t : Fin grid0.N) (j : S176x1024.Idx) : (((cfgM m (ok m)).win 8).blk t).view.emb j = rowIx_176 t j :=
  emb3 m t j

/-- Result 0 at device `c`. -/
def res0 (c : Dev nD) : Vec Ideal S352x1024 .f32 := chips (B := 352) (C := 1024) (chip m) (m ((c : Thread nD τ).loc main_arg3)) (m ((c : Thread nD τ).loc main_arg0))

set_option maxHeartbeats 1000000 in
theorem arr0 (c : Dev nD) : (dats m (ok m) 0 c).arrAt 6 (cfgM m (ok m)).N = res0 m c :=
  (dats m (ok m) 0 c).arrAt_eq_of_cover 6 _ (fun t _ => by
    show ((cfgM m (ok m)).win 6).cut (grid0.coords t) ((dats m (ok m) 0 c).after 6 t) = _
    rw [after0_6, outs_at, in0, in1, in2, in3, in4, in5]
    exact funext fun j => ((congrArg (res0 m c) (emb6 m t j)).trans (chips_at_176 _ _ _ t j)).symm)
    fun i => by
      obtain ⟨t, j, e⟩ := row_cover_176 i
      refine ⟨t, flush0_6 _ t, ?_⟩
      have h := (((cfgM m (ok m)).win 6).blk t).view.emb_mem_set j
      rw [emb6, e] at h; exact h

/-- Result 1 at device `c`. -/
def res1 (c : Dev nD) : Vec Ideal S352x1024 .f32 := chips (B := 352) (C := 1024) (chip m) (m ((c : Thread nD τ).loc main_arg4)) (m ((c : Thread nD τ).loc main_arg1))

set_option maxHeartbeats 1000000 in
theorem arr1 (c : Dev nD) : (dats m (ok m) 0 c).arrAt 7 (cfgM m (ok m)).N = res1 m c :=
  (dats m (ok m) 0 c).arrAt_eq_of_cover 7 _ (fun t _ => by
    show ((cfgM m (ok m)).win 7).cut (grid0.coords t) ((dats m (ok m) 0 c).after 7 t) = _
    rw [after0_7, outs_at, in0, in1, in2, in3, in4, in5]
    exact funext fun j => ((congrArg (res1 m c) (emb7 m t j)).trans (chips_at_176 _ _ _ t j)).symm)
    fun i => by
      obtain ⟨t, j, e⟩ := row_cover_176 i
      refine ⟨t, flush0_7 _ t, ?_⟩
      have h := (((cfgM m (ok m)).win 7).blk t).view.emb_mem_set j
      rw [emb7, e] at h; exact h

/-- Result 2 at device `c`. -/
def res2 (c : Dev nD) : Vec Ideal S352x1024 .f32 := chips (B := 352) (C := 1024) (chip m) (m ((c : Thread nD τ).loc main_arg5)) (m ((c : Thread nD τ).loc main_arg2))

set_option maxHeartbeats 1000000 in
theorem arr2 (c : Dev nD) : (dats m (ok m) 0 c).arrAt 8 (cfgM m (ok m)).N = res2 m c :=
  (dats m (ok m) 0 c).arrAt_eq_of_cover 8 _ (fun t _ => by
    show ((cfgM m (ok m)).win 8).cut (grid0.coords t) ((dats m (ok m) 0 c).after 8 t) = _
    rw [after0_8, outs_at, in0, in1, in2, in3, in4, in5]
    exact funext fun j => ((congrArg (res2 m c) (emb8 m t j)).trans (chips_at_176 _ _ _ t j)).symm)
    fun i => by
      obtain ⟨t, j, e⟩ := row_cover_176 i
      refine ⟨t, flush0_8 _ t, ?_⟩
      have h := (((cfgM m (ok m)).win 8).blk t).view.emb_mem_set j
      rw [emb8, e] at h; exact h

/-! ## The claims -/

theorem defs₀_eq {F : FTy → Type} [FloatOps F] : Cert.Kernel15.defs₀ (F := F) = Cert.Kernel15Ideal.defs₀ (F := F) := by
  unfold Cert.Kernel15.defs₀ Cert.Kernel15Ideal.defs₀
  refine congrArg Defs.onTc (funext fun l => ?_)
  match l with
  | ⟨0, _⟩ => exact funext fun ⟨t, s⟩ => rfl
theorem defs_eq {F : FTy → Type} [FloatOps F] : Cert.Kernel15.defs (F := F) = Cert.Kernel15Ideal.defs (F := F) := by
  unfold Cert.Kernel15.defs Cert.Kernel15Ideal.defs
  rw [defs₀_eq]
  rfl
set_option maxHeartbeats 4000000 in
theorem frame_kernel : Cert.quiescent_Kernel15 := fun m ρ _ => by
  rw [defs_eq]
  exact frame (F := Bits) m ρ trivial
theorem frame_ideal : Cert.quiescent_Kernel15Ideal := fun m ρ _ => frame (F := Ideal) m ρ trivial
theorem frame_reference : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)
theorem preserves : Cert.preserves_Kernel15_Kernel15Ideal := trivial

section Reference
open Cert.Reference15Ideal.Read

theorem table (x : IVec S1 32) (h : S1.ShapeCasts Cert.Reference15Ideal.S_) (i : Cert.Reference15Ideal.S_.Idx) :
    shapeCast Cert.Reference15Ideal.S_ x h i = x (ix1 0) :=
  congrArg x (funext fun a => by match a with | ⟨0, _⟩ => exact Subsingleton.elim (α := Fin 1) _ _)

theorem part0 (g : Vec Ideal S4x352x1024 .bf16) (w : Vec Ideal S352x1024 .bf16) (x : IVec S1 32) (s : Fin 4) (i : S352x1024.Idx) :
    val_main_v6 (F := Ideal) g w x (idx_main_v7 i s) = term (x (ix1 0)) (BitVec.ofNat 32 s.val) w (slab (A := 4) (B := 352) (C := 1024) g s) i := by
  rw [term_apply, val_main_v6_apply, val_main_v5_apply, val_main_call0_v0_apply, val_main_v4_apply, val_main_v3_apply, val_main_v2_apply, val_main_v1_apply, val_main_call0_v1_apply]
  refine congrArg (FloatOps.extf (F := Ideal) .f32 (by decide)) ?_
  refine congr (congrArg₂ Scalar.select (congrArg (fun y => IntOp.cmpi .eq y _) (table x _ _)) (congrArg w ?_)) (congrArg g ?_)
  · exact funext fun a => by match a with
      | ⟨0, _⟩ => rfl
      | ⟨1, _⟩ => rfl
  · exact funext fun a => by match a with
      | ⟨0, _⟩ => rfl
      | ⟨1, _⟩ => rfl
      | ⟨2, _⟩ => rfl

theorem ref0 (g : Vec Ideal S4x352x1024 .bf16) (w : Vec Ideal S352x1024 .bf16) (x : IVec S1 32) :
    val_main_v7 (F := Ideal) g w x = chips (B := 352) (C := 1024) (x (ix1 0)) w g := by
  funext i
  rw [val_main_v7_apply, Fin.sum_univ_four, part0, part0, part0, part0, val_main_cst_apply]
  exact (congrArg (· + _) Ideal.ofBits_zero_f32).trans (zero_add _)

theorem part1 (g : Vec Ideal S4x352x1024 .bf16) (w : Vec Ideal S352x1024 .bf16) (x : IVec S1 32) (s : Fin 4) (i : S352x1024.Idx) :
    val_main_v9 (F := Ideal) g w x (idx_main_v10 i s) = term (x (ix1 0)) (BitVec.ofNat 32 s.val) w (slab (A := 4) (B := 352) (C := 1024) g s) i := by
  rw [term_apply, val_main_v9_apply, val_main_v8_apply, val_main_call1_v0_apply, val_main_v4_apply, val_main_v3_apply, val_main_v2_apply, val_main_v1_apply, val_main_call1_v1_apply]
  refine congrArg (FloatOps.extf (F := Ideal) .f32 (by decide)) ?_
  refine congr (congrArg₂ Scalar.select (congrArg (fun y => IntOp.cmpi .eq y _) (table x _ _)) (congrArg w ?_)) (congrArg g ?_)
  · exact funext fun a => by match a with
      | ⟨0, _⟩ => rfl
      | ⟨1, _⟩ => rfl
  · exact funext fun a => by match a with
      | ⟨0, _⟩ => rfl
      | ⟨1, _⟩ => rfl
      | ⟨2, _⟩ => rfl

theorem ref1 (g : Vec Ideal S4x352x1024 .bf16) (w : Vec Ideal S352x1024 .bf16) (x : IVec S1 32) :
    val_main_v10 (F := Ideal) g w x = chips (B := 352) (C := 1024) (x (ix1 0)) w g := by
  funext i
  rw [val_main_v10_apply, Fin.sum_univ_four, part1, part1, part1, part1, val_main_cst_0_apply]
  exact (congrArg (· + _) Ideal.ofBits_zero_f32).trans (zero_add _)

theorem part2 (g : Vec Ideal S4x352x1024 .bf16) (w : Vec Ideal S352x1024 .bf16) (x : IVec S1 32) (s : Fin 4) (i : S352x1024.Idx) :
    val_main_v12 (F := Ideal) g w x (idx_main_v13 i s) = term (x (ix1 0)) (BitVec.ofNat 32 s.val) w (slab (A := 4) (B := 352) (C := 1024) g s) i := by
  rw [term_apply, val_main_v12_apply, val_main_v11_apply, val_main_call2_v0_apply, val_main_v4_apply, val_main_v3_apply, val_main_v2_apply, val_main_v1_apply, val_main_call2_v1_apply]
  refine congrArg (FloatOps.extf (F := Ideal) .f32 (by decide)) ?_
  refine congr (congrArg₂ Scalar.select (congrArg (fun y => IntOp.cmpi .eq y _) (table x _ _)) (congrArg w ?_)) (congrArg g ?_)
  · exact funext fun a => by match a with
      | ⟨0, _⟩ => rfl
      | ⟨1, _⟩ => rfl
  · exact funext fun a => by match a with
      | ⟨0, _⟩ => rfl
      | ⟨1, _⟩ => rfl
      | ⟨2, _⟩ => rfl

theorem ref2 (g : Vec Ideal S4x352x1024 .bf16) (w : Vec Ideal S352x1024 .bf16) (x : IVec S1 32) :
    val_main_v13 (F := Ideal) g w x = chips (B := 352) (C := 1024) (x (ix1 0)) w g := by
  funext i
  rw [val_main_v13_apply, Fin.sum_univ_four, part2, part2, part2, part2, val_main_cst_1_apply]
  exact (congrArg (· + _) Ideal.ofBits_zero_f32).trans (zero_add _)

theorem chip_eq (c : Dev nD) : chip m = (m ((c : Thread nD τ).loc main_arg6) : S1.Idx → BitVec 32) (ix1 0) := by
  obtain rfl : c = 0 := Subsingleton.elim _ _
  rfl

set_option maxHeartbeats 4000000 in
/-- Every sum the kernel leaves is the reference's. -/
theorem algebraic : Cert.algebraic_Kernel15Ideal_Reference15Ideal := fun m ρ m' ρ' _ hargs =>
  ⟨fun c => res0 m c, fun c => res1 m c, fun c => res2 m c,
    (θ_run Cert.Kernel15Ideal.defs _ _).mono (fun _ h c => ⟨((h.1 c).1 6).trans (arr0 m c), ((h.1 c).1 7).trans (arr1 m c), ((h.1 c).1 8).trans (arr2 m c), h.2 c⟩) (θ_run_and (run_main m ρ (ok m)) (unchanged m ρ (ok m))),
    (θ_run Cert.Reference15Ideal.defs _ _).mono (fun _ h c => by
      obtain ⟨a0, a1, a2, a3, a4, a5, a6⟩ := hargs c
      exact ⟨(h c).1.trans ((val_main_v7_eq ..).trans ((ref0 ..).trans (by unfold res0; rw [chip_eq m c, a0, a3, a6]))), (h c).2.1.trans ((val_main_v10_eq ..).trans ((ref1 ..).trans (by unfold res1; rw [chip_eq m c, a1, a4, a6]))), (h c).2.2.1.trans ((val_main_v13_eq ..).trans ((ref2 ..).trans (by unfold res2; rw [chip_eq m c, a2, a5, a6]))),
        (h c).2.2.2⟩) (Cert.Reference15Ideal.Value.run m' ρ')⟩
end Reference

end Cert.SumFfn
end
end
-- ==== Proof.SumIn.lean ====
module

public import proofs.«01_k».proof.Defs
public import proofs.«01_k».proof.Proof.Gen.Kernel16
public import proofs.«01_k».proof.Proof.Gen.Kernel16Ideal.Frame
public import proofs.«01_k».proof.Proof.Gen.Reference16Ideal.Run
public import proofs.«01_k».proof.Proof.Gen.Reference16Ideal.Read
public import Idealize.ShloMosaic.Lib.Quiescent
public import Idealize.ShloMosaic.Lib.Pipeline.Value
public import Idealize.ShloMosaic.Lib.Pipeline.ValueKit.Point
public import Idealize.ShloMosaic.Lib.VecWindow
public import Idealize.ShloMosaic.Lib.WholeRead
public import proofs.«01_k».proof.Proof.Chips

@[expose] public section

set_option maxRecDepth 16384

noncomputable section

namespace Cert.SumIn

open Cert.Kernel16Ideal Cert.Kernel16Ideal.Gen Idealize.ShloMosaic Idealize.ShloMosaic.TcCoe Idealize.SL.Sem
open Idealize.ShloMosaic.Pipeline (Dat)
open Cert.Chips

variable (m : (ℓ : Loc nD τ sig) → Buf (Elt Ideal) ℓ) (ρ : Dev nD → PrngReg)

/-! ## One grid point -/

theorem hz2 : (![0, 0] : Fin 2 → Nat) = fun _ => 0 := funext fun a => by fin_cases a <;> rfl

theorem ok : Ok m := trivial

/-- The chip's number, as the table holds it. -/
def chip : BitVec 32 := (tbl m 0 : S1.Idx → BitVec 32) (ix1 0)

theorem chip_read {c : Dev nD} (x : TbBuf0 (F := Ideal) c tbM0_0) (hp) :
    View.readAt (Elt Ideal) tbM0_0.view (Rect.unit ![0] S1.size inb_S1_S1_0).toLoadRect x (Shape.Idx.first hp) = (x : S1.Idx → BitVec 32) (ix1 0) :=
  congrArg (x : S1.Idx → BitVec 32) (funext fun a => by match a with | ⟨0, _⟩ => exact Subsingleton.elim (α := Fin 1) _ _)

theorem whole_64 {arg : Memref sig .tc .vmem S64x1024 .bf16} (hw : arg.IsWhole) (X : Vec Ideal S64x1024 .bf16) :
    View.readAt (Elt Ideal) arg.view (Rect.unit ![0, 0] S64x1024.size inb_S64x1024_S64x1024_0_0).toLoadRect (hw.unread X) = X :=
  (funext fun x => Memref.IsWhole.readAt_unread hw X _ x).trans (View.ld_unit_zero (S := S64x1024) hz2 _ X)

theorem slab_64 {arg : Memref sig .tc .vmem S4x64x1024 .bf16} (hw : arg.IsWhole) (X : Vec Ideal S4x64x1024 .bf16) (q : ℕ) (s : Fin 4) (hs : s.val = q) (inb) (h) :
    shapeCast S64x1024 (View.readAt (Elt Ideal) arg.view (Rect.unit (s := S4x64x1024) ![q, 0, 0] S1x64x1024.size inb).toLoadRect (hw.unread X)) h = slab (A := 4) (B := 64) (C := 1024) X s :=
  cast_slab (A := 4) (B := 64) (C := 1024) X s _ (fun j k => (Memref.IsWhole.readAt_unread hw X _ _).trans (Slabs.ld_slab q inb X j k s hs)) h

theorem whole_144 {arg : Memref sig .tc .vmem S144x1024 .bf16} (hw : arg.IsWhole) (X : Vec Ideal S144x1024 .bf16) :
    View.readAt (Elt Ideal) arg.view (Rect.unit ![0, 0] S144x1024.size inb_S144x1024_S144x1024_0_0).toLoadRect (hw.unread X) = X :=
  (funext fun x => Memref.IsWhole.readAt_unread hw X _ x).trans (View.ld_unit_zero (S := S144x1024) hz2 _ X)

theorem slab_144 {arg : Memref sig .tc .vmem S4x144x1024 .bf16} (hw : arg.IsWhole) (X : Vec Ideal S4x144x1024 .bf16) (q : ℕ) (s : Fin 4) (hs : s.val = q) (inb) (h) :
    shapeCast S144x1024 (View.readAt (Elt Ideal) arg.view (Rect.unit (s := S4x144x1024) ![q, 0, 0] S1x144x1024.size inb).toLoadRect (hw.unread X)) h = slab (A := 4) (B := 144) (C := 1024) X s :=
  cast_slab (A := 4) (B := 144) (C := 1024) X s _ (fun j k => (Memref.IsWhole.readAt_unread hw X _ _).trans (Slabs.ld_slab q inb X j k s hs)) h

set_option maxHeartbeats 2000000 in
theorem pay_0 (c i arg2 harg2 arg3 harg3 arg4 harg4 arg5 harg5 arg6 harg6 arg7 harg7 x0 x1 x2 x3 xt0) :
    out0_A_4 (F := Ideal) c i arg2 harg2 arg3 harg3 arg4 harg4 arg5 harg5 arg6 harg6 arg7 harg7 x0 x1 x2 x3 xt0 = chips (B := 144) (C := 1024) ((xt0 : S1.Idx → BitVec 32) (ix1 0)) x2 x0 := by
  unfold out0_A_4
  refine (View.read_writes_full VO0_4 _ inb_S144x1024_S144x1024_0_0 _ []).trans ?_
  unfold kernelRun0_A.sl.r_1 kernelRun0_A.sl.r k0_pay2
  dsimp only
  rw [chip_read, whole_144, slab_144 _ _ 0 0 rfl, slab_144 _ _ 1 1 rfl, slab_144 _ _ 2 2 rfl, slab_144 _ _ 3 3 rfl]
  rfl

set_option maxHeartbeats 2000000 in
theorem pay_1 (c i arg2 harg2 arg3 harg3 arg4 harg4 arg5 harg5 arg6 harg6 arg7 harg7 x0 x1 x2 x3 xt0) :
    out0_A_5 (F := Ideal) c i arg2 harg2 arg3 harg3 arg4 harg4 arg5 harg5 arg6 harg6 arg7 harg7 x0 x1 x2 x3 xt0 = chips (B := 64) (C := 1024) ((xt0 : S1.Idx → BitVec 32) (ix1 0)) x3 x1 := by
  unfold out0_A_5
  refine (View.read_writes_full VO0_5 _ inb_S64x1024_S64x1024_0_0 _ []).trans ?_
  unfold kernelRun0_A.sl.r_2 kernelRun0_A.sl.v56 kernelRun0_A.sl.r_3 kernelRun0_A.sl.r_4
  unfold kernelRun0_A.sl.r
  unfold k0_pay1 k0_pay3 k0_pay4
  dsimp only
  rw [chip_read, whole_64, slab_64 _ _ 0 0 rfl, slab_64 _ _ 1 1 rfl, slab_64 _ _ 2 2 rfl, slab_64 _ _ 3 3 rfl]
  rfl

theorem pays (c i arg2 harg2 arg3 harg3 arg4 harg4 arg5 harg5 arg6 harg6 arg7 harg7 x0 x1 x2 x3 xt0) :
    (out0_A_4 (F := Ideal) c i arg2 harg2 arg3 harg3 arg4 harg4 arg5 harg5 arg6 harg6 arg7 harg7 x0 x1 x2 x3 xt0, out0_A_5 (F := Ideal) c i arg2 harg2 arg3 harg3 arg4 harg4 arg5 harg5 arg6 harg6 arg7 harg7 x0 x1 x2 x3 xt0) = (chips (B := 144) (C := 1024) ((xt0 : S1.Idx → BitVec 32) (ix1 0)) x2 x0, chips (B := 64) (C := 1024) ((xt0 : S1.Idx → BitVec 32) (ix1 0)) x3 x1) := by
  rw [pay_0, pay_1]

theorem outs_at (c : Dev nD) (t : Fin (cfgM m (ok m)).N) :
    outsAt0 m (ok m) c t = (chips (B := 144) (C := 1024) (chip m) (iblk m (ok m) c 2 t : Vec Ideal S144x1024 .bf16) (iblk m (ok m) c 0 t : Vec Ideal S4x144x1024 .bf16), chips (B := 64) (C := 1024) (chip m) (iblk m (ok m) c 3 t : Vec Ideal S64x1024 .bf16) (iblk m (ok m) c 1 t : Vec Ideal S4x64x1024 .bf16)) := by
  unfold outsAt0 chip
  exact pays ..

/-! ## The blocks, in the arrays -/

def rowIx_64 (t : Fin grid0.N) (j : S64x1024.Idx) : S128x1024.Idx :=
  ix2 ⟨64 * t.val + (j 0).val, by have h1 : t.val < 2 := N_0 ▸ t.isLt; have h2 : (j 0).val < 64 := (j 0).isLt; omega⟩ (j 1)

def slabIx_64 (t : Fin grid0.N) (j : S4x64x1024.Idx) : S4x128x1024.Idx :=
  ix3 (j 0) ⟨64 * t.val + (j 1).val, by have h1 : t.val < 2 := N_0 ▸ t.isLt; have h2 : (j 1).val < 64 := (j 1).isLt; omega⟩ (j 2)

theorem row_cover_64 (i : S128x1024.Idx) : ∃ (t : Fin grid0.N) (j : S64x1024.Idx), rowIx_64 t j = i := by
  have hi : (i 0).val < 128 := (i 0).isLt
  refine ⟨⟨(i 0).val / 64, by rw [N_0]; omega⟩, ix2 ⟨(i 0).val % 64, Nat.mod_lt _ (by decide)⟩ (i 1), ?_⟩
  funext x; apply Fin.ext
  match x with
  | ⟨0, _⟩ => show 64 * ((i 0).val / 64) + (i 0).val % 64 = (i 0).val; omega
  | ⟨1, _⟩ => rfl

/-- The chips' sum at a block's index is the block's own sum. -/
theorem chips_at_64 (d : BitVec 32) (own : Vec Ideal S128x1024 .bf16) (got : Vec Ideal S4x128x1024 .bf16) (t : Fin grid0.N) (j : S64x1024.Idx) :
    chips (B := 128) (C := 1024) d own got (rowIx_64 t j) = chips (B := 64) (C := 1024) d (fun i : S64x1024.Idx => own (rowIx_64 t i)) (fun i : S4x64x1024.Idx => got (slabIx_64 t i)) j :=
  sum4_at (S := S128x1024) (T := S64x1024) (rowIx_64 t) d own _ _ _ _ j

def rowIx_144 (t : Fin grid0.N) (j : S144x1024.Idx) : S288x1024.Idx :=
  ix2 ⟨144 * t.val + (j 0).val, by have h1 : t.val < 2 := N_0 ▸ t.isLt; have h2 : (j 0).val < 144 := (j 0).isLt; omega⟩ (j 1)

def slabIx_144 (t : Fin grid0.N) (j : S4x144x1024.Idx) : S4x288x1024.Idx :=
  ix3 (j 0) ⟨144 * t.val + (j 1).val, by have h1 : t.val < 2 := N_0 ▸ t.isLt; have h2 : (j 1).val < 144 := (j 1).isLt; omega⟩ (j 2)

theorem row_cover_144 (i : S288x1024.Idx) : ∃ (t : Fin grid0.N) (j : S144x1024.Idx), rowIx_144 t j = i := by
  have hi : (i 0).val < 288 := (i 0).isLt
  refine ⟨⟨(i 0).val / 144, by rw [N_0]; omega⟩, ix2 ⟨(i 0).val % 144, Nat.mod_lt _ (by decide)⟩ (i 1), ?_⟩
  funext x; apply Fin.ext
  match x with
  | ⟨0, _⟩ => show 144 * ((i 0).val / 144) + (i 0).val % 144 = (i 0).val; omega
  | ⟨1, _⟩ => rfl

/-- The chips' sum at a block's index is the block's own sum. -/
theorem chips_at_144 (d : BitVec 32) (own : Vec Ideal S288x1024 .bf16) (got : Vec Ideal S4x288x1024 .bf16) (t : Fin grid0.N) (j : S144x1024.Idx) :
    chips (B := 288) (C := 1024) d own got (rowIx_144 t j) = chips (B := 144) (C := 1024) d (fun i : S144x1024.Idx => own (rowIx_144 t i)) (fun i : S4x144x1024.Idx => got (slabIx_144 t i)) j :=
  sum4_at (S := S288x1024) (T := S144x1024) (rowIx_144 t) d own _ _ _ _ j

theorem row_at (t : Fin grid0.N) : cc0_transform_0 (grid0.coords t) (0 : Fin 3) = 0 ∧ cc0_transform_0 (grid0.coords t) (1 : Fin 3) = t.val ∧ cc0_transform_0 (grid0.coords t) (2 : Fin 3) = 0 ∧ cc0_transform_1 (grid0.coords t) (0 : Fin 3) = 0 ∧ cc0_transform_1 (grid0.coords t) (1 : Fin 3) = t.val ∧ cc0_transform_1 (grid0.coords t) (2 : Fin 3) = 0 ∧ cc0_transform_2 (grid0.coords t) (0 : Fin 2) = t.val ∧ cc0_transform_2 (grid0.coords t) (1 : Fin 2) = 0 ∧ cc0_transform_3 (grid0.coords t) (0 : Fin 2) = t.val ∧ cc0_transform_3 (grid0.coords t) (1 : Fin 2) = 0 ∧ cc0_transform_4 (grid0.coords t) (0 : Fin 2) = t.val ∧ cc0_transform_4 (grid0.coords t) (1 : Fin 2) = 0 ∧ cc0_transform_5 (grid0.coords t) (0 : Fin 2) = t.val ∧ cc0_transform_5 (grid0.coords t) (1 : Fin 2) = 0 := by
  rcases fin_N0 t with h | h <;> subst h <;> decide

theorem emb0 (t : Fin grid0.N) (j : S4x144x1024.Idx) : (((cfgM m (ok m)).win 0).blk t).view.emb j = slabIx_144 t j := by
  obtain ⟨e0, e1, e2, e3, e4, e5, e6, e7, e8, e9, e10, e11, e12, e13⟩ := row_at t
  funext a; apply Fin.ext
  match a with
  | ⟨0, _⟩ => show cc0_transform_0 (grid0.coords t) (0 : Fin 3) * 4 + 1 * (j 0).val = (j 0).val; omega
  | ⟨1, _⟩ => show cc0_transform_0 (grid0.coords t) (1 : Fin 3) * 144 + 1 * (j 1).val = 144 * t.val + (j 1).val; omega
  | ⟨2, _⟩ => show cc0_transform_0 (grid0.coords t) (2 : Fin 3) * 1024 + 1 * (j 2).val = (j 2).val; omega
theorem in0 (c : Dev nD) (t : Fin grid0.N) : (iblk m (ok m) c 0 t : Vec Ideal S4x144x1024 .bf16) = fun j => (m ((c : Thread nD τ).loc main_arg0) : Vec Ideal S4x288x1024 .bf16) (slabIx_144 t j) :=
  funext fun j => congrArg (V m c main_arg0 : S4x288x1024.Idx → _) (emb0 m t j)

theorem emb1 (t : Fin grid0.N) (j : S4x64x1024.Idx) : (((cfgM m (ok m)).win 1).blk t).view.emb j = slabIx_64 t j := by
  obtain ⟨e0, e1, e2, e3, e4, e5, e6, e7, e8, e9, e10, e11, e12, e13⟩ := row_at t
  funext a; apply Fin.ext
  match a with
  | ⟨0, _⟩ => show cc0_transform_1 (grid0.coords t) (0 : Fin 3) * 4 + 1 * (j 0).val = (j 0).val; omega
  | ⟨1, _⟩ => show cc0_transform_1 (grid0.coords t) (1 : Fin 3) * 64 + 1 * (j 1).val = 64 * t.val + (j 1).val; omega
  | ⟨2, _⟩ => show cc0_transform_1 (grid0.coords t) (2 : Fin 3) * 1024 + 1 * (j 2).val = (j 2).val; omega
theorem in1 (c : Dev nD) (t : Fin grid0.N) : (iblk m (ok m) c 1 t : Vec Ideal S4x64x1024 .bf16) = fun j => (m ((c : Thread nD τ).loc main_arg1) : Vec Ideal S4x128x1024 .bf16) (slabIx_64 t j) :=
  funext fun j => congrArg (V m c main_arg1 : S4x128x1024.Idx → _) (emb1 m t j)

theorem emb2 (t : Fin grid0.N) (j : S144x1024.Idx) : (((cfgM m (ok m)).win 2).blk t).view.emb j = rowIx_144 t j := by
  obtain ⟨e0, e1, e2, e3, e4, e5, e6, e7, e8, e9, e10, e11, e12, e13⟩ := row_at t
  funext a; apply Fin.ext
  match a with
  | ⟨0, _⟩ => show cc0_transform_2 (grid0.coords t) (0 : Fin 2) * 144 + 1 * (j 0).val = 144 * t.val + (j 0).val; omega
  | ⟨1, _⟩ => show cc0_transform_2 (grid0.coords t) (1 : Fin 2) * 1024 + 1 * (j 1).val = (j 1).val; omega

theorem in2 (c : Dev nD) (t : Fin grid0.N) : (iblk m (ok m) c 2 t : Vec Ideal S144x1024 .bf16) = fun j => (m ((c : Thread nD τ).loc main_arg2) : Vec Ideal S288x1024 .bf16) (rowIx_144 t j) :=
  funext fun j => congrArg (V m c main_arg2 : S288x1024.Idx → _) (emb2 m t j)

theorem emb3 (t : Fin grid0.N) (j : S64x1024.Idx) : (((cfgM m (ok m)).win 3).blk t).view.emb j = rowIx_64 t j := by
  obtain ⟨e0, e1, e2, e3, e4, e5, e6, e7, e8, e9, e10, e11, e12, e13⟩ := row_at t
  funext a; apply Fin.ext
  match a with
  | ⟨0, _⟩ => show cc0_transform_3 (grid0.coords t) (0 : Fin 2) * 64 + 1 * (j 0).val = 64 * t.val + (j 0).val; omega
  | ⟨1, _⟩ => show cc0_transform_3 (grid0.coords t) (1 : Fin 2) * 1024 + 1 * (j 1).val = (j 1).val; omega

theorem in3 (c : Dev nD) (t : Fin grid0.N) : (iblk m (ok m) c 3 t : Vec Ideal S64x1024 .bf16) = fun j => (m ((c : Thread nD τ).loc main_arg3) : Vec Ideal S128x1024 .bf16) (rowIx_64 t j) :=
  funext fun j => congrArg (V m c main_arg3 : S128x1024.Idx → _) (emb3 m t j)

theorem emb4 (t : Fin grid0.N) (j : S144x1024.Idx) : (((cfgM m (ok m)).win 4).blk t).view.emb j = rowIx_144 t j :=
  emb2 m t j

theorem emb5 (t : Fin grid0.N) (j : S64x1024.Idx) : (((cfgM m (ok m)).win 5).blk t).view.emb j = rowIx_64 t j :=
  emb3 m t j

/-- Result 0 at device `c`. -/
def res0 (c : Dev nD) : Vec Ideal S288x1024 .f32 := chips (B := 288) (C := 1024) (chip m) (m ((c : Thread nD τ).loc main_arg2)) (m ((c : Thread nD τ).loc main_arg0))

set_option maxHeartbeats 1000000 in
theorem arr0 (c : Dev nD) : (dats m (ok m) 0 c).arrAt 4 (cfgM m (ok m)).N = res0 m c :=
  (dats m (ok m) 0 c).arrAt_eq_of_cover 4 _ (fun t _ => by
    show ((cfgM m (ok m)).win 4).cut (grid0.coords t) ((dats m (ok m) 0 c).after 4 t) = _
    rw [after0_4, outs_at, in0, in1, in2, in3]
    exact funext fun j => ((congrArg (res0 m c) (emb4 m t j)).trans (chips_at_144 _ _ _ t j)).symm)
    fun i => by
      obtain ⟨t, j, e⟩ := row_cover_144 i
      refine ⟨t, flush0_4 _ t, ?_⟩
      have h := (((cfgM m (ok m)).win 4).blk t).view.emb_mem_set j
      rw [emb4, e] at h; exact h

/-- Result 1 at device `c`. -/
def res1 (c : Dev nD) : Vec Ideal S128x1024 .f32 := chips (B := 128) (C := 1024) (chip m) (m ((c : Thread nD τ).loc main_arg3)) (m ((c : Thread nD τ).loc main_arg1))

set_option maxHeartbeats 1000000 in
theorem arr1 (c : Dev nD) : (dats m (ok m) 0 c).arrAt 5 (cfgM m (ok m)).N = res1 m c :=
  (dats m (ok m) 0 c).arrAt_eq_of_cover 5 _ (fun t _ => by
    show ((cfgM m (ok m)).win 5).cut (grid0.coords t) ((dats m (ok m) 0 c).after 5 t) = _
    rw [after0_5, outs_at, in0, in1, in2, in3]
    exact funext fun j => ((congrArg (res1 m c) (emb5 m t j)).trans (chips_at_64 _ _ _ t j)).symm)
    fun i => by
      obtain ⟨t, j, e⟩ := row_cover_64 i
      refine ⟨t, flush0_5 _ t, ?_⟩
      have h := (((cfgM m (ok m)).win 5).blk t).view.emb_mem_set j
      rw [emb5, e] at h; exact h

/-! ## The claims -/

theorem defs₀_eq {F : FTy → Type} [FloatOps F] : Cert.Kernel16.defs₀ (F := F) = Cert.Kernel16Ideal.defs₀ (F := F) := by
  unfold Cert.Kernel16.defs₀ Cert.Kernel16Ideal.defs₀
  refine congrArg Defs.onTc (funext fun l => ?_)
  match l with
  | ⟨0, _⟩ => exact funext fun ⟨t, s⟩ => rfl
theorem defs_eq {F : FTy → Type} [FloatOps F] : Cert.Kernel16.defs (F := F) = Cert.Kernel16Ideal.defs (F := F) := by
  unfold Cert.Kernel16.defs Cert.Kernel16Ideal.defs
  rw [defs₀_eq]
  rfl
set_option maxHeartbeats 4000000 in
theorem frame_kernel : Cert.quiescent_Kernel16 := fun m ρ _ => by
  rw [defs_eq]
  exact frame (F := Bits) m ρ trivial
theorem frame_ideal : Cert.quiescent_Kernel16Ideal := fun m ρ _ => frame (F := Ideal) m ρ trivial
theorem frame_reference : Cert.quiescent_Reference16Ideal := fun m ρ _ =>
  (θ_run Cert.Reference16Ideal.defs _ _).mono (fun r h => ⟨fun c => (h c).2.2, sem_eq_zero_of_no_sems (by decide) r.2⟩)
    (Cert.Reference16Ideal.Value.run (F := Ideal) m ρ)
theorem preserves : Cert.preserves_Kernel16_Kernel16Ideal := trivial

section Reference
open Cert.Reference16Ideal.Read

theorem table (x : IVec S1 32) (h : S1.ShapeCasts Cert.Reference16Ideal.S_) (i : Cert.Reference16Ideal.S_.Idx) :
    shapeCast Cert.Reference16Ideal.S_ x h i = x (ix1 0) :=
  congrArg x (funext fun a => by match a with | ⟨0, _⟩ => exact Subsingleton.elim (α := Fin 1) _ _)

theorem part0 (g : Vec Ideal S4x288x1024 .bf16) (w : Vec Ideal S288x1024 .bf16) (x : IVec S1 32) (s : Fin 4) (i : S288x1024.Idx) :
    val_main_v6 (F := Ideal) g w x (idx_main_v7 i s) = term (x (ix1 0)) (BitVec.ofNat 32 s.val) w (slab (A := 4) (B := 288) (C := 1024) g s) i := by
  rw [term_apply, val_main_v6_apply, val_main_v5_apply, val_main_call0_v0_apply, val_main_v4_apply, val_main_v3_apply, val_main_v2_apply, val_main_v1_apply, val_main_call0_v1_apply]
  refine congrArg (FloatOps.extf (F := Ideal) .f32 (by decide)) ?_
  refine congr (congrArg₂ Scalar.select (congrArg (fun y => IntOp.cmpi .eq y _) (table x _ _)) (congrArg w ?_)) (congrArg g ?_)
  · exact funext fun a => by match a with
      | ⟨0, _⟩ => rfl
      | ⟨1, _⟩ => rfl
  · exact funext fun a => by match a with
      | ⟨0, _⟩ => rfl
      | ⟨1, _⟩ => rfl
      | ⟨2, _⟩ => rfl

theorem ref0 (g : Vec Ideal S4x288x1024 .bf16) (w : Vec Ideal S288x1024 .bf16) (x : IVec S1 32) :
    val_main_v7 (F := Ideal) g w x = chips (B := 288) (C := 1024) (x (ix1 0)) w g := by
  funext i
  rw [val_main_v7_apply, Fin.sum_univ_four, part0, part0, part0, part0, val_main_cst_apply]
  exact (congrArg (· + _) Ideal.ofBits_zero_f32).trans (zero_add _)

theorem part1 (g : Vec Ideal S4x128x1024 .bf16) (w : Vec Ideal S128x1024 .bf16) (x : IVec S1 32) (s : Fin 4) (i : S128x1024.Idx) :
    val_main_v9 (F := Ideal) g w x (idx_main_v10 i s) = term (x (ix1 0)) (BitVec.ofNat 32 s.val) w (slab (A := 4) (B := 128) (C := 1024) g s) i := by
  rw [term_apply, val_main_v9_apply, val_main_v8_apply, val_main_call1_v0_apply, val_main_v4_apply, val_main_v3_apply, val_main_v2_apply, val_main_v1_apply, val_main_call1_v1_apply]
  refine congrArg (FloatOps.extf (F := Ideal) .f32 (by decide)) ?_
  refine congr (congrArg₂ Scalar.select (congrArg (fun y => IntOp.cmpi .eq y _) (table x _ _)) (congrArg w ?_)) (congrArg g ?_)
  · exact funext fun a => by match a with
      | ⟨0, _⟩ => rfl
      | ⟨1, _⟩ => rfl
  · exact funext fun a => by match a with
      | ⟨0, _⟩ => rfl
      | ⟨1, _⟩ => rfl
      | ⟨2, _⟩ => rfl

theorem ref1 (g : Vec Ideal S4x128x1024 .bf16) (w : Vec Ideal S128x1024 .bf16) (x : IVec S1 32) :
    val_main_v10 (F := Ideal) g w x = chips (B := 128) (C := 1024) (x (ix1 0)) w g := by
  funext i
  rw [val_main_v10_apply, Fin.sum_univ_four, part1, part1, part1, part1, val_main_cst_0_apply]
  exact (congrArg (· + _) Ideal.ofBits_zero_f32).trans (zero_add _)

theorem chip_eq (c : Dev nD) : chip m = (m ((c : Thread nD τ).loc main_arg4) : S1.Idx → BitVec 32) (ix1 0) := by
  obtain rfl : c = 0 := Subsingleton.elim _ _
  rfl

set_option maxHeartbeats 4000000 in
/-- Every sum the kernel leaves is the reference's. -/
theorem algebraic : Cert.algebraic_Kernel16Ideal_Reference16Ideal := fun m ρ m' ρ' _ hargs =>
  ⟨fun c => res0 m c, fun c => res1 m c,
    (θ_run Cert.Kernel16Ideal.defs _ _).mono (fun _ h c => ⟨((h.1 c).1 4).trans (arr0 m c), ((h.1 c).1 5).trans (arr1 m c), h.2 c⟩) (θ_run_and (run_main m ρ (ok m)) (unchanged m ρ (ok m))),
    (θ_run Cert.Reference16Ideal.defs _ _).mono (fun _ h c => by
      obtain ⟨a0, a1, a2, a3, a4⟩ := hargs c
      exact ⟨(h c).1.trans ((val_main_v7_eq ..).trans ((ref0 ..).trans (by unfold res0; rw [chip_eq m c, a0, a2, a4]))), (h c).2.1.trans ((val_main_v10_eq ..).trans ((ref1 ..).trans (by unfold res1; rw [chip_eq m c, a1, a3, a4]))),
        (h c).2.2⟩) (Cert.Reference16Ideal.Value.run m' ρ')⟩
end Reference

end Cert.SumIn
end
end
-- ==== Proof.lean ====
/- The proof of the certificate's claims: each pair of programs has its own module under Proof/, and this one puts their theorems
   together. -/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Kernel15
public import proofs.«01_k».proof.Proof.Gen.Kernel15Ideal
public import proofs.«01_k».proof.Proof.Gen.Reference15Ideal
public import proofs.«01_k».proof.Proof.Gen.Kernel16
public import proofs.«01_k».proof.Proof.Gen.Kernel16Ideal
public import proofs.«01_k».proof.Proof.Gen.Reference16Ideal
public import proofs.«01_k».proof.Proof.Gen.Pre_finite
public import proofs.«01_k».proof.Proof.FfnBwd
public import proofs.«01_k».proof.Proof.WgradGate
public import proofs.«01_k».proof.Proof.WgradDown
public import proofs.«01_k».proof.Proof.FfnFwd
public import proofs.«01_k».proof.Proof.FfnLoss
public import proofs.«01_k».proof.Proof.InprojBwd
public import proofs.«01_k».proof.Proof.WgradIn
public import proofs.«01_k».proof.Proof.AdamSmall
public import proofs.«01_k».proof.Proof.AdamGate
public import proofs.«01_k».proof.Proof.AdamDown
public import proofs.«01_k».proof.Proof.AdamIn
public import proofs.«01_k».proof.Proof.AdamO
public import proofs.«01_k».proof.Proof.SumFfn
public import proofs.«01_k».proof.Proof.SumIn

@[expose] public section

noncomputable section

namespace Cert.Proof

theorem claim : Cert.Claim := ⟨Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Pre_finite.Gen.facts,
  Cert.FfnBwd.frame_kernel,
  Cert.FfnBwd.frame_ideal,
  Cert.FfnBwd.frame_ideal_pre,
  Cert.FfnBwd.frame_reference,
  Cert.FfnBwd.frame_reference_pre,
  Cert.WgradGate.frame_kernel,
  Cert.WgradGate.frame_ideal,
  Cert.WgradGate.frame_reference,
  Cert.WgradDown.frame_kernel,
  Cert.WgradDown.frame_ideal,
  Cert.WgradDown.frame_reference,
  Cert.FfnFwd.frame_kernel,
  Cert.FfnFwd.frame_ideal,
  Cert.FfnFwd.frame_reference,
  Cert.FfnLoss.frame_kernel,
  Cert.FfnLoss.frame_ideal,
  Cert.FfnLoss.frame_reference,
  Cert.InprojBwd.frame_kernel,
  Cert.InprojBwd.frame_ideal,
  Cert.InprojBwd.frame_reference,
  Cert.WgradIn.frame_kernel,
  Cert.WgradIn.frame_ideal,
  Cert.WgradIn.frame_reference,
  Cert.AdamSmall.frame_kernel,
  Cert.AdamSmall.frame_ideal,
  Cert.AdamSmall.frame_reference,
  Cert.AdamGate.frame_kernel,
  Cert.AdamGate.frame_ideal,
  Cert.AdamGate.frame_reference,
  Cert.AdamDown.frame_kernel,
  Cert.AdamDown.frame_ideal,
  Cert.AdamDown.frame_reference,
  Cert.AdamIn.frame_kernel,
  Cert.AdamIn.frame_ideal,
  Cert.AdamIn.frame_reference,
  Cert.AdamO.frame_kernel,
  Cert.AdamO.frame_ideal,
  Cert.AdamO.frame_reference,
  Cert.SumFfn.frame_kernel,
  Cert.SumFfn.frame_ideal,
  Cert.SumFfn.frame_reference,
  Cert.SumIn.frame_kernel,
  Cert.SumIn.frame_ideal,
  Cert.SumIn.frame_reference,
  Cert.FfnBwd.preserves,
  Cert.FfnBwd.algebraic,
  Cert.WgradGate.preserves,
  Cert.WgradGate.algebraic,
  Cert.WgradDown.preserves,
  Cert.WgradDown.algebraic,
  Cert.FfnFwd.preserves,
  Cert.FfnFwd.algebraic,
  Cert.FfnLoss.preserves,
  Cert.FfnLoss.algebraic,
  Cert.InprojBwd.preserves,
  Cert.InprojBwd.algebraic,
  Cert.WgradIn.preserves,
  Cert.WgradIn.algebraic,
  Cert.AdamSmall.preserves,
  Cert.AdamSmall.algebraic,
  Cert.AdamGate.preserves,
  Cert.AdamGate.algebraic,
  Cert.AdamDown.preserves,
  Cert.AdamDown.algebraic,
  Cert.AdamIn.preserves,
  Cert.AdamIn.algebraic,
  Cert.AdamO.preserves,
  Cert.AdamO.algebraic,
  Cert.SumFfn.preserves,
  Cert.SumFfn.algebraic,
  Cert.SumIn.preserves,
  Cert.SumIn.algebraic⟩

end Cert.Proof

end

end
